-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_GateDx0 (m : (ℓ : Loc Cert.GateDx0.nD Cert.GateDx0.τ Cert.GateDx0.sig) → Buf (Elt Bits) ℓ) : Prop :=
  True

def Pre_GateDx0Ideal (m : (ℓ : Loc Cert.GateDx0Ideal.nD Cert.GateDx0Ideal.τ Cert.GateDx0Ideal.sig) → Buf (Elt Ideal) ℓ) : Prop :=
  True

def Pre_GateDx0RefIdeal (m : (ℓ : Loc Cert.GateDx0RefIdeal.nD Cert.GateDx0RefIdeal.τ Cert.GateDx0RefIdeal.sig) → Buf (Elt Ideal) ℓ) : Prop :=
  True

def Pre_GateDx1 (m : (ℓ : Loc Cert.GateDx1.nD Cert.GateDx1.τ Cert.GateDx1.sig) → Buf (Elt Bits) ℓ) : Prop :=
  True

def Pre_GateDx1Ideal (m : (ℓ : Loc Cert.GateDx1Ideal.nD Cert.GateDx1Ideal.τ Cert.GateDx1Ideal.sig) → Buf (Elt Ideal) ℓ) : Prop :=
  True

def Pre_GateDx1RefIdeal (m : (ℓ : Loc Cert.GateDx1RefIdeal.nD Cert.GateDx1RefIdeal.τ Cert.GateDx1RefIdeal.sig) → Buf (Elt Ideal) ℓ) : Prop :=
  True

def Pre_GateDx2 (m : (ℓ : Loc Cert.GateDx2.nD Cert.GateDx2.τ Cert.GateDx2.sig) → Buf (Elt Bits) ℓ) : Prop :=
  True

def Pre_GateDx2Ideal (m : (ℓ : Loc Cert.GateDx2Ideal.nD Cert.GateDx2Ideal.τ Cert.GateDx2Ideal.sig) → Buf (Elt Ideal) ℓ) : Prop :=
  True

def Pre_GateDx2RefIdeal (m : (ℓ : Loc Cert.GateDx2RefIdeal.nD Cert.GateDx2RefIdeal.τ Cert.GateDx2RefIdeal.sig) → Buf (Elt Ideal) ℓ) : Prop :=
  True

def Pre_GateDx3 (m : (ℓ : Loc Cert.GateDx3.nD Cert.GateDx3.τ Cert.GateDx3.sig) → Buf (Elt Bits) ℓ) : Prop :=
  True

def Pre_GateDx3Ideal (m : (ℓ : Loc Cert.GateDx3Ideal.nD Cert.GateDx3Ideal.τ Cert.GateDx3Ideal.sig) → Buf (Elt Ideal) ℓ) : Prop :=
  True

def Pre_GateDx3RefIdeal (m : (ℓ : Loc Cert.GateDx3RefIdeal.nD Cert.GateDx3RefIdeal.τ Cert.GateDx3RefIdeal.sig) → Buf (Elt Ideal) ℓ) : Prop :=
  True

def Pre_GateDw0 (m : (ℓ : Loc Cert.GateDw0.nD Cert.GateDw0.τ Cert.GateDw0.sig) → Buf (Elt Bits) ℓ) : Prop :=
  True

def Pre_GateDw0Ideal (m : (ℓ : Loc Cert.GateDw0Ideal.nD Cert.GateDw0Ideal.τ Cert.GateDw0Ideal.sig) → Buf (Elt Ideal) ℓ) : Prop :=
  True

def Pre_GateDw0RefIdeal (m : (ℓ : Loc Cert.GateDw0RefIdeal.nD Cert.GateDw0RefIdeal.τ Cert.GateDw0RefIdeal.sig) → Buf (Elt Ideal) ℓ) : Prop :=
  True

def Pre_GateDw1 (m : (ℓ : Loc Cert.GateDw1.nD Cert.GateDw1.τ Cert.GateDw1.sig) → Buf (Elt Bits) ℓ) : Prop :=
  True

def Pre_GateDw1Ideal (m : (ℓ : Loc Cert.GateDw1Ideal.nD Cert.GateDw1Ideal.τ Cert.GateDw1Ideal.sig) → Buf (Elt Ideal) ℓ) : Prop :=
  True

def Pre_GateDw1RefIdeal (m : (ℓ : Loc Cert.GateDw1RefIdeal.nD Cert.GateDw1RefIdeal.τ Cert.GateDw1RefIdeal.sig) → Buf (Elt Ideal) ℓ) : Prop :=
  True

def Pre_GateDw2 (m : (ℓ : Loc Cert.GateDw2.nD Cert.GateDw2.τ Cert.GateDw2.sig) → Buf (Elt Bits) ℓ) : Prop :=
  True

def Pre_GateDw2Ideal (m : (ℓ : Loc Cert.GateDw2Ideal.nD Cert.GateDw2Ideal.τ Cert.GateDw2Ideal.sig) → Buf (Elt Ideal) ℓ) : Prop :=
  True

def Pre_GateDw2RefIdeal (m : (ℓ : Loc Cert.GateDw2RefIdeal.nD Cert.GateDw2RefIdeal.τ Cert.GateDw2RefIdeal.sig) → Buf (Elt Ideal) ℓ) : Prop :=
  True

def Pre_GateDw3 (m : (ℓ : Loc Cert.GateDw3.nD Cert.GateDw3.τ Cert.GateDw3.sig) → Buf (Elt Bits) ℓ) : Prop :=
  True

def Pre_GateDw3Ideal (m : (ℓ : Loc Cert.GateDw3Ideal.nD Cert.GateDw3Ideal.τ Cert.GateDw3Ideal.sig) → Buf (Elt Ideal) ℓ) : Prop :=
  True

def Pre_GateDw3RefIdeal (m : (ℓ : Loc Cert.GateDw3RefIdeal.nD Cert.GateDw3RefIdeal.τ Cert.GateDw3RefIdeal.sig) → Buf (Elt Ideal) ℓ) : Prop :=
  True

def Pre_BranchDx0 (m : (ℓ : Loc Cert.BranchDx0.nD Cert.BranchDx0.τ Cert.BranchDx0.sig) → Buf (Elt Bits) ℓ) : Prop :=
  True

def Pre_BranchDx0Ideal (m : (ℓ : Loc Cert.BranchDx0Ideal.nD Cert.BranchDx0Ideal.τ Cert.BranchDx0Ideal.sig) → Buf (Elt Ideal) ℓ) : Prop :=
  True

def Pre_BranchDx0RefIdeal (m : (ℓ : Loc Cert.BranchDx0RefIdeal.nD Cert.BranchDx0RefIdeal.τ Cert.BranchDx0RefIdeal.sig) → Buf (Elt Ideal) ℓ) : Prop :=
  True

def Pre_BranchDx1 (m : (ℓ : Loc Cert.BranchDx1.nD Cert.BranchDx1.τ Cert.BranchDx1.sig) → Buf (Elt Bits) ℓ) : Prop :=
  True

def Pre_BranchDx1Ideal (m : (ℓ : Loc Cert.BranchDx1Ideal.nD Cert.BranchDx1Ideal.τ Cert.BranchDx1Ideal.sig) → Buf (Elt Ideal) ℓ) : Prop :=
  True

def Pre_BranchDx1RefIdeal (m : (ℓ : Loc Cert.BranchDx1RefIdeal.nD Cert.BranchDx1RefIdeal.τ Cert.BranchDx1RefIdeal.sig) → Buf (Elt Ideal) ℓ) : Prop :=
  True

def Pre_BranchDx2 (m : (ℓ : Loc Cert.BranchDx2.nD Cert.BranchDx2.τ Cert.BranchDx2.sig) → Buf (Elt Bits) ℓ) : Prop :=
  True

def Pre_BranchDx2Ideal (m : (ℓ : Loc Cert.BranchDx2Ideal.nD Cert.BranchDx2Ideal.τ Cert.BranchDx2Ideal.sig) → Buf (Elt Ideal) ℓ) : Prop :=
  True

def Pre_BranchDx2RefIdeal (m : (ℓ : Loc Cert.BranchDx2RefIdeal.nD Cert.BranchDx2RefIdeal.τ Cert.BranchDx2RefIdeal.sig) → Buf (Elt Ideal) ℓ) : Prop :=
  True

def Pre_BranchDx3 (m : (ℓ : Loc Cert.BranchDx3.nD Cert.BranchDx3.τ Cert.BranchDx3.sig) → Buf (Elt Bits) ℓ) : Prop :=
  True

def Pre_BranchDx3Ideal (m : (ℓ : Loc Cert.BranchDx3Ideal.nD Cert.BranchDx3Ideal.τ Cert.BranchDx3Ideal.sig) → Buf (Elt Ideal) ℓ) : Prop :=
  True

def Pre_BranchDx3RefIdeal (m : (ℓ : Loc Cert.BranchDx3RefIdeal.nD Cert.BranchDx3RefIdeal.τ Cert.BranchDx3RefIdeal.sig) → Buf (Elt Ideal) ℓ) : Prop :=
  True

def Pre_BranchDw0 (m : (ℓ : Loc Cert.BranchDw0.nD Cert.BranchDw0.τ Cert.BranchDw0.sig) → Buf (Elt Bits) ℓ) : Prop :=
  True

def Pre_BranchDw0Ideal (m : (ℓ : Loc Cert.BranchDw0Ideal.nD Cert.BranchDw0Ideal.τ Cert.BranchDw0Ideal.sig) → Buf (Elt Ideal) ℓ) : Prop :=
  True

def Pre_BranchDw0RefIdeal (m : (ℓ : Loc Cert.BranchDw0RefIdeal.nD Cert.BranchDw0RefIdeal.τ Cert.BranchDw0RefIdeal.sig) → Buf (Elt Ideal) ℓ) : Prop :=
  True

def Pre_BranchDw1 (m : (ℓ : Loc Cert.BranchDw1.nD Cert.BranchDw1.τ Cert.BranchDw1.sig) → Buf (Elt Bits) ℓ) : Prop :=
  True

def Pre_BranchDw1Ideal (m : (ℓ : Loc Cert.BranchDw1Ideal.nD Cert.BranchDw1Ideal.τ Cert.BranchDw1Ideal.sig) → Buf (Elt Ideal) ℓ) : Prop :=
  True

def Pre_BranchDw1RefIdeal (m : (ℓ : Loc Cert.BranchDw1RefIdeal.nD Cert.BranchDw1RefIdeal.τ Cert.BranchDw1RefIdeal.sig) → Buf (Elt Ideal) ℓ) : Prop :=
  True

def Pre_BranchDw2 (m : (ℓ : Loc Cert.BranchDw2.nD Cert.BranchDw2.τ Cert.BranchDw2.sig) → Buf (Elt Bits) ℓ) : Prop :=
  True

def Pre_BranchDw2Ideal (m : (ℓ : Loc Cert.BranchDw2Ideal.nD Cert.BranchDw2Ideal.τ Cert.BranchDw2Ideal.sig) → Buf (Elt Ideal) ℓ) : Prop :=
  True

def Pre_BranchDw2RefIdeal (m : (ℓ : Loc Cert.BranchDw2RefIdeal.nD Cert.BranchDw2RefIdeal.τ Cert.BranchDw2RefIdeal.sig) → Buf (Elt Ideal) ℓ) : Prop :=
  True

def Pre_BranchDw3 (m : (ℓ : Loc Cert.BranchDw3.nD Cert.BranchDw3.τ Cert.BranchDw3.sig) → Buf (Elt Bits) ℓ) : Prop :=
  True

def Pre_BranchDw3Ideal (m : (ℓ : Loc Cert.BranchDw3Ideal.nD Cert.BranchDw3Ideal.τ Cert.BranchDw3Ideal.sig) → Buf (Elt Ideal) ℓ) : Prop :=
  True

def Pre_BranchDw3RefIdeal (m : (ℓ : Loc Cert.BranchDw3RefIdeal.nD Cert.BranchDw3RefIdeal.τ Cert.BranchDw3RefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_DnConvBwd (m : (ℓ : Loc Cert.DnConvBwd.nD Cert.DnConvBwd.τ Cert.DnConvBwd.sig) → Buf (Elt Bits) ℓ) : Prop :=
  True

def Pre_DnConvBwdIdeal (m : (ℓ : Loc Cert.DnConvBwdIdeal.nD Cert.DnConvBwdIdeal.τ Cert.DnConvBwdIdeal.sig) → Buf (Elt Ideal) ℓ) : Prop :=
  True

def Pre_DnConvBwdRefIdeal (m : (ℓ : Loc Cert.DnConvBwdRefIdeal.nD Cert.DnConvBwdRefIdeal.τ Cert.DnConvBwdRefIdeal.sig) → Buf (Elt Ideal) ℓ) : Prop :=
  True

def Pre_LruConvBwd (m : (ℓ : Loc Cert.LruConvBwd.nD Cert.LruConvBwd.τ Cert.LruConvBwd.sig) → Buf (Elt Bits) ℓ) : Prop :=
  True

def Pre_LruConvBwdIdeal (m : (ℓ : Loc Cert.LruConvBwdIdeal.nD Cert.LruConvBwdIdeal.τ Cert.LruConvBwdIdeal.sig) → Buf (Elt Ideal) ℓ) : Prop :=
  True

def Pre_LruConvBwdRefIdeal (m : (ℓ : Loc Cert.LruConvBwdRefIdeal.nD Cert.LruConvBwdRefIdeal.τ Cert.LruConvBwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdRefIdeal (m : (ℓ : Loc Cert.MemNormFwdRefIdeal.nD Cert.MemNormFwdRefIdeal.τ Cert.MemNormFwdRefIdeal.sig) → Buf (Elt Ideal) ℓ) : Prop :=
  True

def Pre_DnConvFwd (m : (ℓ : Loc Cert.DnConvFwd.nD Cert.DnConvFwd.τ Cert.DnConvFwd.sig) → Buf (Elt Bits) ℓ) : Prop :=
  True

def Pre_DnConvFwdIdeal (m : (ℓ : Loc Cert.DnConvFwdIdeal.nD Cert.DnConvFwdIdeal.τ Cert.DnConvFwdIdeal.sig) → Buf (Elt Ideal) ℓ) : Prop :=
  True

def Pre_DnConvFwdRefIdeal (m : (ℓ : Loc Cert.DnConvFwdRefIdeal.nD Cert.DnConvFwdRefIdeal.τ Cert.DnConvFwdRefIdeal.sig) → Buf (Elt Ideal) ℓ) : Prop :=
  True

def Pre_LruConvFwd (m : (ℓ : Loc Cert.LruConvFwd.nD Cert.LruConvFwd.τ Cert.LruConvFwd.sig) → Buf (Elt Bits) ℓ) : Prop :=
  True

def Pre_LruConvFwdIdeal (m : (ℓ : Loc Cert.LruConvFwdIdeal.nD Cert.LruConvFwdIdeal.τ Cert.LruConvFwdIdeal.sig) → Buf (Elt Ideal) ℓ) : Prop :=
  True

def Pre_LruConvFwdRefIdeal (m : (ℓ : Loc Cert.LruConvFwdRefIdeal.nD Cert.LruConvFwdRefIdeal.τ Cert.LruConvFwdRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWGlu (m : (ℓ : Loc Cert.AdamWGlu.nD Cert.AdamWGlu.τ Cert.AdamWGlu.sig) → Buf (Elt Bits) ℓ) : Prop :=
  True

def Pre_AdamWGluIdeal (m : (ℓ : Loc Cert.AdamWGluIdeal.nD Cert.AdamWGluIdeal.τ Cert.AdamWGluIdeal.sig) → Buf (Elt Ideal) ℓ) : Prop :=
  True

def Pre_AdamWGluRefIdeal (m : (ℓ : Loc Cert.AdamWGluRefIdeal.nD Cert.AdamWGluRefIdeal.τ Cert.AdamWGluRefIdeal.sig) → Buf (Elt Ideal) ℓ) : Prop :=
  True

def Pre_AdamWKv (m : (ℓ : Loc Cert.AdamWKv.nD Cert.AdamWKv.τ Cert.AdamWKv.sig) → Buf (Elt Bits) ℓ) : Prop :=
  True

def Pre_AdamWKvIdeal (m : (ℓ : Loc Cert.AdamWKvIdeal.nD Cert.AdamWKvIdeal.τ Cert.AdamWKvIdeal.sig) → Buf (Elt Ideal) ℓ) : Prop :=
  True

def Pre_AdamWKvRefIdeal (m : (ℓ : Loc Cert.AdamWKvRefIdeal.nD Cert.AdamWKvRefIdeal.τ Cert.AdamWKvRefIdeal.sig) → Buf (Elt Ideal) ℓ) : Prop :=
  True

def Pre_AdamWGate (m : (ℓ : Loc Cert.AdamWGate.nD Cert.AdamWGate.τ Cert.AdamWGate.sig) → Buf (Elt Bits) ℓ) : Prop :=
  True

def Pre_AdamWGateIdeal (m : (ℓ : Loc Cert.AdamWGateIdeal.nD Cert.AdamWGateIdeal.τ Cert.AdamWGateIdeal.sig) → Buf (Elt Ideal) ℓ) : Prop :=
  True

def Pre_AdamWGateRefIdeal (m : (ℓ : Loc Cert.AdamWGateRefIdeal.nD Cert.AdamWGateRefIdeal.τ Cert.AdamWGateRefIdeal.sig) → Buf (Elt Ideal) ℓ) : Prop :=
  True

def Pre_AdamWBranch (m : (ℓ : Loc Cert.AdamWBranch.nD Cert.AdamWBranch.τ Cert.AdamWBranch.sig) → Buf (Elt Bits) ℓ) : Prop :=
  True

def Pre_AdamWBranchIdeal (m : (ℓ : Loc Cert.AdamWBranchIdeal.nD Cert.AdamWBranchIdeal.τ Cert.AdamWBranchIdeal.sig) → Buf (Elt Ideal) ℓ) : Prop :=
  True

def Pre_AdamWBranchRefIdeal (m : (ℓ : Loc Cert.AdamWBranchRefIdeal.nD Cert.AdamWBranchRefIdeal.τ Cert.AdamWBranchRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumPair (m : (ℓ : Loc Cert.SumPair.nD Cert.SumPair.τ Cert.SumPair.sig) → Buf (Elt Bits) ℓ) : Prop :=
  True

def Pre_SumPairIdeal (m : (ℓ : Loc Cert.SumPairIdeal.nD Cert.SumPairIdeal.τ Cert.SumPairIdeal.sig) → Buf (Elt Ideal) ℓ) : Prop :=
  True

def Pre_SumPairRefIdeal (m : (ℓ : Loc Cert.SumPairRefIdeal.nD Cert.SumPairRefIdeal.τ Cert.SumPairRefIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_GateDx0 [hGateDx0 : Cert.GateDx0.Facts] : Prop :=
  ∀ (m : (ℓ : Loc Cert.GateDx0.nD Cert.GateDx0.τ Cert.GateDx0.sig) → Buf (Elt Bits) ℓ) (g : Dev Cert.GateDx0.nD → PrngReg), Pre_GateDx0 m →
    θ_run (Cert.GateDx0.defs (F := Bits)) (onTc (τ := Cert.GateDx0.τ) (Cert.GateDx0.main (F := Bits))) ⟨m, fun _ => 0, g⟩ (fun r => (∀ c : Dev Cert.GateDx0.nD,
      r.2.mem ((c.tc : Thread Cert.GateDx0.nD Cert.GateDx0.τ).loc Cert.GateDx0.main_arg0) = m ((c.tc : Thread Cert.GateDx0.nD Cert.GateDx0.τ).loc Cert.GateDx0.main_arg0)
      ∧ r.2.mem ((c.tc : Thread Cert.GateDx0.nD Cert.GateDx0.τ).loc Cert.GateDx0.main_arg1) = m ((c.tc : Thread Cert.GateDx0.nD Cert.GateDx0.τ).loc Cert.GateDx0.main_arg1))
      ∧ r.2.sem = fun _ => 0)

def quiescent_GateDx0Ideal [hGateDx0Ideal : Cert.GateDx0Ideal.Facts] : Prop :=
  ∀ (m : (ℓ : Loc Cert.GateDx0Ideal.nD Cert.GateDx0Ideal.τ Cert.GateDx0Ideal.sig) → Buf (Elt Ideal) ℓ) (g : Dev Cert.GateDx0Ideal.nD → PrngReg), Pre_GateDx0Ideal m →
    θ_run (Cert.GateDx0Ideal.defs (F := Ideal)) (onTc (τ := Cert.GateDx0Ideal.τ) (Cert.GateDx0Ideal.main (F := Ideal))) ⟨m, fun _ => 0, g⟩ (fun r => (∀ c : Dev Cert.GateDx0Ideal.nD,
      r.2.mem ((c.tc : Thread Cert.GateDx0Ideal.nD Cert.GateDx0Ideal.τ).loc Cert.GateDx0Ideal.main_arg0) = m ((c.tc : Thread Cert.GateDx0Ideal.nD Cert.GateDx0Ideal.τ).loc Cert.GateDx0Ideal.main_arg0)
      ∧ r.2.mem ((c.tc : Thread Cert.GateDx0Ideal.nD Cert.GateDx0Ideal.τ).loc Cert.GateDx0Ideal.main_arg1) = m ((c.tc : Thread Cert.GateDx0Ideal.nD Cert.GateDx0Ideal.τ).loc Cert.GateDx0Ideal.main_arg1))
      ∧ r.2.sem = fun _ => 0)

def quiescent_GateDx0RefIdeal [hGateDx0RefIdeal : Cert.GateDx0RefIdeal.Facts] : Prop :=
  ∀ (m : (ℓ : Loc Cert.GateDx0RefIdeal.nD Cert.GateDx0RefIdeal.τ Cert.GateDx0RefIdeal.sig) → Buf (Elt Ideal) ℓ) (g : Dev Cert.GateDx0RefIdeal.nD → PrngReg), Pre_GateDx0RefIdeal m →
    θ_run (Cert.GateDx0RefIdeal.defs (F := Ideal)) (onTc (τ := Cert.GateDx0RefIdeal.τ) (Cert.GateDx0RefIdeal.main (F := Ideal))) ⟨m, fun _ => 0, g⟩ (fun r => (∀ c : Dev Cert.GateDx0RefIdeal.nD,
      r.2.mem ((c.tc : Thread Cert.GateDx0RefIdeal.nD Cert.GateDx0RefIdeal.τ).loc Cert.GateDx0RefIdeal.main_arg0) = m ((c.tc : Thread Cert.GateDx0RefIdeal.nD Cert.GateDx0RefIdeal.τ).loc Cert.GateDx0RefIdeal.main_arg0)
      ∧ r.2.mem ((c.tc : Thread Cert.GateDx0RefIdeal.nD Cert.GateDx0RefIdeal.τ).loc Cert.GateDx0RefIdeal.main_arg1) = m ((c.tc : Thread Cert.GateDx0RefIdeal.nD Cert.GateDx0RefIdeal.τ).loc Cert.GateDx0RefIdeal.main_arg1))
      ∧ r.2.sem = fun _ => 0)

def quiescent_GateDx1 [hGateDx1 : Cert.GateDx1.Facts] : Prop :=
  ∀ (m : (ℓ : Loc Cert.GateDx1.nD Cert.GateDx1.τ Cert.GateDx1.sig) → Buf (Elt Bits) ℓ) (g : Dev Cert.GateDx1.nD → PrngReg), Pre_GateDx1 m →
    θ_run (Cert.GateDx1.defs (F := Bits)) (onTc (τ := Cert.GateDx1.τ) (Cert.GateDx1.main (F := Bits))) ⟨m, fun _ => 0, g⟩ (fun r => (∀ c : Dev Cert.GateDx1.nD,
      r.2.mem ((c.tc : Thread Cert.GateDx1.nD Cert.GateDx1.τ).loc Cert.GateDx1.main_arg0) = m ((c.tc : Thread Cert.GateDx1.nD Cert.GateDx1.τ).loc Cert.GateDx1.main_arg0)
      ∧ r.2.mem ((c.tc : Thread Cert.GateDx1.nD Cert.GateDx1.τ).loc Cert.GateDx1.main_arg1) = m ((c.tc : Thread Cert.GateDx1.nD Cert.GateDx1.τ).loc Cert.GateDx1.main_arg1)
      ∧ r.2.mem ((c.tc : Thread Cert.GateDx1.nD Cert.GateDx1.τ).loc Cert.GateDx1.main_arg2) = m ((c.tc : Thread Cert.GateDx1.nD Cert.GateDx1.τ).loc Cert.GateDx1.main_arg2))
      ∧ r.2.sem = fun _ => 0)

def quiescent_GateDx1Ideal [hGateDx1Ideal : Cert.GateDx1Ideal.Facts] : Prop :=
  ∀ (m : (ℓ : Loc Cert.GateDx1Ideal.nD Cert.GateDx1Ideal.τ Cert.GateDx1Ideal.sig) → Buf (Elt Ideal) ℓ) (g : Dev Cert.GateDx1Ideal.nD → PrngReg), Pre_GateDx1Ideal m →
    θ_run (Cert.GateDx1Ideal.defs (F := Ideal)) (onTc (τ := Cert.GateDx1Ideal.τ) (Cert.GateDx1Ideal.main (F := Ideal))) ⟨m, fun _ => 0, g⟩ (fun r => (∀ c : Dev Cert.GateDx1Ideal.nD,
      r.2.mem ((c.tc : Thread Cert.GateDx1Ideal.nD Cert.GateDx1Ideal.τ).loc Cert.GateDx1Ideal.main_arg0) = m ((c.tc : Thread Cert.GateDx1Ideal.nD Cert.GateDx1Ideal.τ).loc Cert.GateDx1Ideal.main_arg0)
      ∧ r.2.mem ((c.tc : Thread Cert.GateDx1Ideal.nD Cert.GateDx1Ideal.τ).loc Cert.GateDx1Ideal.main_arg1) = m ((c.tc : Thread Cert.GateDx1Ideal.nD Cert.GateDx1Ideal.τ).loc Cert.GateDx1Ideal.main_arg1)
      ∧ r.2.mem ((c.tc : Thread Cert.GateDx1Ideal.nD Cert.GateDx1Ideal.τ).loc Cert.GateDx1Ideal.main_arg2) = m ((c.tc : Thread Cert.GateDx1Ideal.nD Cert.GateDx1Ideal.τ).loc Cert.GateDx1Ideal.main_arg2))
      ∧ r.2.sem = fun _ => 0)

def quiescent_GateDx1RefIdeal [hGateDx1RefIdeal : Cert.GateDx1RefIdeal.Facts] : Prop :=
  ∀ (m : (ℓ : Loc Cert.GateDx1RefIdeal.nD Cert.GateDx1RefIdeal.τ Cert.GateDx1RefIdeal.sig) → Buf (Elt Ideal) ℓ) (g : Dev Cert.GateDx1RefIdeal.nD → PrngReg), Pre_GateDx1RefIdeal m →
    θ_run (Cert.GateDx1RefIdeal.defs (F := Ideal)) (onTc (τ := Cert.GateDx1RefIdeal.τ) (Cert.GateDx1RefIdeal.main (F := Ideal))) ⟨m, fun _ => 0, g⟩ (fun r => (∀ c : Dev Cert.GateDx1RefIdeal.nD,
      r.2.mem ((c.tc : Thread Cert.GateDx1RefIdeal.nD Cert.GateDx1RefIdeal.τ).loc Cert.GateDx1RefIdeal.main_arg0) = m ((c.tc : Thread Cert.GateDx1RefIdeal.nD Cert.GateDx1RefIdeal.τ).loc Cert.GateDx1RefIdeal.main_arg0)
      ∧ r.2.mem ((c.tc : Thread Cert.GateDx1RefIdeal.nD Cert.GateDx1RefIdeal.τ).loc Cert.GateDx1RefIdeal.main_arg1) = m ((c.tc : Thread Cert.GateDx1RefIdeal.nD Cert.GateDx1RefIdeal.τ).loc Cert.GateDx1RefIdeal.main_arg1)
      ∧ r.2.mem ((c.tc : Thread Cert.GateDx1RefIdeal.nD Cert.GateDx1RefIdeal.τ).loc Cert.GateDx1RefIdeal.main_arg2) = m ((c.tc : Thread Cert.GateDx1RefIdeal.nD Cert.GateDx1RefIdeal.τ).loc Cert.GateDx1RefIdeal.main_arg2))
      ∧ r.2.sem = fun _ => 0)

def quiescent_GateDx2 [hGateDx2 : Cert.GateDx2.Facts] : Prop :=
  ∀ (m : (ℓ : Loc Cert.GateDx2.nD Cert.GateDx2.τ Cert.GateDx2.sig) → Buf (Elt Bits) ℓ) (g : Dev Cert.GateDx2.nD → PrngReg), Pre_GateDx2 m →
    θ_run (Cert.GateDx2.defs (F := Bits)) (onTc (τ := Cert.GateDx2.τ) (Cert.GateDx2.main (F := Bits))) ⟨m, fun _ => 0, g⟩ (fun r => (∀ c : Dev Cert.GateDx2.nD,
      r.2.mem ((c.tc : Thread Cert.GateDx2.nD Cert.GateDx2.τ).loc Cert.GateDx2.main_arg0) = m ((c.tc : Thread Cert.GateDx2.nD Cert.GateDx2.τ).loc Cert.GateDx2.main_arg0)
      ∧ r.2.mem ((c.tc : Thread Cert.GateDx2.nD Cert.GateDx2.τ).loc Cert.GateDx2.main_arg1) = m ((c.tc : Thread Cert.GateDx2.nD Cert.GateDx2.τ).loc Cert.GateDx2.main_arg1)
      ∧ r.2.mem ((c.tc : Thread Cert.GateDx2.nD Cert.GateDx2.τ).loc Cert.GateDx2.main_arg2) = m ((c.tc : Thread Cert.GateDx2.nD Cert.GateDx2.τ).loc Cert.GateDx2.main_arg2))
      ∧ r.2.sem = fun _ => 0)

def quiescent_GateDx2Ideal [hGateDx2Ideal : Cert.GateDx2Ideal.Facts] : Prop :=
  ∀ (m : (ℓ : Loc Cert.GateDx2Ideal.nD Cert.GateDx2Ideal.τ Cert.GateDx2Ideal.sig) → Buf (Elt Ideal) ℓ) (g : Dev Cert.GateDx2Ideal.nD → PrngReg), Pre_GateDx2Ideal m →
    θ_run (Cert.GateDx2Ideal.defs (F := Ideal)) (onTc (τ := Cert.GateDx2Ideal.τ) (Cert.GateDx2Ideal.main (F := Ideal))) ⟨m, fun _ => 0, g⟩ (fun r => (∀ c : Dev Cert.GateDx2Ideal.nD,
      r.2.mem ((c.tc : Thread Cert.GateDx2Ideal.nD Cert.GateDx2Ideal.τ).loc Cert.GateDx2Ideal.main_arg0) = m ((c.tc : Thread Cert.GateDx2Ideal.nD Cert.GateDx2Ideal.τ).loc Cert.GateDx2Ideal.main_arg0)
      ∧ r.2.mem ((c.tc : Thread Cert.GateDx2Ideal.nD Cert.GateDx2Ideal.τ).loc Cert.GateDx2Ideal.main_arg1) = m ((c.tc : Thread Cert.GateDx2Ideal.nD Cert.GateDx2Ideal.τ).loc Cert.GateDx2Ideal.main_arg1)
      ∧ r.2.mem ((c.tc : Thread Cert.GateDx2Ideal.nD Cert.GateDx2Ideal.τ).loc Cert.GateDx2Ideal.main_arg2) = m ((c.tc : Thread Cert.GateDx2Ideal.nD Cert.GateDx2Ideal.τ).loc Cert.GateDx2Ideal.main_arg2))
      ∧ r.2.sem = fun _ => 0)

def quiescent_GateDx2RefIdeal [hGateDx2RefIdeal : Cert.GateDx2RefIdeal.Facts] : Prop :=
  ∀ (m : (ℓ : Loc Cert.GateDx2RefIdeal.nD Cert.GateDx2RefIdeal.τ Cert.GateDx2RefIdeal.sig) → Buf (Elt Ideal) ℓ) (g : Dev Cert.GateDx2RefIdeal.nD → PrngReg), Pre_GateDx2RefIdeal m →
    θ_run (Cert.GateDx2RefIdeal.defs (F := Ideal)) (onTc (τ := Cert.GateDx2RefIdeal.τ) (Cert.GateDx2RefIdeal.main (F := Ideal))) ⟨m, fun _ => 0, g⟩ (fun r => (∀ c : Dev Cert.GateDx2RefIdeal.nD,
      r.2.mem ((c.tc : Thread Cert.GateDx2RefIdeal.nD Cert.GateDx2RefIdeal.τ).loc Cert.GateDx2RefIdeal.main_arg0) = m ((c.tc : Thread Cert.GateDx2RefIdeal.nD Cert.GateDx2RefIdeal.τ).loc Cert.GateDx2RefIdeal.main_arg0)
      ∧ r.2.mem ((c.tc : Thread Cert.GateDx2RefIdeal.nD Cert.GateDx2RefIdeal.τ).loc Cert.GateDx2RefIdeal.main_arg1) = m ((c.tc : Thread Cert.GateDx2RefIdeal.nD Cert.GateDx2RefIdeal.τ).loc Cert.GateDx2RefIdeal.main_arg1)
      ∧ r.2.mem ((c.tc : Thread Cert.GateDx2RefIdeal.nD Cert.GateDx2RefIdeal.τ).loc Cert.GateDx2RefIdeal.main_arg2) = m ((c.tc : Thread Cert.GateDx2RefIdeal.nD Cert.GateDx2RefIdeal.τ).loc Cert.GateDx2RefIdeal.main_arg2))
      ∧ r.2.sem = fun _ => 0)

def quiescent_GateDx3 [hGateDx3 : Cert.GateDx3.Facts] : Prop :=
  ∀ (m : (ℓ : Loc Cert.GateDx3.nD Cert.GateDx3.τ Cert.GateDx3.sig) → Buf (Elt Bits) ℓ) (g : Dev Cert.GateDx3.nD → PrngReg), Pre_GateDx3 m →
    θ_run (Cert.GateDx3.defs (F := Bits)) (onTc (τ := Cert.GateDx3.τ) (Cert.GateDx3.main (F := Bits))) ⟨m, fun _ => 0, g⟩ (fun r => (∀ c : Dev Cert.GateDx3.nD,
      r.2.mem ((c.tc : Thread Cert.GateDx3.nD Cert.GateDx3.τ).loc Cert.GateDx3.main_arg0) = m ((c.tc : Thread Cert.GateDx3.nD Cert.GateDx3.τ).loc Cert.GateDx3.main_arg0)
      ∧ r.2.mem ((c.tc : Thread Cert.GateDx3.nD Cert.GateDx3.τ).loc Cert.GateDx3.main_arg1) = m ((c.tc : Thread Cert.GateDx3.nD Cert.GateDx3.τ).loc Cert.GateDx3.main_arg1)
      ∧ r.2.mem ((c.tc : Thread Cert.GateDx3.nD Cert.GateDx3.τ).loc Cert.GateDx3.main_arg2) = m ((c.tc : Thread Cert.GateDx3.nD Cert.GateDx3.τ).loc Cert.GateDx3.main_arg2))
      ∧ r.2.sem = fun _ => 0)

def quiescent_GateDx3Ideal [hGateDx3Ideal : Cert.GateDx3Ideal.Facts] : Prop :=
  ∀ (m : (ℓ : Loc Cert.GateDx3Ideal.nD Cert.GateDx3Ideal.τ Cert.GateDx3Ideal.sig) → Buf (Elt Ideal) ℓ) (g : Dev Cert.GateDx3Ideal.nD → PrngReg), Pre_GateDx3Ideal m →
    θ_run (Cert.GateDx3Ideal.defs (F := Ideal)) (onTc (τ := Cert.GateDx3Ideal.τ) (Cert.GateDx3Ideal.main (F := Ideal))) ⟨m, fun _ => 0, g⟩ (fun r => (∀ c : Dev Cert.GateDx3Ideal.nD,
      r.2.mem ((c.tc : Thread Cert.GateDx3Ideal.nD Cert.GateDx3Ideal.τ).loc Cert.GateDx3Ideal.main_arg0) = m ((c.tc : Thread Cert.GateDx3Ideal.nD Cert.GateDx3Ideal.τ).loc Cert.GateDx3Ideal.main_arg0)
      ∧ r.2.mem ((c.tc : Thread Cert.GateDx3Ideal.nD Cert.GateDx3Ideal.τ).loc Cert.GateDx3Ideal.main_arg1) = m ((c.tc : Thread Cert.GateDx3Ideal.nD Cert.GateDx3Ideal.τ).loc Cert.GateDx3Ideal.main_arg1)
      ∧ r.2.mem ((c.tc : Thread Cert.GateDx3Ideal.nD Cert.GateDx3Ideal.τ).loc Cert.GateDx3Ideal.main_arg2) = m ((c.tc : Thread Cert.GateDx3Ideal.nD Cert.GateDx3Ideal.τ).loc Cert.GateDx3Ideal.main_arg2))
      ∧ r.2.sem = fun _ => 0)

def quiescent_GateDx3RefIdeal [hGateDx3RefIdeal : Cert.GateDx3RefIdeal.Facts] : Prop :=
  ∀ (m : (ℓ : Loc Cert.GateDx3RefIdeal.nD Cert.GateDx3RefIdeal.τ Cert.GateDx3RefIdeal.sig) → Buf (Elt Ideal) ℓ) (g : Dev Cert.GateDx3RefIdeal.nD → PrngReg), Pre_GateDx3RefIdeal m →
    θ_run (Cert.GateDx3RefIdeal.defs (F := Ideal)) (onTc (τ := Cert.GateDx3RefIdeal.τ) (Cert.GateDx3RefIdeal.main (F := Ideal))) ⟨m, fun _ => 0, g⟩ (fun r => (∀ c : Dev Cert.GateDx3RefIdeal.nD,
      r.2.mem ((c.tc : Thread Cert.GateDx3RefIdeal.nD Cert.GateDx3RefIdeal.τ).loc Cert.GateDx3RefIdeal.main_arg0) = m ((c.tc : Thread Cert.GateDx3RefIdeal.nD Cert.GateDx3RefIdeal.τ).loc Cert.GateDx3RefIdeal.main_arg0)
      ∧ r.2.mem ((c.tc : Thread Cert.GateDx3RefIdeal.nD Cert.GateDx3RefIdeal.τ).loc Cert.GateDx3RefIdeal.main_arg1) = m ((c.tc : Thread Cert.GateDx3RefIdeal.nD Cert.GateDx3RefIdeal.τ).loc Cert.GateDx3RefIdeal.main_arg1)
      ∧ r.2.mem ((c.tc : Thread Cert.GateDx3RefIdeal.nD Cert.GateDx3RefIdeal.τ).loc Cert.GateDx3RefIdeal.main_arg2) = m ((c.tc : Thread Cert.GateDx3RefIdeal.nD Cert.GateDx3RefIdeal.τ).loc Cert.GateDx3RefIdeal.main_arg2))
      ∧ r.2.sem = fun _ => 0)

def quiescent_GateDw0 [hGateDw0 : Cert.GateDw0.Facts] : Prop :=
  ∀ (m : (ℓ : Loc Cert.GateDw0.nD Cert.GateDw0.τ Cert.GateDw0.sig) → Buf (Elt Bits) ℓ) (g : Dev Cert.GateDw0.nD → PrngReg), Pre_GateDw0 m →
    θ_run (Cert.GateDw0.defs (F := Bits)) (onTc (τ := Cert.GateDw0.τ) (Cert.GateDw0.main (F := Bits))) ⟨m, fun _ => 0, g⟩ (fun r => (∀ c : Dev Cert.GateDw0.nD,
      r.2.mem ((c.tc : Thread Cert.GateDw0.nD Cert.GateDw0.τ).loc Cert.GateDw0.main_arg0) = m ((c.tc : Thread Cert.GateDw0.nD Cert.GateDw0.τ).loc Cert.GateDw0.main_arg0)
      ∧ r.2.mem ((c.tc : Thread Cert.GateDw0.nD Cert.GateDw0.τ).loc Cert.GateDw0.main_arg1) = m ((c.tc : Thread Cert.GateDw0.nD Cert.GateDw0.τ).loc Cert.GateDw0.main_arg1))
      ∧ r.2.sem = fun _ => 0)

def quiescent_GateDw0Ideal [hGateDw0Ideal : Cert.GateDw0Ideal.Facts] : Prop :=
  ∀ (m : (ℓ : Loc Cert.GateDw0Ideal.nD Cert.GateDw0Ideal.τ Cert.GateDw0Ideal.sig) → Buf (Elt Ideal) ℓ) (g : Dev Cert.GateDw0Ideal.nD → PrngReg), Pre_GateDw0Ideal m →
    θ_run (Cert.GateDw0Ideal.defs (F := Ideal)) (onTc (τ := Cert.GateDw0Ideal.τ) (Cert.GateDw0Ideal.main (F := Ideal))) ⟨m, fun _ => 0, g⟩ (fun r => (∀ c : Dev Cert.GateDw0Ideal.nD,
      r.2.mem ((c.tc : Thread Cert.GateDw0Ideal.nD Cert.GateDw0Ideal.τ).loc Cert.GateDw0Ideal.main_arg0) = m ((c.tc : Thread Cert.GateDw0Ideal.nD Cert.GateDw0Ideal.τ).loc Cert.GateDw0Ideal.main_arg0)
      ∧ r.2.mem ((c.tc : Thread Cert.GateDw0Ideal.nD Cert.GateDw0Ideal.τ).loc Cert.GateDw0Ideal.main_arg1) = m ((c.tc : Thread Cert.GateDw0Ideal.nD Cert.GateDw0Ideal.τ).loc Cert.GateDw0Ideal.main_arg1))
      ∧ r.2.sem = fun _ => 0)

def quiescent_GateDw0RefIdeal [hGateDw0RefIdeal : Cert.GateDw0RefIdeal.Facts] : Prop :=
  ∀ (m : (ℓ : Loc Cert.GateDw0RefIdeal.nD Cert.GateDw0RefIdeal.τ Cert.GateDw0RefIdeal.sig) → Buf (Elt Ideal) ℓ) (g : Dev Cert.GateDw0RefIdeal.nD → PrngReg), Pre_GateDw0RefIdeal m →
    θ_run (Cert.GateDw0RefIdeal.defs (F := Ideal)) (onTc (τ := Cert.GateDw0RefIdeal.τ) (Cert.GateDw0RefIdeal.main (F := Ideal))) ⟨m, fun _ => 0, g⟩ (fun r => (∀ c : Dev Cert.GateDw0RefIdeal.nD,
      r.2.mem ((c.tc : Thread Cert.GateDw0RefIdeal.nD Cert.GateDw0RefIdeal.τ).loc Cert.GateDw0RefIdeal.main_arg0) = m ((c.tc : Thread Cert.GateDw0RefIdeal.nD Cert.GateDw0RefIdeal.τ).loc Cert.GateDw0RefIdeal.main_arg0)
      ∧ r.2.mem ((c.tc : Thread Cert.GateDw0RefIdeal.nD Cert.GateDw0RefIdeal.τ).loc Cert.GateDw0RefIdeal.main_arg1) = m ((c.tc : Thread Cert.GateDw0RefIdeal.nD Cert.GateDw0RefIdeal.τ).loc Cert.GateDw0RefIdeal.main_arg1))
      ∧ r.2.sem = fun _ => 0)

def quiescent_GateDw1 [hGateDw1 : Cert.GateDw1.Facts] : Prop :=
  ∀ (m : (ℓ : Loc Cert.GateDw1.nD Cert.GateDw1.τ Cert.GateDw1.sig) → Buf (Elt Bits) ℓ) (g : Dev Cert.GateDw1.nD → PrngReg), Pre_GateDw1 m →
    θ_run (Cert.GateDw1.defs (F := Bits)) (onTc (τ := Cert.GateDw1.τ) (Cert.GateDw1.main (F := Bits))) ⟨m, fun _ => 0, g⟩ (fun r => (∀ c : Dev Cert.GateDw1.nD,
      r.2.mem ((c.tc : Thread Cert.GateDw1.nD Cert.GateDw1.τ).loc Cert.GateDw1.main_arg0) = m ((c.tc : Thread Cert.GateDw1.nD Cert.GateDw1.τ).loc Cert.GateDw1.main_arg0)
      ∧ r.2.mem ((c.tc : Thread Cert.GateDw1.nD Cert.GateDw1.τ).loc Cert.GateDw1.main_arg1) = m ((c.tc : Thread Cert.GateDw1.nD Cert.GateDw1.τ).loc Cert.GateDw1.main_arg1))
      ∧ r.2.sem = fun _ => 0)

def quiescent_GateDw1Ideal [hGateDw1Ideal : Cert.GateDw1Ideal.Facts] : Prop :=
  ∀ (m : (ℓ : Loc Cert.GateDw1Ideal.nD Cert.GateDw1Ideal.τ Cert.GateDw1Ideal.sig) → Buf (Elt Ideal) ℓ) (g : Dev Cert.GateDw1Ideal.nD → PrngReg), Pre_GateDw1Ideal m →
    θ_run (Cert.GateDw1Ideal.defs (F := Ideal)) (onTc (τ := Cert.GateDw1Ideal.τ) (Cert.GateDw1Ideal.main (F := Ideal))) ⟨m, fun _ => 0, g⟩ (fun r => (∀ c : Dev Cert.GateDw1Ideal.nD,
      r.2.mem ((c.tc : Thread Cert.GateDw1Ideal.nD Cert.GateDw1Ideal.τ).loc Cert.GateDw1Ideal.main_arg0) = m ((c.tc : Thread Cert.GateDw1Ideal.nD Cert.GateDw1Ideal.τ).loc Cert.GateDw1Ideal.main_arg0)
      ∧ r.2.mem ((c.tc : Thread Cert.GateDw1Ideal.nD Cert.GateDw1Ideal.τ).loc Cert.GateDw1Ideal.main_arg1) = m ((c.tc : Thread Cert.GateDw1Ideal.nD Cert.GateDw1Ideal.τ).loc Cert.GateDw1Ideal.main_arg1))
      ∧ r.2.sem = fun _ => 0)

def quiescent_GateDw1RefIdeal [hGateDw1RefIdeal : Cert.GateDw1RefIdeal.Facts] : Prop :=
  ∀ (m : (ℓ : Loc Cert.GateDw1RefIdeal.nD Cert.GateDw1RefIdeal.τ Cert.GateDw1RefIdeal.sig) → Buf (Elt Ideal) ℓ) (g : Dev Cert.GateDw1RefIdeal.nD → PrngReg), Pre_GateDw1RefIdeal m →
    θ_run (Cert.GateDw1RefIdeal.defs (F := Ideal)) (onTc (τ := Cert.GateDw1RefIdeal.τ) (Cert.GateDw1RefIdeal.main (F := Ideal))) ⟨m, fun _ => 0, g⟩ (fun r => (∀ c : Dev Cert.GateDw1RefIdeal.nD,
      r.2.mem ((c.tc : Thread Cert.GateDw1RefIdeal.nD Cert.GateDw1RefIdeal.τ).loc Cert.GateDw1RefIdeal.main_arg0) = m ((c.tc : Thread Cert.GateDw1RefIdeal.nD Cert.GateDw1RefIdeal.τ).loc Cert.GateDw1RefIdeal.main_arg0)
      ∧ r.2.mem ((c.tc : Thread Cert.GateDw1RefIdeal.nD Cert.GateDw1RefIdeal.τ).loc Cert.GateDw1RefIdeal.main_arg1) = m ((c.tc : Thread Cert.GateDw1RefIdeal.nD Cert.GateDw1RefIdeal.τ).loc Cert.GateDw1RefIdeal.main_arg1))
      ∧ r.2.sem = fun _ => 0)

def quiescent_GateDw2 [hGateDw2 : Cert.GateDw2.Facts] : Prop :=
  ∀ (m : (ℓ : Loc Cert.GateDw2.nD Cert.GateDw2.τ Cert.GateDw2.sig) → Buf (Elt Bits) ℓ) (g : Dev Cert.GateDw2.nD → PrngReg), Pre_GateDw2 m →
    θ_run (Cert.GateDw2.defs (F := Bits)) (onTc (τ := Cert.GateDw2.τ) (Cert.GateDw2.main (F := Bits))) ⟨m, fun _ => 0, g⟩ (fun r => (∀ c : Dev Cert.GateDw2.nD,
      r.2.mem ((c.tc : Thread Cert.GateDw2.nD Cert.GateDw2.τ).loc Cert.GateDw2.main_arg0) = m ((c.tc : Thread Cert.GateDw2.nD Cert.GateDw2.τ).loc Cert.GateDw2.main_arg0)
      ∧ r.2.mem ((c.tc : Thread Cert.GateDw2.nD Cert.GateDw2.τ).loc Cert.GateDw2.main_arg1) = m ((c.tc : Thread Cert.GateDw2.nD Cert.GateDw2.τ).loc Cert.GateDw2.main_arg1))
      ∧ r.2.sem = fun _ => 0)

def quiescent_GateDw2Ideal [hGateDw2Ideal : Cert.GateDw2Ideal.Facts] : Prop :=
  ∀ (m : (ℓ : Loc Cert.GateDw2Ideal.nD Cert.GateDw2Ideal.τ Cert.GateDw2Ideal.sig) → Buf (Elt Ideal) ℓ) (g : Dev Cert.GateDw2Ideal.nD → PrngReg), Pre_GateDw2Ideal m →
    θ_run (Cert.GateDw2Ideal.defs (F := Ideal)) (onTc (τ := Cert.GateDw2Ideal.τ) (Cert.GateDw2Ideal.main (F := Ideal))) ⟨m, fun _ => 0, g⟩ (fun r => (∀ c : Dev Cert.GateDw2Ideal.nD,
      r.2.mem ((c.tc : Thread Cert.GateDw2Ideal.nD Cert.GateDw2Ideal.τ).loc Cert.GateDw2Ideal.main_arg0) = m ((c.tc : Thread Cert.GateDw2Ideal.nD Cert.GateDw2Ideal.τ).loc Cert.GateDw2Ideal.main_arg0)
      ∧ r.2.mem ((c.tc : Thread Cert.GateDw2Ideal.nD Cert.GateDw2Ideal.τ).loc Cert.GateDw2Ideal.main_arg1) = m ((c.tc : Thread Cert.GateDw2Ideal.nD Cert.GateDw2Ideal.τ).loc Cert.GateDw2Ideal.main_arg1))
      ∧ r.2.sem = fun _ => 0)

def quiescent_GateDw2RefIdeal [hGateDw2RefIdeal : Cert.GateDw2RefIdeal.Facts] : Prop :=
  ∀ (m : (ℓ : Loc Cert.GateDw2RefIdeal.nD Cert.GateDw2RefIdeal.τ Cert.GateDw2RefIdeal.sig) → Buf (Elt Ideal) ℓ) (g : Dev Cert.GateDw2RefIdeal.nD → PrngReg), Pre_GateDw2RefIdeal m →
    θ_run (Cert.GateDw2RefIdeal.defs (F := Ideal)) (onTc (τ := Cert.GateDw2RefIdeal.τ) (Cert.GateDw2RefIdeal.main (F := Ideal))) ⟨m, fun _ => 0, g⟩ (fun r => (∀ c : Dev Cert.GateDw2RefIdeal.nD,
      r.2.mem ((c.tc : Thread Cert.GateDw2RefIdeal.nD Cert.GateDw2RefIdeal.τ).loc Cert.GateDw2RefIdeal.main_arg0) = m ((c.tc : Thread Cert.GateDw2RefIdeal.nD Cert.GateDw2RefIdeal.τ).loc Cert.GateDw2RefIdeal.main_arg0)
      ∧ r.2.mem ((c.tc : Thread Cert.GateDw2RefIdeal.nD Cert.GateDw2RefIdeal.τ).loc Cert.GateDw2RefIdeal.main_arg1) = m ((c.tc : Thread Cert.GateDw2RefIdeal.nD Cert.GateDw2RefIdeal.τ).loc Cert.GateDw2RefIdeal.main_arg1))
      ∧ r.2.sem = fun _ => 0)

def quiescent_GateDw3 [hGateDw3 : Cert.GateDw3.Facts] : Prop :=
  ∀ (m : (ℓ : Loc Cert.GateDw3.nD Cert.GateDw3.τ Cert.GateDw3.sig) → Buf (Elt Bits) ℓ) (g : Dev Cert.GateDw3.nD → PrngReg), Pre_GateDw3 m →
    θ_run (Cert.GateDw3.defs (F := Bits)) (onTc (τ := Cert.GateDw3.τ) (Cert.GateDw3.main (F := Bits))) ⟨m, fun _ => 0, g⟩ (fun r => (∀ c : Dev Cert.GateDw3.nD,
      r.2.mem ((c.tc : Thread Cert.GateDw3.nD Cert.GateDw3.τ).loc Cert.GateDw3.main_arg0) = m ((c.tc : Thread Cert.GateDw3.nD Cert.GateDw3.τ).loc Cert.GateDw3.main_arg0)
      ∧ r.2.mem ((c.tc : Thread Cert.GateDw3.nD Cert.GateDw3.τ).loc Cert.GateDw3.main_arg1) = m ((c.tc : Thread Cert.GateDw3.nD Cert.GateDw3.τ).loc Cert.GateDw3.main_arg1))
      ∧ r.2.sem = fun _ => 0)

def quiescent_GateDw3Ideal [hGateDw3Ideal : Cert.GateDw3Ideal.Facts] : Prop :=
  ∀ (m : (ℓ : Loc Cert.GateDw3Ideal.nD Cert.GateDw3Ideal.τ Cert.GateDw3Ideal.sig) → Buf (Elt Ideal) ℓ) (g : Dev Cert.GateDw3Ideal.nD → PrngReg), Pre_GateDw3Ideal m →
    θ_run (Cert.GateDw3Ideal.defs (F := Ideal)) (onTc (τ := Cert.GateDw3Ideal.τ) (Cert.GateDw3Ideal.main (F := Ideal))) ⟨m, fun _ => 0, g⟩ (fun r => (∀ c : Dev Cert.GateDw3Ideal.nD,
      r.2.mem ((c.tc : Thread Cert.GateDw3Ideal.nD Cert.GateDw3Ideal.τ).loc Cert.GateDw3Ideal.main_arg0) = m ((c.tc : Thread Cert.GateDw3Ideal.nD Cert.GateDw3Ideal.τ).loc Cert.GateDw3Ideal.main_arg0)
      ∧ r.2.mem ((c.tc : Thread Cert.GateDw3Ideal.nD Cert.GateDw3Ideal.τ).loc Cert.GateDw3Ideal.main_arg1) = m ((c.tc : Thread Cert.GateDw3Ideal.nD Cert.GateDw3Ideal.τ).loc Cert.GateDw3Ideal.main_arg1))
      ∧ r.2.sem = fun _ => 0)

def quiescent_GateDw3RefIdeal [hGateDw3RefIdeal : Cert.GateDw3RefIdeal.Facts] : Prop :=
  ∀ (m : (ℓ : Loc Cert.GateDw3RefIdeal.nD Cert.GateDw3RefIdeal.τ Cert.GateDw3RefIdeal.sig) → Buf (Elt Ideal) ℓ) (g : Dev Cert.GateDw3RefIdeal.nD → PrngReg), Pre_GateDw3RefIdeal m →
    θ_run (Cert.GateDw3RefIdeal.defs (F := Ideal)) (onTc (τ := Cert.GateDw3RefIdeal.τ) (Cert.GateDw3RefIdeal.main (F := Ideal))) ⟨m, fun _ => 0, g⟩ (fun r => (∀ c : Dev Cert.GateDw3RefIdeal.nD,
      r.2.mem ((c.tc : Thread Cert.GateDw3RefIdeal.nD Cert.GateDw3RefIdeal.τ).loc Cert.GateDw3RefIdeal.main_arg0) = m ((c.tc : Thread Cert.GateDw3RefIdeal.nD Cert.GateDw3RefIdeal.τ).loc Cert.GateDw3RefIdeal.main_arg0)
      ∧ r.2.mem ((c.tc : Thread Cert.GateDw3RefIdeal.nD Cert.GateDw3RefIdeal.τ).loc Cert.GateDw3RefIdeal.main_arg1) = m ((c.tc : Thread Cert.GateDw3RefIdeal.nD Cert.GateDw3RefIdeal.τ).loc Cert.GateDw3RefIdeal.main_arg1))
      ∧ r.2.sem = fun _ => 0)

def quiescent_BranchDx0 [hBranchDx0 : Cert.BranchDx0.Facts] : Prop :=
  ∀ (m : (ℓ : Loc Cert.BranchDx0.nD Cert.BranchDx0.τ Cert.BranchDx0.sig) → Buf (Elt Bits) ℓ) (g : Dev Cert.BranchDx0.nD → PrngReg), Pre_BranchDx0 m →
    θ_run (Cert.BranchDx0.defs (F := Bits)) (onTc (τ := Cert.BranchDx0.τ) (Cert.BranchDx0.main (F := Bits))) ⟨m, fun _ => 0, g⟩ (fun r => (∀ c : Dev Cert.BranchDx0.nD,
      r.2.mem ((c.tc : Thread Cert.BranchDx0.nD Cert.BranchDx0.τ).loc Cert.BranchDx0.main_arg0) = m ((c.tc : Thread Cert.BranchDx0.nD Cert.BranchDx0.τ).loc Cert.BranchDx0.main_arg0)
      ∧ r.2.mem ((c.tc : Thread Cert.BranchDx0.nD Cert.BranchDx0.τ).loc Cert.BranchDx0.main_arg1) = m ((c.tc : Thread Cert.BranchDx0.nD Cert.BranchDx0.τ).loc Cert.BranchDx0.main_arg1))
      ∧ r.2.sem = fun _ => 0)

def quiescent_BranchDx0Ideal [hBranchDx0Ideal : Cert.BranchDx0Ideal.Facts] : Prop :=
  ∀ (m : (ℓ : Loc Cert.BranchDx0Ideal.nD Cert.BranchDx0Ideal.τ Cert.BranchDx0Ideal.sig) → Buf (Elt Ideal) ℓ) (g : Dev Cert.BranchDx0Ideal.nD → PrngReg), Pre_BranchDx0Ideal m →
    θ_run (Cert.BranchDx0Ideal.defs (F := Ideal)) (onTc (τ := Cert.BranchDx0Ideal.τ) (Cert.BranchDx0Ideal.main (F := Ideal))) ⟨m, fun _ => 0, g⟩ (fun r => (∀ c : Dev Cert.BranchDx0Ideal.nD,
      r.2.mem ((c.tc : Thread Cert.BranchDx0Ideal.nD Cert.BranchDx0Ideal.τ).loc Cert.BranchDx0Ideal.main_arg0) = m ((c.tc : Thread Cert.BranchDx0Ideal.nD Cert.BranchDx0Ideal.τ).loc Cert.BranchDx0Ideal.main_arg0)
      ∧ r.2.mem ((c.tc : Thread Cert.BranchDx0Ideal.nD Cert.BranchDx0Ideal.τ).loc Cert.BranchDx0Ideal.main_arg1) = m ((c.tc : Thread Cert.BranchDx0Ideal.nD Cert.BranchDx0Ideal.τ).loc Cert.BranchDx0Ideal.main_arg1))
      ∧ r.2.sem = fun _ => 0)

def quiescent_BranchDx0RefIdeal [hBranchDx0RefIdeal : Cert.BranchDx0RefIdeal.Facts] : Prop :=
  ∀ (m : (ℓ : Loc Cert.BranchDx0RefIdeal.nD Cert.BranchDx0RefIdeal.τ Cert.BranchDx0RefIdeal.sig) → Buf (Elt Ideal) ℓ) (g : Dev Cert.BranchDx0RefIdeal.nD → PrngReg), Pre_BranchDx0RefIdeal m →
    θ_run (Cert.BranchDx0RefIdeal.defs (F := Ideal)) (onTc (τ := Cert.BranchDx0RefIdeal.τ) (Cert.BranchDx0RefIdeal.main (F := Ideal))) ⟨m, fun _ => 0, g⟩ (fun r => (∀ c : Dev Cert.BranchDx0RefIdeal.nD,
      r.2.mem ((c.tc : Thread Cert.BranchDx0RefIdeal.nD Cert.BranchDx0RefIdeal.τ).loc Cert.BranchDx0RefIdeal.main_arg0) = m ((c.tc : Thread Cert.BranchDx0RefIdeal.nD Cert.BranchDx0RefIdeal.τ).loc Cert.BranchDx0RefIdeal.main_arg0)
      ∧ r.2.mem ((c.tc : Thread Cert.BranchDx0RefIdeal.nD Cert.BranchDx0RefIdeal.τ).loc Cert.BranchDx0RefIdeal.main_arg1) = m ((c.tc : Thread Cert.BranchDx0RefIdeal.nD Cert.BranchDx0RefIdeal.τ).loc Cert.BranchDx0RefIdeal.main_arg1))
      ∧ r.2.sem = fun _ => 0)

def quiescent_BranchDx1 [hBranchDx1 : Cert.BranchDx1.Facts] : Prop :=
  ∀ (m : (ℓ : Loc Cert.BranchDx1.nD Cert.BranchDx1.τ Cert.BranchDx1.sig) → Buf (Elt Bits) ℓ) (g : Dev Cert.BranchDx1.nD → PrngReg), Pre_BranchDx1 m →
    θ_run (Cert.BranchDx1.defs (F := Bits)) (onTc (τ := Cert.BranchDx1.τ) (Cert.BranchDx1.main (F := Bits))) ⟨m, fun _ => 0, g⟩ (fun r => (∀ c : Dev Cert.BranchDx1.nD,
      r.2.mem ((c.tc : Thread Cert.BranchDx1.nD Cert.BranchDx1.τ).loc Cert.BranchDx1.main_arg0) = m ((c.tc : Thread Cert.BranchDx1.nD Cert.BranchDx1.τ).loc Cert.BranchDx1.main_arg0)
      ∧ r.2.mem ((c.tc : Thread Cert.BranchDx1.nD Cert.BranchDx1.τ).loc Cert.BranchDx1.main_arg1) = m ((c.tc : Thread Cert.BranchDx1.nD Cert.BranchDx1.τ).loc Cert.BranchDx1.main_arg1))
      ∧ r.2.sem = fun _ => 0)

def quiescent_BranchDx1Ideal [hBranchDx1Ideal : Cert.BranchDx1Ideal.Facts] : Prop :=
  ∀ (m : (ℓ : Loc Cert.BranchDx1Ideal.nD Cert.BranchDx1Ideal.τ Cert.BranchDx1Ideal.sig) → Buf (Elt Ideal) ℓ) (g : Dev Cert.BranchDx1Ideal.nD → PrngReg), Pre_BranchDx1Ideal m →
    θ_run (Cert.BranchDx1Ideal.defs (F := Ideal)) (onTc (τ := Cert.BranchDx1Ideal.τ) (Cert.BranchDx1Ideal.main (F := Ideal))) ⟨m, fun _ => 0, g⟩ (fun r => (∀ c : Dev Cert.BranchDx1Ideal.nD,
      r.2.mem ((c.tc : Thread Cert.BranchDx1Ideal.nD Cert.BranchDx1Ideal.τ).loc Cert.BranchDx1Ideal.main_arg0) = m ((c.tc : Thread Cert.BranchDx1Ideal.nD Cert.BranchDx1Ideal.τ).loc Cert.BranchDx1Ideal.main_arg0)
      ∧ r.2.mem ((c.tc : Thread Cert.BranchDx1Ideal.nD Cert.BranchDx1Ideal.τ).loc Cert.BranchDx1Ideal.main_arg1) = m ((c.tc : Thread Cert.BranchDx1Ideal.nD Cert.BranchDx1Ideal.τ).loc Cert.BranchDx1Ideal.main_arg1))
      ∧ r.2.sem = fun _ => 0)

def quiescent_BranchDx1RefIdeal [hBranchDx1RefIdeal : Cert.BranchDx1RefIdeal.Facts] : Prop :=
  ∀ (m : (ℓ : Loc Cert.BranchDx1RefIdeal.nD Cert.BranchDx1RefIdeal.τ Cert.BranchDx1RefIdeal.sig) → Buf (Elt Ideal) ℓ) (g : Dev Cert.BranchDx1RefIdeal.nD → PrngReg), Pre_BranchDx1RefIdeal m →
    θ_run (Cert.BranchDx1RefIdeal.defs (F := Ideal)) (onTc (τ := Cert.BranchDx1RefIdeal.τ) (Cert.BranchDx1RefIdeal.main (F := Ideal))) ⟨m, fun _ => 0, g⟩ (fun r => (∀ c : Dev Cert.BranchDx1RefIdeal.nD,
      r.2.mem ((c.tc : Thread Cert.BranchDx1RefIdeal.nD Cert.BranchDx1RefIdeal.τ).loc Cert.BranchDx1RefIdeal.main_arg0) = m ((c.tc : Thread Cert.BranchDx1RefIdeal.nD Cert.BranchDx1RefIdeal.τ).loc Cert.BranchDx1RefIdeal.main_arg0)
      ∧ r.2.mem ((c.tc : Thread Cert.BranchDx1RefIdeal.nD Cert.BranchDx1RefIdeal.τ).loc Cert.BranchDx1RefIdeal.main_arg1) = m ((c.tc : Thread Cert.BranchDx1RefIdeal.nD Cert.BranchDx1RefIdeal.τ).loc Cert.BranchDx1RefIdeal.main_arg1))
      ∧ r.2.sem = fun _ => 0)

def quiescent_BranchDx2 [hBranchDx2 : Cert.BranchDx2.Facts] : Prop :=
  ∀ (m : (ℓ : Loc Cert.BranchDx2.nD Cert.BranchDx2.τ Cert.BranchDx2.sig) → Buf (Elt Bits) ℓ) (g : Dev Cert.BranchDx2.nD → PrngReg), Pre_BranchDx2 m →
    θ_run (Cert.BranchDx2.defs (F := Bits)) (onTc (τ := Cert.BranchDx2.τ) (Cert.BranchDx2.main (F := Bits))) ⟨m, fun _ => 0, g⟩ (fun r => (∀ c : Dev Cert.BranchDx2.nD,
      r.2.mem ((c.tc : Thread Cert.BranchDx2.nD Cert.BranchDx2.τ).loc Cert.BranchDx2.main_arg0) = m ((c.tc : Thread Cert.BranchDx2.nD Cert.BranchDx2.τ).loc Cert.BranchDx2.main_arg0)
      ∧ r.2.mem ((c.tc : Thread Cert.BranchDx2.nD Cert.BranchDx2.τ).loc Cert.BranchDx2.main_arg1) = m ((c.tc : Thread Cert.BranchDx2.nD Cert.BranchDx2.τ).loc Cert.BranchDx2.main_arg1))
      ∧ r.2.sem = fun _ => 0)

def quiescent_BranchDx2Ideal [hBranchDx2Ideal : Cert.BranchDx2Ideal.Facts] : Prop :=
  ∀ (m : (ℓ : Loc Cert.BranchDx2Ideal.nD Cert.BranchDx2Ideal.τ Cert.BranchDx2Ideal.sig) → Buf (Elt Ideal) ℓ) (g : Dev Cert.BranchDx2Ideal.nD → PrngReg), Pre_BranchDx2Ideal m →
    θ_run (Cert.BranchDx2Ideal.defs (F := Ideal)) (onTc (τ := Cert.BranchDx2Ideal.τ) (Cert.BranchDx2Ideal.main (F := Ideal))) ⟨m, fun _ => 0, g⟩ (fun r => (∀ c : Dev Cert.BranchDx2Ideal.nD,
      r.2.mem ((c.tc : Thread Cert.BranchDx2Ideal.nD Cert.BranchDx2Ideal.τ).loc Cert.BranchDx2Ideal.main_arg0) = m ((c.tc : Thread Cert.BranchDx2Ideal.nD Cert.BranchDx2Ideal.τ).loc Cert.BranchDx2Ideal.main_arg0)
      ∧ r.2.mem ((c.tc : Thread Cert.BranchDx2Ideal.nD Cert.BranchDx2Ideal.τ).loc Cert.BranchDx2Ideal.main_arg1) = m ((c.tc : Thread Cert.BranchDx2Ideal.nD Cert.BranchDx2Ideal.τ).loc Cert.BranchDx2Ideal.main_arg1))
      ∧ r.2.sem = fun _ => 0)

def quiescent_BranchDx2RefIdeal [hBranchDx2RefIdeal : Cert.BranchDx2RefIdeal.Facts] : Prop :=
  ∀ (m : (ℓ : Loc Cert.BranchDx2RefIdeal.nD Cert.BranchDx2RefIdeal.τ Cert.BranchDx2RefIdeal.sig) → Buf (Elt Ideal) ℓ) (g : Dev Cert.BranchDx2RefIdeal.nD → PrngReg), Pre_BranchDx2RefIdeal m →
    θ_run (Cert.BranchDx2RefIdeal.defs (F := Ideal)) (onTc (τ := Cert.BranchDx2RefIdeal.τ) (Cert.BranchDx2RefIdeal.main (F := Ideal))) ⟨m, fun _ => 0, g⟩ (fun r => (∀ c : Dev Cert.BranchDx2RefIdeal.nD,
      r.2.mem ((c.tc : Thread Cert.BranchDx2RefIdeal.nD Cert.BranchDx2RefIdeal.τ).loc Cert.BranchDx2RefIdeal.main_arg0) = m ((c.tc : Thread Cert.BranchDx2RefIdeal.nD Cert.BranchDx2RefIdeal.τ).loc Cert.BranchDx2RefIdeal.main_arg0)
      ∧ r.2.mem ((c.tc : Thread Cert.BranchDx2RefIdeal.nD Cert.BranchDx2RefIdeal.τ).loc Cert.BranchDx2RefIdeal.main_arg1) = m ((c.tc : Thread Cert.BranchDx2RefIdeal.nD Cert.BranchDx2RefIdeal.τ).loc Cert.BranchDx2RefIdeal.main_arg1))
      ∧ r.2.sem = fun _ => 0)

def quiescent_BranchDx3 [hBranchDx3 : Cert.BranchDx3.Facts] : Prop :=
  ∀ (m : (ℓ : Loc Cert.BranchDx3.nD Cert.BranchDx3.τ Cert.BranchDx3.sig) → Buf (Elt Bits) ℓ) (g : Dev Cert.BranchDx3.nD → PrngReg), Pre_BranchDx3 m →
    θ_run (Cert.BranchDx3.defs (F := Bits)) (onTc (τ := Cert.BranchDx3.τ) (Cert.BranchDx3.main (F := Bits))) ⟨m, fun _ => 0, g⟩ (fun r => (∀ c : Dev Cert.BranchDx3.nD,
      r.2.mem ((c.tc : Thread Cert.BranchDx3.nD Cert.BranchDx3.τ).loc Cert.BranchDx3.main_arg0) = m ((c.tc : Thread Cert.BranchDx3.nD Cert.BranchDx3.τ).loc Cert.BranchDx3.main_arg0)
      ∧ r.2.mem ((c.tc : Thread Cert.BranchDx3.nD Cert.BranchDx3.τ).loc Cert.BranchDx3.main_arg1) = m ((c.tc : Thread Cert.BranchDx3.nD Cert.BranchDx3.τ).loc Cert.BranchDx3.main_arg1))
      ∧ r.2.sem = fun _ => 0)

def quiescent_BranchDx3Ideal [hBranchDx3Ideal : Cert.BranchDx3Ideal.Facts] : Prop :=
  ∀ (m : (ℓ : Loc Cert.BranchDx3Ideal.nD Cert.BranchDx3Ideal.τ Cert.BranchDx3Ideal.sig) → Buf (Elt Ideal) ℓ) (g : Dev Cert.BranchDx3Ideal.nD → PrngReg), Pre_BranchDx3Ideal m →
    θ_run (Cert.BranchDx3Ideal.defs (F := Ideal)) (onTc (τ := Cert.BranchDx3Ideal.τ) (Cert.BranchDx3Ideal.main (F := Ideal))) ⟨m, fun _ => 0, g⟩ (fun r => (∀ c : Dev Cert.BranchDx3Ideal.nD,
      r.2.mem ((c.tc : Thread Cert.BranchDx3Ideal.nD Cert.BranchDx3Ideal.τ).loc Cert.BranchDx3Ideal.main_arg0) = m ((c.tc : Thread Cert.BranchDx3Ideal.nD Cert.BranchDx3Ideal.τ).loc Cert.BranchDx3Ideal.main_arg0)
      ∧ r.2.mem ((c.tc : Thread Cert.BranchDx3Ideal.nD Cert.BranchDx3Ideal.τ).loc Cert.BranchDx3Ideal.main_arg1) = m ((c.tc : Thread Cert.BranchDx3Ideal.nD Cert.BranchDx3Ideal.τ).loc Cert.BranchDx3Ideal.main_arg1))
      ∧ r.2.sem = fun _ => 0)

def quiescent_BranchDx3RefIdeal [hBranchDx3RefIdeal : Cert.BranchDx3RefIdeal.Facts] : Prop :=
  ∀ (m : (ℓ : Loc Cert.BranchDx3RefIdeal.nD Cert.BranchDx3RefIdeal.τ Cert.BranchDx3RefIdeal.sig) → Buf (Elt Ideal) ℓ) (g : Dev Cert.BranchDx3RefIdeal.nD → PrngReg), Pre_BranchDx3RefIdeal m →
    θ_run (Cert.BranchDx3RefIdeal.defs (F := Ideal)) (onTc (τ := Cert.BranchDx3RefIdeal.τ) (Cert.BranchDx3RefIdeal.main (F := Ideal))) ⟨m, fun _ => 0, g⟩ (fun r => (∀ c : Dev Cert.BranchDx3RefIdeal.nD,
      r.2.mem ((c.tc : Thread Cert.BranchDx3RefIdeal.nD Cert.BranchDx3RefIdeal.τ).loc Cert.BranchDx3RefIdeal.main_arg0) = m ((c.tc : Thread Cert.BranchDx3RefIdeal.nD Cert.BranchDx3RefIdeal.τ).loc Cert.BranchDx3RefIdeal.main_arg0)
      ∧ r.2.mem ((c.tc : Thread Cert.BranchDx3RefIdeal.nD Cert.BranchDx3RefIdeal.τ).loc Cert.BranchDx3RefIdeal.main_arg1) = m ((c.tc : Thread Cert.BranchDx3RefIdeal.nD Cert.BranchDx3RefIdeal.τ).loc Cert.BranchDx3RefIdeal.main_arg1))
      ∧ r.2.sem = fun _ => 0)

def quiescent_BranchDw0 [hBranchDw0 : Cert.BranchDw0.Facts] : Prop :=
  ∀ (m : (ℓ : Loc Cert.BranchDw0.nD Cert.BranchDw0.τ Cert.BranchDw0.sig) → Buf (Elt Bits) ℓ) (g : Dev Cert.BranchDw0.nD → PrngReg), Pre_BranchDw0 m →
    θ_run (Cert.BranchDw0.defs (F := Bits)) (onTc (τ := Cert.BranchDw0.τ) (Cert.BranchDw0.main (F := Bits))) ⟨m, fun _ => 0, g⟩ (fun r => (∀ c : Dev Cert.BranchDw0.nD,
      r.2.mem ((c.tc : Thread Cert.BranchDw0.nD Cert.BranchDw0.τ).loc Cert.BranchDw0.main_arg0) = m ((c.tc : Thread Cert.BranchDw0.nD Cert.BranchDw0.τ).loc Cert.BranchDw0.main_arg0)
      ∧ r.2.mem ((c.tc : Thread Cert.BranchDw0.nD Cert.BranchDw0.τ).loc Cert.BranchDw0.main_arg1) = m ((c.tc : Thread Cert.BranchDw0.nD Cert.BranchDw0.τ).loc Cert.BranchDw0.main_arg1))
      ∧ r.2.sem = fun _ => 0)

def quiescent_BranchDw0Ideal [hBranchDw0Ideal : Cert.BranchDw0Ideal.Facts] : Prop :=
  ∀ (m : (ℓ : Loc Cert.BranchDw0Ideal.nD Cert.BranchDw0Ideal.τ Cert.BranchDw0Ideal.sig) → Buf (Elt Ideal) ℓ) (g : Dev Cert.BranchDw0Ideal.nD → PrngReg), Pre_BranchDw0Ideal m →
    θ_run (Cert.BranchDw0Ideal.defs (F := Ideal)) (onTc (τ := Cert.BranchDw0Ideal.τ) (Cert.BranchDw0Ideal.main (F := Ideal))) ⟨m, fun _ => 0, g⟩ (fun r => (∀ c : Dev Cert.BranchDw0Ideal.nD,
      r.2.mem ((c.tc : Thread Cert.BranchDw0Ideal.nD Cert.BranchDw0Ideal.τ).loc Cert.BranchDw0Ideal.main_arg0) = m ((c.tc : Thread Cert.BranchDw0Ideal.nD Cert.BranchDw0Ideal.τ).loc Cert.BranchDw0Ideal.main_arg0)
      ∧ r.2.mem ((c.tc : Thread Cert.BranchDw0Ideal.nD Cert.BranchDw0Ideal.τ).loc Cert.BranchDw0Ideal.main_arg1) = m ((c.tc : Thread Cert.BranchDw0Ideal.nD Cert.BranchDw0Ideal.τ).loc Cert.BranchDw0Ideal.main_arg1))
      ∧ r.2.sem = fun _ => 0)

def quiescent_BranchDw0RefIdeal [hBranchDw0RefIdeal : Cert.BranchDw0RefIdeal.Facts] : Prop :=
  ∀ (m : (ℓ : Loc Cert.BranchDw0RefIdeal.nD Cert.BranchDw0RefIdeal.τ Cert.BranchDw0RefIdeal.sig) → Buf (Elt Ideal) ℓ) (g : Dev Cert.BranchDw0RefIdeal.nD → PrngReg), Pre_BranchDw0RefIdeal m →
    θ_run (Cert.BranchDw0RefIdeal.defs (F := Ideal)) (onTc (τ := Cert.BranchDw0RefIdeal.τ) (Cert.BranchDw0RefIdeal.main (F := Ideal))) ⟨m, fun _ => 0, g⟩ (fun r => (∀ c : Dev Cert.BranchDw0RefIdeal.nD,
      r.2.mem ((c.tc : Thread Cert.BranchDw0RefIdeal.nD Cert.BranchDw0RefIdeal.τ).loc Cert.BranchDw0RefIdeal.main_arg0) = m ((c.tc : Thread Cert.BranchDw0RefIdeal.nD Cert.BranchDw0RefIdeal.τ).loc Cert.BranchDw0RefIdeal.main_arg0)
      ∧ r.2.mem ((c.tc : Thread Cert.BranchDw0RefIdeal.nD Cert.BranchDw0RefIdeal.τ).loc Cert.BranchDw0RefIdeal.main_arg1) = m ((c.tc : Thread Cert.BranchDw0RefIdeal.nD Cert.BranchDw0RefIdeal.τ).loc Cert.BranchDw0RefIdeal.main_arg1))
      ∧ r.2.sem = fun _ => 0)

def quiescent_BranchDw1 [hBranchDw1 : Cert.BranchDw1.Facts] : Prop :=
  ∀ (m : (ℓ : Loc Cert.BranchDw1.nD Cert.BranchDw1.τ Cert.BranchDw1.sig) → Buf (Elt Bits) ℓ) (g : Dev Cert.BranchDw1.nD → PrngReg), Pre_BranchDw1 m →
    θ_run (Cert.BranchDw1.defs (F := Bits)) (onTc (τ := Cert.BranchDw1.τ) (Cert.BranchDw1.main (F := Bits))) ⟨m, fun _ => 0, g⟩ (fun r => (∀ c : Dev Cert.BranchDw1.nD,
      r.2.mem ((c.tc : Thread Cert.BranchDw1.nD Cert.BranchDw1.τ).loc Cert.BranchDw1.main_arg0) = m ((c.tc : Thread Cert.BranchDw1.nD Cert.BranchDw1.τ).loc Cert.BranchDw1.main_arg0)
      ∧ r.2.mem ((c.tc : Thread Cert.BranchDw1.nD Cert.BranchDw1.τ).loc Cert.BranchDw1.main_arg1) = m ((c.tc : Thread Cert.BranchDw1.nD Cert.BranchDw1.τ).loc Cert.BranchDw1.main_arg1))
      ∧ r.2.sem = fun _ => 0)

def quiescent_BranchDw1Ideal [hBranchDw1Ideal : Cert.BranchDw1Ideal.Facts] : Prop :=
  ∀ (m : (ℓ : Loc Cert.BranchDw1Ideal.nD Cert.BranchDw1Ideal.τ Cert.BranchDw1Ideal.sig) → Buf (Elt Ideal) ℓ) (g : Dev Cert.BranchDw1Ideal.nD → PrngReg), Pre_BranchDw1Ideal m →
    θ_run (Cert.BranchDw1Ideal.defs (F := Ideal)) (onTc (τ := Cert.BranchDw1Ideal.τ) (Cert.BranchDw1Ideal.main (F := Ideal))) ⟨m, fun _ => 0, g⟩ (fun r => (∀ c : Dev Cert.BranchDw1Ideal.nD,
      r.2.mem ((c.tc : Thread Cert.BranchDw1Ideal.nD Cert.BranchDw1Ideal.τ).loc Cert.BranchDw1Ideal.main_arg0) = m ((c.tc : Thread Cert.BranchDw1Ideal.nD Cert.BranchDw1Ideal.τ).loc Cert.BranchDw1Ideal.main_arg0)
      ∧ r.2.mem ((c.tc : Thread Cert.BranchDw1Ideal.nD Cert.BranchDw1Ideal.τ).loc Cert.BranchDw1Ideal.main_arg1) = m ((c.tc : Thread Cert.BranchDw1Ideal.nD Cert.BranchDw1Ideal.τ).loc Cert.BranchDw1Ideal.main_arg1))
      ∧ r.2.sem = fun _ => 0)

def quiescent_BranchDw1RefIdeal [hBranchDw1RefIdeal : Cert.BranchDw1RefIdeal.Facts] : Prop :=
  ∀ (m : (ℓ : Loc Cert.BranchDw1RefIdeal.nD Cert.BranchDw1RefIdeal.τ Cert.BranchDw1RefIdeal.sig) → Buf (Elt Ideal) ℓ) (g : Dev Cert.BranchDw1RefIdeal.nD → PrngReg), Pre_BranchDw1RefIdeal m →
    θ_run (Cert.BranchDw1RefIdeal.defs (F := Ideal)) (onTc (τ := Cert.BranchDw1RefIdeal.τ) (Cert.BranchDw1RefIdeal.main (F := Ideal))) ⟨m, fun _ => 0, g⟩ (fun r => (∀ c : Dev Cert.BranchDw1RefIdeal.nD,
      r.2.mem ((c.tc : Thread Cert.BranchDw1RefIdeal.nD Cert.BranchDw1RefIdeal.τ).loc Cert.BranchDw1RefIdeal.main_arg0) = m ((c.tc : Thread Cert.BranchDw1RefIdeal.nD Cert.BranchDw1RefIdeal.τ).loc Cert.BranchDw1RefIdeal.main_arg0)
      ∧ r.2.mem ((c.tc : Thread Cert.BranchDw1RefIdeal.nD Cert.BranchDw1RefIdeal.τ).loc Cert.BranchDw1RefIdeal.main_arg1) = m ((c.tc : Thread Cert.BranchDw1RefIdeal.nD Cert.BranchDw1RefIdeal.τ).loc Cert.BranchDw1RefIdeal.main_arg1))
      ∧ r.2.sem = fun _ => 0)

def quiescent_BranchDw2 [hBranchDw2 : Cert.BranchDw2.Facts] : Prop :=
  ∀ (m : (ℓ : Loc Cert.BranchDw2.nD Cert.BranchDw2.τ Cert.BranchDw2.sig) → Buf (Elt Bits) ℓ) (g : Dev Cert.BranchDw2.nD → PrngReg), Pre_BranchDw2 m →
    θ_run (Cert.BranchDw2.defs (F := Bits)) (onTc (τ := Cert.BranchDw2.τ) (Cert.BranchDw2.main (F := Bits))) ⟨m, fun _ => 0, g⟩ (fun r => (∀ c : Dev Cert.BranchDw2.nD,
      r.2.mem ((c.tc : Thread Cert.BranchDw2.nD Cert.BranchDw2.τ).loc Cert.BranchDw2.main_arg0) = m ((c.tc : Thread Cert.BranchDw2.nD Cert.BranchDw2.τ).loc Cert.BranchDw2.main_arg0)
      ∧ r.2.mem ((c.tc : Thread Cert.BranchDw2.nD Cert.BranchDw2.τ).loc Cert.BranchDw2.main_arg1) = m ((c.tc : Thread Cert.BranchDw2.nD Cert.BranchDw2.τ).loc Cert.BranchDw2.main_arg1))
      ∧ r.2.sem = fun _ => 0)

def quiescent_BranchDw2Ideal [hBranchDw2Ideal : Cert.BranchDw2Ideal.Facts] : Prop :=
  ∀ (m : (ℓ : Loc Cert.BranchDw2Ideal.nD Cert.BranchDw2Ideal.τ Cert.BranchDw2Ideal.sig) → Buf (Elt Ideal) ℓ) (g : Dev Cert.BranchDw2Ideal.nD → PrngReg), Pre_BranchDw2Ideal m →
    θ_run (Cert.BranchDw2Ideal.defs (F := Ideal)) (onTc (τ := Cert.BranchDw2Ideal.τ) (Cert.BranchDw2Ideal.main (F := Ideal))) ⟨m, fun _ => 0, g⟩ (fun r => (∀ c : Dev Cert.BranchDw2Ideal.nD,
      r.2.mem ((c.tc : Thread Cert.BranchDw2Ideal.nD Cert.BranchDw2Ideal.τ).loc Cert.BranchDw2Ideal.main_arg0) = m ((c.tc : Thread Cert.BranchDw2Ideal.nD Cert.BranchDw2Ideal.τ).loc Cert.BranchDw2Ideal.main_arg0)
      ∧ r.2.mem ((c.tc : Thread Cert.BranchDw2Ideal.nD Cert.BranchDw2Ideal.τ).loc Cert.BranchDw2Ideal.main_arg1) = m ((c.tc : Thread Cert.BranchDw2Ideal.nD Cert.BranchDw2Ideal.τ).loc Cert.BranchDw2Ideal.main_arg1))
      ∧ r.2.sem = fun _ => 0)

def quiescent_BranchDw2RefIdeal [hBranchDw2RefIdeal : Cert.BranchDw2RefIdeal.Facts] : Prop :=
  ∀ (m : (ℓ : Loc Cert.BranchDw2RefIdeal.nD Cert.BranchDw2RefIdeal.τ Cert.BranchDw2RefIdeal.sig) → Buf (Elt Ideal) ℓ) (g : Dev Cert.BranchDw2RefIdeal.nD → PrngReg), Pre_BranchDw2RefIdeal m →
    θ_run (Cert.BranchDw2RefIdeal.defs (F := Ideal)) (onTc (τ := Cert.BranchDw2RefIdeal.τ) (Cert.BranchDw2RefIdeal.main (F := Ideal))) ⟨m, fun _ => 0, g⟩ (fun r => (∀ c : Dev Cert.BranchDw2RefIdeal.nD,
      r.2.mem ((c.tc : Thread Cert.BranchDw2RefIdeal.nD Cert.BranchDw2RefIdeal.τ).loc Cert.BranchDw2RefIdeal.main_arg0) = m ((c.tc : Thread Cert.BranchDw2RefIdeal.nD Cert.BranchDw2RefIdeal.τ).loc Cert.BranchDw2RefIdeal.main_arg0)
      ∧ r.2.mem ((c.tc : Thread Cert.BranchDw2RefIdeal.nD Cert.BranchDw2RefIdeal.τ).loc Cert.BranchDw2RefIdeal.main_arg1) = m ((c.tc : Thread Cert.BranchDw2RefIdeal.nD Cert.BranchDw2RefIdeal.τ).loc Cert.BranchDw2RefIdeal.main_arg1))
      ∧ r.2.sem = fun _ => 0)

def quiescent_BranchDw3 [hBranchDw3 : Cert.BranchDw3.Facts] : Prop :=
  ∀ (m : (ℓ : Loc Cert.BranchDw3.nD Cert.BranchDw3.τ Cert.BranchDw3.sig) → Buf (Elt Bits) ℓ) (g : Dev Cert.BranchDw3.nD → PrngReg), Pre_BranchDw3 m →
    θ_run (Cert.BranchDw3.defs (F := Bits)) (onTc (τ := Cert.BranchDw3.τ) (Cert.BranchDw3.main (F := Bits))) ⟨m, fun _ => 0, g⟩ (fun r => (∀ c : Dev Cert.BranchDw3.nD,
      r.2.mem ((c.tc : Thread Cert.BranchDw3.nD Cert.BranchDw3.τ).loc Cert.BranchDw3.main_arg0) = m ((c.tc : Thread Cert.BranchDw3.nD Cert.BranchDw3.τ).loc Cert.BranchDw3.main_arg0)
      ∧ r.2.mem ((c.tc : Thread Cert.BranchDw3.nD Cert.BranchDw3.τ).loc Cert.BranchDw3.main_arg1) = m ((c.tc : Thread Cert.BranchDw3.nD Cert.BranchDw3.τ).loc Cert.BranchDw3.main_arg1))
      ∧ r.2.sem = fun _ => 0)

def quiescent_BranchDw3Ideal [hBranchDw3Ideal : Cert.BranchDw3Ideal.Facts] : Prop :=
  ∀ (m : (ℓ : Loc Cert.BranchDw3Ideal.nD Cert.BranchDw3Ideal.τ Cert.BranchDw3Ideal.sig) → Buf (Elt Ideal) ℓ) (g : Dev Cert.BranchDw3Ideal.nD → PrngReg), Pre_BranchDw3Ideal m →
    θ_run (Cert.BranchDw3Ideal.defs (F := Ideal)) (onTc (τ := Cert.BranchDw3Ideal.τ) (Cert.BranchDw3Ideal.main (F := Ideal))) ⟨m, fun _ => 0, g⟩ (fun r => (∀ c : Dev Cert.BranchDw3Ideal.nD,
      r.2.mem ((c.tc : Thread Cert.BranchDw3Ideal.nD Cert.BranchDw3Ideal.τ).loc Cert.BranchDw3Ideal.main_arg0) = m ((c.tc : Thread Cert.BranchDw3Ideal.nD Cert.BranchDw3Ideal.τ).loc Cert.BranchDw3Ideal.main_arg0)
      ∧ r.2.mem ((c.tc : Thread Cert.BranchDw3Ideal.nD Cert.BranchDw3Ideal.τ).loc Cert.BranchDw3Ideal.main_arg1) = m ((c.tc : Thread Cert.BranchDw3Ideal.nD Cert.BranchDw3Ideal.τ).loc Cert.BranchDw3Ideal.main_arg1))
      ∧ r.2.sem = fun _ => 0)

def quiescent_BranchDw3RefIdeal [hBranchDw3RefIdeal : Cert.BranchDw3RefIdeal.Facts] : Prop :=
  ∀ (m : (ℓ : Loc Cert.BranchDw3RefIdeal.nD Cert.BranchDw3RefIdeal.τ Cert.BranchDw3RefIdeal.sig) → Buf (Elt Ideal) ℓ) (g : Dev Cert.BranchDw3RefIdeal.nD → PrngReg), Pre_BranchDw3RefIdeal m →
    θ_run (Cert.BranchDw3RefIdeal.defs (F := Ideal)) (onTc (τ := Cert.BranchDw3RefIdeal.τ) (Cert.BranchDw3RefIdeal.main (F := Ideal))) ⟨m, fun _ => 0, g⟩ (fun r => (∀ c : Dev Cert.BranchDw3RefIdeal.nD,
      r.2.mem ((c.tc : Thread Cert.BranchDw3RefIdeal.nD Cert.BranchDw3RefIdeal.τ).loc Cert.BranchDw3RefIdeal.main_arg0) = m ((c.tc : Thread Cert.BranchDw3RefIdeal.nD Cert.BranchDw3RefIdeal.τ).loc Cert.BranchDw3RefIdeal.main_arg0)
      ∧ r.2.mem ((c.tc : Thread Cert.BranchDw3RefIdeal.nD Cert.BranchDw3RefIdeal.τ).loc Cert.BranchDw3RefIdeal.main_arg1) = m ((c.tc : Thread Cert.BranchDw3RefIdeal.nD Cert.BranchDw3RefIdeal.τ).loc Cert.BranchDw3RefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1)
      ∧ r.2.mem ((c.tc : Thread Cert.GluProj.nD Cert.GluProj.τ).loc Cert.GluProj.main_arg2) = m ((c.tc : Thread Cert.GluProj.nD Cert.GluProj.τ).loc Cert.GluProj.main_arg2))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
      ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1)
      ∧ r.2.mem ((c.tc : Thread Cert.GluProjRefIdeal.nD Cert.GluProjRefIdeal.τ).loc Cert.GluProjRefIdeal.main_arg2) = m ((c.tc : Thread Cert.GluProjRefIdeal.nD Cert.GluProjRefIdeal.τ).loc Cert.GluProjRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_DnConvBwd [hDnConvBwd : Cert.DnConvBwd.Facts] : Prop :=
  ∀ (m : (ℓ : Loc Cert.DnConvBwd.nD Cert.DnConvBwd.τ Cert.DnConvBwd.sig) → Buf (Elt Bits) ℓ) (g : Dev Cert.DnConvBwd.nD → PrngReg), Pre_DnConvBwd m →
    θ_run (Cert.DnConvBwd.defs (F := Bits)) (onTc (τ := Cert.DnConvBwd.τ) (Cert.DnConvBwd.main (F := Bits))) ⟨m, fun _ => 0, g⟩ (fun r => (∀ c : Dev Cert.DnConvBwd.nD,
      r.2.mem ((c.tc : Thread Cert.DnConvBwd.nD Cert.DnConvBwd.τ).loc Cert.DnConvBwd.main_arg0) = m ((c.tc : Thread Cert.DnConvBwd.nD Cert.DnConvBwd.τ).loc Cert.DnConvBwd.main_arg0)
      ∧ r.2.mem ((c.tc : Thread Cert.DnConvBwd.nD Cert.DnConvBwd.τ).loc Cert.DnConvBwd.main_arg1) = m ((c.tc : Thread Cert.DnConvBwd.nD Cert.DnConvBwd.τ).loc Cert.DnConvBwd.main_arg1)
      ∧ r.2.mem ((c.tc : Thread Cert.DnConvBwd.nD Cert.DnConvBwd.τ).loc Cert.DnConvBwd.main_arg2) = m ((c.tc : Thread Cert.DnConvBwd.nD Cert.DnConvBwd.τ).loc Cert.DnConvBwd.main_arg2))
      ∧ r.2.sem = fun _ => 0)

def quiescent_DnConvBwdIdeal [hDnConvBwdIdeal : Cert.DnConvBwdIdeal.Facts] : Prop :=
  ∀ (m : (ℓ : Loc Cert.DnConvBwdIdeal.nD Cert.DnConvBwdIdeal.τ Cert.DnConvBwdIdeal.sig) → Buf (Elt Ideal) ℓ) (g : Dev Cert.DnConvBwdIdeal.nD → PrngReg), Pre_DnConvBwdIdeal m →
    θ_run (Cert.DnConvBwdIdeal.defs (F := Ideal)) (onTc (τ := Cert.DnConvBwdIdeal.τ) (Cert.DnConvBwdIdeal.main (F := Ideal))) ⟨m, fun _ => 0, g⟩ (fun r => (∀ c : Dev Cert.DnConvBwdIdeal.nD,
      r.2.mem ((c.tc : Thread Cert.DnConvBwdIdeal.nD Cert.DnConvBwdIdeal.τ).loc Cert.DnConvBwdIdeal.main_arg0) = m ((c.tc : Thread Cert.DnConvBwdIdeal.nD Cert.DnConvBwdIdeal.τ).loc Cert.DnConvBwdIdeal.main_arg0)
      ∧ r.2.mem ((c.tc : Thread Cert.DnConvBwdIdeal.nD Cert.DnConvBwdIdeal.τ).loc Cert.DnConvBwdIdeal.main_arg1) = m ((c.tc : Thread Cert.DnConvBwdIdeal.nD Cert.DnConvBwdIdeal.τ).loc Cert.DnConvBwdIdeal.main_arg1)
      ∧ r.2.mem ((c.tc : Thread Cert.DnConvBwdIdeal.nD Cert.DnConvBwdIdeal.τ).loc Cert.DnConvBwdIdeal.main_arg2) = m ((c.tc : Thread Cert.DnConvBwdIdeal.nD Cert.DnConvBwdIdeal.τ).loc Cert.DnConvBwdIdeal.main_arg2))
      ∧ r.2.sem = fun _ => 0)

def quiescent_DnConvBwdRefIdeal [hDnConvBwdRefIdeal : Cert.DnConvBwdRefIdeal.Facts] : Prop :=
  ∀ (m : (ℓ : Loc Cert.DnConvBwdRefIdeal.nD Cert.DnConvBwdRefIdeal.τ Cert.DnConvBwdRefIdeal.sig) → Buf (Elt Ideal) ℓ) (g : Dev Cert.DnConvBwdRefIdeal.nD → PrngReg), Pre_DnConvBwdRefIdeal m →
    θ_run (Cert.DnConvBwdRefIdeal.defs (F := Ideal)) (onTc (τ := Cert.DnConvBwdRefIdeal.τ) (Cert.DnConvBwdRefIdeal.main (F := Ideal))) ⟨m, fun _ => 0, g⟩ (fun r => (∀ c : Dev Cert.DnConvBwdRefIdeal.nD,
      r.2.mem ((c.tc : Thread Cert.DnConvBwdRefIdeal.nD Cert.DnConvBwdRefIdeal.τ).loc Cert.DnConvBwdRefIdeal.main_arg0) = m ((c.tc : Thread Cert.DnConvBwdRefIdeal.nD Cert.DnConvBwdRefIdeal.τ).loc Cert.DnConvBwdRefIdeal.main_arg0)
      ∧ r.2.mem ((c.tc : Thread Cert.DnConvBwdRefIdeal.nD Cert.DnConvBwdRefIdeal.τ).loc Cert.DnConvBwdRefIdeal.main_arg1) = m ((c.tc : Thread Cert.DnConvBwdRefIdeal.nD Cert.DnConvBwdRefIdeal.τ).loc Cert.DnConvBwdRefIdeal.main_arg1)
      ∧ r.2.mem ((c.tc : Thread Cert.DnConvBwdRefIdeal.nD Cert.DnConvBwdRefIdeal.τ).loc Cert.DnConvBwdRefIdeal.main_arg2) = m ((c.tc : Thread Cert.DnConvBwdRefIdeal.nD Cert.DnConvBwdRefIdeal.τ).loc Cert.DnConvBwdRefIdeal.main_arg2))
      ∧ r.2.sem = fun _ => 0)

def quiescent_LruConvBwd [hLruConvBwd : Cert.LruConvBwd.Facts] : Prop :=
  ∀ (m : (ℓ : Loc Cert.LruConvBwd.nD Cert.LruConvBwd.τ Cert.LruConvBwd.sig) → Buf (Elt Bits) ℓ) (g : Dev Cert.LruConvBwd.nD → PrngReg), Pre_LruConvBwd m →
    θ_run (Cert.LruConvBwd.defs (F := Bits)) (onTc (τ := Cert.LruConvBwd.τ) (Cert.LruConvBwd.main (F := Bits))) ⟨m, fun _ => 0, g⟩ (fun r => (∀ c : Dev Cert.LruConvBwd.nD,
      r.2.mem ((c.tc : Thread Cert.LruConvBwd.nD Cert.LruConvBwd.τ).loc Cert.LruConvBwd.main_arg0) = m ((c.tc : Thread Cert.LruConvBwd.nD Cert.LruConvBwd.τ).loc Cert.LruConvBwd.main_arg0)
      ∧ r.2.mem ((c.tc : Thread Cert.LruConvBwd.nD Cert.LruConvBwd.τ).loc Cert.LruConvBwd.main_arg1) = m ((c.tc : Thread Cert.LruConvBwd.nD Cert.LruConvBwd.τ).loc Cert.LruConvBwd.main_arg1)
      ∧ r.2.mem ((c.tc : Thread Cert.LruConvBwd.nD Cert.LruConvBwd.τ).loc Cert.LruConvBwd.main_arg2) = m ((c.tc : Thread Cert.LruConvBwd.nD Cert.LruConvBwd.τ).loc Cert.LruConvBwd.main_arg2))
      ∧ r.2.sem = fun _ => 0)

def quiescent_LruConvBwdIdeal [hLruConvBwdIdeal : Cert.LruConvBwdIdeal.Facts] : Prop :=
  ∀ (m : (ℓ : Loc Cert.LruConvBwdIdeal.nD Cert.LruConvBwdIdeal.τ Cert.LruConvBwdIdeal.sig) → Buf (Elt Ideal) ℓ) (g : Dev Cert.LruConvBwdIdeal.nD → PrngReg), Pre_LruConvBwdIdeal m →
    θ_run (Cert.LruConvBwdIdeal.defs (F := Ideal)) (onTc (τ := Cert.LruConvBwdIdeal.τ) (Cert.LruConvBwdIdeal.main (F := Ideal))) ⟨m, fun _ => 0, g⟩ (fun r => (∀ c : Dev Cert.LruConvBwdIdeal.nD,
      r.2.mem ((c.tc : Thread Cert.LruConvBwdIdeal.nD Cert.LruConvBwdIdeal.τ).loc Cert.LruConvBwdIdeal.main_arg0) = m ((c.tc : Thread Cert.LruConvBwdIdeal.nD Cert.LruConvBwdIdeal.τ).loc Cert.LruConvBwdIdeal.main_arg0)
      ∧ r.2.mem ((c.tc : Thread Cert.LruConvBwdIdeal.nD Cert.LruConvBwdIdeal.τ).loc Cert.LruConvBwdIdeal.main_arg1) = m ((c.tc : Thread Cert.LruConvBwdIdeal.nD Cert.LruConvBwdIdeal.τ).loc Cert.LruConvBwdIdeal.main_arg1)
      ∧ r.2.mem ((c.tc : Thread Cert.LruConvBwdIdeal.nD Cert.LruConvBwdIdeal.τ).loc Cert.LruConvBwdIdeal.main_arg2) = m ((c.tc : Thread Cert.LruConvBwdIdeal.nD Cert.LruConvBwdIdeal.τ).loc Cert.LruConvBwdIdeal.main_arg2))
      ∧ r.2.sem = fun _ => 0)

def quiescent_LruConvBwdRefIdeal [hLruConvBwdRefIdeal : Cert.LruConvBwdRefIdeal.Facts] : Prop :=
  ∀ (m : (ℓ : Loc Cert.LruConvBwdRefIdeal.nD Cert.LruConvBwdRefIdeal.τ Cert.LruConvBwdRefIdeal.sig) → Buf (Elt Ideal) ℓ) (g : Dev Cert.LruConvBwdRefIdeal.nD → PrngReg), Pre_LruConvBwdRefIdeal m →
    θ_run (Cert.LruConvBwdRefIdeal.defs (F := Ideal)) (onTc (τ := Cert.LruConvBwdRefIdeal.τ) (Cert.LruConvBwdRefIdeal.main (F := Ideal))) ⟨m, fun _ => 0, g⟩ (fun r => (∀ c : Dev Cert.LruConvBwdRefIdeal.nD,
      r.2.mem ((c.tc : Thread Cert.LruConvBwdRefIdeal.nD Cert.LruConvBwdRefIdeal.τ).loc Cert.LruConvBwdRefIdeal.main_arg0) = m ((c.tc : Thread Cert.LruConvBwdRefIdeal.nD Cert.LruConvBwdRefIdeal.τ).loc Cert.LruConvBwdRefIdeal.main_arg0)
      ∧ r.2.mem ((c.tc : Thread Cert.LruConvBwdRefIdeal.nD Cert.LruConvBwdRefIdeal.τ).loc Cert.LruConvBwdRefIdeal.main_arg1) = m ((c.tc : Thread Cert.LruConvBwdRefIdeal.nD Cert.LruConvBwdRefIdeal.τ).loc Cert.LruConvBwdRefIdeal.main_arg1)
      ∧ r.2.mem ((c.tc : Thread Cert.LruConvBwdRefIdeal.nD Cert.LruConvBwdRefIdeal.τ).loc Cert.LruConvBwdRefIdeal.main_arg2) = m ((c.tc : Thread Cert.LruConvBwdRefIdeal.nD Cert.LruConvBwdRefIdeal.τ).loc Cert.LruConvBwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdRefIdeal [hMemNormFwdRefIdeal : Cert.MemNormFwdRefIdeal.Facts] : Prop :=
  ∀ (m : (ℓ : Loc Cert.MemNormFwdRefIdeal.nD Cert.MemNormFwdRefIdeal.τ Cert.MemNormFwdRefIdeal.sig) → Buf (Elt Ideal) ℓ) (g : Dev Cert.MemNormFwdRefIdeal.nD → PrngReg), Pre_MemNormFwdRefIdeal m →
    θ_run (Cert.MemNormFwdRefIdeal.defs (F := Ideal)) (onTc (τ := Cert.MemNormFwdRefIdeal.τ) (Cert.MemNormFwdRefIdeal.main (F := Ideal))) ⟨m, fun _ => 0, g⟩ (fun r => (∀ c : Dev Cert.MemNormFwdRefIdeal.nD,
      r.2.mem ((c.tc : Thread Cert.MemNormFwdRefIdeal.nD Cert.MemNormFwdRefIdeal.τ).loc Cert.MemNormFwdRefIdeal.main_arg0) = m ((c.tc : Thread Cert.MemNormFwdRefIdeal.nD Cert.MemNormFwdRefIdeal.τ).loc Cert.MemNormFwdRefIdeal.main_arg0)
      ∧ r.2.mem ((c.tc : Thread Cert.MemNormFwdRefIdeal.nD Cert.MemNormFwdRefIdeal.τ).loc Cert.MemNormFwdRefIdeal.main_arg1) = m ((c.tc : Thread Cert.MemNormFwdRefIdeal.nD Cert.MemNormFwdRefIdeal.τ).loc Cert.MemNormFwdRefIdeal.main_arg1))
      ∧ r.2.sem = fun _ => 0)

def quiescent_DnConvFwd [hDnConvFwd : Cert.DnConvFwd.Facts] : Prop :=
  ∀ (m : (ℓ : Loc Cert.DnConvFwd.nD Cert.DnConvFwd.τ Cert.DnConvFwd.sig) → Buf (Elt Bits) ℓ) (g : Dev Cert.DnConvFwd.nD → PrngReg), Pre_DnConvFwd m →
    θ_run (Cert.DnConvFwd.defs (F := Bits)) (onTc (τ := Cert.DnConvFwd.τ) (Cert.DnConvFwd.main (F := Bits))) ⟨m, fun _ => 0, g⟩ (fun r => (∀ c : Dev Cert.DnConvFwd.nD,
      r.2.mem ((c.tc : Thread Cert.DnConvFwd.nD Cert.DnConvFwd.τ).loc Cert.DnConvFwd.main_arg0) = m ((c.tc : Thread Cert.DnConvFwd.nD Cert.DnConvFwd.τ).loc Cert.DnConvFwd.main_arg0)
      ∧ r.2.mem ((c.tc : Thread Cert.DnConvFwd.nD Cert.DnConvFwd.τ).loc Cert.DnConvFwd.main_arg1) = m ((c.tc : Thread Cert.DnConvFwd.nD Cert.DnConvFwd.τ).loc Cert.DnConvFwd.main_arg1))
      ∧ r.2.sem = fun _ => 0)

def quiescent_DnConvFwdIdeal [hDnConvFwdIdeal : Cert.DnConvFwdIdeal.Facts] : Prop :=
  ∀ (m : (ℓ : Loc Cert.DnConvFwdIdeal.nD Cert.DnConvFwdIdeal.τ Cert.DnConvFwdIdeal.sig) → Buf (Elt Ideal) ℓ) (g : Dev Cert.DnConvFwdIdeal.nD → PrngReg), Pre_DnConvFwdIdeal m →
    θ_run (Cert.DnConvFwdIdeal.defs (F := Ideal)) (onTc (τ := Cert.DnConvFwdIdeal.τ) (Cert.DnConvFwdIdeal.main (F := Ideal))) ⟨m, fun _ => 0, g⟩ (fun r => (∀ c : Dev Cert.DnConvFwdIdeal.nD,
      r.2.mem ((c.tc : Thread Cert.DnConvFwdIdeal.nD Cert.DnConvFwdIdeal.τ).loc Cert.DnConvFwdIdeal.main_arg0) = m ((c.tc : Thread Cert.DnConvFwdIdeal.nD Cert.DnConvFwdIdeal.τ).loc Cert.DnConvFwdIdeal.main_arg0)
      ∧ r.2.mem ((c.tc : Thread Cert.DnConvFwdIdeal.nD Cert.DnConvFwdIdeal.τ).loc Cert.DnConvFwdIdeal.main_arg1) = m ((c.tc : Thread Cert.DnConvFwdIdeal.nD Cert.DnConvFwdIdeal.τ).loc Cert.DnConvFwdIdeal.main_arg1))
      ∧ r.2.sem = fun _ => 0)

def quiescent_DnConvFwdRefIdeal [hDnConvFwdRefIdeal : Cert.DnConvFwdRefIdeal.Facts] : Prop :=
  ∀ (m : (ℓ : Loc Cert.DnConvFwdRefIdeal.nD Cert.DnConvFwdRefIdeal.τ Cert.DnConvFwdRefIdeal.sig) → Buf (Elt Ideal) ℓ) (g : Dev Cert.DnConvFwdRefIdeal.nD → PrngReg), Pre_DnConvFwdRefIdeal m →
    θ_run (Cert.DnConvFwdRefIdeal.defs (F := Ideal)) (onTc (τ := Cert.DnConvFwdRefIdeal.τ) (Cert.DnConvFwdRefIdeal.main (F := Ideal))) ⟨m, fun _ => 0, g⟩ (fun r => (∀ c : Dev Cert.DnConvFwdRefIdeal.nD,
      r.2.mem ((c.tc : Thread Cert.DnConvFwdRefIdeal.nD Cert.DnConvFwdRefIdeal.τ).loc Cert.DnConvFwdRefIdeal.main_arg0) = m ((c.tc : Thread Cert.DnConvFwdRefIdeal.nD Cert.DnConvFwdRefIdeal.τ).loc Cert.DnConvFwdRefIdeal.main_arg0)
      ∧ r.2.mem ((c.tc : Thread Cert.DnConvFwdRefIdeal.nD Cert.DnConvFwdRefIdeal.τ).loc Cert.DnConvFwdRefIdeal.main_arg1) = m ((c.tc : Thread Cert.DnConvFwdRefIdeal.nD Cert.DnConvFwdRefIdeal.τ).loc Cert.DnConvFwdRefIdeal.main_arg1))
      ∧ r.2.sem = fun _ => 0)

def quiescent_LruConvFwd [hLruConvFwd : Cert.LruConvFwd.Facts] : Prop :=
  ∀ (m : (ℓ : Loc Cert.LruConvFwd.nD Cert.LruConvFwd.τ Cert.LruConvFwd.sig) → Buf (Elt Bits) ℓ) (g : Dev Cert.LruConvFwd.nD → PrngReg), Pre_LruConvFwd m →
    θ_run (Cert.LruConvFwd.defs (F := Bits)) (onTc (τ := Cert.LruConvFwd.τ) (Cert.LruConvFwd.main (F := Bits))) ⟨m, fun _ => 0, g⟩ (fun r => (∀ c : Dev Cert.LruConvFwd.nD,
      r.2.mem ((c.tc : Thread Cert.LruConvFwd.nD Cert.LruConvFwd.τ).loc Cert.LruConvFwd.main_arg0) = m ((c.tc : Thread Cert.LruConvFwd.nD Cert.LruConvFwd.τ).loc Cert.LruConvFwd.main_arg0)
      ∧ r.2.mem ((c.tc : Thread Cert.LruConvFwd.nD Cert.LruConvFwd.τ).loc Cert.LruConvFwd.main_arg1) = m ((c.tc : Thread Cert.LruConvFwd.nD Cert.LruConvFwd.τ).loc Cert.LruConvFwd.main_arg1)
      ∧ r.2.mem ((c.tc : Thread Cert.LruConvFwd.nD Cert.LruConvFwd.τ).loc Cert.LruConvFwd.main_arg2) = m ((c.tc : Thread Cert.LruConvFwd.nD Cert.LruConvFwd.τ).loc Cert.LruConvFwd.main_arg2))
      ∧ r.2.sem = fun _ => 0)

def quiescent_LruConvFwdIdeal [hLruConvFwdIdeal : Cert.LruConvFwdIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg), Pre_LruConvFwdIdeal m →
    θ_run (Cert.LruConvFwdIdeal.defs (F := Ideal)) (onTc (τ := Cert.LruConvFwdIdeal.τ) (Cert.LruConvFwdIdeal.main (F := Ideal))) ⟨m, fun _ => 0, g⟩ (fun r => (∀ c : Dev Cert.LruConvFwdIdeal.nD,
      r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
      ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
      ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ r.2.sem = fun _ => 0)

def quiescent_LruConvFwdRefIdeal [hLruConvFwdRefIdeal : Cert.LruConvFwdRefIdeal.Facts] : Prop :=
  ∀ (m : (ℓ : Loc Cert.LruConvFwdRefIdeal.nD Cert.LruConvFwdRefIdeal.τ Cert.LruConvFwdRefIdeal.sig) → Buf (Elt Ideal) ℓ) (g : Dev Cert.LruConvFwdRefIdeal.nD → PrngReg), Pre_LruConvFwdRefIdeal m →
    θ_run (Cert.LruConvFwdRefIdeal.defs (F := Ideal)) (onTc (τ := Cert.LruConvFwdRefIdeal.τ) (Cert.LruConvFwdRefIdeal.main (F := Ideal))) ⟨m, fun _ => 0, g⟩ (fun r => (∀ c : Dev Cert.LruConvFwdRefIdeal.nD,
      r.2.mem ((c.tc : Thread Cert.LruConvFwdRefIdeal.nD Cert.LruConvFwdRefIdeal.τ).loc Cert.LruConvFwdRefIdeal.main_arg0) = m ((c.tc : Thread Cert.LruConvFwdRefIdeal.nD Cert.LruConvFwdRefIdeal.τ).loc Cert.LruConvFwdRefIdeal.main_arg0)
      ∧ r.2.mem ((c.tc : Thread Cert.LruConvFwdRefIdeal.nD Cert.LruConvFwdRefIdeal.τ).loc Cert.LruConvFwdRefIdeal.main_arg1) = m ((c.tc : Thread Cert.LruConvFwdRefIdeal.nD Cert.LruConvFwdRefIdeal.τ).loc Cert.LruConvFwdRefIdeal.main_arg1)
      ∧ r.2.mem ((c.tc : Thread Cert.LruConvFwdRefIdeal.nD Cert.LruConvFwdRefIdeal.τ).loc Cert.LruConvFwdRefIdeal.main_arg2) = m ((c.tc : Thread Cert.LruConvFwdRefIdeal.nD Cert.LruConvFwdRefIdeal.τ).loc Cert.LruConvFwdRefIdeal.main_arg2))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWGlu [hAdamWGlu : Cert.AdamWGlu.Facts] : Prop :=
  ∀ (m : (ℓ : Loc Cert.AdamWGlu.nD Cert.AdamWGlu.τ Cert.AdamWGlu.sig) → Buf (Elt Bits) ℓ) (g : Dev Cert.AdamWGlu.nD → PrngReg), Pre_AdamWGlu m →
    θ_run (Cert.AdamWGlu.defs (F := Bits)) (onTc (τ := Cert.AdamWGlu.τ) (Cert.AdamWGlu.main (F := Bits))) ⟨m, fun _ => 0, g⟩ (fun r => (∀ c : Dev Cert.AdamWGlu.nD,
      r.2.mem ((c.tc : Thread Cert.AdamWGlu.nD Cert.AdamWGlu.τ).loc Cert.AdamWGlu.main_arg0) = m ((c.tc : Thread Cert.AdamWGlu.nD Cert.AdamWGlu.τ).loc Cert.AdamWGlu.main_arg0)
      ∧ r.2.mem ((c.tc : Thread Cert.AdamWGlu.nD Cert.AdamWGlu.τ).loc Cert.AdamWGlu.main_arg1) = m ((c.tc : Thread Cert.AdamWGlu.nD Cert.AdamWGlu.τ).loc Cert.AdamWGlu.main_arg1)
      ∧ r.2.mem ((c.tc : Thread Cert.AdamWGlu.nD Cert.AdamWGlu.τ).loc Cert.AdamWGlu.main_arg2) = m ((c.tc : Thread Cert.AdamWGlu.nD Cert.AdamWGlu.τ).loc Cert.AdamWGlu.main_arg2)
      ∧ r.2.mem ((c.tc : Thread Cert.AdamWGlu.nD Cert.AdamWGlu.τ).loc Cert.AdamWGlu.main_arg3) = m ((c.tc : Thread Cert.AdamWGlu.nD Cert.AdamWGlu.τ).loc Cert.AdamWGlu.main_arg3))
      ∧ r.2.sem = fun _ => 0)

def quiescent_AdamWGluIdeal [hAdamWGluIdeal : Cert.AdamWGluIdeal.Facts] : Prop :=
  ∀ (m : (ℓ : Loc Cert.AdamWGluIdeal.nD Cert.AdamWGluIdeal.τ Cert.AdamWGluIdeal.sig) → Buf (Elt Ideal) ℓ) (g : Dev Cert.AdamWGluIdeal.nD → PrngReg), Pre_AdamWGluIdeal m →
    θ_run (Cert.AdamWGluIdeal.defs (F := Ideal)) (onTc (τ := Cert.AdamWGluIdeal.τ) (Cert.AdamWGluIdeal.main (F := Ideal))) ⟨m, fun _ => 0, g⟩ (fun r => (∀ c : Dev Cert.AdamWGluIdeal.nD,
      r.2.mem ((c.tc : Thread Cert.AdamWGluIdeal.nD Cert.AdamWGluIdeal.τ).loc Cert.AdamWGluIdeal.main_arg0) = m ((c.tc : Thread Cert.AdamWGluIdeal.nD Cert.AdamWGluIdeal.τ).loc Cert.AdamWGluIdeal.main_arg0)
      ∧ r.2.mem ((c.tc : Thread Cert.AdamWGluIdeal.nD Cert.AdamWGluIdeal.τ).loc Cert.AdamWGluIdeal.main_arg1) = m ((c.tc : Thread Cert.AdamWGluIdeal.nD Cert.AdamWGluIdeal.τ).loc Cert.AdamWGluIdeal.main_arg1)
      ∧ r.2.mem ((c.tc : Thread Cert.AdamWGluIdeal.nD Cert.AdamWGluIdeal.τ).loc Cert.AdamWGluIdeal.main_arg2) = m ((c.tc : Thread Cert.AdamWGluIdeal.nD Cert.AdamWGluIdeal.τ).loc Cert.AdamWGluIdeal.main_arg2)
      ∧ r.2.mem ((c.tc : Thread Cert.AdamWGluIdeal.nD Cert.AdamWGluIdeal.τ).loc Cert.AdamWGluIdeal.main_arg3) = m ((c.tc : Thread Cert.AdamWGluIdeal.nD Cert.AdamWGluIdeal.τ).loc Cert.AdamWGluIdeal.main_arg3))
      ∧ r.2.sem = fun _ => 0)

def quiescent_AdamWGluRefIdeal [hAdamWGluRefIdeal : Cert.AdamWGluRefIdeal.Facts] : Prop :=
  ∀ (m : (ℓ : Loc Cert.AdamWGluRefIdeal.nD Cert.AdamWGluRefIdeal.τ Cert.AdamWGluRefIdeal.sig) → Buf (Elt Ideal) ℓ) (g : Dev Cert.AdamWGluRefIdeal.nD → PrngReg), Pre_AdamWGluRefIdeal m →
    θ_run (Cert.AdamWGluRefIdeal.defs (F := Ideal)) (onTc (τ := Cert.AdamWGluRefIdeal.τ) (Cert.AdamWGluRefIdeal.main (F := Ideal))) ⟨m, fun _ => 0, g⟩ (fun r => (∀ c : Dev Cert.AdamWGluRefIdeal.nD,
      r.2.mem ((c.tc : Thread Cert.AdamWGluRefIdeal.nD Cert.AdamWGluRefIdeal.τ).loc Cert.AdamWGluRefIdeal.main_arg0) = m ((c.tc : Thread Cert.AdamWGluRefIdeal.nD Cert.AdamWGluRefIdeal.τ).loc Cert.AdamWGluRefIdeal.main_arg0)
      ∧ r.2.mem ((c.tc : Thread Cert.AdamWGluRefIdeal.nD Cert.AdamWGluRefIdeal.τ).loc Cert.AdamWGluRefIdeal.main_arg1) = m ((c.tc : Thread Cert.AdamWGluRefIdeal.nD Cert.AdamWGluRefIdeal.τ).loc Cert.AdamWGluRefIdeal.main_arg1)
      ∧ r.2.mem ((c.tc : Thread Cert.AdamWGluRefIdeal.nD Cert.AdamWGluRefIdeal.τ).loc Cert.AdamWGluRefIdeal.main_arg2) = m ((c.tc : Thread Cert.AdamWGluRefIdeal.nD Cert.AdamWGluRefIdeal.τ).loc Cert.AdamWGluRefIdeal.main_arg2)
      ∧ r.2.mem ((c.tc : Thread Cert.AdamWGluRefIdeal.nD Cert.AdamWGluRefIdeal.τ).loc Cert.AdamWGluRefIdeal.main_arg3) = m ((c.tc : Thread Cert.AdamWGluRefIdeal.nD Cert.AdamWGluRefIdeal.τ).loc Cert.AdamWGluRefIdeal.main_arg3))
      ∧ r.2.sem = fun _ => 0)

def quiescent_AdamWKv [hAdamWKv : Cert.AdamWKv.Facts] : Prop :=
  ∀ (m : (ℓ : Loc Cert.AdamWKv.nD Cert.AdamWKv.τ Cert.AdamWKv.sig) → Buf (Elt Bits) ℓ) (g : Dev Cert.AdamWKv.nD → PrngReg), Pre_AdamWKv m →
    θ_run (Cert.AdamWKv.defs (F := Bits)) (onTc (τ := Cert.AdamWKv.τ) (Cert.AdamWKv.main (F := Bits))) ⟨m, fun _ => 0, g⟩ (fun r => (∀ c : Dev Cert.AdamWKv.nD,
      r.2.mem ((c.tc : Thread Cert.AdamWKv.nD Cert.AdamWKv.τ).loc Cert.AdamWKv.main_arg0) = m ((c.tc : Thread Cert.AdamWKv.nD Cert.AdamWKv.τ).loc Cert.AdamWKv.main_arg0)
      ∧ r.2.mem ((c.tc : Thread Cert.AdamWKv.nD Cert.AdamWKv.τ).loc Cert.AdamWKv.main_arg1) = m ((c.tc : Thread Cert.AdamWKv.nD Cert.AdamWKv.τ).loc Cert.AdamWKv.main_arg1)
      ∧ r.2.mem ((c.tc : Thread Cert.AdamWKv.nD Cert.AdamWKv.τ).loc Cert.AdamWKv.main_arg2) = m ((c.tc : Thread Cert.AdamWKv.nD Cert.AdamWKv.τ).loc Cert.AdamWKv.main_arg2)
      ∧ r.2.mem ((c.tc : Thread Cert.AdamWKv.nD Cert.AdamWKv.τ).loc Cert.AdamWKv.main_arg3) = m ((c.tc : Thread Cert.AdamWKv.nD Cert.AdamWKv.τ).loc Cert.AdamWKv.main_arg3))
      ∧ r.2.sem = fun _ => 0)

def quiescent_AdamWKvIdeal [hAdamWKvIdeal : Cert.AdamWKvIdeal.Facts] : Prop :=
  ∀ (m : (ℓ : Loc Cert.AdamWKvIdeal.nD Cert.AdamWKvIdeal.τ Cert.AdamWKvIdeal.sig) → Buf (Elt Ideal) ℓ) (g : Dev Cert.AdamWKvIdeal.nD → PrngReg), Pre_AdamWKvIdeal m →
    θ_run (Cert.AdamWKvIdeal.defs (F := Ideal)) (onTc (τ := Cert.AdamWKvIdeal.τ) (Cert.AdamWKvIdeal.main (F := Ideal))) ⟨m, fun _ => 0, g⟩ (fun r => (∀ c : Dev Cert.AdamWKvIdeal.nD,
      r.2.mem ((c.tc : Thread Cert.AdamWKvIdeal.nD Cert.AdamWKvIdeal.τ).loc Cert.AdamWKvIdeal.main_arg0) = m ((c.tc : Thread Cert.AdamWKvIdeal.nD Cert.AdamWKvIdeal.τ).loc Cert.AdamWKvIdeal.main_arg0)
      ∧ r.2.mem ((c.tc : Thread Cert.AdamWKvIdeal.nD Cert.AdamWKvIdeal.τ).loc Cert.AdamWKvIdeal.main_arg1) = m ((c.tc : Thread Cert.AdamWKvIdeal.nD Cert.AdamWKvIdeal.τ).loc Cert.AdamWKvIdeal.main_arg1)
      ∧ r.2.mem ((c.tc : Thread Cert.AdamWKvIdeal.nD Cert.AdamWKvIdeal.τ).loc Cert.AdamWKvIdeal.main_arg2) = m ((c.tc : Thread Cert.AdamWKvIdeal.nD Cert.AdamWKvIdeal.τ).loc Cert.AdamWKvIdeal.main_arg2)
      ∧ r.2.mem ((c.tc : Thread Cert.AdamWKvIdeal.nD Cert.AdamWKvIdeal.τ).loc Cert.AdamWKvIdeal.main_arg3) = m ((c.tc : Thread Cert.AdamWKvIdeal.nD Cert.AdamWKvIdeal.τ).loc Cert.AdamWKvIdeal.main_arg3))
      ∧ r.2.sem = fun _ => 0)

def quiescent_AdamWKvRefIdeal [hAdamWKvRefIdeal : Cert.AdamWKvRefIdeal.Facts] : Prop :=
  ∀ (m : (ℓ : Loc Cert.AdamWKvRefIdeal.nD Cert.AdamWKvRefIdeal.τ Cert.AdamWKvRefIdeal.sig) → Buf (Elt Ideal) ℓ) (g : Dev Cert.AdamWKvRefIdeal.nD → PrngReg), Pre_AdamWKvRefIdeal m →
    θ_run (Cert.AdamWKvRefIdeal.defs (F := Ideal)) (onTc (τ := Cert.AdamWKvRefIdeal.τ) (Cert.AdamWKvRefIdeal.main (F := Ideal))) ⟨m, fun _ => 0, g⟩ (fun r => (∀ c : Dev Cert.AdamWKvRefIdeal.nD,
      r.2.mem ((c.tc : Thread Cert.AdamWKvRefIdeal.nD Cert.AdamWKvRefIdeal.τ).loc Cert.AdamWKvRefIdeal.main_arg0) = m ((c.tc : Thread Cert.AdamWKvRefIdeal.nD Cert.AdamWKvRefIdeal.τ).loc Cert.AdamWKvRefIdeal.main_arg0)
      ∧ r.2.mem ((c.tc : Thread Cert.AdamWKvRefIdeal.nD Cert.AdamWKvRefIdeal.τ).loc Cert.AdamWKvRefIdeal.main_arg1) = m ((c.tc : Thread Cert.AdamWKvRefIdeal.nD Cert.AdamWKvRefIdeal.τ).loc Cert.AdamWKvRefIdeal.main_arg1)
      ∧ r.2.mem ((c.tc : Thread Cert.AdamWKvRefIdeal.nD Cert.AdamWKvRefIdeal.τ).loc Cert.AdamWKvRefIdeal.main_arg2) = m ((c.tc : Thread Cert.AdamWKvRefIdeal.nD Cert.AdamWKvRefIdeal.τ).loc Cert.AdamWKvRefIdeal.main_arg2)
      ∧ r.2.mem ((c.tc : Thread Cert.AdamWKvRefIdeal.nD Cert.AdamWKvRefIdeal.τ).loc Cert.AdamWKvRefIdeal.main_arg3) = m ((c.tc : Thread Cert.AdamWKvRefIdeal.nD Cert.AdamWKvRefIdeal.τ).loc Cert.AdamWKvRefIdeal.main_arg3))
      ∧ r.2.sem = fun _ => 0)

def quiescent_AdamWGate [hAdamWGate : Cert.AdamWGate.Facts] : Prop :=
  ∀ (m : (ℓ : Loc Cert.AdamWGate.nD Cert.AdamWGate.τ Cert.AdamWGate.sig) → Buf (Elt Bits) ℓ) (g : Dev Cert.AdamWGate.nD → PrngReg), Pre_AdamWGate m →
    θ_run (Cert.AdamWGate.defs (F := Bits)) (onTc (τ := Cert.AdamWGate.τ) (Cert.AdamWGate.main (F := Bits))) ⟨m, fun _ => 0, g⟩ (fun r => (∀ c : Dev Cert.AdamWGate.nD,
      r.2.mem ((c.tc : Thread Cert.AdamWGate.nD Cert.AdamWGate.τ).loc Cert.AdamWGate.main_arg0) = m ((c.tc : Thread Cert.AdamWGate.nD Cert.AdamWGate.τ).loc Cert.AdamWGate.main_arg0)
      ∧ r.2.mem ((c.tc : Thread Cert.AdamWGate.nD Cert.AdamWGate.τ).loc Cert.AdamWGate.main_arg1) = m ((c.tc : Thread Cert.AdamWGate.nD Cert.AdamWGate.τ).loc Cert.AdamWGate.main_arg1)
      ∧ r.2.mem ((c.tc : Thread Cert.AdamWGate.nD Cert.AdamWGate.τ).loc Cert.AdamWGate.main_arg2) = m ((c.tc : Thread Cert.AdamWGate.nD Cert.AdamWGate.τ).loc Cert.AdamWGate.main_arg2)
      ∧ r.2.mem ((c.tc : Thread Cert.AdamWGate.nD Cert.AdamWGate.τ).loc Cert.AdamWGate.main_arg3) = m ((c.tc : Thread Cert.AdamWGate.nD Cert.AdamWGate.τ).loc Cert.AdamWGate.main_arg3))
      ∧ r.2.sem = fun _ => 0)

def quiescent_AdamWGateIdeal [hAdamWGateIdeal : Cert.AdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg), Pre_AdamWGateIdeal m →
    θ_run (Cert.AdamWGateIdeal.defs (F := Ideal)) (onTc (τ := Cert.AdamWGateIdeal.τ) (Cert.AdamWGateIdeal.main (F := Ideal))) ⟨m, fun _ => 0, g⟩ (fun r => (∀ c : Dev Cert.AdamWGateIdeal.nD,
      r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
      ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
      ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
      ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ r.2.sem = fun _ => 0)

def quiescent_AdamWGateRefIdeal [hAdamWGateRefIdeal : Cert.AdamWGateRefIdeal.Facts] : Prop :=
  ∀ (m : (ℓ : Loc Cert.AdamWGateRefIdeal.nD Cert.AdamWGateRefIdeal.τ Cert.AdamWGateRefIdeal.sig) → Buf (Elt Ideal) ℓ) (g : Dev Cert.AdamWGateRefIdeal.nD → PrngReg), Pre_AdamWGateRefIdeal m →
    θ_run (Cert.AdamWGateRefIdeal.defs (F := Ideal)) (onTc (τ := Cert.AdamWGateRefIdeal.τ) (Cert.AdamWGateRefIdeal.main (F := Ideal))) ⟨m, fun _ => 0, g⟩ (fun r => (∀ c : Dev Cert.AdamWGateRefIdeal.nD,
      r.2.mem ((c.tc : Thread Cert.AdamWGateRefIdeal.nD Cert.AdamWGateRefIdeal.τ).loc Cert.AdamWGateRefIdeal.main_arg0) = m ((c.tc : Thread Cert.AdamWGateRefIdeal.nD Cert.AdamWGateRefIdeal.τ).loc Cert.AdamWGateRefIdeal.main_arg0)
      ∧ r.2.mem ((c.tc : Thread Cert.AdamWGateRefIdeal.nD Cert.AdamWGateRefIdeal.τ).loc Cert.AdamWGateRefIdeal.main_arg1) = m ((c.tc : Thread Cert.AdamWGateRefIdeal.nD Cert.AdamWGateRefIdeal.τ).loc Cert.AdamWGateRefIdeal.main_arg1)
      ∧ r.2.mem ((c.tc : Thread Cert.AdamWGateRefIdeal.nD Cert.AdamWGateRefIdeal.τ).loc Cert.AdamWGateRefIdeal.main_arg2) = m ((c.tc : Thread Cert.AdamWGateRefIdeal.nD Cert.AdamWGateRefIdeal.τ).loc Cert.AdamWGateRefIdeal.main_arg2)
      ∧ r.2.mem ((c.tc : Thread Cert.AdamWGateRefIdeal.nD Cert.AdamWGateRefIdeal.τ).loc Cert.AdamWGateRefIdeal.main_arg3) = m ((c.tc : Thread Cert.AdamWGateRefIdeal.nD Cert.AdamWGateRefIdeal.τ).loc Cert.AdamWGateRefIdeal.main_arg3))
      ∧ r.2.sem = fun _ => 0)

def quiescent_AdamWBranch [hAdamWBranch : Cert.AdamWBranch.Facts] : Prop :=
  ∀ (m : (ℓ : Loc Cert.AdamWBranch.nD Cert.AdamWBranch.τ Cert.AdamWBranch.sig) → Buf (Elt Bits) ℓ) (g : Dev Cert.AdamWBranch.nD → PrngReg), Pre_AdamWBranch m →
    θ_run (Cert.AdamWBranch.defs (F := Bits)) (onTc (τ := Cert.AdamWBranch.τ) (Cert.AdamWBranch.main (F := Bits))) ⟨m, fun _ => 0, g⟩ (fun r => (∀ c : Dev Cert.AdamWBranch.nD,
      r.2.mem ((c.tc : Thread Cert.AdamWBranch.nD Cert.AdamWBranch.τ).loc Cert.AdamWBranch.main_arg0) = m ((c.tc : Thread Cert.AdamWBranch.nD Cert.AdamWBranch.τ).loc Cert.AdamWBranch.main_arg0)
      ∧ r.2.mem ((c.tc : Thread Cert.AdamWBranch.nD Cert.AdamWBranch.τ).loc Cert.AdamWBranch.main_arg1) = m ((c.tc : Thread Cert.AdamWBranch.nD Cert.AdamWBranch.τ).loc Cert.AdamWBranch.main_arg1)
      ∧ r.2.mem ((c.tc : Thread Cert.AdamWBranch.nD Cert.AdamWBranch.τ).loc Cert.AdamWBranch.main_arg2) = m ((c.tc : Thread Cert.AdamWBranch.nD Cert.AdamWBranch.τ).loc Cert.AdamWBranch.main_arg2)
      ∧ r.2.mem ((c.tc : Thread Cert.AdamWBranch.nD Cert.AdamWBranch.τ).loc Cert.AdamWBranch.main_arg3) = m ((c.tc : Thread Cert.AdamWBranch.nD Cert.AdamWBranch.τ).loc Cert.AdamWBranch.main_arg3))
      ∧ r.2.sem = fun _ => 0)

def quiescent_AdamWBranchIdeal [hAdamWBranchIdeal : Cert.AdamWBranchIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg), Pre_AdamWBranchIdeal m →
    θ_run (Cert.AdamWBranchIdeal.defs (F := Ideal)) (onTc (τ := Cert.AdamWBranchIdeal.τ) (Cert.AdamWBranchIdeal.main (F := Ideal))) ⟨m, fun _ => 0, g⟩ (fun r => (∀ c : Dev Cert.AdamWBranchIdeal.nD,
      r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
      ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
      ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
      ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ r.2.sem = fun _ => 0)

def quiescent_AdamWBranchRefIdeal [hAdamWBranchRefIdeal : Cert.AdamWBranchRefIdeal.Facts] : Prop :=
  ∀ (m : (ℓ : Loc Cert.AdamWBranchRefIdeal.nD Cert.AdamWBranchRefIdeal.τ Cert.AdamWBranchRefIdeal.sig) → Buf (Elt Ideal) ℓ) (g : Dev Cert.AdamWBranchRefIdeal.nD → PrngReg), Pre_AdamWBranchRefIdeal m →
    θ_run (Cert.AdamWBranchRefIdeal.defs (F := Ideal)) (onTc (τ := Cert.AdamWBranchRefIdeal.τ) (Cert.AdamWBranchRefIdeal.main (F := Ideal))) ⟨m, fun _ => 0, g⟩ (fun r => (∀ c : Dev Cert.AdamWBranchRefIdeal.nD,
      r.2.mem ((c.tc : Thread Cert.AdamWBranchRefIdeal.nD Cert.AdamWBranchRefIdeal.τ).loc Cert.AdamWBranchRefIdeal.main_arg0) = m ((c.tc : Thread Cert.AdamWBranchRefIdeal.nD Cert.AdamWBranchRefIdeal.τ).loc Cert.AdamWBranchRefIdeal.main_arg0)
      ∧ r.2.mem ((c.tc : Thread Cert.AdamWBranchRefIdeal.nD Cert.AdamWBranchRefIdeal.τ).loc Cert.AdamWBranchRefIdeal.main_arg1) = m ((c.tc : Thread Cert.AdamWBranchRefIdeal.nD Cert.AdamWBranchRefIdeal.τ).loc Cert.AdamWBranchRefIdeal.main_arg1)
      ∧ r.2.mem ((c.tc : Thread Cert.AdamWBranchRefIdeal.nD Cert.AdamWBranchRefIdeal.τ).loc Cert.AdamWBranchRefIdeal.main_arg2) = m ((c.tc : Thread Cert.AdamWBranchRefIdeal.nD Cert.AdamWBranchRefIdeal.τ).loc Cert.AdamWBranchRefIdeal.main_arg2)
      ∧ r.2.mem ((c.tc : Thread Cert.AdamWBranchRefIdeal.nD Cert.AdamWBranchRefIdeal.τ).loc Cert.AdamWBranchRefIdeal.main_arg3) = m ((c.tc : Thread Cert.AdamWBranchRefIdeal.nD Cert.AdamWBranchRefIdeal.τ).loc Cert.AdamWBranchRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumPair [hSumPair : Cert.SumPair.Facts] : Prop :=
  ∀ (m : (ℓ : Loc Cert.SumPair.nD Cert.SumPair.τ Cert.SumPair.sig) → Buf (Elt Bits) ℓ) (g : Dev Cert.SumPair.nD → PrngReg), Pre_SumPair m →
    θ_run (Cert.SumPair.defs (F := Bits)) (onTc (τ := Cert.SumPair.τ) (Cert.SumPair.main (F := Bits))) ⟨m, fun _ => 0, g⟩ (fun r => (∀ c : Dev Cert.SumPair.nD,
      r.2.mem ((c.tc : Thread Cert.SumPair.nD Cert.SumPair.τ).loc Cert.SumPair.main_arg0) = m ((c.tc : Thread Cert.SumPair.nD Cert.SumPair.τ).loc Cert.SumPair.main_arg0)
      ∧ r.2.mem ((c.tc : Thread Cert.SumPair.nD Cert.SumPair.τ).loc Cert.SumPair.main_arg1) = m ((c.tc : Thread Cert.SumPair.nD Cert.SumPair.τ).loc Cert.SumPair.main_arg1))
      ∧ r.2.sem = fun _ => 0)

def quiescent_SumPairIdeal [hSumPairIdeal : Cert.SumPairIdeal.Facts] : Prop :=
  ∀ (m : (ℓ : Loc Cert.SumPairIdeal.nD Cert.SumPairIdeal.τ Cert.SumPairIdeal.sig) → Buf (Elt Ideal) ℓ) (g : Dev Cert.SumPairIdeal.nD → PrngReg), Pre_SumPairIdeal m →
    θ_run (Cert.SumPairIdeal.defs (F := Ideal)) (onTc (τ := Cert.SumPairIdeal.τ) (Cert.SumPairIdeal.main (F := Ideal))) ⟨m, fun _ => 0, g⟩ (fun r => (∀ c : Dev Cert.SumPairIdeal.nD,
      r.2.mem ((c.tc : Thread Cert.SumPairIdeal.nD Cert.SumPairIdeal.τ).loc Cert.SumPairIdeal.main_arg0) = m ((c.tc : Thread Cert.SumPairIdeal.nD Cert.SumPairIdeal.τ).loc Cert.SumPairIdeal.main_arg0)
      ∧ r.2.mem ((c.tc : Thread Cert.SumPairIdeal.nD Cert.SumPairIdeal.τ).loc Cert.SumPairIdeal.main_arg1) = m ((c.tc : Thread Cert.SumPairIdeal.nD Cert.SumPairIdeal.τ).loc Cert.SumPairIdeal.main_arg1))
      ∧ r.2.sem = fun _ => 0)

def quiescent_SumPairRefIdeal [hSumPairRefIdeal : Cert.SumPairRefIdeal.Facts] : Prop :=
  ∀ (m : (ℓ : Loc Cert.SumPairRefIdeal.nD Cert.SumPairRefIdeal.τ Cert.SumPairRefIdeal.sig) → Buf (Elt Ideal) ℓ) (g : Dev Cert.SumPairRefIdeal.nD → PrngReg), Pre_SumPairRefIdeal m →
    θ_run (Cert.SumPairRefIdeal.defs (F := Ideal)) (onTc (τ := Cert.SumPairRefIdeal.τ) (Cert.SumPairRefIdeal.main (F := Ideal))) ⟨m, fun _ => 0, g⟩ (fun r => (∀ c : Dev Cert.SumPairRefIdeal.nD,
      r.2.mem ((c.tc : Thread Cert.SumPairRefIdeal.nD Cert.SumPairRefIdeal.τ).loc Cert.SumPairRefIdeal.main_arg0) = m ((c.tc : Thread Cert.SumPairRefIdeal.nD Cert.SumPairRefIdeal.τ).loc Cert.SumPairRefIdeal.main_arg0)
      ∧ r.2.mem ((c.tc : Thread Cert.SumPairRefIdeal.nD Cert.SumPairRefIdeal.τ).loc Cert.SumPairRefIdeal.main_arg1) = m ((c.tc : Thread Cert.SumPairRefIdeal.nD Cert.SumPairRefIdeal.τ).loc Cert.SumPairRefIdeal.main_arg1))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0))
      ∧ r.2.sem = fun _ => 0)

def preserves_AttnBwd_AttnBwdIdeal : Prop :=
  True

def algebraic_AttnBwdIdeal_AttnRefIdeal [hAttnBwdIdeal : Cert.AttnBwdIdeal.Facts] [hAttnRefIdeal : Cert.AttnRefIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v62) = v0 c
          ∧ r.2.mem ((c.tc : Thread Cert.AttnRefIdeal.nD Cert.AttnRefIdeal.τ).loc Cert.AttnRefIdeal.main_v63) = v1 c
          ∧ r.2.mem ((c.tc : Thread Cert.AttnRefIdeal.nD Cert.AttnRefIdeal.τ).loc Cert.AttnRefIdeal.main_v61) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)
      ∧ m' ((c.tc : Thread Cert.MergeRefIdeal.nD Cert.MergeRefIdeal.τ).loc Cert.MergeRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_v26) = v1 c
          ∧ r.2.mem ((c.tc : Thread Cert.MergeRefIdeal.nD Cert.MergeRefIdeal.τ).loc Cert.MergeRefIdeal.main_v28) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_GateDx0_GateDx0Ideal : Prop :=
  True

def algebraic_GateDx0Ideal_GateDx0RefIdeal [hGateDx0Ideal : Cert.GateDx0Ideal.Facts] [hGateDx0RefIdeal : Cert.GateDx0RefIdeal.Facts] : Prop :=
  ∀ (m : (ℓ : Loc Cert.GateDx0Ideal.nD Cert.GateDx0Ideal.τ Cert.GateDx0Ideal.sig) → Buf (Elt Ideal) ℓ) (g : Dev Cert.GateDx0Ideal.nD → PrngReg)
    (m' : (ℓ : Loc Cert.GateDx0RefIdeal.nD Cert.GateDx0RefIdeal.τ Cert.GateDx0RefIdeal.sig) → Buf (Elt Ideal) ℓ) (g' : Dev Cert.GateDx0RefIdeal.nD → PrngReg), Pre_GateDx0Ideal m →
    (∀ c : Dev Cert.GateDx0Ideal.nD,
      m' ((c.tc : Thread Cert.GateDx0RefIdeal.nD Cert.GateDx0RefIdeal.τ).loc Cert.GateDx0RefIdeal.main_arg0) = m ((c.tc : Thread Cert.GateDx0Ideal.nD Cert.GateDx0Ideal.τ).loc Cert.GateDx0Ideal.main_arg0)
      ∧ m' ((c.tc : Thread Cert.GateDx0RefIdeal.nD Cert.GateDx0RefIdeal.τ).loc Cert.GateDx0RefIdeal.main_arg1) = m ((c.tc : Thread Cert.GateDx0Ideal.nD Cert.GateDx0Ideal.τ).loc Cert.GateDx0Ideal.main_arg1)) →
    ∃ (v0 : (c : Dev Cert.GateDx0Ideal.nD) → Buf (Elt Ideal) ((c.tc : Thread Cert.GateDx0Ideal.nD Cert.GateDx0Ideal.τ).loc Cert.GateDx0Ideal.main_v0)),
      θ_run (Cert.GateDx0Ideal.defs (F := Ideal)) (onTc (τ := Cert.GateDx0Ideal.τ) (Cert.GateDx0Ideal.main (F := Ideal))) ⟨m, fun _ => 0, g⟩ (fun r => ∀ c : Dev Cert.GateDx0Ideal.nD,
          r.2.mem ((c.tc : Thread Cert.GateDx0Ideal.nD Cert.GateDx0Ideal.τ).loc Cert.GateDx0Ideal.main_v0) = v0 c
          ∧ r.2.mem ((c.tc : Thread Cert.GateDx0Ideal.nD Cert.GateDx0Ideal.τ).loc Cert.GateDx0Ideal.main_arg0) = m ((c.tc : Thread Cert.GateDx0Ideal.nD Cert.GateDx0Ideal.τ).loc Cert.GateDx0Ideal.main_arg0)
          ∧ r.2.mem ((c.tc : Thread Cert.GateDx0Ideal.nD Cert.GateDx0Ideal.τ).loc Cert.GateDx0Ideal.main_arg1) = m ((c.tc : Thread Cert.GateDx0Ideal.nD Cert.GateDx0Ideal.τ).loc Cert.GateDx0Ideal.main_arg1))
      ∧ θ_run (Cert.GateDx0RefIdeal.defs (F := Ideal)) (onTc (τ := Cert.GateDx0RefIdeal.τ) (Cert.GateDx0RefIdeal.main (F := Ideal))) ⟨m', fun _ => 0, g'⟩ (fun r => ∀ c : Dev Cert.GateDx0RefIdeal.nD,
          r.2.mem ((c.tc : Thread Cert.GateDx0RefIdeal.nD Cert.GateDx0RefIdeal.τ).loc Cert.GateDx0RefIdeal.main_v8) = v0 c
          ∧ r.2.mem ((c.tc : Thread Cert.GateDx0RefIdeal.nD Cert.GateDx0RefIdeal.τ).loc Cert.GateDx0RefIdeal.main_arg0) = m' ((c.tc : Thread Cert.GateDx0RefIdeal.nD Cert.GateDx0RefIdeal.τ).loc Cert.GateDx0RefIdeal.main_arg0)
          ∧ r.2.mem ((c.tc : Thread Cert.GateDx0RefIdeal.nD Cert.GateDx0RefIdeal.τ).loc Cert.GateDx0RefIdeal.main_arg1) = m' ((c.tc : Thread Cert.GateDx0RefIdeal.nD Cert.GateDx0RefIdeal.τ).loc Cert.GateDx0RefIdeal.main_arg1))

def preserves_GateDx1_GateDx1Ideal : Prop :=
  True

def algebraic_GateDx1Ideal_GateDx1RefIdeal [hGateDx1Ideal : Cert.GateDx1Ideal.Facts] [hGateDx1RefIdeal : Cert.GateDx1RefIdeal.Facts] : Prop :=
  ∀ (m : (ℓ : Loc Cert.GateDx1Ideal.nD Cert.GateDx1Ideal.τ Cert.GateDx1Ideal.sig) → Buf (Elt Ideal) ℓ) (g : Dev Cert.GateDx1Ideal.nD → PrngReg)
    (m' : (ℓ : Loc Cert.GateDx1RefIdeal.nD Cert.GateDx1RefIdeal.τ Cert.GateDx1RefIdeal.sig) → Buf (Elt Ideal) ℓ) (g' : Dev Cert.GateDx1RefIdeal.nD → PrngReg), Pre_GateDx1Ideal m →
    (∀ c : Dev Cert.GateDx1Ideal.nD,
      m' ((c.tc : Thread Cert.GateDx1RefIdeal.nD Cert.GateDx1RefIdeal.τ).loc Cert.GateDx1RefIdeal.main_arg0) = m ((c.tc : Thread Cert.GateDx1Ideal.nD Cert.GateDx1Ideal.τ).loc Cert.GateDx1Ideal.main_arg0)
      ∧ m' ((c.tc : Thread Cert.GateDx1RefIdeal.nD Cert.GateDx1RefIdeal.τ).loc Cert.GateDx1RefIdeal.main_arg1) = m ((c.tc : Thread Cert.GateDx1Ideal.nD Cert.GateDx1Ideal.τ).loc Cert.GateDx1Ideal.main_arg1)
      ∧ m' ((c.tc : Thread Cert.GateDx1RefIdeal.nD Cert.GateDx1RefIdeal.τ).loc Cert.GateDx1RefIdeal.main_arg2) = m ((c.tc : Thread Cert.GateDx1Ideal.nD Cert.GateDx1Ideal.τ).loc Cert.GateDx1Ideal.main_arg2)) →
    ∃ (v0 : (c : Dev Cert.GateDx1Ideal.nD) → Buf (Elt Ideal) ((c.tc : Thread Cert.GateDx1Ideal.nD Cert.GateDx1Ideal.τ).loc Cert.GateDx1Ideal.main_v0)),
      θ_run (Cert.GateDx1Ideal.defs (F := Ideal)) (onTc (τ := Cert.GateDx1Ideal.τ) (Cert.GateDx1Ideal.main (F := Ideal))) ⟨m, fun _ => 0, g⟩ (fun r => ∀ c : Dev Cert.GateDx1Ideal.nD,
          r.2.mem ((c.tc : Thread Cert.GateDx1Ideal.nD Cert.GateDx1Ideal.τ).loc Cert.GateDx1Ideal.main_v0) = v0 c
          ∧ r.2.mem ((c.tc : Thread Cert.GateDx1Ideal.nD Cert.GateDx1Ideal.τ).loc Cert.GateDx1Ideal.main_arg0) = m ((c.tc : Thread Cert.GateDx1Ideal.nD Cert.GateDx1Ideal.τ).loc Cert.GateDx1Ideal.main_arg0)
          ∧ r.2.mem ((c.tc : Thread Cert.GateDx1Ideal.nD Cert.GateDx1Ideal.τ).loc Cert.GateDx1Ideal.main_arg1) = m ((c.tc : Thread Cert.GateDx1Ideal.nD Cert.GateDx1Ideal.τ).loc Cert.GateDx1Ideal.main_arg1)
          ∧ r.2.mem ((c.tc : Thread Cert.GateDx1Ideal.nD Cert.GateDx1Ideal.τ).loc Cert.GateDx1Ideal.main_arg2) = m ((c.tc : Thread Cert.GateDx1Ideal.nD Cert.GateDx1Ideal.τ).loc Cert.GateDx1Ideal.main_arg2))
      ∧ θ_run (Cert.GateDx1RefIdeal.defs (F := Ideal)) (onTc (τ := Cert.GateDx1RefIdeal.τ) (Cert.GateDx1RefIdeal.main (F := Ideal))) ⟨m', fun _ => 0, g'⟩ (fun r => ∀ c : Dev Cert.GateDx1RefIdeal.nD,
          r.2.mem ((c.tc : Thread Cert.GateDx1RefIdeal.nD Cert.GateDx1RefIdeal.τ).loc Cert.GateDx1RefIdeal.main_v9) = v0 c
          ∧ r.2.mem ((c.tc : Thread Cert.GateDx1RefIdeal.nD Cert.GateDx1RefIdeal.τ).loc Cert.GateDx1RefIdeal.main_arg0) = m' ((c.tc : Thread Cert.GateDx1RefIdeal.nD Cert.GateDx1RefIdeal.τ).loc Cert.GateDx1RefIdeal.main_arg0)
          ∧ r.2.mem ((c.tc : Thread Cert.GateDx1RefIdeal.nD Cert.GateDx1RefIdeal.τ).loc Cert.GateDx1RefIdeal.main_arg1) = m' ((c.tc : Thread Cert.GateDx1RefIdeal.nD Cert.GateDx1RefIdeal.τ).loc Cert.GateDx1RefIdeal.main_arg1)
          ∧ r.2.mem ((c.tc : Thread Cert.GateDx1RefIdeal.nD Cert.GateDx1RefIdeal.τ).loc Cert.GateDx1RefIdeal.main_arg2) = m' ((c.tc : Thread Cert.GateDx1RefIdeal.nD Cert.GateDx1RefIdeal.τ).loc Cert.GateDx1RefIdeal.main_arg2))

def preserves_GateDx2_GateDx2Ideal : Prop :=
  True

def algebraic_GateDx2Ideal_GateDx2RefIdeal [hGateDx2Ideal : Cert.GateDx2Ideal.Facts] [hGateDx2RefIdeal : Cert.GateDx2RefIdeal.Facts] : Prop :=
  ∀ (m : (ℓ : Loc Cert.GateDx2Ideal.nD Cert.GateDx2Ideal.τ Cert.GateDx2Ideal.sig) → Buf (Elt Ideal) ℓ) (g : Dev Cert.GateDx2Ideal.nD → PrngReg)
    (m' : (ℓ : Loc Cert.GateDx2RefIdeal.nD Cert.GateDx2RefIdeal.τ Cert.GateDx2RefIdeal.sig) → Buf (Elt Ideal) ℓ) (g' : Dev Cert.GateDx2RefIdeal.nD → PrngReg), Pre_GateDx2Ideal m →
    (∀ c : Dev Cert.GateDx2Ideal.nD,
      m' ((c.tc : Thread Cert.GateDx2RefIdeal.nD Cert.GateDx2RefIdeal.τ).loc Cert.GateDx2RefIdeal.main_arg0) = m ((c.tc : Thread Cert.GateDx2Ideal.nD Cert.GateDx2Ideal.τ).loc Cert.GateDx2Ideal.main_arg0)
      ∧ m' ((c.tc : Thread Cert.GateDx2RefIdeal.nD Cert.GateDx2RefIdeal.τ).loc Cert.GateDx2RefIdeal.main_arg1) = m ((c.tc : Thread Cert.GateDx2Ideal.nD Cert.GateDx2Ideal.τ).loc Cert.GateDx2Ideal.main_arg1)
      ∧ m' ((c.tc : Thread Cert.GateDx2RefIdeal.nD Cert.GateDx2RefIdeal.τ).loc Cert.GateDx2RefIdeal.main_arg2) = m ((c.tc : Thread Cert.GateDx2Ideal.nD Cert.GateDx2Ideal.τ).loc Cert.GateDx2Ideal.main_arg2)) →
    ∃ (v0 : (c : Dev Cert.GateDx2Ideal.nD) → Buf (Elt Ideal) ((c.tc : Thread Cert.GateDx2Ideal.nD Cert.GateDx2Ideal.τ).loc Cert.GateDx2Ideal.main_v0)),
      θ_run (Cert.GateDx2Ideal.defs (F := Ideal)) (onTc (τ := Cert.GateDx2Ideal.τ) (Cert.GateDx2Ideal.main (F := Ideal))) ⟨m, fun _ => 0, g⟩ (fun r => ∀ c : Dev Cert.GateDx2Ideal.nD,
          r.2.mem ((c.tc : Thread Cert.GateDx2Ideal.nD Cert.GateDx2Ideal.τ).loc Cert.GateDx2Ideal.main_v0) = v0 c
          ∧ r.2.mem ((c.tc : Thread Cert.GateDx2Ideal.nD Cert.GateDx2Ideal.τ).loc Cert.GateDx2Ideal.main_arg0) = m ((c.tc : Thread Cert.GateDx2Ideal.nD Cert.GateDx2Ideal.τ).loc Cert.GateDx2Ideal.main_arg0)
          ∧ r.2.mem ((c.tc : Thread Cert.GateDx2Ideal.nD Cert.GateDx2Ideal.τ).loc Cert.GateDx2Ideal.main_arg1) = m ((c.tc : Thread Cert.GateDx2Ideal.nD Cert.GateDx2Ideal.τ).loc Cert.GateDx2Ideal.main_arg1)
          ∧ r.2.mem ((c.tc : Thread Cert.GateDx2Ideal.nD Cert.GateDx2Ideal.τ).loc Cert.GateDx2Ideal.main_arg2) = m ((c.tc : Thread Cert.GateDx2Ideal.nD Cert.GateDx2Ideal.τ).loc Cert.GateDx2Ideal.main_arg2))
      ∧ θ_run (Cert.GateDx2RefIdeal.defs (F := Ideal)) (onTc (τ := Cert.GateDx2RefIdeal.τ) (Cert.GateDx2RefIdeal.main (F := Ideal))) ⟨m', fun _ => 0, g'⟩ (fun r => ∀ c : Dev Cert.GateDx2RefIdeal.nD,
          r.2.mem ((c.tc : Thread Cert.GateDx2RefIdeal.nD Cert.GateDx2RefIdeal.τ).loc Cert.GateDx2RefIdeal.main_v9) = v0 c
          ∧ r.2.mem ((c.tc : Thread Cert.GateDx2RefIdeal.nD Cert.GateDx2RefIdeal.τ).loc Cert.GateDx2RefIdeal.main_arg0) = m' ((c.tc : Thread Cert.GateDx2RefIdeal.nD Cert.GateDx2RefIdeal.τ).loc Cert.GateDx2RefIdeal.main_arg0)
          ∧ r.2.mem ((c.tc : Thread Cert.GateDx2RefIdeal.nD Cert.GateDx2RefIdeal.τ).loc Cert.GateDx2RefIdeal.main_arg1) = m' ((c.tc : Thread Cert.GateDx2RefIdeal.nD Cert.GateDx2RefIdeal.τ).loc Cert.GateDx2RefIdeal.main_arg1)
          ∧ r.2.mem ((c.tc : Thread Cert.GateDx2RefIdeal.nD Cert.GateDx2RefIdeal.τ).loc Cert.GateDx2RefIdeal.main_arg2) = m' ((c.tc : Thread Cert.GateDx2RefIdeal.nD Cert.GateDx2RefIdeal.τ).loc Cert.GateDx2RefIdeal.main_arg2))

def preserves_GateDx3_GateDx3Ideal : Prop :=
  True

def algebraic_GateDx3Ideal_GateDx3RefIdeal [hGateDx3Ideal : Cert.GateDx3Ideal.Facts] [hGateDx3RefIdeal : Cert.GateDx3RefIdeal.Facts] : Prop :=
  ∀ (m : (ℓ : Loc Cert.GateDx3Ideal.nD Cert.GateDx3Ideal.τ Cert.GateDx3Ideal.sig) → Buf (Elt Ideal) ℓ) (g : Dev Cert.GateDx3Ideal.nD → PrngReg)
    (m' : (ℓ : Loc Cert.GateDx3RefIdeal.nD Cert.GateDx3RefIdeal.τ Cert.GateDx3RefIdeal.sig) → Buf (Elt Ideal) ℓ) (g' : Dev Cert.GateDx3RefIdeal.nD → PrngReg), Pre_GateDx3Ideal m →
    (∀ c : Dev Cert.GateDx3Ideal.nD,
      m' ((c.tc : Thread Cert.GateDx3RefIdeal.nD Cert.GateDx3RefIdeal.τ).loc Cert.GateDx3RefIdeal.main_arg0) = m ((c.tc : Thread Cert.GateDx3Ideal.nD Cert.GateDx3Ideal.τ).loc Cert.GateDx3Ideal.main_arg0)
      ∧ m' ((c.tc : Thread Cert.GateDx3RefIdeal.nD Cert.GateDx3RefIdeal.τ).loc Cert.GateDx3RefIdeal.main_arg1) = m ((c.tc : Thread Cert.GateDx3Ideal.nD Cert.GateDx3Ideal.τ).loc Cert.GateDx3Ideal.main_arg1)
      ∧ m' ((c.tc : Thread Cert.GateDx3RefIdeal.nD Cert.GateDx3RefIdeal.τ).loc Cert.GateDx3RefIdeal.main_arg2) = m ((c.tc : Thread Cert.GateDx3Ideal.nD Cert.GateDx3Ideal.τ).loc Cert.GateDx3Ideal.main_arg2)) →
    ∃ (v0 : (c : Dev Cert.GateDx3Ideal.nD) → Buf (Elt Ideal) ((c.tc : Thread Cert.GateDx3Ideal.nD Cert.GateDx3Ideal.τ).loc Cert.GateDx3Ideal.main_v0)),
      θ_run (Cert.GateDx3Ideal.defs (F := Ideal)) (onTc (τ := Cert.GateDx3Ideal.τ) (Cert.GateDx3Ideal.main (F := Ideal))) ⟨m, fun _ => 0, g⟩ (fun r => ∀ c : Dev Cert.GateDx3Ideal.nD,
          r.2.mem ((c.tc : Thread Cert.GateDx3Ideal.nD Cert.GateDx3Ideal.τ).loc Cert.GateDx3Ideal.main_v0) = v0 c
          ∧ r.2.mem ((c.tc : Thread Cert.GateDx3Ideal.nD Cert.GateDx3Ideal.τ).loc Cert.GateDx3Ideal.main_arg0) = m ((c.tc : Thread Cert.GateDx3Ideal.nD Cert.GateDx3Ideal.τ).loc Cert.GateDx3Ideal.main_arg0)
          ∧ r.2.mem ((c.tc : Thread Cert.GateDx3Ideal.nD Cert.GateDx3Ideal.τ).loc Cert.GateDx3Ideal.main_arg1) = m ((c.tc : Thread Cert.GateDx3Ideal.nD Cert.GateDx3Ideal.τ).loc Cert.GateDx3Ideal.main_arg1)
          ∧ r.2.mem ((c.tc : Thread Cert.GateDx3Ideal.nD Cert.GateDx3Ideal.τ).loc Cert.GateDx3Ideal.main_arg2) = m ((c.tc : Thread Cert.GateDx3Ideal.nD Cert.GateDx3Ideal.τ).loc Cert.GateDx3Ideal.main_arg2))
      ∧ θ_run (Cert.GateDx3RefIdeal.defs (F := Ideal)) (onTc (τ := Cert.GateDx3RefIdeal.τ) (Cert.GateDx3RefIdeal.main (F := Ideal))) ⟨m', fun _ => 0, g'⟩ (fun r => ∀ c : Dev Cert.GateDx3RefIdeal.nD,
          r.2.mem ((c.tc : Thread Cert.GateDx3RefIdeal.nD Cert.GateDx3RefIdeal.τ).loc Cert.GateDx3RefIdeal.main_v10) = v0 c
          ∧ r.2.mem ((c.tc : Thread Cert.GateDx3RefIdeal.nD Cert.GateDx3RefIdeal.τ).loc Cert.GateDx3RefIdeal.main_arg0) = m' ((c.tc : Thread Cert.GateDx3RefIdeal.nD Cert.GateDx3RefIdeal.τ).loc Cert.GateDx3RefIdeal.main_arg0)
          ∧ r.2.mem ((c.tc : Thread Cert.GateDx3RefIdeal.nD Cert.GateDx3RefIdeal.τ).loc Cert.GateDx3RefIdeal.main_arg1) = m' ((c.tc : Thread Cert.GateDx3RefIdeal.nD Cert.GateDx3RefIdeal.τ).loc Cert.GateDx3RefIdeal.main_arg1)
          ∧ r.2.mem ((c.tc : Thread Cert.GateDx3RefIdeal.nD Cert.GateDx3RefIdeal.τ).loc Cert.GateDx3RefIdeal.main_arg2) = m' ((c.tc : Thread Cert.GateDx3RefIdeal.nD Cert.GateDx3RefIdeal.τ).loc Cert.GateDx3RefIdeal.main_arg2))

def preserves_GateDw0_GateDw0Ideal : Prop :=
  True

def algebraic_GateDw0Ideal_GateDw0RefIdeal [hGateDw0Ideal : Cert.GateDw0Ideal.Facts] [hGateDw0RefIdeal : Cert.GateDw0RefIdeal.Facts] : Prop :=
  ∀ (m : (ℓ : Loc Cert.GateDw0Ideal.nD Cert.GateDw0Ideal.τ Cert.GateDw0Ideal.sig) → Buf (Elt Ideal) ℓ) (g : Dev Cert.GateDw0Ideal.nD → PrngReg)
    (m' : (ℓ : Loc Cert.GateDw0RefIdeal.nD Cert.GateDw0RefIdeal.τ Cert.GateDw0RefIdeal.sig) → Buf (Elt Ideal) ℓ) (g' : Dev Cert.GateDw0RefIdeal.nD → PrngReg), Pre_GateDw0Ideal m →
    (∀ c : Dev Cert.GateDw0Ideal.nD,
      m' ((c.tc : Thread Cert.GateDw0RefIdeal.nD Cert.GateDw0RefIdeal.τ).loc Cert.GateDw0RefIdeal.main_arg0) = m ((c.tc : Thread Cert.GateDw0Ideal.nD Cert.GateDw0Ideal.τ).loc Cert.GateDw0Ideal.main_arg0)
      ∧ m' ((c.tc : Thread Cert.GateDw0RefIdeal.nD Cert.GateDw0RefIdeal.τ).loc Cert.GateDw0RefIdeal.main_arg1) = m ((c.tc : Thread Cert.GateDw0Ideal.nD Cert.GateDw0Ideal.τ).loc Cert.GateDw0Ideal.main_arg1)) →
    ∃ (v0 : (c : Dev Cert.GateDw0Ideal.nD) → Buf (Elt Ideal) ((c.tc : Thread Cert.GateDw0Ideal.nD Cert.GateDw0Ideal.τ).loc Cert.GateDw0Ideal.main_v0)),
      θ_run (Cert.GateDw0Ideal.defs (F := Ideal)) (onTc (τ := Cert.GateDw0Ideal.τ) (Cert.GateDw0Ideal.main (F := Ideal))) ⟨m, fun _ => 0, g⟩ (fun r => ∀ c : Dev Cert.GateDw0Ideal.nD,
          r.2.mem ((c.tc : Thread Cert.GateDw0Ideal.nD Cert.GateDw0Ideal.τ).loc Cert.GateDw0Ideal.main_v0) = v0 c
          ∧ r.2.mem ((c.tc : Thread Cert.GateDw0Ideal.nD Cert.GateDw0Ideal.τ).loc Cert.GateDw0Ideal.main_arg0) = m ((c.tc : Thread Cert.GateDw0Ideal.nD Cert.GateDw0Ideal.τ).loc Cert.GateDw0Ideal.main_arg0)
          ∧ r.2.mem ((c.tc : Thread Cert.GateDw0Ideal.nD Cert.GateDw0Ideal.τ).loc Cert.GateDw0Ideal.main_arg1) = m ((c.tc : Thread Cert.GateDw0Ideal.nD Cert.GateDw0Ideal.τ).loc Cert.GateDw0Ideal.main_arg1))
      ∧ θ_run (Cert.GateDw0RefIdeal.defs (F := Ideal)) (onTc (τ := Cert.GateDw0RefIdeal.τ) (Cert.GateDw0RefIdeal.main (F := Ideal))) ⟨m', fun _ => 0, g'⟩ (fun r => ∀ c : Dev Cert.GateDw0RefIdeal.nD,
          r.2.mem ((c.tc : Thread Cert.GateDw0RefIdeal.nD Cert.GateDw0RefIdeal.τ).loc Cert.GateDw0RefIdeal.main_v10) = v0 c
          ∧ r.2.mem ((c.tc : Thread Cert.GateDw0RefIdeal.nD Cert.GateDw0RefIdeal.τ).loc Cert.GateDw0RefIdeal.main_arg0) = m' ((c.tc : Thread Cert.GateDw0RefIdeal.nD Cert.GateDw0RefIdeal.τ).loc Cert.GateDw0RefIdeal.main_arg0)
          ∧ r.2.mem ((c.tc : Thread Cert.GateDw0RefIdeal.nD Cert.GateDw0RefIdeal.τ).loc Cert.GateDw0RefIdeal.main_arg1) = m' ((c.tc : Thread Cert.GateDw0RefIdeal.nD Cert.GateDw0RefIdeal.τ).loc Cert.GateDw0RefIdeal.main_arg1))

def preserves_GateDw1_GateDw1Ideal : Prop :=
  True

def algebraic_GateDw1Ideal_GateDw1RefIdeal [hGateDw1Ideal : Cert.GateDw1Ideal.Facts] [hGateDw1RefIdeal : Cert.GateDw1RefIdeal.Facts] : Prop :=
  ∀ (m : (ℓ : Loc Cert.GateDw1Ideal.nD Cert.GateDw1Ideal.τ Cert.GateDw1Ideal.sig) → Buf (Elt Ideal) ℓ) (g : Dev Cert.GateDw1Ideal.nD → PrngReg)
    (m' : (ℓ : Loc Cert.GateDw1RefIdeal.nD Cert.GateDw1RefIdeal.τ Cert.GateDw1RefIdeal.sig) → Buf (Elt Ideal) ℓ) (g' : Dev Cert.GateDw1RefIdeal.nD → PrngReg), Pre_GateDw1Ideal m →
    (∀ c : Dev Cert.GateDw1Ideal.nD,
      m' ((c.tc : Thread Cert.GateDw1RefIdeal.nD Cert.GateDw1RefIdeal.τ).loc Cert.GateDw1RefIdeal.main_arg0) = m ((c.tc : Thread Cert.GateDw1Ideal.nD Cert.GateDw1Ideal.τ).loc Cert.GateDw1Ideal.main_arg0)
      ∧ m' ((c.tc : Thread Cert.GateDw1RefIdeal.nD Cert.GateDw1RefIdeal.τ).loc Cert.GateDw1RefIdeal.main_arg1) = m ((c.tc : Thread Cert.GateDw1Ideal.nD Cert.GateDw1Ideal.τ).loc Cert.GateDw1Ideal.main_arg1)) →
    ∃ (v0 : (c : Dev Cert.GateDw1Ideal.nD) → Buf (Elt Ideal) ((c.tc : Thread Cert.GateDw1Ideal.nD Cert.GateDw1Ideal.τ).loc Cert.GateDw1Ideal.main_v0)),
      θ_run (Cert.GateDw1Ideal.defs (F := Ideal)) (onTc (τ := Cert.GateDw1Ideal.τ) (Cert.GateDw1Ideal.main (F := Ideal))) ⟨m, fun _ => 0, g⟩ (fun r => ∀ c : Dev Cert.GateDw1Ideal.nD,
          r.2.mem ((c.tc : Thread Cert.GateDw1Ideal.nD Cert.GateDw1Ideal.τ).loc Cert.GateDw1Ideal.main_v0) = v0 c
          ∧ r.2.mem ((c.tc : Thread Cert.GateDw1Ideal.nD Cert.GateDw1Ideal.τ).loc Cert.GateDw1Ideal.main_arg0) = m ((c.tc : Thread Cert.GateDw1Ideal.nD Cert.GateDw1Ideal.τ).loc Cert.GateDw1Ideal.main_arg0)
          ∧ r.2.mem ((c.tc : Thread Cert.GateDw1Ideal.nD Cert.GateDw1Ideal.τ).loc Cert.GateDw1Ideal.main_arg1) = m ((c.tc : Thread Cert.GateDw1Ideal.nD Cert.GateDw1Ideal.τ).loc Cert.GateDw1Ideal.main_arg1))
      ∧ θ_run (Cert.GateDw1RefIdeal.defs (F := Ideal)) (onTc (τ := Cert.GateDw1RefIdeal.τ) (Cert.GateDw1RefIdeal.main (F := Ideal))) ⟨m', fun _ => 0, g'⟩ (fun r => ∀ c : Dev Cert.GateDw1RefIdeal.nD,
          r.2.mem ((c.tc : Thread Cert.GateDw1RefIdeal.nD Cert.GateDw1RefIdeal.τ).loc Cert.GateDw1RefIdeal.main_v10) = v0 c
          ∧ r.2.mem ((c.tc : Thread Cert.GateDw1RefIdeal.nD Cert.GateDw1RefIdeal.τ).loc Cert.GateDw1RefIdeal.main_arg0) = m' ((c.tc : Thread Cert.GateDw1RefIdeal.nD Cert.GateDw1RefIdeal.τ).loc Cert.GateDw1RefIdeal.main_arg0)
          ∧ r.2.mem ((c.tc : Thread Cert.GateDw1RefIdeal.nD Cert.GateDw1RefIdeal.τ).loc Cert.GateDw1RefIdeal.main_arg1) = m' ((c.tc : Thread Cert.GateDw1RefIdeal.nD Cert.GateDw1RefIdeal.τ).loc Cert.GateDw1RefIdeal.main_arg1))

def preserves_GateDw2_GateDw2Ideal : Prop :=
  True

def algebraic_GateDw2Ideal_GateDw2RefIdeal [hGateDw2Ideal : Cert.GateDw2Ideal.Facts] [hGateDw2RefIdeal : Cert.GateDw2RefIdeal.Facts] : Prop :=
  ∀ (m : (ℓ : Loc Cert.GateDw2Ideal.nD Cert.GateDw2Ideal.τ Cert.GateDw2Ideal.sig) → Buf (Elt Ideal) ℓ) (g : Dev Cert.GateDw2Ideal.nD → PrngReg)
    (m' : (ℓ : Loc Cert.GateDw2RefIdeal.nD Cert.GateDw2RefIdeal.τ Cert.GateDw2RefIdeal.sig) → Buf (Elt Ideal) ℓ) (g' : Dev Cert.GateDw2RefIdeal.nD → PrngReg), Pre_GateDw2Ideal m →
    (∀ c : Dev Cert.GateDw2Ideal.nD,
      m' ((c.tc : Thread Cert.GateDw2RefIdeal.nD Cert.GateDw2RefIdeal.τ).loc Cert.GateDw2RefIdeal.main_arg0) = m ((c.tc : Thread Cert.GateDw2Ideal.nD Cert.GateDw2Ideal.τ).loc Cert.GateDw2Ideal.main_arg0)
      ∧ m' ((c.tc : Thread Cert.GateDw2RefIdeal.nD Cert.GateDw2RefIdeal.τ).loc Cert.GateDw2RefIdeal.main_arg1) = m ((c.tc : Thread Cert.GateDw2Ideal.nD Cert.GateDw2Ideal.τ).loc Cert.GateDw2Ideal.main_arg1)) →
    ∃ (v0 : (c : Dev Cert.GateDw2Ideal.nD) → Buf (Elt Ideal) ((c.tc : Thread Cert.GateDw2Ideal.nD Cert.GateDw2Ideal.τ).loc Cert.GateDw2Ideal.main_v0)),
      θ_run (Cert.GateDw2Ideal.defs (F := Ideal)) (onTc (τ := Cert.GateDw2Ideal.τ) (Cert.GateDw2Ideal.main (F := Ideal))) ⟨m, fun _ => 0, g⟩ (fun r => ∀ c : Dev Cert.GateDw2Ideal.nD,
          r.2.mem ((c.tc : Thread Cert.GateDw2Ideal.nD Cert.GateDw2Ideal.τ).loc Cert.GateDw2Ideal.main_v0) = v0 c
          ∧ r.2.mem ((c.tc : Thread Cert.GateDw2Ideal.nD Cert.GateDw2Ideal.τ).loc Cert.GateDw2Ideal.main_arg0) = m ((c.tc : Thread Cert.GateDw2Ideal.nD Cert.GateDw2Ideal.τ).loc Cert.GateDw2Ideal.main_arg0)
          ∧ r.2.mem ((c.tc : Thread Cert.GateDw2Ideal.nD Cert.GateDw2Ideal.τ).loc Cert.GateDw2Ideal.main_arg1) = m ((c.tc : Thread Cert.GateDw2Ideal.nD Cert.GateDw2Ideal.τ).loc Cert.GateDw2Ideal.main_arg1))
      ∧ θ_run (Cert.GateDw2RefIdeal.defs (F := Ideal)) (onTc (τ := Cert.GateDw2RefIdeal.τ) (Cert.GateDw2RefIdeal.main (F := Ideal))) ⟨m', fun _ => 0, g'⟩ (fun r => ∀ c : Dev Cert.GateDw2RefIdeal.nD,
          r.2.mem ((c.tc : Thread Cert.GateDw2RefIdeal.nD Cert.GateDw2RefIdeal.τ).loc Cert.GateDw2RefIdeal.main_v10) = v0 c
          ∧ r.2.mem ((c.tc : Thread Cert.GateDw2RefIdeal.nD Cert.GateDw2RefIdeal.τ).loc Cert.GateDw2RefIdeal.main_arg0) = m' ((c.tc : Thread Cert.GateDw2RefIdeal.nD Cert.GateDw2RefIdeal.τ).loc Cert.GateDw2RefIdeal.main_arg0)
          ∧ r.2.mem ((c.tc : Thread Cert.GateDw2RefIdeal.nD Cert.GateDw2RefIdeal.τ).loc Cert.GateDw2RefIdeal.main_arg1) = m' ((c.tc : Thread Cert.GateDw2RefIdeal.nD Cert.GateDw2RefIdeal.τ).loc Cert.GateDw2RefIdeal.main_arg1))

def preserves_GateDw3_GateDw3Ideal : Prop :=
  True

def algebraic_GateDw3Ideal_GateDw3RefIdeal [hGateDw3Ideal : Cert.GateDw3Ideal.Facts] [hGateDw3RefIdeal : Cert.GateDw3RefIdeal.Facts] : Prop :=
  ∀ (m : (ℓ : Loc Cert.GateDw3Ideal.nD Cert.GateDw3Ideal.τ Cert.GateDw3Ideal.sig) → Buf (Elt Ideal) ℓ) (g : Dev Cert.GateDw3Ideal.nD → PrngReg)
    (m' : (ℓ : Loc Cert.GateDw3RefIdeal.nD Cert.GateDw3RefIdeal.τ Cert.GateDw3RefIdeal.sig) → Buf (Elt Ideal) ℓ) (g' : Dev Cert.GateDw3RefIdeal.nD → PrngReg), Pre_GateDw3Ideal m →
    (∀ c : Dev Cert.GateDw3Ideal.nD,
      m' ((c.tc : Thread Cert.GateDw3RefIdeal.nD Cert.GateDw3RefIdeal.τ).loc Cert.GateDw3RefIdeal.main_arg0) = m ((c.tc : Thread Cert.GateDw3Ideal.nD Cert.GateDw3Ideal.τ).loc Cert.GateDw3Ideal.main_arg0)
      ∧ m' ((c.tc : Thread Cert.GateDw3RefIdeal.nD Cert.GateDw3RefIdeal.τ).loc Cert.GateDw3RefIdeal.main_arg1) = m ((c.tc : Thread Cert.GateDw3Ideal.nD Cert.GateDw3Ideal.τ).loc Cert.GateDw3Ideal.main_arg1)) →
    ∃ (v0 : (c : Dev Cert.GateDw3Ideal.nD) → Buf (Elt Ideal) ((c.tc : Thread Cert.GateDw3Ideal.nD Cert.GateDw3Ideal.τ).loc Cert.GateDw3Ideal.main_v0)),
      θ_run (Cert.GateDw3Ideal.defs (F := Ideal)) (onTc (τ := Cert.GateDw3Ideal.τ) (Cert.GateDw3Ideal.main (F := Ideal))) ⟨m, fun _ => 0, g⟩ (fun r => ∀ c : Dev Cert.GateDw3Ideal.nD,
          r.2.mem ((c.tc : Thread Cert.GateDw3Ideal.nD Cert.GateDw3Ideal.τ).loc Cert.GateDw3Ideal.main_v0) = v0 c
          ∧ r.2.mem ((c.tc : Thread Cert.GateDw3Ideal.nD Cert.GateDw3Ideal.τ).loc Cert.GateDw3Ideal.main_arg0) = m ((c.tc : Thread Cert.GateDw3Ideal.nD Cert.GateDw3Ideal.τ).loc Cert.GateDw3Ideal.main_arg0)
          ∧ r.2.mem ((c.tc : Thread Cert.GateDw3Ideal.nD Cert.GateDw3Ideal.τ).loc Cert.GateDw3Ideal.main_arg1) = m ((c.tc : Thread Cert.GateDw3Ideal.nD Cert.GateDw3Ideal.τ).loc Cert.GateDw3Ideal.main_arg1))
      ∧ θ_run (Cert.GateDw3RefIdeal.defs (F := Ideal)) (onTc (τ := Cert.GateDw3RefIdeal.τ) (Cert.GateDw3RefIdeal.main (F := Ideal))) ⟨m', fun _ => 0, g'⟩ (fun r => ∀ c : Dev Cert.GateDw3RefIdeal.nD,
          r.2.mem ((c.tc : Thread Cert.GateDw3RefIdeal.nD Cert.GateDw3RefIdeal.τ).loc Cert.GateDw3RefIdeal.main_v10) = v0 c
          ∧ r.2.mem ((c.tc : Thread Cert.GateDw3RefIdeal.nD Cert.GateDw3RefIdeal.τ).loc Cert.GateDw3RefIdeal.main_arg0) = m' ((c.tc : Thread Cert.GateDw3RefIdeal.nD Cert.GateDw3RefIdeal.τ).loc Cert.GateDw3RefIdeal.main_arg0)
          ∧ r.2.mem ((c.tc : Thread Cert.GateDw3RefIdeal.nD Cert.GateDw3RefIdeal.τ).loc Cert.GateDw3RefIdeal.main_arg1) = m' ((c.tc : Thread Cert.GateDw3RefIdeal.nD Cert.GateDw3RefIdeal.τ).loc Cert.GateDw3RefIdeal.main_arg1))

def preserves_BranchDx0_BranchDx0Ideal : Prop :=
  True

def algebraic_BranchDx0Ideal_BranchDx0RefIdeal [hBranchDx0Ideal : Cert.BranchDx0Ideal.Facts] [hBranchDx0RefIdeal : Cert.BranchDx0RefIdeal.Facts] : Prop :=
  ∀ (m : (ℓ : Loc Cert.BranchDx0Ideal.nD Cert.BranchDx0Ideal.τ Cert.BranchDx0Ideal.sig) → Buf (Elt Ideal) ℓ) (g : Dev Cert.BranchDx0Ideal.nD → PrngReg)
    (m' : (ℓ : Loc Cert.BranchDx0RefIdeal.nD Cert.BranchDx0RefIdeal.τ Cert.BranchDx0RefIdeal.sig) → Buf (Elt Ideal) ℓ) (g' : Dev Cert.BranchDx0RefIdeal.nD → PrngReg), Pre_BranchDx0Ideal m →
    (∀ c : Dev Cert.BranchDx0Ideal.nD,
      m' ((c.tc : Thread Cert.BranchDx0RefIdeal.nD Cert.BranchDx0RefIdeal.τ).loc Cert.BranchDx0RefIdeal.main_arg0) = m ((c.tc : Thread Cert.BranchDx0Ideal.nD Cert.BranchDx0Ideal.τ).loc Cert.BranchDx0Ideal.main_arg0)
      ∧ m' ((c.tc : Thread Cert.BranchDx0RefIdeal.nD Cert.BranchDx0RefIdeal.τ).loc Cert.BranchDx0RefIdeal.main_arg1) = m ((c.tc : Thread Cert.BranchDx0Ideal.nD Cert.BranchDx0Ideal.τ).loc Cert.BranchDx0Ideal.main_arg1)) →
    ∃ (v0 : (c : Dev Cert.BranchDx0Ideal.nD) → Buf (Elt Ideal) ((c.tc : Thread Cert.BranchDx0Ideal.nD Cert.BranchDx0Ideal.τ).loc Cert.BranchDx0Ideal.main_v0)),
      θ_run (Cert.BranchDx0Ideal.defs (F := Ideal)) (onTc (τ := Cert.BranchDx0Ideal.τ) (Cert.BranchDx0Ideal.main (F := Ideal))) ⟨m, fun _ => 0, g⟩ (fun r => ∀ c : Dev Cert.BranchDx0Ideal.nD,
          r.2.mem ((c.tc : Thread Cert.BranchDx0Ideal.nD Cert.BranchDx0Ideal.τ).loc Cert.BranchDx0Ideal.main_v0) = v0 c
          ∧ r.2.mem ((c.tc : Thread Cert.BranchDx0Ideal.nD Cert.BranchDx0Ideal.τ).loc Cert.BranchDx0Ideal.main_arg0) = m ((c.tc : Thread Cert.BranchDx0Ideal.nD Cert.BranchDx0Ideal.τ).loc Cert.BranchDx0Ideal.main_arg0)
          ∧ r.2.mem ((c.tc : Thread Cert.BranchDx0Ideal.nD Cert.BranchDx0Ideal.τ).loc Cert.BranchDx0Ideal.main_arg1) = m ((c.tc : Thread Cert.BranchDx0Ideal.nD Cert.BranchDx0Ideal.τ).loc Cert.BranchDx0Ideal.main_arg1))
      ∧ θ_run (Cert.BranchDx0RefIdeal.defs (F := Ideal)) (onTc (τ := Cert.BranchDx0RefIdeal.τ) (Cert.BranchDx0RefIdeal.main (F := Ideal))) ⟨m', fun _ => 0, g'⟩ (fun r => ∀ c : Dev Cert.BranchDx0RefIdeal.nD,
          r.2.mem ((c.tc : Thread Cert.BranchDx0RefIdeal.nD Cert.BranchDx0RefIdeal.τ).loc Cert.BranchDx0RefIdeal.main_v8) = v0 c
          ∧ r.2.mem ((c.tc : Thread Cert.BranchDx0RefIdeal.nD Cert.BranchDx0RefIdeal.τ).loc Cert.BranchDx0RefIdeal.main_arg0) = m' ((c.tc : Thread Cert.BranchDx0RefIdeal.nD Cert.BranchDx0RefIdeal.τ).loc Cert.BranchDx0RefIdeal.main_arg0)
          ∧ r.2.mem ((c.tc : Thread Cert.BranchDx0RefIdeal.nD Cert.BranchDx0RefIdeal.τ).loc Cert.BranchDx0RefIdeal.main_arg1) = m' ((c.tc : Thread Cert.BranchDx0RefIdeal.nD Cert.BranchDx0RefIdeal.τ).loc Cert.BranchDx0RefIdeal.main_arg1))

def preserves_BranchDx1_BranchDx1Ideal : Prop :=
  True

def algebraic_BranchDx1Ideal_BranchDx1RefIdeal [hBranchDx1Ideal : Cert.BranchDx1Ideal.Facts] [hBranchDx1RefIdeal : Cert.BranchDx1RefIdeal.Facts] : Prop :=
  ∀ (m : (ℓ : Loc Cert.BranchDx1Ideal.nD Cert.BranchDx1Ideal.τ Cert.BranchDx1Ideal.sig) → Buf (Elt Ideal) ℓ) (g : Dev Cert.BranchDx1Ideal.nD → PrngReg)
    (m' : (ℓ : Loc Cert.BranchDx1RefIdeal.nD Cert.BranchDx1RefIdeal.τ Cert.BranchDx1RefIdeal.sig) → Buf (Elt Ideal) ℓ) (g' : Dev Cert.BranchDx1RefIdeal.nD → PrngReg), Pre_BranchDx1Ideal m →
    (∀ c : Dev Cert.BranchDx1Ideal.nD,
      m' ((c.tc : Thread Cert.BranchDx1RefIdeal.nD Cert.BranchDx1RefIdeal.τ).loc Cert.BranchDx1RefIdeal.main_arg0) = m ((c.tc : Thread Cert.BranchDx1Ideal.nD Cert.BranchDx1Ideal.τ).loc Cert.BranchDx1Ideal.main_arg0)
      ∧ m' ((c.tc : Thread Cert.BranchDx1RefIdeal.nD Cert.BranchDx1RefIdeal.τ).loc Cert.BranchDx1RefIdeal.main_arg1) = m ((c.tc : Thread Cert.BranchDx1Ideal.nD Cert.BranchDx1Ideal.τ).loc Cert.BranchDx1Ideal.main_arg1)) →
    ∃ (v0 : (c : Dev Cert.BranchDx1Ideal.nD) → Buf (Elt Ideal) ((c.tc : Thread Cert.BranchDx1Ideal.nD Cert.BranchDx1Ideal.τ).loc Cert.BranchDx1Ideal.main_v0)),
      θ_run (Cert.BranchDx1Ideal.defs (F := Ideal)) (onTc (τ := Cert.BranchDx1Ideal.τ) (Cert.BranchDx1Ideal.main (F := Ideal))) ⟨m, fun _ => 0, g⟩ (fun r => ∀ c : Dev Cert.BranchDx1Ideal.nD,
          r.2.mem ((c.tc : Thread Cert.BranchDx1Ideal.nD Cert.BranchDx1Ideal.τ).loc Cert.BranchDx1Ideal.main_v0) = v0 c
          ∧ r.2.mem ((c.tc : Thread Cert.BranchDx1Ideal.nD Cert.BranchDx1Ideal.τ).loc Cert.BranchDx1Ideal.main_arg0) = m ((c.tc : Thread Cert.BranchDx1Ideal.nD Cert.BranchDx1Ideal.τ).loc Cert.BranchDx1Ideal.main_arg0)
          ∧ r.2.mem ((c.tc : Thread Cert.BranchDx1Ideal.nD Cert.BranchDx1Ideal.τ).loc Cert.BranchDx1Ideal.main_arg1) = m ((c.tc : Thread Cert.BranchDx1Ideal.nD Cert.BranchDx1Ideal.τ).loc Cert.BranchDx1Ideal.main_arg1))
      ∧ θ_run (Cert.BranchDx1RefIdeal.defs (F := Ideal)) (onTc (τ := Cert.BranchDx1RefIdeal.τ) (Cert.BranchDx1RefIdeal.main (F := Ideal))) ⟨m', fun _ => 0, g'⟩ (fun r => ∀ c : Dev Cert.BranchDx1RefIdeal.nD,
          r.2.mem ((c.tc : Thread Cert.BranchDx1RefIdeal.nD Cert.BranchDx1RefIdeal.τ).loc Cert.BranchDx1RefIdeal.main_v8) = v0 c
          ∧ r.2.mem ((c.tc : Thread Cert.BranchDx1RefIdeal.nD Cert.BranchDx1RefIdeal.τ).loc Cert.BranchDx1RefIdeal.main_arg0) = m' ((c.tc : Thread Cert.BranchDx1RefIdeal.nD Cert.BranchDx1RefIdeal.τ).loc Cert.BranchDx1RefIdeal.main_arg0)
          ∧ r.2.mem ((c.tc : Thread Cert.BranchDx1RefIdeal.nD Cert.BranchDx1RefIdeal.τ).loc Cert.BranchDx1RefIdeal.main_arg1) = m' ((c.tc : Thread Cert.BranchDx1RefIdeal.nD Cert.BranchDx1RefIdeal.τ).loc Cert.BranchDx1RefIdeal.main_arg1))

def preserves_BranchDx2_BranchDx2Ideal : Prop :=
  True

def algebraic_BranchDx2Ideal_BranchDx2RefIdeal [hBranchDx2Ideal : Cert.BranchDx2Ideal.Facts] [hBranchDx2RefIdeal : Cert.BranchDx2RefIdeal.Facts] : Prop :=
  ∀ (m : (ℓ : Loc Cert.BranchDx2Ideal.nD Cert.BranchDx2Ideal.τ Cert.BranchDx2Ideal.sig) → Buf (Elt Ideal) ℓ) (g : Dev Cert.BranchDx2Ideal.nD → PrngReg)
    (m' : (ℓ : Loc Cert.BranchDx2RefIdeal.nD Cert.BranchDx2RefIdeal.τ Cert.BranchDx2RefIdeal.sig) → Buf (Elt Ideal) ℓ) (g' : Dev Cert.BranchDx2RefIdeal.nD → PrngReg), Pre_BranchDx2Ideal m →
    (∀ c : Dev Cert.BranchDx2Ideal.nD,
      m' ((c.tc : Thread Cert.BranchDx2RefIdeal.nD Cert.BranchDx2RefIdeal.τ).loc Cert.BranchDx2RefIdeal.main_arg0) = m ((c.tc : Thread Cert.BranchDx2Ideal.nD Cert.BranchDx2Ideal.τ).loc Cert.BranchDx2Ideal.main_arg0)
      ∧ m' ((c.tc : Thread Cert.BranchDx2RefIdeal.nD Cert.BranchDx2RefIdeal.τ).loc Cert.BranchDx2RefIdeal.main_arg1) = m ((c.tc : Thread Cert.BranchDx2Ideal.nD Cert.BranchDx2Ideal.τ).loc Cert.BranchDx2Ideal.main_arg1)) →
    ∃ (v0 : (c : Dev Cert.BranchDx2Ideal.nD) → Buf (Elt Ideal) ((c.tc : Thread Cert.BranchDx2Ideal.nD Cert.BranchDx2Ideal.τ).loc Cert.BranchDx2Ideal.main_v0)),
      θ_run (Cert.BranchDx2Ideal.defs (F := Ideal)) (onTc (τ := Cert.BranchDx2Ideal.τ) (Cert.BranchDx2Ideal.main (F := Ideal))) ⟨m, fun _ => 0, g⟩ (fun r => ∀ c : Dev Cert.BranchDx2Ideal.nD,
          r.2.mem ((c.tc : Thread Cert.BranchDx2Ideal.nD Cert.BranchDx2Ideal.τ).loc Cert.BranchDx2Ideal.main_v0) = v0 c
          ∧ r.2.mem ((c.tc : Thread Cert.BranchDx2Ideal.nD Cert.BranchDx2Ideal.τ).loc Cert.BranchDx2Ideal.main_arg0) = m ((c.tc : Thread Cert.BranchDx2Ideal.nD Cert.BranchDx2Ideal.τ).loc Cert.BranchDx2Ideal.main_arg0)
          ∧ r.2.mem ((c.tc : Thread Cert.BranchDx2Ideal.nD Cert.BranchDx2Ideal.τ).loc Cert.BranchDx2Ideal.main_arg1) = m ((c.tc : Thread Cert.BranchDx2Ideal.nD Cert.BranchDx2Ideal.τ).loc Cert.BranchDx2Ideal.main_arg1))
      ∧ θ_run (Cert.BranchDx2RefIdeal.defs (F := Ideal)) (onTc (τ := Cert.BranchDx2RefIdeal.τ) (Cert.BranchDx2RefIdeal.main (F := Ideal))) ⟨m', fun _ => 0, g'⟩ (fun r => ∀ c : Dev Cert.BranchDx2RefIdeal.nD,
          r.2.mem ((c.tc : Thread Cert.BranchDx2RefIdeal.nD Cert.BranchDx2RefIdeal.τ).loc Cert.BranchDx2RefIdeal.main_v8) = v0 c
          ∧ r.2.mem ((c.tc : Thread Cert.BranchDx2RefIdeal.nD Cert.BranchDx2RefIdeal.τ).loc Cert.BranchDx2RefIdeal.main_arg0) = m' ((c.tc : Thread Cert.BranchDx2RefIdeal.nD Cert.BranchDx2RefIdeal.τ).loc Cert.BranchDx2RefIdeal.main_arg0)
          ∧ r.2.mem ((c.tc : Thread Cert.BranchDx2RefIdeal.nD Cert.BranchDx2RefIdeal.τ).loc Cert.BranchDx2RefIdeal.main_arg1) = m' ((c.tc : Thread Cert.BranchDx2RefIdeal.nD Cert.BranchDx2RefIdeal.τ).loc Cert.BranchDx2RefIdeal.main_arg1))

def preserves_BranchDx3_BranchDx3Ideal : Prop :=
  True

def algebraic_BranchDx3Ideal_BranchDx3RefIdeal [hBranchDx3Ideal : Cert.BranchDx3Ideal.Facts] [hBranchDx3RefIdeal : Cert.BranchDx3RefIdeal.Facts] : Prop :=
  ∀ (m : (ℓ : Loc Cert.BranchDx3Ideal.nD Cert.BranchDx3Ideal.τ Cert.BranchDx3Ideal.sig) → Buf (Elt Ideal) ℓ) (g : Dev Cert.BranchDx3Ideal.nD → PrngReg)
    (m' : (ℓ : Loc Cert.BranchDx3RefIdeal.nD Cert.BranchDx3RefIdeal.τ Cert.BranchDx3RefIdeal.sig) → Buf (Elt Ideal) ℓ) (g' : Dev Cert.BranchDx3RefIdeal.nD → PrngReg), Pre_BranchDx3Ideal m →
    (∀ c : Dev Cert.BranchDx3Ideal.nD,
      m' ((c.tc : Thread Cert.BranchDx3RefIdeal.nD Cert.BranchDx3RefIdeal.τ).loc Cert.BranchDx3RefIdeal.main_arg0) = m ((c.tc : Thread Cert.BranchDx3Ideal.nD Cert.BranchDx3Ideal.τ).loc Cert.BranchDx3Ideal.main_arg0)
      ∧ m' ((c.tc : Thread Cert.BranchDx3RefIdeal.nD Cert.BranchDx3RefIdeal.τ).loc Cert.BranchDx3RefIdeal.main_arg1) = m ((c.tc : Thread Cert.BranchDx3Ideal.nD Cert.BranchDx3Ideal.τ).loc Cert.BranchDx3Ideal.main_arg1)) →
    ∃ (v0 : (c : Dev Cert.BranchDx3Ideal.nD) → Buf (Elt Ideal) ((c.tc : Thread Cert.BranchDx3Ideal.nD Cert.BranchDx3Ideal.τ).loc Cert.BranchDx3Ideal.main_v0)),
      θ_run (Cert.BranchDx3Ideal.defs (F := Ideal)) (onTc (τ := Cert.BranchDx3Ideal.τ) (Cert.BranchDx3Ideal.main (F := Ideal))) ⟨m, fun _ => 0, g⟩ (fun r => ∀ c : Dev Cert.BranchDx3Ideal.nD,
          r.2.mem ((c.tc : Thread Cert.BranchDx3Ideal.nD Cert.BranchDx3Ideal.τ).loc Cert.BranchDx3Ideal.main_v0) = v0 c
          ∧ r.2.mem ((c.tc : Thread Cert.BranchDx3Ideal.nD Cert.BranchDx3Ideal.τ).loc Cert.BranchDx3Ideal.main_arg0) = m ((c.tc : Thread Cert.BranchDx3Ideal.nD Cert.BranchDx3Ideal.τ).loc Cert.BranchDx3Ideal.main_arg0)
          ∧ r.2.mem ((c.tc : Thread Cert.BranchDx3Ideal.nD Cert.BranchDx3Ideal.τ).loc Cert.BranchDx3Ideal.main_arg1) = m ((c.tc : Thread Cert.BranchDx3Ideal.nD Cert.BranchDx3Ideal.τ).loc Cert.BranchDx3Ideal.main_arg1))
      ∧ θ_run (Cert.BranchDx3RefIdeal.defs (F := Ideal)) (onTc (τ := Cert.BranchDx3RefIdeal.τ) (Cert.BranchDx3RefIdeal.main (F := Ideal))) ⟨m', fun _ => 0, g'⟩ (fun r => ∀ c : Dev Cert.BranchDx3RefIdeal.nD,
          r.2.mem ((c.tc : Thread Cert.BranchDx3RefIdeal.nD Cert.BranchDx3RefIdeal.τ).loc Cert.BranchDx3RefIdeal.main_v8) = v0 c
          ∧ r.2.mem ((c.tc : Thread Cert.BranchDx3RefIdeal.nD Cert.BranchDx3RefIdeal.τ).loc Cert.BranchDx3RefIdeal.main_arg0) = m' ((c.tc : Thread Cert.BranchDx3RefIdeal.nD Cert.BranchDx3RefIdeal.τ).loc Cert.BranchDx3RefIdeal.main_arg0)
          ∧ r.2.mem ((c.tc : Thread Cert.BranchDx3RefIdeal.nD Cert.BranchDx3RefIdeal.τ).loc Cert.BranchDx3RefIdeal.main_arg1) = m' ((c.tc : Thread Cert.BranchDx3RefIdeal.nD Cert.BranchDx3RefIdeal.τ).loc Cert.BranchDx3RefIdeal.main_arg1))

def preserves_BranchDw0_BranchDw0Ideal : Prop :=
  True

def algebraic_BranchDw0Ideal_BranchDw0RefIdeal [hBranchDw0Ideal : Cert.BranchDw0Ideal.Facts] [hBranchDw0RefIdeal : Cert.BranchDw0RefIdeal.Facts] : Prop :=
  ∀ (m : (ℓ : Loc Cert.BranchDw0Ideal.nD Cert.BranchDw0Ideal.τ Cert.BranchDw0Ideal.sig) → Buf (Elt Ideal) ℓ) (g : Dev Cert.BranchDw0Ideal.nD → PrngReg)
    (m' : (ℓ : Loc Cert.BranchDw0RefIdeal.nD Cert.BranchDw0RefIdeal.τ Cert.BranchDw0RefIdeal.sig) → Buf (Elt Ideal) ℓ) (g' : Dev Cert.BranchDw0RefIdeal.nD → PrngReg), Pre_BranchDw0Ideal m →
    (∀ c : Dev Cert.BranchDw0Ideal.nD,
      m' ((c.tc : Thread Cert.BranchDw0RefIdeal.nD Cert.BranchDw0RefIdeal.τ).loc Cert.BranchDw0RefIdeal.main_arg0) = m ((c.tc : Thread Cert.BranchDw0Ideal.nD Cert.BranchDw0Ideal.τ).loc Cert.BranchDw0Ideal.main_arg0)
      ∧ m' ((c.tc : Thread Cert.BranchDw0RefIdeal.nD Cert.BranchDw0RefIdeal.τ).loc Cert.BranchDw0RefIdeal.main_arg1) = m ((c.tc : Thread Cert.BranchDw0Ideal.nD Cert.BranchDw0Ideal.τ).loc Cert.BranchDw0Ideal.main_arg1)) →
    ∃ (v0 : (c : Dev Cert.BranchDw0Ideal.nD) → Buf (Elt Ideal) ((c.tc : Thread Cert.BranchDw0Ideal.nD Cert.BranchDw0Ideal.τ).loc Cert.BranchDw0Ideal.main_v0)),
      θ_run (Cert.BranchDw0Ideal.defs (F := Ideal)) (onTc (τ := Cert.BranchDw0Ideal.τ) (Cert.BranchDw0Ideal.main (F := Ideal))) ⟨m, fun _ => 0, g⟩ (fun r => ∀ c : Dev Cert.BranchDw0Ideal.nD,
          r.2.mem ((c.tc : Thread Cert.BranchDw0Ideal.nD Cert.BranchDw0Ideal.τ).loc Cert.BranchDw0Ideal.main_v0) = v0 c
          ∧ r.2.mem ((c.tc : Thread Cert.BranchDw0Ideal.nD Cert.BranchDw0Ideal.τ).loc Cert.BranchDw0Ideal.main_arg0) = m ((c.tc : Thread Cert.BranchDw0Ideal.nD Cert.BranchDw0Ideal.τ).loc Cert.BranchDw0Ideal.main_arg0)
          ∧ r.2.mem ((c.tc : Thread Cert.BranchDw0Ideal.nD Cert.BranchDw0Ideal.τ).loc Cert.BranchDw0Ideal.main_arg1) = m ((c.tc : Thread Cert.BranchDw0Ideal.nD Cert.BranchDw0Ideal.τ).loc Cert.BranchDw0Ideal.main_arg1))
      ∧ θ_run (Cert.BranchDw0RefIdeal.defs (F := Ideal)) (onTc (τ := Cert.BranchDw0RefIdeal.τ) (Cert.BranchDw0RefIdeal.main (F := Ideal))) ⟨m', fun _ => 0, g'⟩ (fun r => ∀ c : Dev Cert.BranchDw0RefIdeal.nD,
          r.2.mem ((c.tc : Thread Cert.BranchDw0RefIdeal.nD Cert.BranchDw0RefIdeal.τ).loc Cert.BranchDw0RefIdeal.main_v12) = v0 c
          ∧ r.2.mem ((c.tc : Thread Cert.BranchDw0RefIdeal.nD Cert.BranchDw0RefIdeal.τ).loc Cert.BranchDw0RefIdeal.main_arg0) = m' ((c.tc : Thread Cert.BranchDw0RefIdeal.nD Cert.BranchDw0RefIdeal.τ).loc Cert.BranchDw0RefIdeal.main_arg0)
          ∧ r.2.mem ((c.tc : Thread Cert.BranchDw0RefIdeal.nD Cert.BranchDw0RefIdeal.τ).loc Cert.BranchDw0RefIdeal.main_arg1) = m' ((c.tc : Thread Cert.BranchDw0RefIdeal.nD Cert.BranchDw0RefIdeal.τ).loc Cert.BranchDw0RefIdeal.main_arg1))

def preserves_BranchDw1_BranchDw1Ideal : Prop :=
  True

def algebraic_BranchDw1Ideal_BranchDw1RefIdeal [hBranchDw1Ideal : Cert.BranchDw1Ideal.Facts] [hBranchDw1RefIdeal : Cert.BranchDw1RefIdeal.Facts] : Prop :=
  ∀ (m : (ℓ : Loc Cert.BranchDw1Ideal.nD Cert.BranchDw1Ideal.τ Cert.BranchDw1Ideal.sig) → Buf (Elt Ideal) ℓ) (g : Dev Cert.BranchDw1Ideal.nD → PrngReg)
    (m' : (ℓ : Loc Cert.BranchDw1RefIdeal.nD Cert.BranchDw1RefIdeal.τ Cert.BranchDw1RefIdeal.sig) → Buf (Elt Ideal) ℓ) (g' : Dev Cert.BranchDw1RefIdeal.nD → PrngReg), Pre_BranchDw1Ideal m →
    (∀ c : Dev Cert.BranchDw1Ideal.nD,
      m' ((c.tc : Thread Cert.BranchDw1RefIdeal.nD Cert.BranchDw1RefIdeal.τ).loc Cert.BranchDw1RefIdeal.main_arg0) = m ((c.tc : Thread Cert.BranchDw1Ideal.nD Cert.BranchDw1Ideal.τ).loc Cert.BranchDw1Ideal.main_arg0)
      ∧ m' ((c.tc : Thread Cert.BranchDw1RefIdeal.nD Cert.BranchDw1RefIdeal.τ).loc Cert.BranchDw1RefIdeal.main_arg1) = m ((c.tc : Thread Cert.BranchDw1Ideal.nD Cert.BranchDw1Ideal.τ).loc Cert.BranchDw1Ideal.main_arg1)) →
    ∃ (v0 : (c : Dev Cert.BranchDw1Ideal.nD) → Buf (Elt Ideal) ((c.tc : Thread Cert.BranchDw1Ideal.nD Cert.BranchDw1Ideal.τ).loc Cert.BranchDw1Ideal.main_v0)),
      θ_run (Cert.BranchDw1Ideal.defs (F := Ideal)) (onTc (τ := Cert.BranchDw1Ideal.τ) (Cert.BranchDw1Ideal.main (F := Ideal))) ⟨m, fun _ => 0, g⟩ (fun r => ∀ c : Dev Cert.BranchDw1Ideal.nD,
          r.2.mem ((c.tc : Thread Cert.BranchDw1Ideal.nD Cert.BranchDw1Ideal.τ).loc Cert.BranchDw1Ideal.main_v0) = v0 c
          ∧ r.2.mem ((c.tc : Thread Cert.BranchDw1Ideal.nD Cert.BranchDw1Ideal.τ).loc Cert.BranchDw1Ideal.main_arg0) = m ((c.tc : Thread Cert.BranchDw1Ideal.nD Cert.BranchDw1Ideal.τ).loc Cert.BranchDw1Ideal.main_arg0)
          ∧ r.2.mem ((c.tc : Thread Cert.BranchDw1Ideal.nD Cert.BranchDw1Ideal.τ).loc Cert.BranchDw1Ideal.main_arg1) = m ((c.tc : Thread Cert.BranchDw1Ideal.nD Cert.BranchDw1Ideal.τ).loc Cert.BranchDw1Ideal.main_arg1))
      ∧ θ_run (Cert.BranchDw1RefIdeal.defs (F := Ideal)) (onTc (τ := Cert.BranchDw1RefIdeal.τ) (Cert.BranchDw1RefIdeal.main (F := Ideal))) ⟨m', fun _ => 0, g'⟩ (fun r => ∀ c : Dev Cert.BranchDw1RefIdeal.nD,
          r.2.mem ((c.tc : Thread Cert.BranchDw1RefIdeal.nD Cert.BranchDw1RefIdeal.τ).loc Cert.BranchDw1RefIdeal.main_v12) = v0 c
          ∧ r.2.mem ((c.tc : Thread Cert.BranchDw1RefIdeal.nD Cert.BranchDw1RefIdeal.τ).loc Cert.BranchDw1RefIdeal.main_arg0) = m' ((c.tc : Thread Cert.BranchDw1RefIdeal.nD Cert.BranchDw1RefIdeal.τ).loc Cert.BranchDw1RefIdeal.main_arg0)
          ∧ r.2.mem ((c.tc : Thread Cert.BranchDw1RefIdeal.nD Cert.BranchDw1RefIdeal.τ).loc Cert.BranchDw1RefIdeal.main_arg1) = m' ((c.tc : Thread Cert.BranchDw1RefIdeal.nD Cert.BranchDw1RefIdeal.τ).loc Cert.BranchDw1RefIdeal.main_arg1))

def preserves_BranchDw2_BranchDw2Ideal : Prop :=
  True

def algebraic_BranchDw2Ideal_BranchDw2RefIdeal [hBranchDw2Ideal : Cert.BranchDw2Ideal.Facts] [hBranchDw2RefIdeal : Cert.BranchDw2RefIdeal.Facts] : Prop :=
  ∀ (m : (ℓ : Loc Cert.BranchDw2Ideal.nD Cert.BranchDw2Ideal.τ Cert.BranchDw2Ideal.sig) → Buf (Elt Ideal) ℓ) (g : Dev Cert.BranchDw2Ideal.nD → PrngReg)
    (m' : (ℓ : Loc Cert.BranchDw2RefIdeal.nD Cert.BranchDw2RefIdeal.τ Cert.BranchDw2RefIdeal.sig) → Buf (Elt Ideal) ℓ) (g' : Dev Cert.BranchDw2RefIdeal.nD → PrngReg), Pre_BranchDw2Ideal m →
    (∀ c : Dev Cert.BranchDw2Ideal.nD,
      m' ((c.tc : Thread Cert.BranchDw2RefIdeal.nD Cert.BranchDw2RefIdeal.τ).loc Cert.BranchDw2RefIdeal.main_arg0) = m ((c.tc : Thread Cert.BranchDw2Ideal.nD Cert.BranchDw2Ideal.τ).loc Cert.BranchDw2Ideal.main_arg0)
      ∧ m' ((c.tc : Thread Cert.BranchDw2RefIdeal.nD Cert.BranchDw2RefIdeal.τ).loc Cert.BranchDw2RefIdeal.main_arg1) = m ((c.tc : Thread Cert.BranchDw2Ideal.nD Cert.BranchDw2Ideal.τ).loc Cert.BranchDw2Ideal.main_arg1)) →
    ∃ (v0 : (c : Dev Cert.BranchDw2Ideal.nD) → Buf (Elt Ideal) ((c.tc : Thread Cert.BranchDw2Ideal.nD Cert.BranchDw2Ideal.τ).loc Cert.BranchDw2Ideal.main_v0)),
      θ_run (Cert.BranchDw2Ideal.defs (F := Ideal)) (onTc (τ := Cert.BranchDw2Ideal.τ) (Cert.BranchDw2Ideal.main (F := Ideal))) ⟨m, fun _ => 0, g⟩ (fun r => ∀ c : Dev Cert.BranchDw2Ideal.nD,
          r.2.mem ((c.tc : Thread Cert.BranchDw2Ideal.nD Cert.BranchDw2Ideal.τ).loc Cert.BranchDw2Ideal.main_v0) = v0 c
          ∧ r.2.mem ((c.tc : Thread Cert.BranchDw2Ideal.nD Cert.BranchDw2Ideal.τ).loc Cert.BranchDw2Ideal.main_arg0) = m ((c.tc : Thread Cert.BranchDw2Ideal.nD Cert.BranchDw2Ideal.τ).loc Cert.BranchDw2Ideal.main_arg0)
          ∧ r.2.mem ((c.tc : Thread Cert.BranchDw2Ideal.nD Cert.BranchDw2Ideal.τ).loc Cert.BranchDw2Ideal.main_arg1) = m ((c.tc : Thread Cert.BranchDw2Ideal.nD Cert.BranchDw2Ideal.τ).loc Cert.BranchDw2Ideal.main_arg1))
      ∧ θ_run (Cert.BranchDw2RefIdeal.defs (F := Ideal)) (onTc (τ := Cert.BranchDw2RefIdeal.τ) (Cert.BranchDw2RefIdeal.main (F := Ideal))) ⟨m', fun _ => 0, g'⟩ (fun r => ∀ c : Dev Cert.BranchDw2RefIdeal.nD,
          r.2.mem ((c.tc : Thread Cert.BranchDw2RefIdeal.nD Cert.BranchDw2RefIdeal.τ).loc Cert.BranchDw2RefIdeal.main_v12) = v0 c
          ∧ r.2.mem ((c.tc : Thread Cert.BranchDw2RefIdeal.nD Cert.BranchDw2RefIdeal.τ).loc Cert.BranchDw2RefIdeal.main_arg0) = m' ((c.tc : Thread Cert.BranchDw2RefIdeal.nD Cert.BranchDw2RefIdeal.τ).loc Cert.BranchDw2RefIdeal.main_arg0)
          ∧ r.2.mem ((c.tc : Thread Cert.BranchDw2RefIdeal.nD Cert.BranchDw2RefIdeal.τ).loc Cert.BranchDw2RefIdeal.main_arg1) = m' ((c.tc : Thread Cert.BranchDw2RefIdeal.nD Cert.BranchDw2RefIdeal.τ).loc Cert.BranchDw2RefIdeal.main_arg1))

def preserves_BranchDw3_BranchDw3Ideal : Prop :=
  True

def algebraic_BranchDw3Ideal_BranchDw3RefIdeal [hBranchDw3Ideal : Cert.BranchDw3Ideal.Facts] [hBranchDw3RefIdeal : Cert.BranchDw3RefIdeal.Facts] : Prop :=
  ∀ (m : (ℓ : Loc Cert.BranchDw3Ideal.nD Cert.BranchDw3Ideal.τ Cert.BranchDw3Ideal.sig) → Buf (Elt Ideal) ℓ) (g : Dev Cert.BranchDw3Ideal.nD → PrngReg)
    (m' : (ℓ : Loc Cert.BranchDw3RefIdeal.nD Cert.BranchDw3RefIdeal.τ Cert.BranchDw3RefIdeal.sig) → Buf (Elt Ideal) ℓ) (g' : Dev Cert.BranchDw3RefIdeal.nD → PrngReg), Pre_BranchDw3Ideal m →
    (∀ c : Dev Cert.BranchDw3Ideal.nD,
      m' ((c.tc : Thread Cert.BranchDw3RefIdeal.nD Cert.BranchDw3RefIdeal.τ).loc Cert.BranchDw3RefIdeal.main_arg0) = m ((c.tc : Thread Cert.BranchDw3Ideal.nD Cert.BranchDw3Ideal.τ).loc Cert.BranchDw3Ideal.main_arg0)
      ∧ m' ((c.tc : Thread Cert.BranchDw3RefIdeal.nD Cert.BranchDw3RefIdeal.τ).loc Cert.BranchDw3RefIdeal.main_arg1) = m ((c.tc : Thread Cert.BranchDw3Ideal.nD Cert.BranchDw3Ideal.τ).loc Cert.BranchDw3Ideal.main_arg1)) →
    ∃ (v0 : (c : Dev Cert.BranchDw3Ideal.nD) → Buf (Elt Ideal) ((c.tc : Thread Cert.BranchDw3Ideal.nD Cert.BranchDw3Ideal.τ).loc Cert.BranchDw3Ideal.main_v0)),
      θ_run (Cert.BranchDw3Ideal.defs (F := Ideal)) (onTc (τ := Cert.BranchDw3Ideal.τ) (Cert.BranchDw3Ideal.main (F := Ideal))) ⟨m, fun _ => 0, g⟩ (fun r => ∀ c : Dev Cert.BranchDw3Ideal.nD,
          r.2.mem ((c.tc : Thread Cert.BranchDw3Ideal.nD Cert.BranchDw3Ideal.τ).loc Cert.BranchDw3Ideal.main_v0) = v0 c
          ∧ r.2.mem ((c.tc : Thread Cert.BranchDw3Ideal.nD Cert.BranchDw3Ideal.τ).loc Cert.BranchDw3Ideal.main_arg0) = m ((c.tc : Thread Cert.BranchDw3Ideal.nD Cert.BranchDw3Ideal.τ).loc Cert.BranchDw3Ideal.main_arg0)
          ∧ r.2.mem ((c.tc : Thread Cert.BranchDw3Ideal.nD Cert.BranchDw3Ideal.τ).loc Cert.BranchDw3Ideal.main_arg1) = m ((c.tc : Thread Cert.BranchDw3Ideal.nD Cert.BranchDw3Ideal.τ).loc Cert.BranchDw3Ideal.main_arg1))
      ∧ θ_run (Cert.BranchDw3RefIdeal.defs (F := Ideal)) (onTc (τ := Cert.BranchDw3RefIdeal.τ) (Cert.BranchDw3RefIdeal.main (F := Ideal))) ⟨m', fun _ => 0, g'⟩ (fun r => ∀ c : Dev Cert.BranchDw3RefIdeal.nD,
          r.2.mem ((c.tc : Thread Cert.BranchDw3RefIdeal.nD Cert.BranchDw3RefIdeal.τ).loc Cert.BranchDw3RefIdeal.main_v12) = v0 c
          ∧ r.2.mem ((c.tc : Thread Cert.BranchDw3RefIdeal.nD Cert.BranchDw3RefIdeal.τ).loc Cert.BranchDw3RefIdeal.main_arg0) = m' ((c.tc : Thread Cert.BranchDw3RefIdeal.nD Cert.BranchDw3RefIdeal.τ).loc Cert.BranchDw3RefIdeal.main_arg0)
          ∧ r.2.mem ((c.tc : Thread Cert.BranchDw3RefIdeal.nD Cert.BranchDw3RefIdeal.τ).loc Cert.BranchDw3RefIdeal.main_arg1) = m' ((c.tc : Thread Cert.BranchDw3RefIdeal.nD Cert.BranchDw3RefIdeal.τ).loc Cert.BranchDw3RefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v4) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v8) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v3) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v5) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)
      ∧ m' ((c.tc : Thread Cert.GluProjRefIdeal.nD Cert.GluProjRefIdeal.τ).loc Cert.GluProjRefIdeal.main_arg2) = m ((c.tc : Thread Cert.GluProjIdeal.nD Cert.GluProjIdeal.τ).loc Cert.GluProjIdeal.main_arg2)) →
    ∃ (v0 : (c : Dev Cert.GluProjIdeal.nD) → Buf (Elt Ideal) ((c.tc : Thread Cert.GluProjIdeal.nD Cert.GluProjIdeal.τ).loc Cert.GluProjIdeal.main_v0)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v0) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
          ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v4) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1)
          ∧ r.2.mem ((c.tc : Thread Cert.GluProjRefIdeal.nD Cert.GluProjRefIdeal.τ).loc Cert.GluProjRefIdeal.main_arg2) = m' ((c.tc : Thread Cert.GluProjRefIdeal.nD Cert.GluProjRefIdeal.τ).loc Cert.GluProjRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v2) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v85) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v0_0)) (v1 : (c : Dev Cert.GluBwdIdeal.nD) → Buf (Elt Ideal) ((c.tc : Thread Cert.GluBwdIdeal.nD Cert.GluBwdIdeal.τ).loc Cert.GluBwdIdeal.main_v0_1)) (v2 : (c : Dev Cert.GluBwdIdeal.nD) → Buf (Elt Ideal) ((c.tc : Thread Cert.GluBwdIdeal.nD Cert.GluBwdIdeal.τ).loc Cert.GluBwdIdeal.main_v0_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0_0) = v0 c
          ∧ r.2.mem ((c.tc : Thread Cert.GluBwdIdeal.nD Cert.GluBwdIdeal.τ).loc Cert.GluBwdIdeal.main_v0_1) = v1 c
          ∧ r.2.mem ((c.tc : Thread Cert.GluBwdIdeal.nD Cert.GluBwdIdeal.τ).loc Cert.GluBwdIdeal.main_v0_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v27) = v0 c
          ∧ r.2.mem ((c.tc : Thread Cert.GluBwdRefIdeal.nD Cert.GluBwdRefIdeal.τ).loc Cert.GluBwdRefIdeal.main_v28) = v1 c
          ∧ r.2.mem ((c.tc : Thread Cert.GluBwdRefIdeal.nD Cert.GluBwdRefIdeal.τ).loc Cert.GluBwdRefIdeal.main_v26) = v2 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v18) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v1_0)) (v1 : (c : Dev Cert.MemNormBwdIdeal.nD) → Buf (Elt Ideal) ((c.tc : Thread Cert.MemNormBwdIdeal.nD Cert.MemNormBwdIdeal.τ).loc Cert.MemNormBwdIdeal.main_v1_1)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v1_0) = v0 c
          ∧ r.2.mem ((c.tc : Thread Cert.MemNormBwdIdeal.nD Cert.MemNormBwdIdeal.τ).loc Cert.MemNormBwdIdeal.main_v1_1) = v1 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v34) = v0 c
          ∧ r.2.mem ((c.tc : Thread Cert.MemNormBwdRefIdeal.nD Cert.MemNormBwdRefIdeal.τ).loc Cert.MemNormBwdRefIdeal.main_v18) = v1 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v49) = v1 c
          ∧ r.2.mem ((c.tc : Thread Cert.LossHeadRefIdeal.nD Cert.LossHeadRefIdeal.τ).loc Cert.LossHeadRefIdeal.main_v33) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_DnConvBwd_DnConvBwdIdeal : Prop :=
  True

def algebraic_DnConvBwdIdeal_DnConvBwdRefIdeal [hDnConvBwdIdeal : Cert.DnConvBwdIdeal.Facts] [hDnConvBwdRefIdeal : Cert.DnConvBwdRefIdeal.Facts] : Prop :=
  ∀ (m : (ℓ : Loc Cert.DnConvBwdIdeal.nD Cert.DnConvBwdIdeal.τ Cert.DnConvBwdIdeal.sig) → Buf (Elt Ideal) ℓ) (g : Dev Cert.DnConvBwdIdeal.nD → PrngReg)
    (m' : (ℓ : Loc Cert.DnConvBwdRefIdeal.nD Cert.DnConvBwdRefIdeal.τ Cert.DnConvBwdRefIdeal.sig) → Buf (Elt Ideal) ℓ) (g' : Dev Cert.DnConvBwdRefIdeal.nD → PrngReg), Pre_DnConvBwdIdeal m →
    (∀ c : Dev Cert.DnConvBwdIdeal.nD,
      m' ((c.tc : Thread Cert.DnConvBwdRefIdeal.nD Cert.DnConvBwdRefIdeal.τ).loc Cert.DnConvBwdRefIdeal.main_arg0) = m ((c.tc : Thread Cert.DnConvBwdIdeal.nD Cert.DnConvBwdIdeal.τ).loc Cert.DnConvBwdIdeal.main_arg0)
      ∧ m' ((c.tc : Thread Cert.DnConvBwdRefIdeal.nD Cert.DnConvBwdRefIdeal.τ).loc Cert.DnConvBwdRefIdeal.main_arg1) = m ((c.tc : Thread Cert.DnConvBwdIdeal.nD Cert.DnConvBwdIdeal.τ).loc Cert.DnConvBwdIdeal.main_arg1)
      ∧ m' ((c.tc : Thread Cert.DnConvBwdRefIdeal.nD Cert.DnConvBwdRefIdeal.τ).loc Cert.DnConvBwdRefIdeal.main_arg2) = m ((c.tc : Thread Cert.DnConvBwdIdeal.nD Cert.DnConvBwdIdeal.τ).loc Cert.DnConvBwdIdeal.main_arg2)) →
    ∃ (v0 : (c : Dev Cert.DnConvBwdIdeal.nD) → Buf (Elt Ideal) ((c.tc : Thread Cert.DnConvBwdIdeal.nD Cert.DnConvBwdIdeal.τ).loc Cert.DnConvBwdIdeal.main_v0_0)) (v1 : (c : Dev Cert.DnConvBwdIdeal.nD) → Buf (Elt Ideal) ((c.tc : Thread Cert.DnConvBwdIdeal.nD Cert.DnConvBwdIdeal.τ).loc Cert.DnConvBwdIdeal.main_v0_1)) (v2 : (c : Dev Cert.DnConvBwdIdeal.nD) → Buf (Elt Ideal) ((c.tc : Thread Cert.DnConvBwdIdeal.nD Cert.DnConvBwdIdeal.τ).loc Cert.DnConvBwdIdeal.main_v0_2)),
      θ_run (Cert.DnConvBwdIdeal.defs (F := Ideal)) (onTc (τ := Cert.DnConvBwdIdeal.τ) (Cert.DnConvBwdIdeal.main (F := Ideal))) ⟨m, fun _ => 0, g⟩ (fun r => ∀ c : Dev Cert.DnConvBwdIdeal.nD,
          r.2.mem ((c.tc : Thread Cert.DnConvBwdIdeal.nD Cert.DnConvBwdIdeal.τ).loc Cert.DnConvBwdIdeal.main_v0_0) = v0 c
          ∧ r.2.mem ((c.tc : Thread Cert.DnConvBwdIdeal.nD Cert.DnConvBwdIdeal.τ).loc Cert.DnConvBwdIdeal.main_v0_1) = v1 c
          ∧ r.2.mem ((c.tc : Thread Cert.DnConvBwdIdeal.nD Cert.DnConvBwdIdeal.τ).loc Cert.DnConvBwdIdeal.main_v0_2) = v2 c
          ∧ r.2.mem ((c.tc : Thread Cert.DnConvBwdIdeal.nD Cert.DnConvBwdIdeal.τ).loc Cert.DnConvBwdIdeal.main_arg0) = m ((c.tc : Thread Cert.DnConvBwdIdeal.nD Cert.DnConvBwdIdeal.τ).loc Cert.DnConvBwdIdeal.main_arg0)
          ∧ r.2.mem ((c.tc : Thread Cert.DnConvBwdIdeal.nD Cert.DnConvBwdIdeal.τ).loc Cert.DnConvBwdIdeal.main_arg1) = m ((c.tc : Thread Cert.DnConvBwdIdeal.nD Cert.DnConvBwdIdeal.τ).loc Cert.DnConvBwdIdeal.main_arg1)
          ∧ r.2.mem ((c.tc : Thread Cert.DnConvBwdIdeal.nD Cert.DnConvBwdIdeal.τ).loc Cert.DnConvBwdIdeal.main_arg2) = m ((c.tc : Thread Cert.DnConvBwdIdeal.nD Cert.DnConvBwdIdeal.τ).loc Cert.DnConvBwdIdeal.main_arg2))
      ∧ θ_run (Cert.DnConvBwdRefIdeal.defs (F := Ideal)) (onTc (τ := Cert.DnConvBwdRefIdeal.τ) (Cert.DnConvBwdRefIdeal.main (F := Ideal))) ⟨m', fun _ => 0, g'⟩ (fun r => ∀ c : Dev Cert.DnConvBwdRefIdeal.nD,
          r.2.mem ((c.tc : Thread Cert.DnConvBwdRefIdeal.nD Cert.DnConvBwdRefIdeal.τ).loc Cert.DnConvBwdRefIdeal.main_v81) = v0 c
          ∧ r.2.mem ((c.tc : Thread Cert.DnConvBwdRefIdeal.nD Cert.DnConvBwdRefIdeal.τ).loc Cert.DnConvBwdRefIdeal.main_v76) = v1 c
          ∧ r.2.mem ((c.tc : Thread Cert.DnConvBwdRefIdeal.nD Cert.DnConvBwdRefIdeal.τ).loc Cert.DnConvBwdRefIdeal.main_v36) = v2 c
          ∧ r.2.mem ((c.tc : Thread Cert.DnConvBwdRefIdeal.nD Cert.DnConvBwdRefIdeal.τ).loc Cert.DnConvBwdRefIdeal.main_arg0) = m' ((c.tc : Thread Cert.DnConvBwdRefIdeal.nD Cert.DnConvBwdRefIdeal.τ).loc Cert.DnConvBwdRefIdeal.main_arg0)
          ∧ r.2.mem ((c.tc : Thread Cert.DnConvBwdRefIdeal.nD Cert.DnConvBwdRefIdeal.τ).loc Cert.DnConvBwdRefIdeal.main_arg1) = m' ((c.tc : Thread Cert.DnConvBwdRefIdeal.nD Cert.DnConvBwdRefIdeal.τ).loc Cert.DnConvBwdRefIdeal.main_arg1)
          ∧ r.2.mem ((c.tc : Thread Cert.DnConvBwdRefIdeal.nD Cert.DnConvBwdRefIdeal.τ).loc Cert.DnConvBwdRefIdeal.main_arg2) = m' ((c.tc : Thread Cert.DnConvBwdRefIdeal.nD Cert.DnConvBwdRefIdeal.τ).loc Cert.DnConvBwdRefIdeal.main_arg2))

def preserves_LruConvBwd_LruConvBwdIdeal : Prop :=
  True

def algebraic_LruConvBwdIdeal_LruConvBwdRefIdeal [hLruConvBwdIdeal : Cert.LruConvBwdIdeal.Facts] [hLruConvBwdRefIdeal : Cert.LruConvBwdRefIdeal.Facts] : Prop :=
  ∀ (m : (ℓ : Loc Cert.LruConvBwdIdeal.nD Cert.LruConvBwdIdeal.τ Cert.LruConvBwdIdeal.sig) → Buf (Elt Ideal) ℓ) (g : Dev Cert.LruConvBwdIdeal.nD → PrngReg)
    (m' : (ℓ : Loc Cert.LruConvBwdRefIdeal.nD Cert.LruConvBwdRefIdeal.τ Cert.LruConvBwdRefIdeal.sig) → Buf (Elt Ideal) ℓ) (g' : Dev Cert.LruConvBwdRefIdeal.nD → PrngReg), Pre_LruConvBwdIdeal m →
    (∀ c : Dev Cert.LruConvBwdIdeal.nD,
      m' ((c.tc : Thread Cert.LruConvBwdRefIdeal.nD Cert.LruConvBwdRefIdeal.τ).loc Cert.LruConvBwdRefIdeal.main_arg0) = m ((c.tc : Thread Cert.LruConvBwdIdeal.nD Cert.LruConvBwdIdeal.τ).loc Cert.LruConvBwdIdeal.main_arg0)
      ∧ m' ((c.tc : Thread Cert.LruConvBwdRefIdeal.nD Cert.LruConvBwdRefIdeal.τ).loc Cert.LruConvBwdRefIdeal.main_arg1) = m ((c.tc : Thread Cert.LruConvBwdIdeal.nD Cert.LruConvBwdIdeal.τ).loc Cert.LruConvBwdIdeal.main_arg1)
      ∧ m' ((c.tc : Thread Cert.LruConvBwdRefIdeal.nD Cert.LruConvBwdRefIdeal.τ).loc Cert.LruConvBwdRefIdeal.main_arg2) = m ((c.tc : Thread Cert.LruConvBwdIdeal.nD Cert.LruConvBwdIdeal.τ).loc Cert.LruConvBwdIdeal.main_arg2)) →
    ∃ (v0 : (c : Dev Cert.LruConvBwdIdeal.nD) → Buf (Elt Ideal) ((c.tc : Thread Cert.LruConvBwdIdeal.nD Cert.LruConvBwdIdeal.τ).loc Cert.LruConvBwdIdeal.main_v0_0)) (v1 : (c : Dev Cert.LruConvBwdIdeal.nD) → Buf (Elt Ideal) ((c.tc : Thread Cert.LruConvBwdIdeal.nD Cert.LruConvBwdIdeal.τ).loc Cert.LruConvBwdIdeal.main_v0_1)) (v2 : (c : Dev Cert.LruConvBwdIdeal.nD) → Buf (Elt Ideal) ((c.tc : Thread Cert.LruConvBwdIdeal.nD Cert.LruConvBwdIdeal.τ).loc Cert.LruConvBwdIdeal.main_v0_2)),
      θ_run (Cert.LruConvBwdIdeal.defs (F := Ideal)) (onTc (τ := Cert.LruConvBwdIdeal.τ) (Cert.LruConvBwdIdeal.main (F := Ideal))) ⟨m, fun _ => 0, g⟩ (fun r => ∀ c : Dev Cert.LruConvBwdIdeal.nD,
          r.2.mem ((c.tc : Thread Cert.LruConvBwdIdeal.nD Cert.LruConvBwdIdeal.τ).loc Cert.LruConvBwdIdeal.main_v0_0) = v0 c
          ∧ r.2.mem ((c.tc : Thread Cert.LruConvBwdIdeal.nD Cert.LruConvBwdIdeal.τ).loc Cert.LruConvBwdIdeal.main_v0_1) = v1 c
          ∧ r.2.mem ((c.tc : Thread Cert.LruConvBwdIdeal.nD Cert.LruConvBwdIdeal.τ).loc Cert.LruConvBwdIdeal.main_v0_2) = v2 c
          ∧ r.2.mem ((c.tc : Thread Cert.LruConvBwdIdeal.nD Cert.LruConvBwdIdeal.τ).loc Cert.LruConvBwdIdeal.main_arg0) = m ((c.tc : Thread Cert.LruConvBwdIdeal.nD Cert.LruConvBwdIdeal.τ).loc Cert.LruConvBwdIdeal.main_arg0)
          ∧ r.2.mem ((c.tc : Thread Cert.LruConvBwdIdeal.nD Cert.LruConvBwdIdeal.τ).loc Cert.LruConvBwdIdeal.main_arg1) = m ((c.tc : Thread Cert.LruConvBwdIdeal.nD Cert.LruConvBwdIdeal.τ).loc Cert.LruConvBwdIdeal.main_arg1)
          ∧ r.2.mem ((c.tc : Thread Cert.LruConvBwdIdeal.nD Cert.LruConvBwdIdeal.τ).loc Cert.LruConvBwdIdeal.main_arg2) = m ((c.tc : Thread Cert.LruConvBwdIdeal.nD Cert.LruConvBwdIdeal.τ).loc Cert.LruConvBwdIdeal.main_arg2))
      ∧ θ_run (Cert.LruConvBwdRefIdeal.defs (F := Ideal)) (onTc (τ := Cert.LruConvBwdRefIdeal.τ) (Cert.LruConvBwdRefIdeal.main (F := Ideal))) ⟨m', fun _ => 0, g'⟩ (fun r => ∀ c : Dev Cert.LruConvBwdRefIdeal.nD,
          r.2.mem ((c.tc : Thread Cert.LruConvBwdRefIdeal.nD Cert.LruConvBwdRefIdeal.τ).loc Cert.LruConvBwdRefIdeal.main_v81) = v0 c
          ∧ r.2.mem ((c.tc : Thread Cert.LruConvBwdRefIdeal.nD Cert.LruConvBwdRefIdeal.τ).loc Cert.LruConvBwdRefIdeal.main_v76) = v1 c
          ∧ r.2.mem ((c.tc : Thread Cert.LruConvBwdRefIdeal.nD Cert.LruConvBwdRefIdeal.τ).loc Cert.LruConvBwdRefIdeal.main_v36) = v2 c
          ∧ r.2.mem ((c.tc : Thread Cert.LruConvBwdRefIdeal.nD Cert.LruConvBwdRefIdeal.τ).loc Cert.LruConvBwdRefIdeal.main_arg0) = m' ((c.tc : Thread Cert.LruConvBwdRefIdeal.nD Cert.LruConvBwdRefIdeal.τ).loc Cert.LruConvBwdRefIdeal.main_arg0)
          ∧ r.2.mem ((c.tc : Thread Cert.LruConvBwdRefIdeal.nD Cert.LruConvBwdRefIdeal.τ).loc Cert.LruConvBwdRefIdeal.main_arg1) = m' ((c.tc : Thread Cert.LruConvBwdRefIdeal.nD Cert.LruConvBwdRefIdeal.τ).loc Cert.LruConvBwdRefIdeal.main_arg1)
          ∧ r.2.mem ((c.tc : Thread Cert.LruConvBwdRefIdeal.nD Cert.LruConvBwdRefIdeal.τ).loc Cert.LruConvBwdRefIdeal.main_arg2) = m' ((c.tc : Thread Cert.LruConvBwdRefIdeal.nD Cert.LruConvBwdRefIdeal.τ).loc Cert.LruConvBwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v12) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MemNormFwd_MemNormFwdIdeal : Prop :=
  True

def algebraic_MemNormFwdIdeal_MemNormFwdRefIdeal [hMemNormFwdIdeal : Cert.MemNormFwdIdeal.Facts] [hMemNormFwdRefIdeal : Cert.MemNormFwdRefIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdRefIdeal.nD Cert.MemNormFwdRefIdeal.τ Cert.MemNormFwdRefIdeal.sig) → Buf (Elt Ideal) ℓ) (g' : Dev Cert.MemNormFwdRefIdeal.nD → PrngReg), Pre_MemNormFwdIdeal m →
    (∀ c : Dev Cert.MemNormFwdIdeal.nD,
      m' ((c.tc : Thread Cert.MemNormFwdRefIdeal.nD Cert.MemNormFwdRefIdeal.τ).loc Cert.MemNormFwdRefIdeal.main_arg0) = m ((c.tc : Thread Cert.MemNormFwdIdeal.nD Cert.MemNormFwdIdeal.τ).loc Cert.MemNormFwdIdeal.main_arg0)
      ∧ m' ((c.tc : Thread Cert.MemNormFwdRefIdeal.nD Cert.MemNormFwdRefIdeal.τ).loc Cert.MemNormFwdRefIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v1)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v1) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdRefIdeal.defs (F := Ideal)) (onTc (τ := Cert.MemNormFwdRefIdeal.τ) (Cert.MemNormFwdRefIdeal.main (F := Ideal))) ⟨m', fun _ => 0, g'⟩ (fun r => ∀ c : Dev Cert.MemNormFwdRefIdeal.nD,
          r.2.mem ((c.tc : Thread Cert.MemNormFwdRefIdeal.nD Cert.MemNormFwdRefIdeal.τ).loc Cert.MemNormFwdRefIdeal.main_v13) = v0 c
          ∧ r.2.mem ((c.tc : Thread Cert.MemNormFwdRefIdeal.nD Cert.MemNormFwdRefIdeal.τ).loc Cert.MemNormFwdRefIdeal.main_arg0) = m' ((c.tc : Thread Cert.MemNormFwdRefIdeal.nD Cert.MemNormFwdRefIdeal.τ).loc Cert.MemNormFwdRefIdeal.main_arg0)
          ∧ r.2.mem ((c.tc : Thread Cert.MemNormFwdRefIdeal.nD Cert.MemNormFwdRefIdeal.τ).loc Cert.MemNormFwdRefIdeal.main_arg1) = m' ((c.tc : Thread Cert.MemNormFwdRefIdeal.nD Cert.MemNormFwdRefIdeal.τ).loc Cert.MemNormFwdRefIdeal.main_arg1))

def preserves_DnConvFwd_DnConvFwdIdeal : Prop :=
  True

def algebraic_DnConvFwdIdeal_DnConvFwdRefIdeal [hDnConvFwdIdeal : Cert.DnConvFwdIdeal.Facts] [hDnConvFwdRefIdeal : Cert.DnConvFwdRefIdeal.Facts] : Prop :=
  ∀ (m : (ℓ : Loc Cert.DnConvFwdIdeal.nD Cert.DnConvFwdIdeal.τ Cert.DnConvFwdIdeal.sig) → Buf (Elt Ideal) ℓ) (g : Dev Cert.DnConvFwdIdeal.nD → PrngReg)
    (m' : (ℓ : Loc Cert.DnConvFwdRefIdeal.nD Cert.DnConvFwdRefIdeal.τ Cert.DnConvFwdRefIdeal.sig) → Buf (Elt Ideal) ℓ) (g' : Dev Cert.DnConvFwdRefIdeal.nD → PrngReg), Pre_DnConvFwdIdeal m →
    (∀ c : Dev Cert.DnConvFwdIdeal.nD,
      m' ((c.tc : Thread Cert.DnConvFwdRefIdeal.nD Cert.DnConvFwdRefIdeal.τ).loc Cert.DnConvFwdRefIdeal.main_arg0) = m ((c.tc : Thread Cert.DnConvFwdIdeal.nD Cert.DnConvFwdIdeal.τ).loc Cert.DnConvFwdIdeal.main_arg0)
      ∧ m' ((c.tc : Thread Cert.DnConvFwdRefIdeal.nD Cert.DnConvFwdRefIdeal.τ).loc Cert.DnConvFwdRefIdeal.main_arg1) = m ((c.tc : Thread Cert.DnConvFwdIdeal.nD Cert.DnConvFwdIdeal.τ).loc Cert.DnConvFwdIdeal.main_arg1)) →
    ∃ (v0 : (c : Dev Cert.DnConvFwdIdeal.nD) → Buf (Elt Ideal) ((c.tc : Thread Cert.DnConvFwdIdeal.nD Cert.DnConvFwdIdeal.τ).loc Cert.DnConvFwdIdeal.main_v1)),
      θ_run (Cert.DnConvFwdIdeal.defs (F := Ideal)) (onTc (τ := Cert.DnConvFwdIdeal.τ) (Cert.DnConvFwdIdeal.main (F := Ideal))) ⟨m, fun _ => 0, g⟩ (fun r => ∀ c : Dev Cert.DnConvFwdIdeal.nD,
          r.2.mem ((c.tc : Thread Cert.DnConvFwdIdeal.nD Cert.DnConvFwdIdeal.τ).loc Cert.DnConvFwdIdeal.main_v1) = v0 c
          ∧ r.2.mem ((c.tc : Thread Cert.DnConvFwdIdeal.nD Cert.DnConvFwdIdeal.τ).loc Cert.DnConvFwdIdeal.main_arg0) = m ((c.tc : Thread Cert.DnConvFwdIdeal.nD Cert.DnConvFwdIdeal.τ).loc Cert.DnConvFwdIdeal.main_arg0)
          ∧ r.2.mem ((c.tc : Thread Cert.DnConvFwdIdeal.nD Cert.DnConvFwdIdeal.τ).loc Cert.DnConvFwdIdeal.main_arg1) = m ((c.tc : Thread Cert.DnConvFwdIdeal.nD Cert.DnConvFwdIdeal.τ).loc Cert.DnConvFwdIdeal.main_arg1))
      ∧ θ_run (Cert.DnConvFwdRefIdeal.defs (F := Ideal)) (onTc (τ := Cert.DnConvFwdRefIdeal.τ) (Cert.DnConvFwdRefIdeal.main (F := Ideal))) ⟨m', fun _ => 0, g'⟩ (fun r => ∀ c : Dev Cert.DnConvFwdRefIdeal.nD,
          r.2.mem ((c.tc : Thread Cert.DnConvFwdRefIdeal.nD Cert.DnConvFwdRefIdeal.τ).loc Cert.DnConvFwdRefIdeal.main_v32) = v0 c
          ∧ r.2.mem ((c.tc : Thread Cert.DnConvFwdRefIdeal.nD Cert.DnConvFwdRefIdeal.τ).loc Cert.DnConvFwdRefIdeal.main_arg0) = m' ((c.tc : Thread Cert.DnConvFwdRefIdeal.nD Cert.DnConvFwdRefIdeal.τ).loc Cert.DnConvFwdRefIdeal.main_arg0)
          ∧ r.2.mem ((c.tc : Thread Cert.DnConvFwdRefIdeal.nD Cert.DnConvFwdRefIdeal.τ).loc Cert.DnConvFwdRefIdeal.main_arg1) = m' ((c.tc : Thread Cert.DnConvFwdRefIdeal.nD Cert.DnConvFwdRefIdeal.τ).loc Cert.DnConvFwdRefIdeal.main_arg1))

def preserves_LruConvFwd_LruConvFwdIdeal : Prop :=
  True

def algebraic_LruConvFwdIdeal_LruConvFwdRefIdeal [hLruConvFwdIdeal : Cert.LruConvFwdIdeal.Facts] [hLruConvFwdRefIdeal : Cert.LruConvFwdRefIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg)
    (m' : (ℓ : Loc Cert.LruConvFwdRefIdeal.nD Cert.LruConvFwdRefIdeal.τ Cert.LruConvFwdRefIdeal.sig) → Buf (Elt Ideal) ℓ) (g' : Dev Cert.LruConvFwdRefIdeal.nD → PrngReg), Pre_LruConvFwdIdeal m →
    (∀ c : Dev Cert.LruConvFwdIdeal.nD,
      m' ((c.tc : Thread Cert.LruConvFwdRefIdeal.nD Cert.LruConvFwdRefIdeal.τ).loc Cert.LruConvFwdRefIdeal.main_arg0) = m ((c.tc : Thread Cert.LruConvFwdIdeal.nD Cert.LruConvFwdIdeal.τ).loc Cert.LruConvFwdIdeal.main_arg0)
      ∧ m' ((c.tc : Thread Cert.LruConvFwdRefIdeal.nD Cert.LruConvFwdRefIdeal.τ).loc Cert.LruConvFwdRefIdeal.main_arg1) = m ((c.tc : Thread Cert.LruConvFwdIdeal.nD Cert.LruConvFwdIdeal.τ).loc Cert.LruConvFwdIdeal.main_arg1)
      ∧ m' ((c.tc : Thread Cert.LruConvFwdRefIdeal.nD Cert.LruConvFwdRefIdeal.τ).loc Cert.LruConvFwdRefIdeal.main_arg2) = m ((c.tc : Thread Cert.LruConvFwdIdeal.nD Cert.LruConvFwdIdeal.τ).loc Cert.LruConvFwdIdeal.main_arg2)) →
    ∃ (v0 : (c : Dev Cert.LruConvFwdIdeal.nD) → Buf (Elt Ideal) ((c.tc : Thread Cert.LruConvFwdIdeal.nD Cert.LruConvFwdIdeal.τ).loc Cert.LruConvFwdIdeal.main_v0)),
      θ_run (Cert.LruConvFwdIdeal.defs (F := Ideal)) (onTc (τ := Cert.LruConvFwdIdeal.τ) (Cert.LruConvFwdIdeal.main (F := Ideal))) ⟨m, fun _ => 0, g⟩ (fun r => ∀ c : Dev Cert.LruConvFwdIdeal.nD,
          r.2.mem ((c.tc : Thread Cert.LruConvFwdIdeal.nD Cert.LruConvFwdIdeal.τ).loc Cert.LruConvFwdIdeal.main_v0) = v0 c
          ∧ r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
          ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
          ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ θ_run (Cert.LruConvFwdRefIdeal.defs (F := Ideal)) (onTc (τ := Cert.LruConvFwdRefIdeal.τ) (Cert.LruConvFwdRefIdeal.main (F := Ideal))) ⟨m', fun _ => 0, g'⟩ (fun r => ∀ c : Dev Cert.LruConvFwdRefIdeal.nD,
          r.2.mem ((c.tc : Thread Cert.LruConvFwdRefIdeal.nD Cert.LruConvFwdRefIdeal.τ).loc Cert.LruConvFwdRefIdeal.main_v31) = v0 c
          ∧ r.2.mem ((c.tc : Thread Cert.LruConvFwdRefIdeal.nD Cert.LruConvFwdRefIdeal.τ).loc Cert.LruConvFwdRefIdeal.main_arg0) = m' ((c.tc : Thread Cert.LruConvFwdRefIdeal.nD Cert.LruConvFwdRefIdeal.τ).loc Cert.LruConvFwdRefIdeal.main_arg0)
          ∧ r.2.mem ((c.tc : Thread Cert.LruConvFwdRefIdeal.nD Cert.LruConvFwdRefIdeal.τ).loc Cert.LruConvFwdRefIdeal.main_arg1) = m' ((c.tc : Thread Cert.LruConvFwdRefIdeal.nD Cert.LruConvFwdRefIdeal.τ).loc Cert.LruConvFwdRefIdeal.main_arg1)
          ∧ r.2.mem ((c.tc : Thread Cert.LruConvFwdRefIdeal.nD Cert.LruConvFwdRefIdeal.τ).loc Cert.LruConvFwdRefIdeal.main_arg2) = m' ((c.tc : Thread Cert.LruConvFwdRefIdeal.nD Cert.LruConvFwdRefIdeal.τ).loc Cert.LruConvFwdRefIdeal.main_arg2))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWGlu_AdamWGluIdeal : Prop :=
  True

def algebraic_AdamWGluIdeal_AdamWGluRefIdeal [hAdamWGluIdeal : Cert.AdamWGluIdeal.Facts] [hAdamWGluRefIdeal : Cert.AdamWGluRefIdeal.Facts] : Prop :=
  ∀ (m : (ℓ : Loc Cert.AdamWGluIdeal.nD Cert.AdamWGluIdeal.τ Cert.AdamWGluIdeal.sig) → Buf (Elt Ideal) ℓ) (g : Dev Cert.AdamWGluIdeal.nD → PrngReg)
    (m' : (ℓ : Loc Cert.AdamWGluRefIdeal.nD Cert.AdamWGluRefIdeal.τ Cert.AdamWGluRefIdeal.sig) → Buf (Elt Ideal) ℓ) (g' : Dev Cert.AdamWGluRefIdeal.nD → PrngReg), Pre_AdamWGluIdeal m →
    (∀ c : Dev Cert.AdamWGluIdeal.nD,
      m' ((c.tc : Thread Cert.AdamWGluRefIdeal.nD Cert.AdamWGluRefIdeal.τ).loc Cert.AdamWGluRefIdeal.main_arg0) = m ((c.tc : Thread Cert.AdamWGluIdeal.nD Cert.AdamWGluIdeal.τ).loc Cert.AdamWGluIdeal.main_arg0)
      ∧ m' ((c.tc : Thread Cert.AdamWGluRefIdeal.nD Cert.AdamWGluRefIdeal.τ).loc Cert.AdamWGluRefIdeal.main_arg1) = m ((c.tc : Thread Cert.AdamWGluIdeal.nD Cert.AdamWGluIdeal.τ).loc Cert.AdamWGluIdeal.main_arg1)
      ∧ m' ((c.tc : Thread Cert.AdamWGluRefIdeal.nD Cert.AdamWGluRefIdeal.τ).loc Cert.AdamWGluRefIdeal.main_arg2) = m ((c.tc : Thread Cert.AdamWGluIdeal.nD Cert.AdamWGluIdeal.τ).loc Cert.AdamWGluIdeal.main_arg2)
      ∧ m' ((c.tc : Thread Cert.AdamWGluRefIdeal.nD Cert.AdamWGluRefIdeal.τ).loc Cert.AdamWGluRefIdeal.main_arg3) = m ((c.tc : Thread Cert.AdamWGluIdeal.nD Cert.AdamWGluIdeal.τ).loc Cert.AdamWGluIdeal.main_arg3)) →
    ∃ (v0 : (c : Dev Cert.AdamWGluIdeal.nD) → Buf (Elt Ideal) ((c.tc : Thread Cert.AdamWGluIdeal.nD Cert.AdamWGluIdeal.τ).loc Cert.AdamWGluIdeal.main_v0_0)) (v1 : (c : Dev Cert.AdamWGluIdeal.nD) → Buf (Elt Ideal) ((c.tc : Thread Cert.AdamWGluIdeal.nD Cert.AdamWGluIdeal.τ).loc Cert.AdamWGluIdeal.main_v0_1)) (v2 : (c : Dev Cert.AdamWGluIdeal.nD) → Buf (Elt Ideal) ((c.tc : Thread Cert.AdamWGluIdeal.nD Cert.AdamWGluIdeal.τ).loc Cert.AdamWGluIdeal.main_v0_2)),
      θ_run (Cert.AdamWGluIdeal.defs (F := Ideal)) (onTc (τ := Cert.AdamWGluIdeal.τ) (Cert.AdamWGluIdeal.main (F := Ideal))) ⟨m, fun _ => 0, g⟩ (fun r => ∀ c : Dev Cert.AdamWGluIdeal.nD,
          r.2.mem ((c.tc : Thread Cert.AdamWGluIdeal.nD Cert.AdamWGluIdeal.τ).loc Cert.AdamWGluIdeal.main_v0_0) = v0 c
          ∧ r.2.mem ((c.tc : Thread Cert.AdamWGluIdeal.nD Cert.AdamWGluIdeal.τ).loc Cert.AdamWGluIdeal.main_v0_1) = v1 c
          ∧ r.2.mem ((c.tc : Thread Cert.AdamWGluIdeal.nD Cert.AdamWGluIdeal.τ).loc Cert.AdamWGluIdeal.main_v0_2) = v2 c
          ∧ r.2.mem ((c.tc : Thread Cert.AdamWGluIdeal.nD Cert.AdamWGluIdeal.τ).loc Cert.AdamWGluIdeal.main_arg0) = m ((c.tc : Thread Cert.AdamWGluIdeal.nD Cert.AdamWGluIdeal.τ).loc Cert.AdamWGluIdeal.main_arg0)
          ∧ r.2.mem ((c.tc : Thread Cert.AdamWGluIdeal.nD Cert.AdamWGluIdeal.τ).loc Cert.AdamWGluIdeal.main_arg1) = m ((c.tc : Thread Cert.AdamWGluIdeal.nD Cert.AdamWGluIdeal.τ).loc Cert.AdamWGluIdeal.main_arg1)
          ∧ r.2.mem ((c.tc : Thread Cert.AdamWGluIdeal.nD Cert.AdamWGluIdeal.τ).loc Cert.AdamWGluIdeal.main_arg2) = m ((c.tc : Thread Cert.AdamWGluIdeal.nD Cert.AdamWGluIdeal.τ).loc Cert.AdamWGluIdeal.main_arg2)
          ∧ r.2.mem ((c.tc : Thread Cert.AdamWGluIdeal.nD Cert.AdamWGluIdeal.τ).loc Cert.AdamWGluIdeal.main_arg3) = m ((c.tc : Thread Cert.AdamWGluIdeal.nD Cert.AdamWGluIdeal.τ).loc Cert.AdamWGluIdeal.main_arg3))
      ∧ θ_run (Cert.AdamWGluRefIdeal.defs (F := Ideal)) (onTc (τ := Cert.AdamWGluRefIdeal.τ) (Cert.AdamWGluRefIdeal.main (F := Ideal))) ⟨m', fun _ => 0, g'⟩ (fun r => ∀ c : Dev Cert.AdamWGluRefIdeal.nD,
          r.2.mem ((c.tc : Thread Cert.AdamWGluRefIdeal.nD Cert.AdamWGluRefIdeal.τ).loc Cert.AdamWGluRefIdeal.main_v23) = v0 c
          ∧ r.2.mem ((c.tc : Thread Cert.AdamWGluRefIdeal.nD Cert.AdamWGluRefIdeal.τ).loc Cert.AdamWGluRefIdeal.main_v4) = v1 c
          ∧ r.2.mem ((c.tc : Thread Cert.AdamWGluRefIdeal.nD Cert.AdamWGluRefIdeal.τ).loc Cert.AdamWGluRefIdeal.main_v10) = v2 c
          ∧ r.2.mem ((c.tc : Thread Cert.AdamWGluRefIdeal.nD Cert.AdamWGluRefIdeal.τ).loc Cert.AdamWGluRefIdeal.main_arg0) = m' ((c.tc : Thread Cert.AdamWGluRefIdeal.nD Cert.AdamWGluRefIdeal.τ).loc Cert.AdamWGluRefIdeal.main_arg0)
          ∧ r.2.mem ((c.tc : Thread Cert.AdamWGluRefIdeal.nD Cert.AdamWGluRefIdeal.τ).loc Cert.AdamWGluRefIdeal.main_arg1) = m' ((c.tc : Thread Cert.AdamWGluRefIdeal.nD Cert.AdamWGluRefIdeal.τ).loc Cert.AdamWGluRefIdeal.main_arg1)
          ∧ r.2.mem ((c.tc : Thread Cert.AdamWGluRefIdeal.nD Cert.AdamWGluRefIdeal.τ).loc Cert.AdamWGluRefIdeal.main_arg2) = m' ((c.tc : Thread Cert.AdamWGluRefIdeal.nD Cert.AdamWGluRefIdeal.τ).loc Cert.AdamWGluRefIdeal.main_arg2)
          ∧ r.2.mem ((c.tc : Thread Cert.AdamWGluRefIdeal.nD Cert.AdamWGluRefIdeal.τ).loc Cert.AdamWGluRefIdeal.main_arg3) = m' ((c.tc : Thread Cert.AdamWGluRefIdeal.nD Cert.AdamWGluRefIdeal.τ).loc Cert.AdamWGluRefIdeal.main_arg3))

def preserves_AdamWKv_AdamWKvIdeal : Prop :=
  True

def algebraic_AdamWKvIdeal_AdamWKvRefIdeal [hAdamWKvIdeal : Cert.AdamWKvIdeal.Facts] [hAdamWKvRefIdeal : Cert.AdamWKvRefIdeal.Facts] : Prop :=
  ∀ (m : (ℓ : Loc Cert.AdamWKvIdeal.nD Cert.AdamWKvIdeal.τ Cert.AdamWKvIdeal.sig) → Buf (Elt Ideal) ℓ) (g : Dev Cert.AdamWKvIdeal.nD → PrngReg)
    (m' : (ℓ : Loc Cert.AdamWKvRefIdeal.nD Cert.AdamWKvRefIdeal.τ Cert.AdamWKvRefIdeal.sig) → Buf (Elt Ideal) ℓ) (g' : Dev Cert.AdamWKvRefIdeal.nD → PrngReg), Pre_AdamWKvIdeal m →
    (∀ c : Dev Cert.AdamWKvIdeal.nD,
      m' ((c.tc : Thread Cert.AdamWKvRefIdeal.nD Cert.AdamWKvRefIdeal.τ).loc Cert.AdamWKvRefIdeal.main_arg0) = m ((c.tc : Thread Cert.AdamWKvIdeal.nD Cert.AdamWKvIdeal.τ).loc Cert.AdamWKvIdeal.main_arg0)
      ∧ m' ((c.tc : Thread Cert.AdamWKvRefIdeal.nD Cert.AdamWKvRefIdeal.τ).loc Cert.AdamWKvRefIdeal.main_arg1) = m ((c.tc : Thread Cert.AdamWKvIdeal.nD Cert.AdamWKvIdeal.τ).loc Cert.AdamWKvIdeal.main_arg1)
      ∧ m' ((c.tc : Thread Cert.AdamWKvRefIdeal.nD Cert.AdamWKvRefIdeal.τ).loc Cert.AdamWKvRefIdeal.main_arg2) = m ((c.tc : Thread Cert.AdamWKvIdeal.nD Cert.AdamWKvIdeal.τ).loc Cert.AdamWKvIdeal.main_arg2)
      ∧ m' ((c.tc : Thread Cert.AdamWKvRefIdeal.nD Cert.AdamWKvRefIdeal.τ).loc Cert.AdamWKvRefIdeal.main_arg3) = m ((c.tc : Thread Cert.AdamWKvIdeal.nD Cert.AdamWKvIdeal.τ).loc Cert.AdamWKvIdeal.main_arg3)) →
    ∃ (v0 : (c : Dev Cert.AdamWKvIdeal.nD) → Buf (Elt Ideal) ((c.tc : Thread Cert.AdamWKvIdeal.nD Cert.AdamWKvIdeal.τ).loc Cert.AdamWKvIdeal.main_v0_0)) (v1 : (c : Dev Cert.AdamWKvIdeal.nD) → Buf (Elt Ideal) ((c.tc : Thread Cert.AdamWKvIdeal.nD Cert.AdamWKvIdeal.τ).loc Cert.AdamWKvIdeal.main_v0_1)) (v2 : (c : Dev Cert.AdamWKvIdeal.nD) → Buf (Elt Ideal) ((c.tc : Thread Cert.AdamWKvIdeal.nD Cert.AdamWKvIdeal.τ).loc Cert.AdamWKvIdeal.main_v0_2)),
      θ_run (Cert.AdamWKvIdeal.defs (F := Ideal)) (onTc (τ := Cert.AdamWKvIdeal.τ) (Cert.AdamWKvIdeal.main (F := Ideal))) ⟨m, fun _ => 0, g⟩ (fun r => ∀ c : Dev Cert.AdamWKvIdeal.nD,
          r.2.mem ((c.tc : Thread Cert.AdamWKvIdeal.nD Cert.AdamWKvIdeal.τ).loc Cert.AdamWKvIdeal.main_v0_0) = v0 c
          ∧ r.2.mem ((c.tc : Thread Cert.AdamWKvIdeal.nD Cert.AdamWKvIdeal.τ).loc Cert.AdamWKvIdeal.main_v0_1) = v1 c
          ∧ r.2.mem ((c.tc : Thread Cert.AdamWKvIdeal.nD Cert.AdamWKvIdeal.τ).loc Cert.AdamWKvIdeal.main_v0_2) = v2 c
          ∧ r.2.mem ((c.tc : Thread Cert.AdamWKvIdeal.nD Cert.AdamWKvIdeal.τ).loc Cert.AdamWKvIdeal.main_arg0) = m ((c.tc : Thread Cert.AdamWKvIdeal.nD Cert.AdamWKvIdeal.τ).loc Cert.AdamWKvIdeal.main_arg0)
          ∧ r.2.mem ((c.tc : Thread Cert.AdamWKvIdeal.nD Cert.AdamWKvIdeal.τ).loc Cert.AdamWKvIdeal.main_arg1) = m ((c.tc : Thread Cert.AdamWKvIdeal.nD Cert.AdamWKvIdeal.τ).loc Cert.AdamWKvIdeal.main_arg1)
          ∧ r.2.mem ((c.tc : Thread Cert.AdamWKvIdeal.nD Cert.AdamWKvIdeal.τ).loc Cert.AdamWKvIdeal.main_arg2) = m ((c.tc : Thread Cert.AdamWKvIdeal.nD Cert.AdamWKvIdeal.τ).loc Cert.AdamWKvIdeal.main_arg2)
          ∧ r.2.mem ((c.tc : Thread Cert.AdamWKvIdeal.nD Cert.AdamWKvIdeal.τ).loc Cert.AdamWKvIdeal.main_arg3) = m ((c.tc : Thread Cert.AdamWKvIdeal.nD Cert.AdamWKvIdeal.τ).loc Cert.AdamWKvIdeal.main_arg3))
      ∧ θ_run (Cert.AdamWKvRefIdeal.defs (F := Ideal)) (onTc (τ := Cert.AdamWKvRefIdeal.τ) (Cert.AdamWKvRefIdeal.main (F := Ideal))) ⟨m', fun _ => 0, g'⟩ (fun r => ∀ c : Dev Cert.AdamWKvRefIdeal.nD,
          r.2.mem ((c.tc : Thread Cert.AdamWKvRefIdeal.nD Cert.AdamWKvRefIdeal.τ).loc Cert.AdamWKvRefIdeal.main_v23) = v0 c
          ∧ r.2.mem ((c.tc : Thread Cert.AdamWKvRefIdeal.nD Cert.AdamWKvRefIdeal.τ).loc Cert.AdamWKvRefIdeal.main_v4) = v1 c
          ∧ r.2.mem ((c.tc : Thread Cert.AdamWKvRefIdeal.nD Cert.AdamWKvRefIdeal.τ).loc Cert.AdamWKvRefIdeal.main_v10) = v2 c
          ∧ r.2.mem ((c.tc : Thread Cert.AdamWKvRefIdeal.nD Cert.AdamWKvRefIdeal.τ).loc Cert.AdamWKvRefIdeal.main_arg0) = m' ((c.tc : Thread Cert.AdamWKvRefIdeal.nD Cert.AdamWKvRefIdeal.τ).loc Cert.AdamWKvRefIdeal.main_arg0)
          ∧ r.2.mem ((c.tc : Thread Cert.AdamWKvRefIdeal.nD Cert.AdamWKvRefIdeal.τ).loc Cert.AdamWKvRefIdeal.main_arg1) = m' ((c.tc : Thread Cert.AdamWKvRefIdeal.nD Cert.AdamWKvRefIdeal.τ).loc Cert.AdamWKvRefIdeal.main_arg1)
          ∧ r.2.mem ((c.tc : Thread Cert.AdamWKvRefIdeal.nD Cert.AdamWKvRefIdeal.τ).loc Cert.AdamWKvRefIdeal.main_arg2) = m' ((c.tc : Thread Cert.AdamWKvRefIdeal.nD Cert.AdamWKvRefIdeal.τ).loc Cert.AdamWKvRefIdeal.main_arg2)
          ∧ r.2.mem ((c.tc : Thread Cert.AdamWKvRefIdeal.nD Cert.AdamWKvRefIdeal.τ).loc Cert.AdamWKvRefIdeal.main_arg3) = m' ((c.tc : Thread Cert.AdamWKvRefIdeal.nD Cert.AdamWKvRefIdeal.τ).loc Cert.AdamWKvRefIdeal.main_arg3))

def preserves_AdamWGate_AdamWGateIdeal : Prop :=
  True

def algebraic_AdamWGateIdeal_AdamWGateRefIdeal [hAdamWGateIdeal : Cert.AdamWGateIdeal.Facts] [hAdamWGateRefIdeal : Cert.AdamWGateRefIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg)
    (m' : (ℓ : Loc Cert.AdamWGateRefIdeal.nD Cert.AdamWGateRefIdeal.τ Cert.AdamWGateRefIdeal.sig) → Buf (Elt Ideal) ℓ) (g' : Dev Cert.AdamWGateRefIdeal.nD → PrngReg), Pre_AdamWGateIdeal m →
    (∀ c : Dev Cert.AdamWGateIdeal.nD,
      m' ((c.tc : Thread Cert.AdamWGateRefIdeal.nD Cert.AdamWGateRefIdeal.τ).loc Cert.AdamWGateRefIdeal.main_arg0) = m ((c.tc : Thread Cert.AdamWGateIdeal.nD Cert.AdamWGateIdeal.τ).loc Cert.AdamWGateIdeal.main_arg0)
      ∧ m' ((c.tc : Thread Cert.AdamWGateRefIdeal.nD Cert.AdamWGateRefIdeal.τ).loc Cert.AdamWGateRefIdeal.main_arg1) = m ((c.tc : Thread Cert.AdamWGateIdeal.nD Cert.AdamWGateIdeal.τ).loc Cert.AdamWGateIdeal.main_arg1)
      ∧ m' ((c.tc : Thread Cert.AdamWGateRefIdeal.nD Cert.AdamWGateRefIdeal.τ).loc Cert.AdamWGateRefIdeal.main_arg2) = m ((c.tc : Thread Cert.AdamWGateIdeal.nD Cert.AdamWGateIdeal.τ).loc Cert.AdamWGateIdeal.main_arg2)
      ∧ m' ((c.tc : Thread Cert.AdamWGateRefIdeal.nD Cert.AdamWGateRefIdeal.τ).loc Cert.AdamWGateRefIdeal.main_arg3) = m ((c.tc : Thread Cert.AdamWGateIdeal.nD Cert.AdamWGateIdeal.τ).loc Cert.AdamWGateIdeal.main_arg3)) →
    ∃ (v0 : (c : Dev Cert.AdamWGateIdeal.nD) → Buf (Elt Ideal) ((c.tc : Thread Cert.AdamWGateIdeal.nD Cert.AdamWGateIdeal.τ).loc Cert.AdamWGateIdeal.main_v0_0)) (v1 : (c : Dev Cert.AdamWGateIdeal.nD) → Buf (Elt Ideal) ((c.tc : Thread Cert.AdamWGateIdeal.nD Cert.AdamWGateIdeal.τ).loc Cert.AdamWGateIdeal.main_v0_1)) (v2 : (c : Dev Cert.AdamWGateIdeal.nD) → Buf (Elt Ideal) ((c.tc : Thread Cert.AdamWGateIdeal.nD Cert.AdamWGateIdeal.τ).loc Cert.AdamWGateIdeal.main_v0_2)),
      θ_run (Cert.AdamWGateIdeal.defs (F := Ideal)) (onTc (τ := Cert.AdamWGateIdeal.τ) (Cert.AdamWGateIdeal.main (F := Ideal))) ⟨m, fun _ => 0, g⟩ (fun r => ∀ c : Dev Cert.AdamWGateIdeal.nD,
          r.2.mem ((c.tc : Thread Cert.AdamWGateIdeal.nD Cert.AdamWGateIdeal.τ).loc Cert.AdamWGateIdeal.main_v0_0) = v0 c
          ∧ r.2.mem ((c.tc : Thread Cert.AdamWGateIdeal.nD Cert.AdamWGateIdeal.τ).loc Cert.AdamWGateIdeal.main_v0_1) = v1 c
          ∧ r.2.mem ((c.tc : Thread Cert.AdamWGateIdeal.nD Cert.AdamWGateIdeal.τ).loc Cert.AdamWGateIdeal.main_v0_2) = v2 c
          ∧ r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
          ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
          ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
          ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ θ_run (Cert.AdamWGateRefIdeal.defs (F := Ideal)) (onTc (τ := Cert.AdamWGateRefIdeal.τ) (Cert.AdamWGateRefIdeal.main (F := Ideal))) ⟨m', fun _ => 0, g'⟩ (fun r => ∀ c : Dev Cert.AdamWGateRefIdeal.nD,
          r.2.mem ((c.tc : Thread Cert.AdamWGateRefIdeal.nD Cert.AdamWGateRefIdeal.τ).loc Cert.AdamWGateRefIdeal.main_v23) = v0 c
          ∧ r.2.mem ((c.tc : Thread Cert.AdamWGateRefIdeal.nD Cert.AdamWGateRefIdeal.τ).loc Cert.AdamWGateRefIdeal.main_v4) = v1 c
          ∧ r.2.mem ((c.tc : Thread Cert.AdamWGateRefIdeal.nD Cert.AdamWGateRefIdeal.τ).loc Cert.AdamWGateRefIdeal.main_v10) = v2 c
          ∧ r.2.mem ((c.tc : Thread Cert.AdamWGateRefIdeal.nD Cert.AdamWGateRefIdeal.τ).loc Cert.AdamWGateRefIdeal.main_arg0) = m' ((c.tc : Thread Cert.AdamWGateRefIdeal.nD Cert.AdamWGateRefIdeal.τ).loc Cert.AdamWGateRefIdeal.main_arg0)
          ∧ r.2.mem ((c.tc : Thread Cert.AdamWGateRefIdeal.nD Cert.AdamWGateRefIdeal.τ).loc Cert.AdamWGateRefIdeal.main_arg1) = m' ((c.tc : Thread Cert.AdamWGateRefIdeal.nD Cert.AdamWGateRefIdeal.τ).loc Cert.AdamWGateRefIdeal.main_arg1)
          ∧ r.2.mem ((c.tc : Thread Cert.AdamWGateRefIdeal.nD Cert.AdamWGateRefIdeal.τ).loc Cert.AdamWGateRefIdeal.main_arg2) = m' ((c.tc : Thread Cert.AdamWGateRefIdeal.nD Cert.AdamWGateRefIdeal.τ).loc Cert.AdamWGateRefIdeal.main_arg2)
          ∧ r.2.mem ((c.tc : Thread Cert.AdamWGateRefIdeal.nD Cert.AdamWGateRefIdeal.τ).loc Cert.AdamWGateRefIdeal.main_arg3) = m' ((c.tc : Thread Cert.AdamWGateRefIdeal.nD Cert.AdamWGateRefIdeal.τ).loc Cert.AdamWGateRefIdeal.main_arg3))

def preserves_AdamWBranch_AdamWBranchIdeal : Prop :=
  True

def algebraic_AdamWBranchIdeal_AdamWBranchRefIdeal [hAdamWBranchIdeal : Cert.AdamWBranchIdeal.Facts] [hAdamWBranchRefIdeal : Cert.AdamWBranchRefIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg)
    (m' : (ℓ : Loc Cert.AdamWBranchRefIdeal.nD Cert.AdamWBranchRefIdeal.τ Cert.AdamWBranchRefIdeal.sig) → Buf (Elt Ideal) ℓ) (g' : Dev Cert.AdamWBranchRefIdeal.nD → PrngReg), Pre_AdamWBranchIdeal m →
    (∀ c : Dev Cert.AdamWBranchIdeal.nD,
      m' ((c.tc : Thread Cert.AdamWBranchRefIdeal.nD Cert.AdamWBranchRefIdeal.τ).loc Cert.AdamWBranchRefIdeal.main_arg0) = m ((c.tc : Thread Cert.AdamWBranchIdeal.nD Cert.AdamWBranchIdeal.τ).loc Cert.AdamWBranchIdeal.main_arg0)
      ∧ m' ((c.tc : Thread Cert.AdamWBranchRefIdeal.nD Cert.AdamWBranchRefIdeal.τ).loc Cert.AdamWBranchRefIdeal.main_arg1) = m ((c.tc : Thread Cert.AdamWBranchIdeal.nD Cert.AdamWBranchIdeal.τ).loc Cert.AdamWBranchIdeal.main_arg1)
      ∧ m' ((c.tc : Thread Cert.AdamWBranchRefIdeal.nD Cert.AdamWBranchRefIdeal.τ).loc Cert.AdamWBranchRefIdeal.main_arg2) = m ((c.tc : Thread Cert.AdamWBranchIdeal.nD Cert.AdamWBranchIdeal.τ).loc Cert.AdamWBranchIdeal.main_arg2)
      ∧ m' ((c.tc : Thread Cert.AdamWBranchRefIdeal.nD Cert.AdamWBranchRefIdeal.τ).loc Cert.AdamWBranchRefIdeal.main_arg3) = m ((c.tc : Thread Cert.AdamWBranchIdeal.nD Cert.AdamWBranchIdeal.τ).loc Cert.AdamWBranchIdeal.main_arg3)) →
    ∃ (v0 : (c : Dev Cert.AdamWBranchIdeal.nD) → Buf (Elt Ideal) ((c.tc : Thread Cert.AdamWBranchIdeal.nD Cert.AdamWBranchIdeal.τ).loc Cert.AdamWBranchIdeal.main_v0_0)) (v1 : (c : Dev Cert.AdamWBranchIdeal.nD) → Buf (Elt Ideal) ((c.tc : Thread Cert.AdamWBranchIdeal.nD Cert.AdamWBranchIdeal.τ).loc Cert.AdamWBranchIdeal.main_v0_1)) (v2 : (c : Dev Cert.AdamWBranchIdeal.nD) → Buf (Elt Ideal) ((c.tc : Thread Cert.AdamWBranchIdeal.nD Cert.AdamWBranchIdeal.τ).loc Cert.AdamWBranchIdeal.main_v0_2)),
      θ_run (Cert.AdamWBranchIdeal.defs (F := Ideal)) (onTc (τ := Cert.AdamWBranchIdeal.τ) (Cert.AdamWBranchIdeal.main (F := Ideal))) ⟨m, fun _ => 0, g⟩ (fun r => ∀ c : Dev Cert.AdamWBranchIdeal.nD,
          r.2.mem ((c.tc : Thread Cert.AdamWBranchIdeal.nD Cert.AdamWBranchIdeal.τ).loc Cert.AdamWBranchIdeal.main_v0_0) = v0 c
          ∧ r.2.mem ((c.tc : Thread Cert.AdamWBranchIdeal.nD Cert.AdamWBranchIdeal.τ).loc Cert.AdamWBranchIdeal.main_v0_1) = v1 c
          ∧ r.2.mem ((c.tc : Thread Cert.AdamWBranchIdeal.nD Cert.AdamWBranchIdeal.τ).loc Cert.AdamWBranchIdeal.main_v0_2) = v2 c
          ∧ r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
          ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
          ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
          ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ θ_run (Cert.AdamWBranchRefIdeal.defs (F := Ideal)) (onTc (τ := Cert.AdamWBranchRefIdeal.τ) (Cert.AdamWBranchRefIdeal.main (F := Ideal))) ⟨m', fun _ => 0, g'⟩ (fun r => ∀ c : Dev Cert.AdamWBranchRefIdeal.nD,
          r.2.mem ((c.tc : Thread Cert.AdamWBranchRefIdeal.nD Cert.AdamWBranchRefIdeal.τ).loc Cert.AdamWBranchRefIdeal.main_v23) = v0 c
          ∧ r.2.mem ((c.tc : Thread Cert.AdamWBranchRefIdeal.nD Cert.AdamWBranchRefIdeal.τ).loc Cert.AdamWBranchRefIdeal.main_v4) = v1 c
          ∧ r.2.mem ((c.tc : Thread Cert.AdamWBranchRefIdeal.nD Cert.AdamWBranchRefIdeal.τ).loc Cert.AdamWBranchRefIdeal.main_v10) = v2 c
          ∧ r.2.mem ((c.tc : Thread Cert.AdamWBranchRefIdeal.nD Cert.AdamWBranchRefIdeal.τ).loc Cert.AdamWBranchRefIdeal.main_arg0) = m' ((c.tc : Thread Cert.AdamWBranchRefIdeal.nD Cert.AdamWBranchRefIdeal.τ).loc Cert.AdamWBranchRefIdeal.main_arg0)
          ∧ r.2.mem ((c.tc : Thread Cert.AdamWBranchRefIdeal.nD Cert.AdamWBranchRefIdeal.τ).loc Cert.AdamWBranchRefIdeal.main_arg1) = m' ((c.tc : Thread Cert.AdamWBranchRefIdeal.nD Cert.AdamWBranchRefIdeal.τ).loc Cert.AdamWBranchRefIdeal.main_arg1)
          ∧ r.2.mem ((c.tc : Thread Cert.AdamWBranchRefIdeal.nD Cert.AdamWBranchRefIdeal.τ).loc Cert.AdamWBranchRefIdeal.main_arg2) = m' ((c.tc : Thread Cert.AdamWBranchRefIdeal.nD Cert.AdamWBranchRefIdeal.τ).loc Cert.AdamWBranchRefIdeal.main_arg2)
          ∧ r.2.mem ((c.tc : Thread Cert.AdamWBranchRefIdeal.nD Cert.AdamWBranchRefIdeal.τ).loc Cert.AdamWBranchRefIdeal.main_arg3) = m' ((c.tc : Thread Cert.AdamWBranchRefIdeal.nD Cert.AdamWBranchRefIdeal.τ).loc Cert.AdamWBranchRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumPair_SumPairIdeal : Prop :=
  True

def algebraic_SumPairIdeal_SumPairRefIdeal [hSumPairIdeal : Cert.SumPairIdeal.Facts] [hSumPairRefIdeal : Cert.SumPairRefIdeal.Facts] : Prop :=
  ∀ (m : (ℓ : Loc Cert.SumPairIdeal.nD Cert.SumPairIdeal.τ Cert.SumPairIdeal.sig) → Buf (Elt Ideal) ℓ) (g : Dev Cert.SumPairIdeal.nD → PrngReg)
    (m' : (ℓ : Loc Cert.SumPairRefIdeal.nD Cert.SumPairRefIdeal.τ Cert.SumPairRefIdeal.sig) → Buf (Elt Ideal) ℓ) (g' : Dev Cert.SumPairRefIdeal.nD → PrngReg), Pre_SumPairIdeal m →
    (∀ c : Dev Cert.SumPairIdeal.nD,
      m' ((c.tc : Thread Cert.SumPairRefIdeal.nD Cert.SumPairRefIdeal.τ).loc Cert.SumPairRefIdeal.main_arg0) = m ((c.tc : Thread Cert.SumPairIdeal.nD Cert.SumPairIdeal.τ).loc Cert.SumPairIdeal.main_arg0)
      ∧ m' ((c.tc : Thread Cert.SumPairRefIdeal.nD Cert.SumPairRefIdeal.τ).loc Cert.SumPairRefIdeal.main_arg1) = m ((c.tc : Thread Cert.SumPairIdeal.nD Cert.SumPairIdeal.τ).loc Cert.SumPairIdeal.main_arg1)) →
    ∃ (v0 : (c : Dev Cert.SumPairIdeal.nD) → Buf (Elt Ideal) ((c.tc : Thread Cert.SumPairIdeal.nD Cert.SumPairIdeal.τ).loc Cert.SumPairIdeal.main_v0)),
      θ_run (Cert.SumPairIdeal.defs (F := Ideal)) (onTc (τ := Cert.SumPairIdeal.τ) (Cert.SumPairIdeal.main (F := Ideal))) ⟨m, fun _ => 0, g⟩ (fun r => ∀ c : Dev Cert.SumPairIdeal.nD,
          r.2.mem ((c.tc : Thread Cert.SumPairIdeal.nD Cert.SumPairIdeal.τ).loc Cert.SumPairIdeal.main_v0) = v0 c
          ∧ r.2.mem ((c.tc : Thread Cert.SumPairIdeal.nD Cert.SumPairIdeal.τ).loc Cert.SumPairIdeal.main_arg0) = m ((c.tc : Thread Cert.SumPairIdeal.nD Cert.SumPairIdeal.τ).loc Cert.SumPairIdeal.main_arg0)
          ∧ r.2.mem ((c.tc : Thread Cert.SumPairIdeal.nD Cert.SumPairIdeal.τ).loc Cert.SumPairIdeal.main_arg1) = m ((c.tc : Thread Cert.SumPairIdeal.nD Cert.SumPairIdeal.τ).loc Cert.SumPairIdeal.main_arg1))
      ∧ θ_run (Cert.SumPairRefIdeal.defs (F := Ideal)) (onTc (τ := Cert.SumPairRefIdeal.τ) (Cert.SumPairRefIdeal.main (F := Ideal))) ⟨m', fun _ => 0, g'⟩ (fun r => ∀ c : Dev Cert.SumPairRefIdeal.nD,
          r.2.mem ((c.tc : Thread Cert.SumPairRefIdeal.nD Cert.SumPairRefIdeal.τ).loc Cert.SumPairRefIdeal.main_v3) = v0 c
          ∧ r.2.mem ((c.tc : Thread Cert.SumPairRefIdeal.nD Cert.SumPairRefIdeal.τ).loc Cert.SumPairRefIdeal.main_arg0) = m' ((c.tc : Thread Cert.SumPairRefIdeal.nD Cert.SumPairRefIdeal.τ).loc Cert.SumPairRefIdeal.main_arg0)
          ∧ r.2.mem ((c.tc : Thread Cert.SumPairRefIdeal.nD Cert.SumPairRefIdeal.τ).loc Cert.SumPairRefIdeal.main_arg1) = m' ((c.tc : Thread Cert.SumPairRefIdeal.nD Cert.SumPairRefIdeal.τ).loc Cert.SumPairRefIdeal.main_arg1))

def preserves_SumChips_SumChipsIdeal : Prop :=
  True

def algebraic_SumChipsIdeal_SumChipsRefIdeal [hSumChipsIdeal : Cert.SumChipsIdeal.Facts] [hSumChipsRefIdeal : Cert.SumChipsRefIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v0) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0))

def Claim : Prop :=
  ∃ (hAttnBwd : Cert.AttnBwd.Facts) (hAttnBwdIdeal : Cert.AttnBwdIdeal.Facts) (hAttnRefIdeal : Cert.AttnRefIdeal.Facts) (hMergeBwd : Cert.MergeBwd.Facts) (hMergeBwdIdeal : Cert.MergeBwdIdeal.Facts) (hMergeRefIdeal : Cert.MergeRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hGateDx0 : Cert.GateDx0.Facts) (hGateDx0Ideal : Cert.GateDx0Ideal.Facts) (hGateDx0RefIdeal : Cert.GateDx0RefIdeal.Facts) (hGateDx1 : Cert.GateDx1.Facts) (hGateDx1Ideal : Cert.GateDx1Ideal.Facts) (hGateDx1RefIdeal : Cert.GateDx1RefIdeal.Facts) (hGateDx2 : Cert.GateDx2.Facts) (hGateDx2Ideal : Cert.GateDx2Ideal.Facts) (hGateDx2RefIdeal : Cert.GateDx2RefIdeal.Facts) (hGateDx3 : Cert.GateDx3.Facts) (hGateDx3Ideal : Cert.GateDx3Ideal.Facts) (hGateDx3RefIdeal : Cert.GateDx3RefIdeal.Facts) (hGateDw0 : Cert.GateDw0.Facts) (hGateDw0Ideal : Cert.GateDw0Ideal.Facts) (hGateDw0RefIdeal : Cert.GateDw0RefIdeal.Facts) (hGateDw1 : Cert.GateDw1.Facts) (hGateDw1Ideal : Cert.GateDw1Ideal.Facts) (hGateDw1RefIdeal : Cert.GateDw1RefIdeal.Facts) (hGateDw2 : Cert.GateDw2.Facts) (hGateDw2Ideal : Cert.GateDw2Ideal.Facts) (hGateDw2RefIdeal : Cert.GateDw2RefIdeal.Facts) (hGateDw3 : Cert.GateDw3.Facts) (hGateDw3Ideal : Cert.GateDw3Ideal.Facts) (hGateDw3RefIdeal : Cert.GateDw3RefIdeal.Facts) (hBranchDx0 : Cert.BranchDx0.Facts) (hBranchDx0Ideal : Cert.BranchDx0Ideal.Facts) (hBranchDx0RefIdeal : Cert.BranchDx0RefIdeal.Facts) (hBranchDx1 : Cert.BranchDx1.Facts) (hBranchDx1Ideal : Cert.BranchDx1Ideal.Facts) (hBranchDx1RefIdeal : Cert.BranchDx1RefIdeal.Facts) (hBranchDx2 : Cert.BranchDx2.Facts) (hBranchDx2Ideal : Cert.BranchDx2Ideal.Facts) (hBranchDx2RefIdeal : Cert.BranchDx2RefIdeal.Facts) (hBranchDx3 : Cert.BranchDx3.Facts) (hBranchDx3Ideal : Cert.BranchDx3Ideal.Facts) (hBranchDx3RefIdeal : Cert.BranchDx3RefIdeal.Facts) (hBranchDw0 : Cert.BranchDw0.Facts) (hBranchDw0Ideal : Cert.BranchDw0Ideal.Facts) (hBranchDw0RefIdeal : Cert.BranchDw0RefIdeal.Facts) (hBranchDw1 : Cert.BranchDw1.Facts) (hBranchDw1Ideal : Cert.BranchDw1Ideal.Facts) (hBranchDw1RefIdeal : Cert.BranchDw1RefIdeal.Facts) (hBranchDw2 : Cert.BranchDw2.Facts) (hBranchDw2Ideal : Cert.BranchDw2Ideal.Facts) (hBranchDw2RefIdeal : Cert.BranchDw2RefIdeal.Facts) (hBranchDw3 : Cert.BranchDw3.Facts) (hBranchDw3Ideal : Cert.BranchDw3Ideal.Facts) (hBranchDw3RefIdeal : Cert.BranchDw3RefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGluProj : Cert.GluProj.Facts) (hGluProjIdeal : Cert.GluProjIdeal.Facts) (hGluProjRefIdeal : Cert.GluProjRefIdeal.Facts) (hKvProj : Cert.KvProj.Facts) (hKvProjIdeal : Cert.KvProjIdeal.Facts) (hKvProjRefIdeal : Cert.KvProjRefIdeal.Facts) (hMergeFwd : Cert.MergeFwd.Facts) (hMergeFwdIdeal : Cert.MergeFwdIdeal.Facts) (hMergeFwdRefIdeal : Cert.MergeFwdRefIdeal.Facts) (hAttnFwd : Cert.AttnFwd.Facts) (hAttnFwdIdeal : Cert.AttnFwdIdeal.Facts) (hAttnFwdRefIdeal : Cert.AttnFwdRefIdeal.Facts) (hGluBwd : Cert.GluBwd.Facts) (hGluBwdIdeal : Cert.GluBwdIdeal.Facts) (hGluBwdRefIdeal : Cert.GluBwdRefIdeal.Facts) (hNormBwd : Cert.NormBwd.Facts) (hNormBwdIdeal : Cert.NormBwdIdeal.Facts) (hNormBwdRefIdeal : Cert.NormBwdRefIdeal.Facts) (hMemNormBwd : Cert.MemNormBwd.Facts) (hMemNormBwdIdeal : Cert.MemNormBwdIdeal.Facts) (hMemNormBwdRefIdeal : Cert.MemNormBwdRefIdeal.Facts) (hLossHead : Cert.LossHead.Facts) (hLossHeadIdeal : Cert.LossHeadIdeal.Facts) (hLossHeadRefIdeal : Cert.LossHeadRefIdeal.Facts) (hDnConvBwd : Cert.DnConvBwd.Facts) (hDnConvBwdIdeal : Cert.DnConvBwdIdeal.Facts) (hDnConvBwdRefIdeal : Cert.DnConvBwdRefIdeal.Facts) (hLruConvBwd : Cert.LruConvBwd.Facts) (hLruConvBwdIdeal : Cert.LruConvBwdIdeal.Facts) (hLruConvBwdRefIdeal : Cert.LruConvBwdRefIdeal.Facts) (hGluFwd : Cert.GluFwd.Facts) (hGluFwdIdeal : Cert.GluFwdIdeal.Facts) (hGluFwdRefIdeal : Cert.GluFwdRefIdeal.Facts) (hNormFwd : Cert.NormFwd.Facts) (hNormFwdIdeal : Cert.NormFwdIdeal.Facts) (hNormFwdRefIdeal : Cert.NormFwdRefIdeal.Facts) (hMemNormFwd : Cert.MemNormFwd.Facts) (hMemNormFwdIdeal : Cert.MemNormFwdIdeal.Facts) (hMemNormFwdRefIdeal : Cert.MemNormFwdRefIdeal.Facts) (hDnConvFwd : Cert.DnConvFwd.Facts) (hDnConvFwdIdeal : Cert.DnConvFwdIdeal.Facts) (hDnConvFwdRefIdeal : Cert.DnConvFwdRefIdeal.Facts) (hLruConvFwd : Cert.LruConvFwd.Facts) (hLruConvFwdIdeal : Cert.LruConvFwdIdeal.Facts) (hLruConvFwdRefIdeal : Cert.LruConvFwdRefIdeal.Facts) (hAdamWIn : Cert.AdamWIn.Facts) (hAdamWInIdeal : Cert.AdamWInIdeal.Facts) (hAdamWInRefIdeal : Cert.AdamWInRefIdeal.Facts) (hAdamWGlu : Cert.AdamWGlu.Facts) (hAdamWGluIdeal : Cert.AdamWGluIdeal.Facts) (hAdamWGluRefIdeal : Cert.AdamWGluRefIdeal.Facts) (hAdamWKv : Cert.AdamWKv.Facts) (hAdamWKvIdeal : Cert.AdamWKvIdeal.Facts) (hAdamWKvRefIdeal : Cert.AdamWKvRefIdeal.Facts) (hAdamWGate : Cert.AdamWGate.Facts) (hAdamWGateIdeal : Cert.AdamWGateIdeal.Facts) (hAdamWGateRefIdeal : Cert.AdamWGateRefIdeal.Facts) (hAdamWBranch : Cert.AdamWBranch.Facts) (hAdamWBranchIdeal : Cert.AdamWBranchIdeal.Facts) (hAdamWBranchRefIdeal : Cert.AdamWBranchRefIdeal.Facts) (hAdamWOut : Cert.AdamWOut.Facts) (hAdamWOutIdeal : Cert.AdamWOutIdeal.Facts) (hAdamWOutRefIdeal : Cert.AdamWOutRefIdeal.Facts) (hAdamSmall : Cert.AdamSmall.Facts) (hAdamSmallIdeal : Cert.AdamSmallIdeal.Facts) (hAdamSmallRefIdeal : Cert.AdamSmallRefIdeal.Facts) (hSumPair : Cert.SumPair.Facts) (hSumPairIdeal : Cert.SumPairIdeal.Facts) (hSumPairRefIdeal : Cert.SumPairRefIdeal.Facts) (hSumChips : Cert.SumChips.Facts) (hSumChipsIdeal : Cert.SumChipsIdeal.Facts) (hSumChipsRefIdeal : Cert.SumChipsRefIdeal.Facts),
    quiescent_AttnBwd (hAttnBwd := hAttnBwd)
    ∧ quiescent_AttnBwdIdeal (hAttnBwdIdeal := hAttnBwdIdeal)
    ∧ quiescent_AttnRefIdeal (hAttnRefIdeal := hAttnRefIdeal)
    ∧ quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_GateDx0 (hGateDx0 := hGateDx0)
    ∧ quiescent_GateDx0Ideal (hGateDx0Ideal := hGateDx0Ideal)
    ∧ quiescent_GateDx0RefIdeal (hGateDx0RefIdeal := hGateDx0RefIdeal)
    ∧ quiescent_GateDx1 (hGateDx1 := hGateDx1)
    ∧ quiescent_GateDx1Ideal (hGateDx1Ideal := hGateDx1Ideal)
    ∧ quiescent_GateDx1RefIdeal (hGateDx1RefIdeal := hGateDx1RefIdeal)
    ∧ quiescent_GateDx2 (hGateDx2 := hGateDx2)
    ∧ quiescent_GateDx2Ideal (hGateDx2Ideal := hGateDx2Ideal)
    ∧ quiescent_GateDx2RefIdeal (hGateDx2RefIdeal := hGateDx2RefIdeal)
    ∧ quiescent_GateDx3 (hGateDx3 := hGateDx3)
    ∧ quiescent_GateDx3Ideal (hGateDx3Ideal := hGateDx3Ideal)
    ∧ quiescent_GateDx3RefIdeal (hGateDx3RefIdeal := hGateDx3RefIdeal)
    ∧ quiescent_GateDw0 (hGateDw0 := hGateDw0)
    ∧ quiescent_GateDw0Ideal (hGateDw0Ideal := hGateDw0Ideal)
    ∧ quiescent_GateDw0RefIdeal (hGateDw0RefIdeal := hGateDw0RefIdeal)
    ∧ quiescent_GateDw1 (hGateDw1 := hGateDw1)
    ∧ quiescent_GateDw1Ideal (hGateDw1Ideal := hGateDw1Ideal)
    ∧ quiescent_GateDw1RefIdeal (hGateDw1RefIdeal := hGateDw1RefIdeal)
    ∧ quiescent_GateDw2 (hGateDw2 := hGateDw2)
    ∧ quiescent_GateDw2Ideal (hGateDw2Ideal := hGateDw2Ideal)
    ∧ quiescent_GateDw2RefIdeal (hGateDw2RefIdeal := hGateDw2RefIdeal)
    ∧ quiescent_GateDw3 (hGateDw3 := hGateDw3)
    ∧ quiescent_GateDw3Ideal (hGateDw3Ideal := hGateDw3Ideal)
    ∧ quiescent_GateDw3RefIdeal (hGateDw3RefIdeal := hGateDw3RefIdeal)
    ∧ quiescent_BranchDx0 (hBranchDx0 := hBranchDx0)
    ∧ quiescent_BranchDx0Ideal (hBranchDx0Ideal := hBranchDx0Ideal)
    ∧ quiescent_BranchDx0RefIdeal (hBranchDx0RefIdeal := hBranchDx0RefIdeal)
    ∧ quiescent_BranchDx1 (hBranchDx1 := hBranchDx1)
    ∧ quiescent_BranchDx1Ideal (hBranchDx1Ideal := hBranchDx1Ideal)
    ∧ quiescent_BranchDx1RefIdeal (hBranchDx1RefIdeal := hBranchDx1RefIdeal)
    ∧ quiescent_BranchDx2 (hBranchDx2 := hBranchDx2)
    ∧ quiescent_BranchDx2Ideal (hBranchDx2Ideal := hBranchDx2Ideal)
    ∧ quiescent_BranchDx2RefIdeal (hBranchDx2RefIdeal := hBranchDx2RefIdeal)
    ∧ quiescent_BranchDx3 (hBranchDx3 := hBranchDx3)
    ∧ quiescent_BranchDx3Ideal (hBranchDx3Ideal := hBranchDx3Ideal)
    ∧ quiescent_BranchDx3RefIdeal (hBranchDx3RefIdeal := hBranchDx3RefIdeal)
    ∧ quiescent_BranchDw0 (hBranchDw0 := hBranchDw0)
    ∧ quiescent_BranchDw0Ideal (hBranchDw0Ideal := hBranchDw0Ideal)
    ∧ quiescent_BranchDw0RefIdeal (hBranchDw0RefIdeal := hBranchDw0RefIdeal)
    ∧ quiescent_BranchDw1 (hBranchDw1 := hBranchDw1)
    ∧ quiescent_BranchDw1Ideal (hBranchDw1Ideal := hBranchDw1Ideal)
    ∧ quiescent_BranchDw1RefIdeal (hBranchDw1RefIdeal := hBranchDw1RefIdeal)
    ∧ quiescent_BranchDw2 (hBranchDw2 := hBranchDw2)
    ∧ quiescent_BranchDw2Ideal (hBranchDw2Ideal := hBranchDw2Ideal)
    ∧ quiescent_BranchDw2RefIdeal (hBranchDw2RefIdeal := hBranchDw2RefIdeal)
    ∧ quiescent_BranchDw3 (hBranchDw3 := hBranchDw3)
    ∧ quiescent_BranchDw3Ideal (hBranchDw3Ideal := hBranchDw3Ideal)
    ∧ quiescent_BranchDw3RefIdeal (hBranchDw3RefIdeal := hBranchDw3RefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_DnConvBwd (hDnConvBwd := hDnConvBwd)
    ∧ quiescent_DnConvBwdIdeal (hDnConvBwdIdeal := hDnConvBwdIdeal)
    ∧ quiescent_DnConvBwdRefIdeal (hDnConvBwdRefIdeal := hDnConvBwdRefIdeal)
    ∧ quiescent_LruConvBwd (hLruConvBwd := hLruConvBwd)
    ∧ quiescent_LruConvBwdIdeal (hLruConvBwdIdeal := hLruConvBwdIdeal)
    ∧ quiescent_LruConvBwdRefIdeal (hLruConvBwdRefIdeal := hLruConvBwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MemNormFwd (hMemNormFwd := hMemNormFwd)
    ∧ quiescent_MemNormFwdIdeal (hMemNormFwdIdeal := hMemNormFwdIdeal)
    ∧ quiescent_MemNormFwdRefIdeal (hMemNormFwdRefIdeal := hMemNormFwdRefIdeal)
    ∧ quiescent_DnConvFwd (hDnConvFwd := hDnConvFwd)
    ∧ quiescent_DnConvFwdIdeal (hDnConvFwdIdeal := hDnConvFwdIdeal)
    ∧ quiescent_DnConvFwdRefIdeal (hDnConvFwdRefIdeal := hDnConvFwdRefIdeal)
    ∧ quiescent_LruConvFwd (hLruConvFwd := hLruConvFwd)
    ∧ quiescent_LruConvFwdIdeal (hLruConvFwdIdeal := hLruConvFwdIdeal)
    ∧ quiescent_LruConvFwdRefIdeal (hLruConvFwdRefIdeal := hLruConvFwdRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWGlu (hAdamWGlu := hAdamWGlu)
    ∧ quiescent_AdamWGluIdeal (hAdamWGluIdeal := hAdamWGluIdeal)
    ∧ quiescent_AdamWGluRefIdeal (hAdamWGluRefIdeal := hAdamWGluRefIdeal)
    ∧ quiescent_AdamWKv (hAdamWKv := hAdamWKv)
    ∧ quiescent_AdamWKvIdeal (hAdamWKvIdeal := hAdamWKvIdeal)
    ∧ quiescent_AdamWKvRefIdeal (hAdamWKvRefIdeal := hAdamWKvRefIdeal)
    ∧ quiescent_AdamWGate (hAdamWGate := hAdamWGate)
    ∧ quiescent_AdamWGateIdeal (hAdamWGateIdeal := hAdamWGateIdeal)
    ∧ quiescent_AdamWGateRefIdeal (hAdamWGateRefIdeal := hAdamWGateRefIdeal)
    ∧ quiescent_AdamWBranch (hAdamWBranch := hAdamWBranch)
    ∧ quiescent_AdamWBranchIdeal (hAdamWBranchIdeal := hAdamWBranchIdeal)
    ∧ quiescent_AdamWBranchRefIdeal (hAdamWBranchRefIdeal := hAdamWBranchRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumPair (hSumPair := hSumPair)
    ∧ quiescent_SumPairIdeal (hSumPairIdeal := hSumPairIdeal)
    ∧ quiescent_SumPairRefIdeal (hSumPairRefIdeal := hSumPairRefIdeal)
    ∧ quiescent_SumChips (hSumChips := hSumChips)
    ∧ quiescent_SumChipsIdeal (hSumChipsIdeal := hSumChipsIdeal)
    ∧ quiescent_SumChipsRefIdeal (hSumChipsRefIdeal := hSumChipsRefIdeal)
    ∧ preserves_AttnBwd_AttnBwdIdeal
    ∧ algebraic_AttnBwdIdeal_AttnRefIdeal (hAttnBwdIdeal := hAttnBwdIdeal) (hAttnRefIdeal := hAttnRefIdeal)
    ∧ preserves_MergeBwd_MergeBwdIdeal
    ∧ algebraic_MergeBwdIdeal_MergeRefIdeal (hMergeBwdIdeal := hMergeBwdIdeal) (hMergeRefIdeal := hMergeRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_GateDx0_GateDx0Ideal
    ∧ algebraic_GateDx0Ideal_GateDx0RefIdeal (hGateDx0Ideal := hGateDx0Ideal) (hGateDx0RefIdeal := hGateDx0RefIdeal)
    ∧ preserves_GateDx1_GateDx1Ideal
    ∧ algebraic_GateDx1Ideal_GateDx1RefIdeal (hGateDx1Ideal := hGateDx1Ideal) (hGateDx1RefIdeal := hGateDx1RefIdeal)
    ∧ preserves_GateDx2_GateDx2Ideal
    ∧ algebraic_GateDx2Ideal_GateDx2RefIdeal (hGateDx2Ideal := hGateDx2Ideal) (hGateDx2RefIdeal := hGateDx2RefIdeal)
    ∧ preserves_GateDx3_GateDx3Ideal
    ∧ algebraic_GateDx3Ideal_GateDx3RefIdeal (hGateDx3Ideal := hGateDx3Ideal) (hGateDx3RefIdeal := hGateDx3RefIdeal)
    ∧ preserves_GateDw0_GateDw0Ideal
    ∧ algebraic_GateDw0Ideal_GateDw0RefIdeal (hGateDw0Ideal := hGateDw0Ideal) (hGateDw0RefIdeal := hGateDw0RefIdeal)
    ∧ preserves_GateDw1_GateDw1Ideal
    ∧ algebraic_GateDw1Ideal_GateDw1RefIdeal (hGateDw1Ideal := hGateDw1Ideal) (hGateDw1RefIdeal := hGateDw1RefIdeal)
    ∧ preserves_GateDw2_GateDw2Ideal
    ∧ algebraic_GateDw2Ideal_GateDw2RefIdeal (hGateDw2Ideal := hGateDw2Ideal) (hGateDw2RefIdeal := hGateDw2RefIdeal)
    ∧ preserves_GateDw3_GateDw3Ideal
    ∧ algebraic_GateDw3Ideal_GateDw3RefIdeal (hGateDw3Ideal := hGateDw3Ideal) (hGateDw3RefIdeal := hGateDw3RefIdeal)
    ∧ preserves_BranchDx0_BranchDx0Ideal
    ∧ algebraic_BranchDx0Ideal_BranchDx0RefIdeal (hBranchDx0Ideal := hBranchDx0Ideal) (hBranchDx0RefIdeal := hBranchDx0RefIdeal)
    ∧ preserves_BranchDx1_BranchDx1Ideal
    ∧ algebraic_BranchDx1Ideal_BranchDx1RefIdeal (hBranchDx1Ideal := hBranchDx1Ideal) (hBranchDx1RefIdeal := hBranchDx1RefIdeal)
    ∧ preserves_BranchDx2_BranchDx2Ideal
    ∧ algebraic_BranchDx2Ideal_BranchDx2RefIdeal (hBranchDx2Ideal := hBranchDx2Ideal) (hBranchDx2RefIdeal := hBranchDx2RefIdeal)
    ∧ preserves_BranchDx3_BranchDx3Ideal
    ∧ algebraic_BranchDx3Ideal_BranchDx3RefIdeal (hBranchDx3Ideal := hBranchDx3Ideal) (hBranchDx3RefIdeal := hBranchDx3RefIdeal)
    ∧ preserves_BranchDw0_BranchDw0Ideal
    ∧ algebraic_BranchDw0Ideal_BranchDw0RefIdeal (hBranchDw0Ideal := hBranchDw0Ideal) (hBranchDw0RefIdeal := hBranchDw0RefIdeal)
    ∧ preserves_BranchDw1_BranchDw1Ideal
    ∧ algebraic_BranchDw1Ideal_BranchDw1RefIdeal (hBranchDw1Ideal := hBranchDw1Ideal) (hBranchDw1RefIdeal := hBranchDw1RefIdeal)
    ∧ preserves_BranchDw2_BranchDw2Ideal
    ∧ algebraic_BranchDw2Ideal_BranchDw2RefIdeal (hBranchDw2Ideal := hBranchDw2Ideal) (hBranchDw2RefIdeal := hBranchDw2RefIdeal)
    ∧ preserves_BranchDw3_BranchDw3Ideal
    ∧ algebraic_BranchDw3Ideal_BranchDw3RefIdeal (hBranchDw3Ideal := hBranchDw3Ideal) (hBranchDw3RefIdeal := hBranchDw3RefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_GluProj_GluProjIdeal
    ∧ algebraic_GluProjIdeal_GluProjRefIdeal (hGluProjIdeal := hGluProjIdeal) (hGluProjRefIdeal := hGluProjRefIdeal)
    ∧ preserves_KvProj_KvProjIdeal
    ∧ algebraic_KvProjIdeal_KvProjRefIdeal (hKvProjIdeal := hKvProjIdeal) (hKvProjRefIdeal := hKvProjRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_GluBwd_GluBwdIdeal
    ∧ algebraic_GluBwdIdeal_GluBwdRefIdeal (hGluBwdIdeal := hGluBwdIdeal) (hGluBwdRefIdeal := hGluBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_DnConvBwd_DnConvBwdIdeal
    ∧ algebraic_DnConvBwdIdeal_DnConvBwdRefIdeal (hDnConvBwdIdeal := hDnConvBwdIdeal) (hDnConvBwdRefIdeal := hDnConvBwdRefIdeal)
    ∧ preserves_LruConvBwd_LruConvBwdIdeal
    ∧ algebraic_LruConvBwdIdeal_LruConvBwdRefIdeal (hLruConvBwdIdeal := hLruConvBwdIdeal) (hLruConvBwdRefIdeal := hLruConvBwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_MemNormFwd_MemNormFwdIdeal
    ∧ algebraic_MemNormFwdIdeal_MemNormFwdRefIdeal (hMemNormFwdIdeal := hMemNormFwdIdeal) (hMemNormFwdRefIdeal := hMemNormFwdRefIdeal)
    ∧ preserves_DnConvFwd_DnConvFwdIdeal
    ∧ algebraic_DnConvFwdIdeal_DnConvFwdRefIdeal (hDnConvFwdIdeal := hDnConvFwdIdeal) (hDnConvFwdRefIdeal := hDnConvFwdRefIdeal)
    ∧ preserves_LruConvFwd_LruConvFwdIdeal
    ∧ algebraic_LruConvFwdIdeal_LruConvFwdRefIdeal (hLruConvFwdIdeal := hLruConvFwdIdeal) (hLruConvFwdRefIdeal := hLruConvFwdRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWGlu_AdamWGluIdeal
    ∧ algebraic_AdamWGluIdeal_AdamWGluRefIdeal (hAdamWGluIdeal := hAdamWGluIdeal) (hAdamWGluRefIdeal := hAdamWGluRefIdeal)
    ∧ preserves_AdamWKv_AdamWKvIdeal
    ∧ algebraic_AdamWKvIdeal_AdamWKvRefIdeal (hAdamWKvIdeal := hAdamWKvIdeal) (hAdamWKvRefIdeal := hAdamWKvRefIdeal)
    ∧ preserves_AdamWGate_AdamWGateIdeal
    ∧ algebraic_AdamWGateIdeal_AdamWGateRefIdeal (hAdamWGateIdeal := hAdamWGateIdeal) (hAdamWGateRefIdeal := hAdamWGateRefIdeal)
    ∧ preserves_AdamWBranch_AdamWBranchIdeal
    ∧ algebraic_AdamWBranchIdeal_AdamWBranchRefIdeal (hAdamWBranchIdeal := hAdamWBranchIdeal) (hAdamWBranchRefIdeal := hAdamWBranchRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumPair_SumPairIdeal
    ∧ algebraic_SumPairIdeal_SumPairRefIdeal (hSumPairIdeal := hSumPairIdeal) (hSumPairRefIdeal := hSumPairRefIdeal)
    ∧ preserves_SumChips_SumChipsIdeal
    ∧ algebraic_SumChipsIdeal_SumChipsRefIdeal (hSumChipsIdeal := hSumChipsIdeal) (hSumChipsRefIdeal := hSumChipsRefIdeal)
-- ==== AttnBwd.lean ====
abbrev S4096x10752 : Shape := ⟨2, ![4096, 10752]⟩
abbrev S256x2048 : Shape := ⟨2, ![256, 2048]⟩
abbrev S4096x1024 : Shape := ⟨2, ![4096, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x768 : Shape := ⟨2, ![256, 768]⟩
abbrev S256x1792 : Shape := ⟨2, ![256, 1792]⟩
abbrev S256x512 : Shape := ⟨2, ![256, 512]⟩
abbrev S256x1536 : Shape := ⟨2, ![256, 1536]⟩
abbrev S256x1280 : Shape := ⟨2, ![256, 1280]⟩

abbrev nBuf : Space → Nat
  | .hbm => 6
  | .vmem => 12
  | .smem => 0
  | _ => 0

abbrev bufTy : (tb : Table) → Fin (tcTables nBuf tb) → BufTy
  | .hbm, ⟨0, _⟩ => ⟨S4096x10752, .f32⟩
  | .hbm, ⟨1, _⟩ => ⟨S256x2048, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S256x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2048, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S4096x10752 : Shape := ⟨2, ![4096, 10752]⟩
abbrev S256x2048 : Shape := ⟨2, ![256, 2048]⟩
abbrev S4096x1024 : Shape := ⟨2, ![4096, 1024]⟩
abbrev S256x1024 : Shape := ⟨2, ![256, 1024]⟩
abbrev S256x4x256 : Shape := ⟨3, ![256, 4, 256]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S256x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4096x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x256, .f32⟩
  | .hbm, ⟨24, _⟩ => ⟨S4x4096x256, .f32⟩
  | .hbm, ⟨25, _⟩ => ⟨S4x4096x256, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x256, .f32⟩
  | .hbm, ⟨30, _⟩ => ⟨S4x4096x256, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x256x4096, .f32⟩
  | .hbm, ⟨36, _⟩ => ⟨S4096x4x256, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x4x256, .f32⟩
  | .hbm, ⟨59, _⟩ => ⟨S4x256x4096, .f32⟩
  | .hbm, ⟨60, _⟩ => ⟨S4x4096x256, .f32⟩
  | .hbm, ⟨61, _⟩ => ⟨S4x256x256, .f32⟩
  | .hbm, ⟨62, _⟩ => ⟨S256x4x256, .f32⟩
  | .hbm, ⟨63, _⟩ => ⟨S4x4096x256, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096x256, .f32⟩
  | .hbm, ⟨79, _⟩ => ⟨S4x4096x256, .f32⟩
  | .hbm, ⟨80, _⟩ => ⟨S4x256x256, .f32⟩
  | .hbm, ⟨81, _⟩ => ⟨S256x4x256, .f32⟩
  | .hbm, ⟨82, _⟩ => ⟨S4x4096x256, .f32⟩
  | .hbm, ⟨83, _⟩ => ⟨S4096x4x256, .f32⟩
  | .hbm, ⟨84, _⟩ => ⟨S4096x1024, .f32⟩
  | .hbm, ⟨85, _⟩ => ⟨S256x1024, .f32⟩
  | .hbm, ⟨86, _⟩ => ⟨S256x1024, .f32⟩
  | .hbm, ⟨87, _⟩ => ⟨S256x2048, .f32⟩
  | .hbm, ⟨88, _⟩ => ⟨S4096x1024, .bf16⟩
  | .hbm, ⟨89, _⟩ => ⟨S4096x1024, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== MergeBwd.lean ====
abbrev S4096x10752 : Shape := ⟨2, ![4096, 10752]⟩
abbrev S4x4096x1024 : Shape := ⟨3, ![4, 4096, 1024]⟩
abbrev S4x256x4096 : Shape := ⟨3, ![4, 256, 4096]⟩
abbrev S4x1x4096 : Shape := ⟨3, ![4, 1, 4096]⟩
abbrev S4x1024x4096 : Shape := ⟨3, ![4, 1024, 4096]⟩
abbrev S4096x4096 : Shape := ⟨2, ![4096, 4096]⟩
abbrev S4x4096x4096 : Shape := ⟨3, ![4, 4096, 4096]⟩
abbrev S512x256 : Shape := ⟨2, ![512, 256]⟩
abbrev S4x512x1024 : Shape := ⟨3, ![4, 512, 1024]⟩
abbrev S4x256x512 : Shape := ⟨3, ![4, 256, 512]⟩
abbrev S4x1x512 : Shape := ⟨3, ![4, 1, 512]⟩
abbrev S4x1024x512 : Shape := ⟨3, ![4, 1024, 512]⟩
abbrev S512x512 : Shape := ⟨2, ![512, 512]⟩
abbrev S4x512x512 : Shape := ⟨3, ![4, 512, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S1x512x512 : Shape := ⟨3, ![1, 512, 512]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S4096x10752, .f32⟩
  | .hbm, ⟨1, _⟩ => ⟨S4x4096x1024, .bf16⟩
  | .hbm, ⟨2, _⟩ => ⟨S4x256x4096, .bf16⟩
  | .hbm, ⟨3, _⟩ => ⟨S4x1x4096, .f32⟩
  | .hbm, ⟨4, _⟩ => ⟨S4x1024x4096, .bf16⟩
  | .hbm, ⟨5, _⟩ => ⟨S4096x4096, .bf16⟩
  | .hbm, ⟨6, _⟩ => ⟨S4x4096x4096, .bf16⟩
  | .hbm, ⟨7, _⟩ => ⟨S4x4096x4096, .bf16⟩
  | .hbm, ⟨8, _⟩ => ⟨S4x1x4096, .f32⟩
  | .local _ .vmem, ⟨0, _⟩ => ⟨S512x256, .f32⟩
  | .local _ .vmem, ⟨1, _⟩ => ⟨S512x256, .f32⟩
  | .local _ .vmem, ⟨2, _⟩ => ⟨S4x512x1024, .bf16⟩
  | .local _ .vmem, ⟨3, _⟩ => ⟨S4x512x1024, .bf16⟩
  | .local _ .vmem, ⟨4, _⟩ => ⟨S4x256x512, .bf16⟩
  | .local _ .vmem, ⟨5, _⟩ => ⟨S4x256x512, .bf16⟩
  | .local _ .vmem, ⟨6, _⟩ => ⟨S4x1x512, .f32⟩
  | .local _ .vmem, ⟨7, _⟩ => ⟨S4x1x512, .f32⟩
  | .local _ .vmem, ⟨8, _⟩ => ⟨S4x1024x512, .bf16⟩
  | .local _ .vmem, ⟨9, _⟩ => ⟨S4x1024x512, .bf16⟩
  | .local _ .vmem, ⟨10, _⟩ => ⟨S512x512, .bf16⟩
  | .local _ .vmem, ⟨11, _⟩ => ⟨S512x512, .bf16⟩
  | .local _ .vmem, ⟨12, _⟩ => ⟨S4x512x512, .bf16⟩
  | .local _ .vmem, ⟨13, _⟩ => ⟨S4x512x512, .bf16⟩
  | .local _ .vmem, ⟨14, _⟩ => ⟨S4x512x512, .bf16⟩
  | .local _ .vmem, ⟨15, _⟩ => ⟨S4x512x512, .bf16⟩
  | .local _ .vmem, ⟨16, _⟩ => ⟨S4x1x512, .f32⟩
  | .local _ .vmem, ⟨17, _⟩ => ⟨S4x1x512, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg1.toNat, c40_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MergeRefIdeal.lean ====
abbrev S4096x10752 : Shape := ⟨2, ![4096, 10752]⟩
abbrev S4x4096x1024 : Shape := ⟨3, ![4, 4096, 1024]⟩
abbrev S4x256x4096 : Shape := ⟨3, ![4, 256, 4096]⟩
abbrev S4x1x4096 : Shape := ⟨3, ![4, 1, 4096]⟩
abbrev S4x1024x4096 : Shape := ⟨3, ![4, 1024, 4096]⟩
abbrev S4096x4096 : Shape := ⟨2, ![4096, 4096]⟩
abbrev S4096x256 : Shape := ⟨2, ![4096, 256]⟩
abbrev S4096x4x4096 : Shape := ⟨3, ![4096, 4, 4096]⟩
abbrev S4x4096x4096 : Shape := ⟨3, ![4, 4096, 4096]⟩
abbrev S_ : Shape := ⟨0, ![]⟩
abbrev S4x4096 : Shape := ⟨2, ![4, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4x4096x1024, .bf16⟩
  | .hbm, ⟨2, _⟩ => ⟨S4x256x4096, .bf16⟩
  | .hbm, ⟨3, _⟩ => ⟨S4x1x4096, .f32⟩
  | .hbm, ⟨4, _⟩ => ⟨S4x1024x4096, .bf16⟩
  | .hbm, ⟨5, _⟩ => ⟨S4096x4096, .bf16⟩
  | .hbm, ⟨6, _⟩ => ⟨S4096x256, .f32⟩
  | .hbm, ⟨7, _⟩ => ⟨S4x256x4096, .f32⟩
  | .hbm, ⟨8, _⟩ => ⟨S4x1024x4096, .f32⟩
  | .hbm, ⟨9, _⟩ => ⟨S4x4096x1024, .f32⟩
  | .hbm, ⟨10, _⟩ => ⟨S4096x4x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .bf16⟩
  | .hbm, ⟨36, _⟩ => ⟨S4x4096x4096, .bf16⟩
  | .hbm, ⟨37, _⟩ => ⟨S_, .f32⟩
  | .hbm, ⟨38, _⟩ => ⟨S4x4096, .f32⟩
  | .hbm, ⟨39, _⟩ => ⟨S4x1x4096, .f32⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== InDx.lean ====
abbrev S4096x10752 : Shape := ⟨2, ![4096, 10752]⟩
abbrev S4096x4096 : Shape := ⟨2, ![4096, 4096]⟩
abbrev S1024x1792 : Shape := ⟨2, ![1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S4096x10752, .bf16⟩
  | .hbm, ⟨2, _⟩ => ⟨S4096x4096, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x10752 : Shape := ⟨2, ![4096, 10752]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x10752, .bf16⟩
  | .hbm, ⟨2, _⟩ => ⟨S4096x10752, .f32⟩
  | .hbm, ⟨3, _⟩ => ⟨S_, .f32⟩
  | .hbm, ⟨4, _⟩ => ⟨S4096x4096, .f32⟩
  | .hbm, ⟨5, _⟩ => ⟨S4096x10752, .f32⟩
  | .hbm, ⟨6, _⟩ => ⟨S4096x10752, .f32⟩
  | .hbm, ⟨7, _⟩ => ⟨S4096x4096, .f32⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4096x4096 : Shape := ⟨2, ![4096, 4096]⟩
abbrev S4096x10752 : Shape := ⟨2, ![4096, 10752]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x10752, .bf16⟩
  | .hbm, ⟨2, _⟩ => ⟨S4096x10752, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x4096 : Shape := ⟨2, ![4096, 4096]⟩
abbrev S4096x10752 : Shape := ⟨2, ![4096, 10752]⟩
abbrev S_ : Shape := ⟨0, ![]⟩
abbrev S10752x4096 : Shape := ⟨2, ![10752, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10752, .bf16⟩
  | .hbm, ⟨2, _⟩ => ⟨S4096x4096, .f32⟩
  | .hbm, ⟨3, _⟩ => ⟨S_, .f32⟩
  | .hbm, ⟨4, _⟩ => ⟨S4096x10752, .f32⟩
  | .hbm, ⟨5, _⟩ => ⟨S4096x10752, .f32⟩
  | .hbm, ⟨6, _⟩ => ⟨S4096x10752, .f32⟩
  | .hbm, ⟨7, _⟩ => ⟨S10752x4096, .f32⟩
  | .hbm, ⟨8, _⟩ => ⟨S4096x10752, .f32⟩
  | .hbm, ⟨9, _⟩ => ⟨S4096x10752, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateDx0.lean ====
abbrev S4x4096x4096 : Shape := ⟨3, ![4, 4096, 4096]⟩
abbrev S4x256x4096 : Shape := ⟨3, ![4, 256, 4096]⟩
abbrev S4096x256 : Shape := ⟨2, ![4096, 256]⟩
abbrev S1x1024x2048 : Shape := ⟨3, ![1, 1024, 2048]⟩
abbrev S1x256x2048 : Shape := ⟨3, ![1, 256, 2048]⟩
abbrev S1024x256 : Shape := ⟨2, ![1024, 256]⟩
abbrev S1024x2048 : Shape := ⟨2, ![1024, 2048]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDx0RefIdeal.lean ====
abbrev S4x4096x4096 : Shape := ⟨3, ![4, 4096, 4096]⟩
abbrev S4x256x4096 : Shape := ⟨3, ![4, 256, 4096]⟩
abbrev S1x256x4096 : Shape := ⟨3, ![1, 256, 4096]⟩
abbrev S256x4096 : Shape := ⟨2, ![256, 4096]⟩
abbrev S_ : Shape := ⟨0, ![]⟩
abbrev S4096x256 : Shape := ⟨2, ![4096, 256]⟩
abbrev S4096x4096 : Shape := ⟨2, ![4096, 4096]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S1x256x4096, .bf16⟩
  | .hbm, ⟨3, _⟩ => ⟨S256x4096, .bf16⟩
  | .hbm, ⟨4, _⟩ => ⟨S256x4096, .f32⟩
  | .hbm, ⟨5, _⟩ => ⟨S_, .f32⟩
  | .hbm, ⟨6, _⟩ => ⟨S4096x256, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x256, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateDx1.lean ====
abbrev S4x4096x4096 : Shape := ⟨3, ![4, 4096, 4096]⟩
abbrev S4x256x4096 : Shape := ⟨3, ![4, 256, 4096]⟩
abbrev S4096x256 : Shape := ⟨2, ![4096, 256]⟩
abbrev S1x1024x2048 : Shape := ⟨3, ![1, 1024, 2048]⟩
abbrev S1x256x2048 : Shape := ⟨3, ![1, 256, 2048]⟩
abbrev S1024x256 : Shape := ⟨2, ![1024, 256]⟩
abbrev S1024x2048 : Shape := ⟨2, ![1024, 2048]⟩
abbrev S256x2048 : Shape := ⟨2, ![256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .hbm, ⟨3, _⟩ => ⟨S4096x256, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDx1RefIdeal.lean ====
abbrev S4x4096x4096 : Shape := ⟨3, ![4, 4096, 4096]⟩
abbrev S4x256x4096 : Shape := ⟨3, ![4, 256, 4096]⟩
abbrev S4096x256 : Shape := ⟨2, ![4096, 256]⟩
abbrev S1x256x4096 : Shape := ⟨3, ![1, 256, 4096]⟩
abbrev S256x4096 : Shape := ⟨2, ![256, 4096]⟩
abbrev S_ : Shape := ⟨0, ![]⟩
abbrev S4096x4096 : Shape := ⟨2, ![4096, 4096]⟩
abbrev S1x4096x4096 : Shape := ⟨3, ![1, 4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .hbm, ⟨3, _⟩ => ⟨S1x256x4096, .bf16⟩
  | .hbm, ⟨4, _⟩ => ⟨S256x4096, .bf16⟩
  | .hbm, ⟨5, _⟩ => ⟨S256x4096, .f32⟩
  | .hbm, ⟨6, _⟩ => ⟨S_, .f32⟩
  | .hbm, ⟨7, _⟩ => ⟨S4096x256, .f32⟩
  | .hbm, ⟨8, _⟩ => ⟨S4096x4096, .f32⟩
  | .hbm, ⟨9, _⟩ => ⟨S1x4096x4096, .bf16⟩
  | .hbm, ⟨10, _⟩ => ⟨S4096x4096, .bf16⟩
  | .hbm, ⟨11, _⟩ => ⟨S4096x4096, .f32⟩
  | .hbm, ⟨12, _⟩ => ⟨S4096x256, .f32⟩
  | .hbm, ⟨13, _⟩ => ⟨S4096x256, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== GateDx2.lean ====
abbrev S4x4096x4096 : Shape := ⟨3, ![4, 4096, 4096]⟩
abbrev S4x256x4096 : Shape := ⟨3, ![4, 256, 4096]⟩
abbrev S4096x256 : Shape := ⟨2, ![4096, 256]⟩
abbrev S1x1024x2048 : Shape := ⟨3, ![1, 1024, 2048]⟩
abbrev S1x256x2048 : Shape := ⟨3, ![1, 256, 2048]⟩
abbrev S1024x256 : Shape := ⟨2, ![1024, 256]⟩
abbrev S1024x2048 : Shape := ⟨2, ![1024, 2048]⟩
abbrev S256x2048 : Shape := ⟨2, ![256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .hbm, ⟨3, _⟩ => ⟨S4096x256, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDx2RefIdeal.lean ====
abbrev S4x4096x4096 : Shape := ⟨3, ![4, 4096, 4096]⟩
abbrev S4x256x4096 : Shape := ⟨3, ![4, 256, 4096]⟩
abbrev S4096x256 : Shape := ⟨2, ![4096, 256]⟩
abbrev S1x256x4096 : Shape := ⟨3, ![1, 256, 4096]⟩
abbrev S256x4096 : Shape := ⟨2, ![256, 4096]⟩
abbrev S_ : Shape := ⟨0, ![]⟩
abbrev S4096x4096 : Shape := ⟨2, ![4096, 4096]⟩
abbrev S1x4096x4096 : Shape := ⟨3, ![1, 4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .hbm, ⟨3, _⟩ => ⟨S1x256x4096, .bf16⟩
  | .hbm, ⟨4, _⟩ => ⟨S256x4096, .bf16⟩
  | .hbm, ⟨5, _⟩ => ⟨S256x4096, .f32⟩
  | .hbm, ⟨6, _⟩ => ⟨S_, .f32⟩
  | .hbm, ⟨7, _⟩ => ⟨S4096x256, .f32⟩
  | .hbm, ⟨8, _⟩ => ⟨S4096x4096, .f32⟩
  | .hbm, ⟨9, _⟩ => ⟨S1x4096x4096, .bf16⟩
  | .hbm, ⟨10, _⟩ => ⟨S4096x4096, .bf16⟩
  | .hbm, ⟨11, _⟩ => ⟨S4096x4096, .f32⟩
  | .hbm, ⟨12, _⟩ => ⟨S4096x256, .f32⟩
  | .hbm, ⟨13, _⟩ => ⟨S4096x256, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== GateDx3.lean ====
abbrev S4x4096x4096 : Shape := ⟨3, ![4, 4096, 4096]⟩
abbrev S4x256x4096 : Shape := ⟨3, ![4, 256, 4096]⟩
abbrev S4096x256 : Shape := ⟨2, ![4096, 256]⟩
abbrev S1x1024x2048 : Shape := ⟨3, ![1, 1024, 2048]⟩
abbrev S1x256x2048 : Shape := ⟨3, ![1, 256, 2048]⟩
abbrev S1024x256 : Shape := ⟨2, ![1024, 256]⟩
abbrev S1024x2048 : Shape := ⟨2, ![1024, 2048]⟩
abbrev S256x2048 : Shape := ⟨2, ![256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .hbm, ⟨3, _⟩ => ⟨S4096x256, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDx3RefIdeal.lean ====
abbrev S4x4096x4096 : Shape := ⟨3, ![4, 4096, 4096]⟩
abbrev S4x256x4096 : Shape := ⟨3, ![4, 256, 4096]⟩
abbrev S4096x256 : Shape := ⟨2, ![4096, 256]⟩
abbrev S1x256x4096 : Shape := ⟨3, ![1, 256, 4096]⟩
abbrev S256x4096 : Shape := ⟨2, ![256, 4096]⟩
abbrev S_ : Shape := ⟨0, ![]⟩
abbrev S4096x4096 : Shape := ⟨2, ![4096, 4096]⟩
abbrev S1x4096x4096 : Shape := ⟨3, ![1, 4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .bf16⟩
  | .hbm, ⟨2, _⟩ => ⟨S4096x256, .f32⟩
  | .hbm, ⟨3, _⟩ => ⟨S1x256x4096, .bf16⟩
  | .hbm, ⟨4, _⟩ => ⟨S256x4096, .bf16⟩
  | .hbm, ⟨5, _⟩ => ⟨S256x4096, .f32⟩
  | .hbm, ⟨6, _⟩ => ⟨S_, .f32⟩
  | .hbm, ⟨7, _⟩ => ⟨S4096x256, .f32⟩
  | .hbm, ⟨8, _⟩ => ⟨S4096x4096, .f32⟩
  | .hbm, ⟨9, _⟩ => ⟨S1x4096x4096, .bf16⟩
  | .hbm, ⟨10, _⟩ => ⟨S4096x4096, .bf16⟩
  | .hbm, ⟨11, _⟩ => ⟨S4096x4096, .f32⟩
  | .hbm, ⟨12, _⟩ => ⟨S4096x256, .f32⟩
  | .hbm, ⟨13, _⟩ => ⟨S4096x256, .f32⟩
  | .hbm, ⟨14, _⟩ => ⟨S4096x256, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== GateDw0.lean ====
abbrev S4096x256 : Shape := ⟨2, ![4096, 256]⟩
abbrev S4x4096x4096 : Shape := ⟨3, ![4, 4096, 4096]⟩
abbrev S4x256x1024 : Shape := ⟨3, ![4, 256, 1024]⟩
abbrev S2048x256 : Shape := ⟨2, ![2048, 256]⟩
abbrev S1x2048x1024 : Shape := ⟨3, ![1, 2048, 1024]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDw0RefIdeal.lean ====
abbrev S4096x256 : Shape := ⟨2, ![4096, 256]⟩
abbrev S4x4096x4096 : Shape := ⟨3, ![4, 4096, 4096]⟩
abbrev S_ : Shape := ⟨0, ![]⟩
abbrev S256x4096 : Shape := ⟨2, ![256, 4096]⟩
abbrev S4096x4096 : Shape := ⟨2, ![4096, 4096]⟩
abbrev S1x4096x4096 : Shape := ⟨3, ![1, 4096, 4096]⟩
abbrev S256x4x1024 : Shape := ⟨3, ![256, 4, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4096x256, .f32⟩
  | .hbm, ⟨3, _⟩ => ⟨S_, .f32⟩
  | .hbm, ⟨4, _⟩ => ⟨S256x4096, .f32⟩
  | .hbm, ⟨5, _⟩ => ⟨S4096x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S4096x256, .f32⟩
  | .hbm, ⟨10, _⟩ => ⟨S256x4096, .f32⟩
  | .hbm, ⟨11, _⟩ => ⟨S256x4x1024, .f32⟩
  | .hbm, ⟨12, _⟩ => ⟨S4x256x1024, .f32⟩
  | .hbm, ⟨13, _⟩ => ⟨S4x256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateDw1.lean ====
abbrev S4096x256 : Shape := ⟨2, ![4096, 256]⟩
abbrev S4x4096x4096 : Shape := ⟨3, ![4, 4096, 4096]⟩
abbrev S4x256x1024 : Shape := ⟨3, ![4, 256, 1024]⟩
abbrev S2048x256 : Shape := ⟨2, ![2048, 256]⟩
abbrev S1x2048x1024 : Shape := ⟨3, ![1, 2048, 1024]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDw1RefIdeal.lean ====
abbrev S4096x256 : Shape := ⟨2, ![4096, 256]⟩
abbrev S4x4096x4096 : Shape := ⟨3, ![4, 4096, 4096]⟩
abbrev S_ : Shape := ⟨0, ![]⟩
abbrev S256x4096 : Shape := ⟨2, ![256, 4096]⟩
abbrev S4096x4096 : Shape := ⟨2, ![4096, 4096]⟩
abbrev S1x4096x4096 : Shape := ⟨3, ![1, 4096, 4096]⟩
abbrev S256x4x1024 : Shape := ⟨3, ![256, 4, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4096x256, .f32⟩
  | .hbm, ⟨3, _⟩ => ⟨S_, .f32⟩
  | .hbm, ⟨4, _⟩ => ⟨S256x4096, .f32⟩
  | .hbm, ⟨5, _⟩ => ⟨S4096x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S4096x256, .f32⟩
  | .hbm, ⟨10, _⟩ => ⟨S256x4096, .f32⟩
  | .hbm, ⟨11, _⟩ => ⟨S256x4x1024, .f32⟩
  | .hbm, ⟨12, _⟩ => ⟨S4x256x1024, .f32⟩
  | .hbm, ⟨13, _⟩ => ⟨S4x256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateDw2.lean ====
abbrev S4096x256 : Shape := ⟨2, ![4096, 256]⟩
abbrev S4x4096x4096 : Shape := ⟨3, ![4, 4096, 4096]⟩
abbrev S4x256x1024 : Shape := ⟨3, ![4, 256, 1024]⟩
abbrev S2048x256 : Shape := ⟨2, ![2048, 256]⟩
abbrev S1x2048x1024 : Shape := ⟨3, ![1, 2048, 1024]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDw2RefIdeal.lean ====
abbrev S4096x256 : Shape := ⟨2, ![4096, 256]⟩
abbrev S4x4096x4096 : Shape := ⟨3, ![4, 4096, 4096]⟩
abbrev S_ : Shape := ⟨0, ![]⟩
abbrev S256x4096 : Shape := ⟨2, ![256, 4096]⟩
abbrev S4096x4096 : Shape := ⟨2, ![4096, 4096]⟩
abbrev S1x4096x4096 : Shape := ⟨3, ![1, 4096, 4096]⟩
abbrev S256x4x1024 : Shape := ⟨3, ![256, 4, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4096x256, .f32⟩
  | .hbm, ⟨3, _⟩ => ⟨S_, .f32⟩
  | .hbm, ⟨4, _⟩ => ⟨S256x4096, .f32⟩
  | .hbm, ⟨5, _⟩ => ⟨S4096x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S4096x256, .f32⟩
  | .hbm, ⟨10, _⟩ => ⟨S256x4096, .f32⟩
  | .hbm, ⟨11, _⟩ => ⟨S256x4x1024, .f32⟩
  | .hbm, ⟨12, _⟩ => ⟨S4x256x1024, .f32⟩
  | .hbm, ⟨13, _⟩ => ⟨S4x256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateDw3.lean ====
abbrev S4096x256 : Shape := ⟨2, ![4096, 256]⟩
abbrev S4x4096x4096 : Shape := ⟨3, ![4, 4096, 4096]⟩
abbrev S4x256x1024 : Shape := ⟨3, ![4, 256, 1024]⟩
abbrev S2048x256 : Shape := ⟨2, ![2048, 256]⟩
abbrev S1x2048x1024 : Shape := ⟨3, ![1, 2048, 1024]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDw3RefIdeal.lean ====
abbrev S4096x256 : Shape := ⟨2, ![4096, 256]⟩
abbrev S4x4096x4096 : Shape := ⟨3, ![4, 4096, 4096]⟩
abbrev S_ : Shape := ⟨0, ![]⟩
abbrev S256x4096 : Shape := ⟨2, ![256, 4096]⟩
abbrev S4096x4096 : Shape := ⟨2, ![4096, 4096]⟩
abbrev S1x4096x4096 : Shape := ⟨3, ![1, 4096, 4096]⟩
abbrev S256x4x1024 : Shape := ⟨3, ![256, 4, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4x4096x4096, .bf16⟩
  | .hbm, ⟨2, _⟩ => ⟨S4096x256, .f32⟩
  | .hbm, ⟨3, _⟩ => ⟨S_, .f32⟩
  | .hbm, ⟨4, _⟩ => ⟨S256x4096, .f32⟩
  | .hbm, ⟨5, _⟩ => ⟨S4096x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S4096x256, .f32⟩
  | .hbm, ⟨10, _⟩ => ⟨S256x4096, .f32⟩
  | .hbm, ⟨11, _⟩ => ⟨S256x4x1024, .f32⟩
  | .hbm, ⟨12, _⟩ => ⟨S4x256x1024, .f32⟩
  | .hbm, ⟨13, _⟩ => ⟨S4x256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== BranchDx0.lean ====
abbrev S4x4096x4096 : Shape := ⟨3, ![4, 4096, 4096]⟩
abbrev S4x1024x4096 : Shape := ⟨3, ![4, 1024, 4096]⟩
abbrev S4096x1024 : Shape := ⟨2, ![4096, 1024]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDx0RefIdeal.lean ====
abbrev S4x4096x4096 : Shape := ⟨3, ![4, 4096, 4096]⟩
abbrev S4x1024x4096 : Shape := ⟨3, ![4, 1024, 4096]⟩
abbrev S1x1024x4096 : Shape := ⟨3, ![1, 1024, 4096]⟩
abbrev S1024x4096 : Shape := ⟨2, ![1024, 4096]⟩
abbrev S_ : Shape := ⟨0, ![]⟩
abbrev S4096x1024 : Shape := ⟨2, ![4096, 1024]⟩
abbrev S4096x4096 : Shape := ⟨2, ![4096, 4096]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S1x1024x4096, .bf16⟩
  | .hbm, ⟨3, _⟩ => ⟨S1024x4096, .bf16⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchDx1.lean ====
abbrev S4x4096x4096 : Shape := ⟨3, ![4, 4096, 4096]⟩
abbrev S4x1024x4096 : Shape := ⟨3, ![4, 1024, 4096]⟩
abbrev S4096x1024 : Shape := ⟨2, ![4096, 1024]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDx1RefIdeal.lean ====
abbrev S4x4096x4096 : Shape := ⟨3, ![4, 4096, 4096]⟩
abbrev S4x1024x4096 : Shape := ⟨3, ![4, 1024, 4096]⟩
abbrev S1x1024x4096 : Shape := ⟨3, ![1, 1024, 4096]⟩
abbrev S1024x4096 : Shape := ⟨2, ![1024, 4096]⟩
abbrev S_ : Shape := ⟨0, ![]⟩
abbrev S4096x1024 : Shape := ⟨2, ![4096, 1024]⟩
abbrev S4096x4096 : Shape := ⟨2, ![4096, 4096]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S1x1024x4096, .bf16⟩
  | .hbm, ⟨3, _⟩ => ⟨S1024x4096, .bf16⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchDx2.lean ====
abbrev S4x4096x4096 : Shape := ⟨3, ![4, 4096, 4096]⟩
abbrev S4x1024x4096 : Shape := ⟨3, ![4, 1024, 4096]⟩
abbrev S4096x1024 : Shape := ⟨2, ![4096, 1024]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDx2RefIdeal.lean ====
abbrev S4x4096x4096 : Shape := ⟨3, ![4, 4096, 4096]⟩
abbrev S4x1024x4096 : Shape := ⟨3, ![4, 1024, 4096]⟩
abbrev S1x1024x4096 : Shape := ⟨3, ![1, 1024, 4096]⟩
abbrev S1024x4096 : Shape := ⟨2, ![1024, 4096]⟩
abbrev S_ : Shape := ⟨0, ![]⟩
abbrev S4096x1024 : Shape := ⟨2, ![4096, 1024]⟩
abbrev S4096x4096 : Shape := ⟨2, ![4096, 4096]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S1x1024x4096, .bf16⟩
  | .hbm, ⟨3, _⟩ => ⟨S1024x4096, .bf16⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchDx3.lean ====
abbrev S4x4096x4096 : Shape := ⟨3, ![4, 4096, 4096]⟩
abbrev S4x1024x4096 : Shape := ⟨3, ![4, 1024, 4096]⟩
abbrev S4096x1024 : Shape := ⟨2, ![4096, 1024]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDx3RefIdeal.lean ====
abbrev S4x4096x4096 : Shape := ⟨3, ![4, 4096, 4096]⟩
abbrev S4x1024x4096 : Shape := ⟨3, ![4, 1024, 4096]⟩
abbrev S1x1024x4096 : Shape := ⟨3, ![1, 1024, 4096]⟩
abbrev S1024x4096 : Shape := ⟨2, ![1024, 4096]⟩
abbrev S_ : Shape := ⟨0, ![]⟩
abbrev S4096x1024 : Shape := ⟨2, ![4096, 1024]⟩
abbrev S4096x4096 : Shape := ⟨2, ![4096, 4096]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .bf16⟩
  | .hbm, ⟨2, _⟩ => ⟨S1x1024x4096, .bf16⟩
  | .hbm, ⟨3, _⟩ => ⟨S1024x4096, .bf16⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchDw0.lean ====
abbrev S4x4096x1024 : Shape := ⟨3, ![4, 4096, 1024]⟩
abbrev S4x4096x4096 : Shape := ⟨3, ![4, 4096, 4096]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S4x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDw0RefIdeal.lean ====
abbrev S4x4096x1024 : Shape := ⟨3, ![4, 4096, 1024]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩
abbrev S1x4096x4096 : Shape := ⟨3, ![1, 4096, 4096]⟩
abbrev S1024x4x1024 : Shape := ⟨3, ![1024, 4, 1024]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S1x4096x1024, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S1024x4x1024, .f32⟩
  | .hbm, ⟨14, _⟩ => ⟨S4x1024x1024, .f32⟩
  | .hbm, ⟨15, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== BranchDw1.lean ====
abbrev S4x4096x1024 : Shape := ⟨3, ![4, 4096, 1024]⟩
abbrev S4x4096x4096 : Shape := ⟨3, ![4, 4096, 4096]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S4x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDw1RefIdeal.lean ====
abbrev S4x4096x1024 : Shape := ⟨3, ![4, 4096, 1024]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩
abbrev S1x4096x4096 : Shape := ⟨3, ![1, 4096, 4096]⟩
abbrev S1024x4x1024 : Shape := ⟨3, ![1024, 4, 1024]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S1x4096x1024, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S1024x4x1024, .f32⟩
  | .hbm, ⟨14, _⟩ => ⟨S4x1024x1024, .f32⟩
  | .hbm, ⟨15, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== BranchDw2.lean ====
abbrev S4x4096x1024 : Shape := ⟨3, ![4, 4096, 1024]⟩
abbrev S4x4096x4096 : Shape := ⟨3, ![4, 4096, 4096]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S4x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDw2RefIdeal.lean ====
abbrev S4x4096x1024 : Shape := ⟨3, ![4, 4096, 1024]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩
abbrev S1x4096x4096 : Shape := ⟨3, ![1, 4096, 4096]⟩
abbrev S1024x4x1024 : Shape := ⟨3, ![1024, 4, 1024]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S1x4096x1024, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S1024x4x1024, .f32⟩
  | .hbm, ⟨14, _⟩ => ⟨S4x1024x1024, .f32⟩
  | .hbm, ⟨15, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== BranchDw3.lean ====
abbrev S4x4096x1024 : Shape := ⟨3, ![4, 4096, 1024]⟩
abbrev S4x4096x4096 : Shape := ⟨3, ![4, 4096, 4096]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S4x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDw3RefIdeal.lean ====
abbrev S4x4096x1024 : Shape := ⟨3, ![4, 4096, 1024]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩
abbrev S1x4096x4096 : Shape := ⟨3, ![1, 4096, 4096]⟩
abbrev S1024x4x1024 : Shape := ⟨3, ![1024, 4, 1024]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S1x4096x1024, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S1x4096x4096, .bf16⟩
  | .hbm, ⟨9, _⟩ => ⟨S4096x4096, .bf16⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S1024x4x1024, .f32⟩
  | .hbm, ⟨14, _⟩ => ⟨S4x1024x1024, .f32⟩
  | .hbm, ⟨15, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== GluDx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluDw.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvDx.lean ====
abbrev S256x2048 : Shape := ⟨2, ![256, 2048]⟩
abbrev S4096x2048 : Shape := ⟨2, ![4096, 2048]⟩
abbrev S256x4096 : Shape := ⟨2, ![256, 4096]⟩
abbrev S1024x2048 : Shape := ⟨2, ![1024, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S4096x2048, .bf16⟩
  | .hbm, ⟨2, _⟩ => ⟨S256x4096, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S256x2048 : Shape := ⟨2, ![256, 2048]⟩
abbrev S4096x2048 : Shape := ⟨2, ![4096, 2048]⟩
abbrev S_ : Shape := ⟨0, ![]⟩
abbrev S256x4096 : Shape := ⟨2, ![256, 4096]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S256x4096, .f32⟩
  | .hbm, ⟨5, _⟩ => ⟨S256x2048, .f32⟩
  | .hbm, ⟨6, _⟩ => ⟨S256x4096, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvDw.lean ====
abbrev S256x4096 : Shape := ⟨2, ![256, 4096]⟩
abbrev S256x2048 : Shape := ⟨2, ![256, 2048]⟩
abbrev S4096x2048 : Shape := ⟨2, ![4096, 2048]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S256x2048, .f32⟩
  | .hbm, ⟨2, _⟩ => ⟨S4096x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S256x4096 : Shape := ⟨2, ![256, 4096]⟩
abbrev S256x2048 : Shape := ⟨2, ![256, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x2048, .f32⟩
  | .hbm, ⟨2, _⟩ => ⟨S256x4096, .f32⟩
  | .hbm, ⟨3, _⟩ => ⟨S_, .f32⟩
  | .hbm, ⟨4, _⟩ => ⟨S4096x2048, .f32⟩
  | .hbm, ⟨5, _⟩ => ⟨S256x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x4096 : Shape := ⟨2, ![4096, 4096]⟩
abbrev S4096x10752 : Shape := ⟨2, ![4096, 10752]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x10752, .bf16⟩
  | .hbm, ⟨2, _⟩ => ⟨S4096x10752, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x4096 : Shape := ⟨2, ![4096, 4096]⟩
abbrev S4096x10752 : Shape := ⟨2, ![4096, 10752]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10752, .bf16⟩
  | .hbm, ⟨2, _⟩ => ⟨S4096x4096, .f32⟩
  | .hbm, ⟨3, _⟩ => ⟨S4096x10752, .f32⟩
  | .hbm, ⟨4, _⟩ => ⟨S4096x10752, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluProj.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S1024x1024 : Shape := ⟨2, ![1024, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluProjRefIdeal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvProj.lean ====
abbrev S256x4096 : Shape := ⟨2, ![256, 4096]⟩
abbrev S4096x2048 : Shape := ⟨2, ![4096, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S4096x2048, .bf16⟩
  | .hbm, ⟨2, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S256x4096 : Shape := ⟨2, ![256, 4096]⟩
abbrev S4096x2048 : Shape := ⟨2, ![4096, 2048]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x2048, .bf16⟩
  | .hbm, ⟨2, _⟩ => ⟨S256x4096, .f32⟩
  | .hbm, ⟨3, _⟩ => ⟨S4096x2048, .f32⟩
  | .hbm, ⟨4, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeFwd.lean ====
abbrev S4096x10752 : Shape := ⟨2, ![4096, 10752]⟩
abbrev S4x4096x1024 : Shape := ⟨3, ![4, 4096, 1024]⟩
abbrev S4x256x4096 : Shape := ⟨3, ![4, 256, 4096]⟩
abbrev S4x1x4096 : Shape := ⟨3, ![4, 1, 4096]⟩
abbrev S4x1024x4096 : Shape := ⟨3, ![4, 1024, 4096]⟩
abbrev S4096x4096 : Shape := ⟨2, ![4096, 4096]⟩
abbrev S512x256 : Shape := ⟨2, ![512, 256]⟩
abbrev S4x512x1024 : Shape := ⟨3, ![4, 512, 1024]⟩
abbrev S4x256x512 : Shape := ⟨3, ![4, 256, 512]⟩
abbrev S4x1x512 : Shape := ⟨3, ![4, 1, 512]⟩
abbrev S4x1024x512 : Shape := ⟨3, ![4, 1024, 512]⟩
abbrev S512x512 : Shape := ⟨2, ![512, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x10752, .f32⟩
  | .hbm, ⟨1, _⟩ => ⟨S4x4096x1024, .bf16⟩
  | .hbm, ⟨2, _⟩ => ⟨S4x256x4096, .bf16⟩
  | .hbm, ⟨3, _⟩ => ⟨S4x1x4096, .f32⟩
  | .hbm, ⟨4, _⟩ => ⟨S4x1024x4096, .bf16⟩
  | .hbm, ⟨5, _⟩ => ⟨S4096x4096, .bf16⟩
  | .local _ .vmem, ⟨0, _⟩ => ⟨S512x256, .f32⟩
  | .local _ .vmem, ⟨1, _⟩ => ⟨S512x256, .f32⟩
  | .local _ .vmem, ⟨2, _⟩ => ⟨S4x512x1024, .bf16⟩
  | .local _ .vmem, ⟨3, _⟩ => ⟨S4x512x1024, .bf16⟩
  | .local _ .vmem, ⟨4, _⟩ => ⟨S4x256x512, .bf16⟩
  | .local _ .vmem, ⟨5, _⟩ => ⟨S4x256x512, .bf16⟩
  | .local _ .vmem, ⟨6, _⟩ => ⟨S4x1x512, .f32⟩
  | .local _ .vmem, ⟨7, _⟩ => ⟨S4x1x512, .f32⟩
  | .local _ .vmem, ⟨8, _⟩ => ⟨S4x1024x512, .bf16⟩
  | .local _ .vmem, ⟨9, _⟩ => ⟨S4x1024x512, .bf16⟩
  | .local _ .vmem, ⟨10, _⟩ => ⟨S512x512, .bf16⟩
  | .local _ .vmem, ⟨11, _⟩ => ⟨S512x512, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, c40_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeFwdRefIdeal.lean ====
abbrev S4096x10752 : Shape := ⟨2, ![4096, 10752]⟩
abbrev S4x4096x1024 : Shape := ⟨3, ![4, 4096, 1024]⟩
abbrev S4x256x4096 : Shape := ⟨3, ![4, 256, 4096]⟩
abbrev S4x1x4096 : Shape := ⟨3, ![4, 1, 4096]⟩
abbrev S4x1024x4096 : Shape := ⟨3, ![4, 1024, 4096]⟩
abbrev S4096x256 : Shape := ⟨2, ![4096, 256]⟩
abbrev S_ : Shape := ⟨0, ![]⟩
abbrev S4096x4096 : Shape := ⟨2, ![4096, 4096]⟩
abbrev S1x256x4096 : Shape := ⟨3, ![1, 256, 4096]⟩
abbrev S256x4096 : Shape := ⟨2, ![256, 4096]⟩
abbrev S1x1x4096 : Shape := ⟨3, ![1, 1, 4096]⟩
abbrev S1x4096 : Shape := ⟨2, ![1, 4096]⟩
abbrev S1x4096x1024 : Shape := ⟨3, ![1, 4096, 1024]⟩
abbrev S4096x1024 : Shape := ⟨2, ![4096, 1024]⟩
abbrev S1x1024x4096 : Shape := ⟨3, ![1, 1024, 4096]⟩
abbrev S1024x4096 : Shape := ⟨2, ![1024, 4096]⟩

abbrev nBuf : Space → Nat
  | .hbm => 100
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4x4096x1024, .bf16⟩
  | .hbm, ⟨2, _⟩ => ⟨S4x256x4096, .bf16⟩
  | .hbm, ⟨3, _⟩ => ⟨S4x1x4096, .f32⟩
  | .hbm, ⟨4, _⟩ => ⟨S4x1024x4096, .bf16⟩
  | .hbm, ⟨5, _⟩ => ⟨S4096x256, .f32⟩
  | .hbm, ⟨6, _⟩ => ⟨S4x256x4096, .f32⟩
  | .hbm, ⟨7, _⟩ => ⟨S4x1024x4096, .f32⟩
  | .hbm, ⟨8, _⟩ => ⟨S4x4096x1024, .f32⟩
  | .hbm, ⟨9, _⟩ => ⟨S_, .f32⟩
  | .hbm, ⟨10, _⟩ => ⟨S4096x4096, .f32⟩
  | .hbm, ⟨11, _⟩ => ⟨S1x256x4096, .f32⟩
  | .hbm, ⟨12, _⟩ => ⟨S256x4096, .f32⟩
  | .hbm, ⟨13, _⟩ => ⟨S4096x4096, .f32⟩
  | .hbm, ⟨14, _⟩ => ⟨S1x1x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S1x4096x1024, .f32⟩
  | .hbm, ⟨27, _⟩ => ⟨S4096x1024, .f32⟩
  | .hbm, ⟨28, _⟩ => ⟨S1x1024x4096, .f32⟩
  | .hbm, ⟨29, _⟩ => ⟨S1024x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S1x256x4096, .f32⟩
  | .hbm, ⟨34, _⟩ => ⟨S256x4096, .f32⟩
  | .hbm, ⟨35, _⟩ => ⟨S4096x4096, .f32⟩
  | .hbm, ⟨36, _⟩ => ⟨S1x1x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S1x4096x1024, .f32⟩
  | .hbm, ⟨49, _⟩ => ⟨S4096x1024, .f32⟩
  | .hbm, ⟨50, _⟩ => ⟨S1x1024x4096, .f32⟩
  | .hbm, ⟨51, _⟩ => ⟨S1024x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S1x256x4096, .f32⟩
  | .hbm, ⟨56, _⟩ => ⟨S256x4096, .f32⟩
  | .hbm, ⟨57, _⟩ => ⟨S4096x4096, .f32⟩
  | .hbm, ⟨58, _⟩ => ⟨S1x1x4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S1x4096x1024, .f32⟩
  | .hbm, ⟨71, _⟩ => ⟨S4096x1024, .f32⟩
  | .hbm, ⟨72, _⟩ => ⟨S1x1024x4096, .f32⟩
  | .hbm, ⟨73, _⟩ => ⟨S1024x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S1x256x4096, .f32⟩
  | .hbm, ⟨78, _⟩ => ⟨S256x4096, .f32⟩
  | .hbm, ⟨79, _⟩ => ⟨S4096x4096, .f32⟩
  | .hbm, ⟨80, _⟩ => ⟨S1x1x4096, .f32⟩
  | .hbm, ⟨81, _⟩ => ⟨S1x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S1x4096x1024, .f32⟩
  | .hbm, ⟨93, _⟩ => ⟨S4096x1024, .f32⟩
  | .hbm, ⟨94, _⟩ => ⟨S1x1024x4096, .f32⟩
  | .hbm, ⟨95, _⟩ => ⟨S1024x4096, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S4096x4096, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩

abbrev nD : Nat := 1
abbrev τ : Topo := Topo.v7x

variable {F : FTy → Type} [FloatOps F]
-- ==== AttnFwd.lean ====
abbrev S4096x10752 : Shape := ⟨2, ![4096, 10752]⟩
abbrev S256x2048 : Shape := ⟨2, ![256, 2048]⟩
abbrev S4096x1024 : Shape := ⟨2, ![4096, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x10752, .f32⟩
  | .hbm, ⟨1, _⟩ => ⟨S256x2048, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x1024, .bf16⟩
  | .local _ .vmem, ⟨6, _⟩ => ⟨S256x1024, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x10752 : Shape := ⟨2, ![4096, 10752]⟩
abbrev S256x2048 : Shape := ⟨2, ![256, 2048]⟩
abbrev S4096x1024 : Shape := ⟨2, ![4096, 1024]⟩
abbrev S256x1024 : Shape := ⟨2, ![256, 1024]⟩
abbrev S256x4x256 : Shape := ⟨3, ![256, 4, 256]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S256x2048, .f32⟩
  | .hbm, ⟨2, _⟩ => ⟨S4096x1024, .f32⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S256x4x256, .f32⟩
  | .hbm, ⟨7, _⟩ => ⟨S256x4x256, .f32⟩
  | .hbm, ⟨8, _⟩ => ⟨S4096x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x256x4096, .f32⟩
  | .hbm, ⟨25, _⟩ => ⟨S4096x4x256, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== GluBwd.lean ====
abbrev S4096x2048 : Shape := ⟨2, ![4096, 2048]⟩
abbrev S4096x10752 : Shape := ⟨2, ![4096, 10752]⟩
abbrev S4096x1024 : Shape := ⟨2, ![4096, 1024]⟩
abbrev S1x2048 : Shape := ⟨2, ![1, 2048]⟩
abbrev S256x2048 : Shape := ⟨2, ![256, 2048]⟩
abbrev S256x1024 : Shape := ⟨2, ![256, 1024]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x10752, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GluBwdRefIdeal.lean ====
abbrev S4096x2048 : Shape := ⟨2, ![4096, 2048]⟩
abbrev S4096x10752 : Shape := ⟨2, ![4096, 10752]⟩
abbrev S4096x1024 : Shape := ⟨2, ![4096, 1024]⟩
abbrev S_ : Shape := ⟨0, ![]⟩
abbrev S1x2048 : Shape := ⟨2, ![1, 2048]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x10752, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x2048, .f32⟩
  | .hbm, ⟨43, _⟩ => ⟨S_, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .bf16⟩
  | .hbm, ⟨51, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v13_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v13_1 : Ref sig .tc := ⟨.hbm, 30, rfl⟩
abbrev main_v13_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== NormBwd.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MemNormBwd.lean ====
abbrev S256x4096 : Shape := ⟨2, ![256, 4096]⟩
abbrev S4096 : Shape := ⟨1, ![4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S1x4096, .f32⟩
  | .hbm, ⟨4, _⟩ => ⟨S256x4096, .f32⟩
  | .hbm, ⟨5, _⟩ => ⟨S1x4096, .f32⟩
  | .local _ .vmem, ⟨0, _⟩ => ⟨S256x4096, .f32⟩
  | .local _ .vmem, ⟨1, _⟩ => ⟨S1x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormBwdRefIdeal.lean ====
abbrev S256x4096 : Shape := ⟨2, ![256, 4096]⟩
abbrev S4096 : Shape := ⟨1, ![4096]⟩
abbrev S1x4096 : Shape := ⟨2, ![1, 4096]⟩
abbrev S_ : Shape := ⟨0, ![]⟩
abbrev S256 : Shape := ⟨1, ![256]⟩
abbrev S256x1 : Shape := ⟨2, ![256, 1]⟩

abbrev nBuf : Space → Nat
  | .hbm => 46
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S1x4096, .f32⟩
  | .hbm, ⟨4, _⟩ => ⟨S256x4096, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x4096, .f32⟩
  | .hbm, ⟨20, _⟩ => ⟨S256x4096, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S256x4096, .f32⟩
  | .hbm, ⟨34, _⟩ => ⟨S256x4096, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256x4096, .f32⟩
  | .hbm, ⟨42, _⟩ => ⟨S256x4096, .f32⟩
  | .hbm, ⟨43, _⟩ => ⟨S256x4096, .f32⟩
  | .hbm, ⟨44, _⟩ => ⟨S256x4096, .f32⟩
  | .hbm, ⟨45, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== LossHead.lean ====
abbrev S4096x4096 : Shape := ⟨2, ![4096, 4096]⟩
abbrev S4096 : Shape := ⟨1, ![4096]⟩
abbrev S1x4096 : Shape := ⟨2, ![1, 4096]⟩
abbrev S1x128 : Shape := ⟨2, ![1, 128]⟩
abbrev S256x4096 : Shape := ⟨2, ![256, 4096]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S1x128, .f32⟩
  | .hbm, ⟨5, _⟩ => ⟨S4096x4096, .f32⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S1x128, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== DnConvBwd.lean ====
abbrev S4096x10752 : Shape := ⟨2, ![4096, 10752]⟩
abbrev S8x3072 : Shape := ⟨2, ![8, 3072]⟩
abbrev S4096x3072 : Shape := ⟨2, ![4096, 3072]⟩
abbrev S1x3072 : Shape := ⟨2, ![1, 3072]⟩
abbrev S256x3072 : Shape := ⟨2, ![256, 3072]⟩
abbrev S264x3072 : Shape := ⟨2, ![264, 3072]⟩
abbrev S3072 : Shape := ⟨1, ![3072]⟩

abbrev nBuf : Space → Nat
  | .hbm => 6
  | .vmem => 13
  | .smem => 0
  | _ => 0

abbrev bufTy : (tb : Table) → Fin (tcTables nBuf tb) → BufTy
  | .hbm, ⟨0, _⟩ => ⟨S4096x10752, .f32⟩
  | .hbm, ⟨1, _⟩ => ⟨S8x3072, .f32⟩
  | .hbm, ⟨2, _⟩ => ⟨S4096x3072, .f32⟩
  | .hbm, ⟨3, _⟩ => ⟨S4096x3072, .bf16⟩
  | .hbm, ⟨4, _⟩ => ⟨S8x3072, .f32⟩
  | .hbm, ⟨5, _⟩ => ⟨S1x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S256x3072, .f32⟩
  | .local _ .vmem, ⟨6, _⟩ => ⟨S256x3072, .f32⟩
  | .local _ .vmem, ⟨7, _⟩ => ⟨S8x3072, .f32⟩
  | .local _ .vmem, ⟨8, _⟩ => ⟨S8x3072, .f32⟩
  | .local _ .vmem, ⟨9, _⟩ => ⟨S256x3072, .bf16⟩
  | .local _ .vmem, ⟨10, _⟩ => ⟨S256x3072, .bf16⟩
  | .local _ .vmem, ⟨11, _⟩ => ⟨S8x3072, .f32⟩
  | .local _ .vmem, ⟨12, _⟩ => ⟨S1x3072, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DnConvBwdRefIdeal.lean ====
abbrev S4096x10752 : Shape := ⟨2, ![4096, 10752]⟩
abbrev S8x3072 : Shape := ⟨2, ![8, 3072]⟩
abbrev S4096x3072 : Shape := ⟨2, ![4096, 3072]⟩
abbrev S_ : Shape := ⟨0, ![]⟩
abbrev S1x3072 : Shape := ⟨2, ![1, 3072]⟩
abbrev S3x3072 : Shape := ⟨2, ![3, 3072]⟩
abbrev S4099x3072 : Shape := ⟨2, ![4099, 3072]⟩
abbrev S3072 : Shape := ⟨1, ![3072]⟩

abbrev nBuf : Space → Nat
  | .hbm => 105
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S1x3072, .f32⟩
  | .hbm, ⟨6, _⟩ => ⟨S_, .f32⟩
  | .hbm, ⟨7, _⟩ => ⟨S3x3072, .f32⟩
  | .hbm, ⟨8, _⟩ => ⟨S4099x3072, .f32⟩
  | .hbm, ⟨9, _⟩ => ⟨S_, .f32⟩
  | .hbm, ⟨10, _⟩ => ⟨S3x3072, .f32⟩
  | .hbm, ⟨11, _⟩ => ⟨S4096x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S3072, .f32⟩
  | .hbm, ⟨43, _⟩ => ⟨S1x3072, .f32⟩
  | .hbm, ⟨44, _⟩ => ⟨S4096x3072, .f32⟩
  | .hbm, ⟨45, _⟩ => ⟨S_, .f32⟩
  | .hbm, ⟨46, _⟩ => ⟨S3072, .f32⟩
  | .hbm, ⟨47, _⟩ => ⟨S1x3072, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S_, .f32⟩
  | .hbm, ⟨54, _⟩ => ⟨S8x3072, .f32⟩
  | .hbm, ⟨55, _⟩ => ⟨S_, .f32⟩
  | .hbm, ⟨56, _⟩ => ⟨S4099x3072, .f32⟩
  | .hbm, ⟨57, _⟩ => ⟨S4096x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S4096x3072, .f32⟩
  | .hbm, ⟨62, _⟩ => ⟨S4096x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S8x3072, .f32⟩
  | .hbm, ⟨68, _⟩ => ⟨S8x3072, .f32⟩
  | .hbm, ⟨69, _⟩ => ⟨S_, .f32⟩
  | .hbm, ⟨70, _⟩ => ⟨S4099x3072, .f32⟩
  | .hbm, ⟨71, _⟩ => ⟨S4099x3072, .f32⟩
  | .hbm, ⟨72, _⟩ => ⟨S4096x3072, .f32⟩
  | .hbm, ⟨73, _⟩ => ⟨S_, .f32⟩
  | .hbm, ⟨74, _⟩ => ⟨S3072, .f32⟩
  | .hbm, ⟨75, _⟩ => ⟨S1x3072, .f32⟩
  | .hbm, ⟨76, _⟩ => ⟨S4096x3072, .f32⟩
  | .hbm, ⟨77, _⟩ => ⟨S4096x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S8x3072, .f32⟩
  | .hbm, ⟨83, _⟩ => ⟨S8x3072, .f32⟩
  | .hbm, ⟨84, _⟩ => ⟨S_, .f32⟩
  | .hbm, ⟨85, _⟩ => ⟨S4099x3072, .f32⟩
  | .hbm, ⟨86, _⟩ => ⟨S4099x3072, .f32⟩
  | .hbm, ⟨87, _⟩ => ⟨S4096x3072, .f32⟩
  | .hbm, ⟨88, _⟩ => ⟨S_, .f32⟩
  | .hbm, ⟨89, _⟩ => ⟨S3072, .f32⟩
  | .hbm, ⟨90, _⟩ => ⟨S1x3072, .f32⟩
  | .hbm, ⟨91, _⟩ => ⟨S4096x3072, .f32⟩
  | .hbm, ⟨92, _⟩ => ⟨S4096x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S8x3072, .f32⟩
  | .hbm, ⟨98, _⟩ => ⟨S8x3072, .f32⟩
  | .hbm, ⟨99, _⟩ => ⟨S_, .f32⟩
  | .hbm, ⟨100, _⟩ => ⟨S4099x3072, .f32⟩
  | .hbm, ⟨101, _⟩ => ⟨S4099x3072, .f32⟩
  | .hbm, ⟨102, _⟩ => ⟨S3x3072, .f32⟩
  | .hbm, ⟨103, _⟩ => ⟨S4096x3072, .f32⟩
  | .hbm, ⟨104, _⟩ => ⟨S4096x3072, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== LruConvBwd.lean ====
abbrev S4096x10752 : Shape := ⟨2, ![4096, 10752]⟩
abbrev S8x1024 : Shape := ⟨2, ![8, 1024]⟩
abbrev S4096x1024 : Shape := ⟨2, ![4096, 1024]⟩
abbrev S1x1024 : Shape := ⟨2, ![1, 1024]⟩
abbrev S256x1024 : Shape := ⟨2, ![256, 1024]⟩
abbrev S264x1024 : Shape := ⟨2, ![264, 1024]⟩
abbrev S1024 : Shape := ⟨1, ![1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x10752, .f32⟩
  | .hbm, ⟨1, _⟩ => ⟨S8x1024, .f32⟩
  | .hbm, ⟨2, _⟩ => ⟨S4096x1024, .f32⟩
  | .hbm, ⟨3, _⟩ => ⟨S4096x1024, .bf16⟩
  | .hbm, ⟨4, _⟩ => ⟨S8x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | .local _ .vmem, ⟨8, _⟩ => ⟨S8x1024, .f32⟩
  | .local _ .vmem, ⟨9, _⟩ => ⟨S256x1024, .bf16⟩
  | .local _ .vmem, ⟨10, _⟩ => ⟨S256x1024, .bf16⟩
  | .local _ .vmem, ⟨11, _⟩ => ⟨S8x1024, .f32⟩
  | .local _ .vmem, ⟨12, _⟩ => ⟨S1x1024, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LruConvBwdRefIdeal.lean ====
abbrev S4096x10752 : Shape := ⟨2, ![4096, 10752]⟩
abbrev S8x1024 : Shape := ⟨2, ![8, 1024]⟩
abbrev S4096x1024 : Shape := ⟨2, ![4096, 1024]⟩
abbrev S_ : Shape := ⟨0, ![]⟩
abbrev S1x1024 : Shape := ⟨2, ![1, 1024]⟩
abbrev S3x1024 : Shape := ⟨2, ![3, 1024]⟩
abbrev S4099x1024 : Shape := ⟨2, ![4099, 1024]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S8x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S3x1024, .f32⟩
  | .hbm, ⟨8, _⟩ => ⟨S4099x1024, .f32⟩
  | .hbm, ⟨9, _⟩ => ⟨S_, .f32⟩
  | .hbm, ⟨10, _⟩ => ⟨S3x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S8x1024, .f32⟩
  | .hbm, ⟨55, _⟩ => ⟨S_, .f32⟩
  | .hbm, ⟨56, _⟩ => ⟨S4099x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S8x1024, .f32⟩
  | .hbm, ⟨68, _⟩ => ⟨S8x1024, .f32⟩
  | .hbm, ⟨69, _⟩ => ⟨S_, .f32⟩
  | .hbm, ⟨70, _⟩ => ⟨S4099x1024, .f32⟩
  | .hbm, ⟨71, _⟩ => ⟨S4099x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S8x1024, .f32⟩
  | .hbm, ⟨83, _⟩ => ⟨S8x1024, .f32⟩
  | .hbm, ⟨84, _⟩ => ⟨S_, .f32⟩
  | .hbm, ⟨85, _⟩ => ⟨S4099x1024, .f32⟩
  | .hbm, ⟨86, _⟩ => ⟨S4099x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S_, .f32⟩
  | .hbm, ⟨97, _⟩ => ⟨S8x1024, .f32⟩
  | .hbm, ⟨98, _⟩ => ⟨S8x1024, .f32⟩
  | .hbm, ⟨99, _⟩ => ⟨S_, .f32⟩
  | .hbm, ⟨100, _⟩ => ⟨S4099x1024, .f32⟩
  | .hbm, ⟨101, _⟩ => ⟨S4099x1024, .f32⟩
  | .hbm, ⟨102, _⟩ => ⟨S3x1024, .f32⟩
  | .hbm, ⟨103, _⟩ => ⟨S4096x1024, .f32⟩
  | .hbm, ⟨104, _⟩ => ⟨S4096x1024, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== GluFwd.lean ====
abbrev S4096x2048 : Shape := ⟨2, ![4096, 2048]⟩
abbrev S4096x10752 : Shape := ⟨2, ![4096, 10752]⟩
abbrev S4096x1024 : Shape := ⟨2, ![4096, 1024]⟩
abbrev S256x2048 : Shape := ⟨2, ![256, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x10752, .f32⟩
  | .hbm, ⟨2, _⟩ => ⟨S4096x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluFwdRefIdeal.lean ====
abbrev S4096x2048 : Shape := ⟨2, ![4096, 2048]⟩
abbrev S4096x10752 : Shape := ⟨2, ![4096, 10752]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x10752, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== NormFwd.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemNormFwd.lean ====
abbrev S256x4096 : Shape := ⟨2, ![256, 4096]⟩
abbrev S4096 : Shape := ⟨1, ![4096]⟩
abbrev S1x4096 : Shape := ⟨2, ![1, 4096]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x4096, .bf16⟩
  | .local _ .vmem, ⟨0, _⟩ => ⟨S256x4096, .f32⟩
  | .local _ .vmem, ⟨1, _⟩ => ⟨S1x4096, .f32⟩
  | .local _ .vmem, ⟨2, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormFwdRefIdeal.lean ====
abbrev S256x4096 : Shape := ⟨2, ![256, 4096]⟩
abbrev S4096 : Shape := ⟨1, ![4096]⟩
abbrev S_ : Shape := ⟨0, ![]⟩
abbrev S256 : Shape := ⟨1, ![256]⟩
abbrev S256x1 : Shape := ⟨2, ![256, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x4096, .f32⟩
  | .hbm, ⟨14, _⟩ => ⟨S256x4096, .f32⟩
  | .hbm, ⟨15, _⟩ => ⟨S1x4096, .f32⟩
  | .hbm, ⟨16, _⟩ => ⟨S256x4096, .f32⟩
  | .hbm, ⟨17, _⟩ => ⟨S256x4096, .f32⟩
  | .hbm, ⟨18, _⟩ => ⟨S256x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DnConvFwd.lean ====
abbrev S4096x10752 : Shape := ⟨2, ![4096, 10752]⟩
abbrev S8x3072 : Shape := ⟨2, ![8, 3072]⟩
abbrev S_ : Shape := ⟨0, ![]⟩
abbrev S1x3072 : Shape := ⟨2, ![1, 3072]⟩
abbrev S4096x3072 : Shape := ⟨2, ![4096, 3072]⟩
abbrev S256x3072 : Shape := ⟨2, ![256, 3072]⟩
abbrev S264x3072 : Shape := ⟨2, ![264, 3072]⟩

abbrev nBuf : Space → Nat
  | .hbm => 5
  | .vmem => 8
  | .smem => 0
  | _ => 0

abbrev bufTy : (tb : Table) → Fin (tcTables nBuf tb) → BufTy
  | .hbm, ⟨0, _⟩ => ⟨S4096x10752, .f32⟩
  | .hbm, ⟨1, _⟩ => ⟨S8x3072, .f32⟩
  | .hbm, ⟨2, _⟩ => ⟨S_, .f32⟩
  | .hbm, ⟨3, _⟩ => ⟨S1x3072, .f32⟩
  | .hbm, ⟨4, _⟩ => ⟨S4096x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S1x3072, .f32⟩
  | .local _ .vmem, ⟨6, _⟩ => ⟨S256x3072, .f32⟩
  | .local _ .vmem, ⟨7, _⟩ => ⟨S256x3072, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DnConvFwdRefIdeal.lean ====
abbrev S4096x10752 : Shape := ⟨2, ![4096, 10752]⟩
abbrev S8x3072 : Shape := ⟨2, ![8, 3072]⟩
abbrev S4096x3072 : Shape := ⟨2, ![4096, 3072]⟩
abbrev S_ : Shape := ⟨0, ![]⟩
abbrev S1x3072 : Shape := ⟨2, ![1, 3072]⟩
abbrev S3x3072 : Shape := ⟨2, ![3, 3072]⟩
abbrev S4099x3072 : Shape := ⟨2, ![4099, 3072]⟩
abbrev S3072 : Shape := ⟨1, ![3072]⟩

abbrev nBuf : Space → Nat
  | .hbm => 37
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S8x3072, .f32⟩
  | .hbm, ⟨2, _⟩ => ⟨S4096x3072, .f32⟩
  | .hbm, ⟨3, _⟩ => ⟨S_, .f32⟩
  | .hbm, ⟨4, _⟩ => ⟨S1x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== LruConvFwd.lean ====
abbrev S4096x10752 : Shape := ⟨2, ![4096, 10752]⟩
abbrev S8x1024 : Shape := ⟨2, ![8, 1024]⟩
abbrev S1x1024 : Shape := ⟨2, ![1, 1024]⟩
abbrev S4096x1024 : Shape := ⟨2, ![4096, 1024]⟩
abbrev S256x1024 : Shape := ⟨2, ![256, 1024]⟩
abbrev S264x1024 : Shape := ⟨2, ![264, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x10752, .f32⟩
  | .hbm, ⟨1, _⟩ => ⟨S8x1024, .f32⟩
  | .hbm, ⟨2, _⟩ => ⟨S1x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LruConvFwdRefIdeal.lean ====
abbrev S4096x10752 : Shape := ⟨2, ![4096, 10752]⟩
abbrev S8x1024 : Shape := ⟨2, ![8, 1024]⟩
abbrev S1x1024 : Shape := ⟨2, ![1, 1024]⟩
abbrev S4096x1024 : Shape := ⟨2, ![4096, 1024]⟩
abbrev S_ : Shape := ⟨0, ![]⟩
abbrev S3x1024 : Shape := ⟨2, ![3, 1024]⟩
abbrev S4099x1024 : Shape := ⟨2, ![4099, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S8x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== AdamWIn.lean ====
abbrev S8192x2628 : Shape := ⟨2, ![8192, 2628]⟩
abbrev S128x2628 : Shape := ⟨2, ![128, 2628]⟩

abbrev nBuf : Space → Nat
  | .hbm => 7
  | .vmem => 14
  | .smem => 0
  | _ => 0

abbrev bufTy : (tb : Table) → Fin (tcTables nBuf tb) → BufTy
  | .hbm, ⟨0, _⟩ => ⟨S8192x2628, .f32⟩
  | .hbm, ⟨1, _⟩ => ⟨S8192x2628, .f32⟩
  | .hbm, ⟨2, _⟩ => ⟨S8192x2628, .f32⟩
  | .hbm, ⟨3, _⟩ => ⟨S8192x2628, .f32⟩
  | .hbm, ⟨4, _⟩ => ⟨S8192x2628, .f32⟩
  | .hbm, ⟨5, _⟩ => ⟨S8192x2628, .f32⟩
  | .hbm, ⟨6, _⟩ => ⟨S8192x2628, .f32⟩
  | .local _ .vmem, ⟨0, _⟩ => ⟨S128x2628, .f32⟩
  | .local _ .vmem, ⟨1, _⟩ => ⟨S128x2628, .f32⟩
  | .local _ .vmem, ⟨2, _⟩ => ⟨S128x2628, .f32⟩
  | .local _ .vmem, ⟨3, _⟩ => ⟨S128x2628, .f32⟩
  | .local _ .vmem, ⟨4, _⟩ => ⟨S128x2628, .f32⟩
  | .local _ .vmem, ⟨5, _⟩ => ⟨S128x2628, .f32⟩
  | .local _ .vmem, ⟨6, _⟩ => ⟨S128x2628, .f32⟩
  | .local _ .vmem, ⟨7, _⟩ => ⟨S128x2628, .f32⟩
  | .local _ .vmem, ⟨8, _⟩ => ⟨S128x2628, .f32⟩
  | .local _ .vmem, ⟨9, _⟩ => ⟨S128x2628, .f32⟩
  | .local _ .vmem, ⟨10, _⟩ => ⟨S128x2628, .f32⟩
  | .local _ .vmem, ⟨11, _⟩ => ⟨S128x2628, .f32⟩
  | .local _ .vmem, ⟨12, _⟩ => ⟨S128x2628, .f32⟩
  | .local _ .vmem, ⟨13, _⟩ => ⟨S128x2628, .f32⟩
  | _, _ => ⟨S8192x2628, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2628 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2628 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2628 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2628 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2628 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2628 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2628 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S8192x2628 : Shape := ⟨2, ![8192, 2628]⟩
abbrev S128x2628 : Shape := ⟨2, ![128, 2628]⟩

abbrev nBuf : Space → Nat
  | .hbm => 7
  | .vmem => 14
  | .smem => 0
  | _ => 0

abbrev bufTy : (tb : Table) → Fin (tcTables nBuf tb) → BufTy
  | .hbm, ⟨0, _⟩ => ⟨S8192x2628, .f32⟩
  | .hbm, ⟨1, _⟩ => ⟨S8192x2628, .f32⟩
  | .hbm, ⟨2, _⟩ => ⟨S8192x2628, .f32⟩
  | .hbm, ⟨3, _⟩ => ⟨S8192x2628, .f32⟩
  | .hbm, ⟨4, _⟩ => ⟨S8192x2628, .f32⟩
  | .hbm, ⟨5, _⟩ => ⟨S8192x2628, .f32⟩
  | .hbm, ⟨6, _⟩ => ⟨S8192x2628, .f32⟩
  | .local _ .vmem, ⟨0, _⟩ => ⟨S128x2628, .f32⟩
  | .local _ .vmem, ⟨1, _⟩ => ⟨S128x2628, .f32⟩
  | .local _ .vmem, ⟨2, _⟩ => ⟨S128x2628, .f32⟩
  | .local _ .vmem, ⟨3, _⟩ => ⟨S128x2628, .f32⟩
  | .local _ .vmem, ⟨4, _⟩ => ⟨S128x2628, .f32⟩
  | .local _ .vmem, ⟨5, _⟩ => ⟨S128x2628, .f32⟩
  | .local _ .vmem, ⟨6, _⟩ => ⟨S128x2628, .f32⟩
  | .local _ .vmem, ⟨7, _⟩ => ⟨S128x2628, .f32⟩
  | .local _ .vmem, ⟨8, _⟩ => ⟨S128x2628, .f32⟩
  | .local _ .vmem, ⟨9, _⟩ => ⟨S128x2628, .f32⟩
  | .local _ .vmem, ⟨10, _⟩ => ⟨S128x2628, .f32⟩
  | .local _ .vmem, ⟨11, _⟩ => ⟨S128x2628, .f32⟩
  | .local _ .vmem, ⟨12, _⟩ => ⟨S128x2628, .f32⟩
  | .local _ .vmem, ⟨13, _⟩ => ⟨S128x2628, .f32⟩
  | _, _ => ⟨S8192x2628, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2628 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2628 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2628 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2628 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2628 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2628 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2628 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S8192x2628 : Shape := ⟨2, ![8192, 2628]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2628, .f32⟩
  | .hbm, ⟨1, _⟩ => ⟨S8192x2628, .f32⟩
  | .hbm, ⟨2, _⟩ => ⟨S8192x2628, .f32⟩
  | .hbm, ⟨3, _⟩ => ⟨S8192x2628, .f32⟩
  | .hbm, ⟨4, _⟩ => ⟨S_, .f32⟩
  | .hbm, ⟨5, _⟩ => ⟨S8192x2628, .f32⟩
  | .hbm, ⟨6, _⟩ => ⟨S8192x2628, .f32⟩
  | .hbm, ⟨7, _⟩ => ⟨S_, .f32⟩
  | .hbm, ⟨8, _⟩ => ⟨S8192x2628, .f32⟩
  | .hbm, ⟨9, _⟩ => ⟨S8192x2628, .f32⟩
  | .hbm, ⟨10, _⟩ => ⟨S8192x2628, .f32⟩
  | .hbm, ⟨11, _⟩ => ⟨S_, .f32⟩
  | .hbm, ⟨12, _⟩ => ⟨S8192x2628, .f32⟩
  | .hbm, ⟨13, _⟩ => ⟨S8192x2628, .f32⟩
  | .hbm, ⟨14, _⟩ => ⟨S8192x2628, .f32⟩
  | .hbm, ⟨15, _⟩ => ⟨S_, .f32⟩
  | .hbm, ⟨16, _⟩ => ⟨S8192x2628, .f32⟩
  | .hbm, ⟨17, _⟩ => ⟨S8192x2628, .f32⟩
  | .hbm, ⟨18, _⟩ => ⟨S8192x2628, .f32⟩
  | .hbm, ⟨19, _⟩ => ⟨S_, .f32⟩
  | .hbm, ⟨20, _⟩ => ⟨S8192x2628, .f32⟩
  | .hbm, ⟨21, _⟩ => ⟨S8192x2628, .f32⟩
  | .hbm, ⟨22, _⟩ => ⟨S_, .f32⟩
  | .hbm, ⟨23, _⟩ => ⟨S8192x2628, .f32⟩
  | .hbm, ⟨24, _⟩ => ⟨S8192x2628, .f32⟩
  | .hbm, ⟨25, _⟩ => ⟨S8192x2628, .f32⟩
  | .hbm, ⟨26, _⟩ => ⟨S_, .f32⟩
  | .hbm, ⟨27, _⟩ => ⟨S8192x2628, .f32⟩
  | .hbm, ⟨28, _⟩ => ⟨S8192x2628, .f32⟩
  | .hbm, ⟨29, _⟩ => ⟨S8192x2628, .f32⟩
  | .hbm, ⟨30, _⟩ => ⟨S_, .f32⟩
  | .hbm, ⟨31, _⟩ => ⟨S8192x2628, .f32⟩
  | .hbm, ⟨32, _⟩ => ⟨S8192x2628, .f32⟩
  | .hbm, ⟨33, _⟩ => ⟨S8192x2628, .f32⟩
  | .hbm, ⟨34, _⟩ => ⟨S_, .f32⟩
  | .hbm, ⟨35, _⟩ => ⟨S8192x2628, .f32⟩
  | .hbm, ⟨36, _⟩ => ⟨S8192x2628, .f32⟩
  | _, _ => ⟨S8192x2628, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWGlu.lean ====
abbrev S2048x512 : Shape := ⟨2, ![2048, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGluIdeal.lean ====
abbrev S2048x512 : Shape := ⟨2, ![2048, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGluRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWKv.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWKvIdeal.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWKvRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWGate.lean ====
abbrev S2048x1024 : Shape := ⟨2, ![2048, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGateIdeal.lean ====
abbrev S2048x1024 : Shape := ⟨2, ![2048, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGateRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWBranch.lean ====
abbrev S8192x1024 : Shape := ⟨2, ![8192, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWBranchIdeal.lean ====
abbrev S8192x1024 : Shape := ⟨2, ![8192, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWBranchRefIdeal.lean ====
abbrev S8192x1024 : Shape := ⟨2, ![8192, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S2048x4096 : Shape := ⟨2, ![2048, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S2048x4096 : Shape := ⟨2, ![2048, 4096]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S2048x4096 : Shape := ⟨2, ![2048, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1096x1024 : Shape := ⟨2, ![1096, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1096x1024, .f32⟩
  | .hbm, ⟨1, _⟩ => ⟨S1096x1024, .f32⟩
  | .hbm, ⟨2, _⟩ => ⟨S1096x1024, .f32⟩
  | .hbm, ⟨3, _⟩ => ⟨S1096x1024, .f32⟩
  | .hbm, ⟨4, _⟩ => ⟨S1096x1024, .f32⟩
  | .hbm, ⟨5, _⟩ => ⟨S1096x1024, .f32⟩
  | .hbm, ⟨6, _⟩ => ⟨S1096x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S1096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![137], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1096x1024 : Shape := ⟨2, ![1096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1096x1024, .f32⟩
  | .hbm, ⟨1, _⟩ => ⟨S1096x1024, .f32⟩
  | .hbm, ⟨2, _⟩ => ⟨S1096x1024, .f32⟩
  | .hbm, ⟨3, _⟩ => ⟨S1096x1024, .f32⟩
  | .hbm, ⟨4, _⟩ => ⟨S_, .f32⟩
  | .hbm, ⟨5, _⟩ => ⟨S1096x1024, .f32⟩
  | .hbm, ⟨6, _⟩ => ⟨S1096x1024, .f32⟩
  | .hbm, ⟨7, _⟩ => ⟨S_, .f32⟩
  | .hbm, ⟨8, _⟩ => ⟨S1096x1024, .f32⟩
  | .hbm, ⟨9, _⟩ => ⟨S1096x1024, .f32⟩
  | .hbm, ⟨10, _⟩ => ⟨S1096x1024, .f32⟩
  | .hbm, ⟨11, _⟩ => ⟨S_, .f32⟩
  | .hbm, ⟨12, _⟩ => ⟨S1096x1024, .f32⟩
  | .hbm, ⟨13, _⟩ => ⟨S1096x1024, .f32⟩
  | .hbm, ⟨14, _⟩ => ⟨S1096x1024, .f32⟩
  | .hbm, ⟨15, _⟩ => ⟨S_, .f32⟩
  | .hbm, ⟨16, _⟩ => ⟨S1096x1024, .f32⟩
  | .hbm, ⟨17, _⟩ => ⟨S1096x1024, .f32⟩
  | .hbm, ⟨18, _⟩ => ⟨S1096x1024, .f32⟩
  | .hbm, ⟨19, _⟩ => ⟨S_, .f32⟩
  | .hbm, ⟨20, _⟩ => ⟨S1096x1024, .f32⟩
  | .hbm, ⟨21, _⟩ => ⟨S1096x1024, .f32⟩
  | .hbm, ⟨22, _⟩ => ⟨S_, .f32⟩
  | .hbm, ⟨23, _⟩ => ⟨S1096x1024, .f32⟩
  | .hbm, ⟨24, _⟩ => ⟨S1096x1024, .f32⟩
  | .hbm, ⟨25, _⟩ => ⟨S1096x1024, .f32⟩
  | .hbm, ⟨26, _⟩ => ⟨S_, .f32⟩
  | .hbm, ⟨27, _⟩ => ⟨S1096x1024, .f32⟩
  | .hbm, ⟨28, _⟩ => ⟨S1096x1024, .f32⟩
  | .hbm, ⟨29, _⟩ => ⟨S1096x1024, .f32⟩
  | .hbm, ⟨30, _⟩ => ⟨S_, .f32⟩
  | .hbm, ⟨31, _⟩ => ⟨S1096x1024, .f32⟩
  | .hbm, ⟨32, _⟩ => ⟨S1096x1024, .f32⟩
  | .hbm, ⟨33, _⟩ => ⟨S1096x1024, .f32⟩
  | .hbm, ⟨34, _⟩ => ⟨S_, .f32⟩
  | .hbm, ⟨35, _⟩ => ⟨S1096x1024, .f32⟩
  | .hbm, ⟨36, _⟩ => ⟨S1096x1024, .f32⟩
  | _, _ => ⟨S1096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumPair.lean ====
abbrev S1280x1024 : Shape := ⟨2, ![1280, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1280x1024, .f32⟩
  | .hbm, ⟨1, _⟩ => ⟨S1280x1024, .f32⟩
  | .hbm, ⟨2, _⟩ => ⟨S1280x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumPairRefIdeal.lean ====
abbrev S1280x1024 : Shape := ⟨2, ![1280, 1024]⟩
abbrev S1x1280x1024 : Shape := ⟨3, ![1, 1280, 1024]⟩
abbrev S2x1280x1024 : Shape := ⟨3, ![2, 1280, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1280x1024, .f32⟩
  | .hbm, ⟨1, _⟩ => ⟨S1280x1024, .f32⟩
  | .hbm, ⟨2, _⟩ => ⟨S1x1280x1024, .f32⟩
  | .hbm, ⟨3, _⟩ => ⟨S1x1280x1024, .f32⟩
  | .hbm, ⟨4, _⟩ => ⟨S2x1280x1024, .f32⟩
  | .hbm, ⟨5, _⟩ => ⟨S_, .f32⟩
  | .hbm, ⟨6, _⟩ => ⟨S1280x1024, .f32⟩
  | _, _ => ⟨S1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SumChips.lean ====
abbrev S4x1280x1024 : Shape := ⟨3, ![4, 1280, 1024]⟩
abbrev S1280x1024 : Shape := ⟨2, ![1280, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1280x1024, .f32⟩
  | .hbm, ⟨1, _⟩ => ⟨S1280x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsRefIdeal.lean ====
abbrev S4x1280x1024 : Shape := ⟨3, ![4, 1280, 1024]⟩
abbrev S_ : Shape := ⟨0, ![]⟩
abbrev S1280x1024 : Shape := ⟨2, ![1280, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1280x1024, .f32⟩
  | .hbm, ⟨1, _⟩ => ⟨S_, .f32⟩
  | .hbm, ⟨2, _⟩ => ⟨S1280x1024, .f32⟩
  | _, _ => ⟨S4x1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.AttnMath.lean ====
/- One row of one head of the memory attention and its gradient, as functions of extended reals. -/
module

public import Idealize.ShloMosaic.Lib.Pointwise

@[expose] public section

set_option maxRecDepth 16384

noncomputable section

namespace Cert.Attn

open Idealize.ShloMosaic

/-- The factor `256 ^ (-1/2)` on the scores, the value of its float word. -/
def scale : EReal := Ideal.ofBits .f32 0x3D800000#32

/-- The start of a row maximum. -/
def bottom : EReal := Ideal.ofBits .f32 0xFF800000#32

/-- The scaled score of a query row against memory row `m`. -/
def score (q : Fin 256 → EReal) (k : Fin 256 → Fin 256 → EReal) (m : Fin 256) : EReal :=
  (∑ d : Fin 256, q d * k m d) * scale

/-- The exponential of a score less the largest score of the row. -/
def expo (q : Fin 256 → EReal) (k : Fin 256 → Fin 256 → EReal) (m : Fin 256) : EReal :=
  Ideal.exp (score q k m - Finset.univ.fold max bottom fun l : Fin 256 => score q k l)

/-- The sum of a row's exponentials. -/
def mass (q : Fin 256 → EReal) (k : Fin 256 → Fin 256 → EReal) : EReal := ∑ m : Fin 256, expo q k m

/-- The attention weight of memory row `m`. -/
def weight (q : Fin 256 → EReal) (k : Fin 256 → Fin 256 → EReal) (m : Fin 256) : EReal :=
  Ideal.div (expo q k m) (mass q k)

/-- One over the square of the row's sum. -/
def invSq (q : Fin 256 → EReal) (k : Fin 256 → Fin 256 → EReal) : EReal :=
  Ideal.div 1 (mass q k * mass q k)

/-- The head's output at column `d`. -/
def mix (q : Fin 256 → EReal) (k v : Fin 256 → Fin 256 → EReal) (d : Fin 256) : EReal :=
  ∑ m : Fin 256, weight q k m * v m d

/-- The gradient reaching the weight of memory row `m`. -/
def dWeight (v : Fin 256 → Fin 256 → EReal) (g : Fin 256 → EReal) (m : Fin 256) : EReal :=
  ∑ d : Fin 256, g d * v m d

/-- The gradient reaching the unscaled score of memory row `m`. -/
def dScore (q : Fin 256 → EReal) (k v : Fin 256 → Fin 256 → EReal) (g : Fin 256 → EReal) (m : Fin 256) : EReal :=
  (Ideal.div (dWeight v g m) (mass q k)
    + (0 - ∑ l : Fin 256, dWeight v g l * invSq q k * expo q k l)) * expo q k m * scale

/-- The gradient reaching the query row at column `d`. -/
def dQuery (q : Fin 256 → EReal) (k v : Fin 256 → Fin 256 → EReal) (g : Fin 256 → EReal) (d : Fin 256) : EReal :=
  ∑ m : Fin 256, dScore q k v g m * k m d

/-- The logistic function. -/
def sigm (z : EReal) : EReal := Ideal.div 1 (1 + Ideal.exp (0 - z))

/-- The gradient reaching the gate's pre-activation `z`, from the head's output `o` and the cotangent `g`, as the
    derivative of `z · sigm z` taken term by term. -/
def dGate (o g z : EReal) : EReal :=
  o * g * sigm z
    + (0 - (0 - z * (o * g) * Ideal.div 1 ((1 + Ideal.exp (0 - z)) * (1 + Ideal.exp (0 - z)))) * Ideal.exp (0 - z))

/-- The slope of the logistic function, written with the exponential. -/
theorem slope (z : EReal) :
    Ideal.div 1 ((1 + Ideal.exp (0 - z)) * (1 + Ideal.exp (0 - z))) * Ideal.exp (0 - z) = sigm z * (1 - sigm z) := by
  unfold sigm
  rw [zero_sub]
  induction z using EReal.rec with
  | bot =>
    have h : (1 : EReal) + ⊤ = ⊤ := EReal.add_top_of_ne_bot (by decide)
    simp [Ideal.div, h]
  | top =>
    have h : (1 : EReal) - 1 = 0 := EReal.sub_self (by decide) (by decide)
    simp [Ideal.div, h]
  | coe r =>
    have h : (1 : ℝ) + Real.exp (-r) ≠ 0 := by positivity
    rw [← EReal.coe_neg, Ideal.exp_coe, ← EReal.coe_one, ← EReal.coe_add, ← EReal.coe_mul, Ideal.div_coe (mul_ne_zero h h),
      Ideal.div_coe h, ← EReal.coe_mul, ← EReal.coe_mul, ← EReal.coe_mul, ← EReal.coe_sub, ← EReal.coe_mul]
    congr 1
    field_simp
    ring

/-- The gate's gradient with the logistic function's slope as `sigm · (1 - sigm)`. -/
theorem dGate_eq (o g z : EReal) : dGate o g z = o * g * sigm z + z * (o * g) * (sigm z * (1 - sigm z)) := by
  unfold dGate
  rw [← slope, zero_sub, zero_sub, EReal.neg_mul, neg_neg, mul_assoc (z * (o * g))]

/-! ## The arrays: projections `p`, memory's projection `kv`, cotangent `o` -/

/-- Head `h` of the query in row `s`. -/
def qAt (p : Fin 4096 → Fin 10752 → EReal) (s : Fin 4096) (h : Fin 4) (d : Fin 256) : EReal :=
  p s ⟨8192 + (h.val * 256 + d.val), by omega⟩

/-- Head `h` of the gate's pre-activation in row `s`. -/
def zAt (p : Fin 4096 → Fin 10752 → EReal) (s : Fin 4096) (h : Fin 4) (d : Fin 256) : EReal :=
  p s ⟨9216 + (h.val * 256 + d.val), by omega⟩

/-- Head `h` of the keys. -/
def kAt (kv : Fin 256 → Fin 2048 → EReal) (h : Fin 4) (m d : Fin 256) : EReal :=
  kv m ⟨h.val * 256 + d.val, by omega⟩

/-- Head `h` of the values. -/
def vAt (kv : Fin 256 → Fin 2048 → EReal) (h : Fin 4) (m d : Fin 256) : EReal :=
  kv m ⟨1024 + (h.val * 256 + d.val), by omega⟩

/-- Head `h` of the cotangent in row `s`. -/
def oAt (o : Fin 4096 → Fin 1024 → EReal) (s : Fin 4096) (h : Fin 4) (d : Fin 256) : EReal :=
  o s ⟨h.val * 256 + d.val, by omega⟩

/-- The gradient reaching head `h`'s attention output in row `s`. -/
def gAt (p : Fin 4096 → Fin 10752 → EReal) (o : Fin 4096 → Fin 1024 → EReal) (s : Fin 4096) (h : Fin 4) (d : Fin 256) :
    EReal := oAt o s h d * (zAt p s h d * sigm (zAt p s h d))

/-- The query's gradient in row `s`. -/
def gradQ (p : Fin 4096 → Fin 10752 → EReal) (kv : Fin 256 → Fin 2048 → EReal) (o : Fin 4096 → Fin 1024 → EReal)
    (s : Fin 4096) (h : Fin 4) (d : Fin 256) : EReal :=
  dQuery (qAt p s h) (kAt kv h) (vAt kv h) (gAt p o s h) d

/-- The gate's gradient in row `s`. -/
def gradZ (p : Fin 4096 → Fin 10752 → EReal) (kv : Fin 256 → Fin 2048 → EReal) (o : Fin 4096 → Fin 1024 → EReal)
    (s : Fin 4096) (h : Fin 4) (d : Fin 256) : EReal :=
  dGate (mix (qAt p s h) (kAt kv h) (vAt kv h) d) (oAt o s h d) (zAt p s h d)

/-- The share of row `s` in the keys' gradient. -/
def partK (p : Fin 4096 → Fin 10752 → EReal) (kv : Fin 256 → Fin 2048 → EReal) (o : Fin 4096 → Fin 1024 → EReal)
    (h : Fin 4) (m d : Fin 256) (s : Fin 4096) : EReal :=
  dScore (qAt p s h) (kAt kv h) (vAt kv h) (gAt p o s h) m * qAt p s h d

/-- The share of row `s` in the values' gradient. -/
def partV (p : Fin 4096 → Fin 10752 → EReal) (kv : Fin 256 → Fin 2048 → EReal) (o : Fin 4096 → Fin 1024 → EReal)
    (h : Fin 4) (m d : Fin 256) (s : Fin 4096) : EReal :=
  weight (qAt p s h) (kAt kv h) m * gAt p o s h d

/-- The query's gradient by row and column. -/
def fullQ (p : Fin 4096 → Fin 10752 → EReal) (kv : Fin 256 → Fin 2048 → EReal) (o : Fin 4096 → Fin 1024 → EReal)
    (s : Fin 4096) (j : Fin 1024) : EReal :=
  gradQ p kv o s ⟨j.val / 256, by omega⟩ ⟨j.val % 256, by omega⟩

/-- The gate's gradient by row and column. -/
def fullZ (p : Fin 4096 → Fin 10752 → EReal) (kv : Fin 256 → Fin 2048 → EReal) (o : Fin 4096 → Fin 1024 → EReal)
    (s : Fin 4096) (j : Fin 1024) : EReal :=
  gradZ p kv o s ⟨j.val / 256, by omega⟩ ⟨j.val % 256, by omega⟩

/-- The share of row `s` in entry `(m, c)` of the gradient of the memory's projection: keys in the first half of the
    columns, values in the second. -/
def partKV (p : Fin 4096 → Fin 10752 → EReal) (kv : Fin 256 → Fin 2048 → EReal) (o : Fin 4096 → Fin 1024 → EReal)
    (m : Fin 256) (c : Fin 2048) (s : Fin 4096) : EReal :=
  if h : c.val < 1024 then partK p kv o ⟨c.val / 256, by omega⟩ m ⟨c.val % 256, by omega⟩ s
  else partV p kv o ⟨(c.val - 1024) / 256, by omega⟩ m ⟨(c.val - 1024) % 256, by omega⟩ s

end Cert.Attn

end
-- ==== Proof.AttnStages.lean ====
/- What the stages of the attention gradient's body compute, one row and one head at a time. -/
module

public import proofs.«01_k».proof.Proof.Gen.AttnBwdIdeal.Skeleton
public import Idealize.ShloMosaic.Lib.Pipeline.ValueKit
public import proofs.«01_k».proof.Proof.AttnMath

@[expose] public section

set_option maxRecDepth 16384

noncomputable section

namespace Cert.AttnBwdIdeal.Stage

open Cert.AttnBwdIdeal Cert.AttnBwdIdeal.Gen Idealize.ShloMosaic Idealize.ShloMosaic.TcCoe Idealize.SL.Sem
open Cert.Attn

/-- Row `r` of head `h`'s columns of a block of rows. -/
def cols (x : FVec Ideal S256x1024 .f32) (r : Fin 256) (h : Fin 4) (d : Fin 256) : EReal :=
  x (ix2 r ⟨h.val * 256 + d.val, by omega⟩)

/-- Head `h`'s keys: the left half of the memory's projection. -/
def keys (x : FVec Ideal S256x2048 .f32) (h : Fin 4) (m d : Fin 256) : EReal :=
  x (ix2 m ⟨h.val * 256 + d.val, by omega⟩)

/-- Head `h`'s values: the right half. -/
def vals (x : FVec Ideal S256x2048 .f32) (h : Fin 4) (m d : Fin 256) : EReal :=
  x (ix2 m ⟨1024 + (h.val * 256 + d.val), by omega⟩)

/-- The gradient reaching head `h`'s row `r`: the cotangent times the gate's activation. -/
def gated (x1 x3 : FVec Ideal S256x1024 .f32) (r : Fin 256) (h : Fin 4) (d : Fin 256) : EReal :=
  cols x3 r h d * (cols x1 r h d * sigm (cols x1 r h d))

/-! ## Head 0 -/

theorem expo_0 (x0 : FVec Ideal S256x1024 .f32) (x2 : FVec Ideal S256x2048 .f32) (r m : Fin 256) :
    k0_pay8 (F := Ideal) x0 x2 (ix2 r m) = expo (cols x0 r 0) (keys x2 0) m := by
  pointwise [k0_pay8, k0_pay7, k0_pay5, expo, score, scale, bottom, cols, keys] <;> blk_point []

theorem mass_0 (x0 : FVec Ideal S256x1024 .f32) (x2 : FVec Ideal S256x2048 .f32) (r : Fin 256) (z : Fin 1) :
    k0_pay9 (F := Ideal) x0 x2 (ix2 r z) = mass (cols x0 r 0) (keys x2 0) := by
  pointwise [k0_pay9, mass, expo_0]

theorem weight_0 (x0 : FVec Ideal S256x1024 .f32) (x2 : FVec Ideal S256x2048 .f32) (r m : Fin 256) :
    k0_pay10 (F := Ideal) x0 x2 (ix2 r m) = weight (cols x0 r 0) (keys x2 0) m := by
  pointwise [k0_pay10, weight, expo_0, mass_0 x0 x2 r]

/-! ## Head 1 -/

theorem expo_1 (x0 : FVec Ideal S256x1024 .f32) (x2 : FVec Ideal S256x2048 .f32) (r m : Fin 256) :
    k0_pay16 (F := Ideal) x0 x2 (ix2 r m) = expo (cols x0 r 1) (keys x2 1) m := by
  pointwise [k0_pay16, k0_pay15, k0_pay13, expo, score, scale, bottom, cols, keys] <;> blk_point []

theorem mass_1 (x0 : FVec Ideal S256x1024 .f32) (x2 : FVec Ideal S256x2048 .f32) (r : Fin 256) (z : Fin 1) :
    k0_pay17 (F := Ideal) x0 x2 (ix2 r z) = mass (cols x0 r 1) (keys x2 1) := by
  pointwise [k0_pay17, mass, expo_1]

theorem weight_1 (x0 : FVec Ideal S256x1024 .f32) (x2 : FVec Ideal S256x2048 .f32) (r m : Fin 256) :
    k0_pay18 (F := Ideal) x0 x2 (ix2 r m) = weight (cols x0 r 1) (keys x2 1) m := by
  pointwise [k0_pay18, weight, expo_1, mass_1 x0 x2 r]

/-! ## Head 2 -/

theorem expo_2 (x0 : FVec Ideal S256x1024 .f32) (x2 : FVec Ideal S256x2048 .f32) (r m : Fin 256) :
    k0_pay24 (F := Ideal) x0 x2 (ix2 r m) = expo (cols x0 r 2) (keys x2 2) m := by
  pointwise [k0_pay24, k0_pay23, k0_pay21, expo, score, scale, bottom, cols, keys] <;> blk_point []

theorem mass_2 (x0 : FVec Ideal S256x1024 .f32) (x2 : FVec Ideal S256x2048 .f32) (r : Fin 256) (z : Fin 1) :
    k0_pay25 (F := Ideal) x0 x2 (ix2 r z) = mass (cols x0 r 2) (keys x2 2) := by
  pointwise [k0_pay25, mass, expo_2]

theorem weight_2 (x0 : FVec Ideal S256x1024 .f32) (x2 : FVec Ideal S256x2048 .f32) (r m : Fin 256) :
    k0_pay26 (F := Ideal) x0 x2 (ix2 r m) = weight (cols x0 r 2) (keys x2 2) m := by
  pointwise [k0_pay26, weight, expo_2, mass_2 x0 x2 r]

/-! ## Head 3 -/

theorem expo_3 (x0 : FVec Ideal S256x1024 .f32) (x2 : FVec Ideal S256x2048 .f32) (r m : Fin 256) :
    k0_pay32 (F := Ideal) x0 x2 (ix2 r m) = expo (cols x0 r 3) (keys x2 3) m := by
  pointwise [k0_pay32, k0_pay31, k0_pay29, expo, score, scale, bottom, cols, keys] <;> blk_point []

theorem mass_3 (x0 : FVec Ideal S256x1024 .f32) (x2 : FVec Ideal S256x2048 .f32) (r : Fin 256) (z : Fin 1) :
    k0_pay33 (F := Ideal) x0 x2 (ix2 r z) = mass (cols x0 r 3) (keys x2 3) := by
  pointwise [k0_pay33, mass, expo_3]

theorem weight_3 (x0 : FVec Ideal S256x1024 .f32) (x2 : FVec Ideal S256x2048 .f32) (r m : Fin 256) :
    k0_pay34 (F := Ideal) x0 x2 (ix2 r m) = weight (cols x0 r 3) (keys x2 3) m := by
  pointwise [k0_pay34, weight, expo_3, mass_3 x0 x2 r]

/-! ## The gradient of the scores -/

theorem gated_0 (x1 x3 : FVec Ideal S256x1024 .f32) (r d : Fin 256) :
    k0_pay41 (F := Ideal) x1 x3 (ix2 r d) = gated x1 x3 r 0 d := by
  pointwise [k0_pay41, k0_pay39, k0_pay38, k0_pay37, k0_pay36, gated, sigm, cols] <;> blk_point []

theorem gated_1 (x1 x3 : FVec Ideal S256x1024 .f32) (r d : Fin 256) :
    k0_pay42 (F := Ideal) x1 x3 (ix2 r d) = gated x1 x3 r 1 d := by
  pointwise [k0_pay42, k0_pay39, k0_pay38, k0_pay37, k0_pay36, gated, sigm, cols] <;> blk_point []

theorem gated_2 (x1 x3 : FVec Ideal S256x1024 .f32) (r d : Fin 256) :
    k0_pay43 (F := Ideal) x1 x3 (ix2 r d) = gated x1 x3 r 2 d := by
  pointwise [k0_pay43, k0_pay39, k0_pay38, k0_pay37, k0_pay36, gated, sigm, cols] <;> blk_point []

theorem gated_3 (x1 x3 : FVec Ideal S256x1024 .f32) (r d : Fin 256) :
    k0_pay44 (F := Ideal) x1 x3 (ix2 r d) = gated x1 x3 r 3 d := by
  pointwise [k0_pay44, k0_pay39, k0_pay38, k0_pay37, k0_pay36, gated, sigm, cols] <;> blk_point []

theorem dScore_0 (x0 x1 x3 : FVec Ideal S256x1024 .f32) (x2 : FVec Ideal S256x2048 .f32) (r m : Fin 256) :
    k0_pay64 (F := Ideal) (k0_pay6 x2) (k0_pay8 x0 x2) (k0_pay9 x0 x2) (k0_pay11 x0 x2) (k0_pay41 x1 x3) (ix2 r m)
      = dScore (cols x0 r 0) (keys x2 0) (vals x2 0) (gated x1 x3 r 0) m := by
  pointwise [k0_pay64, k0_pay6, k0_pay11, gated_0, expo_0, mass_0, dScore, dWeight, invSq, scale, vals] <;> simp only [Fin.sum_univ_one] <;> blk_point []

theorem dScore_1 (x0 x1 x3 : FVec Ideal S256x1024 .f32) (x2 : FVec Ideal S256x2048 .f32) (r m : Fin 256) :
    k0_pay58 (F := Ideal) (k0_pay14 x2) (k0_pay16 x0 x2) (k0_pay17 x0 x2) (k0_pay19 (k0_pay17 x0 x2)) (k0_pay42 x1 x3) (ix2 r m)
      = dScore (cols x0 r 1) (keys x2 1) (vals x2 1) (gated x1 x3 r 1) m := by
  pointwise [k0_pay58, k0_pay14, k0_pay19, gated_1, expo_1, mass_1, dScore, dWeight, invSq, scale, vals] <;> simp only [Fin.sum_univ_one] <;> blk_point []

theorem dScore_2 (x0 x1 x3 : FVec Ideal S256x1024 .f32) (x2 : FVec Ideal S256x2048 .f32) (r m : Fin 256) :
    k0_pay54 (F := Ideal) (k0_pay52 (k0_pay22 x2) (k0_pay24 x0 x2) (k0_pay25 x0 x2) (k0_pay27 x0 x2) (k0_pay43 x1 x3)) k0_pay53 (ix2 r m)
      = dScore (cols x0 r 2) (keys x2 2) (vals x2 2) (gated x1 x3 r 2) m := by
  pointwise [k0_pay54, k0_pay53, k0_pay52, k0_pay22, k0_pay27, gated_2, expo_2, mass_2, dScore, dWeight, invSq, scale, vals] <;> simp only [Fin.sum_univ_one] <;> blk_point []

theorem dWeight_3 (x1 x3 : FVec Ideal S256x1024 .f32) (x2 : FVec Ideal S256x2048 .f32) (r m : Fin 256) :
    k0_pay45 (F := Ideal) x1 (k0_pay30 x2) x3 (ix2 r m) = dWeight (vals x2 3) (gated x1 x3 r 3) m := by
  pointwise [k0_pay45, k0_pay30, gated_3, dWeight, vals] <;> blk_point []

theorem dScore_3 (x0 x1 x3 : FVec Ideal S256x1024 .f32) (x2 : FVec Ideal S256x2048 .f32) (r m : Fin 256) :
    k0_pay48 (F := Ideal) (k0_pay32 x0 x2) (k0_pay33 x0 x2) (k0_pay45 x1 (k0_pay30 x2) x3)
        (k0_pay47 x1 (k0_pay30 x2) (k0_pay32 x0 x2) (k0_pay35 x0 x2) (1 : EReal) x3)
        (0 : EReal) (ix2 r m)
      = dScore (cols x0 r 3) (keys x2 3) (vals x2 3) (gated x1 x3 r 3) m := by
  pointwise [k0_pay48, k0_pay47, k0_pay35, dWeight_3, expo_3, mass_3, dScore, invSq, scale] <;> simp only [Fin.sum_univ_one] <;> blk_point []

/-! ## What a point stores -/

/-- What a point writes of the query's gradient. -/
def dqTile (x0 x1 : FVec Ideal S256x1024 .f32) (x2 : FVec Ideal S256x2048 .f32) (x3 : FVec Ideal S256x1024 .f32) : FVec Ideal S256x1024 .bf16 :=
  k0_pay1
    (k0_pay61
      (k0_pay55 (k0_pay21 x2)
        (k0_pay49 (k0_pay29 x2) (k0_pay32 x0 x2) (k0_pay33 x0 x2) (k0_pay45 x1 (k0_pay30 x2) x3)
          (k0_pay47 x1 (k0_pay30 x2) (k0_pay32 x0 x2) (k0_pay35 x0 x2) (FloatOps.ofBits FTy.f32 1065353216#32) x3)
          (FloatOps.ofBits FTy.f32 0#32))
        (k0_pay52 (k0_pay22 x2) (k0_pay24 x0 x2) (k0_pay25 x0 x2) (k0_pay27 x0 x2) (k0_pay43 x1 x3))
        k0_pay53)
      (k0_pay59 (k0_pay13 x2) (k0_pay14 x2) (k0_pay16 x0 x2) (k0_pay17 x0 x2) (k0_pay19 (k0_pay17 x0 x2)) (k0_pay42 x1 x3)))
    (k0_pay66 (k0_pay5 x2) (k0_pay6 x2) (k0_pay8 x0 x2) (k0_pay9 x0 x2) (k0_pay11 x0 x2) (k0_pay41 x1 x3))

/-- What a point adds to the gradient of the memory's projection, over what was there. -/
def dkvTile (acc : FVec Ideal S256x2048 .f32) (x0 x1 : FVec Ideal S256x1024 .f32) (x2 : FVec Ideal S256x2048 .f32) (x3 : FVec Ideal S256x1024 .f32) : FVec Ideal S256x2048 .f32 :=
  k0_pay4
    (k0_pay62 (k0_pay15 x0)
      (k0_pay56 (k0_pay23 x0)
        (k0_pay50 (k0_pay31 x0) (k0_pay32 x0 x2) (k0_pay33 x0 x2) (k0_pay45 x1 (k0_pay30 x2) x3)
          (k0_pay46 x1 (k0_pay34 x0 x2) x3)
          (k0_pay47 x1 (k0_pay30 x2) (k0_pay32 x0 x2) (k0_pay35 x0 x2) (FloatOps.ofBits FTy.f32 1065353216#32) x3)
          (FloatOps.ofBits FTy.f32 0#32))
        (k0_pay51 (k0_pay26 x0 x2) (k0_pay43 x1 x3))
        (k0_pay52 (k0_pay22 x2) (k0_pay24 x0 x2) (k0_pay25 x0 x2) (k0_pay27 x0 x2) (k0_pay43 x1 x3))
        k0_pay53)
      (k0_pay57 (k0_pay18 x0 x2) (k0_pay42 x1 x3))
      (k0_pay60 (k0_pay14 x2) (k0_pay16 x0 x2) (k0_pay17 x0 x2) (k0_pay19 (k0_pay17 x0 x2)) (k0_pay42 x1 x3)))
    (k0_pay63 (k0_pay10 x0 x2) (k0_pay41 x1 x3))
    (k0_pay65 (k0_pay6 x2) (k0_pay7 x0) (k0_pay8 x0 x2) (k0_pay9 x0 x2) (k0_pay11 x0 x2) (k0_pay41 x1 x3))
    acc

/-- What a point writes of the gate's gradient. -/
def dzTile (x0 x1 : FVec Ideal S256x1024 .f32) (x2 : FVec Ideal S256x2048 .f32) (x3 : FVec Ideal S256x1024 .f32) : FVec Ideal S256x1024 .bf16 :=
  k0_pay2 (k0_pay40 x1 (k0_pay12 x0 x2) (k0_pay20 (k0_pay14 x2) (k0_pay18 x0 x2)) (k0_pay28 x0 x2) (k0_pay30 x2) (k0_pay34 x0 x2) x3)

theorem dq_0 (x0 x1 : FVec Ideal S256x1024 .f32) (x2 : FVec Ideal S256x2048 .f32) (x3 : FVec Ideal S256x1024 .f32) (r d : Fin 256) :
    dqTile x0 x1 x2 x3 (ix2 r ⟨((0 : Fin 4) : ℕ) * 256 + d.val, by omega⟩)
      = dQuery (cols x0 r 0) (keys x2 0) (vals x2 0) (gated x1 x3 r 0) d := by
  pointwise [dqTile, k0_pay1, k0_pay61, k0_pay55, k0_pay49, k0_pay59, k0_pay66, k0_pay5, k0_pay13, k0_pay21, k0_pay29, dQuery, dScore_0, dScore_1, dScore_2, dScore_3, keys]
  split_ifs <;> first | omega | (simp only [zero_add, add_zero] <;> blk_point [])

theorem dk_0 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨((0 : Fin 4) : ℕ) * 256 + d.val, by omega⟩)
      = acc (ix2 m ⟨((0 : Fin 4) : ℕ) * 256 + d.val, by omega⟩)
        + ∑ r : Fin 256, dScore (cols x0 r 0) (keys x2 0) (vals x2 0) (gated x1 x3 r 0) m * cols x0 r 0 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3, cols]
  split_ifs <;> first | omega | (simp only [zero_add, add_zero] <;> blk_point [])

theorem dv_0 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨1024 + (((0 : Fin 4) : ℕ) * 256 + d.val), by omega⟩)
      = acc (ix2 m ⟨1024 + (((0 : Fin 4) : ℕ) * 256 + d.val), by omega⟩)
        + ∑ r : Fin 256, weight (cols x0 r 0) (keys x2 0) m * gated x1 x3 r 0 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3]
  simp only [dif_neg (show ¬(1024 + d.val < 256) by omega),
    dif_neg (show ¬(1024 + d.val < 512) by omega),
    dif_neg (show ¬(1024 + d.val < 768) by omega),
    dif_neg (show ¬(1024 + d.val < 1024) by omega),
    dif_pos (show (1024 + d.val < 1280) by omega),
    dif_pos (show (1024 + d.val < 1536) by omega),
    dif_pos (show (1024 + d.val < 1792) by omega),
    zero_add, add_zero] <;> blk_point []

theorem dz_0 (x0 x1 : FVec Ideal S256x1024 .f32) (x2 : FVec Ideal S256x2048 .f32) (x3 : FVec Ideal S256x1024 .f32) (r d : Fin 256) :
    dzTile x0 x1 x2 x3 (ix2 r ⟨((0 : Fin 4) : ℕ) * 256 + d.val, by omega⟩)
      = dGate (mix (cols x0 r 0) (keys x2 0) (vals x2 0) d) (cols x3 r 0 d) (cols x1 r 0 d) := by
  pointwise [dzTile, k0_pay2, k0_pay40, k0_pay12, k0_pay20, k0_pay28, k0_pay36, k0_pay37, k0_pay38, k0_pay6, k0_pay14, k0_pay22, k0_pay30, weight_0, weight_1, weight_2, weight_3, dGate, sigm, mix, vals, cols] <;> (try split_ifs) <;> first | omega | blk_point []

theorem dq_1 (x0 x1 : FVec Ideal S256x1024 .f32) (x2 : FVec Ideal S256x2048 .f32) (x3 : FVec Ideal S256x1024 .f32) (r d : Fin 256) :
    dqTile x0 x1 x2 x3 (ix2 r ⟨((1 : Fin 4) : ℕ) * 256 + d.val, by omega⟩)
      = dQuery (cols x0 r 1) (keys x2 1) (vals x2 1) (gated x1 x3 r 1) d := by
  pointwise [dqTile, k0_pay1, k0_pay61, k0_pay55, k0_pay49, k0_pay59, k0_pay66, k0_pay5, k0_pay13, k0_pay21, k0_pay29, dQuery, dScore_0, dScore_1, dScore_2, dScore_3, keys]
  split_ifs <;> first | omega | (simp only [zero_add, add_zero] <;> blk_point [])

theorem dk_1 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨((1 : Fin 4) : ℕ) * 256 + d.val, by omega⟩)
      = acc (ix2 m ⟨((1 : Fin 4) : ℕ) * 256 + d.val, by omega⟩)
        + ∑ r : Fin 256, dScore (cols x0 r 1) (keys x2 1) (vals x2 1) (gated x1 x3 r 1) m * cols x0 r 1 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3, cols]
  split_ifs <;> first | omega | (simp only [zero_add, add_zero] <;> blk_point [])

theorem dv_1 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨1024 + (((1 : Fin 4) : ℕ) * 256 + d.val), by omega⟩)
      = acc (ix2 m ⟨1024 + (((1 : Fin 4) : ℕ) * 256 + d.val), by omega⟩)
        + ∑ r : Fin 256, weight (cols x0 r 1) (keys x2 1) m * gated x1 x3 r 1 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3]
  simp only [dif_neg (show ¬(1024 + (256 + d.val) < 256) by omega),
    dif_neg (show ¬(1024 + (256 + d.val) < 512) by omega),
    dif_neg (show ¬(1024 + (256 + d.val) < 768) by omega),
    dif_neg (show ¬(1024 + (256 + d.val) < 1024) by omega),
    dif_neg (show ¬(1024 + (256 + d.val) < 1280) by omega),
    dif_pos (show (1024 + (256 + d.val) < 1536) by omega),
    dif_pos (show (1024 + (256 + d.val) < 1792) by omega),
    zero_add, add_zero] <;> blk_point []
  all_goals exact congrArg _ (Fin.ext (by dsimp only; omega))

theorem dz_1 (x0 x1 : FVec Ideal S256x1024 .f32) (x2 : FVec Ideal S256x2048 .f32) (x3 : FVec Ideal S256x1024 .f32) (r d : Fin 256) :
    dzTile x0 x1 x2 x3 (ix2 r ⟨((1 : Fin 4) : ℕ) * 256 + d.val, by omega⟩)
      = dGate (mix (cols x0 r 1) (keys x2 1) (vals x2 1) d) (cols x3 r 1 d) (cols x1 r 1 d) := by
  pointwise [dzTile, k0_pay2, k0_pay40, k0_pay12, k0_pay20, k0_pay28, k0_pay36, k0_pay37, k0_pay38, k0_pay6, k0_pay14, k0_pay22, k0_pay30, weight_0, weight_1, weight_2, weight_3, dGate, sigm, mix, vals, cols] <;> (try split_ifs) <;> first | omega | blk_point []

theorem dq_2 (x0 x1 : FVec Ideal S256x1024 .f32) (x2 : FVec Ideal S256x2048 .f32) (x3 : FVec Ideal S256x1024 .f32) (r d : Fin 256) :
    dqTile x0 x1 x2 x3 (ix2 r ⟨((2 : Fin 4) : ℕ) * 256 + d.val, by omega⟩)
      = dQuery (cols x0 r 2) (keys x2 2) (vals x2 2) (gated x1 x3 r 2) d := by
  pointwise [dqTile, k0_pay1, k0_pay61, k0_pay55, k0_pay49, k0_pay59, k0_pay66, k0_pay5, k0_pay13, k0_pay21, k0_pay29, dQuery, dScore_0, dScore_1, dScore_2, dScore_3, keys]
  split_ifs <;> first | omega | (simp only [zero_add, add_zero] <;> blk_point [])

theorem dk_2 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨((2 : Fin 4) : ℕ) * 256 + d.val, by omega⟩)
      = acc (ix2 m ⟨((2 : Fin 4) : ℕ) * 256 + d.val, by omega⟩)
        + ∑ r : Fin 256, dScore (cols x0 r 2) (keys x2 2) (vals x2 2) (gated x1 x3 r 2) m * cols x0 r 2 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3, cols]
  split_ifs <;> first | omega | (simp only [zero_add, add_zero] <;> blk_point [])

theorem dv_2 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨1024 + (((2 : Fin 4) : ℕ) * 256 + d.val), by omega⟩)
      = acc (ix2 m ⟨1024 + (((2 : Fin 4) : ℕ) * 256 + d.val), by omega⟩)
        + ∑ r : Fin 256, weight (cols x0 r 2) (keys x2 2) m * gated x1 x3 r 2 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3]
  simp only [dif_neg (show ¬(1024 + (512 + d.val) < 256) by omega),
    dif_neg (show ¬(1024 + (512 + d.val) < 512) by omega),
    dif_neg (show ¬(1024 + (512 + d.val) < 768) by omega),
    dif_neg (show ¬(1024 + (512 + d.val) < 1024) by omega),
    dif_neg (show ¬(1024 + (512 + d.val) < 1280) by omega),
    dif_neg (show ¬(1024 + (512 + d.val) < 1536) by omega),
    dif_pos (show (1024 + (512 + d.val) < 1792) by omega),
    zero_add, add_zero] <;> blk_point []
  all_goals exact congrArg _ (Fin.ext (by dsimp only; omega))

theorem dz_2 (x0 x1 : FVec Ideal S256x1024 .f32) (x2 : FVec Ideal S256x2048 .f32) (x3 : FVec Ideal S256x1024 .f32) (r d : Fin 256) :
    dzTile x0 x1 x2 x3 (ix2 r ⟨((2 : Fin 4) : ℕ) * 256 + d.val, by omega⟩)
      = dGate (mix (cols x0 r 2) (keys x2 2) (vals x2 2) d) (cols x3 r 2 d) (cols x1 r 2 d) := by
  pointwise [dzTile, k0_pay2, k0_pay40, k0_pay12, k0_pay20, k0_pay28, k0_pay36, k0_pay37, k0_pay38, k0_pay6, k0_pay14, k0_pay22, k0_pay30, weight_0, weight_1, weight_2, weight_3, dGate, sigm, mix, vals, cols] <;> (try split_ifs) <;> first | omega | blk_point []

theorem dq_3 (x0 x1 : FVec Ideal S256x1024 .f32) (x2 : FVec Ideal S256x2048 .f32) (x3 : FVec Ideal S256x1024 .f32) (r d : Fin 256) :
    dqTile x0 x1 x2 x3 (ix2 r ⟨((3 : Fin 4) : ℕ) * 256 + d.val, by omega⟩)
      = dQuery (cols x0 r 3) (keys x2 3) (vals x2 3) (gated x1 x3 r 3) d := by
  pointwise [dqTile, k0_pay1, k0_pay61, k0_pay55, k0_pay49, k0_pay59, k0_pay66, k0_pay5, k0_pay13, k0_pay21, k0_pay29, dQuery, dScore_0, dScore_1, dScore_2, dScore_3, keys]
  split_ifs <;> first | omega | (simp only [zero_add, add_zero] <;> blk_point [])

theorem dk_3 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨((3 : Fin 4) : ℕ) * 256 + d.val, by omega⟩)
      = acc (ix2 m ⟨((3 : Fin 4) : ℕ) * 256 + d.val, by omega⟩)
        + ∑ r : Fin 256, dScore (cols x0 r 3) (keys x2 3) (vals x2 3) (gated x1 x3 r 3) m * cols x0 r 3 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3, cols]
  split_ifs <;> first | omega | (simp only [zero_add, add_zero] <;> blk_point [])

theorem dv_3 (acc : FVec Ideal S256x2048 .f32) (x0 x1 : FVec Ideal S256x1024 .f32) (x2 : FVec Ideal S256x2048 .f32) (x3 : FVec Ideal S256x1024 .f32) (m d : Fin 256) :
    dkvTile acc x0 x1 x2 x3 (ix2 m ⟨1024 + (((3 : Fin 4) : ℕ) * 256 + d.val), by omega⟩)
      = acc (ix2 m ⟨1024 + (((3 : Fin 4) : ℕ) * 256 + d.val), by omega⟩)
        + ∑ r : Fin 256, weight (cols x0 r 3) (keys x2 3) m * gated x1 x3 r 3 d := by
  pointwise [dkvTile, k0_pay4, k0_pay62, k0_pay56, k0_pay50, k0_pay51, k0_pay57, k0_pay60, k0_pay63, k0_pay65, k0_pay46, k0_pay7, k0_pay15, k0_pay23, k0_pay31, dScore_0, dScore_1, dScore_2, dScore_3, weight_0, weight_1, weight_2, weight_3, gated_0, gated_1, gated_2, gated_3]
  simp only [dif_neg (show ¬(1024 + (768 + d.val) < 256) by omega),
    dif_neg (show ¬(1024 + (768 + d.val) < 512) by omega),
    dif_neg (show ¬(1024 + (768 + d.val) < 768) by omega),
    dif_neg (show ¬(1024 + (768 + d.val) < 1024) by omega),
    dif_neg (show ¬(1024 + (768 + d.val) < 1280) by omega),
    dif_neg (show ¬(1024 + (768 + d.val) < 1536) by omega),
    dif_neg (show ¬(1024 + (768 + d.val) < 1792) by omega),
    zero_add, add_zero] <;> blk_point []
  all_goals exact congrArg _ (Fin.ext (by dsimp only; omega))

theorem dz_3 (x0 x1 : FVec Ideal S256x1024 .f32) (x2 : FVec Ideal S256x2048 .f32) (x3 : FVec Ideal S256x1024 .f32) (r d : Fin 256) :
    dzTile x0 x1 x2 x3 (ix2 r ⟨((3 : Fin 4) : ℕ) * 256 + d.val, by omega⟩)
      = dGate (mix (cols x0 r 3) (keys x2 3) (vals x2 3) d) (cols x3 r 3 d) (cols x1 r 3 d) := by
  pointwise [dzTile, k0_pay2, k0_pay40, k0_pay12, k0_pay20, k0_pay28, k0_pay36, k0_pay37, k0_pay38, k0_pay6, k0_pay14, k0_pay22, k0_pay30, weight_0, weight_1, weight_2, weight_3, dGate, sigm, mix, vals, cols] <;> (try split_ifs) <;> first | omega | blk_point []

theorem dq_at (x0 x1 : FVec Ideal S256x1024 .f32) (x2 : FVec Ideal S256x2048 .f32) (x3 : FVec Ideal S256x1024 .f32) (h : Fin 4) (r d : Fin 256) :
    dqTile x0 x1 x2 x3 (ix2 r ⟨h.val * 256 + d.val, by omega⟩)
      = dQuery (cols x0 r h) (keys x2 h) (vals x2 h) (gated x1 x3 r h) d :=
  match h with
  | 0 => dq_0 x0 x1 x2 x3 r d
  | 1 => dq_1 x0 x1 x2 x3 r d
  | 2 => dq_2 x0 x1 x2 x3 r d
  | 3 => dq_3 x0 x1 x2 x3 r d

theorem dz_at (x0 x1 : FVec Ideal S256x1024 .f32) (x2 : FVec Ideal S256x2048 .f32) (x3 : FVec Ideal S256x1024 .f32) (h : Fin 4) (r d : Fin 256) :
    dzTile x0 x1 x2 x3 (ix2 r ⟨h.val * 256 + d.val, by omega⟩)
      = dGate (mix (cols x0 r h) (keys x2 h) (vals x2 h) d) (cols x3 r h d) (cols x1 r h d) :=
  match h with
  | 0 => dz_0 x0 x1 x2 x3 r d
  | 1 => dz_1 x0 x1 x2 x3 r d
  | 2 => dz_2 x0 x1 x2 x3 r d
  | 3 => dz_3 x0 x1 x2 x3 r d

theorem dk_at (acc : FVec Ideal S256x2048 .f32) (x0 x1 : FVec Ideal S256x1024 .f32) (x2 : FVec Ideal S256x2048 .f32) (x3 : FVec Ideal S256x1024 .f32) (h : Fin 4) (r d : Fin 256) :
    dkvTile acc x0 x1 x2 x3 (ix2 r ⟨h.val * 256 + d.val, by omega⟩)
      = acc (ix2 r ⟨h.val * 256 + d.val, by omega⟩)
        + ∑ s : Fin 256, dScore (cols x0 s h) (keys x2 h) (vals x2 h) (gated x1 x3 s h) r * cols x0 s h d :=
  match h with
  | 0 => dk_0 acc x0 x1 x2 x3 r d
  | 1 => dk_1 acc x0 x1 x2 x3 r d
  | 2 => dk_2 acc x0 x1 x2 x3 r d
  | 3 => dk_3 acc x0 x1 x2 x3 r d

theorem dv_at (acc : FVec Ideal S256x2048 .f32) (x0 x1 : FVec Ideal S256x1024 .f32) (x2 : FVec Ideal S256x2048 .f32) (x3 : FVec Ideal S256x1024 .f32) (h : Fin 4) (r d : Fin 256) :
    dkvTile acc x0 x1 x2 x3 (ix2 r ⟨1024 + (h.val * 256 + d.val), by omega⟩)
      = acc (ix2 r ⟨1024 + (h.val * 256 + d.val), by omega⟩)
        + ∑ s : Fin 256, weight (cols x0 s h) (keys x2 h) r * gated x1 x3 s h d :=
  match h with
  | 0 => dv_0 acc x0 x1 x2 x3 r d
  | 1 => dv_1 acc x0 x1 x2 x3 r d
  | 2 => dv_2 acc x0 x1 x2 x3 r d
  | 3 => dv_3 acc x0 x1 x2 x3 r d

end Cert.AttnBwdIdeal.Stage

end
-- ==== Proof.AttnValue.lean ====
/- The arrays the attention gradient leaves, as functions of its arguments. -/
module

public import proofs.«01_k».proof.Proof.Gen.AttnBwdIdeal.Value
public import Idealize.ShloMosaic.Lib.Pipeline.ValueKit
public import proofs.«01_k».proof.Proof.AttnStages

@[expose] public section

set_option maxRecDepth 16384

noncomputable section

namespace Cert.AttnBwdIdeal.Stage

open Cert.AttnBwdIdeal Cert.AttnBwdIdeal.Gen Idealize.ShloMosaic Idealize.ShloMosaic.TcCoe Idealize.SL.Sem
open Idealize.ShloMosaic.Pipeline (Dat)
open Cert.Attn
variable (m : (ℓ : Loc nD τ sig) → Buf (Elt Ideal) ℓ)

/-- The three arguments by row and column. -/
def pOf (c : Dev nD) (s : Fin 4096) (j : Fin 10752) : EReal := (m ((c : Thread nD τ).loc main_arg0) : FVec Ideal S4096x10752 .f32) (ix2 s j)
def kvOf (c : Dev nD) (s : Fin 256) (j : Fin 2048) : EReal := (m ((c : Thread nD τ).loc main_arg1) : FVec Ideal S256x2048 .f32) (ix2 s j)
def oOf (c : Dev nD) (s : Fin 4096) (j : Fin 1024) : EReal := (m ((c : Thread nD τ).loc main_arg2) : FVec Ideal S4096x1024 .f32) (ix2 s j)

/-- The windows' block indices. -/
theorem idx : ∀ t : Fin cfg0.N, win0_0.index t = ![t.val, 8] ∧ win0_1.index t = ![t.val, 9] ∧ win0_2.index t = ![0, 0]
    ∧ win0_3.index t = ![t.val, 0] ∧ win0_4.index t = ![t.val, 0] ∧ win0_5.index t = ![t.val, 0] ∧ win0_6.index t = ![0, 0] ∧ t.val < 16 :=
  (by decide +kernel : ∀ t : Fin grid0.N, _)

/-- Row `r` of the block of point `t`. -/
def rowOf (t : Fin cfg0.N) (r : Fin 256) : Fin 4096 := ⟨t.val * 256 + r.val, by have := (idx t).2.2.2.2.2.2.2; omega⟩

theorem q_block (c : Dev nD) (t : Fin cfg0.N) (r : Fin 256) (h : Fin 4) :
    cols (X0_0 m c t) r h = qAt (pOf m c) (rowOf t r) h := by
  funext d
  unfold cols qAt pOf X0_0 Pipeline.Window.fill
  rw [dif_pos (moved0_0 t _)]
  blk_point [iblk, V, idx t, rowOf]

theorem z_block (c : Dev nD) (t : Fin cfg0.N) (r : Fin 256) (h : Fin 4) :
    cols (X0_1 m c t) r h = zAt (pOf m c) (rowOf t r) h := by
  funext d
  unfold cols zAt pOf X0_1 Pipeline.Window.fill
  rw [dif_pos (moved0_1 t _)]
  blk_point [iblk, V, idx t, rowOf]

theorem k_block (c : Dev nD) (t : Fin cfg0.N) (h : Fin 4) :
    keys (iblk m c 2 t) h = kAt (kvOf m c) h := by
  funext a d
  unfold keys kAt kvOf
  blk_point [iblk, V, idx t]

theorem v_block (c : Dev nD) (t : Fin cfg0.N) (h : Fin 4) :
    vals (iblk m c 2 t) h = vAt (kvOf m c) h := by
  funext a d
  unfold vals vAt kvOf
  blk_point [iblk, V, idx t]

theorem o_block (c : Dev nD) (t : Fin cfg0.N) (r : Fin 256) (h : Fin 4) :
    cols (iblk m c 3 t) r h = oAt (oOf m c) (rowOf t r) h := by
  funext d
  unfold cols oAt oOf
  blk_point [iblk, V, idx t, rowOf]

theorem g_block (c : Dev nD) (t : Fin cfg0.N) (r : Fin 256) (h : Fin 4) :
    gated (X0_1 m c t) (iblk m c 3 t) r h = gAt (pOf m c) (oOf m c) (rowOf t r) h := by
  funext d
  unfold gAt
  rw [← z_block, ← o_block]
  rfl

/-! ## What a point stores, by row and column of the arrays -/

theorem dq_point (c : Dev nD) (t : Fin cfg0.N) (r : Fin 256) (h : Fin 4) (d : Fin 256) :
    dqTile (X0_0 m c t) (X0_1 m c t) (iblk m c 2 t) (iblk m c 3 t) (ix2 r ⟨h.val * 256 + d.val, by omega⟩)
      = gradQ (pOf m c) (kvOf m c) (oOf m c) (rowOf t r) h d := by
  rw [dq_at, q_block, k_block, v_block, g_block]; rfl

theorem dz_point (c : Dev nD) (t : Fin cfg0.N) (r : Fin 256) (h : Fin 4) (d : Fin 256) :
    dzTile (X0_0 m c t) (X0_1 m c t) (iblk m c 2 t) (iblk m c 3 t) (ix2 r ⟨h.val * 256 + d.val, by omega⟩)
      = gradZ (pOf m c) (kvOf m c) (oOf m c) (rowOf t r) h d := by
  rw [dz_at, q_block, k_block, v_block, o_block, z_block]; rfl

theorem dkv_point (c : Dev nD) (t : Fin cfg0.N) (acc : FVec Ideal S256x2048 .f32) (a : Fin 256) (j : Fin 2048) :
    dkvTile acc (X0_0 m c t) (X0_1 m c t) (iblk m c 2 t) (iblk m c 3 t) (ix2 a j)
      = acc (ix2 a j) + ∑ r : Fin 256, partKV (pOf m c) (kvOf m c) (oOf m c) a j (rowOf t r) := by
  by_cases hj : j.val < 1024
  · have e : j = ⟨j.val / 256 * 256 + j.val % 256, by omega⟩ := Fin.ext (by dsimp only; omega)
    have k := dk_at acc (X0_0 m c t) (X0_1 m c t) (iblk m c 2 t) (iblk m c 3 t) ⟨j.val / 256, by omega⟩ a ⟨j.val % 256, by omega⟩
    rw [← e] at k
    rw [k]
    refine congrArg _ (Finset.sum_congr rfl fun r _ => ?_)
    rw [q_block, k_block, v_block, g_block, partKV, dif_pos hj]; rfl
  · have e : j = ⟨1024 + ((j.val - 1024) / 256 * 256 + (j.val - 1024) % 256), by omega⟩ := Fin.ext (by dsimp only; omega)
    have k := dv_at acc (X0_0 m c t) (X0_1 m c t) (iblk m c 2 t) (iblk m c 3 t) ⟨(j.val - 1024) / 256, by omega⟩ a ⟨(j.val - 1024) % 256, by omega⟩
    rw [← e] at k
    rw [k]
    refine congrArg _ (Finset.sum_congr rfl fun r _ => ?_)
    rw [q_block, k_block, g_block, partKV, dif_neg hj]; rfl

theorem dq_full (c : Dev nD) (t : Fin cfg0.N) (r : Fin 256) (j : Fin 1024) :
    dqTile (X0_0 m c t) (X0_1 m c t) (iblk m c 2 t) (iblk m c 3 t) (ix2 r j)
      = fullQ (pOf m c) (kvOf m c) (oOf m c) (rowOf t r) j := by
  have e : j = ⟨j.val / 256 * 256 + j.val % 256, by omega⟩ := Fin.ext (by dsimp only; omega)
  have k := dq_point m c t r ⟨j.val / 256, by omega⟩ ⟨j.val % 256, by omega⟩
  rw [← e] at k
  exact k

theorem dz_full (c : Dev nD) (t : Fin cfg0.N) (r : Fin 256) (j : Fin 1024) :
    dzTile (X0_0 m c t) (X0_1 m c t) (iblk m c 2 t) (iblk m c 3 t) (ix2 r j)
      = fullZ (pOf m c) (kvOf m c) (oOf m c) (rowOf t r) j := by
  have e : j = ⟨j.val / 256 * 256 + j.val % 256, by omega⟩ := Fin.ext (by dsimp only; omega)
  have k := dz_point m c t r ⟨j.val / 256, by omega⟩ ⟨j.val % 256, by omega⟩
  rw [← e] at k
  exact k

/-! ## The arrays at the end -/

theorem outs_q (c : Dev nD) (t : Fin cfg0.N) :
    (outsAt0 m c t.val t.isLt).1 = dqTile (X0_0 m c t) (X0_1 m c t) (iblk m c 2 t) (iblk m c 3 t) := by
  by_cases h : t.val % 16 = 0
  · rw [outsAt0_A m c t h]; frame_out; rfl
  · rw [outsAt0_B m c t h]; frame_out; rfl

theorem outs_z (c : Dev nD) (t : Fin cfg0.N) :
    (outsAt0 m c t.val t.isLt).2.1 = dzTile (X0_0 m c t) (X0_1 m c t) (iblk m c 2 t) (iblk m c 3 t) := by
  by_cases h : t.val % 16 = 0
  · rw [outsAt0_A m c t h]; frame_out; rfl
  · rw [outsAt0_B m c t h]; frame_out; rfl

theorem outs_kv_first (c : Dev nD) (t : Fin cfg0.N) (h : t.val % 16 = 0) :
    (outsAt0 m c t.val t.isLt).2.2 = dkvTile (fun _ => (0 : EReal)) (X0_0 m c t) (X0_1 m c t) (iblk m c 2 t) (iblk m c 3 t) := by
  rw [outsAt0_A m c t h]; frame_out
  have z : (k0_pay3 (F := Ideal)) = fun _ => (0 : EReal) := by funext i; pointwise [k0_pay3]
  rw [z]; rfl

theorem outs_kv_next (c : Dev nD) (t : Fin cfg0.N) (h : ¬ t.val % 16 = 0) :
    (outsAt0 m c t.val t.isLt).2.2 = dkvTile (outsAt0 m c (t.val - 1) (Nat.lt_of_le_of_lt (Nat.sub_le _ _) t.isLt)).2.2
      (X0_0 m c t) (X0_1 m c t) (iblk m c 2 t) (iblk m c 3 t) := by
  rw [outsAt0_B m c t h]; frame_out; rfl

/-- The query's gradient. -/
theorem final_q (c : Dev nD) : (dats m 0 c).arrAt 4 cfg0.N
    = fun i => fullQ (pOf m c) (kvOf m c) (oOf m c) (i 0) (i 1) := by
  refine (dats m 0 c).arrAt_eq_of_covers 4 _ (by decide +kernel) fun t _ y => ?_
  rw [after0_4, outs_q]
  idx_vars y
  blk_simp
  refine (dq_full m c t y0 y1).trans (congrArg₂ _ (Fin.ext ?_) (Fin.ext ?_)) <;> blk_simp [idx t, rowOf]

/-- The gate's gradient. -/
theorem final_z (c : Dev nD) : (dats m 0 c).arrAt 5 cfg0.N
    = fun i => fullZ (pOf m c) (kvOf m c) (oOf m c) (i 0) (i 1) := by
  refine (dats m 0 c).arrAt_eq_of_covers 5 _ (by decide +kernel) fun t _ y => ?_
  rw [after0_5, outs_z]
  idx_vars y
  blk_simp
  refine (dz_full m c t y0 y1).trans (congrArg₂ _ (Fin.ext ?_) (Fin.ext ?_)) <;> blk_simp [idx t, rowOf]

theorem outs_kv_last (c : Dev nD) (t : Fin cfg0.N) (ht : t.val + 1 = 16) (j : S256x2048.Idx) :
    (outsAt0 m c t.val t.isLt).2.2 j = ∑ s : Fin 4096, partKV (pOf m c) (kvOf m c) (oOf m c) (j 0) (j 1) s := by
  rw [Pipeline.eq_sum_fin_of_reset_step_apply_last (fun n h => (outsAt0 m c n h).2.2) 16 (fun _ => 0)
    (fun t j => ∑ r : Fin 256, partKV (pOf m c) (kvOf m c) (oOf m c) (j 0) (j 1) (rowOf t r))
    (fun t h j => by
      rw [outs_kv_first m c t h]; idx_vars j
      exact dkv_point m c t _ _ _)
    (fun t h j => by
      rw [outs_kv_next m c t h]; idx_vars j
      exact dkv_point m c t _ _ _) (le_of_eq N_0) t ht j, zero_add]
  exact Fin.sum_mul_add_congr (fun s k hl => rfl) (by rw [show cfg0.N = 16 from N_0])

/-- The gradient of the memory's projection, accumulated over the points. -/
theorem final_kv (c : Dev nD) : (dats m 0 c).arrAt 6 cfg0.N
    = fun i => ∑ s : Fin 4096, partKV (pOf m c) (kvOf m c) (oOf m c) (i 0) (i 1) s := by
  refine (dats m 0 c).arrAt_eq_of_covers 6 _ (by decide +kernel) fun t hf y => ?_
  have ht : t.val % 16 = 15 := (flush0_6 t).mp hf
  have hN := (idx t).2.2.2.2.2.2.2
  rw [after0_6]
  refine (outs_kv_last m c t (by omega) y).trans ?_
  idx_vars y
  blk_simp
  refine Finset.sum_congr rfl fun s _ => ?_
  refine congrArg₂ (fun a b => partKV (pOf m c) (kvOf m c) (oOf m c) a b s) (Fin.ext ?_) (Fin.ext ?_) <;> blk_simp [idx t]

end Cert.AttnBwdIdeal.Stage

end
-- ==== Proof.AttnRef.lean ====
/- The reference's results, as the same functions of the arguments. -/
module

public import proofs.«01_k».proof.Proof.Gen.AttnRefIdeal.Read
public import Idealize.ShloMosaic.Lib.Pointwise
public import Idealize.ShloMosaic.Lib.Pipeline.ValueKit
public import proofs.«01_k».proof.Proof.AttnMath

@[expose] public section

set_option maxRecDepth 16384

noncomputable section

namespace Cert.AttnRefIdeal.Stage

open Cert.AttnRefIdeal Cert.AttnRefIdeal.Read Idealize.ShloMosaic Idealize.ShloMosaic.TcCoe Idealize.SL.Sem
open Cert.Attn

/-- The arguments by row and column. -/
def pF (x0 : FVec Ideal S4096x10752 .f32) (s : Fin 4096) (j : Fin 10752) : EReal := x0 (ix2 s j)
def kvF (x1 : FVec Ideal S256x2048 .f32) (s : Fin 256) (j : Fin 2048) : EReal := x1 (ix2 s j)
def oF (x2 : FVec Ideal S4096x1024 .f32) (s : Fin 4096) (j : Fin 1024) : EReal := x2 (ix2 s j)

variable (x0 : FVec Ideal S4096x10752 .f32) (x1 : FVec Ideal S256x2048 .f32) (x2 : FVec Ideal S4096x1024 .f32)

theorem v6_at (s : Fin 4096) (h : Fin 4) (d : Fin 256) :
    val_main_v6 (F := Ideal) x0 (ix3 s h d) = qAt (pF x0) s h d := by
  unfold qAt pF
  pointwise [val_main_v6, val_main_v0]

theorem v4_at (a : Fin 256) (h : Fin 4) (d : Fin 256) :
    val_main_v4 (F := Ideal) x1 (ix3 a h d) = kAt (kvF x1) h a d := by
  unfold kAt kvF
  pointwise [val_main_v4, val_main_v2]

theorem v5_at (a : Fin 256) (h : Fin 4) (d : Fin 256) :
    val_main_v5 (F := Ideal) x1 (ix3 a h d) = vAt (kvF x1) h a d := by
  unfold vAt kvF
  pointwise [val_main_v5, val_main_v3]

theorem v9_at (h : Fin 4) (s : Fin 4096) (a : Fin 256) :
    val_main_v9 (F := Ideal) x0 x1 (ix3 h s a) = score (qAt (pF x0) s h) (kAt (kvF x1) h) a := by
  pointwise [val_main_v9, val_main_v7, val_main_v8, val_main_cst, v6_at, v4_at, score, scale]

theorem v19_at (h : Fin 4) (s : Fin 4096) (a : Fin 256) :
    val_main_v19 (F := Ideal) x0 x1 (ix3 h s a) = expo (qAt (pF x0) s h) (kAt (kvF x1) h) a := by
  pointwise [val_main_v19, val_main_v18, val_main_v17, val_main_v16, val_main_v10, val_main_cst_0, v9_at, expo, bottom]

theorem v20_at (h : Fin 4) (s : Fin 4096) :
    val_main_v20 (F := Ideal) x0 x1 (ix2 h s) = mass (qAt (pF x0) s h) (kAt (kvF x1) h) := by
  pointwise [val_main_v20, val_main_cst_2, v19_at, mass]

theorem v23_at (h : Fin 4) (s : Fin 4096) (a : Fin 256) :
    val_main_v23 (F := Ideal) x0 x1 (ix3 h s a) = weight (qAt (pF x0) s h) (kAt (kvF x1) h) a := by
  pointwise [val_main_v23, val_main_v22, val_main_v21, v20_at, v19_at, weight]

theorem v26_at (h : Fin 4) (s : Fin 4096) (z : Fin 1) :
    val_main_v26 (F := Ideal) x0 x1 (ix3 h s z) = invSq (qAt (pF x0) s h) (kAt (kvF x1) h) := by
  pointwise [val_main_v26, val_main_v25, val_main_v24, val_main_v21, val_main_cst_3, v20_at, invSq]

theorem v29_at (s : Fin 4096) (j : Fin 1024) :
    val_main_v29 (F := Ideal) x0 x1 (ix2 s j)
      = mix (qAt (pF x0) s ⟨j.val / 256, by omega⟩) (kAt (kvF x1) ⟨j.val / 256, by omega⟩) (vAt (kvF x1) ⟨j.val / 256, by omega⟩) ⟨j.val % 256, by omega⟩ := by
  pointwise [val_main_v29, val_main_v28, val_main_v27, v23_at, v5_at, mix]
  all_goals exact Finset.sum_congr rfl fun x _ => mul_comm _ _

theorem v30_at (s : Fin 4096) (j : Fin 1024) :
    val_main_v30_2 (F := Ideal) x0 (ix2 s j) = sigm (val_main_v1 (F := Ideal) x0 (ix2 s j)) := by
  pointwise [val_main_v30_2, val_main_call0_v4, val_main_call0_v3, val_main_call0_v2, val_main_call0_v1, val_main_call0_v0, val_main_call0_cst, val_main_call0_cst_0, sigm]
  all_goals rw [zero_sub]

theorem v1_at (s : Fin 4096) (h : Fin 4) (d : Fin 256) :
    val_main_v1 (F := Ideal) x0 (ix2 s ⟨h.val * 256 + d.val, by omega⟩) = zAt (pF x0) s h d := by
  unfold zAt pF
  pointwise [val_main_v1]

theorem v36_at (h : Fin 4) (d : Fin 256) (s : Fin 4096) :
    val_main_v36 (F := Ideal) x0 x2 (ix3 h d s) = gAt (pF x0) (oF x2) s h d := by
  unfold gAt oAt oF
  pointwise [val_main_v36, val_main_v35, val_main_v33, val_main_v30_0, v30_at, v1_at]

theorem v37_at (h : Fin 4) (s : Fin 4096) (a : Fin 256) :
    val_main_v37 (F := Ideal) x0 x1 x2 (ix3 h s a) = dWeight (vAt (kvF x1) h) (gAt (pF x0) (oF x2) s h) a := by
  pointwise [val_main_v37, v36_at, v5_at, dWeight]

theorem v53_at (h : Fin 4) (s : Fin 4096) (a : Fin 256) :
    val_main_v53 (F := Ideal) x0 x1 x2 (ix3 h s a)
      = dScore (qAt (pF x0) s h) (kAt (kvF x1) h) (vAt (kvF x1) h) (gAt (pF x0) (oF x2) s h) a := by
  pointwise [val_main_v53, val_main_v52, val_main_cst_6, val_main_v51, val_main_v50, val_main_v49, val_main_v48, val_main_cst_5,
    val_main_v47, val_main_v46, val_main_v45, val_main_v44, val_main_v43, val_main_cst_4, val_main_v42, val_main_v41, val_main_v40,
    val_main_v21, v20_at, v19_at, v26_at, v37_at, dScore, scale]
  all_goals rw [Fin.sum_univ_one, zero_sub]

theorem v38_at (h : Fin 4) (d a : Fin 256) :
    val_main_v38 (F := Ideal) x0 x1 x2 (ix3 h d a) = ∑ s : Fin 4096, partV (pF x0) (kvF x1) (oF x2) h a d s := by
  pointwise [val_main_v38, v36_at, v23_at, partV]
  all_goals exact Finset.sum_congr rfl fun x _ => mul_comm _ _

theorem v54_at (h : Fin 4) (a d : Fin 256) :
    val_main_v54 (F := Ideal) x0 x1 x2 (ix3 h a d) = ∑ s : Fin 4096, partK (pF x0) (kvF x1) (oF x2) h a d s := by
  pointwise [val_main_v54, v53_at, v6_at, partK]

/-- The query's gradient. -/
theorem q_at (s : Fin 4096) (j : Fin 1024) :
    val_main_v62 (F := Ideal) x0 x1 x2 (ix2 s j) = fullQ (pF x0) (kvF x1) (oF x2) s j := by
  pointwise [val_main_v62, val_main_v58, val_main_v57, val_main_v56, v53_at, v4_at, fullQ, gradQ, dQuery]

/-- The gate's gradient. -/
theorem z_at (s : Fin 4096) (j : Fin 1024) :
    val_main_v63 (F := Ideal) x0 x1 x2 (ix2 s j) = fullZ (pF x0) (kvF x1) (oF x2) s j := by
  have e : j = ⟨j.val / 256 * 256 + j.val % 256, by omega⟩ := Fin.ext (by dsimp only; omega)
  have k : val_main_v1 (F := Ideal) x0 (ix2 s j) = zAt (pF x0) s ⟨j.val / 256, by omega⟩ ⟨j.val % 256, by omega⟩ := by
    rw [← v1_at]; exact congrArg (fun j => val_main_v1 (F := Ideal) x0 (ix2 s j)) e
  have l : x2 (ix2 s j) = oAt (oF x2) s ⟨j.val / 256, by omega⟩ ⟨j.val % 256, by omega⟩ :=
    congrArg (fun j => x2 (ix2 s j)) e
  unfold fullZ gradZ
  rw [dGate_eq]
  pointwise [val_main_v63, val_main_v34, val_main_call1_v2, val_main_call1_v1, val_main_call1_v0, val_main_v32, val_main_v31, v29_at, val_main_v30_1, val_main_call0_v7, val_main_call0_v6, val_main_call0_cst_1, v30_at]
  all_goals rw [k, l]

/-- The gradient of the memory's projection. -/
theorem kv_at (a : Fin 256) (j : Fin 2048) :
    val_main_v61 (F := Ideal) x0 x1 x2 (ix2 a j) = ∑ s : Fin 4096, partKV (pF x0) (kvF x1) (oF x2) a j s := by
  by_cases hj : j.val < 1024
  · simp only [partKV, dif_pos hj]
    pointwise [val_main_v61, val_main_v60, val_main_v55, v54_at]
    all_goals exact dif_pos hj
  · simp only [partKV, dif_neg hj]
    pointwise [val_main_v61, val_main_v59, val_main_v39, v38_at]
    all_goals exact dif_neg hj

end Cert.AttnRefIdeal.Stage

end
-- ==== Proof.AttnClaim.lean ====
/- The attention gradient and the reference give the same three results. -/
module

public import proofs.«01_k».proof.Defs
public import proofs.«01_k».proof.Proof.Gen.AttnBwdIdeal
public import proofs.«01_k».proof.Proof.Gen.AttnRefIdeal
public import proofs.«01_k».proof.Proof.Gen.AttnRefIdeal.Run
public import proofs.«01_k».proof.Proof.AttnValue
public import proofs.«01_k».proof.Proof.AttnRef

@[expose] public section

noncomputable section

namespace Cert.AttnClaim

open Idealize.ShloMosaic Idealize.ShloMosaic.TcCoe Idealize.SL.Sem

theorem algebraic : Cert.algebraic_AttnBwdIdeal_AttnRefIdeal (hAttnBwdIdeal := Cert.AttnBwdIdeal.Gen.facts)
    (hAttnRefIdeal := Cert.AttnRefIdeal.Gen.facts) := by
  intro m g m' g' _ hag
  refine ⟨_, _, _, Cert.AttnBwdIdeal.Value.run_blocks m g,
    (θ_run _ _ _).mono (fun _ h c => ⟨(h c).1.trans ?_, (h c).2.1.trans ?_, (h c).2.2.1.trans ?_, (h c).2.2.2⟩)
      (Cert.AttnRefIdeal.Value.run m' g')⟩
  · rw [Cert.AttnBwdIdeal.Stage.final_q, Cert.AttnRefIdeal.Read.val_main_v62_eq, (hag c).1, (hag c).2.1, (hag c).2.2]
    funext i
    idx_vars i
    exact Cert.AttnRefIdeal.Stage.q_at _ _ _ _ _
  · rw [Cert.AttnBwdIdeal.Stage.final_z, Cert.AttnRefIdeal.Read.val_main_v63_eq, (hag c).1, (hag c).2.1, (hag c).2.2]
    funext i
    idx_vars i
    exact Cert.AttnRefIdeal.Stage.z_at _ _ _ _ _
  · rw [Cert.AttnBwdIdeal.Stage.final_kv, Cert.AttnRefIdeal.Read.val_main_v61_eq, (hag c).1, (hag c).2.1, (hag c).2.2]
    funext i
    idx_vars i
    exact Cert.AttnRefIdeal.Stage.kv_at _ _ _ _ _

end Cert.AttnClaim

end
-- ==== Proof.MergeMath.lean ====
/- The gates' gradient as sums over plain entries: what both the kernel and the reference are shown to compute. -/
module

public import Idealize.ShloMosaic.Lib.Pointwise

@[expose] public section

noncomputable section

namespace Cert.MergeMath

open Idealize.ShloMosaic

variable (g : Fin 4096 → Fin 256 → EReal) (w : Fin 4 → Fin 256 → Fin 4096 → EReal) (b : Fin 4 → Fin 4096 → EReal)
  (o : Fin 4 → Fin 4096 → Fin 1024 → EReal) (u : Fin 4 → Fin 1024 → Fin 4096 → EReal) (d : Fin 4096 → Fin 4096 → EReal)

/-- Branch `n`'s gate: the logistic function of the bottleneck's product with the gate's weight plus its bias. -/
def gate (n : Fin 4) (i j : Fin 4096) : EReal :=
  Ideal.div 1 (1 + Ideal.exp (0 - ((∑ k : Fin 256, g i k * w n k j) + b n j)))

/-- The gradient of branch `n`'s gate before its logistic function. -/
def slope (n : Fin 4) (i j : Fin 4096) : EReal :=
  d i j * (∑ k : Fin 1024, o n i k * u n k j) * gate g w b n i j * (1 - gate g w b n i j)

/-- The gradient of branch `n`'s projection. -/
def branch (n : Fin 4) (i j : Fin 4096) : EReal := d i j * gate g w b n i j

/-- The gradient of branch `n`'s bias. -/
def bias (n : Fin 4) (j : Fin 4096) : EReal := ∑ i : Fin 4096, slope g w b o u d n i j

end Cert.MergeMath

end
-- ==== Proof.MergeBody.lean ====
/- What the gate gradient's body stores, entry by entry, from the slices of the blocks that one branch reads. -/
module

public import proofs.«01_k».proof.Proof.Gen.MergeBwdIdeal.Value
public import proofs.«01_k».proof.Proof.Gen.MergeRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeBwdIdeal.Stage

open Cert.MergeBwdIdeal Cert.MergeBwdIdeal.Gen Idealize.ShloMosaic Idealize.ShloMosaic.TcCoe Idealize.SL.Sem

variable (g : FVec Ideal S512x256 .f32) (d : FVec Ideal S512x512 .bf16) (w : FVec Ideal S1x256x512 .bf16) (b : FVec Ideal S1x1x512 .f32)
  (o : FVec Ideal S1x512x1024 .bf16) (u : FVec Ideal S1x1024x512 .bf16)

/-- The gate of one branch: the logistic function of the bottleneck's product with the gate's weight plus its bias. -/
def gate (i j : Fin 512) : EReal :=
  Ideal.div 1 (1 + Ideal.exp (0 - ((∑ k : Fin 256, g (ix2 i k) * w (ix3 0 k j)) + b (ix3 0 0 j))))

/-- The gradient before the gate's logistic function: what comes in times the branch's projection times the slope. -/
def slope (i j : Fin 512) : EReal :=
  d (ix2 i j) * (∑ k : Fin 1024, o (ix3 0 i k) * u (ix3 0 k j)) * gate g w b i j * (1 - gate g w b i j)

theorem gate0 (i j : Fin 512) : (k0_pay5 (F := Ideal) g w b (ix2 i j) : EReal) = gate g w b i j := by
  unfold gate
  pointwise [k0_pay5]

theorem gate1 (i j : Fin 512) : (k0_pay11 (F := Ideal) g w b (ix2 i j) : EReal) = gate g w b i j := by
  unfold gate
  pointwise [k0_pay11]

theorem gate2 (i j : Fin 512) : (k0_pay18 (F := Ideal) (k0_pay16 g w) (k0_pay17 b) (ix2 i j) : EReal) = gate g w b i j := by
  unfold gate
  pointwise [k0_pay18, k0_pay16, k0_pay17]

theorem gate3 (i j : Fin 512) : (k0_pay24 (F := Ideal) g w b (ix2 i j) : EReal) = gate g w b i j := by
  unfold gate
  pointwise [k0_pay24]

theorem slope0 (i j : Fin 512) : (k0_pay6 (F := Ideal) g d w b o u (ix2 i j) : EReal) = slope g d w b o u i j := by
  unfold slope
  rw [← gate0]
  pointwise [k0_pay6, k0_pay3]

theorem slope1 (i j : Fin 512) :
    (k0_pay12 (F := Ideal) (k0_pay3 d) (k0_pay11 g w b) o u (ix2 i j) : EReal) = slope g d w b o u i j := by
  unfold slope
  rw [← gate1]
  pointwise [k0_pay12, k0_pay3]

theorem slope2 (i j : Fin 512) :
    (k0_pay19 (F := Ideal) (k0_pay3 d) (k0_pay16 g w) (k0_pay17 b) o u (ix2 i j) : EReal) = slope g d w b o u i j := by
  unfold slope
  rw [← gate2]
  pointwise [k0_pay19, k0_pay3]

theorem slope3 (i j : Fin 512) :
    (k0_pay25 (F := Ideal) g (k0_pay3 d) w b o u (ix2 i j) : EReal) = slope g d w b o u i j := by
  unfold slope
  rw [← gate3]
  pointwise [k0_pay25, k0_pay3]

theorem pre0 (x : S1x512x512.Idx) :
    (k0_pay8 (F := Ideal) (k0_pay7 g d w b o u) x : EReal) = slope g d w b o u (x 1) (x 2) := by
  idx_vars x
  refine Eq.trans ?_ (slope0 g d w b o u _ _)
  pointwise [k0_pay8, k0_pay7]

theorem pre1 (x : S1x512x512.Idx) :
    (k0_pay13 (F := Ideal) (k0_pay3 d) (k0_pay11 g w b) o u x : EReal) = slope g d w b o u (x 1) (x 2) := by
  idx_vars x
  refine Eq.trans ?_ (slope1 g d w b o u _ _)
  pointwise [k0_pay13]

theorem pre2 (x : S1x512x512.Idx) :
    (k0_pay20 (F := Ideal) (k0_pay3 d) (k0_pay16 g w) (k0_pay17 b) o u x : EReal) = slope g d w b o u (x 1) (x 2) := by
  idx_vars x
  refine Eq.trans ?_ (slope2 g d w b o u _ _)
  pointwise [k0_pay20]

theorem pre3 (x : S1x512x512.Idx) :
    (k0_pay26 (F := Ideal) g (k0_pay3 d) w b o u x : EReal) = slope g d w b o u (x 1) (x 2) := by
  idx_vars x
  refine Eq.trans ?_ (slope3 g d w b o u _ _)
  pointwise [k0_pay26]

theorem branch0 (x : S1x512x512.Idx) :
    (k0_pay9 (F := Ideal) (k0_pay3 d) (k0_pay5 g w b) x : EReal) = d (ix2 (x 1) (x 2)) * gate g w b (x 1) (x 2) := by
  idx_vars x
  refine Eq.trans ?_ (congrArg _ (gate0 g w b _ _))
  pointwise [k0_pay9, k0_pay3]

theorem branch1 (x : S1x512x512.Idx) :
    (k0_pay14 (F := Ideal) (k0_pay3 d) (k0_pay11 g w b) x : EReal) = d (ix2 (x 1) (x 2)) * gate g w b (x 1) (x 2) := by
  idx_vars x
  refine Eq.trans ?_ (congrArg _ (gate1 g w b _ _))
  pointwise [k0_pay14, k0_pay3]

theorem branch2 (x : S1x512x512.Idx) :
    (k0_pay21 (F := Ideal) (k0_pay3 d) (k0_pay16 g w) (k0_pay17 b) x : EReal)
      = d (ix2 (x 1) (x 2)) * gate g w b (x 1) (x 2) := by
  idx_vars x
  refine Eq.trans ?_ (congrArg _ (gate2 g w b _ _))
  pointwise [k0_pay21, k0_pay3]

theorem branch3 (x : S1x512x512.Idx) :
    (k0_pay1 (F := Ideal) (k0_pay27 g (k0_pay3 d) w b) x : EReal) = d (ix2 (x 1) (x 2)) * gate g w b (x 1) (x 2) := by
  idx_vars x
  refine Eq.trans ?_ (congrArg _ (gate3 g w b _ _))
  pointwise [k0_pay1, k0_pay27, k0_pay3]

variable (a : FVec Ideal S1x1x512 .f32)

theorem bias0 (x : S1x1x512.Idx) :
    (k0_pay10 (F := Ideal) (k0_pay6 g d w b o u) a x : EReal) = a x + ∑ i : Fin 512, slope g d w b o u i (x 2) := by
  idx_vars x
  obtain rfl : x0 = 0 := Subsingleton.elim _ _
  obtain rfl : x1 = 0 := Subsingleton.elim _ _
  refine Eq.trans ?_ (congrArg _ (Finset.sum_congr rfl fun i _ => slope0 g d w b o u i _))
  pointwise [k0_pay10]

theorem bias1 (x : S1x1x512.Idx) :
    (k0_pay15 (F := Ideal) (k0_pay3 d) (k0_pay11 g w b) o u a x : EReal)
      = a x + ∑ i : Fin 512, slope g d w b o u i (x 2) := by
  idx_vars x
  obtain rfl : x0 = 0 := Subsingleton.elim _ _
  obtain rfl : x1 = 0 := Subsingleton.elim _ _
  refine Eq.trans ?_ (congrArg _ (Finset.sum_congr rfl fun i _ => slope1 g d w b o u i _))
  pointwise [k0_pay15]

theorem bias2 (x : S1x1x512.Idx) :
    (k0_pay23 (F := Ideal) (k0_pay22 (k0_pay3 d) (k0_pay16 g w) (k0_pay17 b) o u a) x : EReal)
      = a x + ∑ i : Fin 512, slope g d w b o u i (x 2) := by
  idx_vars x
  obtain rfl : x0 = 0 := Subsingleton.elim _ _
  obtain rfl : x1 = 0 := Subsingleton.elim _ _
  refine Eq.trans ?_ (congrArg _ (Finset.sum_congr rfl fun i _ => slope2 g d w b o u i _))
  pointwise [k0_pay23, k0_pay22]

theorem bias3 (x : S1x1x512.Idx) :
    (k0_pay2 (F := Ideal) (k0_pay25 g (k0_pay3 d) w b o u) a x : EReal)
      = a x + ∑ i : Fin 512, slope g d w b o u i (x 2) := by
  idx_vars x
  obtain rfl : x0 = 0 := Subsingleton.elim _ _
  obtain rfl : x1 = 0 := Subsingleton.elim _ _
  refine Eq.trans ?_ (congrArg _ (Finset.sum_congr rfl fun i _ => slope3 g d w b o u i _))
  pointwise [k0_pay2]

theorem zero_block : k0_pay4 (F := Ideal) = fun _ => (0 : EReal) := by
  funext i; pointwise [k0_pay4]

end Cert.MergeBwdIdeal.Stage

end
-- ==== Proof.MergeValue.lean ====
/- The three arrays the gates' gradient leaves, as the sums of the module of mathematics over the arguments. -/
module

public import proofs.«01_k».proof.Proof.Gen.MergeBwdIdeal.Value
public import proofs.«01_k».proof.Proof.MergeMath
public import proofs.«01_k».proof.Proof.MergeBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeBwdIdeal.Stage

open Cert.MergeBwdIdeal Cert.MergeBwdIdeal.Gen Idealize.ShloMosaic Idealize.ShloMosaic.TcCoe Idealize.SL.Sem
open Idealize.ShloMosaic.Pipeline (Dat)
variable (m : (ℓ : Loc nD τ sig) → Buf (Elt Ideal) ℓ)

/-- The bottleneck's columns of the combined projection. -/
def lowCol (k : Fin 256) : Fin 10752 := ⟨10240 + k.val, by omega⟩

/-- The arguments, entry by entry. -/
def gAt (c : Dev nD) (i : Fin 4096) (k : Fin 256) : EReal := (m ((c : Thread nD τ).loc main_arg0) : FVec Ideal S4096x10752 .f32) (ix2 i (lowCol k))
def oAt (c : Dev nD) (n : Fin 4) (i : Fin 4096) (k : Fin 1024) : EReal := (m ((c : Thread nD τ).loc main_arg1) : FVec Ideal S4x4096x1024 .bf16) (ix3 n i k)
def wAt (c : Dev nD) (n : Fin 4) (k : Fin 256) (j : Fin 4096) : EReal := (m ((c : Thread nD τ).loc main_arg2) : FVec Ideal S4x256x4096 .bf16) (ix3 n k j)
def bAt (c : Dev nD) (n : Fin 4) (j : Fin 4096) : EReal := (m ((c : Thread nD τ).loc main_arg3) : FVec Ideal S4x1x4096 .f32) (ix3 n 0 j)
def uAt (c : Dev nD) (n : Fin 4) (k : Fin 1024) (j : Fin 4096) : EReal := (m ((c : Thread nD τ).loc main_arg4) : FVec Ideal S4x1024x4096 .bf16) (ix3 n k j)
def dAt (c : Dev nD) (i j : Fin 4096) : EReal := (m ((c : Thread nD τ).loc main_arg5) : FVec Ideal S4096x4096 .bf16) (ix2 i j)

/-- The three results at the arguments. -/
def gateAt (c : Dev nD) : Fin 4 → Fin 4096 → Fin 4096 → EReal := MergeMath.gate (gAt m c) (wAt m c) (bAt m c)
def slopeAt (c : Dev nD) : Fin 4 → Fin 4096 → Fin 4096 → EReal :=
  MergeMath.slope (gAt m c) (wAt m c) (bAt m c) (oAt m c) (uAt m c) (dAt m c)
def branchAt (c : Dev nD) : Fin 4 → Fin 4096 → Fin 4096 → EReal := MergeMath.branch (gAt m c) (wAt m c) (bAt m c) (dAt m c)

/-- The windows' block indices. -/
theorem idx : ∀ t : Fin cfg0.N, win0_0.index t = ![t.val % 8, 40] ∧ win0_1.index t = ![0, t.val % 8, 0]
    ∧ win0_2.index t = ![0, 0, t.val / 8] ∧ win0_3.index t = ![0, 0, t.val / 8] ∧ win0_4.index t = ![0, 0, t.val / 8]
    ∧ win0_5.index t = ![t.val % 8, t.val / 8] ∧ win0_6.index t = ![0, t.val % 8, t.val / 8]
    ∧ win0_7.index t = ![0, t.val % 8, t.val / 8] ∧ win0_8.index t = ![0, 0, t.val / 8] ∧ t.val < 64 :=
  (by decide +kernel : ∀ t : Fin grid0.N, _)

/-- The row and the column that an entry of a point's blocks is. -/
def rowOf (t : Fin cfg0.N) (i : Fin 512) : Fin 4096 := ⟨t.val % 8 * 512 + i.val, by omega⟩
def colOf (t : Fin cfg0.N) (j : Fin 512) : Fin 4096 :=
  ⟨t.val / 8 * 512 + j.val, by have := (idx t).2.2.2.2.2.2.2.2.2; omega⟩

theorem g_block (c : Dev nD) (t : Fin cfg0.N) (i : Fin 512) (k : Fin 256) :
    iblk m c 0 t (ix2 i k) = gAt m c (rowOf t i) k := by
  unfold gAt
  blk_point [iblk, V, idx t, rowOf, lowCol]

theorem d_block (c : Dev nD) (t : Fin cfg0.N) (i j : Fin 512) :
    iblk m c 5 t (ix2 i j) = dAt m c (rowOf t i) (colOf t j) := by
  unfold dAt
  blk_point [iblk, V, idx t, rowOf, colOf]

theorem o_block (c : Dev nD) (t : Fin cfg0.N) (n : Fin 4) (i : Fin 512) (k : Fin 1024) :
    iblk m c 1 t (ix3 n i k) = oAt m c n (rowOf t i) k := by
  unfold oAt
  blk_point [iblk, V, idx t, rowOf]

theorem w_block (c : Dev nD) (t : Fin cfg0.N) (n : Fin 4) (k : Fin 256) (j : Fin 512) :
    iblk m c 2 t (ix3 n k j) = wAt m c n k (colOf t j) := by
  unfold wAt
  blk_point [iblk, V, idx t, colOf]

theorem b_block (c : Dev nD) (t : Fin cfg0.N) (n : Fin 4) (j : Fin 512) :
    iblk m c 3 t (ix3 n 0 j) = bAt m c n (colOf t j) := by
  unfold bAt
  blk_point [iblk, V, idx t, colOf]

theorem u_block (c : Dev nD) (t : Fin cfg0.N) (n : Fin 4) (k : Fin 1024) (j : Fin 512) :
    iblk m c 4 t (ix3 n k j) = uAt m c n k (colOf t j) := by
  unfold uAt
  blk_point [iblk, V, idx t, colOf]

/-- One branch's slice of a block that holds all four. -/
theorem slice_at {p q : ℕ} {e : EltTy} (X : (⟨3, ![4, p, q]⟩ : Shape).Idx → Elt Ideal e) (n : Fin 4) (inb) (i : Fin p) (j : Fin q) :
    View.ld X (Rect.unit ![n.val, 0, 0] ![1, p, q] inb) (ix3 (0 : Fin 1) i j) = X (ix3 n i j) := by
  refine View.ld_unit_apply_of X _ _ inb _ _ fun a => ?_
  fin_cases a <;> simp [ix3]

end Cert.MergeBwdIdeal.Stage

end
-- ==== Proof.MergeBlocks.lean ====
/- What the gates' gradient leaves: its three blocks at every point, and from them its three arrays. -/
module

public import proofs.«01_k».proof.Proof.Gen.MergeBwdIdeal.Value
public import proofs.«01_k».proof.Proof.MergeValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeBwdIdeal.Stage

open Cert.MergeBwdIdeal Cert.MergeBwdIdeal.Gen Idealize.ShloMosaic Idealize.ShloMosaic.TcCoe Idealize.SL.Sem
open Idealize.ShloMosaic.Pipeline (Dat)
variable (m : (ℓ : Loc nD τ sig) → Buf (Elt Ideal) ℓ)

section
variable (c : Dev nD) (t : Fin cfg0.N) (n : Fin 4) (w : FVec Ideal S1x256x512 .bf16) (b : FVec Ideal S1x1x512 .f32)
  (o : FVec Ideal S1x512x1024 .bf16) (u : FVec Ideal S1x1024x512 .bf16)
  (hw : ∀ k j, w (ix3 0 k j) = iblk m c 2 t (ix3 n k j)) (hb : ∀ i j, b (ix3 0 i j) = iblk m c 3 t (ix3 n i j))
  (ho : ∀ i k, o (ix3 0 i k) = iblk m c 1 t (ix3 n i k)) (hu : ∀ k j, u (ix3 0 k j) = iblk m c 4 t (ix3 n k j))
include hw hb

/-- The gate and the two gradients of one branch at a point, from its slices of the blocks. -/
theorem gate_point (i j : Fin 512) : gate (iblk m c 0 t) w b i j = gateAt m c n (rowOf t i) (colOf t j) := by
  unfold gate gateAt MergeMath.gate
  refine congrArg (fun x => Ideal.div 1 (1 + Ideal.exp (0 - x))) (congrArg₂ _ (Finset.sum_congr rfl fun k _ => ?_) ?_)
  · rw [hw, g_block, w_block]
  · exact (hb 0 j).trans (b_block m c t n j)

theorem branch_point (d : FVec Ideal S512x512 .bf16) (hd : ∀ i j, d (ix2 i j) = dAt m c (rowOf t i) (colOf t j)) (i j : Fin 512) :
    d (ix2 i j) * gate (iblk m c 0 t) w b i j = branchAt m c n (rowOf t i) (colOf t j) := by
  rw [gate_point m c t n w b hw hb, hd]; rfl

include ho hu

theorem slope_point (i j : Fin 512) :
    slope (iblk m c 0 t) (iblk m c 5 t) w b o u i j = slopeAt m c n (rowOf t i) (colOf t j) := by
  unfold slope
  rw [gate_point m c t n w b hw hb, d_block]
  unfold slopeAt MergeMath.slope
  refine congrArg (fun x => _ * x * _ * _) (Finset.sum_congr rfl fun k _ => ?_)
  rw [ho, hu, o_block, u_block]

end

/-- An entry of one branch's part of a block is that entry of the block. -/
theorem at_piece (f : Fin 4 → Fin 512 → Fin 512 → EReal) (n : Fin 4) (y : S4x512x512.Idx) (x : S1x512x512.Idx)
    (h0 : (y 0).val = n.val) (h1 : (y 1).val = (x 1).val) (h2 : (y 2).val = (x 2).val) :
    f n (x 1) (x 2) = f (y 0) (y 1) (y 2) := by
  have e0 : n = y 0 := Fin.ext h0.symm
  have e1 : x 1 = y 1 := Fin.ext h1.symm
  have e2 : x 2 = y 2 := Fin.ext h2.symm
  rw [e0, e1, e2]

theorem pre_eq (c : Dev nD) (t : Fin cfg0.N) (y : S4x512x512.Idx) :
    (outsAt0 m c t.val t.isLt).1 y = slopeAt m c (y 0) (rowOf t (y 1)) (colOf t (y 2)) := by
  by_cases h : t.val % 8 = 0
  · rw [outsAt0_A m c t h]; frame_out
    canon_tiles x h
    · refine (pre3 _ _ _ _ _ _ x).trans ((slope_point m c t 3 _ _ _ _ (slice_at _ 3 _) (slice_at _ 3 _)
        (slice_at _ 3 _) (slice_at _ 3 _) _ _).trans (at_piece (fun n i j => slopeAt m c n (rowOf t i) (colOf t j)) 3 y x ?_ h1 h2))
      simpa using (by omega : (y 0).val = 3)
    · refine (pre2 _ _ _ _ _ _ x).trans ((slope_point m c t 2 _ _ _ _ (slice_at _ 2 _) (slice_at _ 2 _)
        (slice_at _ 2 _) (slice_at _ 2 _) _ _).trans (at_piece (fun n i j => slopeAt m c n (rowOf t i) (colOf t j)) 2 y x ?_ h1 h2))
      simpa using (by omega : (y 0).val = 2)
    · refine (pre1 _ _ _ _ _ _ x).trans ((slope_point m c t 1 _ _ _ _ (slice_at _ 1 _) (slice_at _ 1 _)
        (slice_at _ 1 _) (slice_at _ 1 _) _ _).trans (at_piece (fun n i j => slopeAt m c n (rowOf t i) (colOf t j)) 1 y x ?_ h1 h2))
      simpa using (by omega : (y 0).val = 1)
    · refine (pre0 _ _ _ _ _ _ x).trans ((slope_point m c t 0 _ _ _ _ (slice_at _ 0 _) (slice_at _ 0 _)
        (slice_at _ 0 _) (slice_at _ 0 _) _ _).trans (at_piece (fun n i j => slopeAt m c n (rowOf t i) (colOf t j)) 0 y x ?_ h1 h2))
      simpa using (by omega : (y 0).val = 0)
  · rw [outsAt0_B m c t h]; frame_out
    canon_tiles x h
    · refine (pre3 _ _ _ _ _ _ x).trans ((slope_point m c t 3 _ _ _ _ (slice_at _ 3 _) (slice_at _ 3 _)
        (slice_at _ 3 _) (slice_at _ 3 _) _ _).trans (at_piece (fun n i j => slopeAt m c n (rowOf t i) (colOf t j)) 3 y x ?_ h1 h2))
      simpa using (by omega : (y 0).val = 3)
    · refine (pre2 _ _ _ _ _ _ x).trans ((slope_point m c t 2 _ _ _ _ (slice_at _ 2 _) (slice_at _ 2 _)
        (slice_at _ 2 _) (slice_at _ 2 _) _ _).trans (at_piece (fun n i j => slopeAt m c n (rowOf t i) (colOf t j)) 2 y x ?_ h1 h2))
      simpa using (by omega : (y 0).val = 2)
    · refine (pre1 _ _ _ _ _ _ x).trans ((slope_point m c t 1 _ _ _ _ (slice_at _ 1 _) (slice_at _ 1 _)
        (slice_at _ 1 _) (slice_at _ 1 _) _ _).trans (at_piece (fun n i j => slopeAt m c n (rowOf t i) (colOf t j)) 1 y x ?_ h1 h2))
      simpa using (by omega : (y 0).val = 1)
    · refine (pre0 _ _ _ _ _ _ x).trans ((slope_point m c t 0 _ _ _ _ (slice_at _ 0 _) (slice_at _ 0 _)
        (slice_at _ 0 _) (slice_at _ 0 _) _ _).trans (at_piece (fun n i j => slopeAt m c n (rowOf t i) (colOf t j)) 0 y x ?_ h1 h2))
      simpa using (by omega : (y 0).val = 0)

theorem branch_eq (c : Dev nD) (t : Fin cfg0.N) (y : S4x512x512.Idx) :
    (outsAt0 m c t.val t.isLt).2.1 y = branchAt m c (y 0) (rowOf t (y 1)) (colOf t (y 2)) := by
  by_cases h : t.val % 8 = 0
  · rw [outsAt0_A m c t h]; frame_out
    canon_tiles x h
    · refine (branch3 _ _ _ _ x).trans ((branch_point m c t 3 _ _ (slice_at _ 3 _) (slice_at _ 3 _)
        _ (d_block m c t) _ _).trans (at_piece (fun n i j => branchAt m c n (rowOf t i) (colOf t j)) 3 y x ?_ h1 h2))
      simpa using (by omega : (y 0).val = 3)
    · refine (branch2 _ _ _ _ x).trans ((branch_point m c t 2 _ _ (slice_at _ 2 _) (slice_at _ 2 _)
        _ (d_block m c t) _ _).trans (at_piece (fun n i j => branchAt m c n (rowOf t i) (colOf t j)) 2 y x ?_ h1 h2))
      simpa using (by omega : (y 0).val = 2)
    · refine (branch1 _ _ _ _ x).trans ((branch_point m c t 1 _ _ (slice_at _ 1 _) (slice_at _ 1 _)
        _ (d_block m c t) _ _).trans (at_piece (fun n i j => branchAt m c n (rowOf t i) (colOf t j)) 1 y x ?_ h1 h2))
      simpa using (by omega : (y 0).val = 1)
    · refine (branch0 _ _ _ _ x).trans ((branch_point m c t 0 _ _ (slice_at _ 0 _) (slice_at _ 0 _)
        _ (d_block m c t) _ _).trans (at_piece (fun n i j => branchAt m c n (rowOf t i) (colOf t j)) 0 y x ?_ h1 h2))
      simpa using (by omega : (y 0).val = 0)
  · rw [outsAt0_B m c t h]; frame_out
    canon_tiles x h
    · refine (branch3 _ _ _ _ x).trans ((branch_point m c t 3 _ _ (slice_at _ 3 _) (slice_at _ 3 _)
        _ (d_block m c t) _ _).trans (at_piece (fun n i j => branchAt m c n (rowOf t i) (colOf t j)) 3 y x ?_ h1 h2))
      simpa using (by omega : (y 0).val = 3)
    · refine (branch2 _ _ _ _ x).trans ((branch_point m c t 2 _ _ (slice_at _ 2 _) (slice_at _ 2 _)
        _ (d_block m c t) _ _).trans (at_piece (fun n i j => branchAt m c n (rowOf t i) (colOf t j)) 2 y x ?_ h1 h2))
      simpa using (by omega : (y 0).val = 2)
    · refine (branch1 _ _ _ _ x).trans ((branch_point m c t 1 _ _ (slice_at _ 1 _) (slice_at _ 1 _)
        _ (d_block m c t) _ _).trans (at_piece (fun n i j => branchAt m c n (rowOf t i) (colOf t j)) 1 y x ?_ h1 h2))
      simpa using (by omega : (y 0).val = 1)
    · refine (branch0 _ _ _ _ x).trans ((branch_point m c t 0 _ _ (slice_at _ 0 _) (slice_at _ 0 _)
        _ (d_block m c t) _ _).trans (at_piece (fun n i j => branchAt m c n (rowOf t i) (colOf t j)) 0 y x ?_ h1 h2))
      simpa using (by omega : (y 0).val = 0)

/-- One point's part of the gradient of the biases. -/
def part (c : Dev nD) (t : Fin cfg0.N) (y : S4x1x512.Idx) : EReal := ∑ i : Fin 512, slopeAt m c (y 0) (rowOf t i) (colOf t (y 2))

theorem bias_piece (c : Dev nD) (t : Fin cfg0.N) (n : Fin 4) (w : FVec Ideal S1x256x512 .bf16) (b : FVec Ideal S1x1x512 .f32)
    (o : FVec Ideal S1x512x1024 .bf16) (u : FVec Ideal S1x1024x512 .bf16)
    (hw : ∀ k j, w (ix3 0 k j) = iblk m c 2 t (ix3 n k j)) (hb : ∀ i j, b (ix3 0 i j) = iblk m c 3 t (ix3 n i j))
    (ho : ∀ i k, o (ix3 0 i k) = iblk m c 1 t (ix3 n i k)) (hu : ∀ k j, u (ix3 0 k j) = iblk m c 4 t (ix3 n k j))
    (a : FVec Ideal S1x1x512 .f32) (x : S1x1x512.Idx) (y : S4x1x512.Idx) (v : EReal)
    (h0 : (y 0).val = n.val) (h2 : (y 2).val = (x 2).val) (ha : a x = v) :
    a x + ∑ i : Fin 512, slope (iblk m c 0 t) (iblk m c 5 t) w b o u i (x 2) = v + part m c t y := by
  have e0 : n = y 0 := Fin.ext h0.symm
  have e2 : x 2 = y 2 := Fin.ext h2.symm
  subst e0
  rw [ha, e2]
  refine congrArg _ (Finset.sum_congr rfl fun i _ => ?_)
  exact slope_point m c t (y 0) w b o u hw hb ho hu i (y 2)

theorem bias_first (c : Dev nD) (t : Fin cfg0.N) (h : t.val % 8 = 0) (y : S4x1x512.Idx) :
    (outsAt0 m c t.val t.isLt).2.2 y = 0 + part m c t y := by
  rw [outsAt0_A m c t h]; frame_out
  refine (View.canon_append_of_piecesOf (Val := Elt Ideal) (e := .f32) (fun y => 0 + part m c t y) [_] [_, _, _, _] ⟨?_, ?_, ?_, ?_, trivial⟩ y
    (View.cover_of_tiledBy _ ![1, 1, 512] (by sl_kernel_rfl) y))
  · intro x
    refine (bias3 _ _ _ _ _ _ _ x).trans ?_
    refine bias_piece m c t 3 _ _ _ _ (slice_at _ 3 _) (slice_at _ 3 _) (slice_at _ 3 _) (slice_at _ 3 _) _ x _ _
      ?_ ?_ ?_
    · simp
    · simp
    · rw [View.readCov_skip _ _ _ _ _ rfl, View.readCov_skip _ _ _ _ _ rfl, View.readCov_skip _ _ _ _ _ rfl, View.readCov_fill _ _ _ _ _ (by intro a; fin_cases a <;> rfl), zero_block]
  · intro x
    refine (bias2 _ _ _ _ _ _ _ x).trans ?_
    refine bias_piece m c t 2 _ _ _ _ (slice_at _ 2 _) (slice_at _ 2 _) (slice_at _ 2 _) (slice_at _ 2 _) _ x _ _
      ?_ ?_ ?_
    · simp
    · simp
    · rw [View.readCov_skip _ _ _ _ _ rfl, View.readCov_skip _ _ _ _ _ rfl, View.readCov_fill _ _ _ _ _ (by intro a; fin_cases a <;> rfl), zero_block]
  · intro x
    refine (bias1 _ _ _ _ _ _ _ x).trans ?_
    refine bias_piece m c t 1 _ _ _ _ (slice_at _ 1 _) (slice_at _ 1 _) (slice_at _ 1 _) (slice_at _ 1 _) _ x _ _
      ?_ ?_ ?_
    · simp
    · simp
    · rw [View.readCov_skip _ _ _ _ _ rfl, View.readCov_fill _ _ _ _ _ (by intro a; fin_cases a <;> rfl), zero_block]
  · intro x
    refine (bias0 _ _ _ _ _ _ _ x).trans ?_
    refine bias_piece m c t 0 _ _ _ _ (slice_at _ 0 _) (slice_at _ 0 _) (slice_at _ 0 _) (slice_at _ 0 _) _ x _ _
      ?_ ?_ ?_
    · simp
    · simp
    · rw [View.readCov_fill _ _ _ _ _ (by intro a; fin_cases a <;> rfl), zero_block]

theorem bias_next (c : Dev nD) (t : Fin cfg0.N) (h : ¬ t.val % 8 = 0) (y : S4x1x512.Idx) :
    (outsAt0 m c t.val t.isLt).2.2 y
      = (outsAt0 m c (t.val - 1) (Nat.lt_of_le_of_lt (Nat.sub_le _ _) t.isLt)).2.2 y + part m c t y := by
  rw [outsAt0_B m c t h]; frame_out
  canon_tiles x h
  · refine (bias3 _ _ _ _ _ _ _ x).trans ?_
    refine bias_piece m c t 3 _ _ _ _ (slice_at _ 3 _) (slice_at _ 3 _) (slice_at _ 3 _) (slice_at _ 3 _) _ x y _
      ?_ h2 ?_
    · simpa using (by omega : (y 0).val = 3)
    · exact View.ld_unit_apply_of _ _ _ _ _ _ fun a => by fin_cases a <;> simpa using (by omega)
  · refine (bias2 _ _ _ _ _ _ _ x).trans ?_
    refine bias_piece m c t 2 _ _ _ _ (slice_at _ 2 _) (slice_at _ 2 _) (slice_at _ 2 _) (slice_at _ 2 _) _ x y _
      ?_ h2 ?_
    · simpa using (by omega : (y 0).val = 2)
    · exact View.ld_unit_apply_of _ _ _ _ _ _ fun a => by fin_cases a <;> simpa using (by omega)
  · refine (bias1 _ _ _ _ _ _ _ x).trans ?_
    refine bias_piece m c t 1 _ _ _ _ (slice_at _ 1 _) (slice_at _ 1 _) (slice_at _ 1 _) (slice_at _ 1 _) _ x y _
      ?_ h2 ?_
    · simpa using (by omega : (y 0).val = 1)
    · exact View.ld_unit_apply_of _ _ _ _ _ _ fun a => by fin_cases a <;> simpa using (by omega)
  · refine (bias0 _ _ _ _ _ _ _ x).trans ?_
    refine bias_piece m c t 0 _ _ _ _ (slice_at _ 0 _) (slice_at _ 0 _) (slice_at _ 0 _) (slice_at _ 0 _) _ x y _
      ?_ h2 ?_
    · simpa using (by omega : (y 0).val = 0)
    · exact View.ld_unit_apply_of _ _ _ _ _ _ fun a => by fin_cases a <;> simpa using (by omega)

/-- The biases' gradient at the last point of a run: the sum over all rows. -/
theorem bias_last (c : Dev nD) (t : Fin cfg0.N) (h : t.val % 8 = 7) (y : S4x1x512.Idx) :
    (outsAt0 m c t.val t.isLt).2.2 y = ∑ i : Fin 4096, slopeAt m c (y 0) i (colOf t (y 2)) := by
  rw [Pipeline.eq_sum_fin_of_reset_step_apply_of_flush (fun n h => (outsAt0 m c n h).2.2) 8 (fun _ => 0) (part m c)
    (fun t h y => bias_first m c t h y) (fun t h y => bias_next m c t h y) t h y, zero_add]
  refine Fin.sum_mul_add_congr (fun s k hl => ?_)
  refine congrArg₂ (slopeAt m c (y 0)) (Fin.ext ?_) (Fin.ext ?_) <;> dsimp only [rowOf, colOf] <;> omega

/-- The arrays the call leaves. -/
theorem final_pre (c : Dev nD) : (dats m 0 c).arrAt 6 cfg0.N = fun i => slopeAt m c (i 0) (i 1) (i 2) := by
  refine (dats m 0 c).arrAt_eq_of_covers 6 _ (by decide +kernel) fun t hf y => ?_
  rw [after0_6]
  idx_vars y
  blk_simp
  refine (pre_eq m c t (ix3 y0 y1 y2)).trans ?_
  refine congr (congr (congrArg (slopeAt m c) (Fin.ext ?_)) (Fin.ext ?_)) (Fin.ext ?_) <;> blk_simp [idx t, rowOf, colOf]

theorem final_branch (c : Dev nD) : (dats m 0 c).arrAt 7 cfg0.N = fun i => branchAt m c (i 0) (i 1) (i 2) := by
  refine (dats m 0 c).arrAt_eq_of_covers 7 _ (by decide +kernel) fun t hf y => ?_
  rw [after0_7]
  idx_vars y
  blk_simp
  refine (branch_eq m c t (ix3 y0 y1 y2)).trans ?_
  refine congr (congr (congrArg (branchAt m c) (Fin.ext ?_)) (Fin.ext ?_)) (Fin.ext ?_) <;> blk_simp [idx t, rowOf, colOf]

theorem final_bias (c : Dev nD) : (dats m 0 c).arrAt 8 cfg0.N
    = fun i => ∑ r : Fin 4096, slopeAt m c (i 0) r (i 2) := by
  refine (dats m 0 c).arrAt_eq_of_covers 8 _ (by decide +kernel) fun t hf y => ?_
  rw [after0_8]
  idx_vars y
  blk_simp
  refine (bias_last m c t ((flush0_8 t).mp hf) (ix3 y0 y1 y2)).trans ?_
  refine Finset.sum_congr rfl fun k _ => congr (congr (congrArg (slopeAt m c) (Fin.ext ?_)) rfl) (Fin.ext ?_) <;>
    blk_simp [idx t, colOf]

end Cert.MergeBwdIdeal.Stage

end
-- ==== Proof.MergeRef.lean ====
/- The three results of the plain gradient of the gates, entry by entry. -/
module

public import proofs.«01_k».proof.Proof.Gen.MergeRefIdeal.Read
public import proofs.«01_k».proof.Proof.MergeMath
public import Idealize.ShloMosaic.Lib.Pointwise

@[expose] public section

set_option maxRecDepth 16384

noncomputable section

namespace Cert.MergeRefIdeal.Stage

open Cert.MergeRefIdeal Cert.MergeRefIdeal.Read Idealize.ShloMosaic

variable (p : FVec Ideal S4096x10752 .f32) (o : FVec Ideal S4x4096x1024 .bf16) (w : FVec Ideal S4x256x4096 .bf16)
  (b : FVec Ideal S4x1x4096 .f32) (u : FVec Ideal S4x1024x4096 .bf16) (d : FVec Ideal S4096x4096 .bf16)

/-- The entries the sums read. -/
def gOf (i : Fin 4096) (k : Fin 256) : EReal := p (ix2 i ⟨10240 + k.val, by omega⟩)
def oOf (n : Fin 4) (i : Fin 4096) (k : Fin 1024) : EReal := o (ix3 n i k)
def wOf (n : Fin 4) (k : Fin 256) (j : Fin 4096) : EReal := w (ix3 n k j)
def bOf (n : Fin 4) (j : Fin 4096) : EReal := b (ix3 n 0 j)
def uOf (n : Fin 4) (k : Fin 1024) (j : Fin 4096) : EReal := u (ix3 n k j)
def dOf (i j : Fin 4096) : EReal := d (ix2 i j)

theorem gate_at (n : Fin 4) (i j : Fin 4096) :
    (val_main_v14 (F := Ideal) p w b (ix3 n i j) : EReal) = MergeMath.gate (gOf p) (wOf w) (bOf b) n i j := by
  unfold MergeMath.gate gOf wOf bOf
  rw [zero_sub]
  pointwise [val_main_v14, val_main_v13, val_main_v12, val_main_v11, val_main_v10, val_main_v9, val_main_v7, val_main_v6,
    val_main_v5, val_main_v4, val_main_v1, val_main_v0, val_main_cst, val_main_cst_0]

theorem slope_at (n : Fin 4) (i j : Fin 4096) :
    (val_main_v24 (F := Ideal) p o w b u d (ix3 n i j) : EReal)
      = MergeMath.slope (gOf p) (wOf w) (bOf b) (oOf o) (uOf u) (dOf d) n i j := by
  unfold MergeMath.slope
  rw [mul_assoc, ← gate_at]
  unfold oOf uOf dOf
  pointwise [val_main_v24, val_main_v23, val_main_v21, val_main_v20, val_main_v8, val_main_v3, val_main_v2, val_main_v17,
    val_main_v16, val_main_v15, val_main_cst_1]

theorem pre_at (n : Fin 4) (i j : Fin 4096) :
    MergeMath.slope (gOf p) (wOf w) (bOf b) (oOf o) (uOf u) (dOf d) n i j
      = (val_main_v25 (F := Ideal) p o w b u d (ix3 n i j) : EReal) := by
  rw [← slope_at]
  pointwise [val_main_v25]

theorem branch_at (n : Fin 4) (i j : Fin 4096) :
    MergeMath.branch (gOf p) (wOf w) (bOf b) (dOf d) n i j
      = (val_main_v26 (F := Ideal) p w b d (ix3 n i j) : EReal) := by
  unfold MergeMath.branch
  rw [← gate_at, mul_comm]
  unfold dOf
  pointwise [val_main_v26, val_main_v22, val_main_v21, val_main_v20]

theorem bias_at (n : Fin 4) (z : Fin 1) (j : Fin 4096) :
    ∑ i : Fin 4096, MergeMath.slope (gOf p) (wOf w) (bOf b) (oOf o) (uOf u) (dOf d) n i j
      = (val_main_v28 (F := Ideal) p o w b u d (ix3 n z j) : EReal) := by
  refine (Finset.sum_congr rfl fun i _ => (slope_at p o w b u d n i j).symm).trans ?_
  obtain rfl : z = 0 := Subsingleton.elim _ _
  pointwise [val_main_v28, val_main_v27, val_main_cst_3]

end Cert.MergeRefIdeal.Stage

end
-- ==== Proof.MergeClaim.lean ====
/- The gates' gradient and the reference give the same three results. -/
module

public import proofs.«01_k».proof.Defs
public import proofs.«01_k».proof.Proof.Gen.MergeBwdIdeal
public import proofs.«01_k».proof.Proof.Gen.MergeRefIdeal
public import proofs.«01_k».proof.Proof.Gen.MergeRefIdeal.Run
public import proofs.«01_k».proof.Proof.MergeBlocks
public import proofs.«01_k».proof.Proof.MergeRef

@[expose] public section

noncomputable section

namespace Cert.MergeClaim

open Idealize.ShloMosaic Idealize.ShloMosaic.TcCoe Idealize.SL.Sem

theorem algebraic : Cert.algebraic_MergeBwdIdeal_MergeRefIdeal (hMergeBwdIdeal := Cert.MergeBwdIdeal.Gen.facts)
    (hMergeRefIdeal := Cert.MergeRefIdeal.Gen.facts) := by
  intro m g m' g' _ hag
  refine ⟨_, _, _, Cert.MergeBwdIdeal.Value.run_blocks m g,
    (θ_run _ _ _).mono (fun _ h c => ⟨(h c).1.trans ?_, (h c).2.1.trans ?_, (h c).2.2.1.trans ?_, (h c).2.2.2⟩)
      (Cert.MergeRefIdeal.Value.run m' g')⟩
  · rw [Cert.MergeBwdIdeal.Stage.final_pre, Cert.MergeRefIdeal.Read.val_main_v25_eq, (hag c).1, (hag c).2.1, (hag c).2.2.1,
      (hag c).2.2.2.1, (hag c).2.2.2.2.1, (hag c).2.2.2.2.2]
    funext i
    idx_vars i
    exact (Cert.MergeRefIdeal.Stage.pre_at _ _ _ _ _ _ _ _ _).symm
  · rw [Cert.MergeBwdIdeal.Stage.final_branch, Cert.MergeRefIdeal.Read.val_main_v26_eq, (hag c).1, (hag c).2.2.1,
      (hag c).2.2.2.1, (hag c).2.2.2.2.2]
    funext i
    idx_vars i
    exact (Cert.MergeRefIdeal.Stage.branch_at _ _ _ _ _ _ _).symm
  · rw [Cert.MergeBwdIdeal.Stage.final_bias, Cert.MergeRefIdeal.Read.val_main_v28_eq, (hag c).1, (hag c).2.1, (hag c).2.2.1,
      (hag c).2.2.2.1, (hag c).2.2.2.2.1, (hag c).2.2.2.2.2]
    funext i
    idx_vars i
    exact (Cert.MergeRefIdeal.Stage.bias_at _ _ _ _ _ _ _ _ _).symm

theorem frameRef : Cert.quiescent_MergeRefIdeal (hMergeRefIdeal := Cert.MergeRefIdeal.Gen.facts) := by
  intro m g _
  exact (θ_run _ _ _).mono (fun r h => ⟨fun c => (h c).2.2.2, sem_eq_zero_of_no_sems (by decide) _⟩)
    (Cert.MergeRefIdeal.Value.run m g)

end Cert.MergeClaim

end
-- ==== Proof.InDx.lean ====
/- The gradient of the layer's input through the combined projection: dp · w_inᵀ. The array the call leaves, as a sum over the arguments, and the reference's result as the same sum. -/
module

public import proofs.«01_k».proof.Proof.Gen.InDxIdeal.Value
public import proofs.«01_k».proof.Proof.Gen.InDxRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InDxIdeal.Product

open Cert.InDxIdeal Cert.InDxIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 10752) : EReal := (m ((c : Thread nD τ).loc main_arg0) : FVec Ideal S4096x10752 .bf16) (ix2 i k)
def bAt (c : Dev nD) (j : Fin 4096) (k : Fin 10752) : EReal := (m ((c : Thread nD τ).loc main_arg1) : FVec Ideal S4096x10752 .bf16) (ix2 j k)

/-- The windows' block indices. -/
theorem idx : ∀ t : Fin cfg0.N, win0_0.index t = ![t.val / 24, t.val % 6]
    ∧ win0_1.index t = ![t.val / 6 % 4, t.val % 6]
    ∧ win0_2.index t = ![t.val / 24, t.val / 6 % 4]
    ∧ t.val < 96 :=
  (by decide +kernel : ∀ t : Fin grid0.N, _)

/-- The row, the column and the place in the sum that an entry of a point's blocks is. -/
def rowOf (t : Fin cfg0.N) (i : Fin 1024) : Fin 4096 := ⟨t.val / 24 * 1024 + i.val, by have := (idx t).2.2.2; omega⟩
def colOf (t : Fin cfg0.N) (i : Fin 1024) : Fin 4096 := ⟨t.val / 6 % 4 * 1024 + i.val, by have := (idx t).2.2.2; omega⟩
def midOf (t : Fin cfg0.N) (i : Fin 1792) : Fin 10752 := ⟨t.val % 6 * 1792 + i.val, by have := (idx t).2.2.2; omega⟩

theorem a_block (c : Dev nD) (t : Fin cfg0.N) (i : Fin 1024) (k : Fin 1792) :
    iblk m c 0 t (ix2 i k) = aAt m c (rowOf t i) (midOf t k) := by
  unfold aAt
  blk_point [iblk, V, idx t, rowOf, midOf]

theorem b_block (c : Dev nD) (t : Fin cfg0.N) (j : Fin 1024) (k : Fin 1792) :
    iblk m c 1 t (ix2 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1024x1792 .bf16) (b : FVec Ideal S1024x1792 .bf16) (i : Fin 1024) (j : Fin 1024) :
    k0_pay2 acc a b (ix2 i j) = acc (ix2 i j) + ∑ k : Fin 1792, a (ix2 i k) * b (ix2 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 1792, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 6 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 6 = 0) :
    (outsAt0 m c t.val t.isLt).2 = k0_pay2 (outsAt0 m c (t.val - 1) (Nat.lt_of_le_of_lt (Nat.sub_le _ _) t.isLt)).2
      (iblk m c 0 t) (iblk m c 1 t) := by
  by_cases h1 : t.val % 6 = 5
  · rw [outsAt0_C m c t h h1]; frame_out; rw [read_unread_whole]
  · rw [outsAt0_B m c t h h1]; frame_out; rw [read_unread_whole]

theorem out_last (c : Dev nD) (t : Fin cfg0.N) (h : t.val % 6 = 5) :
    (outsAt0 m c t.val t.isLt).1 = (outsAt0 m c t.val t.isLt).2 := by
  rw [outsAt0_C m c t (by omega) h]; frame_out

/-- The tile at the last point of its run: the whole sum. -/
theorem acc_last (c : Dev nD) (t : Fin cfg0.N) (h : t.val % 6 = 5) (j : S1024x1024.Idx) :
    (outsAt0 m c t.val t.isLt).2 j
      = ∑ k : Fin 10752, aAt m c (rowOf t (j 0)) k * bAt m c (colOf t (j 1)) k := by
  rw [Pipeline.eq_sum_fin_of_reset_step_apply_of_flush (fun n h => (outsAt0 m c n h).2) 6 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 6 = 5) (i : Fin 1024) (j : Fin 1024) :
    (outsAt0 m c t.val t.isLt).1 (ix2 i j) = ∑ k : Fin 10752, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 10752, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.InDxIdeal.Product

namespace Cert.InDxRefIdeal.Product

open Cert.InDxRefIdeal Cert.InDxRefIdeal.Read Idealize.ShloMosaic Idealize.ShloMosaic.TcCoe Idealize.SL.Sem

/-- The reference's result, entry by entry. -/
theorem result_at (x0 : FVec Ideal S4096x10752 .bf16) (x1 : FVec Ideal S4096x10752 .bf16)
    (i : Fin 4096) (j : Fin 4096) :
    val_main_v4 (F := Ideal) x0 x1 (ix2 i j) = ∑ k : Fin 10752, x0 (ix2 i k) * x1 (ix2 j k) := by
  pointwise [val_main_v4, val_main_v0, val_main_v3]

end Cert.InDxRefIdeal.Product

end
-- ==== Proof.InDw.lean ====
/- The gradient of the combined projection's weight: hᵀ · dp. The array the call leaves, as a sum over the arguments, and the reference's result as the same sum. -/
module

public import proofs.«01_k».proof.Proof.Gen.InDwIdeal.Value
public import proofs.«01_k».proof.Proof.Gen.InDwRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InDwIdeal.Product

open Cert.InDwIdeal Cert.InDwIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4096x4096 .bf16) (ix2 k i)
def bAt (c : Dev nD) (j : Fin 10752) (k : Fin 4096) : EReal := (m ((c : Thread nD τ).loc main_arg1) : FVec Ideal S4096x10752 .bf16) (ix2 k j)

/-- The windows' block indices. -/
theorem idx : ∀ t : Fin cfg0.N, win0_0.index t = ![t.val % 2, t.val / 24]
    ∧ win0_1.index t = ![t.val % 2, t.val / 2 % 12]
    ∧ win0_2.index t = ![t.val / 24, t.val / 2 % 12]
    ∧ t.val < 96 :=
  (by decide +kernel : ∀ t : Fin grid0.N, _)

/-- The row, the column and the place in the sum that an entry of a point's blocks is. -/
def rowOf (t : Fin cfg0.N) (i : Fin 1024) : Fin 4096 := ⟨t.val / 24 * 1024 + i.val, by have := (idx t).2.2.2; omega⟩
def colOf (t : Fin cfg0.N) (i : Fin 896) : Fin 10752 := ⟨t.val / 2 % 12 * 896 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix2 k i) = aAt m c (rowOf t i) (midOf t k) := by
  unfold aAt
  blk_point [iblk, V, idx t, rowOf, midOf]

theorem b_block (c : Dev nD) (t : Fin cfg0.N) (j : Fin 896) (k : Fin 2048) :
    iblk m c 1 t (ix2 k j) = bAt m c (colOf t j) (midOf t k) := by
  unfold bAt
  blk_point [iblk, V, idx t, colOf, midOf]

/-- One point's step: the tile so far and the product of the two blocks. -/
theorem step_at (acc : FVec Ideal S1024x896 .f32) (a : FVec Ideal S2048x1024 .bf16) (b : FVec Ideal S2048x896 .bf16) (i : Fin 1024) (j : Fin 896) :
    k0_pay2 acc a b (ix2 i j) = acc (ix2 i j) + ∑ k : Fin 2048, a (ix2 k i) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x896.Idx) : EReal :=
  ∑ k : Fin 2048, aAt m c (rowOf t (j 0)) (midOf t k) * bAt m c (colOf t (j 1)) (midOf t k)

theorem step_point (c : Dev nD) (t : Fin cfg0.N) (acc : FVec Ideal S1024x896 .f32) (j : S1024x896.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x896.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x896 .f32) (i : Fin 1024) (j : Fin 896) :
    (k0_pay3 (F := Ideal) acc (ix2 i j) : EReal) = acc (ix2 i j) := by
  pointwise [k0_pay3]

theorem out_at (c : Dev nD) (t : Fin cfg0.N) (h : t.val % 2 = 1) (i : Fin 1024) (j : Fin 896) :
    (outsAt0 m c t.val t.isLt).1 (ix2 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.InDwIdeal.Product

namespace Cert.InDwRefIdeal.Product

open Cert.InDwRefIdeal Cert.InDwRefIdeal.Read Idealize.ShloMosaic Idealize.ShloMosaic.TcCoe Idealize.SL.Sem

/-- The reference's result, entry by entry. -/
theorem result_at (x0 : FVec Ideal S4096x4096 .bf16) (x1 : FVec Ideal S4096x10752 .bf16)
    (i : Fin 4096) (j : Fin 10752) :
    val_main_v6 (F := Ideal) x0 x1 (ix2 i j) = ∑ k : Fin 4096, x0 (ix2 k i) * x1 (ix2 k j) := by
  have e : val_main_v6 (F := Ideal) x0 x1 (ix2 i j) = ∑ k : Fin 4096, x1 (ix2 k j) * x0 (ix2 k i) := by
    pointwise [val_main_v6, val_main_v5, val_main_v4, val_main_v0, val_main_v3]
  exact e.trans (Finset.sum_congr rfl fun k _ => mul_comm _ _)

end Cert.InDwRefIdeal.Product

end
-- ==== Proof.OutDx.lean ====
/- The gradient of the merged branches through the output projection: dx · w_outᵀ. The array the call leaves, as a sum over the arguments, and the reference's result as the same sum. -/
module

public import proofs.«01_k».proof.Proof.Gen.OutDxIdeal.Value
public import proofs.«01_k».proof.Proof.Gen.OutDxRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutDxIdeal.Product

open Cert.OutDxIdeal Cert.OutDxIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4096x4096 .f32) (ix2 i k)
def bAt (c : Dev nD) (j : Fin 4096) (k : Fin 4096) : EReal := (m ((c : Thread nD τ).loc main_arg1) : FVec Ideal S4096x4096 .bf16) (ix2 j k)

/-- The windows' block indices. -/
theorem idx : ∀ t : Fin cfg0.N, win0_0.index t = ![t.val / 8, t.val % 2]
    ∧ win0_1.index t = ![t.val / 2 % 4, t.val % 2]
    ∧ win0_2.index t = ![t.val / 8, t.val / 2 % 4]
    ∧ t.val < 32 :=
  (by decide +kernel : ∀ t : Fin grid0.N, _)

/-- The row, the column and the place in the sum that an entry of a point's blocks is. -/
def rowOf (t : Fin cfg0.N) (i : Fin 1024) : Fin 4096 := ⟨t.val / 8 * 1024 + i.val, by have := (idx t).2.2.2; omega⟩
def colOf (t : Fin cfg0.N) (i : Fin 1024) : Fin 4096 := ⟨t.val / 2 % 4 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix2 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix2 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1024x2048 .f32) (b : FVec Ideal S1024x2048 .bf16) (i : Fin 1024) (j : Fin 1024) :
    k0_pay2 acc a b (ix2 i j) = acc (ix2 i j) + ∑ k : Fin 2048, a (ix2 i k) * b (ix2 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x1024 .f32) (i : Fin 1024) (j : Fin 1024) :
    (k0_pay3 (F := Ideal) acc (ix2 i j) : EReal) = acc (ix2 i j) := by
  pointwise [k0_pay3]

theorem out_at (c : Dev nD) (t : Fin cfg0.N) (h : t.val % 2 = 1) (i : Fin 1024) (j : Fin 1024) :
    (outsAt0 m c t.val t.isLt).1 (ix2 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.OutDxIdeal.Product

namespace Cert.OutDxRefIdeal.Product

open Cert.OutDxRefIdeal Cert.OutDxRefIdeal.Read Idealize.ShloMosaic Idealize.ShloMosaic.TcCoe Idealize.SL.Sem

/-- The reference's result, entry by entry. -/
theorem result_at (x0 : FVec Ideal S4096x4096 .f32) (x1 : FVec Ideal S4096x4096 .bf16)
    (i : Fin 4096) (j : Fin 4096) :
    val_main_v4 (F := Ideal) x0 x1 (ix2 i j) = ∑ k : Fin 4096, x0 (ix2 i k) * x1 (ix2 j k) := by
  pointwise [val_main_v4, val_main_v3, val_main_v0]

end Cert.OutDxRefIdeal.Product

end
-- ==== Proof.OutDw.lean ====
/- The gradient of the output projection's weight: mergedᵀ · dx. The array the call leaves, as a sum over the arguments, and the reference's result as the same sum. -/
module

public import proofs.«01_k».proof.Proof.Gen.OutDwIdeal.Value
public import proofs.«01_k».proof.Proof.Gen.OutDwRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutDwIdeal.Product

open Cert.OutDwIdeal Cert.OutDwIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4096x4096 .bf16) (ix2 k i)
def bAt (c : Dev nD) (j : Fin 4096) (k : Fin 4096) : EReal := (m ((c : Thread nD τ).loc main_arg1) : FVec Ideal S4096x4096 .f32) (ix2 k j)

/-- The windows' block indices. -/
theorem idx : ∀ t : Fin cfg0.N, win0_0.index t = ![t.val % 2, t.val / 8]
    ∧ win0_1.index t = ![t.val % 2, t.val / 2 % 4]
    ∧ win0_2.index t = ![t.val / 8, t.val / 2 % 4]
    ∧ t.val < 32 :=
  (by decide +kernel : ∀ t : Fin grid0.N, _)

/-- The row, the column and the place in the sum that an entry of a point's blocks is. -/
def rowOf (t : Fin cfg0.N) (i : Fin 1024) : Fin 4096 := ⟨t.val / 8 * 1024 + i.val, by have := (idx t).2.2.2; omega⟩
def colOf (t : Fin cfg0.N) (i : Fin 1024) : Fin 4096 := ⟨t.val / 2 % 4 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix2 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix2 k j) = bAt m c (colOf t j) (midOf t k) := by
  unfold bAt
  blk_point [iblk, V, idx t, colOf, midOf]

/-- One point's step: the tile so far and the product of the two blocks. -/
theorem step_at (acc : FVec Ideal S1024x1024 .f32) (a : FVec Ideal S2048x1024 .bf16) (b : FVec Ideal S2048x1024 .f32) (i : Fin 1024) (j : Fin 1024) :
    k0_pay2 acc a b (ix2 i j) = acc (ix2 i j) + ∑ k : Fin 2048, a (ix2 k i) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x1024 .f32) (i : Fin 1024) (j : Fin 1024) :
    (k0_pay3 (F := Ideal) acc (ix2 i j) : EReal) = acc (ix2 i j) := by
  pointwise [k0_pay3]

theorem out_at (c : Dev nD) (t : Fin cfg0.N) (h : t.val % 2 = 1) (i : Fin 1024) (j : Fin 1024) :
    (outsAt0 m c t.val t.isLt).1 (ix2 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.OutDwIdeal.Product

namespace Cert.OutDwRefIdeal.Product

open Cert.OutDwRefIdeal Cert.OutDwRefIdeal.Read Idealize.ShloMosaic Idealize.ShloMosaic.TcCoe Idealize.SL.Sem

/-- The reference's result, entry by entry. -/
theorem result_at (x0 : FVec Ideal S4096x4096 .bf16) (x1 : FVec Ideal S4096x4096 .f32)
    (i : Fin 4096) (j : Fin 4096) :
    val_main_v5 (F := Ideal) x0 x1 (ix2 i j) = ∑ k : Fin 4096, x0 (ix2 k i) * x1 (ix2 k j) := by
  have e : val_main_v5 (F := Ideal) x0 x1 (ix2 i j) = ∑ k : Fin 4096, x1 (ix2 k j) * x0 (ix2 k i) := by
    pointwise [val_main_v5, val_main_v4, val_main_v3, val_main_v0]
  exact e.trans (Finset.sum_congr rfl fun k _ => mul_comm _ _)

end Cert.OutDwRefIdeal.Product

end
-- ==== Proof.GluDx.lean ====
/- The gradient of the state space branch's output through the gated unit's product. The array the call leaves, as a sum over the arguments, and the reference's result as the same sum. -/
module

public import proofs.«01_k».proof.Proof.Gen.GluDxIdeal.Value
public import proofs.«01_k».proof.Proof.Gen.GluDxRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluDxIdeal.Product

open Cert.GluDxIdeal Cert.GluDxIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 2048) : EReal := (m ((c : Thread nD τ).loc main_arg0) : FVec Ideal S4096x2048 .bf16) (ix2 i k)
def bAt (c : Dev nD) (j : Fin 1024) (k : Fin 2048) : EReal := (m ((c : Thread nD τ).loc main_arg1) : FVec Ideal S1024x2048 .bf16) (ix2 j k)

/-- The windows' block indices. -/
theorem idx : ∀ t : Fin cfg0.N, win0_0.index t = ![t.val, 0]
    ∧ win0_1.index t = ![0, 0]
    ∧ win0_2.index t = ![t.val, 0]
    ∧ t.val < 4 :=
  (by decide +kernel : ∀ t : Fin grid0.N, _)

/-- The row, the column and the place in the sum that an entry of a point's blocks is. -/
def rowOf (t : Fin cfg0.N) (i : Fin 1024) : Fin 4096 := ⟨t.val * 1024 + i.val, by have := (idx t).2.2.2; omega⟩
def colOf (t : Fin cfg0.N) (i : Fin 1024) : Fin 1024 := i
def midOf (t : Fin cfg0.N) (i : Fin 2048) : Fin 2048 := i

theorem a_block (c : Dev nD) (t : Fin cfg0.N) (i : Fin 1024) (k : Fin 2048) :
    iblk m c 0 t (ix2 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix2 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1024x2048 .bf16) (b : FVec Ideal S1024x2048 .bf16) (i : Fin 1024) (j : Fin 1024) :
    k0_pay2 acc a b (ix2 i j) = acc (ix2 i j) + ∑ k : Fin 2048, a (ix2 i k) * b (ix2 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem out_last (c : Dev nD) (t : Fin cfg0.N) : outsAt0 m c t = (k0_pay2 (fun _ => (0 : EReal)) (iblk m c 0 t) (iblk m c 1 t)) := by
  unfold outsAt0; frame_out; rw [zero_tile]

/-- The tile of a point: the whole sum. -/
theorem acc_last (c : Dev nD) (t : Fin cfg0.N) (j : S1024x1024.Idx) :
    k0_pay2 (fun _ => (0 : EReal)) (iblk m c 0 t) (iblk m c 1 t) j
      = ∑ k : Fin 2048, aAt m c (rowOf t (j 0)) k * bAt m c (colOf t (j 1)) k :=
  (step_point m c t _ j).trans (zero_add _)

theorem out_at (c : Dev nD) (t : Fin cfg0.N) (i : Fin 1024) (j : Fin 1024) :
    (outsAt0 m c t) (ix2 i j) = ∑ k : Fin 2048, aAt m c (rowOf t i) k * bAt m c (colOf t j) k := by
  rw [out_last m c t]
  exact acc_last m c t (ix2 i j)

/-- The array the call leaves. -/
theorem final (c : Dev nD) : (dats m 0 c).arrAt 2 cfg0.N
    = fun i => ∑ k : Fin 2048, aAt m c (i 0) k * bAt m c (i 1) k := by
  refine (dats m 0 c).arrAt_eq_of_covers 2 _ (by decide +kernel) fun t hf y => ?_
  rw [after0_2]
  idx_vars y
  blk_simp
  refine (out_at m c t y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.GluDxIdeal.Product

namespace Cert.GluDxRefIdeal.Product

open Cert.GluDxRefIdeal Cert.GluDxRefIdeal.Read Idealize.ShloMosaic Idealize.ShloMosaic.TcCoe Idealize.SL.Sem

/-- The reference's result, entry by entry. -/
theorem result_at (x0 : FVec Ideal S4096x2048 .bf16) (x1 : FVec Ideal S1024x2048 .bf16)
    (i : Fin 4096) (j : Fin 1024) :
    val_main_v4 (F := Ideal) x0 x1 (ix2 i j) = ∑ k : Fin 2048, x0 (ix2 i k) * x1 (ix2 j k) := by
  pointwise [val_main_v4, val_main_v0, val_main_v3]

end Cert.GluDxRefIdeal.Product

end
-- ==== Proof.GluDw.lean ====
/- The gradient of the gated unit's weight, its columns in four parts. The array the call leaves, as a sum over the arguments, and the reference's result as the same sum. -/
module

public import proofs.«01_k».proof.Proof.Gen.GluDwIdeal.Value
public import proofs.«01_k».proof.Proof.Gen.GluDwRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluDwIdeal.Product

open Cert.GluDwIdeal Cert.GluDwIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 1024) (k : Fin 4096) : EReal := (m ((c : Thread nD τ).loc main_arg0) : FVec Ideal S4096x1024 .bf16) (ix2 k i)
def bAt (c : Dev nD) (j : Fin 2048) (k : Fin 4096) : EReal := (m ((c : Thread nD τ).loc main_arg1) : FVec Ideal S4096x2048 .bf16) (ix2 k j)

/-- The windows' block indices. -/
theorem idx : ∀ t : Fin cfg0.N, win0_0.index t = ![t.val % 2, 0]
    ∧ win0_1.index t = ![t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 1024) : Fin 1024 := i
def colOf (t : Fin cfg0.N) (i : Fin 512) : Fin 2048 := ⟨t.val / 2 * 512 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix2 k i) = aAt m c (rowOf t i) (midOf t k) := by
  unfold aAt
  blk_point [iblk, V, idx t, rowOf, midOf]

theorem b_block (c : Dev nD) (t : Fin cfg0.N) (j : Fin 512) (k : Fin 2048) :
    iblk m c 1 t (ix2 k j) = bAt m c (colOf t j) (midOf t k) := by
  unfold bAt
  blk_point [iblk, V, idx t, colOf, midOf]

/-- One point's step: the tile so far and the product of the two blocks. -/
theorem step_at (acc : FVec Ideal S1024x512 .f32) (a : FVec Ideal S2048x1024 .bf16) (b : FVec Ideal S2048x512 .bf16) (i : Fin 1024) (j : Fin 512) :
    k0_pay2 acc a b (ix2 i j) = acc (ix2 i j) + ∑ k : Fin 2048, a (ix2 k i) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x512.Idx) : EReal :=
  ∑ k : Fin 2048, aAt m c (rowOf t (j 0)) (midOf t k) * bAt m c (colOf t (j 1)) (midOf t k)

theorem step_point (c : Dev nD) (t : Fin cfg0.N) (acc : FVec Ideal S1024x512 .f32) (j : S1024x512.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x512.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x512 .f32) (i : Fin 1024) (j : Fin 512) :
    (k0_pay3 (F := Ideal) acc (ix3 0 i j) : EReal) = acc (ix2 i j) := by
  pointwise [k0_pay3]

theorem out_at (c : Dev nD) (t : Fin cfg0.N) (h : t.val % 2 = 1) (i : Fin 1024) (j : Fin 512) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 512 + (i 2).val, by have h0 : (i 0).val < 4 := (i 0).isLt; have h2 : (i 2).val < 512 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.GluDwIdeal.Product

namespace Cert.GluDwRefIdeal.Product

open Cert.GluDwRefIdeal Cert.GluDwRefIdeal.Read Idealize.ShloMosaic Idealize.ShloMosaic.TcCoe Idealize.SL.Sem

/-- The reference's result, entry by entry. -/
theorem result_at (x0 : FVec Ideal S4096x1024 .bf16) (x1 : FVec Ideal S4096x2048 .bf16)
    (q : Fin 4) (i : Fin 1024) (j : Fin 512) :
    val_main_v8 (F := Ideal) x0 x1 (ix3 q i j) = ∑ k : Fin 4096, x0 (ix2 k i) * x1 (ix2 k ⟨q.val * 512 + j.val, by omega⟩) := by
  have e : val_main_v8 (F := Ideal) x0 x1 (ix3 q i j) = ∑ k : Fin 4096, x1 (ix2 k ⟨q.val * 512 + j.val, by omega⟩) * x0 (ix2 k i) := by
    pointwise [val_main_v8, val_main_v7, val_main_v6, val_main_v5, val_main_v4, val_main_v0, val_main_v3]
  exact e.trans (Finset.sum_congr rfl fun k _ => mul_comm _ _)

end Cert.GluDwRefIdeal.Product

end
-- ==== Proof.KvDx.lean ====
/- The gradient of the normalised memory through the key and value projection. The array the call leaves, as a sum over the arguments, and the reference's result as the same sum. -/
module

public import proofs.«01_k».proof.Proof.Gen.KvDxIdeal.Value
public import proofs.«01_k».proof.Proof.Gen.KvDxRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvDxIdeal.Product

open Cert.KvDxIdeal Cert.KvDxIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 256) (k : Fin 2048) : EReal := (m ((c : Thread nD τ).loc main_arg0) : FVec Ideal S256x2048 .f32) (ix2 i k)
def bAt (c : Dev nD) (j : Fin 4096) (k : Fin 2048) : EReal := (m ((c : Thread nD τ).loc main_arg1) : FVec Ideal S4096x2048 .bf16) (ix2 j k)

/-- The windows' block indices. -/
theorem idx : ∀ t : Fin cfg0.N, win0_0.index t = ![0, 0]
    ∧ win0_1.index t = ![t.val, 0]
    ∧ win0_2.index t = ![0, t.val]
    ∧ t.val < 4 :=
  (by decide +kernel : ∀ t : Fin grid0.N, _)

/-- The row, the column and the place in the sum that an entry of a point's blocks is. -/
def rowOf (t : Fin cfg0.N) (i : Fin 256) : Fin 256 := i
def colOf (t : Fin cfg0.N) (i : Fin 1024) : Fin 4096 := ⟨t.val * 1024 + i.val, by have := (idx t).2.2.2; omega⟩
def midOf (t : Fin cfg0.N) (i : Fin 2048) : Fin 2048 := i

theorem a_block (c : Dev nD) (t : Fin cfg0.N) (i : Fin 256) (k : Fin 2048) :
    iblk m c 0 t (ix2 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix2 j k) = bAt m c (colOf t j) (midOf t k) := by
  unfold bAt
  blk_point [iblk, V, idx t, colOf, midOf]

/-- One point's step: the tile so far and the product of the two blocks. -/
theorem step_at (acc : FVec Ideal S256x1024 .f32) (a : FVec Ideal S256x2048 .f32) (b : FVec Ideal S1024x2048 .bf16) (i : Fin 256) (j : Fin 1024) :
    k0_pay2 acc a b (ix2 i j) = acc (ix2 i j) + ∑ k : Fin 2048, a (ix2 i k) * b (ix2 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S256x1024.Idx) : EReal :=
  ∑ k : Fin 2048, aAt m c (rowOf t (j 0)) (midOf t k) * bAt m c (colOf t (j 1)) (midOf t k)

theorem step_point (c : Dev nD) (t : Fin cfg0.N) (acc : FVec Ideal S256x1024 .f32) (j : S256x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem out_last (c : Dev nD) (t : Fin cfg0.N) : outsAt0 m c t = (k0_pay2 (fun _ => (0 : EReal)) (iblk m c 0 t) (iblk m c 1 t)) := by
  unfold outsAt0; frame_out; rw [zero_tile]

/-- The tile of a point: the whole sum. -/
theorem acc_last (c : Dev nD) (t : Fin cfg0.N) (j : S256x1024.Idx) :
    k0_pay2 (fun _ => (0 : EReal)) (iblk m c 0 t) (iblk m c 1 t) j
      = ∑ k : Fin 2048, aAt m c (rowOf t (j 0)) k * bAt m c (colOf t (j 1)) k :=
  (step_point m c t _ j).trans (zero_add _)

theorem out_at (c : Dev nD) (t : Fin cfg0.N) (i : Fin 256) (j : Fin 1024) :
    (outsAt0 m c t) (ix2 i j) = ∑ k : Fin 2048, aAt m c (rowOf t i) k * bAt m c (colOf t j) k := by
  rw [out_last m c t]
  exact acc_last m c t (ix2 i j)

/-- The array the call leaves. -/
theorem final (c : Dev nD) : (dats m 0 c).arrAt 2 cfg0.N
    = fun i => ∑ k : Fin 2048, aAt m c (i 0) k * bAt m c (i 1) k := by
  refine (dats m 0 c).arrAt_eq_of_covers 2 _ (by decide +kernel) fun t hf y => ?_
  rw [after0_2]
  idx_vars y
  blk_simp
  refine (out_at m c t y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.KvDxIdeal.Product

namespace Cert.KvDxRefIdeal.Product

open Cert.KvDxRefIdeal Cert.KvDxRefIdeal.Read Idealize.ShloMosaic Idealize.ShloMosaic.TcCoe Idealize.SL.Sem

/-- The reference's result, entry by entry. -/
theorem result_at (x0 : FVec Ideal S256x2048 .f32) (x1 : FVec Ideal S4096x2048 .bf16)
    (i : Fin 256) (j : Fin 4096) :
    val_main_v3 (F := Ideal) x0 x1 (ix2 i j) = ∑ k : Fin 2048, x0 (ix2 i k) * x1 (ix2 j k) := by
  pointwise [val_main_v3, val_main_v0]

end Cert.KvDxRefIdeal.Product

end
-- ==== Proof.KvDw.lean ====
/- The gradient of the key and value projection's weight. The array the call leaves, as a sum over the arguments, and the reference's result as the same sum. -/
module

public import proofs.«01_k».proof.Proof.Gen.KvDwIdeal.Value
public import proofs.«01_k».proof.Proof.Gen.KvDwRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvDwIdeal.Product

open Cert.KvDwIdeal Cert.KvDwIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 256) : EReal := (m ((c : Thread nD τ).loc main_arg0) : FVec Ideal S256x4096 .bf16) (ix2 k i)
def bAt (c : Dev nD) (j : Fin 2048) (k : Fin 256) : EReal := (m ((c : Thread nD τ).loc main_arg1) : FVec Ideal S256x2048 .f32) (ix2 k j)

/-- The windows' block indices. -/
theorem idx : ∀ t : Fin cfg0.N, win0_0.index t = ![0, t.val / 2]
    ∧ win0_1.index t = ![0, t.val % 2]
    ∧ win0_2.index t = ![t.val / 2, t.val % 2]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2; omega⟩
def colOf (t : Fin cfg0.N) (i : Fin 1024) : Fin 2048 := ⟨t.val % 2 * 1024 + i.val, by have := (idx t).2.2.2; omega⟩
def midOf (t : Fin cfg0.N) (i : Fin 256) : Fin 256 := i

theorem a_block (c : Dev nD) (t : Fin cfg0.N) (i : Fin 1024) (k : Fin 256) :
    iblk m c 0 t (ix2 k i) = aAt m c (rowOf t i) (midOf t k) := by
  unfold aAt
  blk_point [iblk, V, idx t, rowOf, midOf]

theorem b_block (c : Dev nD) (t : Fin cfg0.N) (j : Fin 1024) (k : Fin 256) :
    iblk m c 1 t (ix2 k j) = bAt m c (colOf t j) (midOf t k) := by
  unfold bAt
  blk_point [iblk, V, idx t, colOf, midOf]

/-- One point's step: the tile so far and the product of the two blocks. -/
theorem step_at (acc : FVec Ideal S1024x1024 .f32) (a : FVec Ideal S256x1024 .bf16) (b : FVec Ideal S256x1024 .f32) (i : Fin 1024) (j : Fin 1024) :
    k0_pay2 acc a b (ix2 i j) = acc (ix2 i j) + ∑ k : Fin 256, a (ix2 k i) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 256, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem out_last (c : Dev nD) (t : Fin cfg0.N) : outsAt0 m c t = k0_pay3 (k0_pay2 (fun _ => (0 : EReal)) (iblk m c 0 t) (iblk m c 1 t)) := by
  unfold outsAt0; frame_out; rw [zero_tile]

/-- The tile of a point: the whole sum. -/
theorem acc_last (c : Dev nD) (t : Fin cfg0.N) (j : S1024x1024.Idx) :
    k0_pay2 (fun _ => (0 : EReal)) (iblk m c 0 t) (iblk m c 1 t) j
      = ∑ k : Fin 256, aAt m c (rowOf t (j 0)) k * bAt m c (colOf t (j 1)) k :=
  (step_point m c t _ j).trans (zero_add _)

theorem stored_at (acc : FVec Ideal S1024x1024 .f32) (i : Fin 1024) (j : Fin 1024) :
    (k0_pay3 (F := Ideal) acc (ix2 i j) : EReal) = acc (ix2 i j) := by
  pointwise [k0_pay3]

theorem out_at (c : Dev nD) (t : Fin cfg0.N) (i : Fin 1024) (j : Fin 1024) :
    (outsAt0 m c t) (ix2 i j) = ∑ k : Fin 256, aAt m c (rowOf t i) k * bAt m c (colOf t j) k := by
  rw [out_last m c t]
  exact (stored_at _ i j).trans (acc_last m c t (ix2 i j))

/-- The array the call leaves. -/
theorem final (c : Dev nD) : (dats m 0 c).arrAt 2 cfg0.N
    = fun i => ∑ k : Fin 256, aAt m c (i 0) k * bAt m c (i 1) k := by
  refine (dats m 0 c).arrAt_eq_of_covers 2 _ (by decide +kernel) fun t hf y => ?_
  rw [after0_2]
  idx_vars y
  blk_simp
  refine (out_at m c t y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.KvDwIdeal.Product

namespace Cert.KvDwRefIdeal.Product

open Cert.KvDwRefIdeal Cert.KvDwRefIdeal.Read Idealize.ShloMosaic Idealize.ShloMosaic.TcCoe Idealize.SL.Sem

/-- The reference's result, entry by entry. -/
theorem result_at (x0 : FVec Ideal S256x4096 .bf16) (x1 : FVec Ideal S256x2048 .f32)
    (i : Fin 4096) (j : Fin 2048) :
    val_main_v5 (F := Ideal) x0 x1 (ix2 i j) = ∑ k : Fin 256, x0 (ix2 k i) * x1 (ix2 k j) := by
  have e : val_main_v5 (F := Ideal) x0 x1 (ix2 i j) = ∑ k : Fin 256, x1 (ix2 k j) * x0 (ix2 k i) := by
    pointwise [val_main_v5, val_main_v4, val_main_v3, val_main_v0]
  exact e.trans (Finset.sum_congr rfl fun k _ => mul_comm _ _)

end Cert.KvDwRefIdeal.Product

end
-- ==== Proof.LayerProducts.lean ====
/- The backward products of the input, output, gated unit and memory projections and the reference give the same results. -/
module

public import proofs.«01_k».proof.Defs
public import proofs.«01_k».proof.Proof.Gen.InDxIdeal
public import proofs.«01_k».proof.Proof.Gen.InDxRefIdeal
public import proofs.«01_k».proof.Proof.Gen.InDxRefIdeal.Run
public import proofs.«01_k».proof.Proof.InDx
public import proofs.«01_k».proof.Proof.Gen.InDwIdeal
public import proofs.«01_k».proof.Proof.Gen.InDwRefIdeal
public import proofs.«01_k».proof.Proof.Gen.InDwRefIdeal.Run
public import proofs.«01_k».proof.Proof.InDw
public import proofs.«01_k».proof.Proof.Gen.OutDxIdeal
public import proofs.«01_k».proof.Proof.Gen.OutDxRefIdeal
public import proofs.«01_k».proof.Proof.Gen.OutDxRefIdeal.Run
public import proofs.«01_k».proof.Proof.OutDx
public import proofs.«01_k».proof.Proof.Gen.OutDwIdeal
public import proofs.«01_k».proof.Proof.Gen.OutDwRefIdeal
public import proofs.«01_k».proof.Proof.Gen.OutDwRefIdeal.Run
public import proofs.«01_k».proof.Proof.OutDw
public import proofs.«01_k».proof.Proof.Gen.GluDxIdeal
public import proofs.«01_k».proof.Proof.Gen.GluDxRefIdeal
public import proofs.«01_k».proof.Proof.Gen.GluDxRefIdeal.Run
public import proofs.«01_k».proof.Proof.GluDx
public import proofs.«01_k».proof.Proof.Gen.GluDwIdeal
public import proofs.«01_k».proof.Proof.Gen.GluDwRefIdeal
public import proofs.«01_k».proof.Proof.Gen.GluDwRefIdeal.Run
public import proofs.«01_k».proof.Proof.GluDw
public import proofs.«01_k».proof.Proof.Gen.KvDxIdeal
public import proofs.«01_k».proof.Proof.Gen.KvDxRefIdeal
public import proofs.«01_k».proof.Proof.Gen.KvDxRefIdeal.Run
public import proofs.«01_k».proof.Proof.KvDx
public import proofs.«01_k».proof.Proof.Gen.KvDwIdeal
public import proofs.«01_k».proof.Proof.Gen.KvDwRefIdeal
public import proofs.«01_k».proof.Proof.Gen.KvDwRefIdeal.Run
public import proofs.«01_k».proof.Proof.KvDw

@[expose] public section

noncomputable section

namespace Cert.LayerProducts

open Idealize.ShloMosaic Idealize.ShloMosaic.TcCoe Idealize.SL.Sem

theorem inDx : Cert.algebraic_InDxIdeal_InDxRefIdeal (hInDxIdeal := Cert.InDxIdeal.Gen.facts)
    (hInDxRefIdeal := Cert.InDxRefIdeal.Gen.facts) := by
  intro m g m' g' _ hag
  refine ⟨_, Cert.InDxIdeal.Value.run_blocks m g,
    (θ_run _ _ _).mono (fun _ h c => ⟨(h c).1.trans ?_, (h c).2⟩) (Cert.InDxRefIdeal.Value.run m' g')⟩
  rw [Cert.InDxIdeal.Product.final, Cert.InDxRefIdeal.Read.val_main_v4_eq, (hag c).1, (hag c).2]
  funext i
  idx_vars i
  exact Cert.InDxRefIdeal.Product.result_at _ _ _ _

theorem frameInDxRef : Cert.quiescent_InDxRefIdeal (hInDxRefIdeal := Cert.InDxRefIdeal.Gen.facts) := by
  intro m g _
  exact (θ_run _ _ _).mono (fun r h => ⟨fun c => (h c).2, sem_eq_zero_of_no_sems (by decide) _⟩) (Cert.InDxRefIdeal.Value.run m g)

theorem inDw : Cert.algebraic_InDwIdeal_InDwRefIdeal (hInDwIdeal := Cert.InDwIdeal.Gen.facts)
    (hInDwRefIdeal := Cert.InDwRefIdeal.Gen.facts) := by
  intro m g m' g' _ hag
  refine ⟨_, Cert.InDwIdeal.Value.run_blocks m g,
    (θ_run _ _ _).mono (fun _ h c => ⟨(h c).1.trans ?_, (h c).2⟩) (Cert.InDwRefIdeal.Value.run m' g')⟩
  rw [Cert.InDwIdeal.Product.final, Cert.InDwRefIdeal.Read.val_main_v6_eq, (hag c).1, (hag c).2]
  funext i
  idx_vars i
  exact Cert.InDwRefIdeal.Product.result_at _ _ _ _

theorem frameInDwRef : Cert.quiescent_InDwRefIdeal (hInDwRefIdeal := Cert.InDwRefIdeal.Gen.facts) := by
  intro m g _
  exact (θ_run _ _ _).mono (fun r h => ⟨fun c => (h c).2, sem_eq_zero_of_no_sems (by decide) _⟩) (Cert.InDwRefIdeal.Value.run m g)

theorem outDx : Cert.algebraic_OutDxIdeal_OutDxRefIdeal (hOutDxIdeal := Cert.OutDxIdeal.Gen.facts)
    (hOutDxRefIdeal := Cert.OutDxRefIdeal.Gen.facts) := by
  intro m g m' g' _ hag
  refine ⟨_, Cert.OutDxIdeal.Value.run_blocks m g,
    (θ_run _ _ _).mono (fun _ h c => ⟨(h c).1.trans ?_, (h c).2⟩) (Cert.OutDxRefIdeal.Value.run m' g')⟩
  rw [Cert.OutDxIdeal.Product.final, Cert.OutDxRefIdeal.Read.val_main_v4_eq, (hag c).1, (hag c).2]
  funext i
  idx_vars i
  exact Cert.OutDxRefIdeal.Product.result_at _ _ _ _

theorem frameOutDxRef : Cert.quiescent_OutDxRefIdeal (hOutDxRefIdeal := Cert.OutDxRefIdeal.Gen.facts) := by
  intro m g _
  exact (θ_run _ _ _).mono (fun r h => ⟨fun c => (h c).2, sem_eq_zero_of_no_sems (by decide) _⟩) (Cert.OutDxRefIdeal.Value.run m g)

theorem outDw : Cert.algebraic_OutDwIdeal_OutDwRefIdeal (hOutDwIdeal := Cert.OutDwIdeal.Gen.facts)
    (hOutDwRefIdeal := Cert.OutDwRefIdeal.Gen.facts) := by
  intro m g m' g' _ hag
  refine ⟨_, Cert.OutDwIdeal.Value.run_blocks m g,
    (θ_run _ _ _).mono (fun _ h c => ⟨(h c).1.trans ?_, (h c).2⟩) (Cert.OutDwRefIdeal.Value.run m' g')⟩
  rw [Cert.OutDwIdeal.Product.final, Cert.OutDwRefIdeal.Read.val_main_v5_eq, (hag c).1, (hag c).2]
  funext i
  idx_vars i
  exact Cert.OutDwRefIdeal.Product.result_at _ _ _ _

theorem frameOutDwRef : Cert.quiescent_OutDwRefIdeal (hOutDwRefIdeal := Cert.OutDwRefIdeal.Gen.facts) := by
  intro m g _
  exact (θ_run _ _ _).mono (fun r h => ⟨fun c => (h c).2, sem_eq_zero_of_no_sems (by decide) _⟩) (Cert.OutDwRefIdeal.Value.run m g)

theorem gluDx : Cert.algebraic_GluDxIdeal_GluDxRefIdeal (hGluDxIdeal := Cert.GluDxIdeal.Gen.facts)
    (hGluDxRefIdeal := Cert.GluDxRefIdeal.Gen.facts) := by
  intro m g m' g' _ hag
  refine ⟨_, Cert.GluDxIdeal.Value.run_blocks m g,
    (θ_run _ _ _).mono (fun _ h c => ⟨(h c).1.trans ?_, (h c).2⟩) (Cert.GluDxRefIdeal.Value.run m' g')⟩
  rw [Cert.GluDxIdeal.Product.final, Cert.GluDxRefIdeal.Read.val_main_v4_eq, (hag c).1, (hag c).2]
  funext i
  idx_vars i
  exact Cert.GluDxRefIdeal.Product.result_at _ _ _ _

theorem frameGluDxRef : Cert.quiescent_GluDxRefIdeal (hGluDxRefIdeal := Cert.GluDxRefIdeal.Gen.facts) := by
  intro m g _
  exact (θ_run _ _ _).mono (fun r h => ⟨fun c => (h c).2, sem_eq_zero_of_no_sems (by decide) _⟩) (Cert.GluDxRefIdeal.Value.run m g)

theorem gluDw : Cert.algebraic_GluDwIdeal_GluDwRefIdeal (hGluDwIdeal := Cert.GluDwIdeal.Gen.facts)
    (hGluDwRefIdeal := Cert.GluDwRefIdeal.Gen.facts) := by
  intro m g m' g' _ hag
  refine ⟨_, Cert.GluDwIdeal.Value.run_blocks m g,
    (θ_run _ _ _).mono (fun _ h c => ⟨(h c).1.trans ?_, (h c).2⟩) (Cert.GluDwRefIdeal.Value.run m' g')⟩
  rw [Cert.GluDwIdeal.Product.final, Cert.GluDwRefIdeal.Read.val_main_v8_eq, (hag c).1, (hag c).2]
  funext i
  idx_vars i
  exact Cert.GluDwRefIdeal.Product.result_at _ _ _ _ _

theorem frameGluDwRef : Cert.quiescent_GluDwRefIdeal (hGluDwRefIdeal := Cert.GluDwRefIdeal.Gen.facts) := by
  intro m g _
  exact (θ_run _ _ _).mono (fun r h => ⟨fun c => (h c).2, sem_eq_zero_of_no_sems (by decide) _⟩) (Cert.GluDwRefIdeal.Value.run m g)

theorem kvDx : Cert.algebraic_KvDxIdeal_KvDxRefIdeal (hKvDxIdeal := Cert.KvDxIdeal.Gen.facts)
    (hKvDxRefIdeal := Cert.KvDxRefIdeal.Gen.facts) := by
  intro m g m' g' _ hag
  refine ⟨_, Cert.KvDxIdeal.Value.run_blocks m g,
    (θ_run _ _ _).mono (fun _ h c => ⟨(h c).1.trans ?_, (h c).2⟩) (Cert.KvDxRefIdeal.Value.run m' g')⟩
  rw [Cert.KvDxIdeal.Product.final, Cert.KvDxRefIdeal.Read.val_main_v3_eq, (hag c).1, (hag c).2]
  funext i
  idx_vars i
  exact Cert.KvDxRefIdeal.Product.result_at _ _ _ _

theorem frameKvDxRef : Cert.quiescent_KvDxRefIdeal (hKvDxRefIdeal := Cert.KvDxRefIdeal.Gen.facts) := by
  intro m g _
  exact (θ_run _ _ _).mono (fun r h => ⟨fun c => (h c).2, sem_eq_zero_of_no_sems (by decide) _⟩) (Cert.KvDxRefIdeal.Value.run m g)

theorem kvDw : Cert.algebraic_KvDwIdeal_KvDwRefIdeal (hKvDwIdeal := Cert.KvDwIdeal.Gen.facts)
    (hKvDwRefIdeal := Cert.KvDwRefIdeal.Gen.facts) := by
  intro m g m' g' _ hag
  refine ⟨_, Cert.KvDwIdeal.Value.run_blocks m g,
    (θ_run _ _ _).mono (fun _ h c => ⟨(h c).1.trans ?_, (h c).2⟩) (Cert.KvDwRefIdeal.Value.run m' g')⟩
  rw [Cert.KvDwIdeal.Product.final, Cert.KvDwRefIdeal.Read.val_main_v5_eq, (hag c).1, (hag c).2]
  funext i
  idx_vars i
  exact Cert.KvDwRefIdeal.Product.result_at _ _ _ _

theorem frameKvDwRef : Cert.quiescent_KvDwRefIdeal (hKvDwRefIdeal := Cert.KvDwRefIdeal.Gen.facts) := by
  intro m g _
  exact (θ_run _ _ _).mono (fun r h => ⟨fun c => (h c).2, sem_eq_zero_of_no_sems (by decide) _⟩) (Cert.KvDwRefIdeal.Value.run m g)

end Cert.LayerProducts

end
-- ==== Proof.GateDx0.lean ====
/- The gradient of the gates' bottleneck through gate 0. The array the call leaves, as a sum over the arguments, and the reference's result as the same sum. -/
module

public import proofs.«01_k».proof.Proof.Gen.GateDx0Ideal.Value
public import proofs.«01_k».proof.Proof.Gen.GateDx0RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDx0Ideal.Product

open Cert.GateDx0Ideal Cert.GateDx0Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 0 i k)
def bAt (c : Dev nD) (j : Fin 256) (k : Fin 4096) : EReal := (m ((c : Thread nD τ).loc main_arg1) : FVec Ideal S4x256x4096 .bf16) (ix3 0 j k)

/-- The windows' block indices. -/
theorem idx : ∀ t : Fin cfg0.N, win0_0.index t = ![0, t.val / 2, t.val % 2]
    ∧ win0_1.index t = ![0, 0, t.val % 2]
    ∧ win0_2.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2; omega⟩
def colOf (t : Fin cfg0.N) (i : Fin 256) : Fin 256 := i
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 256) (k : Fin 2048) :
    iblk m c 1 t (ix3 0 j k) = bAt m c (colOf t j) (midOf t k) := by
  unfold bAt
  blk_point [iblk, V, idx t, colOf, midOf]

/-- One point's step: the tile so far and the product of the two blocks. -/
theorem step_at (acc : FVec Ideal S1024x256 .f32) (a : FVec Ideal S1x1024x2048 .bf16) (b : FVec Ideal S1x256x2048 .bf16) (i : Fin 1024) (j : Fin 256) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x256.Idx) : EReal :=
  ∑ k : Fin 2048, aAt m c (rowOf t (j 0)) (midOf t k) * bAt m c (colOf t (j 1)) (midOf t k)

theorem step_point (c : Dev nD) (t : Fin cfg0.N) (acc : FVec Ideal S1024x256 .f32) (j : S1024x256.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S1024x256.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 1024) (j : Fin 256) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.GateDx0Ideal.Product

namespace Cert.GateDx0RefIdeal.Product

open Cert.GateDx0RefIdeal Cert.GateDx0RefIdeal.Read Idealize.ShloMosaic Idealize.ShloMosaic.TcCoe Idealize.SL.Sem

/-- The reference's result, entry by entry. -/
theorem result_at (x0 : FVec Ideal S4x4096x4096 .bf16) (x1 : FVec Ideal S4x256x4096 .bf16)
    (i : Fin 4096) (j : Fin 256) :
    val_main_v8 (F := Ideal) x0 x1 (ix2 i j) = ∑ k : Fin 4096, x0 (ix3 0 i k) * x1 (ix3 0 j k) := by
  pointwise [val_main_v8, val_main_v2, val_main_v1, val_main_v0, val_main_v7, val_main_v6, val_main_v5]

end Cert.GateDx0RefIdeal.Product

end
-- ==== Proof.GateDx1.lean ====
/- The gradient of the gates' bottleneck through gate 1, added to that of the gates before it. The array the call leaves, as a sum over the arguments, and the reference's result as the same sum. -/
module

public import proofs.«01_k».proof.Proof.Gen.GateDx1Ideal.Value
public import proofs.«01_k».proof.Proof.Gen.GateDx1RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDx1Ideal.Product

open Cert.GateDx1Ideal Cert.GateDx1Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 1 i k)
def bAt (c : Dev nD) (j : Fin 256) (k : Fin 4096) : EReal := (m ((c : Thread nD τ).loc main_arg1) : FVec Ideal S4x256x4096 .bf16) (ix3 1 j k)
def xAt (c : Dev nD) (i : Fin 4096) (j : Fin 256) : EReal := (m ((c : Thread nD τ).loc main_arg2) : FVec Ideal S4096x256 .f32) (ix2 i j)

/-- The windows' block indices. -/
theorem idx : ∀ t : Fin cfg0.N, win0_0.index t = ![1, t.val / 2, t.val % 2]
    ∧ win0_1.index t = ![1, 0, t.val % 2]
    ∧ win0_2.index t = ![t.val / 2, 0]
    ∧ win0_3.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2.2; omega⟩
def colOf (t : Fin cfg0.N) (i : Fin 256) : Fin 256 := i
def midOf (t : Fin cfg0.N) (i : Fin 2048) : Fin 4096 := ⟨t.val % 2 * 2048 + i.val, by have := (idx t).2.2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 256) (k : Fin 2048) :
    iblk m c 1 t (ix3 0 j k) = bAt m c (colOf t j) (midOf t k) := by
  unfold bAt
  blk_point [iblk, V, idx t, colOf, midOf]

theorem x_block (c : Dev nD) (t : Fin cfg0.N) (i : Fin 1024) (j : Fin 256) :
    iblk m c 2 t (ix2 i j) = xAt m c (rowOf t i) (colOf t j) := by
  unfold xAt
  blk_point [iblk, V, idx t, rowOf, colOf]

/-- One point's step: the tile so far and the product of the two blocks. -/
theorem step_at (acc : FVec Ideal S1024x256 .f32) (a : FVec Ideal S1x1024x2048 .bf16) (b : FVec Ideal S1x256x2048 .bf16) (i : Fin 1024) (j : Fin 256) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x256.Idx) : EReal :=
  ∑ k : Fin 2048, aAt m c (rowOf t (j 0)) (midOf t k) * bAt m c (colOf t (j 1)) (midOf t k)

theorem step_point (c : Dev nD) (t : Fin cfg0.N) (acc : FVec Ideal S1024x256 .f32) (j : S1024x256.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 (iblk m c 2 t) := by
  rw [outsAt0_B m c t (by omega) h]; frame_out

/-- The tile at the last point of its run: the whole sum. -/
theorem acc_last (c : Dev nD) (t : Fin cfg0.N) (h : t.val % 2 = 1) (j : S1024x256.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc x : FVec Ideal S1024x256 .f32) (i : Fin 1024) (j : Fin 256) :
    (k0_pay3 (F := Ideal) acc x (ix2 i j) : EReal) = acc (ix2 i j) + x (ix2 i j) := by
  pointwise [k0_pay3]

theorem out_at (c : Dev nD) (t : Fin cfg0.N) (h : t.val % 2 = 1) (i : Fin 1024) (j : Fin 256) :
    (outsAt0 m c t.val t.isLt).1 (ix2 i j) = xAt m c (rowOf t i) (colOf t j) + ∑ k : Fin 4096, aAt m c (rowOf t i) k * bAt m c (colOf t j) k := by
  rw [out_last m c t h]
  refine (stored_at _ _ i j).trans ?_
  rw [x_block, add_comm]
  exact congrArg _ (acc_last m c t h (ix2 i j))

/-- The array the call leaves. -/
theorem final (c : Dev nD) : (dats m 0 c).arrAt 3 cfg0.N
    = fun i => xAt m c (i 0) (i 1) + ∑ k : Fin 4096, aAt m c (i 0) k * bAt m c (i 1) k := by
  refine (dats m 0 c).arrAt_eq_of_covers 3 _ (by decide +kernel) fun t hf y => ?_
  rw [after0_3]
  idx_vars y
  blk_simp
  refine (out_at m c t ((flush0_3 t).mp hf) y0 y1).trans ?_
  refine congrArg₂ (· + ·) (congrArg₂ _ (Fin.ext ?_) (Fin.ext ?_)) (Finset.sum_congr rfl fun k _ => congrArg₂ (· * ·) (congrArg₂ _ (Fin.ext ?_) rfl) (congrArg₂ _ (Fin.ext ?_) rfl)) <;>
    blk_simp [idx t, rowOf, colOf]

end Cert.GateDx1Ideal.Product

namespace Cert.GateDx1RefIdeal.Product

open Cert.GateDx1RefIdeal Cert.GateDx1RefIdeal.Read Idealize.ShloMosaic Idealize.ShloMosaic.TcCoe Idealize.SL.Sem

/-- The reference's result, entry by entry. -/
theorem result_at (x0 : FVec Ideal S4x4096x4096 .bf16) (x1 : FVec Ideal S4x256x4096 .bf16) (x2 : FVec Ideal S4096x256 .f32)
    (i : Fin 4096) (j : Fin 256) :
    val_main_v9 (F := Ideal) x0 x1 x2 (ix2 i j) = x2 (ix2 i j) + ∑ k : Fin 4096, x0 (ix3 1 i k) * x1 (ix3 1 j k) := by
  pointwise [val_main_v9, val_main_v8, val_main_v2, val_main_v1, val_main_v0, val_main_v7, val_main_v6, val_main_v5]

end Cert.GateDx1RefIdeal.Product

end
-- ==== Proof.GateDx2.lean ====
/- The gradient of the gates' bottleneck through gate 2, added to that of the gates before it. The array the call leaves, as a sum over the arguments, and the reference's result as the same sum. -/
module

public import proofs.«01_k».proof.Proof.Gen.GateDx2Ideal.Value
public import proofs.«01_k».proof.Proof.Gen.GateDx2RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDx2Ideal.Product

open Cert.GateDx2Ideal Cert.GateDx2Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 2 i k)
def bAt (c : Dev nD) (j : Fin 256) (k : Fin 4096) : EReal := (m ((c : Thread nD τ).loc main_arg1) : FVec Ideal S4x256x4096 .bf16) (ix3 2 j k)
def xAt (c : Dev nD) (i : Fin 4096) (j : Fin 256) : EReal := (m ((c : Thread nD τ).loc main_arg2) : FVec Ideal S4096x256 .f32) (ix2 i j)

/-- The windows' block indices. -/
theorem idx : ∀ t : Fin cfg0.N, win0_0.index t = ![2, t.val / 2, t.val % 2]
    ∧ win0_1.index t = ![2, 0, t.val % 2]
    ∧ win0_2.index t = ![t.val / 2, 0]
    ∧ win0_3.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2.2; omega⟩
def colOf (t : Fin cfg0.N) (i : Fin 256) : Fin 256 := i
def midOf (t : Fin cfg0.N) (i : Fin 2048) : Fin 4096 := ⟨t.val % 2 * 2048 + i.val, by have := (idx t).2.2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 256) (k : Fin 2048) :
    iblk m c 1 t (ix3 0 j k) = bAt m c (colOf t j) (midOf t k) := by
  unfold bAt
  blk_point [iblk, V, idx t, colOf, midOf]

theorem x_block (c : Dev nD) (t : Fin cfg0.N) (i : Fin 1024) (j : Fin 256) :
    iblk m c 2 t (ix2 i j) = xAt m c (rowOf t i) (colOf t j) := by
  unfold xAt
  blk_point [iblk, V, idx t, rowOf, colOf]

/-- One point's step: the tile so far and the product of the two blocks. -/
theorem step_at (acc : FVec Ideal S1024x256 .f32) (a : FVec Ideal S1x1024x2048 .bf16) (b : FVec Ideal S1x256x2048 .bf16) (i : Fin 1024) (j : Fin 256) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x256.Idx) : EReal :=
  ∑ k : Fin 2048, aAt m c (rowOf t (j 0)) (midOf t k) * bAt m c (colOf t (j 1)) (midOf t k)

theorem step_point (c : Dev nD) (t : Fin cfg0.N) (acc : FVec Ideal S1024x256 .f32) (j : S1024x256.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 (iblk m c 2 t) := by
  rw [outsAt0_B m c t (by omega) h]; frame_out

/-- The tile at the last point of its run: the whole sum. -/
theorem acc_last (c : Dev nD) (t : Fin cfg0.N) (h : t.val % 2 = 1) (j : S1024x256.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc x : FVec Ideal S1024x256 .f32) (i : Fin 1024) (j : Fin 256) :
    (k0_pay3 (F := Ideal) acc x (ix2 i j) : EReal) = acc (ix2 i j) + x (ix2 i j) := by
  pointwise [k0_pay3]

theorem out_at (c : Dev nD) (t : Fin cfg0.N) (h : t.val % 2 = 1) (i : Fin 1024) (j : Fin 256) :
    (outsAt0 m c t.val t.isLt).1 (ix2 i j) = xAt m c (rowOf t i) (colOf t j) + ∑ k : Fin 4096, aAt m c (rowOf t i) k * bAt m c (colOf t j) k := by
  rw [out_last m c t h]
  refine (stored_at _ _ i j).trans ?_
  rw [x_block, add_comm]
  exact congrArg _ (acc_last m c t h (ix2 i j))

/-- The array the call leaves. -/
theorem final (c : Dev nD) : (dats m 0 c).arrAt 3 cfg0.N
    = fun i => xAt m c (i 0) (i 1) + ∑ k : Fin 4096, aAt m c (i 0) k * bAt m c (i 1) k := by
  refine (dats m 0 c).arrAt_eq_of_covers 3 _ (by decide +kernel) fun t hf y => ?_
  rw [after0_3]
  idx_vars y
  blk_simp
  refine (out_at m c t ((flush0_3 t).mp hf) y0 y1).trans ?_
  refine congrArg₂ (· + ·) (congrArg₂ _ (Fin.ext ?_) (Fin.ext ?_)) (Finset.sum_congr rfl fun k _ => congrArg₂ (· * ·) (congrArg₂ _ (Fin.ext ?_) rfl) (congrArg₂ _ (Fin.ext ?_) rfl)) <;>
    blk_simp [idx t, rowOf, colOf]

end Cert.GateDx2Ideal.Product

namespace Cert.GateDx2RefIdeal.Product

open Cert.GateDx2RefIdeal Cert.GateDx2RefIdeal.Read Idealize.ShloMosaic Idealize.ShloMosaic.TcCoe Idealize.SL.Sem

/-- The reference's result, entry by entry. -/
theorem result_at (x0 : FVec Ideal S4x4096x4096 .bf16) (x1 : FVec Ideal S4x256x4096 .bf16) (x2 : FVec Ideal S4096x256 .f32)
    (i : Fin 4096) (j : Fin 256) :
    val_main_v9 (F := Ideal) x0 x1 x2 (ix2 i j) = x2 (ix2 i j) + ∑ k : Fin 4096, x0 (ix3 2 i k) * x1 (ix3 2 j k) := by
  pointwise [val_main_v9, val_main_v8, val_main_v2, val_main_v1, val_main_v0, val_main_v7, val_main_v6, val_main_v5]

end Cert.GateDx2RefIdeal.Product

end
-- ==== Proof.GateDx3.lean ====
/- The gradient of the gates' bottleneck through gate 3, added to that of the gates before it. The array the call leaves, as a sum over the arguments, and the reference's result as the same sum. -/
module

public import proofs.«01_k».proof.Proof.Gen.GateDx3Ideal.Value
public import proofs.«01_k».proof.Proof.Gen.GateDx3RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDx3Ideal.Product

open Cert.GateDx3Ideal Cert.GateDx3Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 3 i k)
def bAt (c : Dev nD) (j : Fin 256) (k : Fin 4096) : EReal := (m ((c : Thread nD τ).loc main_arg1) : FVec Ideal S4x256x4096 .bf16) (ix3 3 j k)
def xAt (c : Dev nD) (i : Fin 4096) (j : Fin 256) : EReal := (m ((c : Thread nD τ).loc main_arg2) : FVec Ideal S4096x256 .f32) (ix2 i j)

/-- The windows' block indices. -/
theorem idx : ∀ t : Fin cfg0.N, win0_0.index t = ![3, t.val / 2, t.val % 2]
    ∧ win0_1.index t = ![3, 0, t.val % 2]
    ∧ win0_2.index t = ![t.val / 2, 0]
    ∧ win0_3.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2.2; omega⟩
def colOf (t : Fin cfg0.N) (i : Fin 256) : Fin 256 := i
def midOf (t : Fin cfg0.N) (i : Fin 2048) : Fin 4096 := ⟨t.val % 2 * 2048 + i.val, by have := (idx t).2.2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 256) (k : Fin 2048) :
    iblk m c 1 t (ix3 0 j k) = bAt m c (colOf t j) (midOf t k) := by
  unfold bAt
  blk_point [iblk, V, idx t, colOf, midOf]

theorem x_block (c : Dev nD) (t : Fin cfg0.N) (i : Fin 1024) (j : Fin 256) :
    iblk m c 2 t (ix2 i j) = xAt m c (rowOf t i) (colOf t j) := by
  unfold xAt
  blk_point [iblk, V, idx t, rowOf, colOf]

/-- One point's step: the tile so far and the product of the two blocks. -/
theorem step_at (acc : FVec Ideal S1024x256 .f32) (a : FVec Ideal S1x1024x2048 .bf16) (b : FVec Ideal S1x256x2048 .bf16) (i : Fin 1024) (j : Fin 256) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x256.Idx) : EReal :=
  ∑ k : Fin 2048, aAt m c (rowOf t (j 0)) (midOf t k) * bAt m c (colOf t (j 1)) (midOf t k)

theorem step_point (c : Dev nD) (t : Fin cfg0.N) (acc : FVec Ideal S1024x256 .f32) (j : S1024x256.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 (iblk m c 2 t) := by
  rw [outsAt0_B m c t (by omega) h]; frame_out

/-- The tile at the last point of its run: the whole sum. -/
theorem acc_last (c : Dev nD) (t : Fin cfg0.N) (h : t.val % 2 = 1) (j : S1024x256.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc x : FVec Ideal S1024x256 .f32) (i : Fin 1024) (j : Fin 256) :
    (k0_pay3 (F := Ideal) acc x (ix2 i j) : EReal) = acc (ix2 i j) + x (ix2 i j) := by
  pointwise [k0_pay3]

theorem out_at (c : Dev nD) (t : Fin cfg0.N) (h : t.val % 2 = 1) (i : Fin 1024) (j : Fin 256) :
    (outsAt0 m c t.val t.isLt).1 (ix2 i j) = xAt m c (rowOf t i) (colOf t j) + ∑ k : Fin 4096, aAt m c (rowOf t i) k * bAt m c (colOf t j) k := by
  rw [out_last m c t h]
  refine (stored_at _ _ i j).trans ?_
  rw [x_block, add_comm]
  exact congrArg _ (acc_last m c t h (ix2 i j))

/-- The array the call leaves. -/
theorem final (c : Dev nD) : (dats m 0 c).arrAt 3 cfg0.N
    = fun i => xAt m c (i 0) (i 1) + ∑ k : Fin 4096, aAt m c (i 0) k * bAt m c (i 1) k := by
  refine (dats m 0 c).arrAt_eq_of_covers 3 _ (by decide +kernel) fun t hf y => ?_
  rw [after0_3]
  idx_vars y
  blk_simp
  refine (out_at m c t ((flush0_3 t).mp hf) y0 y1).trans ?_
  refine congrArg₂ (· + ·) (congrArg₂ _ (Fin.ext ?_) (Fin.ext ?_)) (Finset.sum_congr rfl fun k _ => congrArg₂ (· * ·) (congrArg₂ _ (Fin.ext ?_) rfl) (congrArg₂ _ (Fin.ext ?_) rfl)) <;>
    blk_simp [idx t, rowOf, colOf]

end Cert.GateDx3Ideal.Product

namespace Cert.GateDx3RefIdeal.Product

open Cert.GateDx3RefIdeal Cert.GateDx3RefIdeal.Read Idealize.ShloMosaic Idealize.ShloMosaic.TcCoe Idealize.SL.Sem

/-- The reference's result, entry by entry. -/
theorem result_at (x0 : FVec Ideal S4x4096x4096 .bf16) (x1 : FVec Ideal S4x256x4096 .bf16) (x2 : FVec Ideal S4096x256 .f32)
    (i : Fin 4096) (j : Fin 256) :
    val_main_v10 (F := Ideal) x0 x1 x2 (ix2 i j) = x2 (ix2 i j) + ∑ k : Fin 4096, x0 (ix3 3 i k) * x1 (ix3 3 j k) := by
  pointwise [val_main_v10, val_main_v9, val_main_v8, val_main_v2, val_main_v1, val_main_v0, val_main_v7, val_main_v6, val_main_v5]

end Cert.GateDx3RefIdeal.Product

end
-- ==== Proof.GateDw0.lean ====
/- The gradient of the weight of gate 0, its columns in four parts. The array the call leaves, as a sum over the arguments, and the reference's result as the same sum. -/
module

public import proofs.«01_k».proof.Proof.Gen.GateDw0Ideal.Value
public import proofs.«01_k».proof.Proof.Gen.GateDw0RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDw0Ideal.Product

open Cert.GateDw0Ideal Cert.GateDw0Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 256) (k : Fin 4096) : EReal := (m ((c : Thread nD τ).loc main_arg0) : FVec Ideal S4096x256 .bf16) (ix2 k i)
def bAt (c : Dev nD) (j : Fin 4096) (k : Fin 4096) : EReal := (m ((c : Thread nD τ).loc main_arg1) : FVec Ideal S4x4096x4096 .bf16) (ix3 0 k j)

/-- The windows' block indices. -/
theorem idx : ∀ t : Fin cfg0.N, win0_0.index t = ![t.val % 2, 0]
    ∧ win0_1.index t = ![0, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 256) : Fin 256 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 256) (k : Fin 2048) :
    iblk m c 0 t (ix2 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S256x1024 .f32) (a : FVec Ideal S2048x256 .bf16) (b : FVec Ideal S1x2048x1024 .bf16) (i : Fin 256) (j : Fin 1024) :
    k0_pay2 acc a b (ix2 i j) = acc (ix2 i j) + ∑ k : Fin 2048, a (ix2 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S256x1024.Idx) : EReal :=
  ∑ k : Fin 2048, aAt m c (rowOf t (j 0)) (midOf t k) * bAt m c (colOf t (j 1)) (midOf t k)

theorem step_point (c : Dev nD) (t : Fin cfg0.N) (acc : FVec Ideal S256x1024 .f32) (j : S256x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S256x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S256x1024 .f32) (i : Fin 256) (j : Fin 1024) :
    (k0_pay3 (F := Ideal) acc (ix3 0 i j) : EReal) = acc (ix2 i j) := by
  pointwise [k0_pay3]

theorem out_at (c : Dev nD) (t : Fin cfg0.N) (h : t.val % 2 = 1) (i : Fin 256) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.GateDw0Ideal.Product

namespace Cert.GateDw0RefIdeal.Product

open Cert.GateDw0RefIdeal Cert.GateDw0RefIdeal.Read Idealize.ShloMosaic Idealize.ShloMosaic.TcCoe Idealize.SL.Sem

/-- The reference's result, entry by entry. -/
theorem result_at (x0 : FVec Ideal S4096x256 .bf16) (x1 : FVec Ideal S4x4096x4096 .bf16)
    (q : Fin 4) (i : Fin 256) (j : Fin 1024) :
    val_main_v10 (F := Ideal) x0 x1 (ix3 q i j) = ∑ k : Fin 4096, x0 (ix2 k i) * x1 (ix3 0 k ⟨q.val * 1024 + j.val, by omega⟩) := by
  have e : val_main_v10 (F := Ideal) x0 x1 (ix3 q i j) = ∑ k : Fin 4096, x1 (ix3 0 k ⟨q.val * 1024 + j.val, by omega⟩) * x0 (ix2 k i) := by
    pointwise [val_main_v10, val_main_v9, val_main_v8, val_main_v7, val_main_v6, val_main_v0, val_main_v5, val_main_v4, val_main_v3]
  exact e.trans (Finset.sum_congr rfl fun k _ => mul_comm _ _)

end Cert.GateDw0RefIdeal.Product

end
-- ==== Proof.GateDw1.lean ====
/- The gradient of the weight of gate 1, its columns in four parts. The array the call leaves, as a sum over the arguments, and the reference's result as the same sum. -/
module

public import proofs.«01_k».proof.Proof.Gen.GateDw1Ideal.Value
public import proofs.«01_k».proof.Proof.Gen.GateDw1RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDw1Ideal.Product

open Cert.GateDw1Ideal Cert.GateDw1Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 256) (k : Fin 4096) : EReal := (m ((c : Thread nD τ).loc main_arg0) : FVec Ideal S4096x256 .bf16) (ix2 k i)
def bAt (c : Dev nD) (j : Fin 4096) (k : Fin 4096) : EReal := (m ((c : Thread nD τ).loc main_arg1) : FVec Ideal S4x4096x4096 .bf16) (ix3 1 k j)

/-- The windows' block indices. -/
theorem idx : ∀ t : Fin cfg0.N, win0_0.index t = ![t.val % 2, 0]
    ∧ win0_1.index t = ![1, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 256) : Fin 256 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 256) (k : Fin 2048) :
    iblk m c 0 t (ix2 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S256x1024 .f32) (a : FVec Ideal S2048x256 .bf16) (b : FVec Ideal S1x2048x1024 .bf16) (i : Fin 256) (j : Fin 1024) :
    k0_pay2 acc a b (ix2 i j) = acc (ix2 i j) + ∑ k : Fin 2048, a (ix2 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S256x1024.Idx) : EReal :=
  ∑ k : Fin 2048, aAt m c (rowOf t (j 0)) (midOf t k) * bAt m c (colOf t (j 1)) (midOf t k)

theorem step_point (c : Dev nD) (t : Fin cfg0.N) (acc : FVec Ideal S256x1024 .f32) (j : S256x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S256x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S256x1024 .f32) (i : Fin 256) (j : Fin 1024) :
    (k0_pay3 (F := Ideal) acc (ix3 0 i j) : EReal) = acc (ix2 i j) := by
  pointwise [k0_pay3]

theorem out_at (c : Dev nD) (t : Fin cfg0.N) (h : t.val % 2 = 1) (i : Fin 256) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.GateDw1Ideal.Product

namespace Cert.GateDw1RefIdeal.Product

open Cert.GateDw1RefIdeal Cert.GateDw1RefIdeal.Read Idealize.ShloMosaic Idealize.ShloMosaic.TcCoe Idealize.SL.Sem

/-- The reference's result, entry by entry. -/
theorem result_at (x0 : FVec Ideal S4096x256 .bf16) (x1 : FVec Ideal S4x4096x4096 .bf16)
    (q : Fin 4) (i : Fin 256) (j : Fin 1024) :
    val_main_v10 (F := Ideal) x0 x1 (ix3 q i j) = ∑ k : Fin 4096, x0 (ix2 k i) * x1 (ix3 1 k ⟨q.val * 1024 + j.val, by omega⟩) := by
  have e : val_main_v10 (F := Ideal) x0 x1 (ix3 q i j) = ∑ k : Fin 4096, x1 (ix3 1 k ⟨q.val * 1024 + j.val, by omega⟩) * x0 (ix2 k i) := by
    pointwise [val_main_v10, val_main_v9, val_main_v8, val_main_v7, val_main_v6, val_main_v0, val_main_v5, val_main_v4, val_main_v3]
  exact e.trans (Finset.sum_congr rfl fun k _ => mul_comm _ _)

end Cert.GateDw1RefIdeal.Product

end
-- ==== Proof.GateDw2.lean ====
/- The gradient of the weight of gate 2, its columns in four parts. The array the call leaves, as a sum over the arguments, and the reference's result as the same sum. -/
module

public import proofs.«01_k».proof.Proof.Gen.GateDw2Ideal.Value
public import proofs.«01_k».proof.Proof.Gen.GateDw2RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDw2Ideal.Product

open Cert.GateDw2Ideal Cert.GateDw2Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 256) (k : Fin 4096) : EReal := (m ((c : Thread nD τ).loc main_arg0) : FVec Ideal S4096x256 .bf16) (ix2 k i)
def bAt (c : Dev nD) (j : Fin 4096) (k : Fin 4096) : EReal := (m ((c : Thread nD τ).loc main_arg1) : FVec Ideal S4x4096x4096 .bf16) (ix3 2 k j)

/-- The windows' block indices. -/
theorem idx : ∀ t : Fin cfg0.N, win0_0.index t = ![t.val % 2, 0]
    ∧ win0_1.index t = ![2, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 256) : Fin 256 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 256) (k : Fin 2048) :
    iblk m c 0 t (ix2 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S256x1024 .f32) (a : FVec Ideal S2048x256 .bf16) (b : FVec Ideal S1x2048x1024 .bf16) (i : Fin 256) (j : Fin 1024) :
    k0_pay2 acc a b (ix2 i j) = acc (ix2 i j) + ∑ k : Fin 2048, a (ix2 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S256x1024.Idx) : EReal :=
  ∑ k : Fin 2048, aAt m c (rowOf t (j 0)) (midOf t k) * bAt m c (colOf t (j 1)) (midOf t k)

theorem step_point (c : Dev nD) (t : Fin cfg0.N) (acc : FVec Ideal S256x1024 .f32) (j : S256x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S256x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S256x1024 .f32) (i : Fin 256) (j : Fin 1024) :
    (k0_pay3 (F := Ideal) acc (ix3 0 i j) : EReal) = acc (ix2 i j) := by
  pointwise [k0_pay3]

theorem out_at (c : Dev nD) (t : Fin cfg0.N) (h : t.val % 2 = 1) (i : Fin 256) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.GateDw2Ideal.Product

namespace Cert.GateDw2RefIdeal.Product

open Cert.GateDw2RefIdeal Cert.GateDw2RefIdeal.Read Idealize.ShloMosaic Idealize.ShloMosaic.TcCoe Idealize.SL.Sem

/-- The reference's result, entry by entry. -/
theorem result_at (x0 : FVec Ideal S4096x256 .bf16) (x1 : FVec Ideal S4x4096x4096 .bf16)
    (q : Fin 4) (i : Fin 256) (j : Fin 1024) :
    val_main_v10 (F := Ideal) x0 x1 (ix3 q i j) = ∑ k : Fin 4096, x0 (ix2 k i) * x1 (ix3 2 k ⟨q.val * 1024 + j.val, by omega⟩) := by
  have e : val_main_v10 (F := Ideal) x0 x1 (ix3 q i j) = ∑ k : Fin 4096, x1 (ix3 2 k ⟨q.val * 1024 + j.val, by omega⟩) * x0 (ix2 k i) := by
    pointwise [val_main_v10, val_main_v9, val_main_v8, val_main_v7, val_main_v6, val_main_v0, val_main_v5, val_main_v4, val_main_v3]
  exact e.trans (Finset.sum_congr rfl fun k _ => mul_comm _ _)

end Cert.GateDw2RefIdeal.Product

end
-- ==== Proof.GateDw3.lean ====
/- The gradient of the weight of gate 3, its columns in four parts. The array the call leaves, as a sum over the arguments, and the reference's result as the same sum. -/
module

public import proofs.«01_k».proof.Proof.Gen.GateDw3Ideal.Value
public import proofs.«01_k».proof.Proof.Gen.GateDw3RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateDw3Ideal.Product

open Cert.GateDw3Ideal Cert.GateDw3Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 256) (k : Fin 4096) : EReal := (m ((c : Thread nD τ).loc main_arg0) : FVec Ideal S4096x256 .bf16) (ix2 k i)
def bAt (c : Dev nD) (j : Fin 4096) (k : Fin 4096) : EReal := (m ((c : Thread nD τ).loc main_arg1) : FVec Ideal S4x4096x4096 .bf16) (ix3 3 k j)

/-- The windows' block indices. -/
theorem idx : ∀ t : Fin cfg0.N, win0_0.index t = ![t.val % 2, 0]
    ∧ win0_1.index t = ![3, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 256) : Fin 256 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 256) (k : Fin 2048) :
    iblk m c 0 t (ix2 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S256x1024 .f32) (a : FVec Ideal S2048x256 .bf16) (b : FVec Ideal S1x2048x1024 .bf16) (i : Fin 256) (j : Fin 1024) :
    k0_pay2 acc a b (ix2 i j) = acc (ix2 i j) + ∑ k : Fin 2048, a (ix2 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S256x1024.Idx) : EReal :=
  ∑ k : Fin 2048, aAt m c (rowOf t (j 0)) (midOf t k) * bAt m c (colOf t (j 1)) (midOf t k)

theorem step_point (c : Dev nD) (t : Fin cfg0.N) (acc : FVec Ideal S256x1024 .f32) (j : S256x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S256x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S256x1024 .f32) (i : Fin 256) (j : Fin 1024) :
    (k0_pay3 (F := Ideal) acc (ix3 0 i j) : EReal) = acc (ix2 i j) := by
  pointwise [k0_pay3]

theorem out_at (c : Dev nD) (t : Fin cfg0.N) (h : t.val % 2 = 1) (i : Fin 256) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.GateDw3Ideal.Product

namespace Cert.GateDw3RefIdeal.Product

open Cert.GateDw3RefIdeal Cert.GateDw3RefIdeal.Read Idealize.ShloMosaic Idealize.ShloMosaic.TcCoe Idealize.SL.Sem

/-- The reference's result, entry by entry. -/
theorem result_at (x0 : FVec Ideal S4096x256 .bf16) (x1 : FVec Ideal S4x4096x4096 .bf16)
    (q : Fin 4) (i : Fin 256) (j : Fin 1024) :
    val_main_v10 (F := Ideal) x0 x1 (ix3 q i j) = ∑ k : Fin 4096, x0 (ix2 k i) * x1 (ix3 3 k ⟨q.val * 1024 + j.val, by omega⟩) := by
  have e : val_main_v10 (F := Ideal) x0 x1 (ix3 q i j) = ∑ k : Fin 4096, x1 (ix3 3 k ⟨q.val * 1024 + j.val, by omega⟩) * x0 (ix2 k i) := by
    pointwise [val_main_v10, val_main_v9, val_main_v8, val_main_v7, val_main_v6, val_main_v0, val_main_v5, val_main_v4, val_main_v3]
  exact e.trans (Finset.sum_congr rfl fun k _ => mul_comm _ _)

end Cert.GateDw3RefIdeal.Product

end
-- ==== Proof.GateProducts.lean ====
/- The backward products of the four gates and the reference give the same results. -/
module

public import proofs.«01_k».proof.Defs
public import proofs.«01_k».proof.Proof.Gen.GateDx0Ideal
public import proofs.«01_k».proof.Proof.Gen.GateDx0RefIdeal
public import proofs.«01_k».proof.Proof.Gen.GateDx0RefIdeal.Run
public import proofs.«01_k».proof.Proof.GateDx0
public import proofs.«01_k».proof.Proof.Gen.GateDx1Ideal
public import proofs.«01_k».proof.Proof.Gen.GateDx1RefIdeal
public import proofs.«01_k».proof.Proof.Gen.GateDx1RefIdeal.Run
public import proofs.«01_k».proof.Proof.GateDx1
public import proofs.«01_k».proof.Proof.Gen.GateDx2Ideal
public import proofs.«01_k».proof.Proof.Gen.GateDx2RefIdeal
public import proofs.«01_k».proof.Proof.Gen.GateDx2RefIdeal.Run
public import proofs.«01_k».proof.Proof.GateDx2
public import proofs.«01_k».proof.Proof.Gen.GateDx3Ideal
public import proofs.«01_k».proof.Proof.Gen.GateDx3RefIdeal
public import proofs.«01_k».proof.Proof.Gen.GateDx3RefIdeal.Run
public import proofs.«01_k».proof.Proof.GateDx3
public import proofs.«01_k».proof.Proof.Gen.GateDw0Ideal
public import proofs.«01_k».proof.Proof.Gen.GateDw0RefIdeal
public import proofs.«01_k».proof.Proof.Gen.GateDw0RefIdeal.Run
public import proofs.«01_k».proof.Proof.GateDw0
public import proofs.«01_k».proof.Proof.Gen.GateDw1Ideal
public import proofs.«01_k».proof.Proof.Gen.GateDw1RefIdeal
public import proofs.«01_k».proof.Proof.Gen.GateDw1RefIdeal.Run
public import proofs.«01_k».proof.Proof.GateDw1
public import proofs.«01_k».proof.Proof.Gen.GateDw2Ideal
public import proofs.«01_k».proof.Proof.Gen.GateDw2RefIdeal
public import proofs.«01_k».proof.Proof.Gen.GateDw2RefIdeal.Run
public import proofs.«01_k».proof.Proof.GateDw2
public import proofs.«01_k».proof.Proof.Gen.GateDw3Ideal
public import proofs.«01_k».proof.Proof.Gen.GateDw3RefIdeal
public import proofs.«01_k».proof.Proof.Gen.GateDw3RefIdeal.Run
public import proofs.«01_k».proof.Proof.GateDw3

@[expose] public section

noncomputable section

namespace Cert.GateProducts

open Idealize.ShloMosaic Idealize.ShloMosaic.TcCoe Idealize.SL.Sem

theorem gateDx0 : Cert.algebraic_GateDx0Ideal_GateDx0RefIdeal (hGateDx0Ideal := Cert.GateDx0Ideal.Gen.facts)
    (hGateDx0RefIdeal := Cert.GateDx0RefIdeal.Gen.facts) := by
  intro m g m' g' _ hag
  refine ⟨_, Cert.GateDx0Ideal.Value.run_blocks m g,
    (θ_run _ _ _).mono (fun _ h c => ⟨(h c).1.trans ?_, (h c).2⟩) (Cert.GateDx0RefIdeal.Value.run m' g')⟩
  rw [Cert.GateDx0Ideal.Product.final, Cert.GateDx0RefIdeal.Read.val_main_v8_eq, (hag c).1, (hag c).2]
  funext i
  idx_vars i
  exact Cert.GateDx0RefIdeal.Product.result_at _ _ _ _

theorem frameGateDx0Ref : Cert.quiescent_GateDx0RefIdeal (hGateDx0RefIdeal := Cert.GateDx0RefIdeal.Gen.facts) := by
  intro m g _
  exact (θ_run _ _ _).mono (fun r h => ⟨fun c => (h c).2, sem_eq_zero_of_no_sems (by decide) _⟩) (Cert.GateDx0RefIdeal.Value.run m g)

theorem gateDx1 : Cert.algebraic_GateDx1Ideal_GateDx1RefIdeal (hGateDx1Ideal := Cert.GateDx1Ideal.Gen.facts)
    (hGateDx1RefIdeal := Cert.GateDx1RefIdeal.Gen.facts) := by
  intro m g m' g' _ hag
  refine ⟨_, Cert.GateDx1Ideal.Value.run_blocks m g,
    (θ_run _ _ _).mono (fun _ h c => ⟨(h c).1.trans ?_, (h c).2⟩) (Cert.GateDx1RefIdeal.Value.run m' g')⟩
  rw [Cert.GateDx1Ideal.Product.final, Cert.GateDx1RefIdeal.Read.val_main_v9_eq, (hag c).1, (hag c).2.1, (hag c).2.2]
  funext i
  idx_vars i
  exact Cert.GateDx1RefIdeal.Product.result_at _ _ _ _ _

theorem frameGateDx1Ref : Cert.quiescent_GateDx1RefIdeal (hGateDx1RefIdeal := Cert.GateDx1RefIdeal.Gen.facts) := by
  intro m g _
  exact (θ_run _ _ _).mono (fun r h => ⟨fun c => (h c).2, sem_eq_zero_of_no_sems (by decide) _⟩) (Cert.GateDx1RefIdeal.Value.run m g)

theorem gateDx2 : Cert.algebraic_GateDx2Ideal_GateDx2RefIdeal (hGateDx2Ideal := Cert.GateDx2Ideal.Gen.facts)
    (hGateDx2RefIdeal := Cert.GateDx2RefIdeal.Gen.facts) := by
  intro m g m' g' _ hag
  refine ⟨_, Cert.GateDx2Ideal.Value.run_blocks m g,
    (θ_run _ _ _).mono (fun _ h c => ⟨(h c).1.trans ?_, (h c).2⟩) (Cert.GateDx2RefIdeal.Value.run m' g')⟩
  rw [Cert.GateDx2Ideal.Product.final, Cert.GateDx2RefIdeal.Read.val_main_v9_eq, (hag c).1, (hag c).2.1, (hag c).2.2]
  funext i
  idx_vars i
  exact Cert.GateDx2RefIdeal.Product.result_at _ _ _ _ _

theorem frameGateDx2Ref : Cert.quiescent_GateDx2RefIdeal (hGateDx2RefIdeal := Cert.GateDx2RefIdeal.Gen.facts) := by
  intro m g _
  exact (θ_run _ _ _).mono (fun r h => ⟨fun c => (h c).2, sem_eq_zero_of_no_sems (by decide) _⟩) (Cert.GateDx2RefIdeal.Value.run m g)

theorem gateDx3 : Cert.algebraic_GateDx3Ideal_GateDx3RefIdeal (hGateDx3Ideal := Cert.GateDx3Ideal.Gen.facts)
    (hGateDx3RefIdeal := Cert.GateDx3RefIdeal.Gen.facts) := by
  intro m g m' g' _ hag
  refine ⟨_, Cert.GateDx3Ideal.Value.run_blocks m g,
    (θ_run _ _ _).mono (fun _ h c => ⟨(h c).1.trans ?_, (h c).2⟩) (Cert.GateDx3RefIdeal.Value.run m' g')⟩
  rw [Cert.GateDx3Ideal.Product.final, Cert.GateDx3RefIdeal.Read.val_main_v10_eq, (hag c).1, (hag c).2.1, (hag c).2.2]
  funext i
  idx_vars i
  exact Cert.GateDx3RefIdeal.Product.result_at _ _ _ _ _

theorem frameGateDx3Ref : Cert.quiescent_GateDx3RefIdeal (hGateDx3RefIdeal := Cert.GateDx3RefIdeal.Gen.facts) := by
  intro m g _
  exact (θ_run _ _ _).mono (fun r h => ⟨fun c => (h c).2, sem_eq_zero_of_no_sems (by decide) _⟩) (Cert.GateDx3RefIdeal.Value.run m g)

theorem gateDw0 : Cert.algebraic_GateDw0Ideal_GateDw0RefIdeal (hGateDw0Ideal := Cert.GateDw0Ideal.Gen.facts)
    (hGateDw0RefIdeal := Cert.GateDw0RefIdeal.Gen.facts) := by
  intro m g m' g' _ hag
  refine ⟨_, Cert.GateDw0Ideal.Value.run_blocks m g,
    (θ_run _ _ _).mono (fun _ h c => ⟨(h c).1.trans ?_, (h c).2⟩) (Cert.GateDw0RefIdeal.Value.run m' g')⟩
  rw [Cert.GateDw0Ideal.Product.final, Cert.GateDw0RefIdeal.Read.val_main_v10_eq, (hag c).1, (hag c).2]
  funext i
  idx_vars i
  exact Cert.GateDw0RefIdeal.Product.result_at _ _ _ _ _

theorem frameGateDw0Ref : Cert.quiescent_GateDw0RefIdeal (hGateDw0RefIdeal := Cert.GateDw0RefIdeal.Gen.facts) := by
  intro m g _
  exact (θ_run _ _ _).mono (fun r h => ⟨fun c => (h c).2, sem_eq_zero_of_no_sems (by decide) _⟩) (Cert.GateDw0RefIdeal.Value.run m g)

theorem gateDw1 : Cert.algebraic_GateDw1Ideal_GateDw1RefIdeal (hGateDw1Ideal := Cert.GateDw1Ideal.Gen.facts)
    (hGateDw1RefIdeal := Cert.GateDw1RefIdeal.Gen.facts) := by
  intro m g m' g' _ hag
  refine ⟨_, Cert.GateDw1Ideal.Value.run_blocks m g,
    (θ_run _ _ _).mono (fun _ h c => ⟨(h c).1.trans ?_, (h c).2⟩) (Cert.GateDw1RefIdeal.Value.run m' g')⟩
  rw [Cert.GateDw1Ideal.Product.final, Cert.GateDw1RefIdeal.Read.val_main_v10_eq, (hag c).1, (hag c).2]
  funext i
  idx_vars i
  exact Cert.GateDw1RefIdeal.Product.result_at _ _ _ _ _

theorem frameGateDw1Ref : Cert.quiescent_GateDw1RefIdeal (hGateDw1RefIdeal := Cert.GateDw1RefIdeal.Gen.facts) := by
  intro m g _
  exact (θ_run _ _ _).mono (fun r h => ⟨fun c => (h c).2, sem_eq_zero_of_no_sems (by decide) _⟩) (Cert.GateDw1RefIdeal.Value.run m g)

theorem gateDw2 : Cert.algebraic_GateDw2Ideal_GateDw2RefIdeal (hGateDw2Ideal := Cert.GateDw2Ideal.Gen.facts)
    (hGateDw2RefIdeal := Cert.GateDw2RefIdeal.Gen.facts) := by
  intro m g m' g' _ hag
  refine ⟨_, Cert.GateDw2Ideal.Value.run_blocks m g,
    (θ_run _ _ _).mono (fun _ h c => ⟨(h c).1.trans ?_, (h c).2⟩) (Cert.GateDw2RefIdeal.Value.run m' g')⟩
  rw [Cert.GateDw2Ideal.Product.final, Cert.GateDw2RefIdeal.Read.val_main_v10_eq, (hag c).1, (hag c).2]
  funext i
  idx_vars i
  exact Cert.GateDw2RefIdeal.Product.result_at _ _ _ _ _

theorem frameGateDw2Ref : Cert.quiescent_GateDw2RefIdeal (hGateDw2RefIdeal := Cert.GateDw2RefIdeal.Gen.facts) := by
  intro m g _
  exact (θ_run _ _ _).mono (fun r h => ⟨fun c => (h c).2, sem_eq_zero_of_no_sems (by decide) _⟩) (Cert.GateDw2RefIdeal.Value.run m g)

theorem gateDw3 : Cert.algebraic_GateDw3Ideal_GateDw3RefIdeal (hGateDw3Ideal := Cert.GateDw3Ideal.Gen.facts)
    (hGateDw3RefIdeal := Cert.GateDw3RefIdeal.Gen.facts) := by
  intro m g m' g' _ hag
  refine ⟨_, Cert.GateDw3Ideal.Value.run_blocks m g,
    (θ_run _ _ _).mono (fun _ h c => ⟨(h c).1.trans ?_, (h c).2⟩) (Cert.GateDw3RefIdeal.Value.run m' g')⟩
  rw [Cert.GateDw3Ideal.Product.final, Cert.GateDw3RefIdeal.Read.val_main_v10_eq, (hag c).1, (hag c).2]
  funext i
  idx_vars i
  exact Cert.GateDw3RefIdeal.Product.result_at _ _ _ _ _

theorem frameGateDw3Ref : Cert.quiescent_GateDw3RefIdeal (hGateDw3RefIdeal := Cert.GateDw3RefIdeal.Gen.facts) := by
  intro m g _
  exact (θ_run _ _ _).mono (fun r h => ⟨fun c => (h c).2, sem_eq_zero_of_no_sems (by decide) _⟩) (Cert.GateDw3RefIdeal.Value.run m g)

end Cert.GateProducts

end
-- ==== Proof.BranchDx0.lean ====
/- The gradient of the output of branch 0 through its projection. The array the call leaves, as a sum over the arguments, and the reference's result as the same sum. -/
module

public import proofs.«01_k».proof.Proof.Gen.BranchDx0Ideal.Value
public import proofs.«01_k».proof.Proof.Gen.BranchDx0RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDx0Ideal.Product

open Cert.BranchDx0Ideal Cert.BranchDx0Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 0 i k)
def bAt (c : Dev nD) (j : Fin 1024) (k : Fin 4096) : EReal := (m ((c : Thread nD τ).loc main_arg1) : FVec Ideal S4x1024x4096 .bf16) (ix3 0 j k)

/-- The windows' block indices. -/
theorem idx : ∀ t : Fin cfg0.N, win0_0.index t = ![0, t.val / 2, t.val % 2]
    ∧ win0_1.index t = ![0, 0, t.val % 2]
    ∧ win0_2.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2; omega⟩
def colOf (t : Fin cfg0.N) (i : Fin 1024) : Fin 1024 := i
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1x1024x2048 .bf16) (b : FVec Ideal S1x1024x2048 .bf16) (i : Fin 1024) (j : Fin 1024) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 1024) (j : Fin 1024) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDx0Ideal.Product

namespace Cert.BranchDx0RefIdeal.Product

open Cert.BranchDx0RefIdeal Cert.BranchDx0RefIdeal.Read Idealize.ShloMosaic Idealize.ShloMosaic.TcCoe Idealize.SL.Sem

/-- The reference's result, entry by entry. -/
theorem result_at (x0 : FVec Ideal S4x4096x4096 .bf16) (x1 : FVec Ideal S4x1024x4096 .bf16)
    (i : Fin 4096) (j : Fin 1024) :
    val_main_v8 (F := Ideal) x0 x1 (ix2 i j) = ∑ k : Fin 4096, x0 (ix3 0 i k) * x1 (ix3 0 j k) := by
  pointwise [val_main_v8, val_main_v2, val_main_v1, val_main_v0, val_main_v7, val_main_v6, val_main_v5]

end Cert.BranchDx0RefIdeal.Product

end
-- ==== Proof.BranchDx1.lean ====
/- The gradient of the output of branch 1 through its projection. The array the call leaves, as a sum over the arguments, and the reference's result as the same sum. -/
module

public import proofs.«01_k».proof.Proof.Gen.BranchDx1Ideal.Value
public import proofs.«01_k».proof.Proof.Gen.BranchDx1RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDx1Ideal.Product

open Cert.BranchDx1Ideal Cert.BranchDx1Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 1 i k)
def bAt (c : Dev nD) (j : Fin 1024) (k : Fin 4096) : EReal := (m ((c : Thread nD τ).loc main_arg1) : FVec Ideal S4x1024x4096 .bf16) (ix3 1 j k)

/-- The windows' block indices. -/
theorem idx : ∀ t : Fin cfg0.N, win0_0.index t = ![1, t.val / 2, t.val % 2]
    ∧ win0_1.index t = ![1, 0, t.val % 2]
    ∧ win0_2.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2; omega⟩
def colOf (t : Fin cfg0.N) (i : Fin 1024) : Fin 1024 := i
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1x1024x2048 .bf16) (b : FVec Ideal S1x1024x2048 .bf16) (i : Fin 1024) (j : Fin 1024) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 1024) (j : Fin 1024) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDx1Ideal.Product

namespace Cert.BranchDx1RefIdeal.Product

open Cert.BranchDx1RefIdeal Cert.BranchDx1RefIdeal.Read Idealize.ShloMosaic Idealize.ShloMosaic.TcCoe Idealize.SL.Sem

/-- The reference's result, entry by entry. -/
theorem result_at (x0 : FVec Ideal S4x4096x4096 .bf16) (x1 : FVec Ideal S4x1024x4096 .bf16)
    (i : Fin 4096) (j : Fin 1024) :
    val_main_v8 (F := Ideal) x0 x1 (ix2 i j) = ∑ k : Fin 4096, x0 (ix3 1 i k) * x1 (ix3 1 j k) := by
  pointwise [val_main_v8, val_main_v2, val_main_v1, val_main_v0, val_main_v7, val_main_v6, val_main_v5]

end Cert.BranchDx1RefIdeal.Product

end
-- ==== Proof.BranchDx2.lean ====
/- The gradient of the output of branch 2 through its projection. The array the call leaves, as a sum over the arguments, and the reference's result as the same sum. -/
module

public import proofs.«01_k».proof.Proof.Gen.BranchDx2Ideal.Value
public import proofs.«01_k».proof.Proof.Gen.BranchDx2RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDx2Ideal.Product

open Cert.BranchDx2Ideal Cert.BranchDx2Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 2 i k)
def bAt (c : Dev nD) (j : Fin 1024) (k : Fin 4096) : EReal := (m ((c : Thread nD τ).loc main_arg1) : FVec Ideal S4x1024x4096 .bf16) (ix3 2 j k)

/-- The windows' block indices. -/
theorem idx : ∀ t : Fin cfg0.N, win0_0.index t = ![2, t.val / 2, t.val % 2]
    ∧ win0_1.index t = ![2, 0, t.val % 2]
    ∧ win0_2.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2; omega⟩
def colOf (t : Fin cfg0.N) (i : Fin 1024) : Fin 1024 := i
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1x1024x2048 .bf16) (b : FVec Ideal S1x1024x2048 .bf16) (i : Fin 1024) (j : Fin 1024) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 1024) (j : Fin 1024) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDx2Ideal.Product

namespace Cert.BranchDx2RefIdeal.Product

open Cert.BranchDx2RefIdeal Cert.BranchDx2RefIdeal.Read Idealize.ShloMosaic Idealize.ShloMosaic.TcCoe Idealize.SL.Sem

/-- The reference's result, entry by entry. -/
theorem result_at (x0 : FVec Ideal S4x4096x4096 .bf16) (x1 : FVec Ideal S4x1024x4096 .bf16)
    (i : Fin 4096) (j : Fin 1024) :
    val_main_v8 (F := Ideal) x0 x1 (ix2 i j) = ∑ k : Fin 4096, x0 (ix3 2 i k) * x1 (ix3 2 j k) := by
  pointwise [val_main_v8, val_main_v2, val_main_v1, val_main_v0, val_main_v7, val_main_v6, val_main_v5]

end Cert.BranchDx2RefIdeal.Product

end
-- ==== Proof.BranchDx3.lean ====
/- The gradient of the output of branch 3 through its projection. The array the call leaves, as a sum over the arguments, and the reference's result as the same sum. -/
module

public import proofs.«01_k».proof.Proof.Gen.BranchDx3Ideal.Value
public import proofs.«01_k».proof.Proof.Gen.BranchDx3RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDx3Ideal.Product

open Cert.BranchDx3Ideal Cert.BranchDx3Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4x4096x4096 .bf16) (ix3 3 i k)
def bAt (c : Dev nD) (j : Fin 1024) (k : Fin 4096) : EReal := (m ((c : Thread nD τ).loc main_arg1) : FVec Ideal S4x1024x4096 .bf16) (ix3 3 j k)

/-- The windows' block indices. -/
theorem idx : ∀ t : Fin cfg0.N, win0_0.index t = ![3, t.val / 2, t.val % 2]
    ∧ win0_1.index t = ![3, 0, t.val % 2]
    ∧ win0_2.index t = ![t.val / 2, 0]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2; omega⟩
def colOf (t : Fin cfg0.N) (i : Fin 1024) : Fin 1024 := i
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 j k) = bAt m c (colOf t j) (midOf t k) := by
  unfold bAt
  blk_point [iblk, V, idx t, colOf, midOf]

/-- One point's step: the tile so far and the product of the two blocks. -/
theorem step_at (acc : FVec Ideal S1024x1024 .f32) (a : FVec Ideal S1x1024x2048 .bf16) (b : FVec Ideal S1x1024x2048 .bf16) (i : Fin 1024) (j : Fin 1024) :
    k0_pay2 acc a b (ix2 i j) = acc (ix2 i j) + ∑ k : Fin 2048, a (ix3 0 i k) * b (ix3 0 j k) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 1024) (j : Fin 1024) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDx3Ideal.Product

namespace Cert.BranchDx3RefIdeal.Product

open Cert.BranchDx3RefIdeal Cert.BranchDx3RefIdeal.Read Idealize.ShloMosaic Idealize.ShloMosaic.TcCoe Idealize.SL.Sem

/-- The reference's result, entry by entry. -/
theorem result_at (x0 : FVec Ideal S4x4096x4096 .bf16) (x1 : FVec Ideal S4x1024x4096 .bf16)
    (i : Fin 4096) (j : Fin 1024) :
    val_main_v8 (F := Ideal) x0 x1 (ix2 i j) = ∑ k : Fin 4096, x0 (ix3 3 i k) * x1 (ix3 3 j k) := by
  pointwise [val_main_v8, val_main_v2, val_main_v1, val_main_v0, val_main_v7, val_main_v6, val_main_v5]

end Cert.BranchDx3RefIdeal.Product

end
-- ==== Proof.BranchDw0.lean ====
/- The gradient of the projection's weight of branch 0, its columns in four parts. The array the call leaves, as a sum over the arguments, and the reference's result as the same sum. -/
module

public import proofs.«01_k».proof.Proof.Gen.BranchDw0Ideal.Value
public import proofs.«01_k».proof.Proof.Gen.BranchDw0RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDw0Ideal.Product

open Cert.BranchDw0Ideal Cert.BranchDw0Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 1024) (k : Fin 4096) : EReal := (m ((c : Thread nD τ).loc main_arg0) : FVec Ideal S4x4096x1024 .bf16) (ix3 0 k i)
def bAt (c : Dev nD) (j : Fin 4096) (k : Fin 4096) : EReal := (m ((c : Thread nD τ).loc main_arg1) : FVec Ideal S4x4096x4096 .bf16) (ix3 0 k j)

/-- The windows' block indices. -/
theorem idx : ∀ t : Fin cfg0.N, win0_0.index t = ![0, t.val % 2, 0]
    ∧ win0_1.index t = ![0, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 1024) : Fin 1024 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S1024x1024 .f32) (a : FVec Ideal S1x2048x1024 .bf16) (b : FVec Ideal S1x2048x1024 .bf16) (i : Fin 1024) (j : Fin 1024) :
    k0_pay2 acc a b (ix2 i j) = acc (ix2 i j) + ∑ k : Fin 2048, a (ix3 0 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x1024 .f32) (i : Fin 1024) (j : Fin 1024) :
    (k0_pay3 (F := Ideal) acc (ix3 0 i j) : EReal) = acc (ix2 i j) := by
  pointwise [k0_pay3]

theorem out_at (c : Dev nD) (t : Fin cfg0.N) (h : t.val % 2 = 1) (i : Fin 1024) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDw0Ideal.Product

namespace Cert.BranchDw0RefIdeal.Product

open Cert.BranchDw0RefIdeal Cert.BranchDw0RefIdeal.Read Idealize.ShloMosaic Idealize.ShloMosaic.TcCoe Idealize.SL.Sem

/-- The reference's result, entry by entry. -/
theorem result_at (x0 : FVec Ideal S4x4096x1024 .bf16) (x1 : FVec Ideal S4x4096x4096 .bf16)
    (q : Fin 4) (i : Fin 1024) (j : Fin 1024) :
    val_main_v12 (F := Ideal) x0 x1 (ix3 q i j) = ∑ k : Fin 4096, x0 (ix3 0 k i) * x1 (ix3 0 k ⟨q.val * 1024 + j.val, by omega⟩) := by
  have e : val_main_v12 (F := Ideal) x0 x1 (ix3 q i j) = ∑ k : Fin 4096, x1 (ix3 0 k ⟨q.val * 1024 + j.val, by omega⟩) * x0 (ix3 0 k i) := by
    pointwise [val_main_v12, val_main_v11, val_main_v10, val_main_v9, val_main_v8, val_main_v2, val_main_v1, val_main_v0, val_main_v7, val_main_v6, val_main_v5]
  exact e.trans (Finset.sum_congr rfl fun k _ => mul_comm _ _)

end Cert.BranchDw0RefIdeal.Product

end
-- ==== Proof.BranchDw1.lean ====
/- The gradient of the projection's weight of branch 1, its columns in four parts. The array the call leaves, as a sum over the arguments, and the reference's result as the same sum. -/
module

public import proofs.«01_k».proof.Proof.Gen.BranchDw1Ideal.Value
public import proofs.«01_k».proof.Proof.Gen.BranchDw1RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDw1Ideal.Product

open Cert.BranchDw1Ideal Cert.BranchDw1Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 1024) (k : Fin 4096) : EReal := (m ((c : Thread nD τ).loc main_arg0) : FVec Ideal S4x4096x1024 .bf16) (ix3 1 k i)
def bAt (c : Dev nD) (j : Fin 4096) (k : Fin 4096) : EReal := (m ((c : Thread nD τ).loc main_arg1) : FVec Ideal S4x4096x4096 .bf16) (ix3 1 k j)

/-- The windows' block indices. -/
theorem idx : ∀ t : Fin cfg0.N, win0_0.index t = ![1, t.val % 2, 0]
    ∧ win0_1.index t = ![1, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 1024) : Fin 1024 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S1024x1024 .f32) (a : FVec Ideal S1x2048x1024 .bf16) (b : FVec Ideal S1x2048x1024 .bf16) (i : Fin 1024) (j : Fin 1024) :
    k0_pay2 acc a b (ix2 i j) = acc (ix2 i j) + ∑ k : Fin 2048, a (ix3 0 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x1024 .f32) (i : Fin 1024) (j : Fin 1024) :
    (k0_pay3 (F := Ideal) acc (ix3 0 i j) : EReal) = acc (ix2 i j) := by
  pointwise [k0_pay3]

theorem out_at (c : Dev nD) (t : Fin cfg0.N) (h : t.val % 2 = 1) (i : Fin 1024) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDw1Ideal.Product

namespace Cert.BranchDw1RefIdeal.Product

open Cert.BranchDw1RefIdeal Cert.BranchDw1RefIdeal.Read Idealize.ShloMosaic Idealize.ShloMosaic.TcCoe Idealize.SL.Sem

/-- The reference's result, entry by entry. -/
theorem result_at (x0 : FVec Ideal S4x4096x1024 .bf16) (x1 : FVec Ideal S4x4096x4096 .bf16)
    (q : Fin 4) (i : Fin 1024) (j : Fin 1024) :
    val_main_v12 (F := Ideal) x0 x1 (ix3 q i j) = ∑ k : Fin 4096, x0 (ix3 1 k i) * x1 (ix3 1 k ⟨q.val * 1024 + j.val, by omega⟩) := by
  have e : val_main_v12 (F := Ideal) x0 x1 (ix3 q i j) = ∑ k : Fin 4096, x1 (ix3 1 k ⟨q.val * 1024 + j.val, by omega⟩) * x0 (ix3 1 k i) := by
    pointwise [val_main_v12, val_main_v11, val_main_v10, val_main_v9, val_main_v8, val_main_v2, val_main_v1, val_main_v0, val_main_v7, val_main_v6, val_main_v5]
  exact e.trans (Finset.sum_congr rfl fun k _ => mul_comm _ _)

end Cert.BranchDw1RefIdeal.Product

end
-- ==== Proof.BranchDw2.lean ====
/- The gradient of the projection's weight of branch 2, its columns in four parts. The array the call leaves, as a sum over the arguments, and the reference's result as the same sum. -/
module

public import proofs.«01_k».proof.Proof.Gen.BranchDw2Ideal.Value
public import proofs.«01_k».proof.Proof.Gen.BranchDw2RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDw2Ideal.Product

open Cert.BranchDw2Ideal Cert.BranchDw2Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 1024) (k : Fin 4096) : EReal := (m ((c : Thread nD τ).loc main_arg0) : FVec Ideal S4x4096x1024 .bf16) (ix3 2 k i)
def bAt (c : Dev nD) (j : Fin 4096) (k : Fin 4096) : EReal := (m ((c : Thread nD τ).loc main_arg1) : FVec Ideal S4x4096x4096 .bf16) (ix3 2 k j)

/-- The windows' block indices. -/
theorem idx : ∀ t : Fin cfg0.N, win0_0.index t = ![2, t.val % 2, 0]
    ∧ win0_1.index t = ![2, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 1024) : Fin 1024 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S1024x1024 .f32) (a : FVec Ideal S1x2048x1024 .bf16) (b : FVec Ideal S1x2048x1024 .bf16) (i : Fin 1024) (j : Fin 1024) :
    k0_pay2 acc a b (ix2 i j) = acc (ix2 i j) + ∑ k : Fin 2048, a (ix3 0 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x1024 .f32) (i : Fin 1024) (j : Fin 1024) :
    (k0_pay3 (F := Ideal) acc (ix3 0 i j) : EReal) = acc (ix2 i j) := by
  pointwise [k0_pay3]

theorem out_at (c : Dev nD) (t : Fin cfg0.N) (h : t.val % 2 = 1) (i : Fin 1024) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDw2Ideal.Product

namespace Cert.BranchDw2RefIdeal.Product

open Cert.BranchDw2RefIdeal Cert.BranchDw2RefIdeal.Read Idealize.ShloMosaic Idealize.ShloMosaic.TcCoe Idealize.SL.Sem

/-- The reference's result, entry by entry. -/
theorem result_at (x0 : FVec Ideal S4x4096x1024 .bf16) (x1 : FVec Ideal S4x4096x4096 .bf16)
    (q : Fin 4) (i : Fin 1024) (j : Fin 1024) :
    val_main_v12 (F := Ideal) x0 x1 (ix3 q i j) = ∑ k : Fin 4096, x0 (ix3 2 k i) * x1 (ix3 2 k ⟨q.val * 1024 + j.val, by omega⟩) := by
  have e : val_main_v12 (F := Ideal) x0 x1 (ix3 q i j) = ∑ k : Fin 4096, x1 (ix3 2 k ⟨q.val * 1024 + j.val, by omega⟩) * x0 (ix3 2 k i) := by
    pointwise [val_main_v12, val_main_v11, val_main_v10, val_main_v9, val_main_v8, val_main_v2, val_main_v1, val_main_v0, val_main_v7, val_main_v6, val_main_v5]
  exact e.trans (Finset.sum_congr rfl fun k _ => mul_comm _ _)

end Cert.BranchDw2RefIdeal.Product

end
-- ==== Proof.BranchDw3.lean ====
/- The gradient of the projection's weight of branch 3, its columns in four parts. The array the call leaves, as a sum over the arguments, and the reference's result as the same sum. -/
module

public import proofs.«01_k».proof.Proof.Gen.BranchDw3Ideal.Value
public import proofs.«01_k».proof.Proof.Gen.BranchDw3RefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BranchDw3Ideal.Product

open Cert.BranchDw3Ideal Cert.BranchDw3Ideal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 1024) (k : Fin 4096) : EReal := (m ((c : Thread nD τ).loc main_arg0) : FVec Ideal S4x4096x1024 .bf16) (ix3 3 k i)
def bAt (c : Dev nD) (j : Fin 4096) (k : Fin 4096) : EReal := (m ((c : Thread nD τ).loc main_arg1) : FVec Ideal S4x4096x4096 .bf16) (ix3 3 k j)

/-- The windows' block indices. -/
theorem idx : ∀ t : Fin cfg0.N, win0_0.index t = ![3, t.val % 2, 0]
    ∧ win0_1.index t = ![3, t.val % 2, t.val / 2]
    ∧ win0_2.index t = ![t.val / 2, 0, 0]
    ∧ t.val < 8 :=
  (by decide +kernel : ∀ t : Fin grid0.N, _)

/-- The row, the column and the place in the sum that an entry of a point's blocks is. -/
def rowOf (t : Fin cfg0.N) (i : Fin 1024) : Fin 1024 := i
def colOf (t : Fin cfg0.N) (i : Fin 1024) : Fin 4096 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix3 0 k i) = aAt m c (rowOf t i) (midOf t k) := by
  unfold aAt
  blk_point [iblk, V, idx t, rowOf, midOf]

theorem b_block (c : Dev nD) (t : Fin cfg0.N) (j : Fin 1024) (k : Fin 2048) :
    iblk m c 1 t (ix3 0 k j) = bAt m c (colOf t j) (midOf t k) := by
  unfold bAt
  blk_point [iblk, V, idx t, colOf, midOf]

/-- One point's step: the tile so far and the product of the two blocks. -/
theorem step_at (acc : FVec Ideal S1024x1024 .f32) (a : FVec Ideal S1x2048x1024 .bf16) (b : FVec Ideal S1x2048x1024 .bf16) (i : Fin 1024) (j : Fin 1024) :
    k0_pay2 acc a b (ix2 i j) = acc (ix2 i j) + ∑ k : Fin 2048, a (ix3 0 k i) * b (ix3 0 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc : FVec Ideal S1024x1024 .f32) (i : Fin 1024) (j : Fin 1024) :
    (k0_pay3 (F := Ideal) acc (ix3 0 i j) : EReal) = acc (ix2 i j) := by
  pointwise [k0_pay3]

theorem out_at (c : Dev nD) (t : Fin cfg0.N) (h : t.val % 2 = 1) (i : Fin 1024) (j : Fin 1024) :
    (outsAt0 m c t.val t.isLt).1 (ix3 0 i j) = ∑ k : Fin 4096, aAt m c (rowOf t i) k * bAt m c (colOf t j) k := by
  rw [out_last m c t h]
  exact (stored_at _ i j).trans (acc_last m c t h (ix2 i j))

/-- The array the call leaves. -/
theorem final (c : Dev nD) : (dats m 0 c).arrAt 2 cfg0.N
    = fun i => ∑ k : Fin 4096, aAt m c (i 1) k * bAt m c (⟨(i 0).val * 1024 + (i 2).val, by have h0 : (i 0).val < 4 := (i 0).isLt; have h2 : (i 2).val < 1024 := (i 2).isLt; omega⟩) k := by
  refine (dats m 0 c).arrAt_eq_of_covers 2 _ (by decide +kernel) fun t hf y => ?_
  rw [after0_2]
  idx_vars y
  blk_simp
  obtain rfl : y0 = 0 := Subsingleton.elim _ _
  refine (out_at m c t ((flush0_2 t).mp hf) y1 y2).trans ?_
  refine Finset.sum_congr rfl fun k _ => congrArg₂ (· * ·) (congrArg₂ _ (Fin.ext ?_) rfl) (congrArg₂ _ (Fin.ext ?_) rfl) <;>
    blk_simp [idx t, rowOf, colOf]

end Cert.BranchDw3Ideal.Product

namespace Cert.BranchDw3RefIdeal.Product

open Cert.BranchDw3RefIdeal Cert.BranchDw3RefIdeal.Read Idealize.ShloMosaic Idealize.ShloMosaic.TcCoe Idealize.SL.Sem

/-- The reference's result, entry by entry. -/
theorem result_at (x0 : FVec Ideal S4x4096x1024 .bf16) (x1 : FVec Ideal S4x4096x4096 .bf16)
    (q : Fin 4) (i : Fin 1024) (j : Fin 1024) :
    val_main_v12 (F := Ideal) x0 x1 (ix3 q i j) = ∑ k : Fin 4096, x0 (ix3 3 k i) * x1 (ix3 3 k ⟨q.val * 1024 + j.val, by omega⟩) := by
  have e : val_main_v12 (F := Ideal) x0 x1 (ix3 q i j) = ∑ k : Fin 4096, x1 (ix3 3 k ⟨q.val * 1024 + j.val, by omega⟩) * x0 (ix3 3 k i) := by
    pointwise [val_main_v12, val_main_v11, val_main_v10, val_main_v9, val_main_v8, val_main_v2, val_main_v1, val_main_v0, val_main_v7, val_main_v6, val_main_v5]
  exact e.trans (Finset.sum_congr rfl fun k _ => mul_comm _ _)

end Cert.BranchDw3RefIdeal.Product

end
-- ==== Proof.BranchProducts.lean ====
/- The backward products of the four branch projections and the reference give the same results. -/
module

public import proofs.«01_k».proof.Defs
public import proofs.«01_k».proof.Proof.Gen.BranchDx0Ideal
public import proofs.«01_k».proof.Proof.Gen.BranchDx0RefIdeal
public import proofs.«01_k».proof.Proof.Gen.BranchDx0RefIdeal.Run
public import proofs.«01_k».proof.Proof.BranchDx0
public import proofs.«01_k».proof.Proof.Gen.BranchDx1Ideal
public import proofs.«01_k».proof.Proof.Gen.BranchDx1RefIdeal
public import proofs.«01_k».proof.Proof.Gen.BranchDx1RefIdeal.Run
public import proofs.«01_k».proof.Proof.BranchDx1
public import proofs.«01_k».proof.Proof.Gen.BranchDx2Ideal
public import proofs.«01_k».proof.Proof.Gen.BranchDx2RefIdeal
public import proofs.«01_k».proof.Proof.Gen.BranchDx2RefIdeal.Run
public import proofs.«01_k».proof.Proof.BranchDx2
public import proofs.«01_k».proof.Proof.Gen.BranchDx3Ideal
public import proofs.«01_k».proof.Proof.Gen.BranchDx3RefIdeal
public import proofs.«01_k».proof.Proof.Gen.BranchDx3RefIdeal.Run
public import proofs.«01_k».proof.Proof.BranchDx3
public import proofs.«01_k».proof.Proof.Gen.BranchDw0Ideal
public import proofs.«01_k».proof.Proof.Gen.BranchDw0RefIdeal
public import proofs.«01_k».proof.Proof.Gen.BranchDw0RefIdeal.Run
public import proofs.«01_k».proof.Proof.BranchDw0
public import proofs.«01_k».proof.Proof.Gen.BranchDw1Ideal
public import proofs.«01_k».proof.Proof.Gen.BranchDw1RefIdeal
public import proofs.«01_k».proof.Proof.Gen.BranchDw1RefIdeal.Run
public import proofs.«01_k».proof.Proof.BranchDw1
public import proofs.«01_k».proof.Proof.Gen.BranchDw2Ideal
public import proofs.«01_k».proof.Proof.Gen.BranchDw2RefIdeal
public import proofs.«01_k».proof.Proof.Gen.BranchDw2RefIdeal.Run
public import proofs.«01_k».proof.Proof.BranchDw2
public import proofs.«01_k».proof.Proof.Gen.BranchDw3Ideal
public import proofs.«01_k».proof.Proof.Gen.BranchDw3RefIdeal
public import proofs.«01_k».proof.Proof.Gen.BranchDw3RefIdeal.Run
public import proofs.«01_k».proof.Proof.BranchDw3

@[expose] public section

noncomputable section

namespace Cert.BranchProducts

open Idealize.ShloMosaic Idealize.ShloMosaic.TcCoe Idealize.SL.Sem

theorem branchDx0 : Cert.algebraic_BranchDx0Ideal_BranchDx0RefIdeal (hBranchDx0Ideal := Cert.BranchDx0Ideal.Gen.facts)
    (hBranchDx0RefIdeal := Cert.BranchDx0RefIdeal.Gen.facts) := by
  intro m g m' g' _ hag
  refine ⟨_, Cert.BranchDx0Ideal.Value.run_blocks m g,
    (θ_run _ _ _).mono (fun _ h c => ⟨(h c).1.trans ?_, (h c).2⟩) (Cert.BranchDx0RefIdeal.Value.run m' g')⟩
  rw [Cert.BranchDx0Ideal.Product.final, Cert.BranchDx0RefIdeal.Read.val_main_v8_eq, (hag c).1, (hag c).2]
  funext i
  idx_vars i
  exact Cert.BranchDx0RefIdeal.Product.result_at _ _ _ _

theorem frameBranchDx0Ref : Cert.quiescent_BranchDx0RefIdeal (hBranchDx0RefIdeal := Cert.BranchDx0RefIdeal.Gen.facts) := by
  intro m g _
  exact (θ_run _ _ _).mono (fun r h => ⟨fun c => (h c).2, sem_eq_zero_of_no_sems (by decide) _⟩) (Cert.BranchDx0RefIdeal.Value.run m g)

theorem branchDx1 : Cert.algebraic_BranchDx1Ideal_BranchDx1RefIdeal (hBranchDx1Ideal := Cert.BranchDx1Ideal.Gen.facts)
    (hBranchDx1RefIdeal := Cert.BranchDx1RefIdeal.Gen.facts) := by
  intro m g m' g' _ hag
  refine ⟨_, Cert.BranchDx1Ideal.Value.run_blocks m g,
    (θ_run _ _ _).mono (fun _ h c => ⟨(h c).1.trans ?_, (h c).2⟩) (Cert.BranchDx1RefIdeal.Value.run m' g')⟩
  rw [Cert.BranchDx1Ideal.Product.final, Cert.BranchDx1RefIdeal.Read.val_main_v8_eq, (hag c).1, (hag c).2]
  funext i
  idx_vars i
  exact Cert.BranchDx1RefIdeal.Product.result_at _ _ _ _

theorem frameBranchDx1Ref : Cert.quiescent_BranchDx1RefIdeal (hBranchDx1RefIdeal := Cert.BranchDx1RefIdeal.Gen.facts) := by
  intro m g _
  exact (θ_run _ _ _).mono (fun r h => ⟨fun c => (h c).2, sem_eq_zero_of_no_sems (by decide) _⟩) (Cert.BranchDx1RefIdeal.Value.run m g)

theorem branchDx2 : Cert.algebraic_BranchDx2Ideal_BranchDx2RefIdeal (hBranchDx2Ideal := Cert.BranchDx2Ideal.Gen.facts)
    (hBranchDx2RefIdeal := Cert.BranchDx2RefIdeal.Gen.facts) := by
  intro m g m' g' _ hag
  refine ⟨_, Cert.BranchDx2Ideal.Value.run_blocks m g,
    (θ_run _ _ _).mono (fun _ h c => ⟨(h c).1.trans ?_, (h c).2⟩) (Cert.BranchDx2RefIdeal.Value.run m' g')⟩
  rw [Cert.BranchDx2Ideal.Product.final, Cert.BranchDx2RefIdeal.Read.val_main_v8_eq, (hag c).1, (hag c).2]
  funext i
  idx_vars i
  exact Cert.BranchDx2RefIdeal.Product.result_at _ _ _ _

theorem frameBranchDx2Ref : Cert.quiescent_BranchDx2RefIdeal (hBranchDx2RefIdeal := Cert.BranchDx2RefIdeal.Gen.facts) := by
  intro m g _
  exact (θ_run _ _ _).mono (fun r h => ⟨fun c => (h c).2, sem_eq_zero_of_no_sems (by decide) _⟩) (Cert.BranchDx2RefIdeal.Value.run m g)

theorem branchDx3 : Cert.algebraic_BranchDx3Ideal_BranchDx3RefIdeal (hBranchDx3Ideal := Cert.BranchDx3Ideal.Gen.facts)
    (hBranchDx3RefIdeal := Cert.BranchDx3RefIdeal.Gen.facts) := by
  intro m g m' g' _ hag
  refine ⟨_, Cert.BranchDx3Ideal.Value.run_blocks m g,
    (θ_run _ _ _).mono (fun _ h c => ⟨(h c).1.trans ?_, (h c).2⟩) (Cert.BranchDx3RefIdeal.Value.run m' g')⟩
  rw [Cert.BranchDx3Ideal.Product.final, Cert.BranchDx3RefIdeal.Read.val_main_v8_eq, (hag c).1, (hag c).2]
  funext i
  idx_vars i
  exact Cert.BranchDx3RefIdeal.Product.result_at _ _ _ _

theorem frameBranchDx3Ref : Cert.quiescent_BranchDx3RefIdeal (hBranchDx3RefIdeal := Cert.BranchDx3RefIdeal.Gen.facts) := by
  intro m g _
  exact (θ_run _ _ _).mono (fun r h => ⟨fun c => (h c).2, sem_eq_zero_of_no_sems (by decide) _⟩) (Cert.BranchDx3RefIdeal.Value.run m g)

theorem branchDw0 : Cert.algebraic_BranchDw0Ideal_BranchDw0RefIdeal (hBranchDw0Ideal := Cert.BranchDw0Ideal.Gen.facts)
    (hBranchDw0RefIdeal := Cert.BranchDw0RefIdeal.Gen.facts) := by
  intro m g m' g' _ hag
  refine ⟨_, Cert.BranchDw0Ideal.Value.run_blocks m g,
    (θ_run _ _ _).mono (fun _ h c => ⟨(h c).1.trans ?_, (h c).2⟩) (Cert.BranchDw0RefIdeal.Value.run m' g')⟩
  rw [Cert.BranchDw0Ideal.Product.final, Cert.BranchDw0RefIdeal.Read.val_main_v12_eq, (hag c).1, (hag c).2]
  funext i
  idx_vars i
  exact Cert.BranchDw0RefIdeal.Product.result_at _ _ _ _ _

theorem frameBranchDw0Ref : Cert.quiescent_BranchDw0RefIdeal (hBranchDw0RefIdeal := Cert.BranchDw0RefIdeal.Gen.facts) := by
  intro m g _
  exact (θ_run _ _ _).mono (fun r h => ⟨fun c => (h c).2, sem_eq_zero_of_no_sems (by decide) _⟩) (Cert.BranchDw0RefIdeal.Value.run m g)

theorem branchDw1 : Cert.algebraic_BranchDw1Ideal_BranchDw1RefIdeal (hBranchDw1Ideal := Cert.BranchDw1Ideal.Gen.facts)
    (hBranchDw1RefIdeal := Cert.BranchDw1RefIdeal.Gen.facts) := by
  intro m g m' g' _ hag
  refine ⟨_, Cert.BranchDw1Ideal.Value.run_blocks m g,
    (θ_run _ _ _).mono (fun _ h c => ⟨(h c).1.trans ?_, (h c).2⟩) (Cert.BranchDw1RefIdeal.Value.run m' g')⟩
  rw [Cert.BranchDw1Ideal.Product.final, Cert.BranchDw1RefIdeal.Read.val_main_v12_eq, (hag c).1, (hag c).2]
  funext i
  idx_vars i
  exact Cert.BranchDw1RefIdeal.Product.result_at _ _ _ _ _

theorem frameBranchDw1Ref : Cert.quiescent_BranchDw1RefIdeal (hBranchDw1RefIdeal := Cert.BranchDw1RefIdeal.Gen.facts) := by
  intro m g _
  exact (θ_run _ _ _).mono (fun r h => ⟨fun c => (h c).2, sem_eq_zero_of_no_sems (by decide) _⟩) (Cert.BranchDw1RefIdeal.Value.run m g)

theorem branchDw2 : Cert.algebraic_BranchDw2Ideal_BranchDw2RefIdeal (hBranchDw2Ideal := Cert.BranchDw2Ideal.Gen.facts)
    (hBranchDw2RefIdeal := Cert.BranchDw2RefIdeal.Gen.facts) := by
  intro m g m' g' _ hag
  refine ⟨_, Cert.BranchDw2Ideal.Value.run_blocks m g,
    (θ_run _ _ _).mono (fun _ h c => ⟨(h c).1.trans ?_, (h c).2⟩) (Cert.BranchDw2RefIdeal.Value.run m' g')⟩
  rw [Cert.BranchDw2Ideal.Product.final, Cert.BranchDw2RefIdeal.Read.val_main_v12_eq, (hag c).1, (hag c).2]
  funext i
  idx_vars i
  exact Cert.BranchDw2RefIdeal.Product.result_at _ _ _ _ _

theorem frameBranchDw2Ref : Cert.quiescent_BranchDw2RefIdeal (hBranchDw2RefIdeal := Cert.BranchDw2RefIdeal.Gen.facts) := by
  intro m g _
  exact (θ_run _ _ _).mono (fun r h => ⟨fun c => (h c).2, sem_eq_zero_of_no_sems (by decide) _⟩) (Cert.BranchDw2RefIdeal.Value.run m g)

theorem branchDw3 : Cert.algebraic_BranchDw3Ideal_BranchDw3RefIdeal (hBranchDw3Ideal := Cert.BranchDw3Ideal.Gen.facts)
    (hBranchDw3RefIdeal := Cert.BranchDw3RefIdeal.Gen.facts) := by
  intro m g m' g' _ hag
  refine ⟨_, Cert.BranchDw3Ideal.Value.run_blocks m g,
    (θ_run _ _ _).mono (fun _ h c => ⟨(h c).1.trans ?_, (h c).2⟩) (Cert.BranchDw3RefIdeal.Value.run m' g')⟩
  rw [Cert.BranchDw3Ideal.Product.final, Cert.BranchDw3RefIdeal.Read.val_main_v12_eq, (hag c).1, (hag c).2]
  funext i
  idx_vars i
  exact Cert.BranchDw3RefIdeal.Product.result_at _ _ _ _ _

theorem frameBranchDw3Ref : Cert.quiescent_BranchDw3RefIdeal (hBranchDw3RefIdeal := Cert.BranchDw3RefIdeal.Gen.facts) := by
  intro m g _
  exact (θ_run _ _ _).mono (fun r h => ⟨fun c => (h c).2, sem_eq_zero_of_no_sems (by decide) _⟩) (Cert.BranchDw3RefIdeal.Value.run m g)

end Cert.BranchProducts

end
-- ==== Proof.InProj.lean ====
/- The combined input projection h · w_in. The array the call leaves, as a sum over the arguments, and the reference's result as the same sum. -/
module

public import proofs.«01_k».proof.Proof.Gen.InProjIdeal.Value
public import proofs.«01_k».proof.Proof.Gen.InProjRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjIdeal.Product

open Cert.InProjIdeal Cert.InProjIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4096x4096 .bf16) (ix2 i k)
def bAt (c : Dev nD) (j : Fin 10752) (k : Fin 4096) : EReal := (m ((c : Thread nD τ).loc main_arg1) : FVec Ideal S4096x10752 .bf16) (ix2 k j)

/-- The windows' block indices. -/
theorem idx : ∀ t : Fin cfg0.N, win0_0.index t = ![t.val / 24, t.val % 2]
    ∧ win0_1.index t = ![t.val % 2, t.val / 2 % 12]
    ∧ win0_2.index t = ![t.val / 24, t.val / 2 % 12]
    ∧ t.val < 96 :=
  (by decide +kernel : ∀ t : Fin grid0.N, _)

/-- The row, the column and the place in the sum that an entry of a point's blocks is. -/
def rowOf (t : Fin cfg0.N) (i : Fin 1024) : Fin 4096 := ⟨t.val / 24 * 1024 + i.val, by have := (idx t).2.2.2; omega⟩
def colOf (t : Fin cfg0.N) (i : Fin 896) : Fin 10752 := ⟨t.val / 2 % 12 * 896 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 1024) (k : Fin 2048) :
    iblk m c 0 t (ix2 i k) = aAt m c (rowOf t i) (midOf t k) := by
  unfold aAt
  blk_point [iblk, V, idx t, rowOf, midOf]

theorem b_block (c : Dev nD) (t : Fin cfg0.N) (j : Fin 896) (k : Fin 2048) :
    iblk m c 1 t (ix2 k j) = bAt m c (colOf t j) (midOf t k) := by
  unfold bAt
  blk_point [iblk, V, idx t, colOf, midOf]

/-- One point's step: the tile so far and the product of the two blocks. -/
theorem step_at (acc : FVec Ideal S1024x896 .f32) (a : FVec Ideal S1024x2048 .bf16) (b : FVec Ideal S2048x896 .bf16) (i : Fin 1024) (j : Fin 896) :
    k0_pay2 acc a b (ix2 i j) = acc (ix2 i j) + ∑ k : Fin 2048, a (ix2 i k) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x896.Idx) : EReal :=
  ∑ k : Fin 2048, aAt m c (rowOf t (j 0)) (midOf t k) * bAt m c (colOf t (j 1)) (midOf t k)

theorem step_point (c : Dev nD) (t : Fin cfg0.N) (acc : FVec Ideal S1024x896 .f32) (j : S1024x896.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S1024x896.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 1024) (j : Fin 896) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.InProjIdeal.Product

namespace Cert.InProjRefIdeal.Product

open Cert.InProjRefIdeal Cert.InProjRefIdeal.Read Idealize.ShloMosaic Idealize.ShloMosaic.TcCoe Idealize.SL.Sem

/-- The reference's result, entry by entry. -/
theorem result_at (x0 : FVec Ideal S4096x4096 .bf16) (x1 : FVec Ideal S4096x10752 .bf16)
    (i : Fin 4096) (j : Fin 10752) :
    val_main_v2 (F := Ideal) x0 x1 (ix2 i j) = ∑ k : Fin 4096, x0 (ix2 i k) * x1 (ix2 k j) := by
  pointwise [val_main_v2, val_main_v1, val_main_v0]

end Cert.InProjRefIdeal.Product

end
-- ==== Proof.OutProj.lean ====
/- The output projection, added to the residual stream. The array the call leaves, as a sum over the arguments, and the reference's result as the same sum. -/
module

public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutProjIdeal.Product

open Cert.OutProjIdeal Cert.OutProjIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 4096) : EReal := (m ((c : Thread nD τ).loc main_arg0) : FVec Ideal S4096x4096 .bf16) (ix2 i k)
def bAt (c : Dev nD) (j : Fin 4096) (k : Fin 4096) : EReal := (m ((c : Thread nD τ).loc main_arg1) : FVec Ideal S4096x4096 .bf16) (ix2 k j)
def xAt (c : Dev nD) (i : Fin 4096) (j : Fin 4096) : EReal := (m ((c : Thread nD τ).loc main_arg2) : FVec Ideal S4096x4096 .f32) (ix2 i j)

/-- The windows' block indices. -/
theorem idx : ∀ t : Fin cfg0.N, win0_0.index t = ![t.val / 8, t.val % 2]
    ∧ win0_1.index t = ![t.val % 2, t.val / 2 % 4]
    ∧ win0_2.index t = ![t.val / 8, t.val / 2 % 4]
    ∧ win0_3.index t = ![t.val / 8, t.val / 2 % 4]
    ∧ t.val < 32 :=
  (by decide +kernel : ∀ t : Fin grid0.N, _)

/-- The row, the column and the place in the sum that an entry of a point's blocks is. -/
def rowOf (t : Fin cfg0.N) (i : Fin 1024) : Fin 4096 := ⟨t.val / 8 * 1024 + i.val, by have := (idx t).2.2.2.2; omega⟩
def colOf (t : Fin cfg0.N) (i : Fin 1024) : Fin 4096 := ⟨t.val / 2 % 4 * 1024 + i.val, by have := (idx t).2.2.2.2; omega⟩
def midOf (t : Fin cfg0.N) (i : Fin 2048) : Fin 4096 := ⟨t.val % 2 * 2048 + i.val, by have := (idx t).2.2.2.2; omega⟩

theorem a_block (c : Dev nD) (t : Fin cfg0.N) (i : Fin 1024) (k : Fin 2048) :
    iblk m c 0 t (ix2 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix2 k j) = bAt m c (colOf t j) (midOf t k) := by
  unfold bAt
  blk_point [iblk, V, idx t, colOf, midOf]

theorem x_block (c : Dev nD) (t : Fin cfg0.N) (i : Fin 1024) (j : Fin 1024) :
    iblk m c 2 t (ix2 i j) = xAt m c (rowOf t i) (colOf t j) := by
  unfold xAt
  blk_point [iblk, V, idx t, rowOf, colOf]

/-- One point's step: the tile so far and the product of the two blocks. -/
theorem step_at (acc : FVec Ideal S1024x1024 .f32) (a : FVec Ideal S1024x2048 .bf16) (b : FVec Ideal S2048x1024 .bf16) (i : Fin 1024) (j : Fin 1024) :
    k0_pay2 acc a b (ix2 i j) = acc (ix2 i j) + ∑ k : Fin 2048, a (ix2 i k) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 2048, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = k0_pay3 (outsAt0 m c t.val t.isLt).2 (iblk m c 2 t) := by
  rw [outsAt0_B m c t (by omega) h]; frame_out

/-- The tile at the last point of its run: the whole sum. -/
theorem acc_last (c : Dev nD) (t : Fin cfg0.N) (h : t.val % 2 = 1) (j : S1024x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem stored_at (acc x : FVec Ideal S1024x1024 .f32) (i : Fin 1024) (j : Fin 1024) :
    (k0_pay3 (F := Ideal) acc x (ix2 i j) : EReal) = acc (ix2 i j) + x (ix2 i j) := by
  pointwise [k0_pay3]

theorem out_at (c : Dev nD) (t : Fin cfg0.N) (h : t.val % 2 = 1) (i : Fin 1024) (j : Fin 1024) :
    (outsAt0 m c t.val t.isLt).1 (ix2 i j) = xAt m c (rowOf t i) (colOf t j) + ∑ k : Fin 4096, aAt m c (rowOf t i) k * bAt m c (colOf t j) k := by
  rw [out_last m c t h]
  refine (stored_at _ _ i j).trans ?_
  rw [x_block, add_comm]
  exact congrArg _ (acc_last m c t h (ix2 i j))

/-- The array the call leaves. -/
theorem final (c : Dev nD) : (dats m 0 c).arrAt 3 cfg0.N
    = fun i => xAt m c (i 0) (i 1) + ∑ k : Fin 4096, aAt m c (i 0) k * bAt m c (i 1) k := by
  refine (dats m 0 c).arrAt_eq_of_covers 3 _ (by decide +kernel) fun t hf y => ?_
  rw [after0_3]
  idx_vars y
  blk_simp
  refine (out_at m c t ((flush0_3 t).mp hf) y0 y1).trans ?_
  refine congrArg₂ (· + ·) (congrArg₂ _ (Fin.ext ?_) (Fin.ext ?_)) (Finset.sum_congr rfl fun k _ => congrArg₂ (· * ·) (congrArg₂ _ (Fin.ext ?_) rfl) (congrArg₂ _ (Fin.ext ?_) rfl)) <;>
    blk_simp [idx t, rowOf, colOf]

end Cert.OutProjIdeal.Product

namespace Cert.OutProjRefIdeal.Product

open Cert.OutProjRefIdeal Cert.OutProjRefIdeal.Read Idealize.ShloMosaic Idealize.ShloMosaic.TcCoe Idealize.SL.Sem

/-- The reference's result, entry by entry. -/
theorem result_at (x0 : FVec Ideal S4096x4096 .bf16) (x1 : FVec Ideal S4096x4096 .bf16) (x2 : FVec Ideal S4096x4096 .f32)
    (i : Fin 4096) (j : Fin 4096) :
    val_main_v3 (F := Ideal) x0 x1 x2 (ix2 i j) = x2 (ix2 i j) + ∑ k : Fin 4096, x0 (ix2 i k) * x1 (ix2 k j) := by
  pointwise [val_main_v3, val_main_v2, val_main_v1, val_main_v0]

end Cert.OutProjRefIdeal.Product

end
-- ==== Proof.GluProj.lean ====
/- The gated unit's product with its bias. The array the call leaves, as a sum over the arguments, and the reference's result as the same sum. -/
module

public import proofs.«01_k».proof.Proof.Gen.GluProjIdeal.Value
public import proofs.«01_k».proof.Proof.Gen.GluProjRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluProjIdeal.Product

open Cert.GluProjIdeal Cert.GluProjIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 4096) (k : Fin 1024) : EReal := (m ((c : Thread nD τ).loc main_arg0) : FVec Ideal S4096x1024 .bf16) (ix2 i k)
def bAt (c : Dev nD) (j : Fin 2048) (k : Fin 1024) : EReal := (m ((c : Thread nD τ).loc main_arg1) : FVec Ideal S1024x2048 .bf16) (ix2 k j)
def xAt (c : Dev nD) (j : Fin 2048) : EReal := (m ((c : Thread nD τ).loc main_arg2) : FVec Ideal S1x2048 .f32) (ix2 0 j)

/-- The windows' block indices. -/
theorem idx : ∀ t : Fin cfg0.N, win0_0.index t = ![t.val / 2, 0]
    ∧ win0_1.index t = ![0, t.val % 2]
    ∧ win0_2.index t = ![0, t.val % 2]
    ∧ win0_3.index t = ![t.val / 2, t.val % 2]
    ∧ t.val < 8 :=
  (by decide +kernel : ∀ t : Fin grid0.N, _)

/-- The row, the column and the place in the sum that an entry of a point's blocks is. -/
def rowOf (t : Fin cfg0.N) (i : Fin 1024) : Fin 4096 := ⟨t.val / 2 * 1024 + i.val, by have := (idx t).2.2.2.2; omega⟩
def colOf (t : Fin cfg0.N) (i : Fin 1024) : Fin 2048 := ⟨t.val % 2 * 1024 + i.val, by have := (idx t).2.2.2.2; omega⟩
def midOf (t : Fin cfg0.N) (i : Fin 1024) : Fin 1024 := i

theorem a_block (c : Dev nD) (t : Fin cfg0.N) (i : Fin 1024) (k : Fin 1024) :
    iblk m c 0 t (ix2 i k) = aAt m c (rowOf t i) (midOf t k) := by
  unfold aAt
  blk_point [iblk, V, idx t, rowOf, midOf]

theorem b_block (c : Dev nD) (t : Fin cfg0.N) (j : Fin 1024) (k : Fin 1024) :
    iblk m c 1 t (ix2 k j) = bAt m c (colOf t j) (midOf t k) := by
  unfold bAt
  blk_point [iblk, V, idx t, colOf, midOf]

theorem x_block (c : Dev nD) (t : Fin cfg0.N) (j : Fin 1024) :
    iblk m c 2 t (ix2 0 j) = xAt m c (colOf t j) := by
  unfold xAt
  blk_point [iblk, V, idx t, colOf]

/-- One point's step: the tile so far and the product of the two blocks. -/
theorem step_at (acc : FVec Ideal S1024x1024 .f32) (a : FVec Ideal S1024x1024 .bf16) (b : FVec Ideal S1024x1024 .bf16) (i : Fin 1024) (j : Fin 1024) :
    k0_pay2 acc a b (ix2 i j) = acc (ix2 i j) + ∑ k : Fin 1024, a (ix2 i k) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S1024x1024.Idx) : EReal :=
  ∑ k : Fin 1024, aAt m c (rowOf t (j 0)) (midOf t k) * bAt m c (colOf t (j 1)) (midOf t k)

theorem step_point (c : Dev nD) (t : Fin cfg0.N) (acc : FVec Ideal S1024x1024 .f32) (j : S1024x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem out_last (c : Dev nD) (t : Fin cfg0.N) : outsAt0 m c t = k0_pay3 (k0_pay2 (fun _ => (0 : EReal)) (iblk m c 0 t) (iblk m c 1 t)) (iblk m c 2 t) := by
  unfold outsAt0; frame_out; rw [zero_tile]

/-- The tile of a point: the whole sum. -/
theorem acc_last (c : Dev nD) (t : Fin cfg0.N) (j : S1024x1024.Idx) :
    k0_pay2 (fun _ => (0 : EReal)) (iblk m c 0 t) (iblk m c 1 t) j
      = ∑ k : Fin 1024, aAt m c (rowOf t (j 0)) k * bAt m c (colOf t (j 1)) k :=
  (step_point m c t _ j).trans (zero_add _)

theorem stored_at (acc : FVec Ideal S1024x1024 .f32) (x : FVec Ideal S1x1024 .f32) (i : Fin 1024) (j : Fin 1024) :
    (k0_pay3 (F := Ideal) acc x (ix2 i j) : EReal) = acc (ix2 i j) + x (ix2 0 j) := by
  pointwise [k0_pay3]

theorem out_at (c : Dev nD) (t : Fin cfg0.N) (i : Fin 1024) (j : Fin 1024) :
    (outsAt0 m c t) (ix2 i j) = (∑ k : Fin 1024, aAt m c (rowOf t i) k * bAt m c (colOf t j) k) + xAt m c (colOf t j) := by
  rw [out_last m c t]
  refine (stored_at _ _ i j).trans ?_
  rw [x_block]
  exact congrArg (· + _) (acc_last m c t (ix2 i j))

/-- The array the call leaves. -/
theorem final (c : Dev nD) : (dats m 0 c).arrAt 3 cfg0.N
    = fun i => (∑ k : Fin 1024, aAt m c (i 0) k * bAt m c (i 1) k) + xAt m c (i 1) := by
  refine (dats m 0 c).arrAt_eq_of_covers 3 _ (by decide +kernel) fun t hf y => ?_
  rw [after0_3]
  idx_vars y
  blk_simp
  refine (out_at m c t y0 y1).trans ?_
  refine congrArg₂ (· + ·) (Finset.sum_congr rfl fun k _ => congrArg₂ (· * ·) (congrArg₂ _ (Fin.ext ?_) rfl) (congrArg₂ _ (Fin.ext ?_) rfl)) (congrArg _ (Fin.ext ?_)) <;>
    blk_simp [idx t, rowOf, colOf]

end Cert.GluProjIdeal.Product

namespace Cert.GluProjRefIdeal.Product

open Cert.GluProjRefIdeal Cert.GluProjRefIdeal.Read Idealize.ShloMosaic Idealize.ShloMosaic.TcCoe Idealize.SL.Sem

/-- The reference's result, entry by entry. -/
theorem result_at (x0 : FVec Ideal S4096x1024 .bf16) (x1 : FVec Ideal S1024x2048 .bf16) (x2 : FVec Ideal S1x2048 .f32)
    (i : Fin 4096) (j : Fin 2048) :
    val_main_v4 (F := Ideal) x0 x1 x2 (ix2 i j) = (∑ k : Fin 1024, x0 (ix2 i k) * x1 (ix2 k j)) + x2 (ix2 0 j) := by
  pointwise [val_main_v4, val_main_v3, val_main_v2, val_main_v1, val_main_v0]

end Cert.GluProjRefIdeal.Product

end
-- ==== Proof.KvProj.lean ====
/- The key and value projection of the normalised memory. The array the call leaves, as a sum over the arguments, and the reference's result as the same sum. -/
module

public import proofs.«01_k».proof.Proof.Gen.KvProjIdeal.Value
public import proofs.«01_k».proof.Proof.Gen.KvProjRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvProjIdeal.Product

open Cert.KvProjIdeal Cert.KvProjIdeal.Gen Idealize.ShloMosaic Idealize.ShloMosaic.TcCoe Idealize.SL.Sem
open Idealize.ShloMosaic.Pipeline (Dat)
variable (m : (ℓ : Loc nD τ sig) → Buf (Elt Ideal) ℓ)

/-- The factors' entries, by the result's row or column and the place in the sum. -/
def aAt (c : Dev nD) (i : Fin 256) (k : Fin 4096) : EReal := (m ((c : Thread nD τ).loc main_arg0) : FVec Ideal S256x4096 .bf16) (ix2 i k)
def bAt (c : Dev nD) (j : Fin 2048) (k : Fin 4096) : EReal := (m ((c : Thread nD τ).loc main_arg1) : FVec Ideal S4096x2048 .bf16) (ix2 k j)

/-- The windows' block indices. -/
theorem idx : ∀ t : Fin cfg0.N, win0_0.index t = ![0, t.val % 2]
    ∧ win0_1.index t = ![t.val % 2, t.val / 2]
    ∧ win0_2.index t = ![0, t.val / 2]
    ∧ t.val < 4 :=
  (by decide +kernel : ∀ t : Fin grid0.N, _)

/-- The row, the column and the place in the sum that an entry of a point's blocks is. -/
def rowOf (t : Fin cfg0.N) (i : Fin 256) : Fin 256 := i
def colOf (t : Fin cfg0.N) (i : Fin 1024) : Fin 2048 := ⟨t.val / 2 * 1024 + i.val, by have := (idx t).2.2.2; omega⟩
def midOf (t : Fin cfg0.N) (i : Fin 2048) : Fin 4096 := ⟨t.val % 2 * 2048 + i.val, by have := (idx t).2.2.2; omega⟩

theorem a_block (c : Dev nD) (t : Fin cfg0.N) (i : Fin 256) (k : Fin 2048) :
    iblk m c 0 t (ix2 i k) = aAt m c (rowOf t i) (midOf t k) := by
  unfold aAt
  blk_point [iblk, V, idx t, rowOf, midOf]

theorem b_block (c : Dev nD) (t : Fin cfg0.N) (j : Fin 1024) (k : Fin 2048) :
    iblk m c 1 t (ix2 k j) = bAt m c (colOf t j) (midOf t k) := by
  unfold bAt
  blk_point [iblk, V, idx t, colOf, midOf]

/-- One point's step: the tile so far and the product of the two blocks. -/
theorem step_at (acc : FVec Ideal S256x1024 .f32) (a : FVec Ideal S256x2048 .bf16) (b : FVec Ideal S2048x1024 .bf16) (i : Fin 256) (j : Fin 1024) :
    k0_pay2 acc a b (ix2 i j) = acc (ix2 i j) + ∑ k : Fin 2048, a (ix2 i k) * b (ix2 k j) := by
  pointwise [k0_pay2]

theorem zero_tile : k0_pay1 (F := Ideal) = fun _ => (0 : EReal) := by
  funext i; pointwise [k0_pay1]

/-- A point's part of the sum, at an entry of its tile. -/
def part (c : Dev nD) (t : Fin cfg0.N) (j : S256x1024.Idx) : EReal :=
  ∑ k : Fin 2048, aAt m c (rowOf t (j 0)) (midOf t k) * bAt m c (colOf t (j 1)) (midOf t k)

theorem step_point (c : Dev nD) (t : Fin cfg0.N) (acc : FVec Ideal S256x1024 .f32) (j : S256x1024.Idx) :
    k0_pay2 acc (iblk m c 0 t) (iblk m c 1 t) j = acc j + part m c t j := by
  idx_vars j
  refine (step_at _ _ _ _ _).trans (congrArg _ (Finset.sum_congr rfl fun k _ => ?_))
  rw [a_block, b_block]; rfl

theorem acc_first (c : Dev nD) (t : Fin cfg0.N) (h : t.val % 2 = 0) :
    (outsAt0 m c t.val t.isLt).2 = k0_pay2 (fun _ => (0 : EReal)) (iblk m c 0 t) (iblk m c 1 t) := by
  rw [outsAt0_A m c t h (by omega)]; frame_out; rw [zero_tile]

theorem acc_next (c : Dev nD) (t : Fin cfg0.N) (h : ¬ t.val % 2 = 0) :
    (outsAt0 m c t.val t.isLt).2 = k0_pay2 (outsAt0 m c (t.val - 1) (Nat.lt_of_le_of_lt (Nat.sub_le _ _) t.isLt)).2
      (iblk m c 0 t) (iblk m c 1 t) := by
  rw [outsAt0_B m c t h (by omega)]; frame_out; rw [read_unread_whole]

theorem out_last (c : Dev nD) (t : Fin cfg0.N) (h : t.val % 2 = 1) :
    (outsAt0 m c t.val t.isLt).1 = (outsAt0 m c t.val t.isLt).2 := by
  rw [outsAt0_B m c t (by omega) h]; frame_out

/-- The tile at the last point of its run: the whole sum. -/
theorem acc_last (c : Dev nD) (t : Fin cfg0.N) (h : t.val % 2 = 1) (j : S256x1024.Idx) :
    (outsAt0 m c t.val t.isLt).2 j
      = ∑ k : Fin 4096, aAt m c (rowOf t (j 0)) k * bAt m c (colOf t (j 1)) k := by
  rw [Pipeline.eq_sum_fin_of_reset_step_apply_of_flush (fun n h => (outsAt0 m c n h).2) 2 (fun _ => 0) (part m c)
    (fun t h j => by rw [acc_first m c t h]; exact step_point m c t _ j)
    (fun t h j => by rw [acc_next m c t h]; exact step_point m c t _ j) t h j, zero_add]
  refine Fin.sum_mul_add_congr (fun s k hl => ?_)
  refine congrArg₂ (· * ·) (congrArg₂ _ (Fin.ext ?_) (Fin.ext ?_)) (congrArg₂ _ (Fin.ext ?_) (Fin.ext ?_)) <;>
    dsimp only [rowOf, colOf, midOf] <;> omega

theorem out_at (c : Dev nD) (t : Fin cfg0.N) (h : t.val % 2 = 1) (i : Fin 256) (j : Fin 1024) :
    (outsAt0 m c t.val t.isLt).1 (ix2 i j) = ∑ k : Fin 4096, aAt m c (rowOf t i) k * bAt m c (colOf t j) k := by
  rw [out_last m c t h]
  exact acc_last m c t h (ix2 i j)

/-- The array the call leaves. -/
theorem final (c : Dev nD) : (dats m 0 c).arrAt 2 cfg0.N
    = fun i => ∑ k : Fin 4096, aAt m c (i 0) k * bAt m c (i 1) k := by
  refine (dats m 0 c).arrAt_eq_of_covers 2 _ (by decide +kernel) fun t hf y => ?_
  rw [after0_2]
  idx_vars y
  blk_simp
  refine (out_at m c t ((flush0_2 t).mp hf) y0 y1).trans ?_
  refine Finset.sum_congr rfl fun k _ => congrArg₂ (· * ·) (congrArg₂ _ (Fin.ext ?_) rfl) (congrArg₂ _ (Fin.ext ?_) rfl) <;>
    blk_simp [idx t, rowOf, colOf]

end Cert.KvProjIdeal.Product

namespace Cert.KvProjRefIdeal.Product

open Cert.KvProjRefIdeal Cert.KvProjRefIdeal.Read Idealize.ShloMosaic Idealize.ShloMosaic.TcCoe Idealize.SL.Sem

/-- The reference's result, entry by entry. -/
theorem result_at (x0 : FVec Ideal S256x4096 .bf16) (x1 : FVec Ideal S4096x2048 .bf16)
    (i : Fin 256) (j : Fin 2048) :
    val_main_v2 (F := Ideal) x0 x1 (ix2 i j) = ∑ k : Fin 4096, x0 (ix2 i k) * x1 (ix2 k j) := by
  pointwise [val_main_v2, val_main_v1, val_main_v0]

end Cert.KvProjRefIdeal.Product

end
-- ==== Proof.ForwardProducts.lean ====
/- The forward products and the reference give the same results. -/
module

public import proofs.«01_k».proof.Defs
public import proofs.«01_k».proof.Proof.Gen.InProjIdeal
public import proofs.«01_k».proof.Proof.Gen.InProjRefIdeal
public import proofs.«01_k».proof.Proof.Gen.InProjRefIdeal.Run
public import proofs.«01_k».proof.Proof.InProj
public import proofs.«01_k».proof.Proof.Gen.OutProjIdeal
public import proofs.«01_k».proof.Proof.Gen.OutProjRefIdeal
public import proofs.«01_k».proof.Proof.Gen.OutProjRefIdeal.Run
public import proofs.«01_k».proof.Proof.OutProj
public import proofs.«01_k».proof.Proof.Gen.GluProjIdeal
public import proofs.«01_k».proof.Proof.Gen.GluProjRefIdeal
public import proofs.«01_k».proof.Proof.Gen.GluProjRefIdeal.Run
public import proofs.«01_k».proof.Proof.GluProj
public import proofs.«01_k».proof.Proof.Gen.KvProjIdeal
public import proofs.«01_k».proof.Proof.Gen.KvProjRefIdeal
public import proofs.«01_k».proof.Proof.Gen.KvProjRefIdeal.Run
public import proofs.«01_k».proof.Proof.KvProj

@[expose] public section

noncomputable section

namespace Cert.ForwardProducts

open Idealize.ShloMosaic Idealize.ShloMosaic.TcCoe Idealize.SL.Sem

theorem inProj : Cert.algebraic_InProjIdeal_InProjRefIdeal (hInProjIdeal := Cert.InProjIdeal.Gen.facts)
    (hInProjRefIdeal := Cert.InProjRefIdeal.Gen.facts) := by
  intro m g m' g' _ hag
  refine ⟨_, Cert.InProjIdeal.Value.run_blocks m g,
    (θ_run _ _ _).mono (fun _ h c => ⟨(h c).1.trans ?_, (h c).2⟩) (Cert.InProjRefIdeal.Value.run m' g')⟩
  rw [Cert.InProjIdeal.Product.final, Cert.InProjRefIdeal.Read.val_main_v2_eq, (hag c).1, (hag c).2]
  funext i
  idx_vars i
  exact Cert.InProjRefIdeal.Product.result_at _ _ _ _

theorem frameInProjRef : Cert.quiescent_InProjRefIdeal (hInProjRefIdeal := Cert.InProjRefIdeal.Gen.facts) := by
  intro m g _
  exact (θ_run _ _ _).mono (fun r h => ⟨fun c => (h c).2, sem_eq_zero_of_no_sems (by decide) _⟩) (Cert.InProjRefIdeal.Value.run m g)

theorem outProj : Cert.algebraic_OutProjIdeal_OutProjRefIdeal (hOutProjIdeal := Cert.OutProjIdeal.Gen.facts)
    (hOutProjRefIdeal := Cert.OutProjRefIdeal.Gen.facts) := by
  intro m g m' g' _ hag
  refine ⟨_, Cert.OutProjIdeal.Value.run_blocks m g,
    (θ_run _ _ _).mono (fun _ h c => ⟨(h c).1.trans ?_, (h c).2⟩) (Cert.OutProjRefIdeal.Value.run m' g')⟩
  rw [Cert.OutProjIdeal.Product.final, Cert.OutProjRefIdeal.Read.val_main_v3_eq, (hag c).1, (hag c).2.1, (hag c).2.2]
  funext i
  idx_vars i
  exact Cert.OutProjRefIdeal.Product.result_at _ _ _ _ _

theorem frameOutProjRef : Cert.quiescent_OutProjRefIdeal (hOutProjRefIdeal := Cert.OutProjRefIdeal.Gen.facts) := by
  intro m g _
  exact (θ_run _ _ _).mono (fun r h => ⟨fun c => (h c).2, sem_eq_zero_of_no_sems (by decide) _⟩) (Cert.OutProjRefIdeal.Value.run m g)

theorem gluProj : Cert.algebraic_GluProjIdeal_GluProjRefIdeal (hGluProjIdeal := Cert.GluProjIdeal.Gen.facts)
    (hGluProjRefIdeal := Cert.GluProjRefIdeal.Gen.facts) := by
  intro m g m' g' _ hag
  refine ⟨_, Cert.GluProjIdeal.Value.run_blocks m g,
    (θ_run _ _ _).mono (fun _ h c => ⟨(h c).1.trans ?_, (h c).2⟩) (Cert.GluProjRefIdeal.Value.run m' g')⟩
  rw [Cert.GluProjIdeal.Product.final, Cert.GluProjRefIdeal.Read.val_main_v4_eq, (hag c).1, (hag c).2.1, (hag c).2.2]
  funext i
  idx_vars i
  exact Cert.GluProjRefIdeal.Product.result_at _ _ _ _ _

theorem frameGluProjRef : Cert.quiescent_GluProjRefIdeal (hGluProjRefIdeal := Cert.GluProjRefIdeal.Gen.facts) := by
  intro m g _
  exact (θ_run _ _ _).mono (fun r h => ⟨fun c => (h c).2, sem_eq_zero_of_no_sems (by decide) _⟩) (Cert.GluProjRefIdeal.Value.run m g)

theorem kvProj : Cert.algebraic_KvProjIdeal_KvProjRefIdeal (hKvProjIdeal := Cert.KvProjIdeal.Gen.facts)
    (hKvProjRefIdeal := Cert.KvProjRefIdeal.Gen.facts) := by
  intro m g m' g' _ hag
  refine ⟨_, Cert.KvProjIdeal.Value.run_blocks m g,
    (θ_run _ _ _).mono (fun _ h c => ⟨(h c).1.trans ?_, (h c).2⟩) (Cert.KvProjRefIdeal.Value.run m' g')⟩
  rw [Cert.KvProjIdeal.Product.final, Cert.KvProjRefIdeal.Read.val_main_v2_eq, (hag c).1, (hag c).2]
  funext i
  idx_vars i
  exact Cert.KvProjRefIdeal.Product.result_at _ _ _ _

theorem frameKvProjRef : Cert.quiescent_KvProjRefIdeal (hKvProjRefIdeal := Cert.KvProjRefIdeal.Gen.facts) := by
  intro m g _
  exact (θ_run _ _ _).mono (fun r h => ⟨fun c => (h c).2, sem_eq_zero_of_no_sems (by decide) _⟩) (Cert.KvProjRefIdeal.Value.run m g)

end Cert.ForwardProducts

end
-- ==== Proof.MergeFwd.lean ====
/- What the four branches merge to, and that the merge kernel leaves it. -/
module

public import proofs.«01_k».proof.Proof.Gen.MergeFwdIdeal.Value
public import proofs.«01_k».proof.Proof.MergeMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeMath

/-- The merged branches: each branch's projection times its gate, summed over the branches. -/
def merged (g : Fin 4096 → Fin 256 → EReal) (w : Fin 4 → Fin 256 → Fin 4096 → EReal) (b : Fin 4 → Fin 4096 → EReal)
    (o : Fin 4 → Fin 4096 → Fin 1024 → EReal) (u : Fin 4 → Fin 1024 → Fin 4096 → EReal) (i j : Fin 4096) : EReal :=
  ∑ n : Fin 4, gate g w b n i j * ∑ k : Fin 1024, o n i k * u n k j

end Cert.MergeMath

namespace Cert.MergeFwdIdeal.Stage

open Cert.MergeFwdIdeal Cert.MergeFwdIdeal.Gen Idealize.ShloMosaic Idealize.ShloMosaic.TcCoe Idealize.SL.Sem
open Idealize.ShloMosaic.Pipeline (Dat)

section
variable (g : FVec Ideal S512x256 .f32) (w : FVec Ideal S1x256x512 .bf16) (b : FVec Ideal S1x1x512 .f32)
  (o : FVec Ideal S1x512x1024 .bf16) (u : FVec Ideal S1x1024x512 .bf16) (a : FVec Ideal S512x512 .f32)

/-- One branch's part of a block: its gate times its projection. -/
def gate (i j : Fin 512) : EReal :=
  Ideal.div 1 (1 + Ideal.exp (0 - ((∑ k : Fin 256, g (ix2 i k) * w (ix3 0 k j)) + b (ix3 0 0 j))))
def term (i j : Fin 512) : EReal := gate g w b i j * ∑ k : Fin 1024, o (ix3 0 i k) * u (ix3 0 k j)

theorem first (i j : Fin 512) : (k0_pay2 (F := Ideal) g w b o u (ix2 i j) : EReal) = term g w b o u i j := by
  unfold term gate
  pointwise [k0_pay2]

theorem second (i j : Fin 512) :
    (k0_pay5 (F := Ideal) a (k0_pay3 g w) (k0_pay4 b) o u (ix2 i j) : EReal) = a (ix2 i j) + term g w b o u i j := by
  unfold term gate
  pointwise [k0_pay5, k0_pay3, k0_pay4]

variable (w' : FVec Ideal S1x256x512 .bf16) (b' : FVec Ideal S1x1x512 .f32)
  (o' : FVec Ideal S1x512x1024 .bf16) (u' : FVec Ideal S1x1024x512 .bf16)

theorem last (i j : Fin 512) :
    (k0_pay1 (F := Ideal) g a (k0_pay6 g w b) (k0_pay7 o) (k0_pay8 u) w' b' o' u' (ix2 i j) : EReal)
      = a (ix2 i j) + term g w b o u i j + term g w' b' o' u' i j := by
  unfold term gate
  pointwise [k0_pay1, k0_pay6, k0_pay7, k0_pay8]

end

variable (m : (ℓ : Loc nD τ sig) → Buf (Elt Ideal) ℓ)

/-- The bottleneck's columns of the combined projection. -/
def lowCol (k : Fin 256) : Fin 10752 := ⟨10240 + k.val, by omega⟩

/-- The arguments, entry by entry. -/
def gAt (c : Dev nD) (i : Fin 4096) (k : Fin 256) : EReal := (m ((c : Thread nD τ).loc main_arg0) : FVec Ideal S4096x10752 .f32) (ix2 i (lowCol k))
def oAt (c : Dev nD) (n : Fin 4) (i : Fin 4096) (k : Fin 1024) : EReal := (m ((c : Thread nD τ).loc main_arg1) : FVec Ideal S4x4096x1024 .bf16) (ix3 n i k)
def wAt (c : Dev nD) (n : Fin 4) (k : Fin 256) (j : Fin 4096) : EReal := (m ((c : Thread nD τ).loc main_arg2) : FVec Ideal S4x256x4096 .bf16) (ix3 n k j)
def bAt (c : Dev nD) (n : Fin 4) (j : Fin 4096) : EReal := (m ((c : Thread nD τ).loc main_arg3) : FVec Ideal S4x1x4096 .f32) (ix3 n 0 j)
def uAt (c : Dev nD) (n : Fin 4) (k : Fin 1024) (j : Fin 4096) : EReal := (m ((c : Thread nD τ).loc main_arg4) : FVec Ideal S4x1024x4096 .bf16) (ix3 n k j)

/-- The windows' block indices. -/
theorem idx : ∀ t : Fin cfg0.N, win0_0.index t = ![t.val / 8, 40] ∧ win0_1.index t = ![0, t.val / 8, 0]
    ∧ win0_2.index t = ![0, 0, t.val % 8] ∧ win0_3.index t = ![0, 0, t.val % 8] ∧ win0_4.index t = ![0, 0, t.val % 8]
    ∧ win0_5.index t = ![t.val / 8, t.val % 8] ∧ t.val < 64 :=
  (by decide +kernel : ∀ t : Fin grid0.N, _)

/-- The row and the column that an entry of a point's blocks is. -/
def rowOf (t : Fin cfg0.N) (i : Fin 512) : Fin 4096 := ⟨t.val / 8 * 512 + i.val, by have := (idx t).2.2.2.2.2.2; omega⟩
def colOf (t : Fin cfg0.N) (j : Fin 512) : Fin 4096 := ⟨t.val % 8 * 512 + j.val, by omega⟩

theorem g_block (c : Dev nD) (t : Fin cfg0.N) (i : Fin 512) (k : Fin 256) :
    iblk m c 0 t (ix2 i k) = gAt m c (rowOf t i) k := by
  unfold gAt
  blk_point [iblk, V, idx t, rowOf, lowCol]

theorem o_block (c : Dev nD) (t : Fin cfg0.N) (n : Fin 4) (i : Fin 512) (k : Fin 1024) :
    iblk m c 1 t (ix3 n i k) = oAt m c n (rowOf t i) k := by
  unfold oAt
  blk_point [iblk, V, idx t, rowOf]

theorem w_block (c : Dev nD) (t : Fin cfg0.N) (n : Fin 4) (k : Fin 256) (j : Fin 512) :
    iblk m c 2 t (ix3 n k j) = wAt m c n k (colOf t j) := by
  unfold wAt
  blk_point [iblk, V, idx t, colOf]

theorem b_block (c : Dev nD) (t : Fin cfg0.N) (n : Fin 4) (j : Fin 512) :
    iblk m c 3 t (ix3 n 0 j) = bAt m c n (colOf t j) := by
  unfold bAt
  blk_point [iblk, V, idx t, colOf]

theorem u_block (c : Dev nD) (t : Fin cfg0.N) (n : Fin 4) (k : Fin 1024) (j : Fin 512) :
    iblk m c 4 t (ix3 n k j) = uAt m c n k (colOf t j) := by
  unfold uAt
  blk_point [iblk, V, idx t, colOf]

/-- One branch's slice of a block that holds all four. -/
theorem slice_at {p q : ℕ} {e : EltTy} (X : (⟨3, ![4, p, q]⟩ : Shape).Idx → Elt Ideal e) (n : Fin 4) (inb) (i : Fin p) (j : Fin q) :
    View.ld X (Rect.unit ![n.val, 0, 0] ![1, p, q] inb) (ix3 (0 : Fin 1) i j) = X (ix3 n i j) := by
  refine View.ld_unit_apply_of X _ _ inb _ _ fun a => ?_
  fin_cases a <;> simp [ix3]

/-- One branch's part at a point, from its slices of the blocks. -/
theorem term_point (c : Dev nD) (t : Fin cfg0.N) (n : Fin 4) (g : FVec Ideal S512x256 .f32) (w : FVec Ideal S1x256x512 .bf16)
    (b : FVec Ideal S1x1x512 .f32) (o : FVec Ideal S1x512x1024 .bf16) (u : FVec Ideal S1x1024x512 .bf16)
    (hg : ∀ i k, g (ix2 i k) = iblk m c 0 t (ix2 i k)) (hw : ∀ k j, w (ix3 0 k j) = iblk m c 2 t (ix3 n k j))
    (hb : ∀ i j, b (ix3 0 i j) = iblk m c 3 t (ix3 n i j)) (ho : ∀ i k, o (ix3 0 i k) = iblk m c 1 t (ix3 n i k))
    (hu : ∀ k j, u (ix3 0 k j) = iblk m c 4 t (ix3 n k j)) (i j : Fin 512) :
    term g w b o u i j = MergeMath.gate (gAt m c) (wAt m c) (bAt m c) n (rowOf t i) (colOf t j)
      * ∑ k : Fin 1024, oAt m c n (rowOf t i) k * uAt m c n k (colOf t j) := by
  unfold term gate MergeMath.gate
  refine congrArg₂ _ (congrArg (fun x => Ideal.div 1 (1 + Ideal.exp (0 - x)))
    (congrArg₂ _ (Finset.sum_congr rfl fun k _ => ?_) ?_)) (Finset.sum_congr rfl fun k _ => ?_)
  · rw [hg, hw, g_block, w_block]
  · exact (hb 0 j).trans (b_block m c t n j)
  · rw [ho, hu, o_block, u_block]

/-- The merged branches at the arguments. -/
def mergedAt (c : Dev nD) : Fin 4096 → Fin 4096 → EReal := MergeMath.merged (gAt m c) (wAt m c) (bAt m c) (oAt m c) (uAt m c)

theorem stored_at (c : Dev nD) (t : Fin cfg0.N) (y : S512x512.Idx) :
    (out0_5 (iblk m c 0 t) (iblk m c 1 t) (iblk m c 2 t) (iblk m c 3 t) (iblk m c 4 t) y : EReal)
      = mergedAt m c (rowOf t (y 0)) (colOf t (y 1)) := by
  frame_out
  idx_vars y
  refine (last _ _ _ _ _ _ _ _ _ _ y0 y1).trans ?_
  rw [second, first, term_point m c t 0 _ _ _ _ _ (fun _ _ => rfl) (slice_at _ 0 _) (slice_at _ 0 _) (slice_at _ 0 _) (slice_at _ 0 _),
    term_point m c t 1 _ _ _ _ _ (fun _ _ => rfl) (slice_at _ 1 _) (slice_at _ 1 _) (slice_at _ 1 _) (slice_at _ 1 _),
    term_point m c t 2 _ _ _ _ _ (fun _ _ => rfl) (slice_at _ 2 _) (slice_at _ 2 _) (slice_at _ 2 _) (slice_at _ 2 _),
    term_point m c t 3 _ _ _ _ _ (fun _ _ => rfl) (slice_at _ 3 _) (slice_at _ 3 _) (slice_at _ 3 _) (slice_at _ 3 _)]
  unfold mergedAt MergeMath.merged
  rw [Fin.sum_univ_four]

/-- The result array. -/
theorem final (c : Dev nD) : (dats m 0 c).arrAt 5 cfg0.N = fun i => mergedAt m c (i 0) (i 1) := by
  refine (dats m 0 c).arrAt_eq_of_covers 5 _ (by decide +kernel) fun t hf y => ?_
  rw [after0_5]
  idx_vars y
  blk_simp
  refine (stored_at m c t (ix2 y0 y1)).trans ?_
  refine congrArg₂ (mergedAt m c) (Fin.ext ?_) (Fin.ext ?_) <;> blk_simp [idx t, rowOf, colOf]

end Cert.MergeFwdIdeal.Stage

end
-- ==== Proof.MergeFwdRef.lean ====
/- The result of the plain merge of the branches, entry by entry. -/
module

public import proofs.«01_k».proof.Proof.Gen.MergeFwdRefIdeal.Read
public import proofs.«01_k».proof.Proof.MergeFwd
public import Idealize.ShloMosaic.Lib.Pointwise

@[expose] public section

set_option maxRecDepth 16384

noncomputable section

namespace Cert.MergeFwdRefIdeal.Stage

open Cert.MergeFwdRefIdeal Cert.MergeFwdRefIdeal.Read Idealize.ShloMosaic

variable (p : FVec Ideal S4096x10752 .f32) (o : FVec Ideal S4x4096x1024 .bf16) (w : FVec Ideal S4x256x4096 .bf16)
  (b : FVec Ideal S4x1x4096 .f32) (u : FVec Ideal S4x1024x4096 .bf16)

/-- The entries the sums read. -/
def gOf (i : Fin 4096) (k : Fin 256) : EReal := p (ix2 i ⟨10240 + k.val, by omega⟩)
def oOf (n : Fin 4) (i : Fin 4096) (k : Fin 1024) : EReal := o (ix3 n i k)
def wOf (n : Fin 4) (k : Fin 256) (j : Fin 4096) : EReal := w (ix3 n k j)
def bOf (n : Fin 4) (j : Fin 4096) : EReal := b (ix3 n 0 j)
def uOf (n : Fin 4) (k : Fin 1024) (j : Fin 4096) : EReal := u (ix3 n k j)

theorem gate_0 (i j : Fin 4096) :
    (val_main_v17 (F := Ideal) p w b (ix2 i j) : EReal) = MergeMath.gate (gOf p) (wOf w) (bOf b) 0 i j := by
  unfold MergeMath.gate gOf wOf bOf
  rw [zero_sub]
  pointwise [val_main_v17, val_main_v16, val_main_v15, val_main_v14, val_main_v13, val_main_v12, val_main_v11, val_main_v10, val_main_v9,
    val_main_v8, val_main_v7, val_main_v6, val_main_v5, val_main_v1, val_main_v0, val_main_cst_0, val_main_cst_1]

theorem proj_0 (i j : Fin 4096) :
    (val_main_v22 (F := Ideal) o u (ix2 i j) : EReal) = ∑ k : Fin 1024, oOf o 0 i k * uOf u 0 k j := by
  unfold oOf uOf
  pointwise [val_main_v22, val_main_v21, val_main_v20, val_main_v19, val_main_v18, val_main_v3, val_main_v2]

theorem gate_1 (i j : Fin 4096) :
    (val_main_v37 (F := Ideal) p w b (ix2 i j) : EReal) = MergeMath.gate (gOf p) (wOf w) (bOf b) 1 i j := by
  unfold MergeMath.gate gOf wOf bOf
  rw [zero_sub]
  pointwise [val_main_v37, val_main_v36, val_main_v35, val_main_v34, val_main_v33, val_main_v32, val_main_v31, val_main_v30, val_main_v29,
    val_main_v28, val_main_v27, val_main_v26, val_main_v25, val_main_v1, val_main_v0, val_main_cst_2, val_main_cst_3]

theorem proj_1 (i j : Fin 4096) :
    (val_main_v42 (F := Ideal) o u (ix2 i j) : EReal) = ∑ k : Fin 1024, oOf o 1 i k * uOf u 1 k j := by
  unfold oOf uOf
  pointwise [val_main_v42, val_main_v41, val_main_v40, val_main_v39, val_main_v38, val_main_v3, val_main_v2]

theorem gate_2 (i j : Fin 4096) :
    (val_main_v57 (F := Ideal) p w b (ix2 i j) : EReal) = MergeMath.gate (gOf p) (wOf w) (bOf b) 2 i j := by
  unfold MergeMath.gate gOf wOf bOf
  rw [zero_sub]
  pointwise [val_main_v57, val_main_v56, val_main_v55, val_main_v54, val_main_v53, val_main_v52, val_main_v51, val_main_v50, val_main_v49,
    val_main_v48, val_main_v47, val_main_v46, val_main_v45, val_main_v1, val_main_v0, val_main_cst_4, val_main_cst_5]

theorem proj_2 (i j : Fin 4096) :
    (val_main_v62 (F := Ideal) o u (ix2 i j) : EReal) = ∑ k : Fin 1024, oOf o 2 i k * uOf u 2 k j := by
  unfold oOf uOf
  pointwise [val_main_v62, val_main_v61, val_main_v60, val_main_v59, val_main_v58, val_main_v3, val_main_v2]

theorem gate_3 (i j : Fin 4096) :
    (val_main_v77 (F := Ideal) p w b (ix2 i j) : EReal) = MergeMath.gate (gOf p) (wOf w) (bOf b) 3 i j := by
  unfold MergeMath.gate gOf wOf bOf
  rw [zero_sub]
  pointwise [val_main_v77, val_main_v76, val_main_v75, val_main_v74, val_main_v73, val_main_v72, val_main_v71, val_main_v70, val_main_v69,
    val_main_v68, val_main_v67, val_main_v66, val_main_v65, val_main_v1, val_main_v0, val_main_cst_6, val_main_cst_7]

theorem proj_3 (i j : Fin 4096) :
    (val_main_v82 (F := Ideal) o u (ix2 i j) : EReal) = ∑ k : Fin 1024, oOf o 3 i k * uOf u 3 k j := by
  unfold oOf uOf
  pointwise [val_main_v82, val_main_v81, val_main_v80, val_main_v79, val_main_v78, val_main_v3, val_main_v2]

theorem merged_at (i j : Fin 4096) :
    MergeMath.merged (gOf p) (wOf w) (bOf b) (oOf o) (uOf u) i j = (val_main_v85 (F := Ideal) p o w b u (ix2 i j) : EReal) := by
  unfold MergeMath.merged
  rw [Fin.sum_univ_four, ← gate_0, ← gate_1, ← gate_2, ← gate_3, ← proj_0, ← proj_1, ← proj_2, ← proj_3]
  pointwise [val_main_v85, val_main_v84, val_main_v83, val_main_v64, val_main_v63, val_main_v44, val_main_v43,
    val_main_v24, val_main_v23, val_main_v4, val_main_cst]

end Cert.MergeFwdRefIdeal.Stage

end
-- ==== Proof.MergeFwdClaim.lean ====
/- The merge of the branches and the reference give the same result. -/
module

public import proofs.«01_k».proof.Defs
public import proofs.«01_k».proof.Proof.Gen.MergeFwdIdeal
public import proofs.«01_k».proof.Proof.Gen.MergeFwdRefIdeal
public import proofs.«01_k».proof.Proof.Gen.MergeFwdRefIdeal.Run
public import proofs.«01_k».proof.Proof.MergeFwd
public import proofs.«01_k».proof.Proof.MergeFwdRef

@[expose] public section

noncomputable section

namespace Cert.MergeFwdClaim

open Idealize.ShloMosaic Idealize.ShloMosaic.TcCoe Idealize.SL.Sem

theorem algebraic : Cert.algebraic_MergeFwdIdeal_MergeFwdRefIdeal (hMergeFwdIdeal := Cert.MergeFwdIdeal.Gen.facts)
    (hMergeFwdRefIdeal := Cert.MergeFwdRefIdeal.Gen.facts) := by
  intro m g m' g' _ hag
  refine ⟨_, Cert.MergeFwdIdeal.Value.run_blocks m g,
    (θ_run _ _ _).mono (fun _ h c => ⟨(h c).1.trans ?_, (h c).2⟩) (Cert.MergeFwdRefIdeal.Value.run m' g')⟩
  rw [Cert.MergeFwdIdeal.Stage.final, Cert.MergeFwdRefIdeal.Read.val_main_v85_eq, (hag c).1, (hag c).2.1, (hag c).2.2.1,
    (hag c).2.2.2.1, (hag c).2.2.2.2]
  funext i
  idx_vars i
  exact (Cert.MergeFwdRefIdeal.Stage.merged_at _ _ _ _ _ _ _).symm

theorem frameRef : Cert.quiescent_MergeFwdRefIdeal (hMergeFwdRefIdeal := Cert.MergeFwdRefIdeal.Gen.facts) := by
  intro m g _
  exact (θ_run _ _ _).mono (fun r h => ⟨fun c => (h c).2, sem_eq_zero_of_no_sems (by decide) _⟩)
    (Cert.MergeFwdRefIdeal.Value.run m g)

end Cert.MergeFwdClaim

end
-- ==== Proof.AttnFwdMath.lean ====
/- The memory attention's gated output, as a function of extended reals. -/
module

public import proofs.«01_k».proof.Proof.AttnMath

@[expose] public section

noncomputable section

namespace Cert.Attn

open Idealize.ShloMosaic

/-- Row `s`, column `j` of the output: the head's mix of values times the gate's activation. -/
def gatedMix (p : Fin 4096 → Fin 10752 → EReal) (kv : Fin 256 → Fin 2048 → EReal) (s : Fin 4096) (j : Fin 1024) : EReal :=
  mix (qAt p s ⟨j.val / 256, by omega⟩) (kAt kv ⟨j.val / 256, by omega⟩) (vAt kv ⟨j.val / 256, by omega⟩) ⟨j.val % 256, by omega⟩
    * (zAt p s ⟨j.val / 256, by omega⟩ ⟨j.val % 256, by omega⟩ * sigm (zAt p s ⟨j.val / 256, by omega⟩ ⟨j.val % 256, by omega⟩))

end Cert.Attn

end
-- ==== Proof.AttnFwdBody.lean ====
/- What the memory attention's body stores, one row and one head at a time. -/
module

public import proofs.«01_k».proof.Proof.Gen.AttnFwdIdeal.Value
public import proofs.«01_k».proof.Proof.AttnFwdMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AttnFwdIdeal.Stage

open Cert.AttnFwdIdeal Cert.AttnFwdIdeal.Gen Idealize.ShloMosaic Idealize.ShloMosaic.TcCoe Idealize.SL.Sem
open Cert.Attn

/-- Row `r` of head `h`'s columns of a block of rows. -/
def cols (x : FVec Ideal S256x1024 .f32) (r : Fin 256) (h : Fin 4) (d : Fin 256) : EReal :=
  x (ix2 r ⟨h.val * 256 + d.val, by omega⟩)

/-- Head `h`'s keys, the left half of the memory's projection, and its values, the right half. -/
def keys (x : FVec Ideal S256x2048 .f32) (h : Fin 4) (m d : Fin 256) : EReal :=
  x (ix2 m ⟨h.val * 256 + d.val, by omega⟩)
def vals (x : FVec Ideal S256x2048 .f32) (h : Fin 4) (m d : Fin 256) : EReal :=
  x (ix2 m ⟨1024 + (h.val * 256 + d.val), by omega⟩)

/-- What a point stores. -/
def tile (q z : FVec Ideal S256x1024 .f32) (kv : FVec Ideal S256x2048 .f32) : FVec Ideal S256x1024 .bf16 :=
  k0_pay1 z (k0_pay4 q kv (k0_pay2 q kv) (k0_pay3 q kv)) (k0_pay5 z) k0_pay6

/-- The first two heads' outputs. -/
theorem head_0 (q : FVec Ideal S256x1024 .f32) (kv : FVec Ideal S256x2048 .f32) (r d : Fin 256) :
    (k0_pay2 (F := Ideal) q kv (ix2 r d) : EReal) = mix (cols q r 0) (keys kv 0) (vals kv 0) d := by
  pointwise [k0_pay2, mix, weight, mass, expo, score, scale, bottom, cols, keys, vals] <;> blk_point []

theorem head_1 (q : FVec Ideal S256x1024 .f32) (kv : FVec Ideal S256x2048 .f32) (r d : Fin 256) :
    (k0_pay3 (F := Ideal) q kv (ix2 r d) : EReal) = mix (cols q r 1) (keys kv 1) (vals kv 1) d := by
  pointwise [k0_pay3, mix, weight, mass, expo, score, scale, bottom, cols, keys, vals] <;> blk_point []

theorem out_0 (q z : FVec Ideal S256x1024 .f32) (kv : FVec Ideal S256x2048 .f32) (r d : Fin 256) :
    (tile q z kv (ix2 r ⟨(((0 : Fin 4) : ℕ)) * 256 + d.val, by omega⟩) : EReal)
      = mix (cols q r 0) (keys kv 0) (vals kv 0) d * (cols z r 0 d * sigm (cols z r 0 d)) := by
  pointwise [tile, k0_pay1, k0_pay4, k0_pay5, k0_pay6, head_0, head_1, mix, weight, mass, expo, score, scale, bottom, keys, vals, sigm, cols]

theorem out_1 (q z : FVec Ideal S256x1024 .f32) (kv : FVec Ideal S256x2048 .f32) (r d : Fin 256) :
    (tile q z kv (ix2 r ⟨(((1 : Fin 4) : ℕ)) * 256 + d.val, by omega⟩) : EReal)
      = mix (cols q r 1) (keys kv 1) (vals kv 1) d * (cols z r 1 d * sigm (cols z r 1 d)) := by
  pointwise [tile, k0_pay1, k0_pay4, k0_pay5, k0_pay6, head_0, head_1, mix, weight, mass, expo, score, scale, bottom, keys, vals, sigm, cols]

theorem out_2 (q z : FVec Ideal S256x1024 .f32) (kv : FVec Ideal S256x2048 .f32) (r d : Fin 256) :
    (tile q z kv (ix2 r ⟨(((2 : Fin 4) : ℕ)) * 256 + d.val, by omega⟩) : EReal)
      = mix (cols q r 2) (keys kv 2) (vals kv 2) d * (cols z r 2 d * sigm (cols z r 2 d)) := by
  pointwise [tile, k0_pay1, k0_pay4, k0_pay5, k0_pay6, head_0, head_1, mix, weight, mass, expo, score, scale, bottom, keys, vals, sigm, cols]
  split_ifs <;> first | omega | blk_point []

theorem out_3 (q z : FVec Ideal S256x1024 .f32) (kv : FVec Ideal S256x2048 .f32) (r d : Fin 256) :
    (tile q z kv (ix2 r ⟨(((3 : Fin 4) : ℕ)) * 256 + d.val, by omega⟩) : EReal)
      = mix (cols q r 3) (keys kv 3) (vals kv 3) d * (cols z r 3 d * sigm (cols z r 3 d)) := by
  pointwise [tile, k0_pay1, k0_pay4, k0_pay5, k0_pay6, head_0, head_1, mix, weight, mass, expo, score, scale, bottom, keys, vals, sigm, cols]
  split_ifs <;> first | omega | blk_point []

theorem tile_at (q z : FVec Ideal S256x1024 .f32) (kv : FVec Ideal S256x2048 .f32) (r : Fin 256) (h : Fin 4) (d : Fin 256) :
    (tile q z kv (ix2 r ⟨h.val * 256 + d.val, by omega⟩) : EReal)
      = mix (cols q r h) (keys kv h) (vals kv h) d * (cols z r h d * sigm (cols z r h d)) := by
  fin_cases h
  · exact out_0 q z kv r d
  · exact out_1 q z kv r d
  · exact out_2 q z kv r d
  · exact out_3 q z kv r d

end Cert.AttnFwdIdeal.Stage

end
-- ==== Proof.AttnFwdValue.lean ====
/- The array the memory attention leaves, as a function of its arguments. -/
module

public import proofs.«01_k».proof.Proof.AttnFwdBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AttnFwdIdeal.Stage

open Cert.AttnFwdIdeal Cert.AttnFwdIdeal.Gen Idealize.ShloMosaic Idealize.ShloMosaic.TcCoe Idealize.SL.Sem
open Idealize.ShloMosaic.Pipeline (Dat)
open Cert.Attn
variable (m : (ℓ : Loc nD τ sig) → Buf (Elt Ideal) ℓ)

/-- The two arguments by row and column. -/
def pOf (c : Dev nD) (s : Fin 4096) (j : Fin 10752) : EReal := (m ((c : Thread nD τ).loc main_arg0) : FVec Ideal S4096x10752 .f32) (ix2 s j)
def kvOf (c : Dev nD) (s : Fin 256) (j : Fin 2048) : EReal := (m ((c : Thread nD τ).loc main_arg1) : FVec Ideal S256x2048 .f32) (ix2 s j)

/-- The windows' block indices. -/
theorem idx : ∀ t : Fin cfg0.N, win0_0.index t = ![t.val, 8] ∧ win0_1.index t = ![t.val, 9] ∧ win0_2.index t = ![0, 0]
    ∧ win0_3.index t = ![t.val, 0] ∧ t.val < 16 := (by decide +kernel : ∀ t : Fin grid0.N, _)

/-- Row `r` of the block of point `t`. -/
def rowOf (t : Fin cfg0.N) (r : Fin 256) : Fin 4096 := ⟨t.val * 256 + r.val, by have := (idx t).2.2.2.2; omega⟩

theorem q_block (c : Dev nD) (t : Fin cfg0.N) (r : Fin 256) (h : Fin 4) :
    cols (X0_0 m c t) r h = qAt (pOf m c) (rowOf t r) h := by
  funext d
  unfold cols qAt pOf X0_0 Pipeline.Window.fill
  rw [dif_pos (moved0_0 t _)]
  blk_point [iblk, V, idx t, rowOf]

theorem z_block (c : Dev nD) (t : Fin cfg0.N) (r : Fin 256) (h : Fin 4) :
    cols (X0_1 m c t) r h = zAt (pOf m c) (rowOf t r) h := by
  funext d
  unfold cols zAt pOf X0_1 Pipeline.Window.fill
  rw [dif_pos (moved0_1 t _)]
  blk_point [iblk, V, idx t, rowOf]

theorem k_block (c : Dev nD) (t : Fin cfg0.N) (h : Fin 4) : keys (iblk m c 2 t) h = kAt (kvOf m c) h := by
  funext a d
  unfold keys kAt kvOf
  blk_point [iblk, V, idx t]

theorem v_block (c : Dev nD) (t : Fin cfg0.N) (h : Fin 4) : vals (iblk m c 2 t) h = vAt (kvOf m c) h := by
  funext a d
  unfold vals vAt kvOf
  blk_point [iblk, V, idx t]

theorem tile_point (c : Dev nD) (t : Fin cfg0.N) (r : Fin 256) (j : Fin 1024) :
    (tile (X0_0 m c t) (X0_1 m c t) (iblk m c 2 t) (ix2 r j) : EReal) = gatedMix (pOf m c) (kvOf m c) (rowOf t r) j := by
  have e : j = ⟨j.val / 256 * 256 + j.val % 256, by omega⟩ := Fin.ext (by dsimp only; omega)
  have k := tile_at (X0_0 m c t) (X0_1 m c t) (iblk m c 2 t) r ⟨j.val / 256, by omega⟩ ⟨j.val % 256, by omega⟩
  rw [← e] at k
  rw [k, q_block, k_block, v_block, z_block]
  rfl

theorem stored_at (c : Dev nD) (t : Fin cfg0.N) (i : Fin 256) (j : Fin 1024) :
    ((dats m 0 c).after 3 t (ix2 i j) : EReal) = gatedMix (pOf m c) (kvOf m c) (rowOf t i) j := by
  rw [← tile_point, after0_3]
  unfold outsAt0
  frame_out
  rfl

/-- The attention's gated output. -/
theorem final (c : Dev nD) : (dats m 0 c).arrAt 3 cfg0.N = fun i => gatedMix (pOf m c) (kvOf m c) (i 0) (i 1) := by
  refine (dats m 0 c).arrAt_eq_of_covers 3 _ (by decide +kernel) fun t _ y => ?_
  idx_vars y
  blk_simp
  refine (stored_at m c t y0 y1).trans (congrArg₂ _ (Fin.ext ?_) (Fin.ext ?_)) <;> blk_simp [idx t, rowOf]

end Cert.AttnFwdIdeal.Stage

end
-- ==== Proof.AttnFwdRef.lean ====
/- The result of the plain memory attention, entry by entry. -/
module

public import proofs.«01_k».proof.Proof.Gen.AttnFwdRefIdeal.Read
public import proofs.«01_k».proof.Proof.AttnFwdMath
public import Idealize.ShloMosaic.Lib.Pointwise

@[expose] public section

set_option maxRecDepth 16384

noncomputable section

namespace Cert.AttnFwdRefIdeal.Stage

open Cert.AttnFwdRefIdeal Cert.AttnFwdRefIdeal.Read Idealize.ShloMosaic
open Cert.Attn

/-- The arguments by row and column. -/
def pF (x0 : FVec Ideal S4096x10752 .f32) (s : Fin 4096) (j : Fin 10752) : EReal := x0 (ix2 s j)
def kvF (x1 : FVec Ideal S256x2048 .f32) (s : Fin 256) (j : Fin 2048) : EReal := x1 (ix2 s j)

variable (x0 : FVec Ideal S4096x10752 .f32) (x1 : FVec Ideal S256x2048 .f32)

theorem q_at (s : Fin 4096) (h : Fin 4) (d : Fin 256) :
    val_main_v6 (F := Ideal) x0 (ix3 s h d) = qAt (pF x0) s h d := by
  unfold qAt pF
  pointwise [val_main_v6, val_main_v0]

theorem k_at (a : Fin 256) (h : Fin 4) (d : Fin 256) :
    val_main_v4 (F := Ideal) x1 (ix3 a h d) = kAt (kvF x1) h a d := by
  unfold kAt kvF
  pointwise [val_main_v4, val_main_v2]

theorem v_at (a : Fin 256) (h : Fin 4) (d : Fin 256) :
    val_main_v5 (F := Ideal) x1 (ix3 a h d) = vAt (kvF x1) h a d := by
  unfold vAt kvF
  pointwise [val_main_v5, val_main_v3]

theorem score_at (h : Fin 4) (s : Fin 4096) (a : Fin 256) :
    val_main_v9 (F := Ideal) x0 x1 (ix3 h s a) = score (qAt (pF x0) s h) (kAt (kvF x1) h) a := by
  pointwise [val_main_v9, val_main_v7, val_main_v8, val_main_cst, q_at, k_at, score, scale]

theorem expo_at (h : Fin 4) (s : Fin 4096) (a : Fin 256) :
    val_main_v14 (F := Ideal) x0 x1 (ix3 h s a) = expo (qAt (pF x0) s h) (kAt (kvF x1) h) a := by
  pointwise [val_main_v14, val_main_v13, val_main_v12, val_main_v11, val_main_v10, val_main_cst_0, score_at, expo, bottom]

theorem mass_at (h : Fin 4) (s : Fin 4096) :
    val_main_v15 (F := Ideal) x0 x1 (ix2 h s) = mass (qAt (pF x0) s h) (kAt (kvF x1) h) := by
  pointwise [val_main_v15, val_main_cst_1, expo_at, mass]

theorem weight_at (h : Fin 4) (s : Fin 4096) (a : Fin 256) :
    val_main_v18 (F := Ideal) x0 x1 (ix3 h s a) = weight (qAt (pF x0) s h) (kAt (kvF x1) h) a := by
  pointwise [val_main_v18, val_main_v17, val_main_v16, mass_at, expo_at, weight]

theorem mix_at (s : Fin 4096) (j : Fin 1024) :
    val_main_v21 (F := Ideal) x0 x1 (ix2 s j)
      = mix (qAt (pF x0) s ⟨j.val / 256, by omega⟩) (kAt (kvF x1) ⟨j.val / 256, by omega⟩) (vAt (kvF x1) ⟨j.val / 256, by omega⟩) ⟨j.val % 256, by omega⟩ := by
  pointwise [val_main_v21, val_main_v20, val_main_v19, weight_at, v_at, mix]
  all_goals exact Finset.sum_congr rfl fun x _ => mul_comm _ _

theorem z_at (s : Fin 4096) (j : Fin 1024) :
    val_main_v1 (F := Ideal) x0 (ix2 s j) = zAt (pF x0) s ⟨j.val / 256, by omega⟩ ⟨j.val % 256, by omega⟩ := by
  have e : (⟨9216 + (j.val / 256 * 256 + j.val % 256), by omega⟩ : Fin 10752) = ⟨9216 + j.val, by omega⟩ := Fin.ext (by dsimp only; omega)
  unfold zAt pF
  simp only [e]
  pointwise [val_main_v1]

theorem gated_at (s : Fin 4096) (j : Fin 1024) :
    gatedMix (pF x0) (kvF x1) s j = (val_main_v24 (F := Ideal) x0 x1 (ix2 s j) : EReal) := by
  unfold gatedMix
  rw [← mix_at, ← z_at]
  unfold sigm
  rw [zero_sub]
  pointwise [val_main_v24, val_main_v23, val_main_v22, val_main_call0_v5, val_main_call0_v4, val_main_call0_cst_0, val_main_call0_v3,
    val_main_call0_v2, val_main_call0_cst, val_main_call0_v1, val_main_call0_v0]

end Cert.AttnFwdRefIdeal.Stage

end
-- ==== Proof.AttnFwdClaim.lean ====
/- The memory attention and the reference give the same result. -/
module

public import proofs.«01_k».proof.Defs
public import proofs.«01_k».proof.Proof.Gen.AttnFwdIdeal
public import proofs.«01_k».proof.Proof.Gen.AttnFwdRefIdeal
public import proofs.«01_k».proof.Proof.Gen.AttnFwdRefIdeal.Run
public import proofs.«01_k».proof.Proof.AttnFwdValue
public import proofs.«01_k».proof.Proof.AttnFwdRef

@[expose] public section

noncomputable section

namespace Cert.AttnFwdClaim

open Idealize.ShloMosaic Idealize.ShloMosaic.TcCoe Idealize.SL.Sem

theorem algebraic : Cert.algebraic_AttnFwdIdeal_AttnFwdRefIdeal (hAttnFwdIdeal := Cert.AttnFwdIdeal.Gen.facts)
    (hAttnFwdRefIdeal := Cert.AttnFwdRefIdeal.Gen.facts) := by
  intro m g m' g' _ hag
  refine ⟨_, Cert.AttnFwdIdeal.Value.run_blocks m g,
    (θ_run _ _ _).mono (fun _ h c => ⟨(h c).1.trans ?_, (h c).2⟩)
      (Cert.AttnFwdRefIdeal.Value.run m' g')⟩
  · rw [Cert.AttnFwdIdeal.Stage.final, Cert.AttnFwdRefIdeal.Read.val_main_v24_eq,
      (hag c).1, (hag c).2]
    funext i
    idx_vars i
    exact (Cert.AttnFwdRefIdeal.Stage.gated_at _ _ _ _).symm

theorem frameRef : Cert.quiescent_AttnFwdRefIdeal (hAttnFwdRefIdeal := Cert.AttnFwdRefIdeal.Gen.facts) := by
  intro m g _
  exact (θ_run _ _ _).mono (fun r h => ⟨fun c => (h c).2, sem_eq_zero_of_no_sems (by decide) _⟩)
    (Cert.AttnFwdRefIdeal.Value.run m g)

end Cert.AttnFwdClaim

end
-- ==== Proof.GluMath.lean ====
/- One row of the gated unit and its gradient, as functions of extended reals. -/
module

public import proofs.«01_k».proof.Proof.AttnMath

@[expose] public section

noncomputable section

namespace Cert.Glu

open Idealize.ShloMosaic Cert.Attn

/-- A value times the logistic function of itself. -/
def silu (z : EReal) : EReal := z * sigm z

/-- The gated value at one column, from the value, the gate before its logistic function and the outer gate. -/
def out (v g z : EReal) : EReal := v * sigm g * silu z

/-- The gradient reaching the value. -/
def dVal (g z d : EReal) : EReal := d * silu z * sigm g

/-- The gradient reaching the gate before its logistic function. -/
def dInner (v g z d : EReal) : EReal := v * (d * silu z) * (sigm g * (1 - sigm g))

/-- The same gradient with the slope of the logistic function written with the exponential and its signs. -/
theorem dInner_eq (v g z d : EReal) :
    0 - (0 - v * (d * silu z) * Ideal.div 1 ((1 + Ideal.exp (0 - g)) * (1 + Ideal.exp (0 - g)))) * Ideal.exp (0 - g)
      = dInner v g z d := by
  unfold dInner
  rw [← slope, zero_sub, zero_sub, EReal.neg_mul, neg_neg, mul_assoc (v * (d * silu z)), zero_sub]

/-- The gradient reaching the outer gate. -/
def dOuter (v g z d : EReal) : EReal := dGate (v * sigm g) d z

/-- The gradient of the unit's input in column `j`: the values in the first half, the gates in the second. -/
def dPre (p : Fin 2048 → EReal) (z d : Fin 1024 → EReal) (j : Fin 2048) : EReal :=
  if h : j.val < 1024 then dVal (p ⟨1024 + j.val, by omega⟩) (z ⟨j.val, h⟩) (d ⟨j.val, h⟩)
  else dInner (p ⟨j.val - 1024, by omega⟩) (p j) (z ⟨j.val - 1024, by omega⟩) (d ⟨j.val - 1024, by omega⟩)

/-- The value and the gate of column `j` of the unit's input. -/
def valOf (p : Fin 2048 → EReal) (j : Fin 1024) : EReal := p ⟨j.val, by omega⟩
def gateOf (p : Fin 2048 → EReal) (j : Fin 1024) : EReal := p ⟨1024 + j.val, by omega⟩

end Cert.Glu

end
-- ==== Proof.GluBwdBody.lean ====
/- What the gated unit's gradient body stores, entry by entry, from the blocks. -/
module

public import proofs.«01_k».proof.Proof.Gen.GluBwdIdeal.Value
public import proofs.«01_k».proof.Proof.GluMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluBwdIdeal.Stage

open Cert.GluBwdIdeal Cert.GluBwdIdeal.Gen Idealize.ShloMosaic Idealize.ShloMosaic.TcCoe Idealize.SL.Sem
open Cert.Glu Cert.Attn

variable (p : FVec Ideal S256x2048 .f32) (z d : FVec Ideal S256x1024 .f32)

/-- A row of a block. -/
def row {n : ℕ} (x : (⟨2, ![256, n]⟩ : Shape).Idx → Elt Ideal .f32) (i : Fin 256) (j : Fin n) : EReal := x (ix2 i j)

theorem inner_at (i : Fin 256) (j : Fin 1024) :
    (k0_pay14 (F := Ideal) z d (ix2 i j) : EReal) = row d i j * silu (row z i j) := by
  unfold silu sigm row
  pointwise [k0_pay14, k0_pay13, k0_pay12, k0_pay11]

theorem val_at (i : Fin 256) (j : Fin 1024) :
    (k0_pay17 (F := Ideal) p z d (ix2 i j) : EReal) = dVal (gateOf (row p i) j) (row z i j) (row d i j) := by
  unfold dVal
  rw [← inner_at]
  unfold gateOf sigm row
  pointwise [k0_pay17, k0_pay9, k0_pay8, k0_pay7]

theorem gate_at (i : Fin 256) (j : Fin 1024) :
    (k0_pay16 (F := Ideal) p z d (ix2 i j) : EReal) = valOf (row p i) j * (row d i j * silu (row z i j)) := by
  rw [← inner_at]
  unfold valOf row
  pointwise [k0_pay16, k0_pay6]

theorem outer_at (i : Fin 256) (j : Fin 1024) :
    (k0_pay15 (F := Ideal) p z d (ix2 i j) : EReal) = dOuter (valOf (row p i) j) (gateOf (row p i) j) (row z i j) (row d i j) := by
  unfold dOuter dGate gateOf valOf sigm row
  pointwise [k0_pay15, k0_pay13, k0_pay12, k0_pay11, k0_pay9, k0_pay8, k0_pay7, k0_pay6]

theorem pre_at (i : Fin 256) (j : Fin 2048) :
    (k0_pay1 (F := Ideal) (k0_pay7 p) (k0_pay10 p) (k0_pay16 p z d) (k0_pay17 p z d) (ix2 i j) : EReal)
      = dPre (row p i) (row z i) (row d i) j := by
  by_cases hj : j.val < 1024
  · rw [dPre, dif_pos hj]
    refine Eq.trans ?_ (val_at p z d i ⟨j.val, hj⟩)
    pointwise [k0_pay1]
    rw [dif_pos hj, dif_pos hj, zero_add]
  · rw [dPre, dif_neg hj, ← dInner_eq]
    refine Eq.trans ?_ (congrArg (fun x => 0 - (0 - x * Ideal.div 1 ((1 + Ideal.exp (0 - row p i j)) * (1 + Ideal.exp (0 - row p i j))))
      * Ideal.exp (0 - row p i j)) (gate_at p z d i ⟨j.val - 1024, by omega⟩))
    unfold row
    have e : (⟨1024 + (j.val - 1024), by omega⟩ : Fin 2048) = j := Fin.ext (by show 1024 + (j.val - 1024) = j.val; omega)
    pointwise [k0_pay1, k0_pay10, k0_pay8, k0_pay7]
    rw [dif_neg hj, dif_neg hj, add_zero]
    simp only [e]

theorem pre_out (x : S256x2048.Idx) :
    (k0_pay2 (F := Ideal) (k0_pay7 p) (k0_pay10 p) (k0_pay16 p z d) (k0_pay17 p z d) x : EReal)
      = dPre (row p (x 0)) (row z (x 0)) (row d (x 0)) (x 1) := by
  idx_vars x
  refine Eq.trans ?_ (pre_at p z d _ _)
  pointwise [k0_pay2]

theorem outer_out (x : S256x1024.Idx) :
    (k0_pay3 (F := Ideal) (k0_pay15 p z d) x : EReal)
      = dOuter (valOf (row p (x 0)) (x 1)) (gateOf (row p (x 0)) (x 1)) (row z (x 0) (x 1)) (row d (x 0) (x 1)) := by
  idx_vars x
  refine Eq.trans ?_ (outer_at p z d _ _)
  pointwise [k0_pay3]

variable (a : FVec Ideal S1x2048 .f32)

theorem bias_out (x : S1x2048.Idx) :
    (k0_pay5 (F := Ideal) (k0_pay7 p) (k0_pay10 p) (k0_pay16 p z d) (k0_pay17 p z d) a x : EReal)
      = a x + ∑ i : Fin 256, dPre (row p i) (row z i) (row d i) (x 1) := by
  idx_vars x
  obtain rfl : x0 = 0 := Subsingleton.elim _ _
  refine Eq.trans ?_ (congrArg _ (Finset.sum_congr rfl fun i _ => pre_at p z d i _))
  pointwise [k0_pay5]

theorem zero_out (x : S1x2048.Idx) : (k0_pay4 (F := Ideal) x : EReal) = 0 := by
  idx_vars x
  pointwise [k0_pay4]

end Cert.GluBwdIdeal.Stage

end
-- ==== Proof.GluBwdValue.lean ====
/- The arrays the gated unit's gradient leaves, as functions of its arguments. -/
module

public import proofs.«01_k».proof.Proof.GluBwdBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluBwdIdeal.Stage

open Cert.GluBwdIdeal Cert.GluBwdIdeal.Gen Idealize.ShloMosaic Idealize.ShloMosaic.TcCoe Idealize.SL.Sem
open Idealize.ShloMosaic.Pipeline (Dat)
open Cert.Glu
variable (m : (ℓ : Loc nD τ sig) → Buf (Elt Ideal) ℓ)

/-- The three arguments by row and column: the unit's input, the outer gate's columns of the projection, the cotangent. -/
def pAt (c : Dev nD) (s : Fin 4096) (j : Fin 2048) : EReal := (m ((c : Thread nD τ).loc main_arg0) : FVec Ideal S4096x2048 .f32) (ix2 s j)
def zAt (c : Dev nD) (s : Fin 4096) (j : Fin 1024) : EReal :=
  (m ((c : Thread nD τ).loc main_arg1) : FVec Ideal S4096x10752 .f32) (ix2 s ⟨7168 + j.val, by omega⟩)
def dAt (c : Dev nD) (s : Fin 4096) (j : Fin 1024) : EReal := (m ((c : Thread nD τ).loc main_arg2) : FVec Ideal S4096x1024 .f32) (ix2 s j)

/-- The windows' block indices. -/
theorem idx : ∀ t : Fin cfg0.N, win0_0.index t = ![t.val, 0] ∧ win0_1.index t = ![t.val, 7] ∧ win0_2.index t = ![t.val, 0]
    ∧ win0_3.index t = ![t.val, 0] ∧ win0_4.index t = ![t.val, 0] ∧ win0_5.index t = ![0, 0] ∧ t.val < 16 :=
  (by decide +kernel : ∀ t : Fin grid0.N, _)

/-- Row `r` of the block of point `t`. -/
def rowOf (t : Fin cfg0.N) (r : Fin 256) : Fin 4096 := ⟨t.val * 256 + r.val, by have := (idx t).2.2.2.2.2.2; omega⟩

theorem p_block (c : Dev nD) (t : Fin cfg0.N) (r : Fin 256) : row (iblk m c 0 t) r = pAt m c (rowOf t r) := by
  funext j
  unfold row pAt
  blk_point [iblk, V, idx t, rowOf]

theorem z_block (c : Dev nD) (t : Fin cfg0.N) (r : Fin 256) : row (X0_1 m c t) r = zAt m c (rowOf t r) := by
  funext j
  unfold row zAt X0_1 Pipeline.Window.fill
  rw [dif_pos (moved0_1 t _)]
  blk_point [iblk, V, idx t, rowOf]

theorem d_block (c : Dev nD) (t : Fin cfg0.N) (r : Fin 256) : row (iblk m c 2 t) r = dAt m c (rowOf t r) := by
  funext j
  unfold row dAt
  blk_point [iblk, V, idx t, rowOf]

/-- The two gradients by row and column. -/
def preAt (c : Dev nD) (s : Fin 4096) (j : Fin 2048) : EReal := dPre (pAt m c s) (zAt m c s) (dAt m c s) j
def outerAt (c : Dev nD) (s : Fin 4096) (j : Fin 1024) : EReal :=
  dOuter (valOf (pAt m c s) j) (gateOf (pAt m c s) j) (zAt m c s j) (dAt m c s j)

theorem outs_pre (c : Dev nD) (t : Fin cfg0.N) (i : Fin 256) (j : Fin 2048) :
    ((outsAt0 m c t.val t.isLt).1 (ix2 i j) : EReal) = preAt m c (rowOf t i) j := by
  unfold preAt
  rw [← p_block, ← z_block, ← d_block]
  by_cases h : t.val % 16 = 0
  · rw [outsAt0_A m c t h]; frame_out
    exact pre_out _ _ _ (ix2 i j)
  · rw [outsAt0_B m c t h]; frame_out
    exact pre_out _ _ _ (ix2 i j)

theorem outs_outer (c : Dev nD) (t : Fin cfg0.N) (i : Fin 256) (j : Fin 1024) :
    ((outsAt0 m c t.val t.isLt).2.1 (ix2 i j) : EReal) = outerAt m c (rowOf t i) j := by
  unfold outerAt
  rw [← p_block, ← z_block, ← d_block]
  by_cases h : t.val % 16 = 0
  · rw [outsAt0_A m c t h]; frame_out
    exact outer_out _ _ _ (ix2 i j)
  · rw [outsAt0_B m c t h]; frame_out
    exact outer_out _ _ _ (ix2 i j)

/-- One point's part of the bias's gradient. -/
def part (c : Dev nD) (t : Fin cfg0.N) (x : S1x2048.Idx) : EReal := ∑ r : Fin 256, preAt m c (rowOf t r) (x 1)

theorem part_eq (c : Dev nD) (t : Fin cfg0.N) (x : S1x2048.Idx) :
    ∑ r : Fin 256, dPre (row (iblk m c 0 t) r) (row (X0_1 m c t) r) (row (iblk m c 2 t) r) (x 1) = part m c t x :=
  Finset.sum_congr rfl fun r _ => by rw [p_block, z_block, d_block]; rfl

theorem bias_first (c : Dev nD) (t : Fin cfg0.N) (h : t.val % 16 = 0) (x : S1x2048.Idx) :
    ((outsAt0 m c t.val t.isLt).2.2 x : EReal) = 0 + part m c t x := by
  rw [outsAt0_A m c t h]; frame_out
  refine (bias_out _ _ _ _ x).trans ?_
  rw [part_eq, zero_out]

theorem bias_next (c : Dev nD) (t : Fin cfg0.N) (h : ¬ t.val % 16 = 0) (x : S1x2048.Idx) :
    ((outsAt0 m c t.val t.isLt).2.2 x : EReal)
      = (outsAt0 m c (t.val - 1) (Nat.lt_of_le_of_lt (Nat.sub_le _ _) t.isLt)).2.2 x + part m c t x := by
  rw [outsAt0_B m c t h]; frame_out
  refine (bias_out _ _ _ _ x).trans ?_
  rw [part_eq]

theorem bias_last (c : Dev nD) (t : Fin cfg0.N) (ht : t.val + 1 = 16) (x : S1x2048.Idx) :
    ((outsAt0 m c t.val t.isLt).2.2 x : EReal) = ∑ s : Fin 4096, preAt m c s (x 1) := by
  rw [Pipeline.eq_sum_fin_of_reset_step_apply_last (fun n h => (outsAt0 m c n h).2.2) 16 (fun _ => (0 : EReal)) (part m c)
    (fun t h x => bias_first m c t h x) (fun t h x => bias_next m c t h x) (le_of_eq N_0) t ht x, zero_add]
  exact Fin.sum_mul_add_congr (fun s k hl => rfl) (by rw [show cfg0.N = 16 from N_0])

/-- The gradient of the unit's input. -/
theorem final_pre (c : Dev nD) : (dats m 0 c).arrAt 3 cfg0.N = fun i => preAt m c (i 0) (i 1) := by
  refine (dats m 0 c).arrAt_eq_of_covers 3 _ (by decide +kernel) fun t _ y => ?_
  rw [after0_3]
  idx_vars y
  blk_simp
  refine (outs_pre m c t y0 y1).trans (congrArg₂ _ (Fin.ext ?_) (Fin.ext ?_)) <;> blk_simp [idx t, rowOf]

/-- The gradient of the outer gate. -/
theorem final_outer (c : Dev nD) : (dats m 0 c).arrAt 4 cfg0.N = fun i => outerAt m c (i 0) (i 1) := by
  refine (dats m 0 c).arrAt_eq_of_covers 4 _ (by decide +kernel) fun t _ y => ?_
  rw [after0_4]
  idx_vars y
  blk_simp
  refine (outs_outer m c t y0 y1).trans (congrArg₂ _ (Fin.ext ?_) (Fin.ext ?_)) <;> blk_simp [idx t, rowOf]

/-- The gradient of the bias, accumulated over the points. -/
theorem final_bias (c : Dev nD) : (dats m 0 c).arrAt 5 cfg0.N = fun i => ∑ s : Fin 4096, preAt m c s (i 1) := by
  refine (dats m 0 c).arrAt_eq_of_covers 5 _ (by decide +kernel) fun t hf y => ?_
  have ht : t.val % 16 = 15 := (flush0_5 t).mp hf
  have hN := (idx t).2.2.2.2.2.2
  rw [after0_5]
  refine (bias_last m c t (by omega) y).trans ?_
  idx_vars y
  blk_simp
  refine Finset.sum_congr rfl fun s _ => congrArg _ (Fin.ext ?_)
  blk_simp [idx t]

end Cert.GluBwdIdeal.Stage

end
-- ==== Proof.GluBwdRef.lean ====
/- The results of the plain gradient of the gated unit, entry by entry. -/
module

public import proofs.«01_k».proof.Proof.Gen.GluBwdRefIdeal.Read
public import proofs.«01_k».proof.Proof.GluMath
public import Idealize.ShloMosaic.Lib.Pointwise

@[expose] public section

set_option maxRecDepth 16384

noncomputable section

namespace Cert.GluBwdRefIdeal.Stage

open Cert.GluBwdRefIdeal Cert.GluBwdRefIdeal.Read Idealize.ShloMosaic
open Cert.Glu Cert.Attn

variable (p : FVec Ideal S4096x2048 .f32) (q : FVec Ideal S4096x10752 .f32) (d : FVec Ideal S4096x1024 .f32)

/-- The arguments by row and column. -/
def pOf (s : Fin 4096) (j : Fin 2048) : EReal := p (ix2 s j)
def zOf (s : Fin 4096) (j : Fin 1024) : EReal := q (ix2 s ⟨7168 + j.val, by omega⟩)
def dOf (s : Fin 4096) (j : Fin 1024) : EReal := d (ix2 s j)

theorem sigm_inner (s : Fin 4096) (j : Fin 1024) :
    (val_main_v8 (F := Ideal) p (ix2 s j) : EReal) = sigm (gateOf (pOf p s) j) := by
  unfold sigm gateOf pOf
  rw [zero_sub]
  pointwise [val_main_v8, val_main_v7, val_main_v6, val_main_v5, val_main_v4, val_main_v3, val_main_v2, val_main_cst, val_main_cst_0]

theorem sigm_outer (s : Fin 4096) (j : Fin 1024) :
    (val_main_v13_2 (F := Ideal) q (ix2 s j) : EReal) = sigm (zOf q s j) := by
  unfold sigm zOf
  rw [zero_sub]
  pointwise [val_main_v13_2, val_main_call0_v4, val_main_call0_v3, val_main_call0_v2, val_main_call0_v1, val_main_call0_v0,
    val_main_v0, val_main_call0_cst, val_main_call0_cst_0]

theorem inner_at (s : Fin 4096) (j : Fin 1024) :
    (val_main_v16 (F := Ideal) q d (ix2 s j) : EReal) = dOf d s j * silu (zOf q s j) := by
  unfold silu
  rw [← sigm_outer]
  unfold dOf zOf
  pointwise [val_main_v16, val_main_v13_0, val_main_v0]

theorem val_at (s : Fin 4096) (j : Fin 1024) :
    (val_main_v19 (F := Ideal) p q d (ix2 s j) : EReal) = dVal (gateOf (pOf p s) j) (zOf q s j) (dOf d s j) := by
  unfold dVal
  rw [← inner_at, ← sigm_inner]
  pointwise [val_main_v19]

theorem gate_at (s : Fin 4096) (j : Fin 1024) :
    (val_main_v20 (F := Ideal) p q d (ix2 s j) : EReal)
      = dInner (valOf (pOf p s) j) (gateOf (pOf p s) j) (zOf q s j) (dOf d s j) := by
  unfold dInner
  rw [← inner_at, ← sigm_inner]
  unfold valOf pOf
  pointwise [val_main_v20, val_main_v18, val_main_v11, val_main_v10, val_main_v9, val_main_v1, val_main_cst_1]

theorem concat_at (s : Fin 4096) (j : Fin 2048) :
    (val_main_v21 (F := Ideal) p q d (ix2 s j) : EReal) = dPre (pOf p s) (zOf q s) (dOf d s) j := by
  by_cases hj : j.val < 1024
  · rw [dPre, dif_pos hj]
    refine Eq.trans ?_ (val_at p q d s ⟨j.val, hj⟩)
    pointwise [val_main_v21]
    all_goals exact dif_pos hj
  · rw [dPre, dif_neg hj]
    have e : (⟨1024 + (j.val - 1024), by omega⟩ : Fin 2048) = j := Fin.ext (by show 1024 + (j.val - 1024) = j.val; omega)
    refine Eq.trans ?_ ((gate_at p q d s ⟨j.val - 1024, by omega⟩).trans (by unfold gateOf; simp only [e]; rfl))
    pointwise [val_main_v21]
    all_goals exact dif_neg hj

theorem pre_at (s : Fin 4096) (j : Fin 2048) :
    dPre (pOf p s) (zOf q s) (dOf d s) j = (val_main_v27 (F := Ideal) p q d (ix2 s j) : EReal) := by
  rw [← concat_at]
  pointwise [val_main_v27]

theorem outer_at (s : Fin 4096) (j : Fin 1024) :
    dOuter (valOf (pOf p s) j) (gateOf (pOf p s) j) (zOf q s j) (dOf d s j) = (val_main_v28 (F := Ideal) p q d (ix2 s j) : EReal) := by
  unfold dOuter
  rw [dGate_eq, ← sigm_inner, ← sigm_outer]
  unfold valOf pOf dOf zOf
  pointwise [val_main_v28, val_main_v17, val_main_call1_v2, val_main_call1_v1, val_main_call1_v0, val_main_v15, val_main_v12,
    val_main_v13_1, val_main_call0_v7, val_main_call0_v6, val_main_call0_cst_1, val_main_v1, val_main_v0]

theorem bias_at (z : Fin 1) (j : Fin 2048) :
    ∑ s : Fin 4096, dPre (pOf p s) (zOf q s) (dOf d s) j = (val_main_v26 (F := Ideal) p q d (ix2 z j) : EReal) := by
  refine (Finset.sum_congr rfl fun s _ => (concat_at p q d s j).symm).trans ?_
  obtain rfl : z = 0 := Subsingleton.elim _ _
  pointwise [val_main_v26, val_main_v25, val_main_cst_3]

end Cert.GluBwdRefIdeal.Stage

end
-- ==== Proof.GluBwdClaim.lean ====
/- The gradient of the gated unit and the reference give the same results. -/
module

public import proofs.«01_k».proof.Defs
public import proofs.«01_k».proof.Proof.Gen.GluBwdIdeal
public import proofs.«01_k».proof.Proof.Gen.GluBwdRefIdeal
public import proofs.«01_k».proof.Proof.Gen.GluBwdRefIdeal.Run
public import proofs.«01_k».proof.Proof.GluBwdValue
public import proofs.«01_k».proof.Proof.GluBwdRef

@[expose] public section

noncomputable section

namespace Cert.GluBwdClaim

open Idealize.ShloMosaic Idealize.ShloMosaic.TcCoe Idealize.SL.Sem

theorem algebraic : Cert.algebraic_GluBwdIdeal_GluBwdRefIdeal (hGluBwdIdeal := Cert.GluBwdIdeal.Gen.facts)
    (hGluBwdRefIdeal := Cert.GluBwdRefIdeal.Gen.facts) := by
  intro m g m' g' _ hag
  refine ⟨_, _, _, Cert.GluBwdIdeal.Value.run_blocks m g,
    (θ_run _ _ _).mono (fun _ h c => ⟨(h c).1.trans ?_, (h c).2.1.trans ?_, (h c).2.2.1.trans ?_, (h c).2.2.2⟩)
      (Cert.GluBwdRefIdeal.Value.run m' g')⟩
  · rw [Cert.GluBwdIdeal.Stage.final_pre, Cert.GluBwdRefIdeal.Read.val_main_v27_eq,
      (hag c).1, (hag c).2.1, (hag c).2.2]
    funext i
    idx_vars i
    exact (Cert.GluBwdRefIdeal.Stage.pre_at _ _ _ _ _).symm
  · rw [Cert.GluBwdIdeal.Stage.final_outer, Cert.GluBwdRefIdeal.Read.val_main_v28_eq,
      (hag c).1, (hag c).2.1, (hag c).2.2]
    funext i
    idx_vars i
    exact (Cert.GluBwdRefIdeal.Stage.outer_at _ _ _ _ _).symm
  · rw [Cert.GluBwdIdeal.Stage.final_bias, Cert.GluBwdRefIdeal.Read.val_main_v26_eq,
      (hag c).1, (hag c).2.1, (hag c).2.2]
    funext i
    idx_vars i
    exact (Cert.GluBwdRefIdeal.Stage.bias_at _ _ _ _ _).symm

theorem frameRef : Cert.quiescent_GluBwdRefIdeal (hGluBwdRefIdeal := Cert.GluBwdRefIdeal.Gen.facts) := by
  intro m g _
  exact (θ_run _ _ _).mono (fun r h => ⟨fun c => (h c).2.2.2, sem_eq_zero_of_no_sems (by decide) _⟩)
    (Cert.GluBwdRefIdeal.Value.run m g)

end Cert.GluBwdClaim

end
-- ==== Proof.NormMath.lean ====
/- One row of the scaled norm, and its gradient, as functions of extended reals. -/
module

public import Idealize.ShloMosaic.Lib.Pointwise

@[expose] public section

noncomputable section

namespace Cert.Norm

open Idealize.ShloMosaic

/-- The row's length, the small number under the root and the exponent of the norm, the values of their float words. -/
def width : EReal := Ideal.ofBits .f32 0x45800000#32
def eps : EReal := Ideal.ofBits .f32 0x358637BD#32
def power : EReal := Ideal.ofBits .f32 0xBF000000#32

/-- The mean of the squares and the small number. -/
def square (x : Fin 4096 → EReal) : EReal := Ideal.div (∑ k : Fin 4096, x k * x k) width + eps

/-- One over the root of it. -/
def rinv (x : Fin 4096 → EReal) : EReal := Ideal.rsqrt (square x)

/-- The norm's output at column `j`. -/
def normed (x w : Fin 4096 → EReal) (j : Fin 4096) : EReal := x j * rinv x * w j

/-- The gradient reaching each of the row's squares, from the gradient `g` that reaches `x · rinv x`. -/
def dSquare (x g : Fin 4096 → EReal) : EReal :=
  Ideal.div ((∑ k : Fin 4096, x k * g k) * (power * Ideal.div (rinv x) (square x))) width

/-- The gradient of the row, from the gradient `g` that reaches `x · rinv x`. -/
def dRow (x g : Fin 4096 → EReal) (j : Fin 4096) : EReal :=
  g j * rinv x + x j * dSquare x g + dSquare x g * x j

end Cert.Norm

end
-- ==== Proof.NormBwdBody.lean ====
/- What the norm gradient's body stores, entry by entry, from the blocks. -/
module

public import proofs.«01_k».proof.Proof.Gen.NormBwdIdeal.Value
public import proofs.«01_k».proof.Proof.NormMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormBwdIdeal.Stage

open Cert.NormBwdIdeal Cert.NormBwdIdeal.Gen Idealize.ShloMosaic Idealize.ShloMosaic.TcCoe Idealize.SL.Sem
open Cert.Norm

variable (x : FVec Ideal S256x4096 .f32) (w : FVec Ideal S1x4096 .f32) (d e : FVec Ideal S256x4096 .f32)

/-- A row of a block. -/
def row {n : ℕ} (x : (⟨2, ![n, 4096]⟩ : Shape).Idx → Elt Ideal .f32) (i : Fin n) (j : Fin 4096) : EReal := x (ix2 i j)

theorem square_at (i : Fin 256) (z : Fin 1) : (k0_pay3 (F := Ideal) x (ix2 i z) : EReal) = square (row x i) := by
  obtain rfl : z = 0 := Subsingleton.elim _ _
  unfold square width eps row
  pointwise [k0_pay3]

theorem inv_at (i : Fin 256) (z : Fin 1) : (k0_pay4 (F := Ideal) x (ix2 i z) : EReal) = rinv (row x i) := by
  unfold rinv
  rw [← square_at x i z]
  pointwise [k0_pay4]

theorem row_out (i : Fin 256) (j : Fin 4096) :
    (k0_pay6 (F := Ideal) x w d e (ix2 i j) : EReal)
      = dRow (row x i) (fun k => row d i k * row w 0 k) j + row e i j := by
  unfold dRow dSquare width power
  rw [← square_at x i 0, ← inv_at x i 0]
  unfold row
  pointwise [k0_pay6]
  simp only [Fin.sum_univ_one]

variable (a : FVec Ideal S1x4096 .f32)

theorem scale_out (z : Fin 1) (j : Fin 4096) :
    (k0_pay2 (F := Ideal) (k0_pay5 x d) a (ix2 z j) : EReal)
      = a (ix2 z j) + ∑ i : Fin 256, row x i j * rinv (row x i) * row d i j := by
  obtain rfl : z = 0 := Subsingleton.elim _ _
  refine Eq.trans ?_ (congrArg _ (Finset.sum_congr rfl fun i _ => congrArg (fun v => row x i j * v * row d i j) (inv_at x i 0)))
  unfold row
  pointwise [k0_pay2, k0_pay5]

theorem zero_out (z : Fin 1) (j : Fin 4096) : (k0_pay1 (F := Ideal) (ix2 z j) : EReal) = 0 := by
  pointwise [k0_pay1]

end Cert.NormBwdIdeal.Stage

end
-- ==== Proof.NormBwdValue.lean ====
/- The arrays the norm gradient leaves, as functions of its arguments. -/
module

public import proofs.«01_k».proof.Proof.NormBwdBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormBwdIdeal.Stage

open Cert.NormBwdIdeal Cert.NormBwdIdeal.Gen Idealize.ShloMosaic Idealize.ShloMosaic.TcCoe Idealize.SL.Sem
open Idealize.ShloMosaic.Pipeline (Dat)
open Cert.Norm
variable (m : (ℓ : Loc nD τ sig) → Buf (Elt Ideal) ℓ)

/-- The arguments by row and column: the norm's input, its weights, the cotangent, the gradient that bypasses the norm. -/
def xAt (c : Dev nD) (s : Fin 4096) (j : Fin 4096) : EReal := (m ((c : Thread nD τ).loc main_arg0) : FVec Ideal S4096x4096 .f32) (ix2 s j)
def wAt (c : Dev nD) (j : Fin 4096) : EReal := (m ((c : Thread nD τ).loc main_arg1) : FVec Ideal S4096 .f32) (ix1 j)
def dAt (c : Dev nD) (s : Fin 4096) (j : Fin 4096) : EReal := (m ((c : Thread nD τ).loc main_arg2) : FVec Ideal S4096x4096 .f32) (ix2 s j)
def eAt (c : Dev nD) (s : Fin 4096) (j : Fin 4096) : EReal := (m ((c : Thread nD τ).loc main_arg3) : FVec Ideal S4096x4096 .f32) (ix2 s j)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ t.val < 16 :=
  (by decide +kernel : ∀ t : Fin grid0.N, _)

/-- Row `r` of the block of point `t`. -/
def rowOf (t : Fin cfg0.N) (r : Fin 256) : Fin 4096 := ⟨t.val * 256 + r.val, by have := (idx t).2.2.2.2.2.2; omega⟩

theorem x_block (c : Dev nD) (t : Fin cfg0.N) (r : Fin 256) : row (iblk m c 0 t) r = xAt m c (rowOf t r) := by
  funext j
  unfold row xAt
  blk_point [iblk, V, idx t, rowOf]

theorem w_block (c : Dev nD) (t : Fin cfg0.N) : row (iblk m c 1 t) 0 = wAt m c := by
  funext j
  unfold row wAt
  blk_point [iblk, V, idx t]

theorem d_block (c : Dev nD) (t : Fin cfg0.N) (r : Fin 256) : row (iblk m c 2 t) r = dAt m c (rowOf t r) := by
  funext j
  unfold row dAt
  blk_point [iblk, V, idx t, rowOf]

theorem e_block (c : Dev nD) (t : Fin cfg0.N) (r : Fin 256) : row (iblk m c 3 t) r = eAt m c (rowOf t r) := by
  funext j
  unfold row eAt
  blk_point [iblk, V, idx t, rowOf]

/-- The input's gradient by row and column. -/
def rowAt (c : Dev nD) (s : Fin 4096) (j : Fin 4096) : EReal := dRow (xAt m c s) (fun k => dAt m c s k * wAt m c k) j + eAt m c s j

theorem outs_row (c : Dev nD) (t : Fin cfg0.N) (i : Fin 256) (j : Fin 4096) :
    ((outsAt0 m c t.val t.isLt).1 (ix2 i j) : EReal) = rowAt m c (rowOf t i) j := by
  unfold rowAt
  rw [← x_block, ← d_block, ← e_block, ← w_block m c t]
  by_cases h : t.val % 16 = 0
  · rw [outsAt0_A m c t h]; frame_out
    exact row_out _ _ _ _ _ _
  · rw [outsAt0_B m c t h]; frame_out
    exact row_out _ _ _ _ _ _

/-- One row's share of the weights' gradient, and one point's part of it. -/
def term (c : Dev nD) (j : Fin 4096) (s : Fin 4096) : EReal := xAt m c s j * rinv (xAt m c s) * dAt m c s j
def part (c : Dev nD) (t : Fin cfg0.N) (x : S1x4096.Idx) : EReal := ∑ r : Fin 256, term m c (x 1) (rowOf t r)

theorem part_eq (c : Dev nD) (t : Fin cfg0.N) (j : Fin 4096) :
    ∑ r : Fin 256, row (iblk m c 0 t) r j * rinv (row (iblk m c 0 t) r) * row (iblk m c 2 t) r j = ∑ r : Fin 256, term m c j (rowOf t r) :=
  Finset.sum_congr rfl fun r _ => by rw [x_block, d_block]; rfl

theorem scale_first (c : Dev nD) (t : Fin cfg0.N) (h : t.val % 16 = 0) (x : S1x4096.Idx) :
    ((outsAt0 m c t.val t.isLt).2 x : EReal) = 0 + part m c t x := by
  unfold part
  idx_vars x
  rw [outsAt0_A m c t h]; frame_out
  refine (scale_out _ _ _ _ _).trans ?_
  rw [part_eq, zero_out]

theorem scale_next (c : Dev nD) (t : Fin cfg0.N) (h : ¬ t.val % 16 = 0) (x : S1x4096.Idx) :
    ((outsAt0 m c t.val t.isLt).2 x : EReal)
      = (outsAt0 m c (t.val - 1) (Nat.lt_of_le_of_lt (Nat.sub_le _ _) t.isLt)).2 x + part m c t x := by
  unfold part
  idx_vars x
  rw [outsAt0_B m c t h]; frame_out
  refine (scale_out _ _ _ _ _).trans ?_
  rw [part_eq]

theorem scale_last (c : Dev nD) (t : Fin cfg0.N) (ht : t.val + 1 = 16) (x : S1x4096.Idx) :
    ((outsAt0 m c t.val t.isLt).2 x : EReal) = ∑ s : Fin 4096, term m c (x 1) s := by
  rw [Pipeline.eq_sum_fin_of_reset_step_apply_last (fun n h => (outsAt0 m c n h).2) 16 (fun _ => (0 : EReal)) (part m c)
    (fun t h x => scale_first m c t h x) (fun t h x => scale_next m c t h x) (le_of_eq N_0) t ht x, zero_add]
  exact Fin.sum_mul_add_congr (fun s k hl => rfl) (by rw [show cfg0.N = 16 from N_0])

/-- The gradient of the input. -/
theorem final_row (c : Dev nD) : (dats m 0 c).arrAt 4 cfg0.N = fun i => rowAt m c (i 0) (i 1) := by
  refine (dats m 0 c).arrAt_eq_of_covers 4 _ (by decide +kernel) fun t _ y => ?_
  rw [after0_4]
  idx_vars y
  blk_simp
  refine (outs_row m c t y0 y1).trans (congrArg₂ _ (Fin.ext ?_) (Fin.ext ?_)) <;> blk_simp [idx t, rowOf]

/-- The gradient of the weights, accumulated over the points. -/
theorem final_scale (c : Dev nD) : (dats m 0 c).arrAt 5 cfg0.N = fun i => ∑ s : Fin 4096, term m c (i 1) s := by
  refine (dats m 0 c).arrAt_eq_of_covers 5 _ (by decide +kernel) fun t hf y => ?_
  have ht : t.val % 16 = 15 := (flush0_5 t).mp hf
  have hN := (idx t).2.2.2.2.2.2
  rw [after0_5]
  refine (scale_last m c t (by omega) y).trans ?_
  idx_vars y
  blk_simp
  refine Finset.sum_congr rfl fun s _ => congrArg (fun j => term m c j s) (Fin.ext ?_)
  blk_simp [idx t]

end Cert.NormBwdIdeal.Stage

end
-- ==== Proof.NormBwdRef.lean ====
/- The results of the plain gradient of the norm, entry by entry. -/
module

public import proofs.«01_k».proof.Proof.Gen.NormBwdRefIdeal.Read
public import proofs.«01_k».proof.Proof.NormMath
public import Idealize.ShloMosaic.Lib.Pointwise

@[expose] public section

set_option maxRecDepth 16384

noncomputable section

namespace Cert.NormBwdRefIdeal.Stage

open Cert.NormBwdRefIdeal Cert.NormBwdRefIdeal.Read Idealize.ShloMosaic
open Cert.Norm

variable (x : FVec Ideal S4096x4096 .f32) (w : FVec Ideal S4096 .f32) (d e : FVec Ideal S4096x4096 .f32)

/-- A row of an argument, and the norm's weights. -/
def xOf {n : ℕ} (x : (⟨2, ![n, 4096]⟩ : Shape).Idx → Elt Ideal .f32) (i : Fin n) (j : Fin 4096) : EReal := x (ix2 i j)
def wOf (j : Fin 4096) : EReal := w (ix1 j)

theorem square_at (i : Fin 4096) (z : Fin 1) : (val_main_v7 (F := Ideal) x (ix2 i z) : EReal) = square (xOf x i) := by
  unfold square width eps xOf
  pointwise [val_main_v7, val_main_v6, val_main_cst_1, val_main_v5, val_main_v4, val_main_cst_0, val_main_v3, val_main_v2, val_main_cst,
    val_main_v1]

theorem inv_at (i : Fin 4096) (z : Fin 1) : (val_main_v8 (F := Ideal) x (ix2 i z) : EReal) = rinv (xOf x i) := by
  unfold rinv
  rw [← square_at x i z]
  pointwise [val_main_v8]

theorem dsquare_at (i : Fin 4096) :
    (val_main_v29 (F := Ideal) x w d (ix1 i) : EReal) = dSquare (xOf x i) (fun k => xOf d i k * wOf w k) := by
  unfold dSquare width power
  rw [← square_at x i 0, ← inv_at x i 0]
  unfold xOf wOf
  pointwise [val_main_v29, val_main_cst_6, val_main_v28, val_main_v27, val_main_cst_5, val_main_v26, val_main_v23, val_main_v22,
    val_main_cst_4, val_main_v21, val_main_v20, val_main_v19, val_main_v0, val_main_v11, val_main_v10, val_main_cst_2, val_main_v9]
  simp only [Fin.sum_univ_one]

theorem row_at (i : Fin 4096) (j : Fin 4096) :
    dRow (xOf x i) (fun k => xOf d i k * wOf w k) j + xOf e i j
      = (val_main_v35 (F := Ideal) x w d e (ix2 i j) : EReal) := by
  unfold dRow
  rw [← dsquare_at, ← inv_at x i 0]
  unfold xOf wOf
  pointwise [val_main_v35, val_main_v34, val_main_v33, val_main_v32, val_main_v31, val_main_v30, val_main_v25, val_main_v24, val_main_v20,
    val_main_v19, val_main_v0]

theorem scale_at (z : Fin 1) (j : Fin 4096) :
    ∑ i : Fin 4096, xOf x i j * rinv (xOf x i) * xOf d i j = (val_main_v18 (F := Ideal) x d (ix2 z j) : EReal) := by
  refine (Finset.sum_congr rfl fun i _ => congrArg (fun v => xOf x i j * v * xOf d i j) (inv_at x i 0).symm).trans ?_
  obtain rfl : z = 0 := Subsingleton.elim _ _
  unfold xOf
  pointwise [val_main_v18, val_main_v17, val_main_cst_3, val_main_v16, val_main_v13, val_main_v12]

end Cert.NormBwdRefIdeal.Stage

end
-- ==== Proof.NormBwdClaim.lean ====
/- The gradient of the norm and the reference give the same results. -/
module

public import proofs.«01_k».proof.Defs
public import proofs.«01_k».proof.Proof.Gen.NormBwdIdeal
public import proofs.«01_k».proof.Proof.Gen.NormBwdRefIdeal
public import proofs.«01_k».proof.Proof.Gen.NormBwdRefIdeal.Run
public import proofs.«01_k».proof.Proof.NormBwdValue
public import proofs.«01_k».proof.Proof.NormBwdRef

@[expose] public section

noncomputable section

namespace Cert.NormBwdClaim

open Idealize.ShloMosaic Idealize.ShloMosaic.TcCoe Idealize.SL.Sem

theorem algebraic : Cert.algebraic_NormBwdIdeal_NormBwdRefIdeal (hNormBwdIdeal := Cert.NormBwdIdeal.Gen.facts)
    (hNormBwdRefIdeal := Cert.NormBwdRefIdeal.Gen.facts) := by
  intro m g m' g' _ hag
  refine ⟨_, _, Cert.NormBwdIdeal.Value.run_blocks m g,
    (θ_run _ _ _).mono (fun _ h c => ⟨(h c).1.trans ?_, (h c).2.1.trans ?_, (h c).2.2⟩)
      (Cert.NormBwdRefIdeal.Value.run m' g')⟩
  · rw [Cert.NormBwdIdeal.Stage.final_row, Cert.NormBwdRefIdeal.Read.val_main_v35_eq,
      (hag c).1, (hag c).2.1, (hag c).2.2.1, (hag c).2.2.2]
    funext i
    idx_vars i
    exact (Cert.NormBwdRefIdeal.Stage.row_at _ _ _ _ _ _).symm
  · rw [Cert.NormBwdIdeal.Stage.final_scale, Cert.NormBwdRefIdeal.Read.val_main_v18_eq,
      (hag c).1, (hag c).2.2.1]
    funext i
    idx_vars i
    exact (Cert.NormBwdRefIdeal.Stage.scale_at _ _ _ _).symm

theorem frameRef : Cert.quiescent_NormBwdRefIdeal (hNormBwdRefIdeal := Cert.NormBwdRefIdeal.Gen.facts) := by
  intro m g _
  exact (θ_run _ _ _).mono (fun r h => ⟨fun c => (h c).2.2, sem_eq_zero_of_no_sems (by decide) _⟩)
    (Cert.NormBwdRefIdeal.Value.run m g)

end Cert.NormBwdClaim

end
-- ==== Proof.MemNormBwdBody.lean ====
/- What the memory's norm gradient's body stores, entry by entry, from the blocks. -/
module

public import proofs.«01_k».proof.Proof.Gen.MemNormBwdIdeal.Value
public import proofs.«01_k».proof.Proof.NormMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemNormBwdIdeal.Stage

open Cert.MemNormBwdIdeal Cert.MemNormBwdIdeal.Gen Idealize.ShloMosaic Idealize.ShloMosaic.TcCoe Idealize.SL.Sem
open Cert.Norm

variable (x : FVec Ideal S256x4096 .f32) (w : FVec Ideal S1x4096 .f32) (d : FVec Ideal S256x4096 .f32)

/-- A row of a block. -/
def row {n : ℕ} (x : (⟨2, ![n, 4096]⟩ : Shape).Idx → Elt Ideal .f32) (i : Fin n) (j : Fin 4096) : EReal := x (ix2 i j)

theorem square_at (i : Fin 256) (z : Fin 1) : (k0_pay3 (F := Ideal) x (ix2 i z) : EReal) = square (row x i) := by
  obtain rfl : z = 0 := Subsingleton.elim _ _
  unfold square width eps row
  pointwise [k0_pay3]

theorem inv_at (i : Fin 256) (z : Fin 1) : (k0_pay4 (F := Ideal) x (ix2 i z) : EReal) = rinv (row x i) := by
  unfold rinv
  rw [← square_at x i z]
  pointwise [k0_pay4]

theorem row_out (i : Fin 256) (j : Fin 4096) :
    (k0_pay6 (F := Ideal) x w d (ix2 i j) : EReal)
      = dRow (row x i) (fun k => row d i k * row w 0 k) j := by
  unfold dRow dSquare width power
  rw [← square_at x i 0, ← inv_at x i 0]
  unfold row
  pointwise [k0_pay6]
  simp only [Fin.sum_univ_one]

variable (a : FVec Ideal S1x4096 .f32)

theorem scale_out (z : Fin 1) (j : Fin 4096) :
    (k0_pay2 (F := Ideal) (k0_pay5 x d) a (ix2 z j) : EReal)
      = a (ix2 z j) + ∑ i : Fin 256, row x i j * rinv (row x i) * row d i j := by
  obtain rfl : z = 0 := Subsingleton.elim _ _
  refine Eq.trans ?_ (congrArg _ (Finset.sum_congr rfl fun i _ => congrArg (fun v => row x i j * v * row d i j) (inv_at x i 0)))
  unfold row
  pointwise [k0_pay2, k0_pay5]

theorem zero_out (z : Fin 1) (j : Fin 4096) : (k0_pay1 (F := Ideal) (ix2 z j) : EReal) = 0 := by
  pointwise [k0_pay1]

end Cert.MemNormBwdIdeal.Stage

end
-- ==== Proof.MemNormBwdValue.lean ====
/- The arrays the memory's norm gradient leaves, as functions of its arguments. -/
module

public import proofs.«01_k».proof.Proof.MemNormBwdBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemNormBwdIdeal.Stage

open Cert.MemNormBwdIdeal Cert.MemNormBwdIdeal.Gen Idealize.ShloMosaic Idealize.ShloMosaic.TcCoe Idealize.SL.Sem
open Idealize.ShloMosaic.Pipeline (Dat)
open Cert.Norm
variable (m : (ℓ : Loc nD τ sig) → Buf (Elt Ideal) ℓ)

/-- The arguments by row and column: the norm's input, its weights, the cotangent. -/
def xAt (c : Dev nD) (s : Fin 256) (j : Fin 4096) : EReal := (m ((c : Thread nD τ).loc main_arg0) : FVec Ideal S256x4096 .f32) (ix2 s j)
def wAt (c : Dev nD) (j : Fin 4096) : EReal := (m ((c : Thread nD τ).loc main_arg1) : FVec Ideal S4096 .f32) (ix1 j)
def dAt (c : Dev nD) (s : Fin 256) (j : Fin 4096) : EReal := (m ((c : Thread nD τ).loc main_arg2) : FVec Ideal S256x4096 .f32) (ix2 s j)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ t.val < 1 :=
  (by decide +kernel : ∀ t : Fin grid0.N, _)

/-- Row `r` of the block of point `t`. -/
def rowOf (t : Fin cfg0.N) (r : Fin 256) : Fin 256 := ⟨t.val * 256 + r.val, by have := (idx t).2.2.2.2.2; omega⟩

theorem x_block (c : Dev nD) (t : Fin cfg0.N) (r : Fin 256) : row (iblk m c 0 t) r = xAt m c (rowOf t r) := by
  funext j
  unfold row xAt
  blk_point [iblk, V, idx t, rowOf]

theorem w_block (c : Dev nD) (t : Fin cfg0.N) : row (iblk m c 1 t) 0 = wAt m c := by
  funext j
  unfold row wAt
  blk_point [iblk, V, idx t]

theorem d_block (c : Dev nD) (t : Fin cfg0.N) (r : Fin 256) : row (iblk m c 2 t) r = dAt m c (rowOf t r) := by
  funext j
  unfold row dAt
  blk_point [iblk, V, idx t, rowOf]

/-- The input's gradient by row and column. -/
def rowAt (c : Dev nD) (s : Fin 256) (j : Fin 4096) : EReal := dRow (xAt m c s) (fun k => dAt m c s k * wAt m c k) j

theorem outs_row (c : Dev nD) (t : Fin cfg0.N) (i : Fin 256) (j : Fin 4096) :
    ((outsAt0 m c t).1 (ix2 i j) : EReal) = rowAt m c (rowOf t i) j := by
  unfold rowAt
  rw [← x_block, ← d_block, ← w_block m c t]
  unfold outsAt0
  frame_out
  exact row_out _ _ _ _ _

/-- One row's share of the weights' gradient. -/
def term (c : Dev nD) (j : Fin 4096) (s : Fin 256) : EReal := xAt m c s j * rinv (xAt m c s) * dAt m c s j

theorem scale_last (c : Dev nD) (t : Fin cfg0.N) (x : S1x4096.Idx) :
    ((outsAt0 m c t).2 x : EReal) = ∑ s : Fin 256, term m c (x 1) s := by
  idx_vars x
  unfold outsAt0
  frame_out
  refine (scale_out _ _ _ _ _).trans ?_
  rw [zero_out, zero_add]
  refine Finset.sum_congr rfl fun r _ => ?_
  rw [x_block, d_block]
  have e : rowOf t r = r := Fin.ext (by have := (idx t).2.2.2.2.2; show t.val * 256 + r.val = r.val; omega)
  rw [e]
  rfl

/-- The gradient of the input. -/
theorem final_row (c : Dev nD) : (dats m 0 c).arrAt 3 cfg0.N = fun i => rowAt m c (i 0) (i 1) := by
  refine (dats m 0 c).arrAt_eq_of_covers 3 _ (by decide +kernel) fun t _ y => ?_
  rw [after0_3]
  idx_vars y
  blk_simp
  refine (outs_row m c t y0 y1).trans (congrArg₂ _ (Fin.ext ?_) (Fin.ext ?_)) <;> blk_simp [idx t, rowOf]

/-- The gradient of the weights. -/
theorem final_scale (c : Dev nD) : (dats m 0 c).arrAt 4 cfg0.N = fun i => ∑ s : Fin 256, term m c (i 1) s := by
  refine (dats m 0 c).arrAt_eq_of_covers 4 _ (by decide +kernel) fun t hf y => ?_
  rw [after0_4]
  refine (scale_last m c t y).trans ?_
  idx_vars y
  blk_simp
  refine Finset.sum_congr rfl fun s _ => congrArg (fun j => term m c j s) (Fin.ext ?_)
  blk_simp [idx t]

end Cert.MemNormBwdIdeal.Stage

end
-- ==== Proof.MemNormBwdRef.lean ====
/- The results of the plain gradient of the memory's norm, entry by entry. -/
module

public import proofs.«01_k».proof.Proof.Gen.MemNormBwdRefIdeal.Read
public import proofs.«01_k».proof.Proof.NormMath
public import Idealize.ShloMosaic.Lib.Pointwise

@[expose] public section

set_option maxRecDepth 16384

noncomputable section

namespace Cert.MemNormBwdRefIdeal.Stage

open Cert.MemNormBwdRefIdeal Cert.MemNormBwdRefIdeal.Read Idealize.ShloMosaic
open Cert.Norm

variable (x : FVec Ideal S256x4096 .f32) (w : FVec Ideal S4096 .f32) (d : FVec Ideal S256x4096 .f32)

/-- A row of an argument, and the norm's weights. -/
def xOf {n : ℕ} (x : (⟨2, ![n, 4096]⟩ : Shape).Idx → Elt Ideal .f32) (i : Fin n) (j : Fin 4096) : EReal := x (ix2 i j)
def wOf (j : Fin 4096) : EReal := w (ix1 j)

theorem square_at (i : Fin 256) (z : Fin 1) : (val_main_v7 (F := Ideal) x (ix2 i z) : EReal) = square (xOf x i) := by
  unfold square width eps xOf
  pointwise [val_main_v7, val_main_v6, val_main_cst_1, val_main_v5, val_main_v4, val_main_cst_0, val_main_v3, val_main_v2, val_main_cst,
    val_main_v1]

theorem inv_at (i : Fin 256) (z : Fin 1) : (val_main_v8 (F := Ideal) x (ix2 i z) : EReal) = rinv (xOf x i) := by
  unfold rinv
  rw [← square_at x i z]
  pointwise [val_main_v8]

theorem dsquare_at (i : Fin 256) :
    (val_main_v29 (F := Ideal) x w d (ix1 i) : EReal) = dSquare (xOf x i) (fun k => xOf d i k * wOf w k) := by
  unfold dSquare width power
  rw [← square_at x i 0, ← inv_at x i 0]
  unfold xOf wOf
  pointwise [val_main_v29, val_main_cst_6, val_main_v28, val_main_v27, val_main_cst_5, val_main_v26, val_main_v23, val_main_v22,
    val_main_cst_4, val_main_v21, val_main_v20, val_main_v19, val_main_v0, val_main_v11, val_main_v10, val_main_cst_2, val_main_v9]
  simp only [Fin.sum_univ_one]

theorem row_at (i : Fin 256) (j : Fin 4096) :
    dRow (xOf x i) (fun k => xOf d i k * wOf w k) j
      = (val_main_v34 (F := Ideal) x w d (ix2 i j) : EReal) := by
  unfold dRow
  rw [← dsquare_at, ← inv_at x i 0]
  unfold xOf wOf
  pointwise [val_main_v34, val_main_v33, val_main_v32, val_main_v31, val_main_v30, val_main_v25, val_main_v24, val_main_v20,
    val_main_v19, val_main_v0]

theorem scale_at (z : Fin 1) (j : Fin 4096) :
    ∑ i : Fin 256, xOf x i j * rinv (xOf x i) * xOf d i j = (val_main_v18 (F := Ideal) x d (ix2 z j) : EReal) := by
  refine (Finset.sum_congr rfl fun i _ => congrArg (fun v => xOf x i j * v * xOf d i j) (inv_at x i 0).symm).trans ?_
  obtain rfl : z = 0 := Subsingleton.elim _ _
  unfold xOf
  pointwise [val_main_v18, val_main_v17, val_main_cst_3, val_main_v16, val_main_v13, val_main_v12]

end Cert.MemNormBwdRefIdeal.Stage

end
-- ==== Proof.MemNormBwdClaim.lean ====
/- The gradient of the memory's norm and the reference give the same results. -/
module

public import proofs.«01_k».proof.Defs
public import proofs.«01_k».proof.Proof.Gen.MemNormBwdIdeal
public import proofs.«01_k».proof.Proof.Gen.MemNormBwdRefIdeal
public import proofs.«01_k».proof.Proof.Gen.MemNormBwdRefIdeal.Run
public import proofs.«01_k».proof.Proof.MemNormBwdValue
public import proofs.«01_k».proof.Proof.MemNormBwdRef

@[expose] public section

noncomputable section

namespace Cert.MemNormBwdClaim

open Idealize.ShloMosaic Idealize.ShloMosaic.TcCoe Idealize.SL.Sem

theorem algebraic : Cert.algebraic_MemNormBwdIdeal_MemNormBwdRefIdeal (hMemNormBwdIdeal := Cert.MemNormBwdIdeal.Gen.facts)
    (hMemNormBwdRefIdeal := Cert.MemNormBwdRefIdeal.Gen.facts) := by
  intro m g m' g' _ hag
  refine ⟨_, _, Cert.MemNormBwdIdeal.Value.run_blocks m g,
    (θ_run _ _ _).mono (fun _ h c => ⟨(h c).1.trans ?_, (h c).2.1.trans ?_, (h c).2.2⟩)
      (Cert.MemNormBwdRefIdeal.Value.run m' g')⟩
  · rw [Cert.MemNormBwdIdeal.Stage.final_row, Cert.MemNormBwdRefIdeal.Read.val_main_v34_eq,
      (hag c).1, (hag c).2.1, (hag c).2.2]
    funext i
    idx_vars i
    exact (Cert.MemNormBwdRefIdeal.Stage.row_at _ _ _ _ _).symm
  · rw [Cert.MemNormBwdIdeal.Stage.final_scale, Cert.MemNormBwdRefIdeal.Read.val_main_v18_eq,
      (hag c).1, (hag c).2.2]
    funext i
    idx_vars i
    exact (Cert.MemNormBwdRefIdeal.Stage.scale_at _ _ _ _).symm

theorem frameRef : Cert.quiescent_MemNormBwdRefIdeal (hMemNormBwdRefIdeal := Cert.MemNormBwdRefIdeal.Gen.facts) := by
  intro m g _
  exact (θ_run _ _ _).mono (fun r h => ⟨fun c => (h c).2.2, sem_eq_zero_of_no_sems (by decide) _⟩)
    (Cert.MemNormBwdRefIdeal.Value.run m g)

end Cert.MemNormBwdClaim

end
-- ==== Proof.GluFwdValue.lean ====
/- The array the gated unit leaves, as a function of its arguments. -/
module

public import proofs.«01_k».proof.Proof.Gen.GluFwdIdeal.Value
public import proofs.«01_k».proof.Proof.GluMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluFwdIdeal.Stage

open Cert.GluFwdIdeal Cert.GluFwdIdeal.Gen Idealize.ShloMosaic Idealize.ShloMosaic.TcCoe Idealize.SL.Sem
open Idealize.ShloMosaic.Pipeline (Dat)
open Cert.Glu Cert.Attn

/-- A row of a block. -/
def row {n : ℕ} (x : (⟨2, ![256, n]⟩ : Shape).Idx → Elt Ideal .f32) (i : Fin 256) (j : Fin n) : EReal := x (ix2 i j)

/-- What the body stores, from its blocks. -/
theorem unit_out (p : FVec Ideal S256x2048 .f32) (z : FVec Ideal S256x1024 .f32) (i : Fin 256) (j : Fin 1024) :
    (k0_pay1 (F := Ideal) p z (ix2 i j) : EReal) = out (valOf (row p i) j) (gateOf (row p i) j) (row z i j) := by
  unfold out silu sigm valOf gateOf row
  pointwise [k0_pay1]

variable (m : (ℓ : Loc nD τ sig) → Buf (Elt Ideal) ℓ)

/-- The arguments by row and column: the unit's input and the outer gate's columns of the projection. -/
def pAt (c : Dev nD) (s : Fin 4096) (j : Fin 2048) : EReal := (m ((c : Thread nD τ).loc main_arg0) : FVec Ideal S4096x2048 .f32) (ix2 s j)
def zAt (c : Dev nD) (s : Fin 4096) (j : Fin 1024) : EReal :=
  (m ((c : Thread nD τ).loc main_arg1) : FVec Ideal S4096x10752 .f32) (ix2 s ⟨7168 + j.val, by omega⟩)

/-- The windows' block indices. -/
theorem idx : ∀ t : Fin cfg0.N, win0_0.index t = ![t.val, 0] ∧ win0_1.index t = ![t.val, 7] ∧ win0_2.index t = ![t.val, 0]
    ∧ t.val < 16 := (by decide +kernel : ∀ t : Fin grid0.N, _)

/-- Row `r` of the block of point `t`. -/
def rowOf (t : Fin cfg0.N) (r : Fin 256) : Fin 4096 := ⟨t.val * 256 + r.val, by have := (idx t).2.2.2; omega⟩

theorem p_block (c : Dev nD) (t : Fin cfg0.N) (r : Fin 256) : row (iblk m c 0 t) r = pAt m c (rowOf t r) := by
  funext j
  unfold row pAt
  blk_point [iblk, V, idx t, rowOf]

theorem z_block (c : Dev nD) (t : Fin cfg0.N) (r : Fin 256) : row (X0_1 m c t) r = Stage.zAt m c (rowOf t r) := by
  funext j
  unfold row Stage.zAt X0_1 Pipeline.Window.fill
  rw [dif_pos (moved0_1 t _)]
  blk_point [iblk, V, idx t, rowOf]

/-- The unit's output by row and column. -/
def outAt (c : Dev nD) (s : Fin 4096) (j : Fin 1024) : EReal := out (valOf (pAt m c s) j) (gateOf (pAt m c s) j) (Stage.zAt m c s j)

theorem stored_at (c : Dev nD) (t : Fin cfg0.N) (i : Fin 256) (j : Fin 1024) :
    ((dats m 0 c).after 2 t (ix2 i j) : EReal) = outAt m c (rowOf t i) j := by
  unfold outAt
  rw [← p_block, ← z_block, after0_2]
  unfold outsAt0
  frame_out
  exact unit_out (iblk m c 0 t) (X0_1 m c t) i j

/-- The unit's output. -/
theorem final (c : Dev nD) : (dats m 0 c).arrAt 2 cfg0.N = fun i => outAt m c (i 0) (i 1) := by
  refine (dats m 0 c).arrAt_eq_of_covers 2 _ (by decide +kernel) fun t _ y => ?_
  idx_vars y
  blk_simp
  refine (stored_at m c t y0 y1).trans (congrArg₂ _ (Fin.ext ?_) (Fin.ext ?_)) <;> blk_simp [idx t, rowOf]

end Cert.GluFwdIdeal.Stage

end
-- ==== Proof.GluFwdRef.lean ====
/- The result of the plain gated unit, entry by entry. -/
module

public import proofs.«01_k».proof.Proof.Gen.GluFwdRefIdeal.Read
public import proofs.«01_k».proof.Proof.GluMath
public import Idealize.ShloMosaic.Lib.Pointwise

@[expose] public section

set_option maxRecDepth 16384

noncomputable section

namespace Cert.GluFwdRefIdeal.Stage

open Cert.GluFwdRefIdeal Cert.GluFwdRefIdeal.Read Idealize.ShloMosaic
open Cert.Glu Cert.Attn

theorem unit_at (p : FVec Ideal S4096x2048 .f32) (q : FVec Ideal S4096x10752 .f32) (s : Fin 4096) (j : Fin 1024) :
    out (valOf (fun k => p (ix2 s k)) j) (gateOf (fun k => p (ix2 s k)) j) (q (ix2 s ⟨7168 + j.val, by omega⟩))
      = (val_main_v12 (F := Ideal) p q (ix2 s j) : EReal) := by
  unfold out silu sigm valOf gateOf
  rw [zero_sub, zero_sub]
  pointwise [val_main_v12, val_main_v11, val_main_v10, val_main_call0_v5, val_main_call0_v4, val_main_call0_cst_0, val_main_call0_v3,
    val_main_call0_v2, val_main_call0_cst, val_main_call0_v1, val_main_call0_v0, val_main_v9, val_main_v8, val_main_v7, val_main_cst_0,
    val_main_v6, val_main_v5, val_main_cst, val_main_v4, val_main_v3, val_main_v2, val_main_v1, val_main_v0]

end Cert.GluFwdRefIdeal.Stage

end
-- ==== Proof.GluFwdClaim.lean ====
/- The gated unit and the reference give the same result. -/
module

public import proofs.«01_k».proof.Defs
public import proofs.«01_k».proof.Proof.Gen.GluFwdIdeal
public import proofs.«01_k».proof.Proof.Gen.GluFwdRefIdeal
public import proofs.«01_k».proof.Proof.Gen.GluFwdRefIdeal.Run
public import proofs.«01_k».proof.Proof.GluFwdValue
public import proofs.«01_k».proof.Proof.GluFwdRef

@[expose] public section

noncomputable section

namespace Cert.GluFwdClaim

open Idealize.ShloMosaic Idealize.ShloMosaic.TcCoe Idealize.SL.Sem

theorem algebraic : Cert.algebraic_GluFwdIdeal_GluFwdRefIdeal (hGluFwdIdeal := Cert.GluFwdIdeal.Gen.facts)
    (hGluFwdRefIdeal := Cert.GluFwdRefIdeal.Gen.facts) := by
  intro m g m' g' _ hag
  refine ⟨_, Cert.GluFwdIdeal.Value.run_blocks m g,
    (θ_run _ _ _).mono (fun _ h c => ⟨(h c).1.trans ?_, (h c).2⟩)
      (Cert.GluFwdRefIdeal.Value.run m' g')⟩
  · rw [Cert.GluFwdIdeal.Stage.final, Cert.GluFwdRefIdeal.Read.val_main_v12_eq,
      (hag c).1, (hag c).2]
    funext i
    idx_vars i
    exact (Cert.GluFwdRefIdeal.Stage.unit_at _ _ _ _).symm

theorem frameRef : Cert.quiescent_GluFwdRefIdeal (hGluFwdRefIdeal := Cert.GluFwdRefIdeal.Gen.facts) := by
  intro m g _
  exact (θ_run _ _ _).mono (fun r h => ⟨fun c => (h c).2, sem_eq_zero_of_no_sems (by decide) _⟩)
    (Cert.GluFwdRefIdeal.Value.run m g)

end Cert.GluFwdClaim

end
-- ==== Proof.NormFwdValue.lean ====
/- The array the norm leaves, as a function of its arguments. -/
module

public import proofs.«01_k».proof.Proof.Gen.NormFwdIdeal.Value
public import proofs.«01_k».proof.Proof.NormMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormFwdIdeal.Stage

open Cert.NormFwdIdeal Cert.NormFwdIdeal.Gen Idealize.ShloMosaic Idealize.ShloMosaic.TcCoe Idealize.SL.Sem
open Idealize.ShloMosaic.Pipeline (Dat)
open Cert.Norm

/-- A row of a block. -/
def row {n : ℕ} (x : (⟨2, ![n, 4096]⟩ : Shape).Idx → Elt Ideal .f32) (i : Fin n) (j : Fin 4096) : EReal := x (ix2 i j)

/-- What the body stores, from its blocks. -/
theorem normed_out (x : FVec Ideal S256x4096 .f32) (w : FVec Ideal S1x4096 .f32) (i : Fin 256) (j : Fin 4096) :
    (k0_pay1 (F := Ideal) x w (ix2 i j) : EReal) = normed (row x i) (row w 0) j := by
  unfold normed rinv square width eps row
  pointwise [k0_pay1]

variable (m : (ℓ : Loc nD τ sig) → Buf (Elt Ideal) ℓ)

/-- The norm's input by row and column, and its weights. -/
def xAt (c : Dev nD) (s : Fin 4096) (j : Fin 4096) : EReal := (m ((c : Thread nD τ).loc main_arg0) : FVec Ideal S4096x4096 .f32) (ix2 s j)
def wAt (c : Dev nD) (j : Fin 4096) : EReal := (m ((c : Thread nD τ).loc main_arg1) : FVec Ideal S4096 .f32) (ix1 j)

/-- The windows' block indices. -/
theorem idx : ∀ t : Fin cfg0.N, win0_0.index t = ![t.val, 0] ∧ win0_1.index t = ![0, 0] ∧ win0_2.index t = ![t.val, 0]
    ∧ t.val < 16 := (by decide +kernel : ∀ t : Fin grid0.N, _)

/-- Row `r` of the block of point `t`. -/
def rowOf (t : Fin cfg0.N) (r : Fin 256) : Fin 4096 := ⟨t.val * 256 + r.val, by have := (idx t).2.2.2; omega⟩

theorem x_block (c : Dev nD) (t : Fin cfg0.N) (r : Fin 256) : row (iblk m c 0 t) r = xAt m c (rowOf t r) := by
  funext j
  unfold row xAt
  blk_point [iblk, V, idx t, rowOf]

theorem w_block (c : Dev nD) (t : Fin cfg0.N) : row (iblk m c 1 t) 0 = wAt m c := by
  funext j
  unfold row wAt
  blk_point [iblk, V, idx t]

theorem stored_at (c : Dev nD) (t : Fin cfg0.N) (i : Fin 256) (j : Fin 4096) :
    ((dats m 0 c).after 2 t (ix2 i j) : EReal) = normed (xAt m c (rowOf t i)) (wAt m c) j := by
  rw [← x_block, ← w_block m c t, after0_2]
  frame_out
  exact normed_out _ _ _ _

/-- The norm's output. -/
theorem final (c : Dev nD) : (dats m 0 c).arrAt 2 cfg0.N = fun i => normed (xAt m c (i 0)) (wAt m c) (i 1) := by
  refine (dats m 0 c).arrAt_eq_of_covers 2 _ (by decide +kernel) fun t _ y => ?_
  idx_vars y
  blk_simp
  refine (stored_at m c t y0 y1).trans (congrArg₂ (fun s j => normed (xAt m c s) (wAt m c) j) (Fin.ext ?_) (Fin.ext ?_)) <;> blk_simp [idx t, rowOf]

end Cert.NormFwdIdeal.Stage

end
-- ==== Proof.NormFwdRef.lean ====
/- The result of the plain norm, entry by entry. -/
module

public import proofs.«01_k».proof.Proof.Gen.NormFwdRefIdeal.Read
public import proofs.«01_k».proof.Proof.NormMath
public import Idealize.ShloMosaic.Lib.Pointwise

@[expose] public section

set_option maxRecDepth 16384

noncomputable section

namespace Cert.NormFwdRefIdeal.Stage

open Cert.NormFwdRefIdeal Cert.NormFwdRefIdeal.Read Idealize.ShloMosaic
open Cert.Norm

theorem normed_at (x : FVec Ideal S4096x4096 .f32) (w : FVec Ideal S4096 .f32) (i : Fin 4096) (j : Fin 4096) :
    normed (fun k => x (ix2 i k)) (fun k => w (ix1 k)) j = (val_main_v13 (F := Ideal) x w (ix2 i j) : EReal) := by
  unfold normed rinv square width eps
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]

end Cert.NormFwdRefIdeal.Stage

end
-- ==== Proof.NormFwdClaim.lean ====
/- The norm and the reference give the same result. -/
module

public import proofs.«01_k».proof.Defs
public import proofs.«01_k».proof.Proof.Gen.NormFwdIdeal
public import proofs.«01_k».proof.Proof.Gen.NormFwdRefIdeal
public import proofs.«01_k».proof.Proof.Gen.NormFwdRefIdeal.Run
public import proofs.«01_k».proof.Proof.NormFwdValue
public import proofs.«01_k».proof.Proof.NormFwdRef

@[expose] public section

noncomputable section

namespace Cert.NormFwdClaim

open Idealize.ShloMosaic Idealize.ShloMosaic.TcCoe Idealize.SL.Sem

theorem algebraic : Cert.algebraic_NormFwdIdeal_NormFwdRefIdeal (hNormFwdIdeal := Cert.NormFwdIdeal.Gen.facts)
    (hNormFwdRefIdeal := Cert.NormFwdRefIdeal.Gen.facts) := by
  intro m g m' g' _ hag
  refine ⟨_, Cert.NormFwdIdeal.Value.run_blocks m g,
    (θ_run _ _ _).mono (fun _ h c => ⟨(h c).1.trans ?_, (h c).2⟩)
      (Cert.NormFwdRefIdeal.Value.run m' g')⟩
  · rw [Cert.NormFwdIdeal.Stage.final, Cert.NormFwdRefIdeal.Read.val_main_v13_eq,
      (hag c).1, (hag c).2]
    funext i
    idx_vars i
    exact (Cert.NormFwdRefIdeal.Stage.normed_at _ _ _ _).symm

theorem frameRef : Cert.quiescent_NormFwdRefIdeal (hNormFwdRefIdeal := Cert.NormFwdRefIdeal.Gen.facts) := by
  intro m g _
  exact (θ_run _ _ _).mono (fun r h => ⟨fun c => (h c).2, sem_eq_zero_of_no_sems (by decide) _⟩)
    (Cert.NormFwdRefIdeal.Value.run m g)

end Cert.NormFwdClaim

end
-- ==== Proof.MemNormFwdValue.lean ====
/- The array the memory's norm leaves, as a function of its arguments. -/
module

public import proofs.«01_k».proof.Proof.Gen.MemNormFwdIdeal.Value
public import proofs.«01_k».proof.Proof.NormMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemNormFwdIdeal.Stage

open Cert.MemNormFwdIdeal Cert.MemNormFwdIdeal.Gen Idealize.ShloMosaic Idealize.ShloMosaic.TcCoe Idealize.SL.Sem
open Idealize.ShloMosaic.Pipeline (Dat)
open Cert.Norm

/-- A row of a block. -/
def row {n : ℕ} (x : (⟨2, ![n, 4096]⟩ : Shape).Idx → Elt Ideal .f32) (i : Fin n) (j : Fin 4096) : EReal := x (ix2 i j)

/-- What the body stores, from its blocks. -/
theorem normed_out (x : FVec Ideal S256x4096 .f32) (w : FVec Ideal S1x4096 .f32) (i : Fin 256) (j : Fin 4096) :
    (k0_pay1 (F := Ideal) x w (ix2 i j) : EReal) = normed (row x i) (row w 0) j := by
  unfold normed rinv square width eps row
  pointwise [k0_pay1]

variable (m : (ℓ : Loc nD τ sig) → Buf (Elt Ideal) ℓ)

/-- The norm's input by row and column, and its weights. -/
def xAt (c : Dev nD) (s : Fin 256) (j : Fin 4096) : EReal := (m ((c : Thread nD τ).loc main_arg0) : FVec Ideal S256x4096 .f32) (ix2 s j)
def wAt (c : Dev nD) (j : Fin 4096) : EReal := (m ((c : Thread nD τ).loc main_arg1) : FVec Ideal S4096 .f32) (ix1 j)

/-- The windows' block indices. -/
theorem idx : ∀ t : Fin cfg0.N, win0_0.index t = ![t.val, 0] ∧ win0_1.index t = ![0, 0] ∧ win0_2.index t = ![t.val, 0]
    ∧ t.val < 1 := (by decide +kernel : ∀ t : Fin grid0.N, _)

/-- Row `r` of the block of point `t`. -/
def rowOf (t : Fin cfg0.N) (r : Fin 256) : Fin 256 := ⟨t.val * 256 + r.val, by have := (idx t).2.2.2; omega⟩

theorem x_block (c : Dev nD) (t : Fin cfg0.N) (r : Fin 256) : row (iblk m c 0 t) r = xAt m c (rowOf t r) := by
  funext j
  unfold row xAt
  blk_point [iblk, V, idx t, rowOf]

theorem w_block (c : Dev nD) (t : Fin cfg0.N) : row (iblk m c 1 t) 0 = wAt m c := by
  funext j
  unfold row wAt
  blk_point [iblk, V, idx t]

theorem stored_at (c : Dev nD) (t : Fin cfg0.N) (i : Fin 256) (j : Fin 4096) :
    ((dats m 0 c).after 2 t (ix2 i j) : EReal) = normed (xAt m c (rowOf t i)) (wAt m c) j := by
  rw [← x_block, ← w_block m c t, after0_2]
  frame_out
  exact normed_out _ _ _ _

/-- The norm's output. -/
theorem final (c : Dev nD) : (dats m 0 c).arrAt 2 cfg0.N = fun i => normed (xAt m c (i 0)) (wAt m c) (i 1) := by
  refine (dats m 0 c).arrAt_eq_of_covers 2 _ (by decide +kernel) fun t _ y => ?_
  idx_vars y
  blk_simp
  refine (stored_at m c t y0 y1).trans (congrArg₂ (fun s j => normed (xAt m c s) (wAt m c) j) (Fin.ext ?_) (Fin.ext ?_)) <;> blk_simp [idx t, rowOf]

end Cert.MemNormFwdIdeal.Stage

end
-- ==== Proof.MemNormFwdRef.lean ====
/- The result of the plain memory's norm, entry by entry. -/
module

public import proofs.«01_k».proof.Proof.Gen.MemNormFwdRefIdeal.Read
public import proofs.«01_k».proof.Proof.NormMath
public import Idealize.ShloMosaic.Lib.Pointwise

@[expose] public section

set_option maxRecDepth 16384

noncomputable section

namespace Cert.MemNormFwdRefIdeal.Stage

open Cert.MemNormFwdRefIdeal Cert.MemNormFwdRefIdeal.Read Idealize.ShloMosaic
open Cert.Norm

theorem normed_at (x : FVec Ideal S256x4096 .f32) (w : FVec Ideal S4096 .f32) (i : Fin 256) (j : Fin 4096) :
    normed (fun k => x (ix2 i k)) (fun k => w (ix1 k)) j = (val_main_v13 (F := Ideal) x w (ix2 i j) : EReal) := by
  unfold normed rinv square width eps
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]

end Cert.MemNormFwdRefIdeal.Stage

end
-- ==== Proof.MemNormFwdClaim.lean ====
/- The memory's norm and the reference give the same result. -/
module

public import proofs.«01_k».proof.Defs
public import proofs.«01_k».proof.Proof.Gen.MemNormFwdIdeal
public import proofs.«01_k».proof.Proof.Gen.MemNormFwdRefIdeal
public import proofs.«01_k».proof.Proof.Gen.MemNormFwdRefIdeal.Run
public import proofs.«01_k».proof.Proof.MemNormFwdValue
public import proofs.«01_k».proof.Proof.MemNormFwdRef

@[expose] public section

noncomputable section

namespace Cert.MemNormFwdClaim

open Idealize.ShloMosaic Idealize.ShloMosaic.TcCoe Idealize.SL.Sem

theorem algebraic : Cert.algebraic_MemNormFwdIdeal_MemNormFwdRefIdeal (hMemNormFwdIdeal := Cert.MemNormFwdIdeal.Gen.facts)
    (hMemNormFwdRefIdeal := Cert.MemNormFwdRefIdeal.Gen.facts) := by
  intro m g m' g' _ hag
  refine ⟨_, Cert.MemNormFwdIdeal.Value.run_blocks m g,
    (θ_run _ _ _).mono (fun _ h c => ⟨(h c).1.trans ?_, (h c).2⟩)
      (Cert.MemNormFwdRefIdeal.Value.run m' g')⟩
  · rw [Cert.MemNormFwdIdeal.Stage.final, Cert.MemNormFwdRefIdeal.Read.val_main_v13_eq,
      (hag c).1, (hag c).2]
    funext i
    idx_vars i
    exact (Cert.MemNormFwdRefIdeal.Stage.normed_at _ _ _ _).symm

theorem frameRef : Cert.quiescent_MemNormFwdRefIdeal (hMemNormFwdRefIdeal := Cert.MemNormFwdRefIdeal.Gen.facts) := by
  intro m g _
  exact (θ_run _ _ _).mono (fun r h => ⟨fun c => (h c).2, sem_eq_zero_of_no_sems (by decide) _⟩)
    (Cert.MemNormFwdRefIdeal.Value.run m g)

end Cert.MemNormFwdClaim

end
-- ==== Proof.LossMath.lean ====
/- The loss of one row and its gradient, as functions of extended reals, and the constants they use. -/
module

public import proofs.«01_k».proof.Proof.NormMath
public import Idealize.ShloMosaic.Lib.Pointwise

@[expose] public section

noncomputable section

namespace Cert.Loss

open Idealize.ShloMosaic
open Cert.Norm

/-- One half and two, the values of their float words. -/
def half : EReal := Ideal.ofBits .f32 0x3F000000#32
def two : EReal := Ideal.ofBits .f32 0x40000000#32

theorem half_eq : half = ((1 / 2 : ℝ) : EReal) := by
  unfold half
  simp [Ideal.ofBits, Ideal.ieee, -EReal.coe_mul]; norm_num

theorem two_eq : two = ((2 : ℝ) : EReal) := by
  unfold two
  simp [Ideal.ofBits, Ideal.ieee, -EReal.coe_mul]; norm_num

theorem width_eq : width = ((4096 : ℝ) : EReal) := by
  unfold width
  simp [Ideal.ofBits, Ideal.ieee, -EReal.coe_mul]; norm_num

theorem half_nonneg : 0 ≤ half := by
  rw [half_eq]; exact_mod_cast (by norm_num : (0 : ℝ) ≤ 1 / 2)

theorem half_ne_top : half ≠ ⊤ := by
  rw [half_eq]; exact EReal.coe_ne_top _

/-- A finite nonnegative factor goes through a sum. -/
theorem mul_sum {ι : Type} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The difference of the row's output and its target. -/
def err (x w t : Fin 4096 → EReal) (j : Fin 4096) : EReal := normed x w j - t j

/-- The mean of the squared differences. -/
def rowLoss (x w t : Fin 4096 → EReal) : EReal := Ideal.div (∑ k : Fin 4096, err x w t k * err x w t k) width

/-- The gradient reaching each squared difference. -/
def step : EReal := Ideal.div (half * 1) width

/-- The gradient reaching the row's output. -/
def dErr (x w t : Fin 4096 → EReal) (j : Fin 4096) : EReal := err x w t j * step + step * err x w t j

theorem two_mul_eq (x : EReal) : two * x = x + x := by
  rw [two_eq, show ((2 : ℝ) : EReal) = 1 + 1 by norm_cast, EReal.right_distrib_of_nonneg zero_le_one zero_le_one, one_mul]

theorem step_eq : step = ((1 / 8192 : ℝ) : EReal) := by
  unfold step Ideal.div
  have hne : width ≠ 0 := by rw [width_eq]; exact_mod_cast (by norm_num : (4096 : ℝ) ≠ 0)
  rw [if_neg hne, mul_one, half_eq, width_eq, ← EReal.coe_inv, ← EReal.coe_mul]
  congr 1
  norm_num

/-- Twice the difference, scaled, is the sum of the two scaled differences. -/
theorem step_two (e : EReal) : step * (two * e) = e * step + step * e := by
  have h0 : 0 ≤ step := by rw [step_eq]; exact_mod_cast (by norm_num : (0 : ℝ) ≤ 1 / 8192)
  have ht : step ≠ ⊤ := by rw [step_eq]; exact EReal.coe_ne_top _
  rw [two_mul_eq, EReal.left_distrib_of_nonneg_of_ne_top h0 ht, mul_comm e step]

end Cert.Loss

end
-- ==== Proof.LossHeadBody.lean ====
/- What the loss head's body stores, entry by entry, from the blocks. -/
module

public import proofs.«01_k».proof.Proof.Gen.LossHeadIdeal.Value
public import proofs.«01_k».proof.Proof.LossMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossHeadIdeal.Stage

open Cert.LossHeadIdeal Cert.LossHeadIdeal.Gen Idealize.ShloMosaic Idealize.ShloMosaic.TcCoe Idealize.SL.Sem
open Cert.Norm Cert.Loss

variable (x : FVec Ideal S256x4096 .f32) (w : FVec Ideal S1x4096 .f32) (y : FVec Ideal S256x4096 .f32)

/-- A row of a block. -/
def row {n : ℕ} (x : (⟨2, ![n, 4096]⟩ : Shape).Idx → Elt Ideal .f32) (i : Fin n) (j : Fin 4096) : EReal := x (ix2 i j)

theorem square_at (i : Fin 256) (z : Fin 1) : (k0_pay7 (F := Ideal) x (ix2 i z) : EReal) = square (row x i) := by
  obtain rfl : z = 0 := Subsingleton.elim _ _
  unfold square width eps row
  pointwise [k0_pay7]

theorem inv_at (i : Fin 256) (z : Fin 1) : (k0_pay8 (F := Ideal) x (ix2 i z) : EReal) = rinv (row x i) := by
  unfold rinv
  rw [← square_at x i z]
  pointwise [k0_pay8]

theorem corr_at (i : Fin 256) (z : Fin 1) :
    (k0_pay9 (F := Ideal) x (ix2 i z) : EReal) = power * Ideal.div (rinv (row x i)) (square (row x i)) := by
  unfold power
  rw [← square_at x i z, ← inv_at x i z]
  pointwise [k0_pay9]

theorem scaled_at (i : Fin 256) (j : Fin 4096) : (k0_pay10 (F := Ideal) x (ix2 i j) : EReal) = row x i j * rinv (row x i) := by
  rw [← inv_at x i 0]
  unfold row
  pointwise [k0_pay10]

theorem weight_at (z : Fin 1) (j : Fin 4096) : (k0_pay6 (F := Ideal) w (ix2 z j) : EReal) = row w 0 j := by
  obtain rfl : z = 0 := Subsingleton.elim _ _
  unfold row
  pointwise [k0_pay6]

theorem err_at (i : Fin 256) (j : Fin 4096) :
    (k0_pay11 (F := Ideal) x w y (ix2 i j) : EReal) = err (row x i) (row w 0) (row y i) j := by
  unfold err normed
  rw [← scaled_at x i j, ← weight_at w 0 j]
  unfold row
  pointwise [k0_pay11]

theorem loss_at : (k0_pay12 (F := Ideal) x w y : EReal) = half * ∑ i : Fin 256, rowLoss (row x i) (row w 0) (row y i) := by
  unfold rowLoss half width
  simp only [← err_at]
  pointwise [k0_pay12]

theorem derr_at (i : Fin 256) (j : Fin 4096) :
    (k0_pay13 (F := Ideal) x w y (ix2 i j) : EReal) = dErr (row x i) (row w 0) (row y i) j := by
  unfold dErr step half width
  rw [← err_at x w y i j]
  pointwise [k0_pay13]

theorem row_out (i : Fin 256) (j : Fin 4096) :
    (k0_pay1 (F := Ideal) x (k0_pay6 w) (k0_pay8 x) (k0_pay9 x) (k0_pay13 x w y) (ix2 i j) : EReal)
      = dRow (row x i) (fun k => dErr (row x i) (row w 0) (row y i) k * row w 0 k) j := by
  unfold dRow dSquare
  rw [← corr_at x i 0, ← inv_at x i 0]
  simp only [← derr_at, ← weight_at w 0]
  unfold width row
  pointwise [k0_pay1]
  simp only [Fin.sum_univ_one]

variable (a : FVec Ideal S1x4096 .f32) (b : FVec Ideal S1x128 .f32)

theorem scale_out (z : Fin 1) (j : Fin 4096) :
    (k0_pay4 (F := Ideal) (k0_pay14 x w y) a (ix2 z j) : EReal)
      = a (ix2 z j) + ∑ i : Fin 256, row x i j * rinv (row x i) * dErr (row x i) (row w 0) (row y i) j := by
  obtain rfl : z = 0 := Subsingleton.elim _ _
  simp only [← derr_at, ← scaled_at]
  pointwise [k0_pay4, k0_pay14]

theorem loss_out (z : Fin 1) (j : Fin 128) :
    (k0_pay5 (F := Ideal) (k0_pay12 x w y) b (ix2 z j) : EReal)
      = b (ix2 z j) + half * ∑ i : Fin 256, rowLoss (row x i) (row w 0) (row y i) := by
  rw [← loss_at]
  pointwise [k0_pay5]

theorem zero_scale (z : Fin 1) (j : Fin 4096) : (k0_pay2 (F := Ideal) (ix2 z j) : EReal) = 0 := by
  pointwise [k0_pay2]

theorem zero_loss (z : Fin 1) (j : Fin 128) : (k0_pay3 (F := Ideal) (ix2 z j) : EReal) = 0 := by
  pointwise [k0_pay3]

end Cert.LossHeadIdeal.Stage

end
-- ==== Proof.LossHeadValue.lean ====
/- The arrays the loss head leaves, as functions of its arguments. -/
module

public import proofs.«01_k».proof.Proof.LossHeadBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossHeadIdeal.Stage

open Cert.LossHeadIdeal Cert.LossHeadIdeal.Gen Idealize.ShloMosaic Idealize.ShloMosaic.TcCoe Idealize.SL.Sem
open Idealize.ShloMosaic.Pipeline (Dat)
open Cert.Norm Cert.Loss
variable (m : (ℓ : Loc nD τ sig) → Buf (Elt Ideal) ℓ)

/-- The arguments by row and column: the norm's input, its weights, the target. -/
def xAt (c : Dev nD) (s : Fin 4096) (j : Fin 4096) : EReal := (m ((c : Thread nD τ).loc main_arg0) : FVec Ideal S4096x4096 .f32) (ix2 s j)
def wAt (c : Dev nD) (j : Fin 4096) : EReal := (m ((c : Thread nD τ).loc main_arg1) : FVec Ideal S4096 .f32) (ix1 j)
def yAt (c : Dev nD) (s : Fin 4096) (j : Fin 4096) : EReal := (m ((c : Thread nD τ).loc main_arg2) : FVec Ideal S4096x4096 .f32) (ix2 s j)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 16 :=
  (by decide +kernel : ∀ t : Fin grid0.N, _)

/-- Row `r` of the block of point `t`. -/
def rowOf (t : Fin cfg0.N) (r : Fin 256) : Fin 4096 := ⟨t.val * 256 + r.val, by have := (idx t).2.2.2.2.2.2; omega⟩

theorem x_block (c : Dev nD) (t : Fin cfg0.N) (r : Fin 256) : row (iblk m c 0 t) r = xAt m c (rowOf t r) := by
  funext j
  unfold row xAt
  blk_point [iblk, V, idx t, rowOf]

theorem w_block (c : Dev nD) (t : Fin cfg0.N) : row (iblk m c 1 t) 0 = wAt m c := by
  funext j
  unfold row wAt
  blk_point [iblk, V, idx t]

theorem y_block (c : Dev nD) (t : Fin cfg0.N) (r : Fin 256) : row (iblk m c 2 t) r = yAt m c (rowOf t r) := by
  funext j
  unfold row yAt
  blk_point [iblk, V, idx t, rowOf]

/-- The gradient reaching the norm's output, the input's gradient, the weights' gradient of a row, and a row's loss. -/
def dOut (c : Dev nD) (s : Fin 4096) (j : Fin 4096) : EReal := dErr (xAt m c s) (wAt m c) (yAt m c s) j
def rowAt (c : Dev nD) (s : Fin 4096) (j : Fin 4096) : EReal := dRow (xAt m c s) (fun k => dOut m c s k * wAt m c k) j
def term (c : Dev nD) (j : Fin 4096) (s : Fin 4096) : EReal := xAt m c s j * rinv (xAt m c s) * dOut m c s j
def lossOf (c : Dev nD) (s : Fin 4096) : EReal := half * rowLoss (xAt m c s) (wAt m c) (yAt m c s)

theorem outs_row (c : Dev nD) (t : Fin cfg0.N) (i : Fin 256) (j : Fin 4096) :
    ((outsAt0 m c t.val t.isLt).2.1 (ix2 i j) : EReal) = rowAt m c (rowOf t i) j := by
  unfold rowAt dOut
  rw [← x_block, ← y_block, ← w_block m c t]
  by_cases h : t.val % 16 = 0
  · rw [outsAt0_A m c t h]; frame_out
    exact row_out _ _ _ _ _
  · rw [outsAt0_B m c t h]; frame_out
    exact row_out _ _ _ _ _

/-- One point's part of the weights' gradient, and of the loss. -/
def part (c : Dev nD) (t : Fin cfg0.N) (x : S1x4096.Idx) : EReal := ∑ r : Fin 256, term m c (x 1) (rowOf t r)
def lossPart (c : Dev nD) (t : Fin cfg0.N) (x : S1x128.Idx) : EReal := ∑ r : Fin 256, lossOf m c (rowOf t r)

theorem part_eq (c : Dev nD) (t : Fin cfg0.N) (j : Fin 4096) :
    ∑ r : Fin 256, row (iblk m c 0 t) r j * rinv (row (iblk m c 0 t) r) * dErr (row (iblk m c 0 t) r) (row (iblk m c 1 t) 0) (row (iblk m c 2 t) r) j
      = ∑ r : Fin 256, term m c j (rowOf t r) :=
  Finset.sum_congr rfl fun r _ => by rw [x_block, y_block, w_block]; rfl

theorem lossPart_eq (c : Dev nD) (t : Fin cfg0.N) :
    half * ∑ r : Fin 256, rowLoss (row (iblk m c 0 t) r) (row (iblk m c 1 t) 0) (row (iblk m c 2 t) r)
      = ∑ r : Fin 256, lossOf m c (rowOf t r) := by
  rw [mul_sum half half_nonneg half_ne_top]
  exact Finset.sum_congr rfl fun r _ => by rw [x_block, y_block, w_block]; rfl

theorem scale_first (c : Dev nD) (t : Fin cfg0.N) (h : t.val % 16 = 0) (x : S1x4096.Idx) :
    ((outsAt0 m c t.val t.isLt).2.2 x : EReal) = 0 + part m c t x := by
  unfold part
  idx_vars x
  rw [outsAt0_A m c t h]; frame_out
  refine (scale_out _ _ _ _ _ _).trans ?_
  rw [part_eq, zero_scale]

theorem scale_next (c : Dev nD) (t : Fin cfg0.N) (h : ¬ t.val % 16 = 0) (x : S1x4096.Idx) :
    ((outsAt0 m c t.val t.isLt).2.2 x : EReal)
      = (outsAt0 m c (t.val - 1) (Nat.lt_of_le_of_lt (Nat.sub_le _ _) t.isLt)).2.2 x + part m c t x := by
  unfold part
  idx_vars x
  rw [outsAt0_B m c t h]; frame_out
  refine (scale_out _ _ _ _ _ _).trans ?_
  rw [part_eq]

theorem loss_first (c : Dev nD) (t : Fin cfg0.N) (h : t.val % 16 = 0) (x : S1x128.Idx) :
    ((outsAt0 m c t.val t.isLt).1 x : EReal) = 0 + lossPart m c t x := by
  unfold lossPart
  idx_vars x
  rw [outsAt0_A m c t h]; frame_out
  refine (loss_out _ _ _ _ _ _).trans ?_
  rw [lossPart_eq, zero_loss]

theorem loss_next (c : Dev nD) (t : Fin cfg0.N) (h : ¬ t.val % 16 = 0) (x : S1x128.Idx) :
    ((outsAt0 m c t.val t.isLt).1 x : EReal)
      = (outsAt0 m c (t.val - 1) (Nat.lt_of_le_of_lt (Nat.sub_le _ _) t.isLt)).1 x + lossPart m c t x := by
  unfold lossPart
  idx_vars x
  rw [outsAt0_B m c t h]; frame_out
  refine (loss_out _ _ _ _ _ _).trans ?_
  rw [lossPart_eq]

theorem scale_last (c : Dev nD) (t : Fin cfg0.N) (ht : t.val + 1 = 16) (x : S1x4096.Idx) :
    ((outsAt0 m c t.val t.isLt).2.2 x : EReal) = ∑ s : Fin 4096, term m c (x 1) s := by
  rw [Pipeline.eq_sum_fin_of_reset_step_apply_last (fun n h => (outsAt0 m c n h).2.2) 16 (fun _ => (0 : EReal)) (part m c)
    (fun t h x => scale_first m c t h x) (fun t h x => scale_next m c t h x) (le_of_eq N_0) t ht x, zero_add]
  exact Fin.sum_mul_add_congr (fun s k hl => rfl) (by rw [show cfg0.N = 16 from N_0])

theorem loss_last (c : Dev nD) (t : Fin cfg0.N) (ht : t.val + 1 = 16) (x : S1x128.Idx) :
    ((outsAt0 m c t.val t.isLt).1 x : EReal) = half * ∑ s : Fin 4096, rowLoss (xAt m c s) (wAt m c) (yAt m c s) := by
  rw [Pipeline.eq_sum_fin_of_reset_step_apply_last (fun n h => (outsAt0 m c n h).1) 16 (fun _ => (0 : EReal)) (lossPart m c)
    (fun t h x => loss_first m c t h x) (fun t h x => loss_next m c t h x) (le_of_eq N_0) t ht x, zero_add,
    mul_sum half half_nonneg half_ne_top]
  exact Fin.sum_mul_add_congr (fun s k hl => rfl) (by rw [show cfg0.N = 16 from N_0])

/-- The loss, accumulated over the points, in every entry of its row. -/
theorem final_loss (c : Dev nD) :
    (dats m 0 c).arrAt 3 cfg0.N = fun _ => half * ∑ s : Fin 4096, rowLoss (xAt m c s) (wAt m c) (yAt m c s) := by
  refine (dats m 0 c).arrAt_eq_of_covers 3 _ (by decide +kernel) fun t hf y => ?_
  have ht : t.val % 16 = 15 := (flush0_3 t).mp hf
  have hN := (idx t).2.2.2.2.2.2
  rw [after0_3]
  exact loss_last m c t (by omega) y

/-- The gradient of the input. -/
theorem final_row (c : Dev nD) : (dats m 0 c).arrAt 4 cfg0.N = fun i => rowAt m c (i 0) (i 1) := by
  refine (dats m 0 c).arrAt_eq_of_covers 4 _ (by decide +kernel) fun t _ y => ?_
  rw [after0_4]
  idx_vars y
  blk_simp
  refine (outs_row m c t y0 y1).trans (congrArg₂ _ (Fin.ext ?_) (Fin.ext ?_)) <;> blk_simp [idx t, rowOf]

/-- The gradient of the weights, accumulated over the points. -/
theorem final_scale (c : Dev nD) : (dats m 0 c).arrAt 5 cfg0.N = fun i => ∑ s : Fin 4096, term m c (i 1) s := by
  refine (dats m 0 c).arrAt_eq_of_covers 5 _ (by decide +kernel) fun t hf y => ?_
  have ht : t.val % 16 = 15 := (flush0_5 t).mp hf
  have hN := (idx t).2.2.2.2.2.2
  rw [after0_5]
  refine (scale_last m c t (by omega) y).trans ?_
  idx_vars y
  blk_simp
  refine Finset.sum_congr rfl fun s _ => congrArg (fun j => term m c j s) (Fin.ext ?_)
  blk_simp [idx t]

end Cert.LossHeadIdeal.Stage

end
-- ==== Proof.LossHeadRef.lean ====
/- The results of the plain loss and its gradient, entry by entry. -/
module

public import proofs.«01_k».proof.Proof.Gen.LossHeadRefIdeal.Read
public import proofs.«01_k».proof.Proof.LossMath
public import Idealize.ShloMosaic.Lib.Pointwise

@[expose] public section

set_option maxRecDepth 16384

noncomputable section

namespace Cert.LossHeadRefIdeal.Stage

open Cert.LossHeadRefIdeal Cert.LossHeadRefIdeal.Read Idealize.ShloMosaic
open Cert.Norm Cert.Loss

variable (x : FVec Ideal S4096x4096 .f32) (w : FVec Ideal S4096 .f32) (y : FVec Ideal S4096x4096 .f32)

/-- A row of an argument, and the norm's weights. -/
def xOf {n : ℕ} (x : (⟨2, ![n, 4096]⟩ : Shape).Idx → Elt Ideal .f32) (i : Fin n) (j : Fin 4096) : EReal := x (ix2 i j)
def wOf (j : Fin 4096) : EReal := w (ix1 j)

theorem square_at (i : Fin 4096) (z : Fin 1) : (val_main_v7 (F := Ideal) x (ix2 i z) : EReal) = square (xOf x i) := by
  unfold square width eps xOf
  pointwise [val_main_v7, val_main_v6, val_main_cst_1, val_main_v5, val_main_v4, val_main_cst_0, val_main_v3, val_main_v2, val_main_cst,
    val_main_v1]

theorem inv_at (i : Fin 4096) (z : Fin 1) : (val_main_v8 (F := Ideal) x (ix2 i z) : EReal) = rinv (xOf x i) := by
  unfold rinv
  rw [← square_at x i z]
  pointwise [val_main_v8]

theorem scaled_at (i : Fin 4096) (j : Fin 4096) : (val_main_v13 (F := Ideal) x (ix2 i j) : EReal) = xOf x i j * rinv (xOf x i) := by
  rw [← inv_at x i 0]
  unfold xOf
  pointwise [val_main_v13, val_main_v12]

theorem err_at (i : Fin 4096) (j : Fin 4096) :
    (val_main_v16 (F := Ideal) x w y (ix2 i j) : EReal) = err (xOf x i) (wOf w) (xOf y i) j := by
  unfold err normed
  rw [← scaled_at x i j]
  unfold wOf xOf
  pointwise [val_main_v16, val_main_v15, val_main_v14, val_main_v0]

theorem loss_at (z : Fin 1) (j : Fin 128) :
    half * ∑ i : Fin 4096, rowLoss (xOf x i) (wOf w) (xOf y i) = (val_main_v50 (F := Ideal) x w y (ix2 z j) : EReal) := by
  unfold rowLoss half width
  simp only [← err_at]
  pointwise [val_main_v50, val_main_v24, val_main_cst_7, val_main_v23, val_main_cst_6, val_main_v22, val_main_v21, val_main_cst_5,
    val_main_v20, val_main_cst_4, val_main_v17]

theorem derr_at (i : Fin 4096) (j : Fin 4096) :
    (val_main_v30 (F := Ideal) x w y (ix2 i j) : EReal) = dErr (xOf x i) (wOf w) (xOf y i) j := by
  unfold dErr
  rw [← step_two, ← err_at x w y i j]
  unfold step half width two
  pointwise [val_main_v30, val_main_v29, val_main_v28, val_main_v27, val_main_cst_10, val_main_v26, val_main_v25, val_main_cst_9,
    val_main_cst_8, val_main_v19, val_main_v18, val_main_cst_3]

theorem dsquare_at (i : Fin 4096) :
    (val_main_v44 (F := Ideal) x w y (ix1 i) : EReal)
      = dSquare (xOf x i) (fun k => dErr (xOf x i) (wOf w) (xOf y i) k * wOf w k) := by
  unfold dSquare
  simp only [← derr_at]
  unfold width power
  rw [← square_at x i 0, ← inv_at x i 0]
  unfold xOf wOf
  pointwise [val_main_v44, val_main_cst_14, val_main_v43, val_main_v42, val_main_cst_13, val_main_v41, val_main_v38, val_main_v37,
    val_main_cst_12, val_main_v36, val_main_v35, val_main_v34, val_main_v0, val_main_v11, val_main_v10, val_main_cst_2, val_main_v9]
  simp only [Fin.sum_univ_one]

theorem row_at (i : Fin 4096) (j : Fin 4096) :
    dRow (xOf x i) (fun k => dErr (xOf x i) (wOf w) (xOf y i) k * wOf w k) j = (val_main_v49 (F := Ideal) x w y (ix2 i j) : EReal) := by
  unfold dRow
  rw [← dsquare_at, ← inv_at x i 0]
  simp only [← derr_at]
  unfold xOf wOf
  pointwise [val_main_v49, val_main_v48, val_main_v47, val_main_v46, val_main_v45, val_main_v40, val_main_v39, val_main_v35, val_main_v34,
    val_main_v0]

theorem scale_at (z : Fin 1) (j : Fin 4096) :
    ∑ i : Fin 4096, xOf x i j * rinv (xOf x i) * dErr (xOf x i) (wOf w) (xOf y i) j = (val_main_v33 (F := Ideal) x w y (ix2 z j) : EReal) := by
  obtain rfl : z = 0 := Subsingleton.elim _ _
  simp only [← derr_at, ← scaled_at]
  pointwise [val_main_v33, val_main_v32, val_main_cst_11, val_main_v31]

end Cert.LossHeadRefIdeal.Stage

end
-- ==== Proof.LossHeadClaim.lean ====
/- The loss head and the reference give the same results. -/
module

public import proofs.«01_k».proof.Defs
public import proofs.«01_k».proof.Proof.Gen.LossHeadIdeal
public import proofs.«01_k».proof.Proof.Gen.LossHeadRefIdeal
public import proofs.«01_k».proof.Proof.Gen.LossHeadRefIdeal.Run
public import proofs.«01_k».proof.Proof.LossHeadValue
public import proofs.«01_k».proof.Proof.LossHeadRef

@[expose] public section

noncomputable section

namespace Cert.LossHeadClaim

open Idealize.ShloMosaic Idealize.ShloMosaic.TcCoe Idealize.SL.Sem

theorem algebraic : Cert.algebraic_LossHeadIdeal_LossHeadRefIdeal (hLossHeadIdeal := Cert.LossHeadIdeal.Gen.facts)
    (hLossHeadRefIdeal := Cert.LossHeadRefIdeal.Gen.facts) := by
  intro m g m' g' _ hag
  refine ⟨_, _, _, Cert.LossHeadIdeal.Value.run_blocks m g,
    (θ_run _ _ _).mono (fun _ h c => ⟨(h c).1.trans ?_, (h c).2.1.trans ?_, (h c).2.2.1.trans ?_, (h c).2.2.2⟩)
      (Cert.LossHeadRefIdeal.Value.run m' g')⟩
  · rw [Cert.LossHeadIdeal.Stage.final_loss, Cert.LossHeadRefIdeal.Read.val_main_v50_eq,
      (hag c).1, (hag c).2.1, (hag c).2.2]
    funext i
    idx_vars i
    exact (Cert.LossHeadRefIdeal.Stage.loss_at _ _ _ i0 i1).symm
  · rw [Cert.LossHeadIdeal.Stage.final_row, Cert.LossHeadRefIdeal.Read.val_main_v49_eq,
      (hag c).1, (hag c).2.1, (hag c).2.2]
    funext i
    idx_vars i
    exact (Cert.LossHeadRefIdeal.Stage.row_at _ _ _ i0 i1).symm
  · rw [Cert.LossHeadIdeal.Stage.final_scale, Cert.LossHeadRefIdeal.Read.val_main_v33_eq,
      (hag c).1, (hag c).2.1, (hag c).2.2]
    funext i
    idx_vars i
    exact (Cert.LossHeadRefIdeal.Stage.scale_at _ _ _ i0 i1).symm

theorem frameRef : Cert.quiescent_LossHeadRefIdeal (hLossHeadRefIdeal := Cert.LossHeadRefIdeal.Gen.facts) := by
  intro m g _
  exact (θ_run _ _ _).mono (fun r h => ⟨fun c => (h c).2.2.2, sem_eq_zero_of_no_sems (by decide) _⟩)
    (Cert.LossHeadRefIdeal.Value.run m g)

end Cert.LossHeadClaim

end
-- ==== Proof.ConvMath.lean ====
/- A causal convolution with four taps along a sequence, and its gradients, for one column, as functions of extended reals. -/
module

public import Idealize.ShloMosaic.Lib.Pointwise

@[expose] public section

noncomputable section

namespace Cert.Conv

open Idealize.ShloMosaic

/-- The entry `k` places before `s`, and zero before the first. -/
def earlier (x : Fin 4096 → EReal) (s : Fin 4096) (k : ℕ) : EReal := if h : k ≤ s.val then x ⟨s.val - k, by omega⟩ else 0

/-- The entry `k` places after `s`, and zero after the last. -/
def later (x : Fin 4096 → EReal) (s : Fin 4096) (k : ℕ) : EReal := if h : s.val + k < 4096 then x ⟨s.val + k, h⟩ else 0

theorem earlier_zero (x : Fin 4096 → EReal) (s : Fin 4096) : earlier x s 0 = x s := by
  unfold earlier
  rw [dif_pos (Nat.zero_le _)]
  rfl

theorem later_zero (x : Fin 4096 → EReal) (s : Fin 4096) : later x s 0 = x s := by
  unfold later
  rw [dif_pos (by omega)]
  rfl

/-- The convolution's output at `s`, from the column `x`, the taps `w` and the bias `b`. -/
def convAt (x : Fin 4096 → EReal) (w : Fin 8 → EReal) (b : EReal) (s : Fin 4096) : EReal :=
  b + earlier x s 3 * w 0 + earlier x s 2 * w 1 + earlier x s 1 * w 2 + x s * w 3

/-- The gradient of the column at `s`, from the cotangent `d`. -/
def backAt (d : Fin 4096 → EReal) (w : Fin 8 → EReal) (s : Fin 4096) : EReal :=
  d s * w 3 + later d s 3 * w 0 + later d s 2 * w 1 + later d s 1 * w 2

/-- One position's share of the gradient of tap `a`. -/
def tapAt (x d : Fin 4096 → EReal) (a : Fin 8) (s : Fin 4096) : EReal := if a.val < 4 then d s * earlier x s (3 - a.val) else 0

/-- The same sums in the other order. -/
theorem convAt_eq (x : Fin 4096 → EReal) (w : Fin 8 → EReal) (b : EReal) (s : Fin 4096) :
    convAt x w b s = earlier x s 3 * w 0 + earlier x s 2 * w 1 + earlier x s 1 * w 2 + x s * w 3 + b := by
  unfold convAt
  ac_rfl

theorem backAt_eq (d : Fin 4096 → EReal) (w : Fin 8 → EReal) (s : Fin 4096) :
    backAt d w s = d s * w 3 + later d s 1 * w 2 + later d s 2 * w 1 + later d s 3 * w 0 := by
  unfold backAt
  ac_rfl

end Cert.Conv

end
-- ==== Proof.DnConvBwdBody.lean ====
/- What the body of the convolution's gradient stores, entry by entry, from the blocks. -/
module

public import proofs.«01_k».proof.Proof.Gen.DnConvBwdIdeal.Value
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnConvBwdIdeal.Stage

open Cert.DnConvBwdIdeal Cert.DnConvBwdIdeal.Gen Idealize.ShloMosaic Idealize.ShloMosaic.TcCoe Idealize.SL.Sem
open Cert.Conv

theorem bit_first : ∀ a : Fin 16, Scalar.cmpi .eq (BitVec.ofNat 32 a.val) 0#32 = if a.val = 0 then 1#1 else 0#1 := by decide +kernel

theorem first_at (i : grid0.Coords) (prev : FVec Ideal S8x3072 .f32) (a : Fin 8) (j : Fin 3072) :
    (Scalar.select (Scalar.cmpi .eq (BitVec.ofNat 32 (i 0).val) 0#32) (broadcast S8x3072 (Scalar.ofBits (F := Ideal) .f32 0x00000000#32)) prev (ix2 a j) : EReal)
      = if (i 0).val = 0 then 0 else prev (ix2 a j) := by
  rw [bit_first (i 0)]
  by_cases h : (i 0).val = 0
  · rw [if_pos h, if_pos h]
    exact (show broadcast S8x3072 (Scalar.ofBits (F := Ideal) .f32 0x00000000#32) (ix2 a j) = (0 : EReal) by pointwise [])
  · rw [if_neg h, if_neg h]
    rfl

theorem above_at (x : FVec Ideal S8x3072 .f32) (y : FVec Ideal S256x3072 .f32) (q : Fin 264) (j : Fin 3072) :
    (concatenate S264x3072 0 [⟨S8x3072, x⟩, ⟨S256x3072, y⟩] concatenates_S8x3072_S256x3072_S264x3072_d0 (ix2 q j) : EReal)
      = if h : q.val < 8 then x (ix2 ⟨q.val, h⟩ j) else y (ix2 ⟨q.val - 8, by omega⟩ j) := by
  pointwise []

/-- A block under the eight rows before it, which are zero at the first point. -/
def padded (i : grid0.Coords) (prev : FVec Ideal S8x3072 .f32) (cur : FVec Ideal S256x3072 .f32) : FVec Ideal S264x3072 .f32 :=
  concatenate S264x3072 0 [⟨S8x3072, Scalar.select (Scalar.cmpi .eq (BitVec.ofNat 32 (i 0).val) 0#32) (broadcast S8x3072 (Scalar.ofBits .f32 0x00000000#32)) prev⟩,
    ⟨S256x3072, cur⟩] concatenates_S8x3072_S256x3072_S264x3072_d0

theorem padded_at (i : grid0.Coords) (prev : FVec Ideal S8x3072 .f32) (cur : FVec Ideal S256x3072 .f32) (q : Fin 264) (j : Fin 3072) :
    (padded i prev cur (ix2 q j) : EReal)
      = if h : q.val < 8 then (if (i 0).val = 0 then 0 else prev (ix2 ⟨q.val, h⟩ j)) else cur (ix2 ⟨q.val - 8, by omega⟩ j) := by
  refine (above_at _ cur q j).trans ?_
  by_cases hq : q.val < 8
  · rw [dif_pos hq, dif_pos hq]
    exact first_at i prev ⟨q.val, hq⟩ j
  · rw [dif_neg hq, dif_neg hq]

theorem bit_last : ∀ a : Fin 16, Scalar.cmpi .eq (BitVec.ofNat 32 a.val) 15#32 = if a.val = 15 then 1#1 else 0#1 := by decide +kernel

theorem last_at (i : grid0.Coords) (next : FVec Ideal S8x3072 .f32) (a : Fin 8) (j : Fin 3072) :
    (Scalar.select (Scalar.cmpi .eq (BitVec.ofNat 32 (i 0).val) 15#32) (broadcast S8x3072 (Scalar.ofBits (F := Ideal) .f32 0x00000000#32)) next (ix2 a j) : EReal)
      = if (i 0).val = 15 then 0 else next (ix2 a j) := by
  rw [bit_last (i 0)]
  by_cases h : (i 0).val = 15
  · rw [if_pos h, if_pos h]
    exact (show broadcast S8x3072 (Scalar.ofBits (F := Ideal) .f32 0x00000000#32) (ix2 a j) = (0 : EReal) by pointwise [])
  · rw [if_neg h, if_neg h]
    rfl

theorem below_at (x : FVec Ideal S256x3072 .f32) (y : FVec Ideal S8x3072 .f32) (q : Fin 264) (j : Fin 3072) :
    (concatenate S264x3072 0 [⟨S256x3072, x⟩, ⟨S8x3072, y⟩] concatenates_S256x3072_S8x3072_S264x3072_d0 (ix2 q j) : EReal)
      = if h : q.val < 256 then x (ix2 ⟨q.val, h⟩ j) else y (ix2 ⟨q.val - 256, by omega⟩ j) := by
  pointwise []

theorem pay5_eq (i : grid0.Coords) (prev : FVec Ideal S8x3072 .f32) (cur : FVec Ideal S256x3072 .f32) : k0_pay5 i prev cur = padded i prev cur := rfl

variable (i : grid0.Coords) (prev : FVec Ideal S8x3072 .f32) (cur dy : FVec Ideal S256x3072 .f32) (next w : FVec Ideal S8x3072 .f32)

/-- The cotangent's block above the eight rows after it, which are zero at the last point. -/
theorem after_at (q : Fin 264) (j : Fin 3072) :
    (k0_pay8 (F := Ideal) i dy next (ix2 q j) : EReal)
      = if h : q.val < 256 then dy (ix2 ⟨q.val, h⟩ j) else (if (i 0).val = 15 then 0 else next (ix2 ⟨q.val - 256, by omega⟩ j)) := by
  refine (below_at dy _ q j).trans ?_
  by_cases hq : q.val < 256
  · rw [dif_pos hq, dif_pos hq]
  · rw [dif_neg hq, dif_neg hq]
    exact last_at i next ⟨q.val - 256, by omega⟩ j

theorem two_at (r : Fin 256) (j : Fin 3072) :
    (k0_pay6 (F := Ideal) i prev cur (ix2 r j) : EReal) = padded i prev cur (ix2 ⟨r.val + 6, by omega⟩ j) := by
  have e : (8 + r.val + 264 - 2) % 264 = r.val + 6 := by omega
  unfold k0_pay6
  dsimp only
  rw [pay5_eq]
  generalize padded i prev cur = q
  pointwise []
  simp only [e]

theorem one_at (r : Fin 256) (j : Fin 3072) :
    (k0_pay7 (F := Ideal) i prev cur (ix2 r j) : EReal) = padded i prev cur (ix2 ⟨r.val + 7, by omega⟩ j) := by
  have e : (8 + r.val + 264 - 1) % 264 = r.val + 7 := by omega
  unfold k0_pay7
  dsimp only
  rw [pay5_eq]
  generalize padded i prev cur = q
  pointwise []
  simp only [e]

theorem three_at (a : Fin 8) (j : Fin 3072) :
    (k0_pay12 (F := Ideal) i prev cur dy (ix2 a j) : EReal)
      = ∑ r : Fin 256, dy (ix2 r j) * padded i prev cur (ix2 ⟨r.val + 5, by omega⟩ j) := by
  have e : ∀ r : Fin 256, (8 + r.val + 264 - 3) % 264 = r.val + 5 := fun r => by omega
  unfold k0_pay12
  dsimp only
  rw [pay5_eq]
  generalize padded i prev cur = q
  pointwise []
  simp only [e]

/-- The gradient of the column's entries. -/
theorem back_out (r : Fin 256) (j : Fin 3072) :
    (k0_pay14 (F := Ideal) (k0_pay8 i dy next) w (k0_pay10 i dy next w) (ix2 r j) : EReal)
      = dy (ix2 r j) * w (ix2 3 j) + k0_pay8 (F := Ideal) i dy next (ix2 ⟨r.val + 3, by omega⟩ j) * w (ix2 0 j)
        + k0_pay8 (F := Ideal) i dy next (ix2 ⟨r.val + 2, by omega⟩ j) * w (ix2 1 j)
        + k0_pay8 (F := Ideal) i dy next (ix2 ⟨r.val + 1, by omega⟩ j) * w (ix2 2 j) := by
  have e1 : (r.val + 264 - 261) % 264 = r.val + 3 := by omega
  have e2 : (r.val + 264 - 262) % 264 = r.val + 2 := by omega
  have e3 : (r.val + 264 - 263) % 264 = r.val + 1 := by omega
  unfold k0_pay14 k0_pay10
  dsimp only
  generalize k0_pay8 (F := Ideal) i dy next = q
  pointwise []
  simp only [e1, e2, e3]

theorem bit_0 : ∀ a : Fin 8, IntOp.cmpi CmpIPredicate.eq (BitVec.ofNat 32 a.val) 0#32 = if a.val = 0 then 1#1 else 0#1 := by decide +kernel
theorem bit_1 : ∀ a : Fin 8, IntOp.cmpi CmpIPredicate.eq (BitVec.ofNat 32 a.val) 1#32 = if a.val = 1 then 1#1 else 0#1 := by decide +kernel
theorem bit_2 : ∀ a : Fin 8, IntOp.cmpi CmpIPredicate.eq (BitVec.ofNat 32 a.val) 2#32 = if a.val = 2 then 1#1 else 0#1 := by decide +kernel
theorem bit_3 : ∀ a : Fin 8, IntOp.cmpi CmpIPredicate.eq (BitVec.ofNat 32 a.val) 3#32 = if a.val = 3 then 1#1 else 0#1 := by decide +kernel

/-- A block's part of the gradient of tap `a`, from the block `p` under its neighbours, the block itself and the cotangent's. -/
def parts (p : FVec Ideal S264x3072 .f32) (x d : FVec Ideal S256x3072 .f32) (a : Fin 8) (j : Fin 3072) : EReal :=
  (if a.val = 0 then ∑ r : Fin 256, d (ix2 r j) * p (ix2 ⟨r.val + 5, by omega⟩ j) else 0)
    + (if a.val = 1 then ∑ r : Fin 256, d (ix2 r j) * p (ix2 ⟨r.val + 6, by omega⟩ j) else 0)
    + (if a.val = 2 then ∑ r : Fin 256, d (ix2 r j) * p (ix2 ⟨r.val + 7, by omega⟩ j) else 0)
    + (if a.val = 3 then ∑ r : Fin 256, d (ix2 r j) * x (ix2 r j) else 0)

theorem parts_eq (p : FVec Ideal S264x3072 .f32) (x d : FVec Ideal S256x3072 .f32) (X D : Fin 4096 → EReal) (row : Fin 256 → Fin 4096)
    (a : Fin 8) (j : Fin 3072) (hd : ∀ r, (d (ix2 r j) : EReal) = D (row r)) (hx : ∀ r, (x (ix2 r j) : EReal) = X (row r))
    (hp : ∀ (r : Fin 256) (k : ℕ) (q : Fin 264), q.val + k = r.val + 8 → (p (ix2 q j) : EReal) = earlier X (row r) k) :
    parts p x d a j = ∑ r : Fin 256, tapAt X D a (row r) := by
  unfold parts tapAt
  rw [Finset.sum_congr rfl fun r _ => congrArg₂ (· * ·) (hd r) (hp r 3 ⟨r.val + 5, by omega⟩ rfl),
    Finset.sum_congr rfl fun r _ => congrArg₂ (· * ·) (hd r) (hp r 2 ⟨r.val + 6, by omega⟩ rfl),
    Finset.sum_congr rfl fun r _ => congrArg₂ (· * ·) (hd r) (hp r 1 ⟨r.val + 7, by omega⟩ rfl),
    Finset.sum_congr rfl fun r _ => congrArg₂ (· * ·) (hd r) ((hx r).trans (earlier_zero X (row r)).symm)]
  obtain ⟨a, ha⟩ := a
  interval_cases a <;> simp

variable (acc : FVec Ideal S8x3072 .f32) (accb : FVec Ideal S1x3072 .f32)

/-- The gradient of the taps, one row for each of the four. -/
theorem taps_out (a : Fin 8) (j : Fin 3072) :
    (k0_pay3 (F := Ideal) (k0_pay13 cur (k0_pay6 i prev cur) (k0_pay7 i prev cur) dy (iota .tc S8x3072 32 [0] iota_S8x3072_d0_w32) k0_pay9
        k0_pay11 (Scalar.ofBits .f32 0x00000000#32) (k0_pay12 i prev cur dy)) acc (ix2 a j) : EReal)
      = acc (ix2 a j) + parts (padded i prev cur) cur dy a j := by
  unfold parts
  simp only [← three_at i prev cur dy a j, ← two_at, ← one_at]
  pointwise [k0_pay3, k0_pay13, k0_pay9, k0_pay11]
  simp only [bit_0, bit_1, bit_2, bit_3]
  split_ifs <;> simp [Scalar.select]

theorem bias_out (z : Fin 1) (j : Fin 3072) :
    (k0_pay4 (F := Ideal) dy accb (ix2 z j) : EReal) = accb (ix2 z j) + ∑ r : Fin 256, dy (ix2 r j) := by
  obtain rfl : z = 0 := Subsingleton.elim _ _
  pointwise [k0_pay4]

theorem zero_taps (a : Fin 8) (j : Fin 3072) : (k0_pay1 (F := Ideal) (ix2 a j) : EReal) = 0 := by
  pointwise [k0_pay1]

theorem zero_bias (z : Fin 1) (j : Fin 3072) : (k0_pay2 (F := Ideal) (ix2 z j) : EReal) = 0 := by
  pointwise [k0_pay2]

end Cert.DnConvBwdIdeal.Stage

end
-- ==== Proof.DnConvBwdValue.lean ====
/- The arrays the convolution's gradient leaves, as functions of its arguments. -/
module

public import proofs.«01_k».proof.Proof.DnConvBwdBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnConvBwdIdeal.Stage

open Cert.DnConvBwdIdeal Cert.DnConvBwdIdeal.Gen Idealize.ShloMosaic Idealize.ShloMosaic.TcCoe Idealize.SL.Sem
open Idealize.ShloMosaic.Pipeline (Dat)
open Cert.Conv
variable (m : (ℓ : Loc nD τ sig) → Buf (Elt Ideal) ℓ)

/-- The arguments by column and row: the convolution's input among the projection's columns, the taps, the cotangent. -/
def xAt (c : Dev nD) (j : Fin 3072) (s : Fin 4096) : EReal :=
  (m ((c : Thread nD τ).loc main_arg0) : FVec Ideal S4096x10752 .f32) (ix2 s ⟨0 + j.val, by omega⟩)
def wAt (c : Dev nD) (j : Fin 3072) (a : Fin 8) : EReal := (m ((c : Thread nD τ).loc main_arg1) : FVec Ideal S8x3072 .f32) (ix2 a j)
def dAt (c : Dev nD) (j : Fin 3072) (s : Fin 4096) : EReal := (m ((c : Thread nD τ).loc main_arg2) : FVec Ideal S4096x3072 .f32) (ix2 s j)

/-- The points and the windows' block indices. -/
theorem idx : ∀ t : Fin cfg0.N, t.val < 16 ∧ (grid0.coords t 0).val = t.val ∧ win0_0.index t = ![t.val, 0]
    ∧ win0_1.index t = ![t.val * 32 - 1, 0] ∧ win0_2.index t = ![0, 0] ∧ win0_3.index t = ![t.val, 0]
    ∧ win0_4.index t = ![min (t.val * 32 + 32) 511, 0] ∧ win0_5.index t = ![t.val, 0] ∧ win0_6.index t = ![0, 0] ∧ win0_7.index t = ![0, 0] :=
  (by decide +kernel : ∀ t : Fin grid0.N, _)

/-- Row `r` of the block of point `t`. -/
def rowOf (t : Fin cfg0.N) (r : Fin 256) : Fin 4096 := ⟨t.val * 256 + r.val, by have := (idx t).1; omega⟩

theorem cur_block (c : Dev nD) (t : Fin cfg0.N) (r : Fin 256) (j : Fin 3072) : (X0_0 m c t (ix2 r j) : EReal) = xAt m c j (rowOf t r) := by
  unfold xAt X0_0 Pipeline.Window.fill
  rw [dif_pos (moved0_0 t _)]
  blk_point [iblk, V, idx t, rowOf]

theorem prev_block (c : Dev nD) (t : Fin cfg0.N) (ht : ¬ t.val = 0) (q : Fin 8) (j : Fin 3072) :
    (X0_1 m c t (ix2 q j) : EReal) = xAt m c j ⟨t.val * 256 + q.val - 8, by have := (idx t).1; omega⟩ := by
  have e : (t.val * 32 - 1) * 8 + q.val = t.val * 256 + q.val - 8 := by omega
  unfold xAt X0_1 Pipeline.Window.fill
  rw [dif_pos (moved0_1 t _)]
  blk_point [iblk, V, idx t, e]

/-- The block and the eight rows before it, read `k` places back. -/
theorem earlier_block (c : Dev nD) (t : Fin cfg0.N) (r : Fin 256) (j : Fin 3072) (k : ℕ) (q : Fin 264) (h : q.val + k = r.val + 8) :
    (padded (grid0.coords t) (X0_1 m c t) (X0_0 m c t) (ix2 q j) : EReal) = earlier (xAt m c j) (rowOf t r) k := by
  have hN := (idx t).1
  rw [padded_at, (idx t).2.1]
  unfold earlier
  have hr : (rowOf t r).val = t.val * 256 + r.val := rfl
  by_cases hq : q.val < 8
  · rw [dif_pos hq]
    by_cases ht : t.val = 0
    · rw [if_pos ht, dif_neg (by omega)]
    · rw [if_neg ht, dif_pos (by omega), prev_block m c t ht]
      exact congrArg (xAt m c j) (Fin.ext (by simp only [hr]; omega))
  · rw [dif_neg hq, dif_pos (by omega), cur_block]
    exact congrArg (xAt m c j) (Fin.ext (by simp only [rowOf]; omega))

theorem w_block (c : Dev nD) (t : Fin cfg0.N) (a : Fin 8) (j : Fin 3072) : (iblk m c 2 t (ix2 a j) : EReal) = wAt m c j a := by
  unfold wAt
  blk_point [iblk, V, idx t]

theorem d_block (c : Dev nD) (t : Fin cfg0.N) (r : Fin 256) (j : Fin 3072) : (iblk m c 3 t (ix2 r j) : EReal) = dAt m c j (rowOf t r) := by
  unfold dAt
  blk_point [iblk, V, idx t, rowOf]

theorem next_block (c : Dev nD) (t : Fin cfg0.N) (ht : ¬ t.val = 15) (q : Fin 8) (j : Fin 3072) :
    (iblk m c 4 t (ix2 q j) : EReal) = dAt m c j ⟨t.val * 256 + 256 + q.val, by have := (idx t).1; omega⟩ := by
  have hN := (idx t).1
  have e : min (t.val * 32 + 32) 511 * 8 + q.val = t.val * 256 + 256 + q.val := by omega
  unfold dAt
  blk_point [iblk, V, idx t, e]

/-- The cotangent's block and the eight rows after it, read `k` places ahead. -/
theorem later_block (c : Dev nD) (t : Fin cfg0.N) (r : Fin 256) (j : Fin 3072) (k : ℕ) (q : Fin 264) (h : q.val = r.val + k) :
    (k0_pay8 (F := Ideal) (grid0.coords t) (iblk m c 3 t) (iblk m c 4 t) (ix2 q j) : EReal) = later (dAt m c j) (rowOf t r) k := by
  have hN := (idx t).1
  refine (after_at (grid0.coords t) (iblk m c 3 t) (iblk m c 4 t) q j).trans ?_
  rw [(idx t).2.1]
  unfold later
  have hr : (rowOf t r).val = t.val * 256 + r.val := rfl
  by_cases hq : q.val < 256
  · rw [dif_pos hq, dif_pos (by omega), d_block]
    exact congrArg (dAt m c j) (Fin.ext (by simp only [rowOf]; omega))
  · rw [dif_neg hq]
    by_cases ht : t.val = 15
    · rw [if_pos ht, dif_neg (by omega)]
    · rw [if_neg ht, dif_pos (by omega), next_block m c t ht]
      exact congrArg (dAt m c j) (Fin.ext (by simp only [hr]; omega))

/-- The gradient of the input by row and column. -/
def rowAt (c : Dev nD) (s : Fin 4096) (j : Fin 3072) : EReal := backAt (dAt m c j) (wAt m c j) s

theorem back_eq (c : Dev nD) (t : Fin cfg0.N) (r : Fin 256) (j : Fin 3072) :
    (k0_pay14 (F := Ideal) (k0_pay8 (grid0.coords t) (iblk m c 3 t) (iblk m c 4 t)) (iblk m c 2 t)
      (k0_pay10 (grid0.coords t) (iblk m c 3 t) (iblk m c 4 t) (iblk m c 2 t)) (ix2 r j) : EReal) = rowAt m c (rowOf t r) j := by
  refine (back_out (grid0.coords t) (iblk m c 3 t) (iblk m c 4 t) (iblk m c 2 t) r j).trans ?_
  unfold rowAt backAt
  rw [later_block m c t r j 3 _ rfl, later_block m c t r j 2 _ rfl, later_block m c t r j 1 _ rfl, d_block, w_block, w_block, w_block, w_block]

theorem outs_row (c : Dev nD) (t : Fin cfg0.N) (r : Fin 256) (j : Fin 3072) :
    ((outsAt0 m c t.val t.isLt).1 (ix2 r j) : EReal) = rowAt m c (rowOf t r) j := by
  by_cases h : t.val % 16 = 0
  · rw [outsAt0_A m c t h]; frame_out
    exact back_eq m c t r j
  · rw [outsAt0_B m c t h]; frame_out
    exact back_eq m c t r j

/-- One row's share of the gradient of the taps, and one point's part of it. -/
def term (c : Dev nD) (a : Fin 8) (j : Fin 3072) (s : Fin 4096) : EReal := tapAt (xAt m c j) (dAt m c j) a s
def part (c : Dev nD) (t : Fin cfg0.N) (x : S8x3072.Idx) : EReal := ∑ r : Fin 256, term m c (x 0) (x 1) (rowOf t r)

theorem part_eq (c : Dev nD) (t : Fin cfg0.N) (a : Fin 8) (j : Fin 3072) :
    parts (padded (grid0.coords t) (X0_1 m c t) (X0_0 m c t)) (X0_0 m c t) (iblk m c 3 t) a j = ∑ r : Fin 256, term m c a j (rowOf t r) :=
  parts_eq _ _ _ (xAt m c j) (dAt m c j) (rowOf t) a j (fun r => d_block m c t r j) (fun r => cur_block m c t r j)
    (fun r k q h => earlier_block m c t r j k q h)

theorem taps_first (c : Dev nD) (t : Fin cfg0.N) (h : t.val % 16 = 0) (x : S8x3072.Idx) :
    ((outsAt0 m c t.val t.isLt).2.1 x : EReal) = 0 + part m c t x := by
  unfold part
  idx_vars x
  rw [outsAt0_A m c t h]; frame_out
  refine (taps_out (grid0.coords t) (X0_1 m c t) (X0_0 m c t) (iblk m c 3 t) _ x0 x1).trans ?_
  exact congrArg₂ _ (zero_taps _ _) (part_eq m c t x0 x1)

theorem taps_next (c : Dev nD) (t : Fin cfg0.N) (h : ¬ t.val % 16 = 0) (x : S8x3072.Idx) :
    ((outsAt0 m c t.val t.isLt).2.1 x : EReal)
      = (outsAt0 m c (t.val - 1) (Nat.lt_of_le_of_lt (Nat.sub_le _ _) t.isLt)).2.1 x + part m c t x := by
  unfold part
  idx_vars x
  rw [outsAt0_B m c t h]; frame_out
  refine (taps_out (grid0.coords t) (X0_1 m c t) (X0_0 m c t) (iblk m c 3 t) _ x0 x1).trans ?_
  exact congrArg _ (part_eq m c t x0 x1)

theorem taps_last (c : Dev nD) (t : Fin cfg0.N) (ht : t.val + 1 = 16) (x : S8x3072.Idx) :
    ((outsAt0 m c t.val t.isLt).2.1 x : EReal) = ∑ s : Fin 4096, term m c (x 0) (x 1) s := by
  rw [Pipeline.eq_sum_fin_of_reset_step_apply_last (fun n h => (outsAt0 m c n h).2.1) 16 (fun _ => (0 : EReal)) (part m c)
    (fun t h x => taps_first m c t h x) (fun t h x => taps_next m c t h x) (le_of_eq N_0) t ht x, zero_add]
  exact Fin.sum_mul_add_congr (fun s k hl => rfl) (by rw [show cfg0.N = 16 from N_0])

/-- One point's part of the bias's gradient. -/
def biasPart (c : Dev nD) (t : Fin cfg0.N) (x : S1x3072.Idx) : EReal := ∑ r : Fin 256, dAt m c (x 1) (rowOf t r)

theorem bias_first (c : Dev nD) (t : Fin cfg0.N) (h : t.val % 16 = 0) (x : S1x3072.Idx) :
    ((outsAt0 m c t.val t.isLt).2.2 x : EReal) = 0 + biasPart m c t x := by
  unfold biasPart
  idx_vars x
  rw [outsAt0_A m c t h]; frame_out
  refine (bias_out (iblk m c 3 t) _ x0 x1).trans ?_
  exact congrArg₂ _ (zero_bias _ _) (Finset.sum_congr rfl fun r _ => d_block m c t r x1)

theorem bias_next (c : Dev nD) (t : Fin cfg0.N) (h : ¬ t.val % 16 = 0) (x : S1x3072.Idx) :
    ((outsAt0 m c t.val t.isLt).2.2 x : EReal)
      = (outsAt0 m c (t.val - 1) (Nat.lt_of_le_of_lt (Nat.sub_le _ _) t.isLt)).2.2 x + biasPart m c t x := by
  unfold biasPart
  idx_vars x
  rw [outsAt0_B m c t h]; frame_out
  refine (bias_out (iblk m c 3 t) _ x0 x1).trans ?_
  exact congrArg _ (Finset.sum_congr rfl fun r _ => d_block m c t r x1)

theorem bias_last (c : Dev nD) (t : Fin cfg0.N) (ht : t.val + 1 = 16) (x : S1x3072.Idx) :
    ((outsAt0 m c t.val t.isLt).2.2 x : EReal) = ∑ s : Fin 4096, dAt m c (x 1) s := by
  rw [Pipeline.eq_sum_fin_of_reset_step_apply_last (fun n h => (outsAt0 m c n h).2.2) 16 (fun _ => (0 : EReal)) (biasPart m c)
    (fun t h x => bias_first m c t h x) (fun t h x => bias_next m c t h x) (le_of_eq N_0) t ht x, zero_add]
  exact Fin.sum_mul_add_congr (fun s k hl => rfl) (by rw [show cfg0.N = 16 from N_0])

/-- The gradient of the input. -/
theorem final_row (c : Dev nD) : (dats m 0 c).arrAt 5 cfg0.N = fun i => rowAt m c (i 0) (i 1) := by
  refine (dats m 0 c).arrAt_eq_of_covers 5 _ (by decide +kernel) fun t _ y => ?_
  rw [after0_5]
  idx_vars y
  blk_simp
  refine (outs_row m c t y0 y1).trans (congrArg₂ _ (Fin.ext ?_) (Fin.ext ?_)) <;> blk_simp [idx t, rowOf]

/-- The gradient of the taps, accumulated over the points. -/
theorem final_taps (c : Dev nD) : (dats m 0 c).arrAt 6 cfg0.N = fun i => ∑ s : Fin 4096, term m c (i 0) (i 1) s := by
  refine (dats m 0 c).arrAt_eq_of_covers 6 _ (by decide +kernel) fun t hf y => ?_
  have ht : t.val % 16 = 15 := (flush0_6 t).mp hf
  have hN := (idx t).1
  rw [after0_6]
  refine (taps_last m c t (by omega) y).trans ?_
  idx_vars y
  blk_simp
  refine Finset.sum_congr rfl fun s _ => congrArg₂ (fun a j => term m c a j s) (Fin.ext ?_) (Fin.ext ?_) <;> blk_simp [idx t]

/-- The gradient of the bias, accumulated over the points. -/
theorem final_bias (c : Dev nD) : (dats m 0 c).arrAt 7 cfg0.N = fun i => ∑ s : Fin 4096, dAt m c (i 1) s := by
  refine (dats m 0 c).arrAt_eq_of_covers 7 _ (by decide +kernel) fun t hf y => ?_
  have ht : t.val % 16 = 15 := (flush0_7 t).mp hf
  have hN := (idx t).1
  rw [after0_7]
  refine (bias_last m c t (by omega) y).trans ?_
  idx_vars y
  blk_simp
  refine Finset.sum_congr rfl fun s _ => congrArg (fun j => dAt m c j s) (Fin.ext ?_)
  blk_simp [idx t]

end Cert.DnConvBwdIdeal.Stage

end
-- ==== Proof.DnConvBwdRef.lean ====
/- The results of the plain gradient of the convolution, entry by entry. -/
module

public import proofs.«01_k».proof.Proof.Gen.DnConvBwdRefIdeal.Read
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnConvBwdRefIdeal.Stage

open Cert.DnConvBwdRefIdeal Cert.DnConvBwdRefIdeal.Read Idealize.ShloMosaic
open Cert.Conv

variable (x : FVec Ideal S4096x10752 .f32) (w : FVec Ideal S8x3072 .f32) (d : FVec Ideal S4096x3072 .f32)

/-- The arguments by column and row. -/
def xOf (j : Fin 3072) (s : Fin 4096) : EReal := x (ix2 s ⟨0 + j.val, by omega⟩)
def wOf (j : Fin 3072) (a : Fin 8) : EReal := w (ix2 a j)
def dOf (j : Fin 3072) (s : Fin 4096) : EReal := d (ix2 s j)

theorem three_at (s : Fin 4096) (j : Fin 3072) : (val_main_v5 (F := Ideal) x (ix2 s j) : EReal) = earlier (xOf x j) s 3 := by
  unfold earlier xOf
  by_cases h : 3 ≤ s.val
  · rw [dif_pos h]
    pointwise [val_main_v5, val_main_v3, val_main_v2, val_main_cst_0, val_main_v0]
    rw [dif_neg (by omega)]
  · rw [dif_neg h]
    pointwise [val_main_v5, val_main_v3, val_main_v2, val_main_cst_0, val_main_v0]
    exact dif_pos (by omega)

theorem two_at (s : Fin 4096) (j : Fin 3072) : (val_main_v11 (F := Ideal) x (ix2 s j) : EReal) = earlier (xOf x j) s 2 := by
  unfold earlier xOf
  by_cases h : 2 ≤ s.val
  · rw [dif_pos h]
    have e : 1 + s.val - 3 = s.val - 2 := by omega
    pointwise [val_main_v11, val_main_v3, val_main_v2, val_main_cst_0, val_main_v0]
    rw [dif_neg (by omega)]
    simp only [e]
  · rw [dif_neg h]
    pointwise [val_main_v11, val_main_v3, val_main_v2, val_main_cst_0, val_main_v0]
    exact dif_pos (by omega)

theorem one_at (s : Fin 4096) (j : Fin 3072) : (val_main_v18 (F := Ideal) x (ix2 s j) : EReal) = earlier (xOf x j) s 1 := by
  unfold earlier xOf
  by_cases h : 1 ≤ s.val
  · rw [dif_pos h]
    have e : 2 + s.val - 3 = s.val - 1 := by omega
    pointwise [val_main_v18, val_main_v3, val_main_v2, val_main_cst_0, val_main_v0]
    rw [dif_neg (by omega)]
    simp only [e]
  · rw [dif_neg h]
    pointwise [val_main_v18, val_main_v3, val_main_v2, val_main_cst_0, val_main_v0]
    exact dif_pos (by omega)

theorem none_at (s : Fin 4096) (j : Fin 3072) : (val_main_v25 (F := Ideal) x (ix2 s j) : EReal) = earlier (xOf x j) s 0 := by
  unfold earlier xOf
  pointwise [val_main_v25, val_main_v3, val_main_v2, val_main_cst_0, val_main_v0]

theorem tap3_at (a : Fin 8) (j : Fin 3072) :
    (val_main_v44 (F := Ideal) x d (ix2 a j) : EReal) = if a.val = 3 then ∑ s : Fin 4096, earlier (xOf x j) s 0 * dOf d j s else 0 := by
  simp only [← none_at]
  unfold dOf
  pointwise [val_main_v44, val_main_cst_5, val_main_v43, val_main_v42, val_main_cst_4, val_main_v39, val_main_v38, val_main_cst_3, val_main_v37, val_main_v34]
  simp only [Fin.sum_univ_one]
  split_ifs <;> first | omega | rfl

theorem tap2_at (a : Fin 8) (j : Fin 3072) :
    (val_main_v53 (F := Ideal) x d (ix2 a j) : EReal) = if a.val = 2 then ∑ s : Fin 4096, earlier (xOf x j) s 1 * dOf d j s else 0 := by
  simp only [← one_at]
  unfold dOf
  pointwise [val_main_v53, val_main_cst_9, val_main_v52, val_main_v51, val_main_cst_8, val_main_v48, val_main_v47, val_main_cst_7, val_main_v46, val_main_v34]
  simp only [Fin.sum_univ_one]
  split_ifs <;> first | omega | rfl

theorem tap1_at (a : Fin 8) (j : Fin 3072) :
    (val_main_v64 (F := Ideal) x d (ix2 a j) : EReal) = if a.val = 1 then ∑ s : Fin 4096, earlier (xOf x j) s 2 * dOf d j s else 0 := by
  simp only [← two_at]
  unfold dOf
  pointwise [val_main_v64, val_main_cst_13, val_main_v63, val_main_v62, val_main_cst_12, val_main_v59, val_main_v58, val_main_cst_11, val_main_v57, val_main_v34]
  simp only [Fin.sum_univ_one]
  split_ifs <;> first | omega | rfl

theorem tap0_at (a : Fin 8) (j : Fin 3072) :
    (val_main_v75 (F := Ideal) x d (ix2 a j) : EReal) = if a.val = 0 then ∑ s : Fin 4096, earlier (xOf x j) s 3 * dOf d j s else 0 := by
  simp only [← three_at]
  unfold dOf
  pointwise [val_main_v75, val_main_cst_17, val_main_v74, val_main_v73, val_main_cst_16, val_main_v70, val_main_v69, val_main_cst_15, val_main_v68, val_main_v34]
  simp only [Fin.sum_univ_one]
  split_ifs <;> first | omega | rfl

theorem pad0_at (s : Fin 4096) (j : Fin 3072) :
    (val_main_v45 (F := Ideal) w d (ix2 ⟨s.val + 3, by omega⟩ j) : EReal) = later (dOf d j) s 0 * wOf w j 3 := by
  unfold later dOf wOf
  pointwise [val_main_v45, val_main_cst_6, val_main_v41, val_main_v40, val_main_v28, val_main_v27, val_main_v26, val_main_v34]
  split_ifs <;> first | omega | rfl | simp

theorem pad1_at (s : Fin 4096) (j : Fin 3072) :
    (val_main_v55 (F := Ideal) w d (ix2 ⟨s.val + 3, by omega⟩ j) : EReal) = later (dOf d j) s 1 * wOf w j 2 := by
  unfold later dOf wOf
  pointwise [val_main_v55, val_main_cst_10, val_main_v50, val_main_v49, val_main_v21, val_main_v20, val_main_v19, val_main_v34]
  split_ifs <;> first | omega | rfl | simp

theorem pad2_at (s : Fin 4096) (j : Fin 3072) :
    (val_main_v66 (F := Ideal) w d (ix2 ⟨s.val + 3, by omega⟩ j) : EReal) = later (dOf d j) s 2 * wOf w j 1 := by
  unfold later dOf wOf
  pointwise [val_main_v66, val_main_cst_14, val_main_v61, val_main_v60, val_main_v14, val_main_v13, val_main_v12, val_main_v34]
  split_ifs <;> first | omega | rfl | simp

theorem pad3_at (s : Fin 4096) (j : Fin 3072) :
    (val_main_v77 (F := Ideal) w d (ix2 ⟨s.val + 3, by omega⟩ j) : EReal) = later (dOf d j) s 3 * wOf w j 0 := by
  unfold later dOf wOf
  pointwise [val_main_v77, val_main_cst_18, val_main_v72, val_main_v71, val_main_v8, val_main_v7, val_main_v6, val_main_v34]
  split_ifs <;> first | omega | rfl | simp

theorem row_at (s : Fin 4096) (j : Fin 3072) : backAt (dOf d j) (wOf w j) s = (val_main_v81 (F := Ideal) w d (ix2 s j) : EReal) := by
  rw [backAt_eq]
  refine Eq.trans ?_ (show (val_main_v45 (F := Ideal) w d (ix2 ⟨s.val + 3, by omega⟩ j) + val_main_v55 (F := Ideal) w d (ix2 ⟨s.val + 3, by omega⟩ j)
    + val_main_v66 (F := Ideal) w d (ix2 ⟨s.val + 3, by omega⟩ j) + val_main_v77 (F := Ideal) w d (ix2 ⟨s.val + 3, by omega⟩ j) : EReal) = _ from ?_)
  · rw [pad0_at, pad1_at, pad2_at, pad3_at, later_zero]
  · have e : 3 + s.val = s.val + 3 := by omega
    pointwise [val_main_v81, val_main_v80, val_main_v78, val_main_v67, val_main_v56]
    simp only [e]

theorem taps_at (a : Fin 8) (j : Fin 3072) :
    ∑ s : Fin 4096, tapAt (xOf x j) (dOf d j) a s = (val_main_v76 (F := Ideal) x d (ix2 a j) : EReal) := by
  refine Eq.trans ?_ (show (val_main_v44 (F := Ideal) x d (ix2 a j) + val_main_v53 (F := Ideal) x d (ix2 a j)
    + val_main_v64 (F := Ideal) x d (ix2 a j) + val_main_v75 (F := Ideal) x d (ix2 a j) : EReal) = _ from ?_)
  · rw [tap3_at, tap2_at, tap1_at, tap0_at]
    unfold tapAt
    simp only [mul_comm (dOf d j _)]
    obtain ⟨a, ha⟩ := a
    interval_cases a <;> simp
  · pointwise [val_main_v76, val_main_v65, val_main_v54]

theorem bias_at (z : Fin 1) (j : Fin 3072) : ∑ s : Fin 4096, dOf d j s = (val_main_v36 (F := Ideal) d (ix2 z j) : EReal) := by
  obtain rfl : z = 0 := Subsingleton.elim _ _
  unfold dOf
  pointwise [val_main_v36, val_main_v35, val_main_cst_2]

end Cert.DnConvBwdRefIdeal.Stage

end
-- ==== Proof.DnConvBwdClaim.lean ====
/- The gradient of the convolution and the reference give the same results. -/
module

public import proofs.«01_k».proof.Defs
public import proofs.«01_k».proof.Proof.Gen.DnConvBwdIdeal
public import proofs.«01_k».proof.Proof.Gen.DnConvBwdRefIdeal
public import proofs.«01_k».proof.Proof.Gen.DnConvBwdRefIdeal.Run
public import proofs.«01_k».proof.Proof.DnConvBwdValue
public import proofs.«01_k».proof.Proof.DnConvBwdRef

@[expose] public section

noncomputable section

namespace Cert.DnConvBwdClaim

open Idealize.ShloMosaic Idealize.ShloMosaic.TcCoe Idealize.SL.Sem

theorem algebraic : Cert.algebraic_DnConvBwdIdeal_DnConvBwdRefIdeal (hDnConvBwdIdeal := Cert.DnConvBwdIdeal.Gen.facts)
    (hDnConvBwdRefIdeal := Cert.DnConvBwdRefIdeal.Gen.facts) := by
  intro m g m' g' _ hag
  refine ⟨_, _, _, Cert.DnConvBwdIdeal.Value.run_blocks m g,
    (θ_run _ _ _).mono (fun _ h c => ⟨(h c).1.trans ?_, (h c).2.1.trans ?_, (h c).2.2.1.trans ?_, (h c).2.2.2⟩)
      (Cert.DnConvBwdRefIdeal.Value.run m' g')⟩
  · rw [Cert.DnConvBwdIdeal.Stage.final_row, Cert.DnConvBwdRefIdeal.Read.val_main_v81_eq,
      (hag c).2.1, (hag c).2.2]
    funext i
    idx_vars i
    exact (Cert.DnConvBwdRefIdeal.Stage.row_at _ _ i0 i1).symm
  · rw [Cert.DnConvBwdIdeal.Stage.final_taps, Cert.DnConvBwdRefIdeal.Read.val_main_v76_eq,
      (hag c).1, (hag c).2.2]
    funext i
    idx_vars i
    exact (Cert.DnConvBwdRefIdeal.Stage.taps_at _ _ i0 i1).symm
  · rw [Cert.DnConvBwdIdeal.Stage.final_bias, Cert.DnConvBwdRefIdeal.Read.val_main_v36_eq,
      (hag c).2.2]
    funext i
    idx_vars i
    exact (Cert.DnConvBwdRefIdeal.Stage.bias_at _ i0 i1).symm

theorem frameRef : Cert.quiescent_DnConvBwdRefIdeal (hDnConvBwdRefIdeal := Cert.DnConvBwdRefIdeal.Gen.facts) := by
  intro m g _
  exact (θ_run _ _ _).mono (fun r h => ⟨fun c => (h c).2.2.2, sem_eq_zero_of_no_sems (by decide) _⟩)
    (Cert.DnConvBwdRefIdeal.Value.run m g)

end Cert.DnConvBwdClaim

end
-- ==== Proof.LruConvBwdBody.lean ====
/- What the body of the convolution's gradient stores, entry by entry, from the blocks. -/
module

public import proofs.«01_k».proof.Proof.Gen.LruConvBwdIdeal.Value
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruConvBwdIdeal.Stage

open Cert.LruConvBwdIdeal Cert.LruConvBwdIdeal.Gen Idealize.ShloMosaic Idealize.ShloMosaic.TcCoe Idealize.SL.Sem
open Cert.Conv

theorem bit_first : ∀ a : Fin 16, Scalar.cmpi .eq (BitVec.ofNat 32 a.val) 0#32 = if a.val = 0 then 1#1 else 0#1 := by decide +kernel

theorem first_at (i : grid0.Coords) (prev : FVec Ideal S8x1024 .f32) (a : Fin 8) (j : Fin 1024) :
    (Scalar.select (Scalar.cmpi .eq (BitVec.ofNat 32 (i 0).val) 0#32) (broadcast S8x1024 (Scalar.ofBits (F := Ideal) .f32 0x00000000#32)) prev (ix2 a j) : EReal)
      = if (i 0).val = 0 then 0 else prev (ix2 a j) := by
  rw [bit_first (i 0)]
  by_cases h : (i 0).val = 0
  · rw [if_pos h, if_pos h]
    exact (show broadcast S8x1024 (Scalar.ofBits (F := Ideal) .f32 0x00000000#32) (ix2 a j) = (0 : EReal) by pointwise [])
  · rw [if_neg h, if_neg h]
    rfl

theorem above_at (x : FVec Ideal S8x1024 .f32) (y : FVec Ideal S256x1024 .f32) (q : Fin 264) (j : Fin 1024) :
    (concatenate S264x1024 0 [⟨S8x1024, x⟩, ⟨S256x1024, y⟩] concatenates_S8x1024_S256x1024_S264x1024_d0 (ix2 q j) : EReal)
      = if h : q.val < 8 then x (ix2 ⟨q.val, h⟩ j) else y (ix2 ⟨q.val - 8, by omega⟩ j) := by
  pointwise []

/-- A block under the eight rows before it, which are zero at the first point. -/
def padded (i : grid0.Coords) (prev : FVec Ideal S8x1024 .f32) (cur : FVec Ideal S256x1024 .f32) : FVec Ideal S264x1024 .f32 :=
  concatenate S264x1024 0 [⟨S8x1024, Scalar.select (Scalar.cmpi .eq (BitVec.ofNat 32 (i 0).val) 0#32) (broadcast S8x1024 (Scalar.ofBits .f32 0x00000000#32)) prev⟩,
    ⟨S256x1024, cur⟩] concatenates_S8x1024_S256x1024_S264x1024_d0

theorem padded_at (i : grid0.Coords) (prev : FVec Ideal S8x1024 .f32) (cur : FVec Ideal S256x1024 .f32) (q : Fin 264) (j : Fin 1024) :
    (padded i prev cur (ix2 q j) : EReal)
      = if h : q.val < 8 then (if (i 0).val = 0 then 0 else prev (ix2 ⟨q.val, h⟩ j)) else cur (ix2 ⟨q.val - 8, by omega⟩ j) := by
  refine (above_at _ cur q j).trans ?_
  by_cases hq : q.val < 8
  · rw [dif_pos hq, dif_pos hq]
    exact first_at i prev ⟨q.val, hq⟩ j
  · rw [dif_neg hq, dif_neg hq]

theorem bit_last : ∀ a : Fin 16, Scalar.cmpi .eq (BitVec.ofNat 32 a.val) 15#32 = if a.val = 15 then 1#1 else 0#1 := by decide +kernel

theorem last_at (i : grid0.Coords) (next : FVec Ideal S8x1024 .f32) (a : Fin 8) (j : Fin 1024) :
    (Scalar.select (Scalar.cmpi .eq (BitVec.ofNat 32 (i 0).val) 15#32) (broadcast S8x1024 (Scalar.ofBits (F := Ideal) .f32 0x00000000#32)) next (ix2 a j) : EReal)
      = if (i 0).val = 15 then 0 else next (ix2 a j) := by
  rw [bit_last (i 0)]
  by_cases h : (i 0).val = 15
  · rw [if_pos h, if_pos h]
    exact (show broadcast S8x1024 (Scalar.ofBits (F := Ideal) .f32 0x00000000#32) (ix2 a j) = (0 : EReal) by pointwise [])
  · rw [if_neg h, if_neg h]
    rfl

theorem below_at (x : FVec Ideal S256x1024 .f32) (y : FVec Ideal S8x1024 .f32) (q : Fin 264) (j : Fin 1024) :
    (concatenate S264x1024 0 [⟨S256x1024, x⟩, ⟨S8x1024, y⟩] concatenates_S256x1024_S8x1024_S264x1024_d0 (ix2 q j) : EReal)
      = if h : q.val < 256 then x (ix2 ⟨q.val, h⟩ j) else y (ix2 ⟨q.val - 256, by omega⟩ j) := by
  pointwise []

theorem pay5_eq (i : grid0.Coords) (prev : FVec Ideal S8x1024 .f32) (cur : FVec Ideal S256x1024 .f32) : k0_pay5 i prev cur = padded i prev cur := rfl

variable (i : grid0.Coords) (prev : FVec Ideal S8x1024 .f32) (cur dy : FVec Ideal S256x1024 .f32) (next w : FVec Ideal S8x1024 .f32)

/-- The cotangent's block above the eight rows after it, which are zero at the last point. -/
theorem after_at (q : Fin 264) (j : Fin 1024) :
    (k0_pay8 (F := Ideal) i dy next (ix2 q j) : EReal)
      = if h : q.val < 256 then dy (ix2 ⟨q.val, h⟩ j) else (if (i 0).val = 15 then 0 else next (ix2 ⟨q.val - 256, by omega⟩ j)) := by
  refine (below_at dy _ q j).trans ?_
  by_cases hq : q.val < 256
  · rw [dif_pos hq, dif_pos hq]
  · rw [dif_neg hq, dif_neg hq]
    exact last_at i next ⟨q.val - 256, by omega⟩ j

theorem two_at (r : Fin 256) (j : Fin 1024) :
    (k0_pay6 (F := Ideal) i prev cur (ix2 r j) : EReal) = padded i prev cur (ix2 ⟨r.val + 6, by omega⟩ j) := by
  have e : (8 + r.val + 264 - 2) % 264 = r.val + 6 := by omega
  unfold k0_pay6
  dsimp only
  rw [pay5_eq]
  generalize padded i prev cur = q
  pointwise []
  simp only [e]

theorem one_at (r : Fin 256) (j : Fin 1024) :
    (k0_pay7 (F := Ideal) i prev cur (ix2 r j) : EReal) = padded i prev cur (ix2 ⟨r.val + 7, by omega⟩ j) := by
  have e : (8 + r.val + 264 - 1) % 264 = r.val + 7 := by omega
  unfold k0_pay7
  dsimp only
  rw [pay5_eq]
  generalize padded i prev cur = q
  pointwise []
  simp only [e]

theorem three_at (a : Fin 8) (j : Fin 1024) :
    (k0_pay12 (F := Ideal) i prev cur dy (ix2 a j) : EReal)
      = ∑ r : Fin 256, dy (ix2 r j) * padded i prev cur (ix2 ⟨r.val + 5, by omega⟩ j) := by
  have e : ∀ r : Fin 256, (8 + r.val + 264 - 3) % 264 = r.val + 5 := fun r => by omega
  unfold k0_pay12
  dsimp only
  rw [pay5_eq]
  generalize padded i prev cur = q
  pointwise []
  simp only [e]

/-- The gradient of the column's entries. -/
theorem back_out (r : Fin 256) (j : Fin 1024) :
    (k0_pay14 (F := Ideal) (k0_pay8 i dy next) w (k0_pay10 i dy next w) (ix2 r j) : EReal)
      = dy (ix2 r j) * w (ix2 3 j) + k0_pay8 (F := Ideal) i dy next (ix2 ⟨r.val + 3, by omega⟩ j) * w (ix2 0 j)
        + k0_pay8 (F := Ideal) i dy next (ix2 ⟨r.val + 2, by omega⟩ j) * w (ix2 1 j)
        + k0_pay8 (F := Ideal) i dy next (ix2 ⟨r.val + 1, by omega⟩ j) * w (ix2 2 j) := by
  have e1 : (r.val + 264 - 261) % 264 = r.val + 3 := by omega
  have e2 : (r.val + 264 - 262) % 264 = r.val + 2 := by omega
  have e3 : (r.val + 264 - 263) % 264 = r.val + 1 := by omega
  unfold k0_pay14 k0_pay10
  dsimp only
  generalize k0_pay8 (F := Ideal) i dy next = q
  pointwise []
  simp only [e1, e2, e3]

theorem bit_0 : ∀ a : Fin 8, IntOp.cmpi CmpIPredicate.eq (BitVec.ofNat 32 a.val) 0#32 = if a.val = 0 then 1#1 else 0#1 := by decide +kernel
theorem bit_1 : ∀ a : Fin 8, IntOp.cmpi CmpIPredicate.eq (BitVec.ofNat 32 a.val) 1#32 = if a.val = 1 then 1#1 else 0#1 := by decide +kernel
theorem bit_2 : ∀ a : Fin 8, IntOp.cmpi CmpIPredicate.eq (BitVec.ofNat 32 a.val) 2#32 = if a.val = 2 then 1#1 else 0#1 := by decide +kernel
theorem bit_3 : ∀ a : Fin 8, IntOp.cmpi CmpIPredicate.eq (BitVec.ofNat 32 a.val) 3#32 = if a.val = 3 then 1#1 else 0#1 := by decide +kernel

/-- A block's part of the gradient of tap `a`, from the block `p` under its neighbours, the block itself and the cotangent's. -/
def parts (p : FVec Ideal S264x1024 .f32) (x d : FVec Ideal S256x1024 .f32) (a : Fin 8) (j : Fin 1024) : EReal :=
  (if a.val = 0 then ∑ r : Fin 256, d (ix2 r j) * p (ix2 ⟨r.val + 5, by omega⟩ j) else 0)
    + (if a.val = 1 then ∑ r : Fin 256, d (ix2 r j) * p (ix2 ⟨r.val + 6, by omega⟩ j) else 0)
    + (if a.val = 2 then ∑ r : Fin 256, d (ix2 r j) * p (ix2 ⟨r.val + 7, by omega⟩ j) else 0)
    + (if a.val = 3 then ∑ r : Fin 256, d (ix2 r j) * x (ix2 r j) else 0)

theorem parts_eq (p : FVec Ideal S264x1024 .f32) (x d : FVec Ideal S256x1024 .f32) (X D : Fin 4096 → EReal) (row : Fin 256 → Fin 4096)
    (a : Fin 8) (j : Fin 1024) (hd : ∀ r, (d (ix2 r j) : EReal) = D (row r)) (hx : ∀ r, (x (ix2 r j) : EReal) = X (row r))
    (hp : ∀ (r : Fin 256) (k : ℕ) (q : Fin 264), q.val + k = r.val + 8 → (p (ix2 q j) : EReal) = earlier X (row r) k) :
    parts p x d a j = ∑ r : Fin 256, tapAt X D a (row r) := by
  unfold parts tapAt
  rw [Finset.sum_congr rfl fun r _ => congrArg₂ (· * ·) (hd r) (hp r 3 ⟨r.val + 5, by omega⟩ rfl),
    Finset.sum_congr rfl fun r _ => congrArg₂ (· * ·) (hd r) (hp r 2 ⟨r.val + 6, by omega⟩ rfl),
    Finset.sum_congr rfl fun r _ => congrArg₂ (· * ·) (hd r) (hp r 1 ⟨r.val + 7, by omega⟩ rfl),
    Finset.sum_congr rfl fun r _ => congrArg₂ (· * ·) (hd r) ((hx r).trans (earlier_zero X (row r)).symm)]
  obtain ⟨a, ha⟩ := a
  interval_cases a <;> simp

variable (acc : FVec Ideal S8x1024 .f32) (accb : FVec Ideal S1x1024 .f32)

/-- The gradient of the taps, one row for each of the four. -/
theorem taps_out (a : Fin 8) (j : Fin 1024) :
    (k0_pay3 (F := Ideal) (k0_pay13 cur (k0_pay6 i prev cur) (k0_pay7 i prev cur) dy (iota .tc S8x1024 32 [0] iota_S8x1024_d0_w32) k0_pay9
        k0_pay11 (Scalar.ofBits .f32 0x00000000#32) (k0_pay12 i prev cur dy)) acc (ix2 a j) : EReal)
      = acc (ix2 a j) + parts (padded i prev cur) cur dy a j := by
  unfold parts
  simp only [← three_at i prev cur dy a j, ← two_at, ← one_at]
  pointwise [k0_pay3, k0_pay13, k0_pay9, k0_pay11]
  simp only [bit_0, bit_1, bit_2, bit_3]
  split_ifs <;> simp [Scalar.select]

theorem bias_out (z : Fin 1) (j : Fin 1024) :
    (k0_pay4 (F := Ideal) dy accb (ix2 z j) : EReal) = accb (ix2 z j) + ∑ r : Fin 256, dy (ix2 r j) := by
  obtain rfl : z = 0 := Subsingleton.elim _ _
  pointwise [k0_pay4]

theorem zero_taps (a : Fin 8) (j : Fin 1024) : (k0_pay1 (F := Ideal) (ix2 a j) : EReal) = 0 := by
  pointwise [k0_pay1]

theorem zero_bias (z : Fin 1) (j : Fin 1024) : (k0_pay2 (F := Ideal) (ix2 z j) : EReal) = 0 := by
  pointwise [k0_pay2]

end Cert.LruConvBwdIdeal.Stage

end
-- ==== Proof.LruConvBwdValue.lean ====
/- The arrays the convolution's gradient leaves, as functions of its arguments. -/
module

public import proofs.«01_k».proof.Proof.LruConvBwdBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruConvBwdIdeal.Stage

open Cert.LruConvBwdIdeal Cert.LruConvBwdIdeal.Gen Idealize.ShloMosaic Idealize.ShloMosaic.TcCoe Idealize.SL.Sem
open Idealize.ShloMosaic.Pipeline (Dat)
open Cert.Conv
variable (m : (ℓ : Loc nD τ sig) → Buf (Elt Ideal) ℓ)

/-- The arguments by column and row: the convolution's input among the projection's columns, the taps, the cotangent. -/
def xAt (c : Dev nD) (j : Fin 1024) (s : Fin 4096) : EReal :=
  (m ((c : Thread nD τ).loc main_arg0) : FVec Ideal S4096x10752 .f32) (ix2 s ⟨4096 + j.val, by omega⟩)
def wAt (c : Dev nD) (j : Fin 1024) (a : Fin 8) : EReal := (m ((c : Thread nD τ).loc main_arg1) : FVec Ideal S8x1024 .f32) (ix2 a j)
def dAt (c : Dev nD) (j : Fin 1024) (s : Fin 4096) : EReal := (m ((c : Thread nD τ).loc main_arg2) : FVec Ideal S4096x1024 .f32) (ix2 s j)

/-- The points and the windows' block indices. -/
theorem idx : ∀ t : Fin cfg0.N, t.val < 16 ∧ (grid0.coords t 0).val = t.val ∧ win0_0.index t = ![t.val, 4]
    ∧ win0_1.index t = ![t.val * 32 - 1, 4] ∧ win0_2.index t = ![0, 0] ∧ win0_3.index t = ![t.val, 0]
    ∧ win0_4.index t = ![min (t.val * 32 + 32) 511, 0] ∧ win0_5.index t = ![t.val, 0] ∧ win0_6.index t = ![0, 0] ∧ win0_7.index t = ![0, 0] :=
  (by decide +kernel : ∀ t : Fin grid0.N, _)

/-- Row `r` of the block of point `t`. -/
def rowOf (t : Fin cfg0.N) (r : Fin 256) : Fin 4096 := ⟨t.val * 256 + r.val, by have := (idx t).1; omega⟩

theorem cur_block (c : Dev nD) (t : Fin cfg0.N) (r : Fin 256) (j : Fin 1024) : (X0_0 m c t (ix2 r j) : EReal) = xAt m c j (rowOf t r) := by
  unfold xAt X0_0 Pipeline.Window.fill
  rw [dif_pos (moved0_0 t _)]
  blk_point [iblk, V, idx t, rowOf]

theorem prev_block (c : Dev nD) (t : Fin cfg0.N) (ht : ¬ t.val = 0) (q : Fin 8) (j : Fin 1024) :
    (X0_1 m c t (ix2 q j) : EReal) = xAt m c j ⟨t.val * 256 + q.val - 8, by have := (idx t).1; omega⟩ := by
  have e : (t.val * 32 - 1) * 8 + q.val = t.val * 256 + q.val - 8 := by omega
  unfold xAt X0_1 Pipeline.Window.fill
  rw [dif_pos (moved0_1 t _)]
  blk_point [iblk, V, idx t, e]

/-- The block and the eight rows before it, read `k` places back. -/
theorem earlier_block (c : Dev nD) (t : Fin cfg0.N) (r : Fin 256) (j : Fin 1024) (k : ℕ) (q : Fin 264) (h : q.val + k = r.val + 8) :
    (padded (grid0.coords t) (X0_1 m c t) (X0_0 m c t) (ix2 q j) : EReal) = earlier (xAt m c j) (rowOf t r) k := by
  have hN := (idx t).1
  rw [padded_at, (idx t).2.1]
  unfold earlier
  have hr : (rowOf t r).val = t.val * 256 + r.val := rfl
  by_cases hq : q.val < 8
  · rw [dif_pos hq]
    by_cases ht : t.val = 0
    · rw [if_pos ht, dif_neg (by omega)]
    · rw [if_neg ht, dif_pos (by omega), prev_block m c t ht]
      exact congrArg (xAt m c j) (Fin.ext (by simp only [hr]; omega))
  · rw [dif_neg hq, dif_pos (by omega), cur_block]
    exact congrArg (xAt m c j) (Fin.ext (by simp only [rowOf]; omega))

theorem w_block (c : Dev nD) (t : Fin cfg0.N) (a : Fin 8) (j : Fin 1024) : (iblk m c 2 t (ix2 a j) : EReal) = wAt m c j a := by
  unfold wAt
  blk_point [iblk, V, idx t]

theorem d_block (c : Dev nD) (t : Fin cfg0.N) (r : Fin 256) (j : Fin 1024) : (iblk m c 3 t (ix2 r j) : EReal) = dAt m c j (rowOf t r) := by
  unfold dAt
  blk_point [iblk, V, idx t, rowOf]

theorem next_block (c : Dev nD) (t : Fin cfg0.N) (ht : ¬ t.val = 15) (q : Fin 8) (j : Fin 1024) :
    (iblk m c 4 t (ix2 q j) : EReal) = dAt m c j ⟨t.val * 256 + 256 + q.val, by have := (idx t).1; omega⟩ := by
  have hN := (idx t).1
  have e : min (t.val * 32 + 32) 511 * 8 + q.val = t.val * 256 + 256 + q.val := by omega
  unfold dAt
  blk_point [iblk, V, idx t, e]

/-- The cotangent's block and the eight rows after it, read `k` places ahead. -/
theorem later_block (c : Dev nD) (t : Fin cfg0.N) (r : Fin 256) (j : Fin 1024) (k : ℕ) (q : Fin 264) (h : q.val = r.val + k) :
    (k0_pay8 (F := Ideal) (grid0.coords t) (iblk m c 3 t) (iblk m c 4 t) (ix2 q j) : EReal) = later (dAt m c j) (rowOf t r) k := by
  have hN := (idx t).1
  refine (after_at (grid0.coords t) (iblk m c 3 t) (iblk m c 4 t) q j).trans ?_
  rw [(idx t).2.1]
  unfold later
  have hr : (rowOf t r).val = t.val * 256 + r.val := rfl
  by_cases hq : q.val < 256
  · rw [dif_pos hq, dif_pos (by omega), d_block]
    exact congrArg (dAt m c j) (Fin.ext (by simp only [rowOf]; omega))
  · rw [dif_neg hq]
    by_cases ht : t.val = 15
    · rw [if_pos ht, dif_neg (by omega)]
    · rw [if_neg ht, dif_pos (by omega), next_block m c t ht]
      exact congrArg (dAt m c j) (Fin.ext (by simp only [hr]; omega))

/-- The gradient of the input by row and column. -/
def rowAt (c : Dev nD) (s : Fin 4096) (j : Fin 1024) : EReal := backAt (dAt m c j) (wAt m c j) s

theorem back_eq (c : Dev nD) (t : Fin cfg0.N) (r : Fin 256) (j : Fin 1024) :
    (k0_pay14 (F := Ideal) (k0_pay8 (grid0.coords t) (iblk m c 3 t) (iblk m c 4 t)) (iblk m c 2 t)
      (k0_pay10 (grid0.coords t) (iblk m c 3 t) (iblk m c 4 t) (iblk m c 2 t)) (ix2 r j) : EReal) = rowAt m c (rowOf t r) j := by
  refine (back_out (grid0.coords t) (iblk m c 3 t) (iblk m c 4 t) (iblk m c 2 t) r j).trans ?_
  unfold rowAt backAt
  rw [later_block m c t r j 3 _ rfl, later_block m c t r j 2 _ rfl, later_block m c t r j 1 _ rfl, d_block, w_block, w_block, w_block, w_block]

theorem outs_row (c : Dev nD) (t : Fin cfg0.N) (r : Fin 256) (j : Fin 1024) :
    ((outsAt0 m c t.val t.isLt).1 (ix2 r j) : EReal) = rowAt m c (rowOf t r) j := by
  by_cases h : t.val % 16 = 0
  · rw [outsAt0_A m c t h]; frame_out
    exact back_eq m c t r j
  · rw [outsAt0_B m c t h]; frame_out
    exact back_eq m c t r j

/-- One row's share of the gradient of the taps, and one point's part of it. -/
def term (c : Dev nD) (a : Fin 8) (j : Fin 1024) (s : Fin 4096) : EReal := tapAt (xAt m c j) (dAt m c j) a s
def part (c : Dev nD) (t : Fin cfg0.N) (x : S8x1024.Idx) : EReal := ∑ r : Fin 256, term m c (x 0) (x 1) (rowOf t r)

theorem part_eq (c : Dev nD) (t : Fin cfg0.N) (a : Fin 8) (j : Fin 1024) :
    parts (padded (grid0.coords t) (X0_1 m c t) (X0_0 m c t)) (X0_0 m c t) (iblk m c 3 t) a j = ∑ r : Fin 256, term m c a j (rowOf t r) :=
  parts_eq _ _ _ (xAt m c j) (dAt m c j) (rowOf t) a j (fun r => d_block m c t r j) (fun r => cur_block m c t r j)
    (fun r k q h => earlier_block m c t r j k q h)

theorem taps_first (c : Dev nD) (t : Fin cfg0.N) (h : t.val % 16 = 0) (x : S8x1024.Idx) :
    ((outsAt0 m c t.val t.isLt).2.1 x : EReal) = 0 + part m c t x := by
  unfold part
  idx_vars x
  rw [outsAt0_A m c t h]; frame_out
  refine (taps_out (grid0.coords t) (X0_1 m c t) (X0_0 m c t) (iblk m c 3 t) _ x0 x1).trans ?_
  exact congrArg₂ _ (zero_taps _ _) (part_eq m c t x0 x1)

theorem taps_next (c : Dev nD) (t : Fin cfg0.N) (h : ¬ t.val % 16 = 0) (x : S8x1024.Idx) :
    ((outsAt0 m c t.val t.isLt).2.1 x : EReal)
      = (outsAt0 m c (t.val - 1) (Nat.lt_of_le_of_lt (Nat.sub_le _ _) t.isLt)).2.1 x + part m c t x := by
  unfold part
  idx_vars x
  rw [outsAt0_B m c t h]; frame_out
  refine (taps_out (grid0.coords t) (X0_1 m c t) (X0_0 m c t) (iblk m c 3 t) _ x0 x1).trans ?_
  exact congrArg _ (part_eq m c t x0 x1)

theorem taps_last (c : Dev nD) (t : Fin cfg0.N) (ht : t.val + 1 = 16) (x : S8x1024.Idx) :
    ((outsAt0 m c t.val t.isLt).2.1 x : EReal) = ∑ s : Fin 4096, term m c (x 0) (x 1) s := by
  rw [Pipeline.eq_sum_fin_of_reset_step_apply_last (fun n h => (outsAt0 m c n h).2.1) 16 (fun _ => (0 : EReal)) (part m c)
    (fun t h x => taps_first m c t h x) (fun t h x => taps_next m c t h x) (le_of_eq N_0) t ht x, zero_add]
  exact Fin.sum_mul_add_congr (fun s k hl => rfl) (by rw [show cfg0.N = 16 from N_0])

/-- One point's part of the bias's gradient. -/
def biasPart (c : Dev nD) (t : Fin cfg0.N) (x : S1x1024.Idx) : EReal := ∑ r : Fin 256, dAt m c (x 1) (rowOf t r)

theorem bias_first (c : Dev nD) (t : Fin cfg0.N) (h : t.val % 16 = 0) (x : S1x1024.Idx) :
    ((outsAt0 m c t.val t.isLt).2.2 x : EReal) = 0 + biasPart m c t x := by
  unfold biasPart
  idx_vars x
  rw [outsAt0_A m c t h]; frame_out
  refine (bias_out (iblk m c 3 t) _ x0 x1).trans ?_
  exact congrArg₂ _ (zero_bias _ _) (Finset.sum_congr rfl fun r _ => d_block m c t r x1)

theorem bias_next (c : Dev nD) (t : Fin cfg0.N) (h : ¬ t.val % 16 = 0) (x : S1x1024.Idx) :
    ((outsAt0 m c t.val t.isLt).2.2 x : EReal)
      = (outsAt0 m c (t.val - 1) (Nat.lt_of_le_of_lt (Nat.sub_le _ _) t.isLt)).2.2 x + biasPart m c t x := by
  unfold biasPart
  idx_vars x
  rw [outsAt0_B m c t h]; frame_out
  refine (bias_out (iblk m c 3 t) _ x0 x1).trans ?_
  exact congrArg _ (Finset.sum_congr rfl fun r _ => d_block m c t r x1)

theorem bias_last (c : Dev nD) (t : Fin cfg0.N) (ht : t.val + 1 = 16) (x : S1x1024.Idx) :
    ((outsAt0 m c t.val t.isLt).2.2 x : EReal) = ∑ s : Fin 4096, dAt m c (x 1) s := by
  rw [Pipeline.eq_sum_fin_of_reset_step_apply_last (fun n h => (outsAt0 m c n h).2.2) 16 (fun _ => (0 : EReal)) (biasPart m c)
    (fun t h x => bias_first m c t h x) (fun t h x => bias_next m c t h x) (le_of_eq N_0) t ht x, zero_add]
  exact Fin.sum_mul_add_congr (fun s k hl => rfl) (by rw [show cfg0.N = 16 from N_0])

/-- The gradient of the input. -/
theorem final_row (c : Dev nD) : (dats m 0 c).arrAt 5 cfg0.N = fun i => rowAt m c (i 0) (i 1) := by
  refine (dats m 0 c).arrAt_eq_of_covers 5 _ (by decide +kernel) fun t _ y => ?_
  rw [after0_5]
  idx_vars y
  blk_simp
  refine (outs_row m c t y0 y1).trans (congrArg₂ _ (Fin.ext ?_) (Fin.ext ?_)) <;> blk_simp [idx t, rowOf]

/-- The gradient of the taps, accumulated over the points. -/
theorem final_taps (c : Dev nD) : (dats m 0 c).arrAt 6 cfg0.N = fun i => ∑ s : Fin 4096, term m c (i 0) (i 1) s := by
  refine (dats m 0 c).arrAt_eq_of_covers 6 _ (by decide +kernel) fun t hf y => ?_
  have ht : t.val % 16 = 15 := (flush0_6 t).mp hf
  have hN := (idx t).1
  rw [after0_6]
  refine (taps_last m c t (by omega) y).trans ?_
  idx_vars y
  blk_simp
  refine Finset.sum_congr rfl fun s _ => congrArg₂ (fun a j => term m c a j s) (Fin.ext ?_) (Fin.ext ?_) <;> blk_simp [idx t]

/-- The gradient of the bias, accumulated over the points. -/
theorem final_bias (c : Dev nD) : (dats m 0 c).arrAt 7 cfg0.N = fun i => ∑ s : Fin 4096, dAt m c (i 1) s := by
  refine (dats m 0 c).arrAt_eq_of_covers 7 _ (by decide +kernel) fun t hf y => ?_
  have ht : t.val % 16 = 15 := (flush0_7 t).mp hf
  have hN := (idx t).1
  rw [after0_7]
  refine (bias_last m c t (by omega) y).trans ?_
  idx_vars y
  blk_simp
  refine Finset.sum_congr rfl fun s _ => congrArg (fun j => dAt m c j s) (Fin.ext ?_)
  blk_simp [idx t]

end Cert.LruConvBwdIdeal.Stage

end
-- ==== Proof.LruConvBwdRef.lean ====
/- The results of the plain gradient of the convolution, entry by entry. -/
module

public import proofs.«01_k».proof.Proof.Gen.LruConvBwdRefIdeal.Read
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruConvBwdRefIdeal.Stage

open Cert.LruConvBwdRefIdeal Cert.LruConvBwdRefIdeal.Read Idealize.ShloMosaic
open Cert.Conv

variable (x : FVec Ideal S4096x10752 .f32) (w : FVec Ideal S8x1024 .f32) (d : FVec Ideal S4096x1024 .f32)

/-- The arguments by column and row. -/
def xOf (j : Fin 1024) (s : Fin 4096) : EReal := x (ix2 s ⟨4096 + j.val, by omega⟩)
def wOf (j : Fin 1024) (a : Fin 8) : EReal := w (ix2 a j)
def dOf (j : Fin 1024) (s : Fin 4096) : EReal := d (ix2 s j)

theorem three_at (s : Fin 4096) (j : Fin 1024) : (val_main_v5 (F := Ideal) x (ix2 s j) : EReal) = earlier (xOf x j) s 3 := by
  unfold earlier xOf
  by_cases h : 3 ≤ s.val
  · rw [dif_pos h]
    pointwise [val_main_v5, val_main_v3, val_main_v2, val_main_cst_0, val_main_v0]
    rw [dif_neg (by omega)]
  · rw [dif_neg h]
    pointwise [val_main_v5, val_main_v3, val_main_v2, val_main_cst_0, val_main_v0]
    exact dif_pos (by omega)

theorem two_at (s : Fin 4096) (j : Fin 1024) : (val_main_v11 (F := Ideal) x (ix2 s j) : EReal) = earlier (xOf x j) s 2 := by
  unfold earlier xOf
  by_cases h : 2 ≤ s.val
  · rw [dif_pos h]
    have e : 1 + s.val - 3 = s.val - 2 := by omega
    pointwise [val_main_v11, val_main_v3, val_main_v2, val_main_cst_0, val_main_v0]
    rw [dif_neg (by omega)]
    simp only [e]
  · rw [dif_neg h]
    pointwise [val_main_v11, val_main_v3, val_main_v2, val_main_cst_0, val_main_v0]
    exact dif_pos (by omega)

theorem one_at (s : Fin 4096) (j : Fin 1024) : (val_main_v18 (F := Ideal) x (ix2 s j) : EReal) = earlier (xOf x j) s 1 := by
  unfold earlier xOf
  by_cases h : 1 ≤ s.val
  · rw [dif_pos h]
    have e : 2 + s.val - 3 = s.val - 1 := by omega
    pointwise [val_main_v18, val_main_v3, val_main_v2, val_main_cst_0, val_main_v0]
    rw [dif_neg (by omega)]
    simp only [e]
  · rw [dif_neg h]
    pointwise [val_main_v18, val_main_v3, val_main_v2, val_main_cst_0, val_main_v0]
    exact dif_pos (by omega)

theorem none_at (s : Fin 4096) (j : Fin 1024) : (val_main_v25 (F := Ideal) x (ix2 s j) : EReal) = earlier (xOf x j) s 0 := by
  unfold earlier xOf
  pointwise [val_main_v25, val_main_v3, val_main_v2, val_main_cst_0, val_main_v0]

theorem tap3_at (a : Fin 8) (j : Fin 1024) :
    (val_main_v44 (F := Ideal) x d (ix2 a j) : EReal) = if a.val = 3 then ∑ s : Fin 4096, earlier (xOf x j) s 0 * dOf d j s else 0 := by
  simp only [← none_at]
  unfold dOf
  pointwise [val_main_v44, val_main_cst_5, val_main_v43, val_main_v42, val_main_cst_4, val_main_v39, val_main_v38, val_main_cst_3, val_main_v37, val_main_v34]
  simp only [Fin.sum_univ_one]
  split_ifs <;> first | omega | rfl

theorem tap2_at (a : Fin 8) (j : Fin 1024) :
    (val_main_v53 (F := Ideal) x d (ix2 a j) : EReal) = if a.val = 2 then ∑ s : Fin 4096, earlier (xOf x j) s 1 * dOf d j s else 0 := by
  simp only [← one_at]
  unfold dOf
  pointwise [val_main_v53, val_main_cst_9, val_main_v52, val_main_v51, val_main_cst_8, val_main_v48, val_main_v47, val_main_cst_7, val_main_v46, val_main_v34]
  simp only [Fin.sum_univ_one]
  split_ifs <;> first | omega | rfl

theorem tap1_at (a : Fin 8) (j : Fin 1024) :
    (val_main_v64 (F := Ideal) x d (ix2 a j) : EReal) = if a.val = 1 then ∑ s : Fin 4096, earlier (xOf x j) s 2 * dOf d j s else 0 := by
  simp only [← two_at]
  unfold dOf
  pointwise [val_main_v64, val_main_cst_13, val_main_v63, val_main_v62, val_main_cst_12, val_main_v59, val_main_v58, val_main_cst_11, val_main_v57, val_main_v34]
  simp only [Fin.sum_univ_one]
  split_ifs <;> first | omega | rfl

theorem tap0_at (a : Fin 8) (j : Fin 1024) :
    (val_main_v75 (F := Ideal) x d (ix2 a j) : EReal) = if a.val = 0 then ∑ s : Fin 4096, earlier (xOf x j) s 3 * dOf d j s else 0 := by
  simp only [← three_at]
  unfold dOf
  pointwise [val_main_v75, val_main_cst_17, val_main_v74, val_main_v73, val_main_cst_16, val_main_v70, val_main_v69, val_main_cst_15, val_main_v68, val_main_v34]
  simp only [Fin.sum_univ_one]
  split_ifs <;> first | omega | rfl

theorem pad0_at (s : Fin 4096) (j : Fin 1024) :
    (val_main_v45 (F := Ideal) w d (ix2 ⟨s.val + 3, by omega⟩ j) : EReal) = later (dOf d j) s 0 * wOf w j 3 := by
  unfold later dOf wOf
  pointwise [val_main_v45, val_main_cst_6, val_main_v41, val_main_v40, val_main_v28, val_main_v27, val_main_v26, val_main_v34]
  split_ifs <;> first | omega | rfl | simp

theorem pad1_at (s : Fin 4096) (j : Fin 1024) :
    (val_main_v55 (F := Ideal) w d (ix2 ⟨s.val + 3, by omega⟩ j) : EReal) = later (dOf d j) s 1 * wOf w j 2 := by
  unfold later dOf wOf
  pointwise [val_main_v55, val_main_cst_10, val_main_v50, val_main_v49, val_main_v21, val_main_v20, val_main_v19, val_main_v34]
  split_ifs <;> first | omega | rfl | simp

theorem pad2_at (s : Fin 4096) (j : Fin 1024) :
    (val_main_v66 (F := Ideal) w d (ix2 ⟨s.val + 3, by omega⟩ j) : EReal) = later (dOf d j) s 2 * wOf w j 1 := by
  unfold later dOf wOf
  pointwise [val_main_v66, val_main_cst_14, val_main_v61, val_main_v60, val_main_v14, val_main_v13, val_main_v12, val_main_v34]
  split_ifs <;> first | omega | rfl | simp

theorem pad3_at (s : Fin 4096) (j : Fin 1024) :
    (val_main_v77 (F := Ideal) w d (ix2 ⟨s.val + 3, by omega⟩ j) : EReal) = later (dOf d j) s 3 * wOf w j 0 := by
  unfold later dOf wOf
  pointwise [val_main_v77, val_main_cst_18, val_main_v72, val_main_v71, val_main_v8, val_main_v7, val_main_v6, val_main_v34]
  split_ifs <;> first | omega | rfl | simp

theorem row_at (s : Fin 4096) (j : Fin 1024) : backAt (dOf d j) (wOf w j) s = (val_main_v81 (F := Ideal) w d (ix2 s j) : EReal) := by
  rw [backAt_eq]
  refine Eq.trans ?_ (show (val_main_v45 (F := Ideal) w d (ix2 ⟨s.val + 3, by omega⟩ j) + val_main_v55 (F := Ideal) w d (ix2 ⟨s.val + 3, by omega⟩ j)
    + val_main_v66 (F := Ideal) w d (ix2 ⟨s.val + 3, by omega⟩ j) + val_main_v77 (F := Ideal) w d (ix2 ⟨s.val + 3, by omega⟩ j) : EReal) = _ from ?_)
  · rw [pad0_at, pad1_at, pad2_at, pad3_at, later_zero]
  · have e : 3 + s.val = s.val + 3 := by omega
    pointwise [val_main_v81, val_main_v80, val_main_v78, val_main_v67, val_main_v56]
    simp only [e]

theorem taps_at (a : Fin 8) (j : Fin 1024) :
    ∑ s : Fin 4096, tapAt (xOf x j) (dOf d j) a s = (val_main_v76 (F := Ideal) x d (ix2 a j) : EReal) := by
  refine Eq.trans ?_ (show (val_main_v44 (F := Ideal) x d (ix2 a j) + val_main_v53 (F := Ideal) x d (ix2 a j)
    + val_main_v64 (F := Ideal) x d (ix2 a j) + val_main_v75 (F := Ideal) x d (ix2 a j) : EReal) = _ from ?_)
  · rw [tap3_at, tap2_at, tap1_at, tap0_at]
    unfold tapAt
    simp only [mul_comm (dOf d j _)]
    obtain ⟨a, ha⟩ := a
    interval_cases a <;> simp
  · pointwise [val_main_v76, val_main_v65, val_main_v54]

theorem bias_at (z : Fin 1) (j : Fin 1024) : ∑ s : Fin 4096, dOf d j s = (val_main_v36 (F := Ideal) d (ix2 z j) : EReal) := by
  obtain rfl : z = 0 := Subsingleton.elim _ _
  unfold dOf
  pointwise [val_main_v36, val_main_v35, val_main_cst_2]

end Cert.LruConvBwdRefIdeal.Stage

end
-- ==== Proof.LruConvBwdClaim.lean ====
/- The gradient of the convolution and the reference give the same results. -/
module

public import proofs.«01_k».proof.Defs
public import proofs.«01_k».proof.Proof.Gen.LruConvBwdIdeal
public import proofs.«01_k».proof.Proof.Gen.LruConvBwdRefIdeal
public import proofs.«01_k».proof.Proof.Gen.LruConvBwdRefIdeal.Run
public import proofs.«01_k».proof.Proof.LruConvBwdValue
public import proofs.«01_k».proof.Proof.LruConvBwdRef

@[expose] public section

noncomputable section

namespace Cert.LruConvBwdClaim

open Idealize.ShloMosaic Idealize.ShloMosaic.TcCoe Idealize.SL.Sem

theorem algebraic : Cert.algebraic_LruConvBwdIdeal_LruConvBwdRefIdeal (hLruConvBwdIdeal := Cert.LruConvBwdIdeal.Gen.facts)
    (hLruConvBwdRefIdeal := Cert.LruConvBwdRefIdeal.Gen.facts) := by
  intro m g m' g' _ hag
  refine ⟨_, _, _, Cert.LruConvBwdIdeal.Value.run_blocks m g,
    (θ_run _ _ _).mono (fun _ h c => ⟨(h c).1.trans ?_, (h c).2.1.trans ?_, (h c).2.2.1.trans ?_, (h c).2.2.2⟩)
      (Cert.LruConvBwdRefIdeal.Value.run m' g')⟩
  · rw [Cert.LruConvBwdIdeal.Stage.final_row, Cert.LruConvBwdRefIdeal.Read.val_main_v81_eq,
      (hag c).2.1, (hag c).2.2]
    funext i
    idx_vars i
    exact (Cert.LruConvBwdRefIdeal.Stage.row_at _ _ i0 i1).symm
  · rw [Cert.LruConvBwdIdeal.Stage.final_taps, Cert.LruConvBwdRefIdeal.Read.val_main_v76_eq,
      (hag c).1, (hag c).2.2]
    funext i
    idx_vars i
    exact (Cert.LruConvBwdRefIdeal.Stage.taps_at _ _ i0 i1).symm
  · rw [Cert.LruConvBwdIdeal.Stage.final_bias, Cert.LruConvBwdRefIdeal.Read.val_main_v36_eq,
      (hag c).2.2]
    funext i
    idx_vars i
    exact (Cert.LruConvBwdRefIdeal.Stage.bias_at _ i0 i1).symm

theorem frameRef : Cert.quiescent_LruConvBwdRefIdeal (hLruConvBwdRefIdeal := Cert.LruConvBwdRefIdeal.Gen.facts) := by
  intro m g _
  exact (θ_run _ _ _).mono (fun r h => ⟨fun c => (h c).2.2.2, sem_eq_zero_of_no_sems (by decide) _⟩)
    (Cert.LruConvBwdRefIdeal.Value.run m g)

end Cert.LruConvBwdClaim

end
-- ==== Proof.DnConvFwdValue.lean ====
/- The array the convolution leaves, as a function of its arguments. -/
module

public import proofs.«01_k».proof.Proof.Gen.DnConvFwdIdeal.Value
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnConvFwdIdeal.Stage

open Cert.DnConvFwdIdeal Cert.DnConvFwdIdeal.Gen Idealize.ShloMosaic Idealize.ShloMosaic.TcCoe Idealize.SL.Sem
open Idealize.ShloMosaic.Pipeline (Dat)
open Cert.Conv

theorem bit_first : ∀ a : Fin 16, Scalar.cmpi .eq (BitVec.ofNat 32 a.val) 0#32 = if a.val = 0 then 1#1 else 0#1 := by decide +kernel

theorem first_at (i : grid0.Coords) (prev : FVec Ideal S8x3072 .f32) (a : Fin 8) (j : Fin 3072) :
    (Scalar.select (Scalar.cmpi .eq (BitVec.ofNat 32 (i 0).val) 0#32) (broadcast S8x3072 (Scalar.ofBits (F := Ideal) .f32 0x00000000#32)) prev (ix2 a j) : EReal)
      = if (i 0).val = 0 then 0 else prev (ix2 a j) := by
  rw [bit_first (i 0)]
  by_cases h : (i 0).val = 0
  · rw [if_pos h, if_pos h]
    exact (show broadcast S8x3072 (Scalar.ofBits (F := Ideal) .f32 0x00000000#32) (ix2 a j) = (0 : EReal) by pointwise [])
  · rw [if_neg h, if_neg h]
    rfl

theorem above_at (x : FVec Ideal S8x3072 .f32) (y : FVec Ideal S256x3072 .f32) (q : Fin 264) (j : Fin 3072) :
    (concatenate S264x3072 0 [⟨S8x3072, x⟩, ⟨S256x3072, y⟩] concatenates_S8x3072_S256x3072_S264x3072_d0 (ix2 q j) : EReal)
      = if h : q.val < 8 then x (ix2 ⟨q.val, h⟩ j) else y (ix2 ⟨q.val - 8, by omega⟩ j) := by
  pointwise []

/-- A block under the eight rows before it, which are zero at the first point. -/
def padded (i : grid0.Coords) (prev : FVec Ideal S8x3072 .f32) (cur : FVec Ideal S256x3072 .f32) : FVec Ideal S264x3072 .f32 :=
  concatenate S264x3072 0 [⟨S8x3072, Scalar.select (Scalar.cmpi .eq (BitVec.ofNat 32 (i 0).val) 0#32) (broadcast S8x3072 (Scalar.ofBits .f32 0x00000000#32)) prev⟩,
    ⟨S256x3072, cur⟩] concatenates_S8x3072_S256x3072_S264x3072_d0

theorem padded_at (i : grid0.Coords) (prev : FVec Ideal S8x3072 .f32) (cur : FVec Ideal S256x3072 .f32) (q : Fin 264) (j : Fin 3072) :
    (padded i prev cur (ix2 q j) : EReal)
      = if h : q.val < 8 then (if (i 0).val = 0 then 0 else prev (ix2 ⟨q.val, h⟩ j)) else cur (ix2 ⟨q.val - 8, by omega⟩ j) := by
  refine (above_at _ cur q j).trans ?_
  by_cases hq : q.val < 8
  · rw [dif_pos hq, dif_pos hq]
    exact first_at i prev ⟨q.val, hq⟩ j
  · rw [dif_neg hq, dif_neg hq]

/-- What the body stores, from its blocks. -/
theorem conv_out (i : grid0.Coords) (prev : FVec Ideal S8x3072 .f32) (cur : FVec Ideal S256x3072 .f32) (w : FVec Ideal S8x3072 .f32)
    (b : FVec Ideal S1x3072 .f32) (r : Fin 256) (j : Fin 3072) :
    (k0_pay1 (F := Ideal) i prev cur w b (ix2 r j) : EReal)
      = b (ix2 0 j) + padded i prev cur (ix2 ⟨r.val + 5, by omega⟩ j) * w (ix2 0 j)
        + padded i prev cur (ix2 ⟨r.val + 6, by omega⟩ j) * w (ix2 1 j)
        + padded i prev cur (ix2 ⟨r.val + 7, by omega⟩ j) * w (ix2 2 j) + cur (ix2 r j) * w (ix2 3 j) := by
  have e3 : (8 + r.val + 264 - 3) % 264 = r.val + 5 := by omega
  have e2 : (8 + r.val + 264 - 2) % 264 = r.val + 6 := by omega
  have e1 : (8 + r.val + 264 - 1) % 264 = r.val + 7 := by omega
  have h : k0_pay1 (F := Ideal) i prev cur w b = addf (addf (addf (addf (broadcastTo S256x3072 (shapeCast S1x3072 b shapeCasts_S1x3072_S1x3072) broadcasts_S1x3072_S256x3072)
        (mulf (extractStridedSlice S256x3072 ![8, 0] (dynamicRotate 0 3#32 none (padded i prev cur) rotates_S264x3072_d0) slices_S264x3072_o8_0_S256x3072)
          (broadcastTo S256x3072 (extractStridedSlice S1x3072 ![0, 0] w slices_S8x3072_o0_0_S1x3072) broadcasts_S1x3072_S256x3072)))
        (mulf (extractStridedSlice S256x3072 ![8, 0] (dynamicRotate 0 2#32 none (padded i prev cur) rotates_S264x3072_d0) slices_S264x3072_o8_0_S256x3072)
          (broadcastTo S256x3072 (extractStridedSlice S1x3072 ![1, 0] w slices_S8x3072_o1_0_S1x3072) broadcasts_S1x3072_S256x3072)))
        (mulf (extractStridedSlice S256x3072 ![8, 0] (dynamicRotate 0 1#32 none (padded i prev cur) rotates_S264x3072_d0) slices_S264x3072_o8_0_S256x3072)
          (broadcastTo S256x3072 (extractStridedSlice S1x3072 ![2, 0] w slices_S8x3072_o2_0_S1x3072) broadcasts_S1x3072_S256x3072)))
        (mulf cur (broadcastTo S256x3072 (extractStridedSlice S1x3072 ![3, 0] w slices_S8x3072_o3_0_S1x3072) broadcasts_S1x3072_S256x3072)) := rfl
  rw [h]
  generalize padded i prev cur = q
  pointwise []
  simp only [e1, e2, e3]

variable (m : (ℓ : Loc nD τ sig) → Buf (Elt Ideal) ℓ)

/-- The arguments by column and row: the convolution's input among the projection's columns, the taps. -/
def xAt (c : Dev nD) (j : Fin 3072) (s : Fin 4096) : EReal :=
  (m ((c : Thread nD τ).loc main_arg0) : FVec Ideal S4096x10752 .f32) (ix2 s ⟨0 + j.val, by omega⟩)
def wAt (c : Dev nD) (j : Fin 3072) (a : Fin 8) : EReal := (m ((c : Thread nD τ).loc main_arg1) : FVec Ideal S8x3072 .f32) (ix2 a j)

/-- The points and the windows' block indices. -/
theorem idx : ∀ t : Fin cfg0.N, t.val < 16 ∧ (grid0.coords t 0).val = t.val ∧ win0_0.index t = ![t.val, 0]
    ∧ win0_1.index t = ![t.val * 32 - 1, 0] ∧ win0_2.index t = ![0, 0] ∧ win0_3.index t = ![0, 0] ∧ win0_4.index t = ![t.val, 0] :=
  (by decide +kernel : ∀ t : Fin grid0.N, _)

/-- Row `r` of the block of point `t`. -/
def rowOf (t : Fin cfg0.N) (r : Fin 256) : Fin 4096 := ⟨t.val * 256 + r.val, by have := (idx t).1; omega⟩

theorem cur_block (c : Dev nD) (t : Fin cfg0.N) (r : Fin 256) (j : Fin 3072) : (X0_0 m c t (ix2 r j) : EReal) = xAt m c j (rowOf t r) := by
  unfold xAt X0_0 Pipeline.Window.fill
  rw [dif_pos (moved0_0 t _)]
  blk_point [iblk, V, idx t, rowOf]

theorem prev_block (c : Dev nD) (t : Fin cfg0.N) (ht : ¬ t.val = 0) (q : Fin 8) (j : Fin 3072) :
    (X0_1 m c t (ix2 q j) : EReal) = xAt m c j ⟨t.val * 256 + q.val - 8, by have := (idx t).1; omega⟩ := by
  have e : (t.val * 32 - 1) * 8 + q.val = t.val * 256 + q.val - 8 := by omega
  unfold xAt X0_1 Pipeline.Window.fill
  rw [dif_pos (moved0_1 t _)]
  blk_point [iblk, V, idx t, e]

/-- The block and the eight rows before it, read `k` places back. -/
theorem earlier_block (c : Dev nD) (t : Fin cfg0.N) (r : Fin 256) (j : Fin 3072) (k : ℕ) (q : Fin 264) (h : q.val + k = r.val + 8) :
    (padded (grid0.coords t) (X0_1 m c t) (X0_0 m c t) (ix2 q j) : EReal) = earlier (xAt m c j) (rowOf t r) k := by
  have hN := (idx t).1
  rw [padded_at, (idx t).2.1]
  unfold earlier
  have hr : (rowOf t r).val = t.val * 256 + r.val := rfl
  by_cases hq : q.val < 8
  · rw [dif_pos hq]
    by_cases ht : t.val = 0
    · rw [if_pos ht, dif_neg (by omega)]
    · rw [if_neg ht, dif_pos (by omega), prev_block m c t ht]
      exact congrArg (xAt m c j) (Fin.ext (by simp only [hr]; omega))
  · rw [dif_neg hq, dif_pos (by omega), cur_block]
    exact congrArg (xAt m c j) (Fin.ext (by simp only [rowOf]; omega))

theorem w_block (c : Dev nD) (t : Fin cfg0.N) (a : Fin 8) (j : Fin 3072) : (iblk m c 2 t (ix2 a j) : EReal) = wAt m c j a := by
  unfold wAt
  blk_point [iblk, V, idx t]

theorem b_block (c : Dev nD) (t : Fin cfg0.N) (j : Fin 3072) : @Eq EReal (iblk m c 3 t (ix2 0 j)) 0 := by
  blk_point [iblk, V, idx t]

/-- The output by row and column. -/
def outAt (c : Dev nD) (s : Fin 4096) (j : Fin 3072) : EReal := convAt (xAt m c j) (wAt m c j) 0 s

theorem stored_at (c : Dev nD) (t : Fin cfg0.N) (r : Fin 256) (j : Fin 3072) :
    ((dats m 0 c).after 4 t (ix2 r j) : EReal) = outAt m c (rowOf t r) j := by
  rw [after0_4]
  unfold outsAt0
  frame_out
  refine (conv_out (grid0.coords t) (X0_1 m c t) (X0_0 m c t) (iblk m c 2 t) (iblk m c 3 t) r j).trans ?_
  unfold outAt convAt
  rw [earlier_block m c t r j 3 _ rfl, earlier_block m c t r j 2 _ rfl, earlier_block m c t r j 1 _ rfl, cur_block, b_block,
    w_block, w_block, w_block, w_block]

/-- The output. -/
theorem final (c : Dev nD) : (dats m 0 c).arrAt 4 cfg0.N = fun i => outAt m c (i 0) (i 1) := by
  refine (dats m 0 c).arrAt_eq_of_covers 4 _ (by decide +kernel) fun t _ y => ?_
  idx_vars y
  blk_simp
  refine (stored_at m c t y0 y1).trans (congrArg₂ _ (Fin.ext ?_) (Fin.ext ?_)) <;> blk_simp [idx t, rowOf]

end Cert.DnConvFwdIdeal.Stage

end
-- ==== Proof.DnConvFwdRef.lean ====
/- The result of the plain convolution, entry by entry. -/
module

public import proofs.«01_k».proof.Proof.Gen.DnConvFwdRefIdeal.Read
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DnConvFwdRefIdeal.Stage

open Cert.DnConvFwdRefIdeal Cert.DnConvFwdRefIdeal.Read Idealize.ShloMosaic
open Cert.Conv

variable (x : FVec Ideal S4096x10752 .f32) (w : FVec Ideal S8x3072 .f32)

/-- The arguments by column and row. -/
def xOf (j : Fin 3072) (s : Fin 4096) : EReal := x (ix2 s ⟨0 + j.val, by omega⟩)
def wOf (j : Fin 3072) (a : Fin 8) : EReal := w (ix2 a j)

theorem three_at (s : Fin 4096) (j : Fin 3072) : (val_main_v4 (F := Ideal) x (ix2 s j) : EReal) = earlier (xOf x j) s 3 := by
  unfold earlier xOf
  by_cases h : 3 ≤ s.val
  · rw [dif_pos h]
    pointwise [val_main_v4, val_main_v3, val_main_v2, val_main_cst_0, val_main_v0]
    rw [dif_neg (by omega)]
  · rw [dif_neg h]
    pointwise [val_main_v4, val_main_v3, val_main_v2, val_main_cst_0, val_main_v0]
    exact dif_pos (by omega)

theorem two_at (s : Fin 4096) (j : Fin 3072) : (val_main_v10 (F := Ideal) x (ix2 s j) : EReal) = earlier (xOf x j) s 2 := by
  unfold earlier xOf
  by_cases h : 2 ≤ s.val
  · rw [dif_pos h]
    have e : 1 + s.val - 3 = s.val - 2 := by omega
    pointwise [val_main_v10, val_main_v3, val_main_v2, val_main_cst_0, val_main_v0]
    rw [dif_neg (by omega)]
    simp only [e]
  · rw [dif_neg h]
    pointwise [val_main_v10, val_main_v3, val_main_v2, val_main_cst_0, val_main_v0]
    exact dif_pos (by omega)

theorem one_at (s : Fin 4096) (j : Fin 3072) : (val_main_v17 (F := Ideal) x (ix2 s j) : EReal) = earlier (xOf x j) s 1 := by
  unfold earlier xOf
  by_cases h : 1 ≤ s.val
  · rw [dif_pos h]
    have e : 2 + s.val - 3 = s.val - 1 := by omega
    pointwise [val_main_v17, val_main_v3, val_main_v2, val_main_cst_0, val_main_v0]
    rw [dif_neg (by omega)]
    simp only [e]
  · rw [dif_neg h]
    pointwise [val_main_v17, val_main_v3, val_main_v2, val_main_cst_0, val_main_v0]
    exact dif_pos (by omega)

theorem none_at (s : Fin 4096) (j : Fin 3072) : (val_main_v24 (F := Ideal) x (ix2 s j) : EReal) = earlier (xOf x j) s 0 := by
  unfold earlier xOf
  pointwise [val_main_v24, val_main_v3, val_main_v2, val_main_cst_0, val_main_v0]

theorem out_at (s : Fin 4096) (j : Fin 3072) :
    convAt (xOf x j) (wOf w j) 0 s = (val_main_v32 (F := Ideal) x w (ix2 s j) : EReal) := by
  rw [convAt_eq, ← earlier_zero (xOf x j) s, ← three_at, ← two_at, ← one_at, ← none_at]
  unfold wOf
  pointwise [val_main_v32, val_main_v30, val_main_v29, val_main_v28, val_main_v27, val_main_v26, val_main_v25, val_main_v23, val_main_v22, val_main_v21, val_main_v20, val_main_v19, val_main_v18, val_main_v16, val_main_v15, val_main_v14, val_main_v13, val_main_v12, val_main_v11, val_main_v9, val_main_v8, val_main_v7, val_main_v6, val_main_v5, val_main_v31, val_main_v1, val_main_cst]

end Cert.DnConvFwdRefIdeal.Stage

end
-- ==== Proof.DnConvFwdClaim.lean ====
/- The convolution and the reference give the same result. -/
module

public import proofs.«01_k».proof.Defs
public import proofs.«01_k».proof.Proof.Gen.DnConvFwdIdeal
public import proofs.«01_k».proof.Proof.Gen.DnConvFwdRefIdeal
public import proofs.«01_k».proof.Proof.Gen.DnConvFwdRefIdeal.Run
public import proofs.«01_k».proof.Proof.DnConvFwdValue
public import proofs.«01_k».proof.Proof.DnConvFwdRef

@[expose] public section

noncomputable section

namespace Cert.DnConvFwdClaim

open Idealize.ShloMosaic Idealize.ShloMosaic.TcCoe Idealize.SL.Sem

theorem algebraic : Cert.algebraic_DnConvFwdIdeal_DnConvFwdRefIdeal (hDnConvFwdIdeal := Cert.DnConvFwdIdeal.Gen.facts)
    (hDnConvFwdRefIdeal := Cert.DnConvFwdRefIdeal.Gen.facts) := by
  intro m g m' g' _ hag
  refine ⟨_, Cert.DnConvFwdIdeal.Value.run_blocks m g,
    (θ_run _ _ _).mono (fun _ h c => ⟨(h c).1.trans ?_, (h c).2⟩)
      (Cert.DnConvFwdRefIdeal.Value.run m' g')⟩
  · rw [Cert.DnConvFwdIdeal.Stage.final, Cert.DnConvFwdRefIdeal.Read.val_main_v32_eq,
      (hag c).1, (hag c).2]
    funext i
    idx_vars i
    exact (Cert.DnConvFwdRefIdeal.Stage.out_at _ _ i0 i1).symm

theorem frameRef : Cert.quiescent_DnConvFwdRefIdeal (hDnConvFwdRefIdeal := Cert.DnConvFwdRefIdeal.Gen.facts) := by
  intro m g _
  exact (θ_run _ _ _).mono (fun r h => ⟨fun c => (h c).2, sem_eq_zero_of_no_sems (by decide) _⟩)
    (Cert.DnConvFwdRefIdeal.Value.run m g)

end Cert.DnConvFwdClaim

end
-- ==== Proof.LruConvFwdValue.lean ====
/- The array the convolution leaves, as a function of its arguments. -/
module

public import proofs.«01_k».proof.Proof.Gen.LruConvFwdIdeal.Value
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruConvFwdIdeal.Stage

open Cert.LruConvFwdIdeal Cert.LruConvFwdIdeal.Gen Idealize.ShloMosaic Idealize.ShloMosaic.TcCoe Idealize.SL.Sem
open Idealize.ShloMosaic.Pipeline (Dat)
open Cert.Conv

theorem bit_first : ∀ a : Fin 16, Scalar.cmpi .eq (BitVec.ofNat 32 a.val) 0#32 = if a.val = 0 then 1#1 else 0#1 := by decide +kernel

theorem first_at (i : grid0.Coords) (prev : FVec Ideal S8x1024 .f32) (a : Fin 8) (j : Fin 1024) :
    (Scalar.select (Scalar.cmpi .eq (BitVec.ofNat 32 (i 0).val) 0#32) (broadcast S8x1024 (Scalar.ofBits (F := Ideal) .f32 0x00000000#32)) prev (ix2 a j) : EReal)
      = if (i 0).val = 0 then 0 else prev (ix2 a j) := by
  rw [bit_first (i 0)]
  by_cases h : (i 0).val = 0
  · rw [if_pos h, if_pos h]
    exact (show broadcast S8x1024 (Scalar.ofBits (F := Ideal) .f32 0x00000000#32) (ix2 a j) = (0 : EReal) by pointwise [])
  · rw [if_neg h, if_neg h]
    rfl

theorem above_at (x : FVec Ideal S8x1024 .f32) (y : FVec Ideal S256x1024 .f32) (q : Fin 264) (j : Fin 1024) :
    (concatenate S264x1024 0 [⟨S8x1024, x⟩, ⟨S256x1024, y⟩] concatenates_S8x1024_S256x1024_S264x1024_d0 (ix2 q j) : EReal)
      = if h : q.val < 8 then x (ix2 ⟨q.val, h⟩ j) else y (ix2 ⟨q.val - 8, by omega⟩ j) := by
  pointwise []

/-- A block under the eight rows before it, which are zero at the first point. -/
def padded (i : grid0.Coords) (prev : FVec Ideal S8x1024 .f32) (cur : FVec Ideal S256x1024 .f32) : FVec Ideal S264x1024 .f32 :=
  concatenate S264x1024 0 [⟨S8x1024, Scalar.select (Scalar.cmpi .eq (BitVec.ofNat 32 (i 0).val) 0#32) (broadcast S8x1024 (Scalar.ofBits .f32 0x00000000#32)) prev⟩,
    ⟨S256x1024, cur⟩] concatenates_S8x1024_S256x1024_S264x1024_d0

theorem padded_at (i : grid0.Coords) (prev : FVec Ideal S8x1024 .f32) (cur : FVec Ideal S256x1024 .f32) (q : Fin 264) (j : Fin 1024) :
    (padded i prev cur (ix2 q j) : EReal)
      = if h : q.val < 8 then (if (i 0).val = 0 then 0 else prev (ix2 ⟨q.val, h⟩ j)) else cur (ix2 ⟨q.val - 8, by omega⟩ j) := by
  refine (above_at _ cur q j).trans ?_
  by_cases hq : q.val < 8
  · rw [dif_pos hq, dif_pos hq]
    exact first_at i prev ⟨q.val, hq⟩ j
  · rw [dif_neg hq, dif_neg hq]

/-- What the body stores, from its blocks. -/
theorem conv_out (i : grid0.Coords) (prev : FVec Ideal S8x1024 .f32) (cur : FVec Ideal S256x1024 .f32) (w : FVec Ideal S8x1024 .f32)
    (b : FVec Ideal S1x1024 .f32) (r : Fin 256) (j : Fin 1024) :
    (k0_pay1 (F := Ideal) i prev cur w b (ix2 r j) : EReal)
      = b (ix2 0 j) + padded i prev cur (ix2 ⟨r.val + 5, by omega⟩ j) * w (ix2 0 j)
        + padded i prev cur (ix2 ⟨r.val + 6, by omega⟩ j) * w (ix2 1 j)
        + padded i prev cur (ix2 ⟨r.val + 7, by omega⟩ j) * w (ix2 2 j) + cur (ix2 r j) * w (ix2 3 j) := by
  have e3 : (8 + r.val + 264 - 3) % 264 = r.val + 5 := by omega
  have e2 : (8 + r.val + 264 - 2) % 264 = r.val + 6 := by omega
  have e1 : (8 + r.val + 264 - 1) % 264 = r.val + 7 := by omega
  have h : k0_pay1 (F := Ideal) i prev cur w b = addf (addf (addf (addf (broadcastTo S256x1024 (b) broadcasts_S1x1024_S256x1024)
        (mulf (extractStridedSlice S256x1024 ![8, 0] (dynamicRotate 0 3#32 none (padded i prev cur) rotates_S264x1024_d0) slices_S264x1024_o8_0_S256x1024)
          (broadcastTo S256x1024 (extractStridedSlice S1x1024 ![0, 0] w slices_S8x1024_o0_0_S1x1024) broadcasts_S1x1024_S256x1024)))
        (mulf (extractStridedSlice S256x1024 ![8, 0] (dynamicRotate 0 2#32 none (padded i prev cur) rotates_S264x1024_d0) slices_S264x1024_o8_0_S256x1024)
          (broadcastTo S256x1024 (extractStridedSlice S1x1024 ![1, 0] w slices_S8x1024_o1_0_S1x1024) broadcasts_S1x1024_S256x1024)))
        (mulf (extractStridedSlice S256x1024 ![8, 0] (dynamicRotate 0 1#32 none (padded i prev cur) rotates_S264x1024_d0) slices_S264x1024_o8_0_S256x1024)
          (broadcastTo S256x1024 (extractStridedSlice S1x1024 ![2, 0] w slices_S8x1024_o2_0_S1x1024) broadcasts_S1x1024_S256x1024)))
        (mulf cur (broadcastTo S256x1024 (extractStridedSlice S1x1024 ![3, 0] w slices_S8x1024_o3_0_S1x1024) broadcasts_S1x1024_S256x1024)) := rfl
  rw [h]
  generalize padded i prev cur = q
  pointwise []
  simp only [e1, e2, e3]

variable (m : (ℓ : Loc nD τ sig) → Buf (Elt Ideal) ℓ)

/-- The arguments by column and row: the convolution's input among the projection's columns, the taps, the bias. -/
def xAt (c : Dev nD) (j : Fin 1024) (s : Fin 4096) : EReal :=
  (m ((c : Thread nD τ).loc main_arg0) : FVec Ideal S4096x10752 .f32) (ix2 s ⟨4096 + j.val, by omega⟩)
def wAt (c : Dev nD) (j : Fin 1024) (a : Fin 8) : EReal := (m ((c : Thread nD τ).loc main_arg1) : FVec Ideal S8x1024 .f32) (ix2 a j)
def bAt (c : Dev nD) (j : Fin 1024) : EReal := (m ((c : Thread nD τ).loc main_arg2) : FVec Ideal S1x1024 .f32) (ix2 0 j)

/-- The points and the windows' block indices. -/
theorem idx : ∀ t : Fin cfg0.N, t.val < 16 ∧ (grid0.coords t 0).val = t.val ∧ win0_0.index t = ![t.val, 4]
    ∧ win0_1.index t = ![t.val * 32 - 1, 4] ∧ win0_2.index t = ![0, 0] ∧ win0_3.index t = ![0, 0] ∧ win0_4.index t = ![t.val, 0] :=
  (by decide +kernel : ∀ t : Fin grid0.N, _)

/-- Row `r` of the block of point `t`. -/
def rowOf (t : Fin cfg0.N) (r : Fin 256) : Fin 4096 := ⟨t.val * 256 + r.val, by have := (idx t).1; omega⟩

theorem cur_block (c : Dev nD) (t : Fin cfg0.N) (r : Fin 256) (j : Fin 1024) : (X0_0 m c t (ix2 r j) : EReal) = xAt m c j (rowOf t r) := by
  unfold xAt X0_0 Pipeline.Window.fill
  rw [dif_pos (moved0_0 t _)]
  blk_point [iblk, V, idx t, rowOf]

theorem prev_block (c : Dev nD) (t : Fin cfg0.N) (ht : ¬ t.val = 0) (q : Fin 8) (j : Fin 1024) :
    (X0_1 m c t (ix2 q j) : EReal) = xAt m c j ⟨t.val * 256 + q.val - 8, by have := (idx t).1; omega⟩ := by
  have e : (t.val * 32 - 1) * 8 + q.val = t.val * 256 + q.val - 8 := by omega
  unfold xAt X0_1 Pipeline.Window.fill
  rw [dif_pos (moved0_1 t _)]
  blk_point [iblk, V, idx t, e]

/-- The block and the eight rows before it, read `k` places back. -/
theorem earlier_block (c : Dev nD) (t : Fin cfg0.N) (r : Fin 256) (j : Fin 1024) (k : ℕ) (q : Fin 264) (h : q.val + k = r.val + 8) :
    (padded (grid0.coords t) (X0_1 m c t) (X0_0 m c t) (ix2 q j) : EReal) = earlier (xAt m c j) (rowOf t r) k := by
  have hN := (idx t).1
  rw [padded_at, (idx t).2.1]
  unfold earlier
  have hr : (rowOf t r).val = t.val * 256 + r.val := rfl
  by_cases hq : q.val < 8
  · rw [dif_pos hq]
    by_cases ht : t.val = 0
    · rw [if_pos ht, dif_neg (by omega)]
    · rw [if_neg ht, dif_pos (by omega), prev_block m c t ht]
      exact congrArg (xAt m c j) (Fin.ext (by simp only [hr]; omega))
  · rw [dif_neg hq, dif_pos (by omega), cur_block]
    exact congrArg (xAt m c j) (Fin.ext (by simp only [rowOf]; omega))

theorem w_block (c : Dev nD) (t : Fin cfg0.N) (a : Fin 8) (j : Fin 1024) : (iblk m c 2 t (ix2 a j) : EReal) = wAt m c j a := by
  unfold wAt
  blk_point [iblk, V, idx t]

theorem b_block (c : Dev nD) (t : Fin cfg0.N) (j : Fin 1024) : (iblk m c 3 t (ix2 0 j) : EReal) = bAt m c j := by
  unfold bAt
  blk_point [iblk, V, idx t]

/-- The output by row and column. -/
def outAt (c : Dev nD) (s : Fin 4096) (j : Fin 1024) : EReal := convAt (xAt m c j) (wAt m c j) (bAt m c j) s

theorem stored_at (c : Dev nD) (t : Fin cfg0.N) (r : Fin 256) (j : Fin 1024) :
    ((dats m 0 c).after 4 t (ix2 r j) : EReal) = outAt m c (rowOf t r) j := by
  rw [after0_4]
  unfold outsAt0
  frame_out
  refine (conv_out (grid0.coords t) (X0_1 m c t) (X0_0 m c t) (iblk m c 2 t) (iblk m c 3 t) r j).trans ?_
  unfold outAt convAt
  rw [earlier_block m c t r j 3 _ rfl, earlier_block m c t r j 2 _ rfl, earlier_block m c t r j 1 _ rfl, cur_block, b_block,
    w_block, w_block, w_block, w_block]

/-- The output. -/
theorem final (c : Dev nD) : (dats m 0 c).arrAt 4 cfg0.N = fun i => outAt m c (i 0) (i 1) := by
  refine (dats m 0 c).arrAt_eq_of_covers 4 _ (by decide +kernel) fun t _ y => ?_
  idx_vars y
  blk_simp
  refine (stored_at m c t y0 y1).trans (congrArg₂ _ (Fin.ext ?_) (Fin.ext ?_)) <;> blk_simp [idx t, rowOf]

end Cert.LruConvFwdIdeal.Stage

end
-- ==== Proof.LruConvFwdRef.lean ====
/- The result of the plain convolution, entry by entry. -/
module

public import proofs.«01_k».proof.Proof.Gen.LruConvFwdRefIdeal.Read
public import proofs.«01_k».proof.Proof.ConvMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruConvFwdRefIdeal.Stage

open Cert.LruConvFwdRefIdeal Cert.LruConvFwdRefIdeal.Read Idealize.ShloMosaic
open Cert.Conv

variable (x : FVec Ideal S4096x10752 .f32) (w : FVec Ideal S8x1024 .f32) (b : FVec Ideal S1x1024 .f32)

/-- The arguments by column and row. -/
def xOf (j : Fin 1024) (s : Fin 4096) : EReal := x (ix2 s ⟨4096 + j.val, by omega⟩)
def wOf (j : Fin 1024) (a : Fin 8) : EReal := w (ix2 a j)

theorem three_at (s : Fin 4096) (j : Fin 1024) : (val_main_v3 (F := Ideal) x (ix2 s j) : EReal) = earlier (xOf x j) s 3 := by
  unfold earlier xOf
  by_cases h : 3 ≤ s.val
  · rw [dif_pos h]
    pointwise [val_main_v3, val_main_v2, val_main_v1, val_main_cst, val_main_v0]
    rw [dif_neg (by omega)]
  · rw [dif_neg h]
    pointwise [val_main_v3, val_main_v2, val_main_v1, val_main_cst, val_main_v0]
    exact dif_pos (by omega)

theorem two_at (s : Fin 4096) (j : Fin 1024) : (val_main_v9 (F := Ideal) x (ix2 s j) : EReal) = earlier (xOf x j) s 2 := by
  unfold earlier xOf
  by_cases h : 2 ≤ s.val
  · rw [dif_pos h]
    have e : 1 + s.val - 3 = s.val - 2 := by omega
    pointwise [val_main_v9, val_main_v2, val_main_v1, val_main_cst, val_main_v0]
    rw [dif_neg (by omega)]
    simp only [e]
  · rw [dif_neg h]
    pointwise [val_main_v9, val_main_v2, val_main_v1, val_main_cst, val_main_v0]
    exact dif_pos (by omega)

theorem one_at (s : Fin 4096) (j : Fin 1024) : (val_main_v16 (F := Ideal) x (ix2 s j) : EReal) = earlier (xOf x j) s 1 := by
  unfold earlier xOf
  by_cases h : 1 ≤ s.val
  · rw [dif_pos h]
    have e : 2 + s.val - 3 = s.val - 1 := by omega
    pointwise [val_main_v16, val_main_v2, val_main_v1, val_main_cst, val_main_v0]
    rw [dif_neg (by omega)]
    simp only [e]
  · rw [dif_neg h]
    pointwise [val_main_v16, val_main_v2, val_main_v1, val_main_cst, val_main_v0]
    exact dif_pos (by omega)

theorem none_at (s : Fin 4096) (j : Fin 1024) : (val_main_v23 (F := Ideal) x (ix2 s j) : EReal) = earlier (xOf x j) s 0 := by
  unfold earlier xOf
  pointwise [val_main_v23, val_main_v2, val_main_v1, val_main_cst, val_main_v0]

theorem out_at (s : Fin 4096) (j : Fin 1024) :
    convAt (xOf x j) (wOf w j) (b (ix2 0 j)) s = (val_main_v31 (F := Ideal) x w b (ix2 s j) : EReal) := by
  rw [convAt_eq, ← earlier_zero (xOf x j) s, ← three_at, ← two_at, ← one_at, ← none_at]
  unfold wOf
  pointwise [val_main_v31, val_main_v29, val_main_v28, val_main_v27, val_main_v26, val_main_v25, val_main_v24, val_main_v22, val_main_v21, val_main_v20, val_main_v19, val_main_v18, val_main_v17, val_main_v15, val_main_v14, val_main_v13, val_main_v12, val_main_v11, val_main_v10, val_main_v8, val_main_v7, val_main_v6, val_main_v5, val_main_v4, val_main_v30]

end Cert.LruConvFwdRefIdeal.Stage

end
-- ==== Proof.LruConvFwdClaim.lean ====
/- The convolution and the reference give the same result. -/
module

public import proofs.«01_k».proof.Defs
public import proofs.«01_k».proof.Proof.Gen.LruConvFwdIdeal
public import proofs.«01_k».proof.Proof.Gen.LruConvFwdRefIdeal
public import proofs.«01_k».proof.Proof.Gen.LruConvFwdRefIdeal.Run
public import proofs.«01_k».proof.Proof.LruConvFwdValue
public import proofs.«01_k».proof.Proof.LruConvFwdRef

@[expose] public section

noncomputable section

namespace Cert.LruConvFwdClaim

open Idealize.ShloMosaic Idealize.ShloMosaic.TcCoe Idealize.SL.Sem

theorem algebraic : Cert.algebraic_LruConvFwdIdeal_LruConvFwdRefIdeal (hLruConvFwdIdeal := Cert.LruConvFwdIdeal.Gen.facts)
    (hLruConvFwdRefIdeal := Cert.LruConvFwdRefIdeal.Gen.facts) := by
  intro m g m' g' _ hag
  refine ⟨_, Cert.LruConvFwdIdeal.Value.run_blocks m g,
    (θ_run _ _ _).mono (fun _ h c => ⟨(h c).1.trans ?_, (h c).2⟩)
      (Cert.LruConvFwdRefIdeal.Value.run m' g')⟩
  · rw [Cert.LruConvFwdIdeal.Stage.final, Cert.LruConvFwdRefIdeal.Read.val_main_v31_eq,
      (hag c).1, (hag c).2.1, (hag c).2.2]
    funext i
    idx_vars i
    exact (Cert.LruConvFwdRefIdeal.Stage.out_at _ _ _ i0 i1).symm

theorem frameRef : Cert.quiescent_LruConvFwdRefIdeal (hLruConvFwdRefIdeal := Cert.LruConvFwdRefIdeal.Gen.facts) := by
  intro m g _
  exact (θ_run _ _ _).mono (fun r h => ⟨fun c => (h c).2, sem_eq_zero_of_no_sems (by decide) _⟩)
    (Cert.LruConvFwdRefIdeal.Value.run m g)

end Cert.LruConvFwdClaim

end
-- ==== Proof.AdamWInClaim.lean ====
/- The optimiser's call for the weights of the input projection gives the plain update: the step, the new first moment and the new
   second moment. -/
module

public import proofs.«01_k».proof.Defs
public import proofs.«01_k».proof.Proof.Gen.AdamWInIdeal
public import proofs.«01_k».proof.Proof.Gen.AdamWInIdeal.Value
public import proofs.«01_k».proof.Proof.Gen.AdamWInRefIdeal
public import proofs.«01_k».proof.Proof.Gen.AdamWInRefIdeal.Read

@[expose] public section

noncomputable section

namespace Cert.AdamWInClaim

open Idealize.ShloMosaic Idealize.ShloMosaic.TcCoe Idealize.SL.Sem

/-- The new first moment, entry by entry. -/
theorem first_moment (g m : FVec Ideal ⟨2, ![8192, 2628]⟩ .f32) :
    Cert.AdamWInIdeal.Value.G5 (F := Ideal) g m = Cert.AdamWInRefIdeal.Read.val_main_v4 (F := Ideal) g m := by
  funext i
  rfl

/-- The new second moment, entry by entry. -/
theorem second_moment (g v : FVec Ideal ⟨2, ![8192, 2628]⟩ .f32) :
    Cert.AdamWInIdeal.Value.G6 (F := Ideal) g v = Cert.AdamWInRefIdeal.Read.val_main_v10 (F := Ideal) g v := by
  funext i
  rfl

/-- The step, entry by entry. -/
theorem step (w g m v : FVec Ideal ⟨2, ![8192, 2628]⟩ .f32) :
    Cert.AdamWInIdeal.Value.G4 (F := Ideal) g m v w = Cert.AdamWInRefIdeal.Read.val_main_v23 (F := Ideal) w g m v := by
  funext i
  rfl

theorem algebraic : Cert.algebraic_AdamWInIdeal_AdamWInRefIdeal (hAdamWInIdeal := Cert.AdamWInIdeal.Gen.facts) (hAdamWInRefIdeal := Cert.AdamWInRefIdeal.Gen.facts) := by
  intro m g m' g' _ hag
  refine ⟨_, _, _, Cert.AdamWInIdeal.Value.run m g,
    (θ_run _ _ _).mono (fun _ h c => ⟨(h c).1.trans ?_, (h c).2.1.trans ?_, (h c).2.2.1.trans ?_, (h c).2.2.2⟩)
      (Cert.AdamWInRefIdeal.Value.run m' g')⟩
  · rw [Cert.AdamWInRefIdeal.Read.val_main_v23_eq, (hag c).1, (hag c).2.1, (hag c).2.2.1, (hag c).2.2.2]
    exact (step _ _ _ _).symm
  · rw [Cert.AdamWInRefIdeal.Read.val_main_v4_eq, (hag c).2.1, (hag c).2.2.1]
    exact (first_moment _ _).symm
  · rw [Cert.AdamWInRefIdeal.Read.val_main_v10_eq, (hag c).2.1, (hag c).2.2.2]
    exact (second_moment _ _).symm

theorem frameRef : Cert.quiescent_AdamWInRefIdeal (hAdamWInRefIdeal := Cert.AdamWInRefIdeal.Gen.facts) := by
  intro m g _
  exact (θ_run _ _ _).mono (fun r h => ⟨fun c => (h c).2.2.2, sem_eq_zero_of_no_sems (by decide) _⟩)
    (Cert.AdamWInRefIdeal.Value.run m g)

end Cert.AdamWInClaim

end
-- ==== Proof.AdamWGluClaim.lean ====
/- The optimiser's call for the weights of the gated unit gives the plain update: the step, the new first moment and the new
   second moment. -/
module

public import proofs.«01_k».proof.Defs
public import proofs.«01_k».proof.Proof.Gen.AdamWGluIdeal
public import proofs.«01_k».proof.Proof.Gen.AdamWGluIdeal.Value
public import proofs.«01_k».proof.Proof.Gen.AdamWGluRefIdeal
public import proofs.«01_k».proof.Proof.Gen.AdamWGluRefIdeal.Read

@[expose] public section

noncomputable section

namespace Cert.AdamWGluClaim

open Idealize.ShloMosaic Idealize.ShloMosaic.TcCoe Idealize.SL.Sem

/-- The new first moment, entry by entry. -/
theorem first_moment (g m : FVec Ideal ⟨2, ![2048, 512]⟩ .f32) :
    Cert.AdamWGluIdeal.Value.G5 (F := Ideal) g m = Cert.AdamWGluRefIdeal.Read.val_main_v4 (F := Ideal) g m := by
  funext i
  rfl

/-- The new second moment, entry by entry. -/
theorem second_moment (g v : FVec Ideal ⟨2, ![2048, 512]⟩ .f32) :
    Cert.AdamWGluIdeal.Value.G6 (F := Ideal) g v = Cert.AdamWGluRefIdeal.Read.val_main_v10 (F := Ideal) g v := by
  funext i
  rfl

/-- The step, entry by entry. -/
theorem step (w g m v : FVec Ideal ⟨2, ![2048, 512]⟩ .f32) :
    Cert.AdamWGluIdeal.Value.G4 (F := Ideal) g m v w = Cert.AdamWGluRefIdeal.Read.val_main_v23 (F := Ideal) w g m v := by
  funext i
  rfl

theorem algebraic : Cert.algebraic_AdamWGluIdeal_AdamWGluRefIdeal (hAdamWGluIdeal := Cert.AdamWGluIdeal.Gen.facts) (hAdamWGluRefIdeal := Cert.AdamWGluRefIdeal.Gen.facts) := by
  intro m g m' g' _ hag
  refine ⟨_, _, _, Cert.AdamWGluIdeal.Value.run m g,
    (θ_run _ _ _).mono (fun _ h c => ⟨(h c).1.trans ?_, (h c).2.1.trans ?_, (h c).2.2.1.trans ?_, (h c).2.2.2⟩)
      (Cert.AdamWGluRefIdeal.Value.run m' g')⟩
  · rw [Cert.AdamWGluRefIdeal.Read.val_main_v23_eq, (hag c).1, (hag c).2.1, (hag c).2.2.1, (hag c).2.2.2]
    exact (step _ _ _ _).symm
  · rw [Cert.AdamWGluRefIdeal.Read.val_main_v4_eq, (hag c).2.1, (hag c).2.2.1]
    exact (first_moment _ _).symm
  · rw [Cert.AdamWGluRefIdeal.Read.val_main_v10_eq, (hag c).2.1, (hag c).2.2.2]
    exact (second_moment _ _).symm

theorem frameRef : Cert.quiescent_AdamWGluRefIdeal (hAdamWGluRefIdeal := Cert.AdamWGluRefIdeal.Gen.facts) := by
  intro m g _
  exact (θ_run _ _ _).mono (fun r h => ⟨fun c => (h c).2.2.2, sem_eq_zero_of_no_sems (by decide) _⟩)
    (Cert.AdamWGluRefIdeal.Value.run m g)

end Cert.AdamWGluClaim

end
-- ==== Proof.AdamWKvClaim.lean ====
/- The optimiser's call for the weights of the memory projection gives the plain update: the step, the new first moment and the new
   second moment. -/
module

public import proofs.«01_k».proof.Defs
public import proofs.«01_k».proof.Proof.Gen.AdamWKvIdeal
public import proofs.«01_k».proof.Proof.Gen.AdamWKvIdeal.Value
public import proofs.«01_k».proof.Proof.Gen.AdamWKvRefIdeal
public import proofs.«01_k».proof.Proof.Gen.AdamWKvRefIdeal.Read

@[expose] public section

noncomputable section

namespace Cert.AdamWKvClaim

open Idealize.ShloMosaic Idealize.ShloMosaic.TcCoe Idealize.SL.Sem

/-- The new first moment, entry by entry. -/
theorem first_moment (g m : FVec Ideal ⟨2, ![2048, 2048]⟩ .f32) :
    Cert.AdamWKvIdeal.Value.G5 (F := Ideal) g m = Cert.AdamWKvRefIdeal.Read.val_main_v4 (F := Ideal) g m := by
  funext i
  rfl

/-- The new second moment, entry by entry. -/
theorem second_moment (g v : FVec Ideal ⟨2, ![2048, 2048]⟩ .f32) :
    Cert.AdamWKvIdeal.Value.G6 (F := Ideal) g v = Cert.AdamWKvRefIdeal.Read.val_main_v10 (F := Ideal) g v := by
  funext i
  rfl

/-- The step, entry by entry. -/
theorem step (w g m v : FVec Ideal ⟨2, ![2048, 2048]⟩ .f32) :
    Cert.AdamWKvIdeal.Value.G4 (F := Ideal) g m v w = Cert.AdamWKvRefIdeal.Read.val_main_v23 (F := Ideal) w g m v := by
  funext i
  rfl

theorem algebraic : Cert.algebraic_AdamWKvIdeal_AdamWKvRefIdeal (hAdamWKvIdeal := Cert.AdamWKvIdeal.Gen.facts) (hAdamWKvRefIdeal := Cert.AdamWKvRefIdeal.Gen.facts) := by
  intro m g m' g' _ hag
  refine ⟨_, _, _, Cert.AdamWKvIdeal.Value.run m g,
    (θ_run _ _ _).mono (fun _ h c => ⟨(h c).1.trans ?_, (h c).2.1.trans ?_, (h c).2.2.1.trans ?_, (h c).2.2.2⟩)
      (Cert.AdamWKvRefIdeal.Value.run m' g')⟩
  · rw [Cert.AdamWKvRefIdeal.Read.val_main_v23_eq, (hag c).1, (hag c).2.1, (hag c).2.2.1, (hag c).2.2.2]
    exact (step _ _ _ _).symm
  · rw [Cert.AdamWKvRefIdeal.Read.val_main_v4_eq, (hag c).2.1, (hag c).2.2.1]
    exact (first_moment _ _).symm
  · rw [Cert.AdamWKvRefIdeal.Read.val_main_v10_eq, (hag c).2.1, (hag c).2.2.2]
    exact (second_moment _ _).symm

theorem frameRef : Cert.quiescent_AdamWKvRefIdeal (hAdamWKvRefIdeal := Cert.AdamWKvRefIdeal.Gen.facts) := by
  intro m g _
  exact (θ_run _ _ _).mono (fun r h => ⟨fun c => (h c).2.2.2, sem_eq_zero_of_no_sems (by decide) _⟩)
    (Cert.AdamWKvRefIdeal.Value.run m g)

end Cert.AdamWKvClaim

end
-- ==== Proof.AdamWGateClaim.lean ====
/- The optimiser's call for the weights of the gates gives the plain update: the step, the new first moment and the new
   second moment. -/
module

public import proofs.«01_k».proof.Defs
public import proofs.«01_k».proof.Proof.Gen.AdamWGateIdeal
public import proofs.«01_k».proof.Proof.Gen.AdamWGateIdeal.Value
public import proofs.«01_k».proof.Proof.Gen.AdamWGateRefIdeal
public import proofs.«01_k».proof.Proof.Gen.AdamWGateRefIdeal.Read

@[expose] public section

noncomputable section

namespace Cert.AdamWGateClaim

open Idealize.ShloMosaic Idealize.ShloMosaic.TcCoe Idealize.SL.Sem

/-- The new first moment, entry by entry. -/
theorem first_moment (g m : FVec Ideal ⟨2, ![2048, 1024]⟩ .f32) :
    Cert.AdamWGateIdeal.Value.G5 (F := Ideal) g m = Cert.AdamWGateRefIdeal.Read.val_main_v4 (F := Ideal) g m := by
  funext i
  rfl

/-- The new second moment, entry by entry. -/
theorem second_moment (g v : FVec Ideal ⟨2, ![2048, 1024]⟩ .f32) :
    Cert.AdamWGateIdeal.Value.G6 (F := Ideal) g v = Cert.AdamWGateRefIdeal.Read.val_main_v10 (F := Ideal) g v := by
  funext i
  rfl

/-- The step, entry by entry. -/
theorem step (w g m v : FVec Ideal ⟨2, ![2048, 1024]⟩ .f32) :
    Cert.AdamWGateIdeal.Value.G4 (F := Ideal) g m v w = Cert.AdamWGateRefIdeal.Read.val_main_v23 (F := Ideal) w g m v := by
  funext i
  rfl

theorem algebraic : Cert.algebraic_AdamWGateIdeal_AdamWGateRefIdeal (hAdamWGateIdeal := Cert.AdamWGateIdeal.Gen.facts) (hAdamWGateRefIdeal := Cert.AdamWGateRefIdeal.Gen.facts) := by
  intro m g m' g' _ hag
  refine ⟨_, _, _, Cert.AdamWGateIdeal.Value.run m g,
    (θ_run _ _ _).mono (fun _ h c => ⟨(h c).1.trans ?_, (h c).2.1.trans ?_, (h c).2.2.1.trans ?_, (h c).2.2.2⟩)
      (Cert.AdamWGateRefIdeal.Value.run m' g')⟩
  · rw [Cert.AdamWGateRefIdeal.Read.val_main_v23_eq, (hag c).1, (hag c).2.1, (hag c).2.2.1, (hag c).2.2.2]
    exact (step _ _ _ _).symm
  · rw [Cert.AdamWGateRefIdeal.Read.val_main_v4_eq, (hag c).2.1, (hag c).2.2.1]
    exact (first_moment _ _).symm
  · rw [Cert.AdamWGateRefIdeal.Read.val_main_v10_eq, (hag c).2.1, (hag c).2.2.2]
    exact (second_moment _ _).symm

theorem frameRef : Cert.quiescent_AdamWGateRefIdeal (hAdamWGateRefIdeal := Cert.AdamWGateRefIdeal.Gen.facts) := by
  intro m g _
  exact (θ_run _ _ _).mono (fun r h => ⟨fun c => (h c).2.2.2, sem_eq_zero_of_no_sems (by decide) _⟩)
    (Cert.AdamWGateRefIdeal.Value.run m g)

end Cert.AdamWGateClaim

end
-- ==== Proof.AdamWBranchClaim.lean ====
/- The optimiser's call for the weights of the branch products gives the plain update: the step, the new first moment and the new
   second moment. -/
module

public import proofs.«01_k».proof.Defs
public import proofs.«01_k».proof.Proof.Gen.AdamWBranchIdeal
public import proofs.«01_k».proof.Proof.Gen.AdamWBranchIdeal.Value
public import proofs.«01_k».proof.Proof.Gen.AdamWBranchRefIdeal
public import proofs.«01_k».proof.Proof.Gen.AdamWBranchRefIdeal.Read

@[expose] public section

noncomputable section

namespace Cert.AdamWBranchClaim

open Idealize.ShloMosaic Idealize.ShloMosaic.TcCoe Idealize.SL.Sem

/-- The new first moment, entry by entry. -/
theorem first_moment (g m : FVec Ideal ⟨2, ![8192, 1024]⟩ .f32) :
    Cert.AdamWBranchIdeal.Value.G5 (F := Ideal) g m = Cert.AdamWBranchRefIdeal.Read.val_main_v4 (F := Ideal) g m := by
  funext i
  rfl

/-- The new second moment, entry by entry. -/
theorem second_moment (g v : FVec Ideal ⟨2, ![8192, 1024]⟩ .f32) :
    Cert.AdamWBranchIdeal.Value.G6 (F := Ideal) g v = Cert.AdamWBranchRefIdeal.Read.val_main_v10 (F := Ideal) g v := by
  funext i
  rfl

/-- The step, entry by entry. -/
theorem step (w g m v : FVec Ideal ⟨2, ![8192, 1024]⟩ .f32) :
    Cert.AdamWBranchIdeal.Value.G4 (F := Ideal) g m v w = Cert.AdamWBranchRefIdeal.Read.val_main_v23 (F := Ideal) w g m v := by
  funext i
  rfl

theorem algebraic : Cert.algebraic_AdamWBranchIdeal_AdamWBranchRefIdeal (hAdamWBranchIdeal := Cert.AdamWBranchIdeal.Gen.facts) (hAdamWBranchRefIdeal := Cert.AdamWBranchRefIdeal.Gen.facts) := by
  intro m g m' g' _ hag
  refine ⟨_, _, _, Cert.AdamWBranchIdeal.Value.run m g,
    (θ_run _ _ _).mono (fun _ h c => ⟨(h c).1.trans ?_, (h c).2.1.trans ?_, (h c).2.2.1.trans ?_, (h c).2.2.2⟩)
      (Cert.AdamWBranchRefIdeal.Value.run m' g')⟩
  · rw [Cert.AdamWBranchRefIdeal.Read.val_main_v23_eq, (hag c).1, (hag c).2.1, (hag c).2.2.1, (hag c).2.2.2]
    exact (step _ _ _ _).symm
  · rw [Cert.AdamWBranchRefIdeal.Read.val_main_v4_eq, (hag c).2.1, (hag c).2.2.1]
    exact (first_moment _ _).symm
  · rw [Cert.AdamWBranchRefIdeal.Read.val_main_v10_eq, (hag c).2.1, (hag c).2.2.2]
    exact (second_moment _ _).symm

theorem frameRef : Cert.quiescent_AdamWBranchRefIdeal (hAdamWBranchRefIdeal := Cert.AdamWBranchRefIdeal.Gen.facts) := by
  intro m g _
  exact (θ_run _ _ _).mono (fun r h => ⟨fun c => (h c).2.2.2, sem_eq_zero_of_no_sems (by decide) _⟩)
    (Cert.AdamWBranchRefIdeal.Value.run m g)

end Cert.AdamWBranchClaim

end
-- ==== Proof.AdamWOutClaim.lean ====
/- The optimiser's call for the weights of the output projection gives the plain update: the step, the new first moment and the new
   second moment. -/
module

public import proofs.«01_k».proof.Defs
public import proofs.«01_k».proof.Proof.Gen.AdamWOutIdeal
public import proofs.«01_k».proof.Proof.Gen.AdamWOutIdeal.Value
public import proofs.«01_k».proof.Proof.Gen.AdamWOutRefIdeal
public import proofs.«01_k».proof.Proof.Gen.AdamWOutRefIdeal.Read

@[expose] public section

noncomputable section

namespace Cert.AdamWOutClaim

open Idealize.ShloMosaic Idealize.ShloMosaic.TcCoe Idealize.SL.Sem

/-- The new first moment, entry by entry. -/
theorem first_moment (g m : FVec Ideal ⟨2, ![2048, 4096]⟩ .f32) :
    Cert.AdamWOutIdeal.Value.G5 (F := Ideal) g m = Cert.AdamWOutRefIdeal.Read.val_main_v4 (F := Ideal) g m := by
  funext i
  rfl

/-- The new second moment, entry by entry. -/
theorem second_moment (g v : FVec Ideal ⟨2, ![2048, 4096]⟩ .f32) :
    Cert.AdamWOutIdeal.Value.G6 (F := Ideal) g v = Cert.AdamWOutRefIdeal.Read.val_main_v10 (F := Ideal) g v := by
  funext i
  rfl

/-- The step, entry by entry. -/
theorem step (w g m v : FVec Ideal ⟨2, ![2048, 4096]⟩ .f32) :
    Cert.AdamWOutIdeal.Value.G4 (F := Ideal) g m v w = Cert.AdamWOutRefIdeal.Read.val_main_v23 (F := Ideal) w g m v := by
  funext i
  rfl

theorem algebraic : Cert.algebraic_AdamWOutIdeal_AdamWOutRefIdeal (hAdamWOutIdeal := Cert.AdamWOutIdeal.Gen.facts) (hAdamWOutRefIdeal := Cert.AdamWOutRefIdeal.Gen.facts) := by
  intro m g m' g' _ hag
  refine ⟨_, _, _, Cert.AdamWOutIdeal.Value.run m g,
    (θ_run _ _ _).mono (fun _ h c => ⟨(h c).1.trans ?_, (h c).2.1.trans ?_, (h c).2.2.1.trans ?_, (h c).2.2.2⟩)
      (Cert.AdamWOutRefIdeal.Value.run m' g')⟩
  · rw [Cert.AdamWOutRefIdeal.Read.val_main_v23_eq, (hag c).1, (hag c).2.1, (hag c).2.2.1, (hag c).2.2.2]
    exact (step _ _ _ _).symm
  · rw [Cert.AdamWOutRefIdeal.Read.val_main_v4_eq, (hag c).2.1, (hag c).2.2.1]
    exact (first_moment _ _).symm
  · rw [Cert.AdamWOutRefIdeal.Read.val_main_v10_eq, (hag c).2.1, (hag c).2.2.2]
    exact (second_moment _ _).symm

theorem frameRef : Cert.quiescent_AdamWOutRefIdeal (hAdamWOutRefIdeal := Cert.AdamWOutRefIdeal.Gen.facts) := by
  intro m g _
  exact (θ_run _ _ _).mono (fun r h => ⟨fun c => (h c).2.2.2, sem_eq_zero_of_no_sems (by decide) _⟩)
    (Cert.AdamWOutRefIdeal.Value.run m g)

end Cert.AdamWOutClaim

end
-- ==== Proof.AdamSmallClaim.lean ====
/- The optimiser's call for the weights of the small weights, packed gives the plain update: the step, the new first moment and the new
   second moment. -/
module

public import proofs.«01_k».proof.Defs
public import proofs.«01_k».proof.Proof.Gen.AdamSmallIdeal
public import proofs.«01_k».proof.Proof.Gen.AdamSmallIdeal.Value
public import proofs.«01_k».proof.Proof.Gen.AdamSmallRefIdeal
public import proofs.«01_k».proof.Proof.Gen.AdamSmallRefIdeal.Read

@[expose] public section

noncomputable section

namespace Cert.AdamSmallClaim

open Idealize.ShloMosaic Idealize.ShloMosaic.TcCoe Idealize.SL.Sem

/-- The new first moment, entry by entry. -/
theorem first_moment (g m : FVec Ideal ⟨2, ![1096, 1024]⟩ .f32) :
    Cert.AdamSmallIdeal.Value.G5 (F := Ideal) g m = Cert.AdamSmallRefIdeal.Read.val_main_v4 (F := Ideal) g m := by
  funext i
  rfl

/-- The new second moment, entry by entry. -/
theorem second_moment (g v : FVec Ideal ⟨2, ![1096, 1024]⟩ .f32) :
    Cert.AdamSmallIdeal.Value.G6 (F := Ideal) g v = Cert.AdamSmallRefIdeal.Read.val_main_v10 (F := Ideal) g v := by
  funext i
  rfl

/-- The step, entry by entry. -/
theorem step (w g m v : FVec Ideal ⟨2, ![1096, 1024]⟩ .f32) :
    Cert.AdamSmallIdeal.Value.G4 (F := Ideal) g m v w = Cert.AdamSmallRefIdeal.Read.val_main_v23 (F := Ideal) w g m v := by
  funext i
  rfl

theorem algebraic : Cert.algebraic_AdamSmallIdeal_AdamSmallRefIdeal (hAdamSmallIdeal := Cert.AdamSmallIdeal.Gen.facts) (hAdamSmallRefIdeal := Cert.AdamSmallRefIdeal.Gen.facts) := by
  intro m g m' g' _ hag
  refine ⟨_, _, _, Cert.AdamSmallIdeal.Value.run m g,
    (θ_run _ _ _).mono (fun _ h c => ⟨(h c).1.trans ?_, (h c).2.1.trans ?_, (h c).2.2.1.trans ?_, (h c).2.2.2⟩)
      (Cert.AdamSmallRefIdeal.Value.run m' g')⟩
  · rw [Cert.AdamSmallRefIdeal.Read.val_main_v23_eq, (hag c).1, (hag c).2.1, (hag c).2.2.1, (hag c).2.2.2]
    exact (step _ _ _ _).symm
  · rw [Cert.AdamSmallRefIdeal.Read.val_main_v4_eq, (hag c).2.1, (hag c).2.2.1]
    exact (first_moment _ _).symm
  · rw [Cert.AdamSmallRefIdeal.Read.val_main_v10_eq, (hag c).2.1, (hag c).2.2.2]
    exact (second_moment _ _).symm

theorem frameRef : Cert.quiescent_AdamSmallRefIdeal (hAdamSmallRefIdeal := Cert.AdamSmallRefIdeal.Gen.facts) := by
  intro m g _
  exact (θ_run _ _ _).mono (fun r h => ⟨fun c => (h c).2.2.2, sem_eq_zero_of_no_sems (by decide) _⟩)
    (Cert.AdamSmallRefIdeal.Value.run m g)

end Cert.AdamSmallClaim

end
-- ==== Proof.SumPairClaim.lean ====
/- The first step of the sum over the chips, the buffers of a chip's two cores, gives the plain sum of the stacked pair. -/
module

public import proofs.«01_k».proof.Defs
public import proofs.«01_k».proof.Proof.Gen.SumPairIdeal
public import proofs.«01_k».proof.Proof.Gen.SumPairIdeal.Value
public import proofs.«01_k».proof.Proof.Gen.SumPairRefIdeal
public import proofs.«01_k».proof.Proof.Gen.SumPairRefIdeal.Read
public import Idealize.ShloMosaic.Lib.Pointwise

@[expose] public section

set_option maxRecDepth 16384

noncomputable section

namespace Cert.SumPairClaim

open Idealize.ShloMosaic Idealize.ShloMosaic.TcCoe Idealize.SL.Sem
open Cert.SumPairRefIdeal.Read

/-- The sum of the stacked pair at an entry is the sum of the two entries. -/
theorem sum_at (x y : FVec Ideal ⟨2, ![1280, 1024]⟩ .f32) (i : Fin 1280) (j : Fin 1024) :
    (val_main_v3 (F := Ideal) x y (ix2 i j) : EReal) = x (ix2 i j) + y (ix2 i j) := by
  pointwise [val_main_v3, val_main_v2, val_main_v1, val_main_v0, val_main_cst]
  simp [Fin.sum_univ_two]

theorem sum_eq (x y : FVec Ideal ⟨2, ![1280, 1024]⟩ .f32) :
    val_main_v3 (F := Ideal) x y = Cert.SumPairIdeal.Value.G2 (F := Ideal) x y := by
  funext i
  idx_vars i
  exact sum_at x y _ _

theorem algebraic : Cert.algebraic_SumPairIdeal_SumPairRefIdeal (hSumPairIdeal := Cert.SumPairIdeal.Gen.facts) (hSumPairRefIdeal := Cert.SumPairRefIdeal.Gen.facts) := by
  intro m g m' g' _ hag
  refine ⟨_, Cert.SumPairIdeal.Value.run m g,
    (θ_run _ _ _).mono (fun _ h c => ⟨(h c).1.trans ?_, (h c).2⟩)
      (Cert.SumPairRefIdeal.Value.run m' g')⟩
  rw [val_main_v3_eq, (hag c).1, (hag c).2]
  exact sum_eq _ _

theorem frameRef : Cert.quiescent_SumPairRefIdeal (hSumPairRefIdeal := Cert.SumPairRefIdeal.Gen.facts) := by
  intro m g _
  exact (θ_run _ _ _).mono (fun r h => ⟨fun c => (h c).2, sem_eq_zero_of_no_sems (by decide) _⟩)
    (Cert.SumPairRefIdeal.Value.run m g)

end Cert.SumPairClaim

end
-- ==== Proof.SumChipsValue.lean ====
/- The array the sum over the four chips leaves, as a function of the four buffers. -/
module

public import proofs.«01_k».proof.Proof.Gen.SumChipsIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SumChipsIdeal.Stage

open Cert.SumChipsIdeal Cert.SumChipsIdeal.Gen Idealize.ShloMosaic Idealize.ShloMosaic.TcCoe Idealize.SL.Sem
open Idealize.ShloMosaic.Pipeline (Dat)

/-- The sum of four numbers, from the first on. -/
def four (f : Fin 4 → EReal) : EReal := f 0 + f 1 + f 2 + f 3

/-- What the body stores, from the block of the four buffers. -/
theorem sum_out (x : FVec Ideal S4x256x1024 .f32) (i : Fin 256) (j : Fin 1024) :
    (out0_1 (F := Ideal) x (ix2 i j) : EReal) = four fun q => x (ix3 q i j) := by
  unfold four out0_1
  frame_out
  pointwise [k0_pay1]

variable (m : (ℓ : Loc nD τ sig) → Buf (Elt Ideal) ℓ)

/-- A buffer by chip, row and column. -/
def xAt (c : Dev nD) (i : Fin 1280) (j : Fin 1024) (q : Fin 4) : EReal := (m ((c : Thread nD τ).loc main_arg0) : FVec Ideal S4x1280x1024 .f32) (ix3 q i j)

/-- The windows' block indices. -/
theorem idx : ∀ t : Fin cfg0.N, win0_0.index t = ![0, t.val, 0] ∧ win0_1.index t = ![t.val, 0] ∧ t.val < 5 :=
  (by decide +kernel : ∀ t : Fin grid0.N, _)

/-- Row `r` of the block of point `t`. -/
def rowOf (t : Fin cfg0.N) (r : Fin 256) : Fin 1280 := ⟨t.val * 256 + r.val, by have := (idx t).2.2; omega⟩

theorem x_block (c : Dev nD) (t : Fin cfg0.N) (q : Fin 4) (r : Fin 256) (j : Fin 1024) :
    ((iblk m c 0 t : FVec Ideal S4x256x1024 .f32) (ix3 q r j) : EReal) = xAt m c (rowOf t r) j q := by
  unfold xAt
  blk_point [iblk, V, idx t, rowOf]

theorem stored_at (c : Dev nD) (t : Fin cfg0.N) (i : Fin 256) (j : Fin 1024) :
    ((dats m 0 c).after 1 t (ix2 i j) : EReal) = four (xAt m c (rowOf t i) j) := by
  rw [after0_1]
  exact (sum_out _ i j).trans (congrArg four (funext fun q => x_block m c t q i j))

/-- The sum over the chips. -/
theorem final (c : Dev nD) : (dats m 0 c).arrAt 1 cfg0.N = fun i => four (xAt m c (i 0) (i 1)) := by
  refine (dats m 0 c).arrAt_eq_of_covers 1 _ (by decide +kernel) fun t _ y => ?_
  idx_vars y
  blk_simp
  refine (stored_at m c t y0 y1).trans (congrArg₂ (fun s j => four (xAt m c s j)) (Fin.ext ?_) (Fin.ext ?_)) <;> blk_simp [idx t, rowOf]

end Cert.SumChipsIdeal.Stage

end
-- ==== Proof.SumChipsClaim.lean ====
/- The second step of the sum over the chips gives the plain sum over the four buffers. -/
module

public import proofs.«01_k».proof.Defs
public import proofs.«01_k».proof.Proof.Gen.SumChipsIdeal
public import proofs.«01_k».proof.Proof.Gen.SumChipsRefIdeal
public import proofs.«01_k».proof.Proof.Gen.SumChipsRefIdeal.Run
public import proofs.«01_k».proof.Proof.Gen.SumChipsRefIdeal.Read
public import proofs.«01_k».proof.Proof.SumChipsValue

@[expose] public section

set_option maxRecDepth 16384

noncomputable section

namespace Cert.SumChipsClaim

open Idealize.ShloMosaic Idealize.ShloMosaic.TcCoe Idealize.SL.Sem
open Cert.SumChipsRefIdeal.Read

/-- The reference's sum at an entry. -/
theorem sum_at (x : FVec Ideal ⟨3, ![4, 1280, 1024]⟩ .f32) (i : Fin 1280) (j : Fin 1024) :
    (val_main_v0 (F := Ideal) x (ix2 i j) : EReal) = Cert.SumChipsIdeal.Stage.four fun q => x (ix3 q i j) := by
  unfold Cert.SumChipsIdeal.Stage.four
  pointwise [val_main_v0, val_main_cst]
  simp [Fin.sum_univ_four]

theorem algebraic : Cert.algebraic_SumChipsIdeal_SumChipsRefIdeal (hSumChipsIdeal := Cert.SumChipsIdeal.Gen.facts)
    (hSumChipsRefIdeal := Cert.SumChipsRefIdeal.Gen.facts) := by
  intro m g m' g' _ hag
  refine ⟨_, Cert.SumChipsIdeal.Value.run_blocks m g,
    (θ_run _ _ _).mono (fun _ h c => ⟨(h c).1.trans ?_, (h c).2⟩)
      (Cert.SumChipsRefIdeal.Value.run m' g')⟩
  rw [Cert.SumChipsIdeal.Stage.final, val_main_v0_eq, hag c]
  funext i
  idx_vars i
  exact sum_at _ _ _

theorem frameRef : Cert.quiescent_SumChipsRefIdeal (hSumChipsRefIdeal := Cert.SumChipsRefIdeal.Gen.facts) := by
  intro m g _
  exact (θ_run _ _ _).mono (fun r h => ⟨fun c => (h c).2, sem_eq_zero_of_no_sems (by decide) _⟩)
    (Cert.SumChipsRefIdeal.Value.run m g)

end Cert.SumChipsClaim

end
-- ==== Proof.lean ====
/- The claims of the module of definitions, put together: the facts each program states of itself, then the frames, then
   for each kernel that no rewriting took place and that it computes what its reference computes. -/
module

public import proofs.«01_k».proof.Defs
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnRefIdeal
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeRefIdeal
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxRefIdeal
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwRefIdeal
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxRefIdeal
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwRefIdeal
public import proofs.«01_k».proof.Proof.Gen.GateDx0
public import proofs.«01_k».proof.Proof.Gen.GateDx0.Frame
public import proofs.«01_k».proof.Proof.Gen.GateDx0Ideal
public import proofs.«01_k».proof.Proof.Gen.GateDx0Ideal.Frame
public import proofs.«01_k».proof.Proof.Gen.GateDx0RefIdeal
public import proofs.«01_k».proof.Proof.Gen.GateDx1
public import proofs.«01_k».proof.Proof.Gen.GateDx1.Frame
public import proofs.«01_k».proof.Proof.Gen.GateDx1Ideal
public import proofs.«01_k».proof.Proof.Gen.GateDx1Ideal.Frame
public import proofs.«01_k».proof.Proof.Gen.GateDx1RefIdeal
public import proofs.«01_k».proof.Proof.Gen.GateDx2
public import proofs.«01_k».proof.Proof.Gen.GateDx2.Frame
public import proofs.«01_k».proof.Proof.Gen.GateDx2Ideal
public import proofs.«01_k».proof.Proof.Gen.GateDx2Ideal.Frame
public import proofs.«01_k».proof.Proof.Gen.GateDx2RefIdeal
public import proofs.«01_k».proof.Proof.Gen.GateDx3
public import proofs.«01_k».proof.Proof.Gen.GateDx3.Frame
public import proofs.«01_k».proof.Proof.Gen.GateDx3Ideal
public import proofs.«01_k».proof.Proof.Gen.GateDx3Ideal.Frame
public import proofs.«01_k».proof.Proof.Gen.GateDx3RefIdeal
public import proofs.«01_k».proof.Proof.Gen.GateDw0
public import proofs.«01_k».proof.Proof.Gen.GateDw0.Frame
public import proofs.«01_k».proof.Proof.Gen.GateDw0Ideal
public import proofs.«01_k».proof.Proof.Gen.GateDw0Ideal.Frame
public import proofs.«01_k».proof.Proof.Gen.GateDw0RefIdeal
public import proofs.«01_k».proof.Proof.Gen.GateDw1
public import proofs.«01_k».proof.Proof.Gen.GateDw1.Frame
public import proofs.«01_k».proof.Proof.Gen.GateDw1Ideal
public import proofs.«01_k».proof.Proof.Gen.GateDw1Ideal.Frame
public import proofs.«01_k».proof.Proof.Gen.GateDw1RefIdeal
public import proofs.«01_k».proof.Proof.Gen.GateDw2
public import proofs.«01_k».proof.Proof.Gen.GateDw2.Frame
public import proofs.«01_k».proof.Proof.Gen.GateDw2Ideal
public import proofs.«01_k».proof.Proof.Gen.GateDw2Ideal.Frame
public import proofs.«01_k».proof.Proof.Gen.GateDw2RefIdeal
public import proofs.«01_k».proof.Proof.Gen.GateDw3
public import proofs.«01_k».proof.Proof.Gen.GateDw3.Frame
public import proofs.«01_k».proof.Proof.Gen.GateDw3Ideal
public import proofs.«01_k».proof.Proof.Gen.GateDw3Ideal.Frame
public import proofs.«01_k».proof.Proof.Gen.GateDw3RefIdeal
public import proofs.«01_k».proof.Proof.Gen.BranchDx0
public import proofs.«01_k».proof.Proof.Gen.BranchDx0.Frame
public import proofs.«01_k».proof.Proof.Gen.BranchDx0Ideal
public import proofs.«01_k».proof.Proof.Gen.BranchDx0Ideal.Frame
public import proofs.«01_k».proof.Proof.Gen.BranchDx0RefIdeal
public import proofs.«01_k».proof.Proof.Gen.BranchDx1
public import proofs.«01_k».proof.Proof.Gen.BranchDx1.Frame
public import proofs.«01_k».proof.Proof.Gen.BranchDx1Ideal
public import proofs.«01_k».proof.Proof.Gen.BranchDx1Ideal.Frame
public import proofs.«01_k».proof.Proof.Gen.BranchDx1RefIdeal
public import proofs.«01_k».proof.Proof.Gen.BranchDx2
public import proofs.«01_k».proof.Proof.Gen.BranchDx2.Frame
public import proofs.«01_k».proof.Proof.Gen.BranchDx2Ideal
public import proofs.«01_k».proof.Proof.Gen.BranchDx2Ideal.Frame
public import proofs.«01_k».proof.Proof.Gen.BranchDx2RefIdeal
public import proofs.«01_k».proof.Proof.Gen.BranchDx3
public import proofs.«01_k».proof.Proof.Gen.BranchDx3.Frame
public import proofs.«01_k».proof.Proof.Gen.BranchDx3Ideal
public import proofs.«01_k».proof.Proof.Gen.BranchDx3Ideal.Frame
public import proofs.«01_k».proof.Proof.Gen.BranchDx3RefIdeal
public import proofs.«01_k».proof.Proof.Gen.BranchDw0
public import proofs.«01_k».proof.Proof.Gen.BranchDw0.Frame
public import proofs.«01_k».proof.Proof.Gen.BranchDw0Ideal
public import proofs.«01_k».proof.Proof.Gen.BranchDw0Ideal.Frame
public import proofs.«01_k».proof.Proof.Gen.BranchDw0RefIdeal
public import proofs.«01_k».proof.Proof.Gen.BranchDw1
public import proofs.«01_k».proof.Proof.Gen.BranchDw1.Frame
public import proofs.«01_k».proof.Proof.Gen.BranchDw1Ideal
public import proofs.«01_k».proof.Proof.Gen.BranchDw1Ideal.Frame
public import proofs.«01_k».proof.Proof.Gen.BranchDw1RefIdeal
public import proofs.«01_k».proof.Proof.Gen.BranchDw2
public import proofs.«01_k».proof.Proof.Gen.BranchDw2.Frame
public import proofs.«01_k».proof.Proof.Gen.BranchDw2Ideal
public import proofs.«01_k».proof.Proof.Gen.BranchDw2Ideal.Frame
public import proofs.«01_k».proof.Proof.Gen.BranchDw2RefIdeal
public import proofs.«01_k».proof.Proof.Gen.BranchDw3
public import proofs.«01_k».proof.Proof.Gen.BranchDw3.Frame
public import proofs.«01_k».proof.Proof.Gen.BranchDw3Ideal
public import proofs.«01_k».proof.Proof.Gen.BranchDw3Ideal.Frame
public import proofs.«01_k».proof.Proof.Gen.BranchDw3RefIdeal
public import proofs.«01_k».proof.Proof.Gen.GluDx
public import proofs.«01_k».proof.Proof.Gen.GluDx.Frame
public import proofs.«01_k».proof.Proof.Gen.GluDxIdeal
public import proofs.«01_k».proof.Proof.Gen.GluDxIdeal.Frame
public import proofs.«01_k».proof.Proof.Gen.GluDxRefIdeal
public import proofs.«01_k».proof.Proof.Gen.GluDw
public import proofs.«01_k».proof.Proof.Gen.GluDw.Frame
public import proofs.«01_k».proof.Proof.Gen.GluDwIdeal
public import proofs.«01_k».proof.Proof.Gen.GluDwIdeal.Frame
public import proofs.«01_k».proof.Proof.Gen.GluDwRefIdeal
public import proofs.«01_k».proof.Proof.Gen.KvDx
public import proofs.«01_k».proof.Proof.Gen.KvDx.Frame
public import proofs.«01_k».proof.Proof.Gen.KvDxIdeal
public import proofs.«01_k».proof.Proof.Gen.KvDxIdeal.Frame
public import proofs.«01_k».proof.Proof.Gen.KvDxRefIdeal
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwRefIdeal
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.GluProj
public import proofs.«01_k».proof.Proof.Gen.GluProj.Frame
public import proofs.«01_k».proof.Proof.Gen.GluProjIdeal
public import proofs.«01_k».proof.Proof.Gen.GluProjIdeal.Frame
public import proofs.«01_k».proof.Proof.Gen.GluProjRefIdeal
public import proofs.«01_k».proof.Proof.Gen.KvProj
public import proofs.«01_k».proof.Proof.Gen.KvProj.Frame
public import proofs.«01_k».proof.Proof.Gen.KvProjIdeal
public import proofs.«01_k».proof.Proof.Gen.KvProjIdeal.Frame
public import proofs.«01_k».proof.Proof.Gen.KvProjRefIdeal
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdRefIdeal
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdRefIdeal
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdRefIdeal
public import proofs.«01_k».proof.Proof.Gen.MemNormBwd
public import proofs.«01_k».proof.Proof.Gen.MemNormBwd.Frame
public import proofs.«01_k».proof.Proof.Gen.MemNormBwdIdeal
public import proofs.«01_k».proof.Proof.Gen.MemNormBwdIdeal.Frame
public import proofs.«01_k».proof.Proof.Gen.MemNormBwdRefIdeal
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.DnConvBwd
public import proofs.«01_k».proof.Proof.Gen.DnConvBwd.Frame
public import proofs.«01_k».proof.Proof.Gen.DnConvBwdIdeal
public import proofs.«01_k».proof.Proof.Gen.DnConvBwdIdeal.Frame
public import proofs.«01_k».proof.Proof.Gen.DnConvBwdRefIdeal
public import proofs.«01_k».proof.Proof.Gen.LruConvBwd
public import proofs.«01_k».proof.Proof.Gen.LruConvBwd.Frame
public import proofs.«01_k».proof.Proof.Gen.LruConvBwdIdeal
public import proofs.«01_k».proof.Proof.Gen.LruConvBwdIdeal.Frame
public import proofs.«01_k».proof.Proof.Gen.LruConvBwdRefIdeal
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdRefIdeal
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdRefIdeal
public import proofs.«01_k».proof.Proof.Gen.MemNormFwd
public import proofs.«01_k».proof.Proof.Gen.MemNormFwd.Frame
public import proofs.«01_k».proof.Proof.Gen.MemNormFwdIdeal
public import proofs.«01_k».proof.Proof.Gen.MemNormFwdIdeal.Frame
public import proofs.«01_k».proof.Proof.Gen.MemNormFwdRefIdeal
public import proofs.«01_k».proof.Proof.Gen.DnConvFwd
public import proofs.«01_k».proof.Proof.Gen.DnConvFwd.Frame
public import proofs.«01_k».proof.Proof.Gen.DnConvFwdIdeal
public import proofs.«01_k».proof.Proof.Gen.DnConvFwdIdeal.Frame
public import proofs.«01_k».proof.Proof.Gen.DnConvFwdRefIdeal
public import proofs.«01_k».proof.Proof.Gen.LruConvFwd
public import proofs.«01_k».proof.Proof.Gen.LruConvFwd.Frame
public import proofs.«01_k».proof.Proof.Gen.LruConvFwdIdeal
public import proofs.«01_k».proof.Proof.Gen.LruConvFwdIdeal.Frame
public import proofs.«01_k».proof.Proof.Gen.LruConvFwdRefIdeal
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInRefIdeal
public import proofs.«01_k».proof.Proof.Gen.AdamWGlu
public import proofs.«01_k».proof.Proof.Gen.AdamWGlu.Frame
public import proofs.«01_k».proof.Proof.Gen.AdamWGluIdeal
public import proofs.«01_k».proof.Proof.Gen.AdamWGluIdeal.Frame
public import proofs.«01_k».proof.Proof.Gen.AdamWGluRefIdeal
public import proofs.«01_k».proof.Proof.Gen.AdamWKv
public import proofs.«01_k».proof.Proof.Gen.AdamWKv.Frame
public import proofs.«01_k».proof.Proof.Gen.AdamWKvIdeal
public import proofs.«01_k».proof.Proof.Gen.AdamWKvIdeal.Frame
public import proofs.«01_k».proof.Proof.Gen.AdamWKvRefIdeal
public import proofs.«01_k».proof.Proof.Gen.AdamWGate
public import proofs.«01_k».proof.Proof.Gen.AdamWGate.Frame
public import proofs.«01_k».proof.Proof.Gen.AdamWGateIdeal
public import proofs.«01_k».proof.Proof.Gen.AdamWGateIdeal.Frame
public import proofs.«01_k».proof.Proof.Gen.AdamWGateRefIdeal
public import proofs.«01_k».proof.Proof.Gen.AdamWBranch
public import proofs.«01_k».proof.Proof.Gen.AdamWBranch.Frame
public import proofs.«01_k».proof.Proof.Gen.AdamWBranchIdeal
public import proofs.«01_k».proof.Proof.Gen.AdamWBranchIdeal.Frame
public import proofs.«01_k».proof.Proof.Gen.AdamWBranchRefIdeal
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Frame
public import proofs.«01_k».proof.Proof.Gen.AdamWOutRefIdeal
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.SumPair
public import proofs.«01_k».proof.Proof.Gen.SumPair.Frame
public import proofs.«01_k».proof.Proof.Gen.SumPairIdeal
public import proofs.«01_k».proof.Proof.Gen.SumPairIdeal.Frame
public import proofs.«01_k».proof.Proof.Gen.SumPairRefIdeal
public import proofs.«01_k».proof.Proof.Gen.SumChips
public import proofs.«01_k».proof.Proof.Gen.SumChips.Frame
public import proofs.«01_k».proof.Proof.Gen.SumChipsIdeal
public import proofs.«01_k».proof.Proof.Gen.SumChipsIdeal.Frame
public import proofs.«01_k».proof.Proof.Gen.SumChipsRefIdeal
public import proofs.«01_k».proof.Proof.AttnClaim
public import proofs.«01_k».proof.Proof.MergeClaim
public import proofs.«01_k».proof.Proof.LayerProducts
public import proofs.«01_k».proof.Proof.GateProducts
public import proofs.«01_k».proof.Proof.BranchProducts
public import proofs.«01_k».proof.Proof.ForwardProducts
public import proofs.«01_k».proof.Proof.MergeFwdClaim
public import proofs.«01_k».proof.Proof.AttnFwdClaim
public import proofs.«01_k».proof.Proof.GluBwdClaim
public import proofs.«01_k».proof.Proof.NormBwdClaim
public import proofs.«01_k».proof.Proof.MemNormBwdClaim
public import proofs.«01_k».proof.Proof.GluFwdClaim
public import proofs.«01_k».proof.Proof.NormFwdClaim
public import proofs.«01_k».proof.Proof.MemNormFwdClaim
public import proofs.«01_k».proof.Proof.LossHeadClaim
public import proofs.«01_k».proof.Proof.DnConvBwdClaim
public import proofs.«01_k».proof.Proof.LruConvBwdClaim
public import proofs.«01_k».proof.Proof.DnConvFwdClaim
public import proofs.«01_k».proof.Proof.LruConvFwdClaim
public import proofs.«01_k».proof.Proof.AdamWInClaim
public import proofs.«01_k».proof.Proof.AdamWGluClaim
public import proofs.«01_k».proof.Proof.AdamWKvClaim
public import proofs.«01_k».proof.Proof.AdamWGateClaim
public import proofs.«01_k».proof.Proof.AdamWBranchClaim
public import proofs.«01_k».proof.Proof.AdamWOutClaim
public import proofs.«01_k».proof.Proof.AdamSmallClaim
public import proofs.«01_k».proof.Proof.SumPairClaim
public import proofs.«01_k».proof.Proof.SumChipsClaim
public import Idealize.ShloMosaic.Adequacy
public import Idealize.ShloMosaic.Init

@[expose] public section

noncomputable section

namespace Cert.Proof

open Idealize.ShloMosaic Idealize.SL.Sem Cert.AttnBwd

theorem frameAttnRef : Cert.quiescent_AttnRefIdeal (hAttnRefIdeal := Cert.AttnRefIdeal.Gen.facts) := by
  intro m g _
  exact (θ_run _ _ _).mono (fun r h => ⟨fun c => (h c).2.2.2, sem_eq_zero_of_no_sems (by decide) _⟩)
    (Cert.AttnRefIdeal.Value.run m g)

theorem claim : Cert.Claim := ⟨
  Cert.AttnBwd.Gen.facts, Cert.AttnBwdIdeal.Gen.facts, Cert.AttnRefIdeal.Gen.facts, Cert.MergeBwd.Gen.facts,
  Cert.MergeBwdIdeal.Gen.facts, Cert.MergeRefIdeal.Gen.facts, Cert.InDx.Gen.facts, Cert.InDxIdeal.Gen.facts,
  Cert.InDxRefIdeal.Gen.facts, Cert.InDw.Gen.facts, Cert.InDwIdeal.Gen.facts, Cert.InDwRefIdeal.Gen.facts,
  Cert.OutDx.Gen.facts, Cert.OutDxIdeal.Gen.facts, Cert.OutDxRefIdeal.Gen.facts, Cert.OutDw.Gen.facts,
  Cert.OutDwIdeal.Gen.facts, Cert.OutDwRefIdeal.Gen.facts, Cert.GateDx0.Gen.facts, Cert.GateDx0Ideal.Gen.facts,
  Cert.GateDx0RefIdeal.Gen.facts, Cert.GateDx1.Gen.facts, Cert.GateDx1Ideal.Gen.facts, Cert.GateDx1RefIdeal.Gen.facts,
  Cert.GateDx2.Gen.facts, Cert.GateDx2Ideal.Gen.facts, Cert.GateDx2RefIdeal.Gen.facts, Cert.GateDx3.Gen.facts,
  Cert.GateDx3Ideal.Gen.facts, Cert.GateDx3RefIdeal.Gen.facts, Cert.GateDw0.Gen.facts, Cert.GateDw0Ideal.Gen.facts,
  Cert.GateDw0RefIdeal.Gen.facts, Cert.GateDw1.Gen.facts, Cert.GateDw1Ideal.Gen.facts, Cert.GateDw1RefIdeal.Gen.facts,
  Cert.GateDw2.Gen.facts, Cert.GateDw2Ideal.Gen.facts, Cert.GateDw2RefIdeal.Gen.facts, Cert.GateDw3.Gen.facts,
  Cert.GateDw3Ideal.Gen.facts, Cert.GateDw3RefIdeal.Gen.facts, Cert.BranchDx0.Gen.facts,
  Cert.BranchDx0Ideal.Gen.facts, Cert.BranchDx0RefIdeal.Gen.facts, Cert.BranchDx1.Gen.facts,
  Cert.BranchDx1Ideal.Gen.facts, Cert.BranchDx1RefIdeal.Gen.facts, Cert.BranchDx2.Gen.facts,
  Cert.BranchDx2Ideal.Gen.facts, Cert.BranchDx2RefIdeal.Gen.facts, Cert.BranchDx3.Gen.facts,
  Cert.BranchDx3Ideal.Gen.facts, Cert.BranchDx3RefIdeal.Gen.facts, Cert.BranchDw0.Gen.facts,
  Cert.BranchDw0Ideal.Gen.facts, Cert.BranchDw0RefIdeal.Gen.facts, Cert.BranchDw1.Gen.facts,
  Cert.BranchDw1Ideal.Gen.facts, Cert.BranchDw1RefIdeal.Gen.facts, Cert.BranchDw2.Gen.facts,
  Cert.BranchDw2Ideal.Gen.facts, Cert.BranchDw2RefIdeal.Gen.facts, Cert.BranchDw3.Gen.facts,
  Cert.BranchDw3Ideal.Gen.facts, Cert.BranchDw3RefIdeal.Gen.facts, Cert.GluDx.Gen.facts, Cert.GluDxIdeal.Gen.facts,
  Cert.GluDxRefIdeal.Gen.facts, Cert.GluDw.Gen.facts, Cert.GluDwIdeal.Gen.facts, Cert.GluDwRefIdeal.Gen.facts,
  Cert.KvDx.Gen.facts, Cert.KvDxIdeal.Gen.facts, Cert.KvDxRefIdeal.Gen.facts, Cert.KvDw.Gen.facts,
  Cert.KvDwIdeal.Gen.facts, Cert.KvDwRefIdeal.Gen.facts, Cert.InProj.Gen.facts, Cert.InProjIdeal.Gen.facts,
  Cert.InProjRefIdeal.Gen.facts, Cert.OutProj.Gen.facts, Cert.OutProjIdeal.Gen.facts, Cert.OutProjRefIdeal.Gen.facts,
  Cert.GluProj.Gen.facts, Cert.GluProjIdeal.Gen.facts, Cert.GluProjRefIdeal.Gen.facts, Cert.KvProj.Gen.facts,
  Cert.KvProjIdeal.Gen.facts, Cert.KvProjRefIdeal.Gen.facts, Cert.MergeFwd.Gen.facts, Cert.MergeFwdIdeal.Gen.facts,
  Cert.MergeFwdRefIdeal.Gen.facts, Cert.AttnFwd.Gen.facts, Cert.AttnFwdIdeal.Gen.facts,
  Cert.AttnFwdRefIdeal.Gen.facts, Cert.GluBwd.Gen.facts, Cert.GluBwdIdeal.Gen.facts, Cert.GluBwdRefIdeal.Gen.facts,
  Cert.NormBwd.Gen.facts, Cert.NormBwdIdeal.Gen.facts, Cert.NormBwdRefIdeal.Gen.facts, Cert.MemNormBwd.Gen.facts,
  Cert.MemNormBwdIdeal.Gen.facts, Cert.MemNormBwdRefIdeal.Gen.facts, Cert.LossHead.Gen.facts,
  Cert.LossHeadIdeal.Gen.facts, Cert.LossHeadRefIdeal.Gen.facts, Cert.DnConvBwd.Gen.facts,
  Cert.DnConvBwdIdeal.Gen.facts, Cert.DnConvBwdRefIdeal.Gen.facts, Cert.LruConvBwd.Gen.facts,
  Cert.LruConvBwdIdeal.Gen.facts, Cert.LruConvBwdRefIdeal.Gen.facts, Cert.GluFwd.Gen.facts,
  Cert.GluFwdIdeal.Gen.facts, Cert.GluFwdRefIdeal.Gen.facts, Cert.NormFwd.Gen.facts, Cert.NormFwdIdeal.Gen.facts,
  Cert.NormFwdRefIdeal.Gen.facts, Cert.MemNormFwd.Gen.facts, Cert.MemNormFwdIdeal.Gen.facts,
  Cert.MemNormFwdRefIdeal.Gen.facts, Cert.DnConvFwd.Gen.facts, Cert.DnConvFwdIdeal.Gen.facts,
  Cert.DnConvFwdRefIdeal.Gen.facts, Cert.LruConvFwd.Gen.facts, Cert.LruConvFwdIdeal.Gen.facts,
  Cert.LruConvFwdRefIdeal.Gen.facts, Cert.AdamWIn.Gen.facts, Cert.AdamWInIdeal.Gen.facts,
  Cert.AdamWInRefIdeal.Gen.facts, Cert.AdamWGlu.Gen.facts, Cert.AdamWGluIdeal.Gen.facts,
  Cert.AdamWGluRefIdeal.Gen.facts, Cert.AdamWKv.Gen.facts, Cert.AdamWKvIdeal.Gen.facts,
  Cert.AdamWKvRefIdeal.Gen.facts, Cert.AdamWGate.Gen.facts, Cert.AdamWGateIdeal.Gen.facts,
  Cert.AdamWGateRefIdeal.Gen.facts, Cert.AdamWBranch.Gen.facts, Cert.AdamWBranchIdeal.Gen.facts,
  Cert.AdamWBranchRefIdeal.Gen.facts, Cert.AdamWOut.Gen.facts, Cert.AdamWOutIdeal.Gen.facts,
  Cert.AdamWOutRefIdeal.Gen.facts, Cert.AdamSmall.Gen.facts, Cert.AdamSmallIdeal.Gen.facts,
  Cert.AdamSmallRefIdeal.Gen.facts, Cert.SumPair.Gen.facts, Cert.SumPairIdeal.Gen.facts,
  Cert.SumPairRefIdeal.Gen.facts, Cert.SumChips.Gen.facts, Cert.SumChipsIdeal.Gen.facts,
  Cert.SumChipsRefIdeal.Gen.facts, fun m ρ _ => Cert.AttnBwd.Gen.frame m ρ,
  fun m ρ _ => Cert.AttnBwdIdeal.Gen.frame m ρ, frameAttnRef, fun m ρ _ => Cert.MergeBwd.Gen.frame m ρ,
  fun m ρ _ => Cert.MergeBwdIdeal.Gen.frame m ρ, Cert.MergeClaim.frameRef, fun m ρ _ => Cert.InDx.Gen.frame m ρ,
  fun m ρ _ => Cert.InDxIdeal.Gen.frame m ρ, Cert.LayerProducts.frameInDxRef, fun m ρ _ => Cert.InDw.Gen.frame m ρ,
  fun m ρ _ => Cert.InDwIdeal.Gen.frame m ρ, Cert.LayerProducts.frameInDwRef, fun m ρ _ => Cert.OutDx.Gen.frame m ρ,
  fun m ρ _ => Cert.OutDxIdeal.Gen.frame m ρ, Cert.LayerProducts.frameOutDxRef, fun m ρ _ => Cert.OutDw.Gen.frame m ρ,
  fun m ρ _ => Cert.OutDwIdeal.Gen.frame m ρ, Cert.LayerProducts.frameOutDwRef,
  fun m ρ _ => Cert.GateDx0.Gen.frame m ρ, fun m ρ _ => Cert.GateDx0Ideal.Gen.frame m ρ,
  Cert.GateProducts.frameGateDx0Ref, fun m ρ _ => Cert.GateDx1.Gen.frame m ρ,
  fun m ρ _ => Cert.GateDx1Ideal.Gen.frame m ρ, Cert.GateProducts.frameGateDx1Ref,
  fun m ρ _ => Cert.GateDx2.Gen.frame m ρ, fun m ρ _ => Cert.GateDx2Ideal.Gen.frame m ρ,
  Cert.GateProducts.frameGateDx2Ref, fun m ρ _ => Cert.GateDx3.Gen.frame m ρ,
  fun m ρ _ => Cert.GateDx3Ideal.Gen.frame m ρ, Cert.GateProducts.frameGateDx3Ref,
  fun m ρ _ => Cert.GateDw0.Gen.frame m ρ, fun m ρ _ => Cert.GateDw0Ideal.Gen.frame m ρ,
  Cert.GateProducts.frameGateDw0Ref, fun m ρ _ => Cert.GateDw1.Gen.frame m ρ,
  fun m ρ _ => Cert.GateDw1Ideal.Gen.frame m ρ, Cert.GateProducts.frameGateDw1Ref,
  fun m ρ _ => Cert.GateDw2.Gen.frame m ρ, fun m ρ _ => Cert.GateDw2Ideal.Gen.frame m ρ,
  Cert.GateProducts.frameGateDw2Ref, fun m ρ _ => Cert.GateDw3.Gen.frame m ρ,
  fun m ρ _ => Cert.GateDw3Ideal.Gen.frame m ρ, Cert.GateProducts.frameGateDw3Ref,
  fun m ρ _ => Cert.BranchDx0.Gen.frame m ρ, fun m ρ _ => Cert.BranchDx0Ideal.Gen.frame m ρ,
  Cert.BranchProducts.frameBranchDx0Ref, fun m ρ _ => Cert.BranchDx1.Gen.frame m ρ,
  fun m ρ _ => Cert.BranchDx1Ideal.Gen.frame m ρ, Cert.BranchProducts.frameBranchDx1Ref,
  fun m ρ _ => Cert.BranchDx2.Gen.frame m ρ, fun m ρ _ => Cert.BranchDx2Ideal.Gen.frame m ρ,
  Cert.BranchProducts.frameBranchDx2Ref, fun m ρ _ => Cert.BranchDx3.Gen.frame m ρ,
  fun m ρ _ => Cert.BranchDx3Ideal.Gen.frame m ρ, Cert.BranchProducts.frameBranchDx3Ref,
  fun m ρ _ => Cert.BranchDw0.Gen.frame m ρ, fun m ρ _ => Cert.BranchDw0Ideal.Gen.frame m ρ,
  Cert.BranchProducts.frameBranchDw0Ref, fun m ρ _ => Cert.BranchDw1.Gen.frame m ρ,
  fun m ρ _ => Cert.BranchDw1Ideal.Gen.frame m ρ, Cert.BranchProducts.frameBranchDw1Ref,
  fun m ρ _ => Cert.BranchDw2.Gen.frame m ρ, fun m ρ _ => Cert.BranchDw2Ideal.Gen.frame m ρ,
  Cert.BranchProducts.frameBranchDw2Ref, fun m ρ _ => Cert.BranchDw3.Gen.frame m ρ,
  fun m ρ _ => Cert.BranchDw3Ideal.Gen.frame m ρ, Cert.BranchProducts.frameBranchDw3Ref,
  fun m ρ _ => Cert.GluDx.Gen.frame m ρ, fun m ρ _ => Cert.GluDxIdeal.Gen.frame m ρ, Cert.LayerProducts.frameGluDxRef,
  fun m ρ _ => Cert.GluDw.Gen.frame m ρ, fun m ρ _ => Cert.GluDwIdeal.Gen.frame m ρ, Cert.LayerProducts.frameGluDwRef,
  fun m ρ _ => Cert.KvDx.Gen.frame m ρ, fun m ρ _ => Cert.KvDxIdeal.Gen.frame m ρ, Cert.LayerProducts.frameKvDxRef,
  fun m ρ _ => Cert.KvDw.Gen.frame m ρ, fun m ρ _ => Cert.KvDwIdeal.Gen.frame m ρ, Cert.LayerProducts.frameKvDwRef,
  fun m ρ _ => Cert.InProj.Gen.frame m ρ, fun m ρ _ => Cert.InProjIdeal.Gen.frame m ρ,
  Cert.ForwardProducts.frameInProjRef, fun m ρ _ => Cert.OutProj.Gen.frame m ρ,
  fun m ρ _ => Cert.OutProjIdeal.Gen.frame m ρ, Cert.ForwardProducts.frameOutProjRef,
  fun m ρ _ => Cert.GluProj.Gen.frame m ρ, fun m ρ _ => Cert.GluProjIdeal.Gen.frame m ρ,
  Cert.ForwardProducts.frameGluProjRef, fun m ρ _ => Cert.KvProj.Gen.frame m ρ,
  fun m ρ _ => Cert.KvProjIdeal.Gen.frame m ρ, Cert.ForwardProducts.frameKvProjRef,
  fun m ρ _ => Cert.MergeFwd.Gen.frame m ρ, fun m ρ _ => Cert.MergeFwdIdeal.Gen.frame m ρ,
  Cert.MergeFwdClaim.frameRef, fun m ρ _ => Cert.AttnFwd.Gen.frame m ρ, fun m ρ _ => Cert.AttnFwdIdeal.Gen.frame m ρ,
  Cert.AttnFwdClaim.frameRef, fun m ρ _ => Cert.GluBwd.Gen.frame m ρ, fun m ρ _ => Cert.GluBwdIdeal.Gen.frame m ρ,
  Cert.GluBwdClaim.frameRef, fun m ρ _ => Cert.NormBwd.Gen.frame m ρ, fun m ρ _ => Cert.NormBwdIdeal.Gen.frame m ρ,
  Cert.NormBwdClaim.frameRef, fun m ρ _ => Cert.MemNormBwd.Gen.frame m ρ,
  fun m ρ _ => Cert.MemNormBwdIdeal.Gen.frame m ρ, Cert.MemNormBwdClaim.frameRef,
  fun m ρ _ => Cert.LossHead.Gen.frame m ρ, fun m ρ _ => Cert.LossHeadIdeal.Gen.frame m ρ,
  Cert.LossHeadClaim.frameRef, fun m ρ _ => Cert.DnConvBwd.Gen.frame m ρ,
  fun m ρ _ => Cert.DnConvBwdIdeal.Gen.frame m ρ, Cert.DnConvBwdClaim.frameRef,
  fun m ρ _ => Cert.LruConvBwd.Gen.frame m ρ, fun m ρ _ => Cert.LruConvBwdIdeal.Gen.frame m ρ,
  Cert.LruConvBwdClaim.frameRef, fun m ρ _ => Cert.GluFwd.Gen.frame m ρ, fun m ρ _ => Cert.GluFwdIdeal.Gen.frame m ρ,
  Cert.GluFwdClaim.frameRef, fun m ρ _ => Cert.NormFwd.Gen.frame m ρ, fun m ρ _ => Cert.NormFwdIdeal.Gen.frame m ρ,
  Cert.NormFwdClaim.frameRef, fun m ρ _ => Cert.MemNormFwd.Gen.frame m ρ,
  fun m ρ _ => Cert.MemNormFwdIdeal.Gen.frame m ρ, Cert.MemNormFwdClaim.frameRef,
  fun m ρ _ => Cert.DnConvFwd.Gen.frame m ρ, fun m ρ _ => Cert.DnConvFwdIdeal.Gen.frame m ρ,
  Cert.DnConvFwdClaim.frameRef, fun m ρ _ => Cert.LruConvFwd.Gen.frame m ρ,
  fun m ρ _ => Cert.LruConvFwdIdeal.Gen.frame m ρ, Cert.LruConvFwdClaim.frameRef,
  fun m ρ _ => Cert.AdamWIn.Gen.frame m ρ, fun m ρ _ => Cert.AdamWInIdeal.Gen.frame m ρ, Cert.AdamWInClaim.frameRef,
  fun m ρ _ => Cert.AdamWGlu.Gen.frame m ρ, fun m ρ _ => Cert.AdamWGluIdeal.Gen.frame m ρ,
  Cert.AdamWGluClaim.frameRef, fun m ρ _ => Cert.AdamWKv.Gen.frame m ρ, fun m ρ _ => Cert.AdamWKvIdeal.Gen.frame m ρ,
  Cert.AdamWKvClaim.frameRef, fun m ρ _ => Cert.AdamWGate.Gen.frame m ρ,
  fun m ρ _ => Cert.AdamWGateIdeal.Gen.frame m ρ, Cert.AdamWGateClaim.frameRef,
  fun m ρ _ => Cert.AdamWBranch.Gen.frame m ρ, fun m ρ _ => Cert.AdamWBranchIdeal.Gen.frame m ρ,
  Cert.AdamWBranchClaim.frameRef, fun m ρ _ => Cert.AdamWOut.Gen.frame m ρ,
  fun m ρ _ => Cert.AdamWOutIdeal.Gen.frame m ρ, Cert.AdamWOutClaim.frameRef,
  fun m ρ _ => Cert.AdamSmall.Gen.frame m ρ, fun m ρ _ => Cert.AdamSmallIdeal.Gen.frame m ρ,
  Cert.AdamSmallClaim.frameRef, fun m ρ _ => Cert.SumPair.Gen.frame m ρ, fun m ρ _ => Cert.SumPairIdeal.Gen.frame m ρ,
  Cert.SumPairClaim.frameRef, fun m ρ _ => Cert.SumChips.Gen.frame m ρ, fun m ρ _ => Cert.SumChipsIdeal.Gen.frame m ρ,
  Cert.SumChipsClaim.frameRef, trivial, Cert.AttnClaim.algebraic, trivial, Cert.MergeClaim.algebraic, trivial,
  Cert.LayerProducts.inDx, trivial, Cert.LayerProducts.inDw, trivial, Cert.LayerProducts.outDx, trivial,
  Cert.LayerProducts.outDw, trivial, Cert.GateProducts.gateDx0, trivial, Cert.GateProducts.gateDx1, trivial,
  Cert.GateProducts.gateDx2, trivial, Cert.GateProducts.gateDx3, trivial, Cert.GateProducts.gateDw0, trivial,
  Cert.GateProducts.gateDw1, trivial, Cert.GateProducts.gateDw2, trivial, Cert.GateProducts.gateDw3, trivial,
  Cert.BranchProducts.branchDx0, trivial, Cert.BranchProducts.branchDx1, trivial, Cert.BranchProducts.branchDx2,
  trivial, Cert.BranchProducts.branchDx3, trivial, Cert.BranchProducts.branchDw0, trivial,
  Cert.BranchProducts.branchDw1, trivial, Cert.BranchProducts.branchDw2, trivial, Cert.BranchProducts.branchDw3,
  trivial, Cert.LayerProducts.gluDx, trivial, Cert.LayerProducts.gluDw, trivial, Cert.LayerProducts.kvDx, trivial,
  Cert.LayerProducts.kvDw, trivial, Cert.ForwardProducts.inProj, trivial, Cert.ForwardProducts.outProj, trivial,
  Cert.ForwardProducts.gluProj, trivial, Cert.ForwardProducts.kvProj, trivial, Cert.MergeFwdClaim.algebraic, trivial,
  Cert.AttnFwdClaim.algebraic, trivial, Cert.GluBwdClaim.algebraic, trivial, Cert.NormBwdClaim.algebraic, trivial,
  Cert.MemNormBwdClaim.algebraic, trivial, Cert.LossHeadClaim.algebraic, trivial, Cert.DnConvBwdClaim.algebraic,
  trivial, Cert.LruConvBwdClaim.algebraic, trivial, Cert.GluFwdClaim.algebraic, trivial, Cert.NormFwdClaim.algebraic,
  trivial, Cert.MemNormFwdClaim.algebraic, trivial, Cert.DnConvFwdClaim.algebraic, trivial,
  Cert.LruConvFwdClaim.algebraic, trivial, Cert.AdamWInClaim.algebraic, trivial, Cert.AdamWGluClaim.algebraic,
  trivial, Cert.AdamWKvClaim.algebraic, trivial, Cert.AdamWGateClaim.algebraic, trivial,
  Cert.AdamWBranchClaim.algebraic, trivial, Cert.AdamWOutClaim.algebraic, trivial, Cert.AdamSmallClaim.algebraic,
  trivial, Cert.SumPairClaim.algebraic, trivial, Cert.SumChipsClaim.algebraic⟩

end Cert.Proof

end
